-- ==== Defs.lean ====
def Pre_Kernel [hPre_splits : Cert.Pre_splits.Facts] (m : (ℓ : Loc Cert.Kernel.nD Cert.Kernel.τ Cert.Kernel.sig) → Buf (Elt Bits) ℓ) : Prop :=
  ∀ c : Dev Cert.Kernel.nD,
    (Cert.Pre_splits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_splits : Cert.Pre_splits.Facts] (m : (ℓ : Loc Cert.KernelIdeal.nD Cert.KernelIdeal.τ Cert.KernelIdeal.sig) → Buf (Elt Ideal) ℓ) : Prop :=
  ∀ c : Dev Cert.KernelIdeal.nD,
    (Cert.Pre_splits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_splits : Cert.Pre_splits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_splits : Cert.Pre_splits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_splits : Cert.Pre_splits.Facts) (hPre_inputs : Cert.Pre_inputs.Facts),
    quiescent_Kernel (hKernel := hKernel) (hPre_splits := hPre_splits)
    ∧ quiescent_KernelIdeal (hKernelIdeal := hKernelIdeal) (hPre_splits := hPre_splits)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S320000x128 : Shape := ⟨2, ![320000, 128]⟩
abbrev S1025 : Shape := ⟨1, ![1025]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x8 : Shape := ⟨2, ![128, 8]⟩
abbrev S8 : Shape := ⟨1, ![8]⟩
abbrev S_ : Shape := ⟨0, ![]⟩
abbrev S1024 : Shape := ⟨1, ![1024]⟩

class Facts : Prop where
  bcast_S_S1025 : S_.BroadcastsInDim S1025 (![] : Fin 0 → Fin S1025.rank)
  reducesTo_S1025_S_d0 : S1025.ReducesTo [0] S_
  h_S_ : 0 < S_.numel
  slices_S1025_S1024_0 : S1025.Slices ![0] S1024
  slices_S1025_S1024_1 : S1025.Slices ![1] S1024
  reducesTo_S1024_S_d0 : S1024.ReducesTo [0] S_
  bcast_S_S320000x128 : S_.BroadcastsInDim S320000x128 (![] : Fin 0 → Fin S320000x128.rank)
  reducesTo_S320000x128_S_d0_1 : S320000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_

variable [Facts]

def fn_part1 {F : FTy → Type} [FloatOps F] (main_arg2 : FVec F S128x128 .f32) (main_arg3 : FVec F S128 .f32) (main_arg6 : FVec F S128x8 .f32) (main_v16 : IVec S_ 1) : IVec S_ 1 :=
  let main_v17 : FVec F S128x128 .f32 := Host.absf main_arg2
  let main_cst_5 : FVec F S_ .f32 := constant S_ .f32 0x7F800000#32
  let main_v18 : FVec F S128x128 .f32 := broadcastInDim S128x128 ![] bcast_S_S128x128 main_cst_5
  let main_v19 : IVec S128x128 1 := cmpf .olt main_v17 main_v18
  let main_c_6 : IVec S_ 1 := constantI S_ 1 1#1
  let main_v20 : IVec S_ 1 := (fun x v => Host.reduce IntOp.andi x v reducesTo_S128x128_S_d0_1 h_S_) main_v19 main_c_6
  let main_v21 : IVec S_ 1 := andi main_v16 main_v20
  let main_v22 : FVec F S128 .f32 := Host.absf main_arg3
  let main_cst_7 : FVec F S_ .f32 := constant S_ .f32 0x7F800000#32
  let main_v23 : FVec F S128 .f32 := broadcastInDim S128 ![] bcast_S_S128 main_cst_7
  let main_v24 : IVec S128 1 := cmpf .olt main_v22 main_v23
  let main_c_8 : IVec S_ 1 := constantI S_ 1 1#1
  let main_v25 : IVec S_ 1 := (fun x v => Host.reduce IntOp.andi x v reducesTo_S128_S_d0 h_S_) main_v24 main_c_8
  let main_v26 : IVec S_ 1 := andi main_v21 main_v25
  let main_v27 : FVec F S128x8 .f32 := Host.absf main_arg6
  let main_cst_9 : FVec F S_ .f32 := constant S_ .f32 0x7F800000#32
  let main_v28 : FVec F S128x8 .f32 := broadcastInDim S128x8 ![] bcast_S_S128x8 main_cst_9
  let main_v29 : IVec S128x8 1 := cmpf .olt main_v27 main_v28
  let main_c_10 : IVec S_ 1 := constantI S_ 1 1#1
  let main_v30 : IVec S_ 1 := (fun x v => Host.reduce IntOp.andi x v reducesTo_S128x8_S_d0_1 h_S_) main_v29 main_c_10
  let main_v31 : IVec S_ 1 := andi main_v26 main_v30
  main_v31

def fn {F : FTy → Type} [FloatOps F] (main_arg0 : FVec F S320000x128 .f32) (main_arg1 : IVec S1025 32) (main_arg2 : FVec F S128x128 .f32) (main_arg3 : FVec F S128 .f32) (main_arg4 : FVec F S128x1 .f32) (main_arg5 : FVec F S1 .f32) (main_arg6 : FVec F S128x8 .f32) (main_arg7 : FVec F S8 .f32) : IVec S_ 1 :=
  let main_c : IVec S_ 32 := constantI S_ 32 0#32
  let main_v0 : IVec S1025 32 := broadcastInDim S1025 ![] bcast_S_S1025 main_c
  let main_v1 : IVec S1025 1 := cmpi .sge main_arg1 main_v0
  let main_c_0 : IVec S_ 1 := constantI S_ 1 1#1
  let main_v2 : IVec S_ 1 := (fun x v => Host.reduce IntOp.andi x v reducesTo_S1025_S_d0 h_S_) main_v1 main_c_0
  let main_c_1 : IVec S_ 32 := constantI S_ 32 320000#32
  let main_v3 : IVec S1025 32 := broadcastInDim S1025 ![] bcast_S_S1025 main_c_1
  let main_v4 : IVec S1025 1 := cmpi .sle main_arg1 main_v3
  let main_c_2 : IVec S_ 1 := constantI S_ 1 1#1
  let main_v5 : IVec S_ 1 := (fun x v => Host.reduce IntOp.andi x v reducesTo_S1025_S_d0 h_S_) main_v4 main_c_2
  let main_v6 : IVec S_ 1 := andi main_v2 main_v5
  let main_v7 : IVec S1024 32 := (extractStridedSlice S1024 ![0] · slices_S1025_S1024_0) main_arg1
  let main_v8 : IVec S1024 32 := (extractStridedSlice S1024 ![1] · slices_S1025_S1024_1) main_arg1
  let main_v9 : IVec S1024 1 := cmpi .sle main_v7 main_v8
  let main_c_3 : IVec S_ 1 := constantI S_ 1 1#1
  let main_v10 : IVec S_ 1 := (fun x v => Host.reduce IntOp.andi x v reducesTo_S1024_S_d0 h_S_) main_v9 main_c_3
  let main_v11 : IVec S_ 1 := andi main_v6 main_v10
  let main_v12 : FVec F S320000x128 .f32 := Host.absf main_arg0
  let main_cst : FVec F S_ .f32 := constant S_ .f32 0x7F800000#32
  let main_v13 : FVec F S320000x128 .f32 := broadcastInDim S320000x128 ![] bcast_S_S320000x128 main_cst
  let main_v14 : IVec S320000x128 1 := cmpf .olt main_v12 main_v13
  let main_c_4 : IVec S_ 1 := constantI S_ 1 1#1
  let main_v15 : IVec S_ 1 := (fun x v => Host.reduce IntOp.andi x v reducesTo_S320000x128_S_d0_1 h_S_) main_v14 main_c_4
  let main_v16 : IVec S_ 1 := andi main_v11 main_v15
  fn_part1 (F := F) main_arg2 main_arg3 main_arg6 main_v16
-- ==== Pre_splits.lean ====
abbrev S320000x128 : Shape := ⟨2, ![320000, 128]⟩
abbrev S1025 : Shape := ⟨1, ![1025]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x8 : Shape := ⟨2, ![128, 8]⟩
abbrev S8 : Shape := ⟨1, ![8]⟩
abbrev S_ : Shape := ⟨0, ![]⟩
abbrev S1024 : Shape := ⟨1, ![1024]⟩

class Facts : Prop where
  bcast_S_S1025 : S_.BroadcastsInDim S1025 (![] : Fin 0 → Fin S1025.rank)
  reducesTo_S1025_S_d0 : S1025.ReducesTo [0] S_
  h_S_ : 0 < S_.numel
  slices_S1025_S1024_0 : S1025.Slices ![0] S1024
  slices_S1025_S1024_1 : S1025.Slices ![1] S1024
  reducesTo_S1024_S_d0 : S1024.ReducesTo [0] S_

variable [Facts]

def fn {F : FTy → Type} [FloatOps F] (main_arg0 : FVec F S320000x128 .f32) (main_arg1 : IVec S1025 32) (main_arg2 : FVec F S128x128 .f32) (main_arg3 : FVec F S128 .f32) (main_arg4 : FVec F S128x1 .f32) (main_arg5 : FVec F S1 .f32) (main_arg6 : FVec F S128x8 .f32) (main_arg7 : FVec F S8 .f32) : IVec S_ 1 :=
  let main_c : IVec S_ 32 := constantI S_ 32 0#32
  let main_v0 : IVec S1025 32 := broadcastInDim S1025 ![] bcast_S_S1025 main_c
  let main_v1 : IVec S1025 1 := cmpi .sge main_arg1 main_v0
  let main_c_0 : IVec S_ 1 := constantI S_ 1 1#1
  let main_v2 : IVec S_ 1 := (fun x v => Host.reduce IntOp.andi x v reducesTo_S1025_S_d0 h_S_) main_v1 main_c_0
  let main_c_1 : IVec S_ 32 := constantI S_ 32 320000#32
  let main_v3 : IVec S1025 32 := broadcastInDim S1025 ![] bcast_S_S1025 main_c_1
  let main_v4 : IVec S1025 1 := cmpi .sle main_arg1 main_v3
  let main_c_2 : IVec S_ 1 := constantI S_ 1 1#1
  let main_v5 : IVec S_ 1 := (fun x v => Host.reduce IntOp.andi x v reducesTo_S1025_S_d0 h_S_) main_v4 main_c_2
  let main_v6 : IVec S_ 1 := andi main_v2 main_v5
  let main_v7 : IVec S1024 32 := (extractStridedSlice S1024 ![0] · slices_S1025_S1024_0) main_arg1
  let main_v8 : IVec S1024 32 := (extractStridedSlice S1024 ![1] · slices_S1025_S1024_1) main_arg1
  let main_v9 : IVec S1024 1 := cmpi .sle main_v7 main_v8
  let main_c_3 : IVec S_ 1 := constantI S_ 1 1#1
  let main_v10 : IVec S_ 1 := (fun x v => Host.reduce IntOp.andi x v reducesTo_S1024_S_d0 h_S_) main_v9 main_c_3
  let main_v11 : IVec S_ 1 := andi main_v6 main_v10
  main_v11
-- ==== Kernel.lean ====
abbrev S320000x128 : Shape := ⟨2, ![320000, 128]⟩
abbrev S1025 : Shape := ⟨1, ![1025]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x8 : Shape := ⟨2, ![128, 8]⟩
abbrev S8 : Shape := ⟨1, ![8]⟩
abbrev S_ : Shape := ⟨0, ![]⟩
abbrev S16x128 : Shape := ⟨2, ![16, 128]⟩
abbrev S8x128 : Shape := ⟨2, ![8, 128]⟩
abbrev S2 : Shape := ⟨1, ![2]⟩
abbrev S2550x8x128 : Shape := ⟨3, ![2550, 8, 128]⟩
abbrev S6400x128 : Shape := ⟨2, ![6400, 128]⟩
abbrev S50x8x128 : Shape := ⟨3, ![50, 8, 128]⟩
abbrev S16x6400 : Shape := ⟨2, ![16, 6400]⟩
abbrev S8x1 : Shape := ⟨2, ![8, 1]⟩
abbrev S1x1 : Shape := ⟨2, ![1, 1]⟩
abbrev S1x6400 : Shape := ⟨2, ![1, 6400]⟩
abbrev S8x6400 : Shape := ⟨2, ![8, 6400]⟩
abbrev S1x8x128 : Shape := ⟨3, ![1, 8, 128]⟩
abbrev S7 : Shape := ⟨1, ![7]⟩
abbrev S1032 : Shape := ⟨1, ![1032]⟩
abbrev S16384 : Shape := ⟨1, ![16384]⟩
abbrev S48 : Shape := ⟨1, ![48]⟩
abbrev S4x8x128 : Shape := ⟨3, ![4, 8, 128]⟩
abbrev S32 : Shape := ⟨1, ![32]⟩
abbrev S512 : Shape := ⟨1, ![512]⟩
abbrev S16 : Shape := ⟨1, ![16]⟩
abbrev S40 : Shape := ⟨1, ![40]⟩
abbrev S1x1x16 : Shape := ⟨3, ![1, 1, 16]⟩
abbrev S1024x16 : Shape := ⟨2, ![1024, 16]⟩
abbrev S1024x8 : Shape := ⟨2, ![1024, 8]⟩

abbrev nBuf : Table → Nat
  | .hbm => 39
  | .local .tc .vmem => 8
  | .local .scVector .vmem => 6
  | _ => 0

abbrev bufTy : (tb : Table) → Fin (nBuf tb) → BufTy
  | .hbm, ⟨0, _⟩ => ⟨S320000x128, .f32⟩
  | .hbm, ⟨1, _⟩ => ⟨S1025, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128x8, .f32⟩
  | .hbm, ⟨7, _⟩ => ⟨S8, .f32⟩
  | .hbm, ⟨8, _⟩ => ⟨S128x128, .f32⟩
  | .hbm, ⟨9, _⟩ => ⟨S_, .f32⟩
  | .hbm, ⟨10, _⟩ => ⟨S16x128, .f32⟩
  | .hbm, ⟨11, _⟩ => ⟨S8x128, .f32⟩
  | .hbm, ⟨12, _⟩ => ⟨S_, .i32⟩
  | .hbm, ⟨13, _⟩ => ⟨S1, .i32⟩
  | .hbm, ⟨14, _⟩ => ⟨S16x128, .f32⟩
  | .hbm, ⟨15, _⟩ => ⟨S128, .f32⟩
  | .hbm, ⟨16, _⟩ => ⟨S_, .i32⟩
  | .hbm, ⟨17, _⟩ => ⟨S1, .i32⟩
  | .hbm, ⟨18, _⟩ => ⟨S16x128, .f32⟩
  | .hbm, ⟨19, _⟩ => ⟨S128x1, .f32⟩
  | .hbm, ⟨20, _⟩ => ⟨S_, .f32⟩
  | .hbm, ⟨21, _⟩ => ⟨S8x128, .f32⟩
  | .hbm, ⟨22, _⟩ => ⟨S_, .i32⟩
  | .hbm, ⟨23, _⟩ => ⟨S1, .i32⟩
  | .hbm, ⟨24, _⟩ => ⟨S8x128, .f32⟩
  | .hbm, ⟨25, _⟩ => ⟨S_, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S8x128, .f32⟩
  | .hbm, ⟨32, _⟩ => ⟨S2550x8x128, .f32⟩
  | .hbm, ⟨33, _⟩ => ⟨S_, .i32⟩
  | .hbm, ⟨34, _⟩ => ⟨S7, .i32⟩
  | .hbm, ⟨35, _⟩ => ⟨S1032, .i32⟩
  | .hbm, ⟨36, _⟩ => ⟨S16384, .f32⟩
  | .hbm, ⟨37, _⟩ => ⟨S1024x16, .f32⟩
  | .hbm, ⟨38, _⟩ => ⟨S1024x8, .f32⟩
  | .local .tc .vmem, ⟨0, _⟩ => ⟨S6400x128, .f32⟩
  | .local .tc .vmem, ⟨1, _⟩ => ⟨S6400x128, .f32⟩
  | .local .tc .vmem, ⟨2, _⟩ => ⟨S128x128, .f32⟩
  | .local .tc .vmem, ⟨3, _⟩ => ⟨S16x128, .f32⟩
  | .local .tc .vmem, ⟨4, _⟩ => ⟨S128x1, .f32⟩
  | .local .tc .vmem, ⟨5, _⟩ => ⟨S8x128, .f32⟩
  | .local .tc .vmem, ⟨6, _⟩ => ⟨S50x8x128, .f32⟩
  | .local .tc .vmem, ⟨7, _⟩ => ⟨S50x8x128, .f32⟩
  | .local .scVector .vmem, ⟨0, _⟩ => ⟨S48, .i32⟩
  | .local .scVector .vmem, ⟨1, _⟩ => ⟨S4x8x128, .f32⟩
  | .local .scVector .vmem, ⟨2, _⟩ => ⟨S4x8x128, .f32⟩
  | .local .scVector .vmem, ⟨3, _⟩ => ⟨S4x8x128, .f32⟩
  | .local .scVector .vmem, ⟨4, _⟩ => ⟨S32, .f32⟩
  | .local .scVector .vmem, ⟨5, _⟩ => ⟨S512, .f32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v17_scv : Ref sig .scVector := ⟨.hbm, 32, rfl⟩
abbrev main_v19_scv : Ref sig .scVector := ⟨.hbm, 35, rfl⟩
abbrev main_v20_scv : Ref sig .scVector := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch6 : Ref sig .scVector := ⟨.vmem, 4, rfl⟩
abbrev cc1_scratch7 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![51], ![false]⟩

def cc0_transform_0 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S50x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v4 : BitVec 32 := Scalar.muli v1 c32_i32
  ![v4.toNat]
def k1_off2 (v8 : BitVec 32) : Fin 3 → Nat :=
  let c7_i32 : BitVec 32 := 7#32
  let v9 : BitVec 32 := Scalar.shrui v8 c7_i32
  let c0_i32 : BitVec 32 := 0#32
  let c0_i32_0 : BitVec 32 := 0#32
  ![v9.toNat, 0, 0]

def k1_chk1 (v8 : BitVec 32) : Prop :=
  (∀ a, (k1_off2 v8) a + S4x8x128.size a ≤ S2550x8x128.size a)
theorem k1_off2_inb : ∀ (v8 : BitVec 32) (k1_hw1 : k1_chk1 v8), ∀ a, (k1_off2 v8) a + S4x8x128.size a ≤ S2550x8x128.size a := fun v8 k1_hw1 => k1_hw1

@[reducible] def k1_t1_loop : Scf.Loop 32 :=
  let c0_i32_4 : BitVec 32 := 0#32
  let c16_i32 : BitVec 32 := 16#32
  let v12 : BitVec 32 := Scalar.addi c0_i32_4 c16_i32
  let c1_i32 : BitVec 32 := 1#32
  ⟨c0_i32_4, v12, c1_i32⟩
def k1_off3 (k1_t1 : Fin k1_t1_loop.trips) : Fin 1 → Nat :=
  let c2_i32_8 : BitVec 32 := 2#32
  let c0_i32_4 : BitVec 32 := 0#32
  let c1_i32 : BitVec 32 := 1#32
  let arg13 : BitVec 32 := Scf.iv c0_i32_4 c1_i32 k1_t1
  let v15 : BitVec 32 := Scalar.muli c2_i32_8 arg13
  let v17 : Index := Scalar.indexCast v15
  ![v17.toNat]
def k1_cond1 (k1_t1 : Fin k1_t1_loop.trips) : BitVec 1 :=
  let c2_i32_8 : BitVec 32 := 2#32
  let c0_i32_4 : BitVec 32 := 0#32
  let c1_i32 : BitVec 32 := 1#32
  let arg13 : BitVec 32 := Scf.iv c0_i32_4 c1_i32 k1_t1
  let v15 : BitVec 32 := Scalar.muli c2_i32_8 arg13
  let c31_i32 : BitVec 32 := 31#32
  let v16 : BitVec 1 := Scalar.cmpi .slt v15 c31_i32
  let v31 : BitVec 32 := Scalar.extui v16
  let c0_i32_12 : BitVec 32 := 0#32
  let v32 : BitVec 1 := Scalar.cmpi .ne v31 c0_i32_12
  v32

def k1_off4 (v23 : BitVec 32) : Fin 3 → Nat :=
  let c7_i32_193 : BitVec 32 := 7#32
  let v586 : BitVec 32 := Scalar.shrui v23 c7_i32_193
  let c0_i32_194 : BitVec 32 := 0#32
  let c0_i32_195 : BitVec 32 := 0#32
  ![v586.toNat, 0, 0]

@[reducible] def k1_t2_loop (v21 : BitVec 32) (v23 : BitVec 32) : Scf.Loop 32 :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_21 : BitVec 32 := 1#32
  ⟨c0_i32_19, v41, c1_i32_21⟩
@[reducible] def k1_t3_loop (v21 : BitVec 32) (v23 : BitVec 32) (k1_t2 : Fin (k1_t2_loop v21 v23).trips) : Scf.Loop 32 :=
  let c128_i32_194 : BitVec 32 := 128#32
  let c0_i32_193 : BitVec 32 := 0#32
  let c7_i32_9 : BitVec 32 := 7#32
  let v25 : BitVec 32 := Scalar.shrui v21 c7_i32_9
  let c0_i32_19 : BitVec 32 := 0#32
  let c1_i32_21 : BitVec 32 := 1#32
  let arg14 : BitVec 32 := Scf.iv c0_i32_19 c1_i32_21 k1_t2
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_200 : BitVec 32 := 1#32
  ⟨v595, v601, c1_i32_200⟩
def k1_off5 (v21 : BitVec 32) (v23 : BitVec 32) (k1_t2 : Fin (k1_t2_loop v21 v23).trips) (k1_t3 : Fin (k1_t3_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v623 : Index := Scalar.indexCast arg14
  let c0_i32_212 : BitVec 32 := 0#32
  let v624 : Index := Scalar.indexCast c0_i32_212
  let c16_i32_211 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t3
  let v622 : BitVec 32 := Scalar.muli c16_i32_211 arg23
  let v625 : Index := Scalar.indexCast v622
  ![v623.toNat, 0, v625.toNat]
def k1_off6 (v21 : BitVec 32) (v23 : BitVec 32) (k1_t2 : Fin (k1_t2_loop v21 v23).trips) (k1_t3 : Fin (k1_t3_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v630 : Index := Scalar.indexCast arg14
  let c1_i32_214 : BitVec 32 := 1#32
  let v631 : Index := Scalar.indexCast c1_i32_214
  let c16_i32_213 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t3
  let v629 : BitVec 32 := Scalar.muli c16_i32_213 arg23
  let v632 : Index := Scalar.indexCast v629
  ![v630.toNat, 1, v632.toNat]
def k1_off7 (v21 : BitVec 32) (v23 : BitVec 32) (k1_t2 : Fin (k1_t2_loop v21 v23).trips) (k1_t3 : Fin (k1_t3_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v637 : Index := Scalar.indexCast arg14
  let c2_i32_216 : BitVec 32 := 2#32
  let v638 : Index := Scalar.indexCast c2_i32_216
  let c16_i32_215 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t3
  let v636 : BitVec 32 := Scalar.muli c16_i32_215 arg23
  let v639 : Index := Scalar.indexCast v636
  ![v637.toNat, 2, v639.toNat]
def k1_off8 (v21 : BitVec 32) (v23 : BitVec 32) (k1_t2 : Fin (k1_t2_loop v21 v23).trips) (k1_t3 : Fin (k1_t3_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v644 : Index := Scalar.indexCast arg14
  let c3_i32_218 : BitVec 32 := 3#32
  let v645 : Index := Scalar.indexCast c3_i32_218
  let c16_i32_217 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t3
  let v643 : BitVec 32 := Scalar.muli c16_i32_217 arg23
  let v646 : Index := Scalar.indexCast v643
  ![v644.toNat, 3, v646.toNat]
def k1_off9 (v21 : BitVec 32) (v23 : BitVec 32) (k1_t2 : Fin (k1_t2_loop v21 v23).trips) (k1_t3 : Fin (k1_t3_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v651 : Index := Scalar.indexCast arg14
  let c4_i32_220 : BitVec 32 := 4#32
  let v652 : Index := Scalar.indexCast c4_i32_220
  let c16_i32_219 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t3
  let v650 : BitVec 32 := Scalar.muli c16_i32_219 arg23
  let v653 : Index := Scalar.indexCast v650
  ![v651.toNat, 4, v653.toNat]
def k1_off10 (v21 : BitVec 32) (v23 : BitVec 32) (k1_t2 : Fin (k1_t2_loop v21 v23).trips) (k1_t3 : Fin (k1_t3_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v658 : Index := Scalar.indexCast arg14
  let c5_i32_222 : BitVec 32 := 5#32
  let v659 : Index := Scalar.indexCast c5_i32_222
  let c16_i32_221 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t3
  let v657 : BitVec 32 := Scalar.muli c16_i32_221 arg23
  let v660 : Index := Scalar.indexCast v657
  ![v658.toNat, 5, v660.toNat]
def k1_off11 (v21 : BitVec 32) (v23 : BitVec 32) (k1_t2 : Fin (k1_t2_loop v21 v23).trips) (k1_t3 : Fin (k1_t3_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v665 : Index := Scalar.indexCast arg14
  let c6_i32_224 : BitVec 32 := 6#32
  let v666 : Index := Scalar.indexCast c6_i32_224
  let c16_i32_223 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t3
  let v664 : BitVec 32 := Scalar.muli c16_i32_223 arg23
  let v667 : Index := Scalar.indexCast v664
  ![v665.toNat, 6, v667.toNat]
def k1_off12 (v21 : BitVec 32) (v23 : BitVec 32) (k1_t2 : Fin (k1_t2_loop v21 v23).trips) (k1_t3 : Fin (k1_t3_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v672 : Index := Scalar.indexCast arg14
  let c7_i32_226 : BitVec 32 := 7#32
  let v673 : Index := Scalar.indexCast c7_i32_226
  let c16_i32_225 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t3
  let v671 : BitVec 32 := Scalar.muli c16_i32_225 arg23
  let v674 : Index := Scalar.indexCast v671
  ![v672.toNat, 7, v674.toNat]
@[reducible] def k1_t4_loop (v21 : BitVec 32) (v23 : BitVec 32) (k1_t2 : Fin (k1_t2_loop v21 v23).trips) : Scf.Loop 32 :=
  let c128_i32_194 : BitVec 32 := 128#32
  let c0_i32_193 : BitVec 32 := 0#32
  let c7_i32_9 : BitVec 32 := 7#32
  let v25 : BitVec 32 := Scalar.shrui v21 c7_i32_9
  let c0_i32_19 : BitVec 32 := 0#32
  let c1_i32_21 : BitVec 32 := 1#32
  let arg14 : BitVec 32 := Scf.iv c0_i32_19 c1_i32_21 k1_t2
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let v598 : BitVec 32 := Scalar.addi v595 v597
  let c1_i32_201 : BitVec 32 := 1#32
  ⟨v601, v598, c1_i32_201⟩
def k1_off13 (v21 : BitVec 32) (v23 : BitVec 32) (k1_t2 : Fin (k1_t2_loop v21 v23).trips) (k1_t4 : Fin (k1_t4_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v623 : Index := Scalar.indexCast arg14
  let c0_i32_212 : BitVec 32 := 0#32
  let v624 : Index := Scalar.indexCast c0_i32_212
  let c16_i32_211 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t4
  let v622 : BitVec 32 := Scalar.muli c16_i32_211 arg23
  let v625 : Index := Scalar.indexCast v622
  ![v623.toNat, 0, v625.toNat]
def k1_off14 (v21 : BitVec 32) (v23 : BitVec 32) (k1_t2 : Fin (k1_t2_loop v21 v23).trips) (k1_t4 : Fin (k1_t4_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v630 : Index := Scalar.indexCast arg14
  let c1_i32_214 : BitVec 32 := 1#32
  let v631 : Index := Scalar.indexCast c1_i32_214
  let c16_i32_213 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t4
  let v629 : BitVec 32 := Scalar.muli c16_i32_213 arg23
  let v632 : Index := Scalar.indexCast v629
  ![v630.toNat, 1, v632.toNat]
def k1_off15 (v21 : BitVec 32) (v23 : BitVec 32) (k1_t2 : Fin (k1_t2_loop v21 v23).trips) (k1_t4 : Fin (k1_t4_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v637 : Index := Scalar.indexCast arg14
  let c2_i32_216 : BitVec 32 := 2#32
  let v638 : Index := Scalar.indexCast c2_i32_216
  let c16_i32_215 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t4
  let v636 : BitVec 32 := Scalar.muli c16_i32_215 arg23
  let v639 : Index := Scalar.indexCast v636
  ![v637.toNat, 2, v639.toNat]
def k1_off16 (v21 : BitVec 32) (v23 : BitVec 32) (k1_t2 : Fin (k1_t2_loop v21 v23).trips) (k1_t4 : Fin (k1_t4_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v644 : Index := Scalar.indexCast arg14
  let c3_i32_218 : BitVec 32 := 3#32
  let v645 : Index := Scalar.indexCast c3_i32_218
  let c16_i32_217 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t4
  let v643 : BitVec 32 := Scalar.muli c16_i32_217 arg23
  let v646 : Index := Scalar.indexCast v643
  ![v644.toNat, 3, v646.toNat]
def k1_off17 (v21 : BitVec 32) (v23 : BitVec 32) (k1_t2 : Fin (k1_t2_loop v21 v23).trips) (k1_t4 : Fin (k1_t4_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v651 : Index := Scalar.indexCast arg14
  let c4_i32_220 : BitVec 32 := 4#32
  let v652 : Index := Scalar.indexCast c4_i32_220
  let c16_i32_219 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t4
  let v650 : BitVec 32 := Scalar.muli c16_i32_219 arg23
  let v653 : Index := Scalar.indexCast v650
  ![v651.toNat, 4, v653.toNat]
def k1_off18 (v21 : BitVec 32) (v23 : BitVec 32) (k1_t2 : Fin (k1_t2_loop v21 v23).trips) (k1_t4 : Fin (k1_t4_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v658 : Index := Scalar.indexCast arg14
  let c5_i32_222 : BitVec 32 := 5#32
  let v659 : Index := Scalar.indexCast c5_i32_222
  let c16_i32_221 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t4
  let v657 : BitVec 32 := Scalar.muli c16_i32_221 arg23
  let v660 : Index := Scalar.indexCast v657
  ![v658.toNat, 5, v660.toNat]
def k1_off19 (v21 : BitVec 32) (v23 : BitVec 32) (k1_t2 : Fin (k1_t2_loop v21 v23).trips) (k1_t4 : Fin (k1_t4_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v665 : Index := Scalar.indexCast arg14
  let c6_i32_224 : BitVec 32 := 6#32
  let v666 : Index := Scalar.indexCast c6_i32_224
  let c16_i32_223 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t4
  let v664 : BitVec 32 := Scalar.muli c16_i32_223 arg23
  let v667 : Index := Scalar.indexCast v664
  ![v665.toNat, 6, v667.toNat]
def k1_off20 (v21 : BitVec 32) (v23 : BitVec 32) (k1_t2 : Fin (k1_t2_loop v21 v23).trips) (k1_t4 : Fin (k1_t4_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v672 : Index := Scalar.indexCast arg14
  let c7_i32_226 : BitVec 32 := 7#32
  let v673 : Index := Scalar.indexCast c7_i32_226
  let c16_i32_225 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t4
  let v671 : BitVec 32 := Scalar.muli c16_i32_225 arg23
  let v674 : Index := Scalar.indexCast v671
  ![v672.toNat, 7, v674.toNat]
@[reducible] def k1_t5_loop (v21 : BitVec 32) (v23 : BitVec 32) (k1_t2 : Fin (k1_t2_loop v21 v23).trips) : Scf.Loop 32 :=
  let c128_i32_194 : BitVec 32 := 128#32
  let c0_i32_193 : BitVec 32 := 0#32
  let c7_i32_9 : BitVec 32 := 7#32
  let v25 : BitVec 32 := Scalar.shrui v21 c7_i32_9
  let c0_i32_19 : BitVec 32 := 0#32
  let c1_i32_21 : BitVec 32 := 1#32
  let arg14 : BitVec 32 := Scf.iv c0_i32_19 c1_i32_21 k1_t2
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_204 : BitVec 32 := 1#32
  ⟨v604, v609, c1_i32_204⟩
def k1_off21 (v21 : BitVec 32) (v23 : BitVec 32) (k1_t2 : Fin (k1_t2_loop v21 v23).trips) (k1_t5 : Fin (k1_t5_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v632 : Index := Scalar.indexCast arg14
  let c0_i32_213 : BitVec 32 := 0#32
  let v633 : Index := Scalar.indexCast c0_i32_213
  let c16_i32_212 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t5
  let v631 : BitVec 32 := Scalar.muli c16_i32_212 arg23
  let v634 : Index := Scalar.indexCast v631
  ![v632.toNat, 0, v634.toNat]
def k1_off22 (v21 : BitVec 32) (v23 : BitVec 32) (k1_t2 : Fin (k1_t2_loop v21 v23).trips) (k1_t5 : Fin (k1_t5_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v640 : Index := Scalar.indexCast arg14
  let c1_i32_215 : BitVec 32 := 1#32
  let v641 : Index := Scalar.indexCast c1_i32_215
  let c16_i32_214 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t5
  let v639 : BitVec 32 := Scalar.muli c16_i32_214 arg23
  let v642 : Index := Scalar.indexCast v639
  ![v640.toNat, 1, v642.toNat]
def k1_off23 (v21 : BitVec 32) (v23 : BitVec 32) (k1_t2 : Fin (k1_t2_loop v21 v23).trips) (k1_t5 : Fin (k1_t5_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v648 : Index := Scalar.indexCast arg14
  let c2_i32_217 : BitVec 32 := 2#32
  let v649 : Index := Scalar.indexCast c2_i32_217
  let c16_i32_216 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t5
  let v647 : BitVec 32 := Scalar.muli c16_i32_216 arg23
  let v650 : Index := Scalar.indexCast v647
  ![v648.toNat, 2, v650.toNat]
def k1_off24 (v21 : BitVec 32) (v23 : BitVec 32) (k1_t2 : Fin (k1_t2_loop v21 v23).trips) (k1_t5 : Fin (k1_t5_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v656 : Index := Scalar.indexCast arg14
  let c3_i32_219 : BitVec 32 := 3#32
  let v657 : Index := Scalar.indexCast c3_i32_219
  let c16_i32_218 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t5
  let v655 : BitVec 32 := Scalar.muli c16_i32_218 arg23
  let v658 : Index := Scalar.indexCast v655
  ![v656.toNat, 3, v658.toNat]
def k1_off25 (v21 : BitVec 32) (v23 : BitVec 32) (k1_t2 : Fin (k1_t2_loop v21 v23).trips) (k1_t5 : Fin (k1_t5_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v664 : Index := Scalar.indexCast arg14
  let c4_i32_221 : BitVec 32 := 4#32
  let v665 : Index := Scalar.indexCast c4_i32_221
  let c16_i32_220 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t5
  let v663 : BitVec 32 := Scalar.muli c16_i32_220 arg23
  let v666 : Index := Scalar.indexCast v663
  ![v664.toNat, 4, v666.toNat]
def k1_off26 (v21 : BitVec 32) (v23 : BitVec 32) (k1_t2 : Fin (k1_t2_loop v21 v23).trips) (k1_t5 : Fin (k1_t5_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v672 : Index := Scalar.indexCast arg14
  let c5_i32_223 : BitVec 32 := 5#32
  let v673 : Index := Scalar.indexCast c5_i32_223
  let c16_i32_222 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t5
  let v671 : BitVec 32 := Scalar.muli c16_i32_222 arg23
  let v674 : Index := Scalar.indexCast v671
  ![v672.toNat, 5, v674.toNat]
def k1_off27 (v21 : BitVec 32) (v23 : BitVec 32) (k1_t2 : Fin (k1_t2_loop v21 v23).trips) (k1_t5 : Fin (k1_t5_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v680 : Index := Scalar.indexCast arg14
  let c6_i32_225 : BitVec 32 := 6#32
  let v681 : Index := Scalar.indexCast c6_i32_225
  let c16_i32_224 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t5
  let v679 : BitVec 32 := Scalar.muli c16_i32_224 arg23
  let v682 : Index := Scalar.indexCast v679
  ![v680.toNat, 6, v682.toNat]
def k1_off28 (v21 : BitVec 32) (v23 : BitVec 32) (k1_t2 : Fin (k1_t2_loop v21 v23).trips) (k1_t5 : Fin (k1_t5_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v688 : Index := Scalar.indexCast arg14
  let c7_i32_227 : BitVec 32 := 7#32
  let v689 : Index := Scalar.indexCast c7_i32_227
  let c16_i32_226 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t5
  let v687 : BitVec 32 := Scalar.muli c16_i32_226 arg23
  let v690 : Index := Scalar.indexCast v687
  ![v688.toNat, 7, v690.toNat]
@[reducible] def k1_t6_loop (v21 : BitVec 32) (v23 : BitVec 32) (k1_t2 : Fin (k1_t2_loop v21 v23).trips) : Scf.Loop 32 :=
  let c128_i32_194 : BitVec 32 := 128#32
  let c0_i32_193 : BitVec 32 := 0#32
  let c7_i32_9 : BitVec 32 := 7#32
  let v25 : BitVec 32 := Scalar.shrui v21 c7_i32_9
  let c0_i32_19 : BitVec 32 := 0#32
  let c1_i32_21 : BitVec 32 := 1#32
  let arg14 : BitVec 32 := Scf.iv c0_i32_19 c1_i32_21 k1_t2
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let v606 : BitVec 32 := Scalar.addi v604 v605
  let c1_i32_205 : BitVec 32 := 1#32
  ⟨v609, v606, c1_i32_205⟩
def k1_off29 (v21 : BitVec 32) (v23 : BitVec 32) (k1_t2 : Fin (k1_t2_loop v21 v23).trips) (k1_t6 : Fin (k1_t6_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v632 : Index := Scalar.indexCast arg14
  let c0_i32_213 : BitVec 32 := 0#32
  let v633 : Index := Scalar.indexCast c0_i32_213
  let c16_i32_212 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t6
  let v631 : BitVec 32 := Scalar.muli c16_i32_212 arg23
  let v634 : Index := Scalar.indexCast v631
  ![v632.toNat, 0, v634.toNat]
def k1_off30 (v21 : BitVec 32) (v23 : BitVec 32) (k1_t2 : Fin (k1_t2_loop v21 v23).trips) (k1_t6 : Fin (k1_t6_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v640 : Index := Scalar.indexCast arg14
  let c1_i32_215 : BitVec 32 := 1#32
  let v641 : Index := Scalar.indexCast c1_i32_215
  let c16_i32_214 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t6
  let v639 : BitVec 32 := Scalar.muli c16_i32_214 arg23
  let v642 : Index := Scalar.indexCast v639
  ![v640.toNat, 1, v642.toNat]
def k1_off31 (v21 : BitVec 32) (v23 : BitVec 32) (k1_t2 : Fin (k1_t2_loop v21 v23).trips) (k1_t6 : Fin (k1_t6_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v648 : Index := Scalar.indexCast arg14
  let c2_i32_217 : BitVec 32 := 2#32
  let v649 : Index := Scalar.indexCast c2_i32_217
  let c16_i32_216 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t6
  let v647 : BitVec 32 := Scalar.muli c16_i32_216 arg23
  let v650 : Index := Scalar.indexCast v647
  ![v648.toNat, 2, v650.toNat]
def k1_off32 (v21 : BitVec 32) (v23 : BitVec 32) (k1_t2 : Fin (k1_t2_loop v21 v23).trips) (k1_t6 : Fin (k1_t6_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v656 : Index := Scalar.indexCast arg14
  let c3_i32_219 : BitVec 32 := 3#32
  let v657 : Index := Scalar.indexCast c3_i32_219
  let c16_i32_218 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t6
  let v655 : BitVec 32 := Scalar.muli c16_i32_218 arg23
  let v658 : Index := Scalar.indexCast v655
  ![v656.toNat, 3, v658.toNat]
def k1_off33 (v21 : BitVec 32) (v23 : BitVec 32) (k1_t2 : Fin (k1_t2_loop v21 v23).trips) (k1_t6 : Fin (k1_t6_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v664 : Index := Scalar.indexCast arg14
  let c4_i32_221 : BitVec 32 := 4#32
  let v665 : Index := Scalar.indexCast c4_i32_221
  let c16_i32_220 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t6
  let v663 : BitVec 32 := Scalar.muli c16_i32_220 arg23
  let v666 : Index := Scalar.indexCast v663
  ![v664.toNat, 4, v666.toNat]
def k1_off34 (v21 : BitVec 32) (v23 : BitVec 32) (k1_t2 : Fin (k1_t2_loop v21 v23).trips) (k1_t6 : Fin (k1_t6_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v672 : Index := Scalar.indexCast arg14
  let c5_i32_223 : BitVec 32 := 5#32
  let v673 : Index := Scalar.indexCast c5_i32_223
  let c16_i32_222 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t6
  let v671 : BitVec 32 := Scalar.muli c16_i32_222 arg23
  let v674 : Index := Scalar.indexCast v671
  ![v672.toNat, 5, v674.toNat]
def k1_off35 (v21 : BitVec 32) (v23 : BitVec 32) (k1_t2 : Fin (k1_t2_loop v21 v23).trips) (k1_t6 : Fin (k1_t6_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v680 : Index := Scalar.indexCast arg14
  let c6_i32_225 : BitVec 32 := 6#32
  let v681 : Index := Scalar.indexCast c6_i32_225
  let c16_i32_224 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t6
  let v679 : BitVec 32 := Scalar.muli c16_i32_224 arg23
  let v682 : Index := Scalar.indexCast v679
  ![v680.toNat, 6, v682.toNat]
def k1_off36 (v21 : BitVec 32) (v23 : BitVec 32) (k1_t2 : Fin (k1_t2_loop v21 v23).trips) (k1_t6 : Fin (k1_t6_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v688 : Index := Scalar.indexCast arg14
  let c7_i32_227 : BitVec 32 := 7#32
  let v689 : Index := Scalar.indexCast c7_i32_227
  let c16_i32_226 : BitVec 32 := 16#32
  let c128_i32_194 : BitVec 32 := 128#32
  let c0_i32_193 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t6
  let v687 : BitVec 32 := Scalar.muli c16_i32_226 arg23
  let v690 : Index := Scalar.indexCast v687
  ![v688.toNat, 7, v690.toNat]
@[reducible] def k1_t7_loop (v21 : BitVec 32) (v23 : BitVec 32) (k1_t2 : Fin (k1_t2_loop v21 v23).trips) : Scf.Loop 32 :=
  let c128_i32_196 : BitVec 32 := 128#32
  let c0_i32_195 : BitVec 32 := 0#32
  let c7_i32_9 : BitVec 32 := 7#32
  let v25 : BitVec 32 := Scalar.shrui v21 c7_i32_9
  let c0_i32_19 : BitVec 32 := 0#32
  let c1_i32_21 : BitVec 32 := 1#32
  let arg14 : BitVec 32 := Scf.iv c0_i32_19 c1_i32_21 k1_t2
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_209 : BitVec 32 := 1#32
  ⟨v612, v619, c1_i32_209⟩
def k1_off37 (v21 : BitVec 32) (v23 : BitVec 32) (k1_t2 : Fin (k1_t2_loop v21 v23).trips) (k1_t7 : Fin (k1_t7_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v632 : Index := Scalar.indexCast arg14
  let c0_i32_213 : BitVec 32 := 0#32
  let v633 : Index := Scalar.indexCast c0_i32_213
  let c16_i32_212 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t7
  let v631 : BitVec 32 := Scalar.muli c16_i32_212 arg23
  let v634 : Index := Scalar.indexCast v631
  ![v632.toNat, 0, v634.toNat]
def k1_off38 (v21 : BitVec 32) (v23 : BitVec 32) (k1_t2 : Fin (k1_t2_loop v21 v23).trips) (k1_t7 : Fin (k1_t7_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v640 : Index := Scalar.indexCast arg14
  let c1_i32_215 : BitVec 32 := 1#32
  let v641 : Index := Scalar.indexCast c1_i32_215
  let c16_i32_214 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t7
  let v639 : BitVec 32 := Scalar.muli c16_i32_214 arg23
  let v642 : Index := Scalar.indexCast v639
  ![v640.toNat, 1, v642.toNat]
def k1_off39 (v21 : BitVec 32) (v23 : BitVec 32) (k1_t2 : Fin (k1_t2_loop v21 v23).trips) (k1_t7 : Fin (k1_t7_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v648 : Index := Scalar.indexCast arg14
  let c2_i32_217 : BitVec 32 := 2#32
  let v649 : Index := Scalar.indexCast c2_i32_217
  let c16_i32_216 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t7
  let v647 : BitVec 32 := Scalar.muli c16_i32_216 arg23
  let v650 : Index := Scalar.indexCast v647
  ![v648.toNat, 2, v650.toNat]
def k1_off40 (v21 : BitVec 32) (v23 : BitVec 32) (k1_t2 : Fin (k1_t2_loop v21 v23).trips) (k1_t7 : Fin (k1_t7_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v656 : Index := Scalar.indexCast arg14
  let c3_i32_219 : BitVec 32 := 3#32
  let v657 : Index := Scalar.indexCast c3_i32_219
  let c16_i32_218 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t7
  let v655 : BitVec 32 := Scalar.muli c16_i32_218 arg23
  let v658 : Index := Scalar.indexCast v655
  ![v656.toNat, 3, v658.toNat]
def k1_off41 (v21 : BitVec 32) (v23 : BitVec 32) (k1_t2 : Fin (k1_t2_loop v21 v23).trips) (k1_t7 : Fin (k1_t7_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v664 : Index := Scalar.indexCast arg14
  let c4_i32_221 : BitVec 32 := 4#32
  let v665 : Index := Scalar.indexCast c4_i32_221
  let c16_i32_220 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t7
  let v663 : BitVec 32 := Scalar.muli c16_i32_220 arg23
  let v666 : Index := Scalar.indexCast v663
  ![v664.toNat, 4, v666.toNat]
def k1_off42 (v21 : BitVec 32) (v23 : BitVec 32) (k1_t2 : Fin (k1_t2_loop v21 v23).trips) (k1_t7 : Fin (k1_t7_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v672 : Index := Scalar.indexCast arg14
  let c5_i32_223 : BitVec 32 := 5#32
  let v673 : Index := Scalar.indexCast c5_i32_223
  let c16_i32_222 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t7
  let v671 : BitVec 32 := Scalar.muli c16_i32_222 arg23
  let v674 : Index := Scalar.indexCast v671
  ![v672.toNat, 5, v674.toNat]
def k1_off43 (v21 : BitVec 32) (v23 : BitVec 32) (k1_t2 : Fin (k1_t2_loop v21 v23).trips) (k1_t7 : Fin (k1_t7_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v680 : Index := Scalar.indexCast arg14
  let c6_i32_225 : BitVec 32 := 6#32
  let v681 : Index := Scalar.indexCast c6_i32_225
  let c16_i32_224 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t7
  let v679 : BitVec 32 := Scalar.muli c16_i32_224 arg23
  let v682 : Index := Scalar.indexCast v679
  ![v680.toNat, 6, v682.toNat]
def k1_off44 (v21 : BitVec 32) (v23 : BitVec 32) (k1_t2 : Fin (k1_t2_loop v21 v23).trips) (k1_t7 : Fin (k1_t7_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v688 : Index := Scalar.indexCast arg14
  let c7_i32_227 : BitVec 32 := 7#32
  let v689 : Index := Scalar.indexCast c7_i32_227
  let c16_i32_226 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t7
  let v687 : BitVec 32 := Scalar.muli c16_i32_226 arg23
  let v690 : Index := Scalar.indexCast v687
  ![v688.toNat, 7, v690.toNat]
@[reducible] def k1_t8_loop (v21 : BitVec 32) (v23 : BitVec 32) (k1_t2 : Fin (k1_t2_loop v21 v23).trips) : Scf.Loop 32 :=
  let c128_i32_196 : BitVec 32 := 128#32
  let c0_i32_195 : BitVec 32 := 0#32
  let c7_i32_9 : BitVec 32 := 7#32
  let v25 : BitVec 32 := Scalar.shrui v21 c7_i32_9
  let c0_i32_19 : BitVec 32 := 0#32
  let c1_i32_21 : BitVec 32 := 1#32
  let arg14 : BitVec 32 := Scf.iv c0_i32_19 c1_i32_21 k1_t2
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let v616 : BitVec 32 := Scalar.addi v612 v615
  let c1_i32_210 : BitVec 32 := 1#32
  ⟨v619, v616, c1_i32_210⟩
def k1_off45 (v21 : BitVec 32) (v23 : BitVec 32) (k1_t2 : Fin (k1_t2_loop v21 v23).trips) (k1_t8 : Fin (k1_t8_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v632 : Index := Scalar.indexCast arg14
  let c0_i32_213 : BitVec 32 := 0#32
  let v633 : Index := Scalar.indexCast c0_i32_213
  let c16_i32_212 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t8
  let v631 : BitVec 32 := Scalar.muli c16_i32_212 arg23
  let v634 : Index := Scalar.indexCast v631
  ![v632.toNat, 0, v634.toNat]
def k1_off46 (v21 : BitVec 32) (v23 : BitVec 32) (k1_t2 : Fin (k1_t2_loop v21 v23).trips) (k1_t8 : Fin (k1_t8_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v640 : Index := Scalar.indexCast arg14
  let c1_i32_215 : BitVec 32 := 1#32
  let v641 : Index := Scalar.indexCast c1_i32_215
  let c16_i32_214 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t8
  let v639 : BitVec 32 := Scalar.muli c16_i32_214 arg23
  let v642 : Index := Scalar.indexCast v639
  ![v640.toNat, 1, v642.toNat]
def k1_off47 (v21 : BitVec 32) (v23 : BitVec 32) (k1_t2 : Fin (k1_t2_loop v21 v23).trips) (k1_t8 : Fin (k1_t8_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v648 : Index := Scalar.indexCast arg14
  let c2_i32_217 : BitVec 32 := 2#32
  let v649 : Index := Scalar.indexCast c2_i32_217
  let c16_i32_216 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t8
  let v647 : BitVec 32 := Scalar.muli c16_i32_216 arg23
  let v650 : Index := Scalar.indexCast v647
  ![v648.toNat, 2, v650.toNat]
def k1_off48 (v21 : BitVec 32) (v23 : BitVec 32) (k1_t2 : Fin (k1_t2_loop v21 v23).trips) (k1_t8 : Fin (k1_t8_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v656 : Index := Scalar.indexCast arg14
  let c3_i32_219 : BitVec 32 := 3#32
  let v657 : Index := Scalar.indexCast c3_i32_219
  let c16_i32_218 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t8
  let v655 : BitVec 32 := Scalar.muli c16_i32_218 arg23
  let v658 : Index := Scalar.indexCast v655
  ![v656.toNat, 3, v658.toNat]
def k1_off49 (v21 : BitVec 32) (v23 : BitVec 32) (k1_t2 : Fin (k1_t2_loop v21 v23).trips) (k1_t8 : Fin (k1_t8_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v664 : Index := Scalar.indexCast arg14
  let c4_i32_221 : BitVec 32 := 4#32
  let v665 : Index := Scalar.indexCast c4_i32_221
  let c16_i32_220 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t8
  let v663 : BitVec 32 := Scalar.muli c16_i32_220 arg23
  let v666 : Index := Scalar.indexCast v663
  ![v664.toNat, 4, v666.toNat]
def k1_off50 (v21 : BitVec 32) (v23 : BitVec 32) (k1_t2 : Fin (k1_t2_loop v21 v23).trips) (k1_t8 : Fin (k1_t8_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v672 : Index := Scalar.indexCast arg14
  let c5_i32_223 : BitVec 32 := 5#32
  let v673 : Index := Scalar.indexCast c5_i32_223
  let c16_i32_222 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t8
  let v671 : BitVec 32 := Scalar.muli c16_i32_222 arg23
  let v674 : Index := Scalar.indexCast v671
  ![v672.toNat, 5, v674.toNat]
def k1_off51 (v21 : BitVec 32) (v23 : BitVec 32) (k1_t2 : Fin (k1_t2_loop v21 v23).trips) (k1_t8 : Fin (k1_t8_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v680 : Index := Scalar.indexCast arg14
  let c6_i32_225 : BitVec 32 := 6#32
  let v681 : Index := Scalar.indexCast c6_i32_225
  let c16_i32_224 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t8
  let v679 : BitVec 32 := Scalar.muli c16_i32_224 arg23
  let v682 : Index := Scalar.indexCast v679
  ![v680.toNat, 6, v682.toNat]
def k1_off52 (v21 : BitVec 32) (v23 : BitVec 32) (k1_t2 : Fin (k1_t2_loop v21 v23).trips) (k1_t8 : Fin (k1_t8_loop v21 v23 k1_t2).trips) : Fin 3 → Nat :=
  let c0_i32_19 : BitVec 32 := 0#32
  let c1_i32_21 : BitVec 32 := 1#32
  let arg14 : BitVec 32 := Scf.iv c0_i32_19 c1_i32_21 k1_t2
  let v688 : Index := Scalar.indexCast arg14
  let c7_i32_227 : BitVec 32 := 7#32
  let v689 : Index := Scalar.indexCast c7_i32_227
  let c16_i32_226 : BitVec 32 := 16#32
  let c128_i32_196 : BitVec 32 := 128#32
  let c0_i32_195 : BitVec 32 := 0#32
  let c7_i32_9 : BitVec 32 := 7#32
  let v25 : BitVec 32 := Scalar.shrui v21 c7_i32_9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t8
  let v687 : BitVec 32 := Scalar.muli c16_i32_226 arg23
  let v690 : Index := Scalar.indexCast v687
  ![v688.toNat, 7, v690.toNat]
@[reducible] def k1_t9_loop (v21 : BitVec 32) (v23 : BitVec 32) : Scf.Loop 32 :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let v38 : BitVec 32 := Scalar.addi c0_i32_19 v37
  let c1_i32_22 : BitVec 32 := 1#32
  ⟨v41, v38, c1_i32_22⟩
@[reducible] def k1_t10_loop (v21 : BitVec 32) (v23 : BitVec 32) (k1_t9 : Fin (k1_t9_loop v21 v23).trips) : Scf.Loop 32 :=
  let c128_i32_194 : BitVec 32 := 128#32
  let c0_i32_193 : BitVec 32 := 0#32
  let c7_i32_9 : BitVec 32 := 7#32
  let v25 : BitVec 32 := Scalar.shrui v21 c7_i32_9
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_200 : BitVec 32 := 1#32
  ⟨v595, v601, c1_i32_200⟩
def k1_off53 (v21 : BitVec 32) (v23 : BitVec 32) (k1_t9 : Fin (k1_t9_loop v21 v23).trips) (k1_t10 : Fin (k1_t10_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v623 : Index := Scalar.indexCast arg14
  let c0_i32_212 : BitVec 32 := 0#32
  let v624 : Index := Scalar.indexCast c0_i32_212
  let c16_i32_211 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t10
  let v622 : BitVec 32 := Scalar.muli c16_i32_211 arg23
  let v625 : Index := Scalar.indexCast v622
  ![v623.toNat, 0, v625.toNat]
def k1_off54 (v21 : BitVec 32) (v23 : BitVec 32) (k1_t9 : Fin (k1_t9_loop v21 v23).trips) (k1_t10 : Fin (k1_t10_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v630 : Index := Scalar.indexCast arg14
  let c1_i32_214 : BitVec 32 := 1#32
  let v631 : Index := Scalar.indexCast c1_i32_214
  let c16_i32_213 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t10
  let v629 : BitVec 32 := Scalar.muli c16_i32_213 arg23
  let v632 : Index := Scalar.indexCast v629
  ![v630.toNat, 1, v632.toNat]
def k1_off55 (v21 : BitVec 32) (v23 : BitVec 32) (k1_t9 : Fin (k1_t9_loop v21 v23).trips) (k1_t10 : Fin (k1_t10_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v637 : Index := Scalar.indexCast arg14
  let c2_i32_216 : BitVec 32 := 2#32
  let v638 : Index := Scalar.indexCast c2_i32_216
  let c16_i32_215 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t10
  let v636 : BitVec 32 := Scalar.muli c16_i32_215 arg23
  let v639 : Index := Scalar.indexCast v636
  ![v637.toNat, 2, v639.toNat]
def k1_off56 (v21 : BitVec 32) (v23 : BitVec 32) (k1_t9 : Fin (k1_t9_loop v21 v23).trips) (k1_t10 : Fin (k1_t10_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v644 : Index := Scalar.indexCast arg14
  let c3_i32_218 : BitVec 32 := 3#32
  let v645 : Index := Scalar.indexCast c3_i32_218
  let c16_i32_217 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t10
  let v643 : BitVec 32 := Scalar.muli c16_i32_217 arg23
  let v646 : Index := Scalar.indexCast v643
  ![v644.toNat, 3, v646.toNat]
def k1_off57 (v21 : BitVec 32) (v23 : BitVec 32) (k1_t9 : Fin (k1_t9_loop v21 v23).trips) (k1_t10 : Fin (k1_t10_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v651 : Index := Scalar.indexCast arg14
  let c4_i32_220 : BitVec 32 := 4#32
  let v652 : Index := Scalar.indexCast c4_i32_220
  let c16_i32_219 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t10
  let v650 : BitVec 32 := Scalar.muli c16_i32_219 arg23
  let v653 : Index := Scalar.indexCast v650
  ![v651.toNat, 4, v653.toNat]
def k1_off58 (v21 : BitVec 32) (v23 : BitVec 32) (k1_t9 : Fin (k1_t9_loop v21 v23).trips) (k1_t10 : Fin (k1_t10_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v658 : Index := Scalar.indexCast arg14
  let c5_i32_222 : BitVec 32 := 5#32
  let v659 : Index := Scalar.indexCast c5_i32_222
  let c16_i32_221 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t10
  let v657 : BitVec 32 := Scalar.muli c16_i32_221 arg23
  let v660 : Index := Scalar.indexCast v657
  ![v658.toNat, 5, v660.toNat]
def k1_off59 (v21 : BitVec 32) (v23 : BitVec 32) (k1_t9 : Fin (k1_t9_loop v21 v23).trips) (k1_t10 : Fin (k1_t10_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v665 : Index := Scalar.indexCast arg14
  let c6_i32_224 : BitVec 32 := 6#32
  let v666 : Index := Scalar.indexCast c6_i32_224
  let c16_i32_223 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t10
  let v664 : BitVec 32 := Scalar.muli c16_i32_223 arg23
  let v667 : Index := Scalar.indexCast v664
  ![v665.toNat, 6, v667.toNat]
def k1_off60 (v21 : BitVec 32) (v23 : BitVec 32) (k1_t9 : Fin (k1_t9_loop v21 v23).trips) (k1_t10 : Fin (k1_t10_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v672 : Index := Scalar.indexCast arg14
  let c7_i32_226 : BitVec 32 := 7#32
  let v673 : Index := Scalar.indexCast c7_i32_226
  let c16_i32_225 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t10
  let v671 : BitVec 32 := Scalar.muli c16_i32_225 arg23
  let v674 : Index := Scalar.indexCast v671
  ![v672.toNat, 7, v674.toNat]
@[reducible] def k1_t11_loop (v21 : BitVec 32) (v23 : BitVec 32) (k1_t9 : Fin (k1_t9_loop v21 v23).trips) : Scf.Loop 32 :=
  let c128_i32_194 : BitVec 32 := 128#32
  let c0_i32_193 : BitVec 32 := 0#32
  let c7_i32_9 : BitVec 32 := 7#32
  let v25 : BitVec 32 := Scalar.shrui v21 c7_i32_9
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let v598 : BitVec 32 := Scalar.addi v595 v597
  let c1_i32_201 : BitVec 32 := 1#32
  ⟨v601, v598, c1_i32_201⟩
def k1_off61 (v21 : BitVec 32) (v23 : BitVec 32) (k1_t9 : Fin (k1_t9_loop v21 v23).trips) (k1_t11 : Fin (k1_t11_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v623 : Index := Scalar.indexCast arg14
  let c0_i32_212 : BitVec 32 := 0#32
  let v624 : Index := Scalar.indexCast c0_i32_212
  let c16_i32_211 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t11
  let v622 : BitVec 32 := Scalar.muli c16_i32_211 arg23
  let v625 : Index := Scalar.indexCast v622
  ![v623.toNat, 0, v625.toNat]
def k1_off62 (v21 : BitVec 32) (v23 : BitVec 32) (k1_t9 : Fin (k1_t9_loop v21 v23).trips) (k1_t11 : Fin (k1_t11_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v630 : Index := Scalar.indexCast arg14
  let c1_i32_214 : BitVec 32 := 1#32
  let v631 : Index := Scalar.indexCast c1_i32_214
  let c16_i32_213 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t11
  let v629 : BitVec 32 := Scalar.muli c16_i32_213 arg23
  let v632 : Index := Scalar.indexCast v629
  ![v630.toNat, 1, v632.toNat]
def k1_off63 (v21 : BitVec 32) (v23 : BitVec 32) (k1_t9 : Fin (k1_t9_loop v21 v23).trips) (k1_t11 : Fin (k1_t11_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v637 : Index := Scalar.indexCast arg14
  let c2_i32_216 : BitVec 32 := 2#32
  let v638 : Index := Scalar.indexCast c2_i32_216
  let c16_i32_215 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t11
  let v636 : BitVec 32 := Scalar.muli c16_i32_215 arg23
  let v639 : Index := Scalar.indexCast v636
  ![v637.toNat, 2, v639.toNat]
def k1_off64 (v21 : BitVec 32) (v23 : BitVec 32) (k1_t9 : Fin (k1_t9_loop v21 v23).trips) (k1_t11 : Fin (k1_t11_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v644 : Index := Scalar.indexCast arg14
  let c3_i32_218 : BitVec 32 := 3#32
  let v645 : Index := Scalar.indexCast c3_i32_218
  let c16_i32_217 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t11
  let v643 : BitVec 32 := Scalar.muli c16_i32_217 arg23
  let v646 : Index := Scalar.indexCast v643
  ![v644.toNat, 3, v646.toNat]
def k1_off65 (v21 : BitVec 32) (v23 : BitVec 32) (k1_t9 : Fin (k1_t9_loop v21 v23).trips) (k1_t11 : Fin (k1_t11_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v651 : Index := Scalar.indexCast arg14
  let c4_i32_220 : BitVec 32 := 4#32
  let v652 : Index := Scalar.indexCast c4_i32_220
  let c16_i32_219 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t11
  let v650 : BitVec 32 := Scalar.muli c16_i32_219 arg23
  let v653 : Index := Scalar.indexCast v650
  ![v651.toNat, 4, v653.toNat]
def k1_off66 (v21 : BitVec 32) (v23 : BitVec 32) (k1_t9 : Fin (k1_t9_loop v21 v23).trips) (k1_t11 : Fin (k1_t11_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v658 : Index := Scalar.indexCast arg14
  let c5_i32_222 : BitVec 32 := 5#32
  let v659 : Index := Scalar.indexCast c5_i32_222
  let c16_i32_221 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t11
  let v657 : BitVec 32 := Scalar.muli c16_i32_221 arg23
  let v660 : Index := Scalar.indexCast v657
  ![v658.toNat, 5, v660.toNat]
def k1_off67 (v21 : BitVec 32) (v23 : BitVec 32) (k1_t9 : Fin (k1_t9_loop v21 v23).trips) (k1_t11 : Fin (k1_t11_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v665 : Index := Scalar.indexCast arg14
  let c6_i32_224 : BitVec 32 := 6#32
  let v666 : Index := Scalar.indexCast c6_i32_224
  let c16_i32_223 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t11
  let v664 : BitVec 32 := Scalar.muli c16_i32_223 arg23
  let v667 : Index := Scalar.indexCast v664
  ![v665.toNat, 6, v667.toNat]
def k1_off68 (v21 : BitVec 32) (v23 : BitVec 32) (k1_t9 : Fin (k1_t9_loop v21 v23).trips) (k1_t11 : Fin (k1_t11_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v672 : Index := Scalar.indexCast arg14
  let c7_i32_226 : BitVec 32 := 7#32
  let v673 : Index := Scalar.indexCast c7_i32_226
  let c16_i32_225 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t11
  let v671 : BitVec 32 := Scalar.muli c16_i32_225 arg23
  let v674 : Index := Scalar.indexCast v671
  ![v672.toNat, 7, v674.toNat]
@[reducible] def k1_t12_loop (v21 : BitVec 32) (v23 : BitVec 32) (k1_t9 : Fin (k1_t9_loop v21 v23).trips) : Scf.Loop 32 :=
  let c128_i32_194 : BitVec 32 := 128#32
  let c0_i32_193 : BitVec 32 := 0#32
  let c7_i32_9 : BitVec 32 := 7#32
  let v25 : BitVec 32 := Scalar.shrui v21 c7_i32_9
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_204 : BitVec 32 := 1#32
  ⟨v604, v609, c1_i32_204⟩
def k1_off69 (v21 : BitVec 32) (v23 : BitVec 32) (k1_t9 : Fin (k1_t9_loop v21 v23).trips) (k1_t12 : Fin (k1_t12_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v632 : Index := Scalar.indexCast arg14
  let c0_i32_213 : BitVec 32 := 0#32
  let v633 : Index := Scalar.indexCast c0_i32_213
  let c16_i32_212 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t12
  let v631 : BitVec 32 := Scalar.muli c16_i32_212 arg23
  let v634 : Index := Scalar.indexCast v631
  ![v632.toNat, 0, v634.toNat]
def k1_off70 (v21 : BitVec 32) (v23 : BitVec 32) (k1_t9 : Fin (k1_t9_loop v21 v23).trips) (k1_t12 : Fin (k1_t12_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v640 : Index := Scalar.indexCast arg14
  let c1_i32_215 : BitVec 32 := 1#32
  let v641 : Index := Scalar.indexCast c1_i32_215
  let c16_i32_214 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t12
  let v639 : BitVec 32 := Scalar.muli c16_i32_214 arg23
  let v642 : Index := Scalar.indexCast v639
  ![v640.toNat, 1, v642.toNat]
def k1_off71 (v21 : BitVec 32) (v23 : BitVec 32) (k1_t9 : Fin (k1_t9_loop v21 v23).trips) (k1_t12 : Fin (k1_t12_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v648 : Index := Scalar.indexCast arg14
  let c2_i32_217 : BitVec 32 := 2#32
  let v649 : Index := Scalar.indexCast c2_i32_217
  let c16_i32_216 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t12
  let v647 : BitVec 32 := Scalar.muli c16_i32_216 arg23
  let v650 : Index := Scalar.indexCast v647
  ![v648.toNat, 2, v650.toNat]
def k1_off72 (v21 : BitVec 32) (v23 : BitVec 32) (k1_t9 : Fin (k1_t9_loop v21 v23).trips) (k1_t12 : Fin (k1_t12_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v656 : Index := Scalar.indexCast arg14
  let c3_i32_219 : BitVec 32 := 3#32
  let v657 : Index := Scalar.indexCast c3_i32_219
  let c16_i32_218 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t12
  let v655 : BitVec 32 := Scalar.muli c16_i32_218 arg23
  let v658 : Index := Scalar.indexCast v655
  ![v656.toNat, 3, v658.toNat]
def k1_off73 (v21 : BitVec 32) (v23 : BitVec 32) (k1_t9 : Fin (k1_t9_loop v21 v23).trips) (k1_t12 : Fin (k1_t12_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v664 : Index := Scalar.indexCast arg14
  let c4_i32_221 : BitVec 32 := 4#32
  let v665 : Index := Scalar.indexCast c4_i32_221
  let c16_i32_220 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t12
  let v663 : BitVec 32 := Scalar.muli c16_i32_220 arg23
  let v666 : Index := Scalar.indexCast v663
  ![v664.toNat, 4, v666.toNat]
def k1_off74 (v21 : BitVec 32) (v23 : BitVec 32) (k1_t9 : Fin (k1_t9_loop v21 v23).trips) (k1_t12 : Fin (k1_t12_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v672 : Index := Scalar.indexCast arg14
  let c5_i32_223 : BitVec 32 := 5#32
  let v673 : Index := Scalar.indexCast c5_i32_223
  let c16_i32_222 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t12
  let v671 : BitVec 32 := Scalar.muli c16_i32_222 arg23
  let v674 : Index := Scalar.indexCast v671
  ![v672.toNat, 5, v674.toNat]
def k1_off75 (v21 : BitVec 32) (v23 : BitVec 32) (k1_t9 : Fin (k1_t9_loop v21 v23).trips) (k1_t12 : Fin (k1_t12_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v680 : Index := Scalar.indexCast arg14
  let c6_i32_225 : BitVec 32 := 6#32
  let v681 : Index := Scalar.indexCast c6_i32_225
  let c16_i32_224 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t12
  let v679 : BitVec 32 := Scalar.muli c16_i32_224 arg23
  let v682 : Index := Scalar.indexCast v679
  ![v680.toNat, 6, v682.toNat]
def k1_off76 (v21 : BitVec 32) (v23 : BitVec 32) (k1_t9 : Fin (k1_t9_loop v21 v23).trips) (k1_t12 : Fin (k1_t12_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v688 : Index := Scalar.indexCast arg14
  let c7_i32_227 : BitVec 32 := 7#32
  let v689 : Index := Scalar.indexCast c7_i32_227
  let c16_i32_226 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t12
  let v687 : BitVec 32 := Scalar.muli c16_i32_226 arg23
  let v690 : Index := Scalar.indexCast v687
  ![v688.toNat, 7, v690.toNat]
@[reducible] def k1_t13_loop (v21 : BitVec 32) (v23 : BitVec 32) (k1_t9 : Fin (k1_t9_loop v21 v23).trips) : Scf.Loop 32 :=
  let c128_i32_194 : BitVec 32 := 128#32
  let c0_i32_193 : BitVec 32 := 0#32
  let c7_i32_9 : BitVec 32 := 7#32
  let v25 : BitVec 32 := Scalar.shrui v21 c7_i32_9
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let v606 : BitVec 32 := Scalar.addi v604 v605
  let c1_i32_205 : BitVec 32 := 1#32
  ⟨v609, v606, c1_i32_205⟩
def k1_off77 (v21 : BitVec 32) (v23 : BitVec 32) (k1_t9 : Fin (k1_t9_loop v21 v23).trips) (k1_t13 : Fin (k1_t13_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v632 : Index := Scalar.indexCast arg14
  let c0_i32_213 : BitVec 32 := 0#32
  let v633 : Index := Scalar.indexCast c0_i32_213
  let c16_i32_212 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t13
  let v631 : BitVec 32 := Scalar.muli c16_i32_212 arg23
  let v634 : Index := Scalar.indexCast v631
  ![v632.toNat, 0, v634.toNat]
def k1_off78 (v21 : BitVec 32) (v23 : BitVec 32) (k1_t9 : Fin (k1_t9_loop v21 v23).trips) (k1_t13 : Fin (k1_t13_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v640 : Index := Scalar.indexCast arg14
  let c1_i32_215 : BitVec 32 := 1#32
  let v641 : Index := Scalar.indexCast c1_i32_215
  let c16_i32_214 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t13
  let v639 : BitVec 32 := Scalar.muli c16_i32_214 arg23
  let v642 : Index := Scalar.indexCast v639
  ![v640.toNat, 1, v642.toNat]
def k1_off79 (v21 : BitVec 32) (v23 : BitVec 32) (k1_t9 : Fin (k1_t9_loop v21 v23).trips) (k1_t13 : Fin (k1_t13_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v648 : Index := Scalar.indexCast arg14
  let c2_i32_217 : BitVec 32 := 2#32
  let v649 : Index := Scalar.indexCast c2_i32_217
  let c16_i32_216 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t13
  let v647 : BitVec 32 := Scalar.muli c16_i32_216 arg23
  let v650 : Index := Scalar.indexCast v647
  ![v648.toNat, 2, v650.toNat]
def k1_off80 (v21 : BitVec 32) (v23 : BitVec 32) (k1_t9 : Fin (k1_t9_loop v21 v23).trips) (k1_t13 : Fin (k1_t13_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v656 : Index := Scalar.indexCast arg14
  let c3_i32_219 : BitVec 32 := 3#32
  let v657 : Index := Scalar.indexCast c3_i32_219
  let c16_i32_218 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t13
  let v655 : BitVec 32 := Scalar.muli c16_i32_218 arg23
  let v658 : Index := Scalar.indexCast v655
  ![v656.toNat, 3, v658.toNat]
def k1_off81 (v21 : BitVec 32) (v23 : BitVec 32) (k1_t9 : Fin (k1_t9_loop v21 v23).trips) (k1_t13 : Fin (k1_t13_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v664 : Index := Scalar.indexCast arg14
  let c4_i32_221 : BitVec 32 := 4#32
  let v665 : Index := Scalar.indexCast c4_i32_221
  let c16_i32_220 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t13
  let v663 : BitVec 32 := Scalar.muli c16_i32_220 arg23
  let v666 : Index := Scalar.indexCast v663
  ![v664.toNat, 4, v666.toNat]
def k1_off82 (v21 : BitVec 32) (v23 : BitVec 32) (k1_t9 : Fin (k1_t9_loop v21 v23).trips) (k1_t13 : Fin (k1_t13_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v672 : Index := Scalar.indexCast arg14
  let c5_i32_223 : BitVec 32 := 5#32
  let v673 : Index := Scalar.indexCast c5_i32_223
  let c16_i32_222 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t13
  let v671 : BitVec 32 := Scalar.muli c16_i32_222 arg23
  let v674 : Index := Scalar.indexCast v671
  ![v672.toNat, 5, v674.toNat]
def k1_off83 (v21 : BitVec 32) (v23 : BitVec 32) (k1_t9 : Fin (k1_t9_loop v21 v23).trips) (k1_t13 : Fin (k1_t13_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v680 : Index := Scalar.indexCast arg14
  let c6_i32_225 : BitVec 32 := 6#32
  let v681 : Index := Scalar.indexCast c6_i32_225
  let c16_i32_224 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t13
  let v679 : BitVec 32 := Scalar.muli c16_i32_224 arg23
  let v682 : Index := Scalar.indexCast v679
  ![v680.toNat, 6, v682.toNat]
def k1_off84 (v21 : BitVec 32) (v23 : BitVec 32) (k1_t9 : Fin (k1_t9_loop v21 v23).trips) (k1_t13 : Fin (k1_t13_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v688 : Index := Scalar.indexCast arg14
  let c7_i32_227 : BitVec 32 := 7#32
  let v689 : Index := Scalar.indexCast c7_i32_227
  let c16_i32_226 : BitVec 32 := 16#32
  let c128_i32_194 : BitVec 32 := 128#32
  let c0_i32_193 : BitVec 32 := 0#32
  let v586 : BitVec 32 := Scalar.addi v25 arg14
  let c128_i32 : BitVec 32 := 128#32
  let v587 : BitVec 32 := Scalar.muli v586 c128_i32
  let v588 : BitVec 32 := Scalar.subi v21 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t13
  let v687 : BitVec 32 := Scalar.muli c16_i32_226 arg23
  let v690 : Index := Scalar.indexCast v687
  ![v688.toNat, 7, v690.toNat]
@[reducible] def k1_t14_loop (v21 : BitVec 32) (v23 : BitVec 32) (k1_t9 : Fin (k1_t9_loop v21 v23).trips) : Scf.Loop 32 :=
  let c128_i32_196 : BitVec 32 := 128#32
  let c0_i32_195 : BitVec 32 := 0#32
  let c7_i32_9 : BitVec 32 := 7#32
  let v25 : BitVec 32 := Scalar.shrui v21 c7_i32_9
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_209 : BitVec 32 := 1#32
  ⟨v612, v619, c1_i32_209⟩
def k1_off85 (v21 : BitVec 32) (v23 : BitVec 32) (k1_t9 : Fin (k1_t9_loop v21 v23).trips) (k1_t14 : Fin (k1_t14_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v632 : Index := Scalar.indexCast arg14
  let c0_i32_213 : BitVec 32 := 0#32
  let v633 : Index := Scalar.indexCast c0_i32_213
  let c16_i32_212 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t14
  let v631 : BitVec 32 := Scalar.muli c16_i32_212 arg23
  let v634 : Index := Scalar.indexCast v631
  ![v632.toNat, 0, v634.toNat]
def k1_off86 (v21 : BitVec 32) (v23 : BitVec 32) (k1_t9 : Fin (k1_t9_loop v21 v23).trips) (k1_t14 : Fin (k1_t14_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v640 : Index := Scalar.indexCast arg14
  let c1_i32_215 : BitVec 32 := 1#32
  let v641 : Index := Scalar.indexCast c1_i32_215
  let c16_i32_214 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t14
  let v639 : BitVec 32 := Scalar.muli c16_i32_214 arg23
  let v642 : Index := Scalar.indexCast v639
  ![v640.toNat, 1, v642.toNat]
def k1_off87 (v21 : BitVec 32) (v23 : BitVec 32) (k1_t9 : Fin (k1_t9_loop v21 v23).trips) (k1_t14 : Fin (k1_t14_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v648 : Index := Scalar.indexCast arg14
  let c2_i32_217 : BitVec 32 := 2#32
  let v649 : Index := Scalar.indexCast c2_i32_217
  let c16_i32_216 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t14
  let v647 : BitVec 32 := Scalar.muli c16_i32_216 arg23
  let v650 : Index := Scalar.indexCast v647
  ![v648.toNat, 2, v650.toNat]
def k1_off88 (v21 : BitVec 32) (v23 : BitVec 32) (k1_t9 : Fin (k1_t9_loop v21 v23).trips) (k1_t14 : Fin (k1_t14_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v656 : Index := Scalar.indexCast arg14
  let c3_i32_219 : BitVec 32 := 3#32
  let v657 : Index := Scalar.indexCast c3_i32_219
  let c16_i32_218 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t14
  let v655 : BitVec 32 := Scalar.muli c16_i32_218 arg23
  let v658 : Index := Scalar.indexCast v655
  ![v656.toNat, 3, v658.toNat]
def k1_off89 (v21 : BitVec 32) (v23 : BitVec 32) (k1_t9 : Fin (k1_t9_loop v21 v23).trips) (k1_t14 : Fin (k1_t14_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v664 : Index := Scalar.indexCast arg14
  let c4_i32_221 : BitVec 32 := 4#32
  let v665 : Index := Scalar.indexCast c4_i32_221
  let c16_i32_220 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t14
  let v663 : BitVec 32 := Scalar.muli c16_i32_220 arg23
  let v666 : Index := Scalar.indexCast v663
  ![v664.toNat, 4, v666.toNat]
def k1_off90 (v21 : BitVec 32) (v23 : BitVec 32) (k1_t9 : Fin (k1_t9_loop v21 v23).trips) (k1_t14 : Fin (k1_t14_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v672 : Index := Scalar.indexCast arg14
  let c5_i32_223 : BitVec 32 := 5#32
  let v673 : Index := Scalar.indexCast c5_i32_223
  let c16_i32_222 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t14
  let v671 : BitVec 32 := Scalar.muli c16_i32_222 arg23
  let v674 : Index := Scalar.indexCast v671
  ![v672.toNat, 5, v674.toNat]
def k1_off91 (v21 : BitVec 32) (v23 : BitVec 32) (k1_t9 : Fin (k1_t9_loop v21 v23).trips) (k1_t14 : Fin (k1_t14_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v680 : Index := Scalar.indexCast arg14
  let c6_i32_225 : BitVec 32 := 6#32
  let v681 : Index := Scalar.indexCast c6_i32_225
  let c16_i32_224 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t14
  let v679 : BitVec 32 := Scalar.muli c16_i32_224 arg23
  let v682 : Index := Scalar.indexCast v679
  ![v680.toNat, 6, v682.toNat]
def k1_off92 (v21 : BitVec 32) (v23 : BitVec 32) (k1_t9 : Fin (k1_t9_loop v21 v23).trips) (k1_t14 : Fin (k1_t14_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v688 : Index := Scalar.indexCast arg14
  let c7_i32_227 : BitVec 32 := 7#32
  let v689 : Index := Scalar.indexCast c7_i32_227
  let c16_i32_226 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t14
  let v687 : BitVec 32 := Scalar.muli c16_i32_226 arg23
  let v690 : Index := Scalar.indexCast v687
  ![v688.toNat, 7, v690.toNat]
@[reducible] def k1_t15_loop (v21 : BitVec 32) (v23 : BitVec 32) (k1_t9 : Fin (k1_t9_loop v21 v23).trips) : Scf.Loop 32 :=
  let c128_i32_196 : BitVec 32 := 128#32
  let c0_i32_195 : BitVec 32 := 0#32
  let c7_i32_9 : BitVec 32 := 7#32
  let v25 : BitVec 32 := Scalar.shrui v21 c7_i32_9
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let v616 : BitVec 32 := Scalar.addi v612 v615
  let c1_i32_210 : BitVec 32 := 1#32
  ⟨v619, v616, c1_i32_210⟩
def k1_off93 (v21 : BitVec 32) (v23 : BitVec 32) (k1_t9 : Fin (k1_t9_loop v21 v23).trips) (k1_t15 : Fin (k1_t15_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v632 : Index := Scalar.indexCast arg14
  let c0_i32_213 : BitVec 32 := 0#32
  let v633 : Index := Scalar.indexCast c0_i32_213
  let c16_i32_212 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t15
  let v631 : BitVec 32 := Scalar.muli c16_i32_212 arg23
  let v634 : Index := Scalar.indexCast v631
  ![v632.toNat, 0, v634.toNat]
def k1_off94 (v21 : BitVec 32) (v23 : BitVec 32) (k1_t9 : Fin (k1_t9_loop v21 v23).trips) (k1_t15 : Fin (k1_t15_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v640 : Index := Scalar.indexCast arg14
  let c1_i32_215 : BitVec 32 := 1#32
  let v641 : Index := Scalar.indexCast c1_i32_215
  let c16_i32_214 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t15
  let v639 : BitVec 32 := Scalar.muli c16_i32_214 arg23
  let v642 : Index := Scalar.indexCast v639
  ![v640.toNat, 1, v642.toNat]
def k1_off95 (v21 : BitVec 32) (v23 : BitVec 32) (k1_t9 : Fin (k1_t9_loop v21 v23).trips) (k1_t15 : Fin (k1_t15_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v648 : Index := Scalar.indexCast arg14
  let c2_i32_217 : BitVec 32 := 2#32
  let v649 : Index := Scalar.indexCast c2_i32_217
  let c16_i32_216 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t15
  let v647 : BitVec 32 := Scalar.muli c16_i32_216 arg23
  let v650 : Index := Scalar.indexCast v647
  ![v648.toNat, 2, v650.toNat]
def k1_off96 (v21 : BitVec 32) (v23 : BitVec 32) (k1_t9 : Fin (k1_t9_loop v21 v23).trips) (k1_t15 : Fin (k1_t15_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v656 : Index := Scalar.indexCast arg14
  let c3_i32_219 : BitVec 32 := 3#32
  let v657 : Index := Scalar.indexCast c3_i32_219
  let c16_i32_218 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t15
  let v655 : BitVec 32 := Scalar.muli c16_i32_218 arg23
  let v658 : Index := Scalar.indexCast v655
  ![v656.toNat, 3, v658.toNat]
def k1_off97 (v21 : BitVec 32) (v23 : BitVec 32) (k1_t9 : Fin (k1_t9_loop v21 v23).trips) (k1_t15 : Fin (k1_t15_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v664 : Index := Scalar.indexCast arg14
  let c4_i32_221 : BitVec 32 := 4#32
  let v665 : Index := Scalar.indexCast c4_i32_221
  let c16_i32_220 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t15
  let v663 : BitVec 32 := Scalar.muli c16_i32_220 arg23
  let v666 : Index := Scalar.indexCast v663
  ![v664.toNat, 4, v666.toNat]
def k1_off98 (v21 : BitVec 32) (v23 : BitVec 32) (k1_t9 : Fin (k1_t9_loop v21 v23).trips) (k1_t15 : Fin (k1_t15_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v672 : Index := Scalar.indexCast arg14
  let c5_i32_223 : BitVec 32 := 5#32
  let v673 : Index := Scalar.indexCast c5_i32_223
  let c16_i32_222 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t15
  let v671 : BitVec 32 := Scalar.muli c16_i32_222 arg23
  let v674 : Index := Scalar.indexCast v671
  ![v672.toNat, 5, v674.toNat]
def k1_off99 (v21 : BitVec 32) (v23 : BitVec 32) (k1_t9 : Fin (k1_t9_loop v21 v23).trips) (k1_t15 : Fin (k1_t15_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v680 : Index := Scalar.indexCast arg14
  let c6_i32_225 : BitVec 32 := 6#32
  let v681 : Index := Scalar.indexCast c6_i32_225
  let c16_i32_224 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t15
  let v679 : BitVec 32 := Scalar.muli c16_i32_224 arg23
  let v682 : Index := Scalar.indexCast v679
  ![v680.toNat, 6, v682.toNat]
def k1_off100 (v21 : BitVec 32) (v23 : BitVec 32) (k1_t9 : Fin (k1_t9_loop v21 v23).trips) (k1_t15 : Fin (k1_t15_loop v21 v23 k1_t9).trips) : Fin 3 → Nat :=
  let c0_i32_19 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v35 : BitVec 32 := Scalar.subi v27 v25
  let c4_i32 : BitVec 32 := 4#32
  let v36 : BitVec 32 := Scalar.minsi v35 c4_i32
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg14 : BitVec 32 := Scf.iv v41 c1_i32_22 k1_t9
  let v688 : Index := Scalar.indexCast arg14
  let c7_i32_227 : BitVec 32 := 7#32
  let v689 : Index := Scalar.indexCast c7_i32_227
  let c16_i32_226 : BitVec 32 := 16#32
  let c128_i32_196 : BitVec 32 := 128#32
  let c0_i32_195 : BitVec 32 := 0#32
  let v586 : BitVec 32 := Scalar.addi v25 arg14
  let c128_i32 : BitVec 32 := 128#32
  let v587 : BitVec 32 := Scalar.muli v586 c128_i32
  let v591 : BitVec 32 := Scalar.subi v23 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v21 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t15
  let v687 : BitVec 32 := Scalar.muli c16_i32_226 arg23
  let v690 : Index := Scalar.indexCast v687
  ![v688.toNat, 7, v690.toNat]
@[reducible] def k1_t16_loop (v21 : BitVec 32) (v23 : BitVec 32) : Scf.Loop 32 :=
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_25 : BitVec 32 := 1#32
  ⟨c1_i32_23, v48, c1_i32_25⟩
def k1_off101 (v21 : BitVec 32) (v23 : BitVec 32) (k1_t16 : Fin (k1_t16_loop v21 v23).trips) : Fin 3 → Nat :=
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_199_r1 : BitVec 32 := 0#32
  let c0_i32_200_r1 : BitVec 32 := 0#32
  ![v587.toNat, 0, 0]
@[reducible] def k1_t17_loop (v21 : BitVec 32) (v23 : BitVec 32) (k1_t16 : Fin (k1_t16_loop v21 v23).trips) : Scf.Loop 32 :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_197 : BitVec 32 := 1#32
  ⟨c0_i32_195, v594, c1_i32_197⟩
@[reducible] def k1_t18_loop (v21 : BitVec 32) (v23 : BitVec 32) (k1_t16 : Fin (k1_t16_loop v21 v23).trips) (k1_t17 : Fin (k1_t17_loop v21 v23 k1_t16).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_195 : BitVec 32 := 0#32
  let c1_i32_197 : BitVec 32 := 1#32
  let arg23 : BitVec 32 := Scf.iv c0_i32_195 c1_i32_197 k1_t17
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_206 : BitVec 32 := 1#32
  ⟨v606, v612, c1_i32_206⟩
def k1_off102 (v21 : BitVec 32) (v23 : BitVec 32) (k1_t16 : Fin (k1_t16_loop v21 v23).trips) (k1_t17 : Fin (k1_t17_loop v21 v23 k1_t16).trips) (k1_t18 : Fin (k1_t18_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t18
  let v633 : BitVec 32 := Scalar.muli c16_i32_217 arg32
  let v636 : Index := Scalar.indexCast v633
  ![v634.toNat, 0, v636.toNat]
def k1_off103 (v21 : BitVec 32) (v23 : BitVec 32) (k1_t16 : Fin (k1_t16_loop v21 v23).trips) (k1_t17 : Fin (k1_t17_loop v21 v23 k1_t16).trips) (k1_t18 : Fin (k1_t18_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t18
  let v640 : BitVec 32 := Scalar.muli c16_i32_219 arg32
  let v643 : Index := Scalar.indexCast v640
  ![v641.toNat, 1, v643.toNat]
def k1_off104 (v21 : BitVec 32) (v23 : BitVec 32) (k1_t16 : Fin (k1_t16_loop v21 v23).trips) (k1_t17 : Fin (k1_t17_loop v21 v23 k1_t16).trips) (k1_t18 : Fin (k1_t18_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t18
  let v647 : BitVec 32 := Scalar.muli c16_i32_221 arg32
  let v650 : Index := Scalar.indexCast v647
  ![v648.toNat, 2, v650.toNat]
def k1_off105 (v21 : BitVec 32) (v23 : BitVec 32) (k1_t16 : Fin (k1_t16_loop v21 v23).trips) (k1_t17 : Fin (k1_t17_loop v21 v23 k1_t16).trips) (k1_t18 : Fin (k1_t18_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t18
  let v654 : BitVec 32 := Scalar.muli c16_i32_223 arg32
  let v657 : Index := Scalar.indexCast v654
  ![v655.toNat, 3, v657.toNat]
def k1_off106 (v21 : BitVec 32) (v23 : BitVec 32) (k1_t16 : Fin (k1_t16_loop v21 v23).trips) (k1_t17 : Fin (k1_t17_loop v21 v23 k1_t16).trips) (k1_t18 : Fin (k1_t18_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t18
  let v661 : BitVec 32 := Scalar.muli c16_i32_225 arg32
  let v664 : Index := Scalar.indexCast v661
  ![v662.toNat, 4, v664.toNat]
def k1_off107 (v21 : BitVec 32) (v23 : BitVec 32) (k1_t16 : Fin (k1_t16_loop v21 v23).trips) (k1_t17 : Fin (k1_t17_loop v21 v23 k1_t16).trips) (k1_t18 : Fin (k1_t18_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t18
  let v668 : BitVec 32 := Scalar.muli c16_i32_227 arg32
  let v671 : Index := Scalar.indexCast v668
  ![v669.toNat, 5, v671.toNat]
def k1_off108 (v21 : BitVec 32) (v23 : BitVec 32) (k1_t16 : Fin (k1_t16_loop v21 v23).trips) (k1_t17 : Fin (k1_t17_loop v21 v23 k1_t16).trips) (k1_t18 : Fin (k1_t18_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t18
  let v675 : BitVec 32 := Scalar.muli c16_i32_229 arg32
  let v678 : Index := Scalar.indexCast v675
  ![v676.toNat, 6, v678.toNat]
def k1_off109 (v21 : BitVec 32) (v23 : BitVec 32) (k1_t16 : Fin (k1_t16_loop v21 v23).trips) (k1_t17 : Fin (k1_t17_loop v21 v23 k1_t16).trips) (k1_t18 : Fin (k1_t18_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t18
  let v682 : BitVec 32 := Scalar.muli c16_i32_231 arg32
  let v685 : Index := Scalar.indexCast v682
  ![v683.toNat, 7, v685.toNat]
@[reducible] def k1_t19_loop (v21 : BitVec 32) (v23 : BitVec 32) (k1_t16 : Fin (k1_t16_loop v21 v23).trips) (k1_t17 : Fin (k1_t17_loop v21 v23 k1_t16).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_195 : BitVec 32 := 0#32
  let c1_i32_197 : BitVec 32 := 1#32
  let arg23 : BitVec 32 := Scf.iv c0_i32_195 c1_i32_197 k1_t17
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let v609 : BitVec 32 := Scalar.addi v606 v608
  let c1_i32_207 : BitVec 32 := 1#32
  ⟨v612, v609, c1_i32_207⟩
def k1_off110 (v21 : BitVec 32) (v23 : BitVec 32) (k1_t16 : Fin (k1_t16_loop v21 v23).trips) (k1_t17 : Fin (k1_t17_loop v21 v23 k1_t16).trips) (k1_t19 : Fin (k1_t19_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t19
  let v633 : BitVec 32 := Scalar.muli c16_i32_217 arg32
  let v636 : Index := Scalar.indexCast v633
  ![v634.toNat, 0, v636.toNat]
def k1_off111 (v21 : BitVec 32) (v23 : BitVec 32) (k1_t16 : Fin (k1_t16_loop v21 v23).trips) (k1_t17 : Fin (k1_t17_loop v21 v23 k1_t16).trips) (k1_t19 : Fin (k1_t19_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t19
  let v640 : BitVec 32 := Scalar.muli c16_i32_219 arg32
  let v643 : Index := Scalar.indexCast v640
  ![v641.toNat, 1, v643.toNat]
def k1_off112 (v21 : BitVec 32) (v23 : BitVec 32) (k1_t16 : Fin (k1_t16_loop v21 v23).trips) (k1_t17 : Fin (k1_t17_loop v21 v23 k1_t16).trips) (k1_t19 : Fin (k1_t19_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t19
  let v647 : BitVec 32 := Scalar.muli c16_i32_221 arg32
  let v650 : Index := Scalar.indexCast v647
  ![v648.toNat, 2, v650.toNat]
def k1_off113 (v21 : BitVec 32) (v23 : BitVec 32) (k1_t16 : Fin (k1_t16_loop v21 v23).trips) (k1_t17 : Fin (k1_t17_loop v21 v23 k1_t16).trips) (k1_t19 : Fin (k1_t19_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t19
  let v654 : BitVec 32 := Scalar.muli c16_i32_223 arg32
  let v657 : Index := Scalar.indexCast v654
  ![v655.toNat, 3, v657.toNat]
def k1_off114 (v21 : BitVec 32) (v23 : BitVec 32) (k1_t16 : Fin (k1_t16_loop v21 v23).trips) (k1_t17 : Fin (k1_t17_loop v21 v23 k1_t16).trips) (k1_t19 : Fin (k1_t19_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t19
  let v661 : BitVec 32 := Scalar.muli c16_i32_225 arg32
  let v664 : Index := Scalar.indexCast v661
  ![v662.toNat, 4, v664.toNat]
def k1_off115 (v21 : BitVec 32) (v23 : BitVec 32) (k1_t16 : Fin (k1_t16_loop v21 v23).trips) (k1_t17 : Fin (k1_t17_loop v21 v23 k1_t16).trips) (k1_t19 : Fin (k1_t19_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t19
  let v668 : BitVec 32 := Scalar.muli c16_i32_227 arg32
  let v671 : Index := Scalar.indexCast v668
  ![v669.toNat, 5, v671.toNat]
def k1_off116 (v21 : BitVec 32) (v23 : BitVec 32) (k1_t16 : Fin (k1_t16_loop v21 v23).trips) (k1_t17 : Fin (k1_t17_loop v21 v23 k1_t16).trips) (k1_t19 : Fin (k1_t19_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t19
  let v675 : BitVec 32 := Scalar.muli c16_i32_229 arg32
  let v678 : Index := Scalar.indexCast v675
  ![v676.toNat, 6, v678.toNat]
def k1_off117 (v21 : BitVec 32) (v23 : BitVec 32) (k1_t16 : Fin (k1_t16_loop v21 v23).trips) (k1_t17 : Fin (k1_t17_loop v21 v23 k1_t16).trips) (k1_t19 : Fin (k1_t19_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t19
  let v682 : BitVec 32 := Scalar.muli c16_i32_231 arg32
  let v685 : Index := Scalar.indexCast v682
  ![v683.toNat, 7, v685.toNat]
@[reducible] def k1_t20_loop (v21 : BitVec 32) (v23 : BitVec 32) (k1_t16 : Fin (k1_t16_loop v21 v23).trips) (k1_t17 : Fin (k1_t17_loop v21 v23 k1_t16).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_195 : BitVec 32 := 0#32
  let c1_i32_197 : BitVec 32 := 1#32
  let arg23 : BitVec 32 := Scf.iv c0_i32_195 c1_i32_197 k1_t17
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_210 : BitVec 32 := 1#32
  ⟨v615, v620, c1_i32_210⟩
def k1_off118 (v21 : BitVec 32) (v23 : BitVec 32) (k1_t16 : Fin (k1_t16_loop v21 v23).trips) (k1_t17 : Fin (k1_t17_loop v21 v23 k1_t16).trips) (k1_t20 : Fin (k1_t20_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t20
  let v642 : BitVec 32 := Scalar.muli c16_i32_218 arg32
  let v645 : Index := Scalar.indexCast v642
  ![v643.toNat, 0, v645.toNat]
def k1_off119 (v21 : BitVec 32) (v23 : BitVec 32) (k1_t16 : Fin (k1_t16_loop v21 v23).trips) (k1_t17 : Fin (k1_t17_loop v21 v23 k1_t16).trips) (k1_t20 : Fin (k1_t20_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t20
  let v650 : BitVec 32 := Scalar.muli c16_i32_220 arg32
  let v653 : Index := Scalar.indexCast v650
  ![v651.toNat, 1, v653.toNat]
def k1_off120 (v21 : BitVec 32) (v23 : BitVec 32) (k1_t16 : Fin (k1_t16_loop v21 v23).trips) (k1_t17 : Fin (k1_t17_loop v21 v23 k1_t16).trips) (k1_t20 : Fin (k1_t20_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t20
  let v658 : BitVec 32 := Scalar.muli c16_i32_222 arg32
  let v661 : Index := Scalar.indexCast v658
  ![v659.toNat, 2, v661.toNat]
def k1_off121 (v21 : BitVec 32) (v23 : BitVec 32) (k1_t16 : Fin (k1_t16_loop v21 v23).trips) (k1_t17 : Fin (k1_t17_loop v21 v23 k1_t16).trips) (k1_t20 : Fin (k1_t20_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t20
  let v666 : BitVec 32 := Scalar.muli c16_i32_224 arg32
  let v669 : Index := Scalar.indexCast v666
  ![v667.toNat, 3, v669.toNat]
def k1_off122 (v21 : BitVec 32) (v23 : BitVec 32) (k1_t16 : Fin (k1_t16_loop v21 v23).trips) (k1_t17 : Fin (k1_t17_loop v21 v23 k1_t16).trips) (k1_t20 : Fin (k1_t20_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t20
  let v674 : BitVec 32 := Scalar.muli c16_i32_226 arg32
  let v677 : Index := Scalar.indexCast v674
  ![v675.toNat, 4, v677.toNat]
def k1_off123 (v21 : BitVec 32) (v23 : BitVec 32) (k1_t16 : Fin (k1_t16_loop v21 v23).trips) (k1_t17 : Fin (k1_t17_loop v21 v23 k1_t16).trips) (k1_t20 : Fin (k1_t20_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t20
  let v682 : BitVec 32 := Scalar.muli c16_i32_228 arg32
  let v685 : Index := Scalar.indexCast v682
  ![v683.toNat, 5, v685.toNat]
def k1_off124 (v21 : BitVec 32) (v23 : BitVec 32) (k1_t16 : Fin (k1_t16_loop v21 v23).trips) (k1_t17 : Fin (k1_t17_loop v21 v23 k1_t16).trips) (k1_t20 : Fin (k1_t20_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t20
  let v690 : BitVec 32 := Scalar.muli c16_i32_230 arg32
  let v693 : Index := Scalar.indexCast v690
  ![v691.toNat, 6, v693.toNat]
def k1_off125 (v21 : BitVec 32) (v23 : BitVec 32) (k1_t16 : Fin (k1_t16_loop v21 v23).trips) (k1_t17 : Fin (k1_t17_loop v21 v23 k1_t16).trips) (k1_t20 : Fin (k1_t20_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t20
  let v698 : BitVec 32 := Scalar.muli c16_i32_232 arg32
  let v701 : Index := Scalar.indexCast v698
  ![v699.toNat, 7, v701.toNat]
@[reducible] def k1_t21_loop (v21 : BitVec 32) (v23 : BitVec 32) (k1_t16 : Fin (k1_t16_loop v21 v23).trips) (k1_t17 : Fin (k1_t17_loop v21 v23 k1_t16).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_195 : BitVec 32 := 0#32
  let c1_i32_197 : BitVec 32 := 1#32
  let arg23 : BitVec 32 := Scf.iv c0_i32_195 c1_i32_197 k1_t17
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let v617 : BitVec 32 := Scalar.addi v615 v616
  let c1_i32_211 : BitVec 32 := 1#32
  ⟨v620, v617, c1_i32_211⟩
def k1_off126 (v21 : BitVec 32) (v23 : BitVec 32) (k1_t16 : Fin (k1_t16_loop v21 v23).trips) (k1_t17 : Fin (k1_t17_loop v21 v23 k1_t16).trips) (k1_t21 : Fin (k1_t21_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t21
  let v642 : BitVec 32 := Scalar.muli c16_i32_218 arg32
  let v645 : Index := Scalar.indexCast v642
  ![v643.toNat, 0, v645.toNat]
def k1_off127 (v21 : BitVec 32) (v23 : BitVec 32) (k1_t16 : Fin (k1_t16_loop v21 v23).trips) (k1_t17 : Fin (k1_t17_loop v21 v23 k1_t16).trips) (k1_t21 : Fin (k1_t21_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t21
  let v650 : BitVec 32 := Scalar.muli c16_i32_220 arg32
  let v653 : Index := Scalar.indexCast v650
  ![v651.toNat, 1, v653.toNat]
def k1_off128 (v21 : BitVec 32) (v23 : BitVec 32) (k1_t16 : Fin (k1_t16_loop v21 v23).trips) (k1_t17 : Fin (k1_t17_loop v21 v23 k1_t16).trips) (k1_t21 : Fin (k1_t21_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t21
  let v658 : BitVec 32 := Scalar.muli c16_i32_222 arg32
  let v661 : Index := Scalar.indexCast v658
  ![v659.toNat, 2, v661.toNat]
def k1_off129 (v21 : BitVec 32) (v23 : BitVec 32) (k1_t16 : Fin (k1_t16_loop v21 v23).trips) (k1_t17 : Fin (k1_t17_loop v21 v23 k1_t16).trips) (k1_t21 : Fin (k1_t21_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t21
  let v666 : BitVec 32 := Scalar.muli c16_i32_224 arg32
  let v669 : Index := Scalar.indexCast v666
  ![v667.toNat, 3, v669.toNat]
def k1_off130 (v21 : BitVec 32) (v23 : BitVec 32) (k1_t16 : Fin (k1_t16_loop v21 v23).trips) (k1_t17 : Fin (k1_t17_loop v21 v23 k1_t16).trips) (k1_t21 : Fin (k1_t21_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t21
  let v674 : BitVec 32 := Scalar.muli c16_i32_226 arg32
  let v677 : Index := Scalar.indexCast v674
  ![v675.toNat, 4, v677.toNat]
def k1_off131 (v21 : BitVec 32) (v23 : BitVec 32) (k1_t16 : Fin (k1_t16_loop v21 v23).trips) (k1_t17 : Fin (k1_t17_loop v21 v23 k1_t16).trips) (k1_t21 : Fin (k1_t21_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t21
  let v682 : BitVec 32 := Scalar.muli c16_i32_228 arg32
  let v685 : Index := Scalar.indexCast v682
  ![v683.toNat, 5, v685.toNat]
def k1_off132 (v21 : BitVec 32) (v23 : BitVec 32) (k1_t16 : Fin (k1_t16_loop v21 v23).trips) (k1_t17 : Fin (k1_t17_loop v21 v23 k1_t16).trips) (k1_t21 : Fin (k1_t21_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t21
  let v690 : BitVec 32 := Scalar.muli c16_i32_230 arg32
  let v693 : Index := Scalar.indexCast v690
  ![v691.toNat, 6, v693.toNat]
def k1_off133 (v21 : BitVec 32) (v23 : BitVec 32) (k1_t16 : Fin (k1_t16_loop v21 v23).trips) (k1_t17 : Fin (k1_t17_loop v21 v23 k1_t16).trips) (k1_t21 : Fin (k1_t21_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t21
  let v698 : BitVec 32 := Scalar.muli c16_i32_232 arg32
  let v701 : Index := Scalar.indexCast v698
  ![v699.toNat, 7, v701.toNat]
@[reducible] def k1_t22_loop (v21 : BitVec 32) (v23 : BitVec 32) (k1_t16 : Fin (k1_t16_loop v21 v23).trips) (k1_t17 : Fin (k1_t17_loop v21 v23 k1_t16).trips) : Scf.Loop 32 :=
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_195 : BitVec 32 := 0#32
  let c1_i32_197 : BitVec 32 := 1#32
  let arg23 : BitVec 32 := Scf.iv c0_i32_195 c1_i32_197 k1_t17
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_215 : BitVec 32 := 1#32
  ⟨v623, v630, c1_i32_215⟩
def k1_off134 (v21 : BitVec 32) (v23 : BitVec 32) (k1_t16 : Fin (k1_t16_loop v21 v23).trips) (k1_t17 : Fin (k1_t17_loop v21 v23 k1_t16).trips) (k1_t22 : Fin (k1_t22_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t22
  let v642 : BitVec 32 := Scalar.muli c16_i32_218 arg32
  let v645 : Index := Scalar.indexCast v642
  ![v643.toNat, 0, v645.toNat]
def k1_off135 (v21 : BitVec 32) (v23 : BitVec 32) (k1_t16 : Fin (k1_t16_loop v21 v23).trips) (k1_t17 : Fin (k1_t17_loop v21 v23 k1_t16).trips) (k1_t22 : Fin (k1_t22_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t22
  let v650 : BitVec 32 := Scalar.muli c16_i32_220 arg32
  let v653 : Index := Scalar.indexCast v650
  ![v651.toNat, 1, v653.toNat]
def k1_off136 (v21 : BitVec 32) (v23 : BitVec 32) (k1_t16 : Fin (k1_t16_loop v21 v23).trips) (k1_t17 : Fin (k1_t17_loop v21 v23 k1_t16).trips) (k1_t22 : Fin (k1_t22_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t22
  let v658 : BitVec 32 := Scalar.muli c16_i32_222 arg32
  let v661 : Index := Scalar.indexCast v658
  ![v659.toNat, 2, v661.toNat]
def k1_off137 (v21 : BitVec 32) (v23 : BitVec 32) (k1_t16 : Fin (k1_t16_loop v21 v23).trips) (k1_t17 : Fin (k1_t17_loop v21 v23 k1_t16).trips) (k1_t22 : Fin (k1_t22_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t22
  let v666 : BitVec 32 := Scalar.muli c16_i32_224 arg32
  let v669 : Index := Scalar.indexCast v666
  ![v667.toNat, 3, v669.toNat]
def k1_off138 (v21 : BitVec 32) (v23 : BitVec 32) (k1_t16 : Fin (k1_t16_loop v21 v23).trips) (k1_t17 : Fin (k1_t17_loop v21 v23 k1_t16).trips) (k1_t22 : Fin (k1_t22_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t22
  let v674 : BitVec 32 := Scalar.muli c16_i32_226 arg32
  let v677 : Index := Scalar.indexCast v674
  ![v675.toNat, 4, v677.toNat]
def k1_off139 (v21 : BitVec 32) (v23 : BitVec 32) (k1_t16 : Fin (k1_t16_loop v21 v23).trips) (k1_t17 : Fin (k1_t17_loop v21 v23 k1_t16).trips) (k1_t22 : Fin (k1_t22_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t22
  let v682 : BitVec 32 := Scalar.muli c16_i32_228 arg32
  let v685 : Index := Scalar.indexCast v682
  ![v683.toNat, 5, v685.toNat]
def k1_off140 (v21 : BitVec 32) (v23 : BitVec 32) (k1_t16 : Fin (k1_t16_loop v21 v23).trips) (k1_t17 : Fin (k1_t17_loop v21 v23 k1_t16).trips) (k1_t22 : Fin (k1_t22_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t22
  let v690 : BitVec 32 := Scalar.muli c16_i32_230 arg32
  let v693 : Index := Scalar.indexCast v690
  ![v691.toNat, 6, v693.toNat]
def k1_off141 (v21 : BitVec 32) (v23 : BitVec 32) (k1_t16 : Fin (k1_t16_loop v21 v23).trips) (k1_t17 : Fin (k1_t17_loop v21 v23 k1_t16).trips) (k1_t22 : Fin (k1_t22_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t22
  let v698 : BitVec 32 := Scalar.muli c16_i32_232 arg32
  let v701 : Index := Scalar.indexCast v698
  ![v699.toNat, 7, v701.toNat]
@[reducible] def k1_t23_loop (v21 : BitVec 32) (v23 : BitVec 32) (k1_t16 : Fin (k1_t16_loop v21 v23).trips) (k1_t17 : Fin (k1_t17_loop v21 v23 k1_t16).trips) : Scf.Loop 32 :=
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_195 : BitVec 32 := 0#32
  let c1_i32_197 : BitVec 32 := 1#32
  let arg23 : BitVec 32 := Scf.iv c0_i32_195 c1_i32_197 k1_t17
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let v627 : BitVec 32 := Scalar.addi v623 v626
  let c1_i32_216 : BitVec 32 := 1#32
  ⟨v630, v627, c1_i32_216⟩
def k1_off142 (v21 : BitVec 32) (v23 : BitVec 32) (k1_t16 : Fin (k1_t16_loop v21 v23).trips) (k1_t17 : Fin (k1_t17_loop v21 v23 k1_t16).trips) (k1_t23 : Fin (k1_t23_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t23
  let v642 : BitVec 32 := Scalar.muli c16_i32_218 arg32
  let v645 : Index := Scalar.indexCast v642
  ![v643.toNat, 0, v645.toNat]
def k1_off143 (v21 : BitVec 32) (v23 : BitVec 32) (k1_t16 : Fin (k1_t16_loop v21 v23).trips) (k1_t17 : Fin (k1_t17_loop v21 v23 k1_t16).trips) (k1_t23 : Fin (k1_t23_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t23
  let v650 : BitVec 32 := Scalar.muli c16_i32_220 arg32
  let v653 : Index := Scalar.indexCast v650
  ![v651.toNat, 1, v653.toNat]
def k1_off144 (v21 : BitVec 32) (v23 : BitVec 32) (k1_t16 : Fin (k1_t16_loop v21 v23).trips) (k1_t17 : Fin (k1_t17_loop v21 v23 k1_t16).trips) (k1_t23 : Fin (k1_t23_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t23
  let v658 : BitVec 32 := Scalar.muli c16_i32_222 arg32
  let v661 : Index := Scalar.indexCast v658
  ![v659.toNat, 2, v661.toNat]
def k1_off145 (v21 : BitVec 32) (v23 : BitVec 32) (k1_t16 : Fin (k1_t16_loop v21 v23).trips) (k1_t17 : Fin (k1_t17_loop v21 v23 k1_t16).trips) (k1_t23 : Fin (k1_t23_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t23
  let v666 : BitVec 32 := Scalar.muli c16_i32_224 arg32
  let v669 : Index := Scalar.indexCast v666
  ![v667.toNat, 3, v669.toNat]
def k1_off146 (v21 : BitVec 32) (v23 : BitVec 32) (k1_t16 : Fin (k1_t16_loop v21 v23).trips) (k1_t17 : Fin (k1_t17_loop v21 v23 k1_t16).trips) (k1_t23 : Fin (k1_t23_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t23
  let v674 : BitVec 32 := Scalar.muli c16_i32_226 arg32
  let v677 : Index := Scalar.indexCast v674
  ![v675.toNat, 4, v677.toNat]
def k1_off147 (v21 : BitVec 32) (v23 : BitVec 32) (k1_t16 : Fin (k1_t16_loop v21 v23).trips) (k1_t17 : Fin (k1_t17_loop v21 v23 k1_t16).trips) (k1_t23 : Fin (k1_t23_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t23
  let v682 : BitVec 32 := Scalar.muli c16_i32_228 arg32
  let v685 : Index := Scalar.indexCast v682
  ![v683.toNat, 5, v685.toNat]
def k1_off148 (v21 : BitVec 32) (v23 : BitVec 32) (k1_t16 : Fin (k1_t16_loop v21 v23).trips) (k1_t17 : Fin (k1_t17_loop v21 v23 k1_t16).trips) (k1_t23 : Fin (k1_t23_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t23
  let v690 : BitVec 32 := Scalar.muli c16_i32_230 arg32
  let v693 : Index := Scalar.indexCast v690
  ![v691.toNat, 6, v693.toNat]
def k1_off149 (v21 : BitVec 32) (v23 : BitVec 32) (k1_t16 : Fin (k1_t16_loop v21 v23).trips) (k1_t17 : Fin (k1_t17_loop v21 v23 k1_t16).trips) (k1_t23 : Fin (k1_t23_loop v21 v23 k1_t16 k1_t17).trips) : Fin 3 → Nat :=
  let c0_i32_195 : BitVec 32 := 0#32
  let c1_i32_197 : BitVec 32 := 1#32
  let arg23 : BitVec 32 := Scf.iv c0_i32_195 c1_i32_197 k1_t17
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t23
  let v698 : BitVec 32 := Scalar.muli c16_i32_232 arg32
  let v701 : Index := Scalar.indexCast v698
  ![v699.toNat, 7, v701.toNat]
@[reducible] def k1_t24_loop (v21 : BitVec 32) (v23 : BitVec 32) (k1_t16 : Fin (k1_t16_loop v21 v23).trips) : Scf.Loop 32 :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let v591 : BitVec 32 := Scalar.addi c0_i32_195 v590
  let c1_i32_198 : BitVec 32 := 1#32
  ⟨v594, v591, c1_i32_198⟩
@[reducible] def k1_t25_loop (v21 : BitVec 32) (v23 : BitVec 32) (k1_t16 : Fin (k1_t16_loop v21 v23).trips) (k1_t24 : Fin (k1_t24_loop v21 v23 k1_t16).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_206 : BitVec 32 := 1#32
  ⟨v606, v612, c1_i32_206⟩
def k1_off150 (v21 : BitVec 32) (v23 : BitVec 32) (k1_t16 : Fin (k1_t16_loop v21 v23).trips) (k1_t24 : Fin (k1_t24_loop v21 v23 k1_t16).trips) (k1_t25 : Fin (k1_t25_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t25
  let v633 : BitVec 32 := Scalar.muli c16_i32_217 arg32
  let v636 : Index := Scalar.indexCast v633
  ![v634.toNat, 0, v636.toNat]
def k1_off151 (v21 : BitVec 32) (v23 : BitVec 32) (k1_t16 : Fin (k1_t16_loop v21 v23).trips) (k1_t24 : Fin (k1_t24_loop v21 v23 k1_t16).trips) (k1_t25 : Fin (k1_t25_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t25
  let v640 : BitVec 32 := Scalar.muli c16_i32_219 arg32
  let v643 : Index := Scalar.indexCast v640
  ![v641.toNat, 1, v643.toNat]
def k1_off152 (v21 : BitVec 32) (v23 : BitVec 32) (k1_t16 : Fin (k1_t16_loop v21 v23).trips) (k1_t24 : Fin (k1_t24_loop v21 v23 k1_t16).trips) (k1_t25 : Fin (k1_t25_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t25
  let v647 : BitVec 32 := Scalar.muli c16_i32_221 arg32
  let v650 : Index := Scalar.indexCast v647
  ![v648.toNat, 2, v650.toNat]
def k1_off153 (v21 : BitVec 32) (v23 : BitVec 32) (k1_t16 : Fin (k1_t16_loop v21 v23).trips) (k1_t24 : Fin (k1_t24_loop v21 v23 k1_t16).trips) (k1_t25 : Fin (k1_t25_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t25
  let v654 : BitVec 32 := Scalar.muli c16_i32_223 arg32
  let v657 : Index := Scalar.indexCast v654
  ![v655.toNat, 3, v657.toNat]
def k1_off154 (v21 : BitVec 32) (v23 : BitVec 32) (k1_t16 : Fin (k1_t16_loop v21 v23).trips) (k1_t24 : Fin (k1_t24_loop v21 v23 k1_t16).trips) (k1_t25 : Fin (k1_t25_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t25
  let v661 : BitVec 32 := Scalar.muli c16_i32_225 arg32
  let v664 : Index := Scalar.indexCast v661
  ![v662.toNat, 4, v664.toNat]
def k1_off155 (v21 : BitVec 32) (v23 : BitVec 32) (k1_t16 : Fin (k1_t16_loop v21 v23).trips) (k1_t24 : Fin (k1_t24_loop v21 v23 k1_t16).trips) (k1_t25 : Fin (k1_t25_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t25
  let v668 : BitVec 32 := Scalar.muli c16_i32_227 arg32
  let v671 : Index := Scalar.indexCast v668
  ![v669.toNat, 5, v671.toNat]
def k1_off156 (v21 : BitVec 32) (v23 : BitVec 32) (k1_t16 : Fin (k1_t16_loop v21 v23).trips) (k1_t24 : Fin (k1_t24_loop v21 v23 k1_t16).trips) (k1_t25 : Fin (k1_t25_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t25
  let v675 : BitVec 32 := Scalar.muli c16_i32_229 arg32
  let v678 : Index := Scalar.indexCast v675
  ![v676.toNat, 6, v678.toNat]
def k1_off157 (v21 : BitVec 32) (v23 : BitVec 32) (k1_t16 : Fin (k1_t16_loop v21 v23).trips) (k1_t24 : Fin (k1_t24_loop v21 v23 k1_t16).trips) (k1_t25 : Fin (k1_t25_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t25
  let v682 : BitVec 32 := Scalar.muli c16_i32_231 arg32
  let v685 : Index := Scalar.indexCast v682
  ![v683.toNat, 7, v685.toNat]
@[reducible] def k1_t26_loop (v21 : BitVec 32) (v23 : BitVec 32) (k1_t16 : Fin (k1_t16_loop v21 v23).trips) (k1_t24 : Fin (k1_t24_loop v21 v23 k1_t16).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let v609 : BitVec 32 := Scalar.addi v606 v608
  let c1_i32_207 : BitVec 32 := 1#32
  ⟨v612, v609, c1_i32_207⟩
def k1_off158 (v21 : BitVec 32) (v23 : BitVec 32) (k1_t16 : Fin (k1_t16_loop v21 v23).trips) (k1_t24 : Fin (k1_t24_loop v21 v23 k1_t16).trips) (k1_t26 : Fin (k1_t26_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t26
  let v633 : BitVec 32 := Scalar.muli c16_i32_217 arg32
  let v636 : Index := Scalar.indexCast v633
  ![v634.toNat, 0, v636.toNat]
def k1_off159 (v21 : BitVec 32) (v23 : BitVec 32) (k1_t16 : Fin (k1_t16_loop v21 v23).trips) (k1_t24 : Fin (k1_t24_loop v21 v23 k1_t16).trips) (k1_t26 : Fin (k1_t26_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t26
  let v640 : BitVec 32 := Scalar.muli c16_i32_219 arg32
  let v643 : Index := Scalar.indexCast v640
  ![v641.toNat, 1, v643.toNat]
def k1_off160 (v21 : BitVec 32) (v23 : BitVec 32) (k1_t16 : Fin (k1_t16_loop v21 v23).trips) (k1_t24 : Fin (k1_t24_loop v21 v23 k1_t16).trips) (k1_t26 : Fin (k1_t26_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t26
  let v647 : BitVec 32 := Scalar.muli c16_i32_221 arg32
  let v650 : Index := Scalar.indexCast v647
  ![v648.toNat, 2, v650.toNat]
def k1_off161 (v21 : BitVec 32) (v23 : BitVec 32) (k1_t16 : Fin (k1_t16_loop v21 v23).trips) (k1_t24 : Fin (k1_t24_loop v21 v23 k1_t16).trips) (k1_t26 : Fin (k1_t26_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t26
  let v654 : BitVec 32 := Scalar.muli c16_i32_223 arg32
  let v657 : Index := Scalar.indexCast v654
  ![v655.toNat, 3, v657.toNat]
def k1_off162 (v21 : BitVec 32) (v23 : BitVec 32) (k1_t16 : Fin (k1_t16_loop v21 v23).trips) (k1_t24 : Fin (k1_t24_loop v21 v23 k1_t16).trips) (k1_t26 : Fin (k1_t26_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t26
  let v661 : BitVec 32 := Scalar.muli c16_i32_225 arg32
  let v664 : Index := Scalar.indexCast v661
  ![v662.toNat, 4, v664.toNat]
def k1_off163 (v21 : BitVec 32) (v23 : BitVec 32) (k1_t16 : Fin (k1_t16_loop v21 v23).trips) (k1_t24 : Fin (k1_t24_loop v21 v23 k1_t16).trips) (k1_t26 : Fin (k1_t26_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t26
  let v668 : BitVec 32 := Scalar.muli c16_i32_227 arg32
  let v671 : Index := Scalar.indexCast v668
  ![v669.toNat, 5, v671.toNat]
def k1_off164 (v21 : BitVec 32) (v23 : BitVec 32) (k1_t16 : Fin (k1_t16_loop v21 v23).trips) (k1_t24 : Fin (k1_t24_loop v21 v23 k1_t16).trips) (k1_t26 : Fin (k1_t26_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t26
  let v675 : BitVec 32 := Scalar.muli c16_i32_229 arg32
  let v678 : Index := Scalar.indexCast v675
  ![v676.toNat, 6, v678.toNat]
def k1_off165 (v21 : BitVec 32) (v23 : BitVec 32) (k1_t16 : Fin (k1_t16_loop v21 v23).trips) (k1_t24 : Fin (k1_t24_loop v21 v23 k1_t16).trips) (k1_t26 : Fin (k1_t26_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t26
  let v682 : BitVec 32 := Scalar.muli c16_i32_231 arg32
  let v685 : Index := Scalar.indexCast v682
  ![v683.toNat, 7, v685.toNat]
@[reducible] def k1_t27_loop (v21 : BitVec 32) (v23 : BitVec 32) (k1_t16 : Fin (k1_t16_loop v21 v23).trips) (k1_t24 : Fin (k1_t24_loop v21 v23 k1_t16).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_210 : BitVec 32 := 1#32
  ⟨v615, v620, c1_i32_210⟩
def k1_off166 (v21 : BitVec 32) (v23 : BitVec 32) (k1_t16 : Fin (k1_t16_loop v21 v23).trips) (k1_t24 : Fin (k1_t24_loop v21 v23 k1_t16).trips) (k1_t27 : Fin (k1_t27_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t27
  let v642 : BitVec 32 := Scalar.muli c16_i32_218 arg32
  let v645 : Index := Scalar.indexCast v642
  ![v643.toNat, 0, v645.toNat]
def k1_off167 (v21 : BitVec 32) (v23 : BitVec 32) (k1_t16 : Fin (k1_t16_loop v21 v23).trips) (k1_t24 : Fin (k1_t24_loop v21 v23 k1_t16).trips) (k1_t27 : Fin (k1_t27_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t27
  let v650 : BitVec 32 := Scalar.muli c16_i32_220 arg32
  let v653 : Index := Scalar.indexCast v650
  ![v651.toNat, 1, v653.toNat]
def k1_off168 (v21 : BitVec 32) (v23 : BitVec 32) (k1_t16 : Fin (k1_t16_loop v21 v23).trips) (k1_t24 : Fin (k1_t24_loop v21 v23 k1_t16).trips) (k1_t27 : Fin (k1_t27_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t27
  let v658 : BitVec 32 := Scalar.muli c16_i32_222 arg32
  let v661 : Index := Scalar.indexCast v658
  ![v659.toNat, 2, v661.toNat]
def k1_off169 (v21 : BitVec 32) (v23 : BitVec 32) (k1_t16 : Fin (k1_t16_loop v21 v23).trips) (k1_t24 : Fin (k1_t24_loop v21 v23 k1_t16).trips) (k1_t27 : Fin (k1_t27_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t27
  let v666 : BitVec 32 := Scalar.muli c16_i32_224 arg32
  let v669 : Index := Scalar.indexCast v666
  ![v667.toNat, 3, v669.toNat]
def k1_off170 (v21 : BitVec 32) (v23 : BitVec 32) (k1_t16 : Fin (k1_t16_loop v21 v23).trips) (k1_t24 : Fin (k1_t24_loop v21 v23 k1_t16).trips) (k1_t27 : Fin (k1_t27_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t27
  let v674 : BitVec 32 := Scalar.muli c16_i32_226 arg32
  let v677 : Index := Scalar.indexCast v674
  ![v675.toNat, 4, v677.toNat]
def k1_off171 (v21 : BitVec 32) (v23 : BitVec 32) (k1_t16 : Fin (k1_t16_loop v21 v23).trips) (k1_t24 : Fin (k1_t24_loop v21 v23 k1_t16).trips) (k1_t27 : Fin (k1_t27_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t27
  let v682 : BitVec 32 := Scalar.muli c16_i32_228 arg32
  let v685 : Index := Scalar.indexCast v682
  ![v683.toNat, 5, v685.toNat]
def k1_off172 (v21 : BitVec 32) (v23 : BitVec 32) (k1_t16 : Fin (k1_t16_loop v21 v23).trips) (k1_t24 : Fin (k1_t24_loop v21 v23 k1_t16).trips) (k1_t27 : Fin (k1_t27_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t27
  let v690 : BitVec 32 := Scalar.muli c16_i32_230 arg32
  let v693 : Index := Scalar.indexCast v690
  ![v691.toNat, 6, v693.toNat]
def k1_off173 (v21 : BitVec 32) (v23 : BitVec 32) (k1_t16 : Fin (k1_t16_loop v21 v23).trips) (k1_t24 : Fin (k1_t24_loop v21 v23 k1_t16).trips) (k1_t27 : Fin (k1_t27_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t27
  let v698 : BitVec 32 := Scalar.muli c16_i32_232 arg32
  let v701 : Index := Scalar.indexCast v698
  ![v699.toNat, 7, v701.toNat]
@[reducible] def k1_t28_loop (v21 : BitVec 32) (v23 : BitVec 32) (k1_t16 : Fin (k1_t16_loop v21 v23).trips) (k1_t24 : Fin (k1_t24_loop v21 v23 k1_t16).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let v617 : BitVec 32 := Scalar.addi v615 v616
  let c1_i32_211 : BitVec 32 := 1#32
  ⟨v620, v617, c1_i32_211⟩
def k1_off174 (v21 : BitVec 32) (v23 : BitVec 32) (k1_t16 : Fin (k1_t16_loop v21 v23).trips) (k1_t24 : Fin (k1_t24_loop v21 v23 k1_t16).trips) (k1_t28 : Fin (k1_t28_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t28
  let v642 : BitVec 32 := Scalar.muli c16_i32_218 arg32
  let v645 : Index := Scalar.indexCast v642
  ![v643.toNat, 0, v645.toNat]
def k1_off175 (v21 : BitVec 32) (v23 : BitVec 32) (k1_t16 : Fin (k1_t16_loop v21 v23).trips) (k1_t24 : Fin (k1_t24_loop v21 v23 k1_t16).trips) (k1_t28 : Fin (k1_t28_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t28
  let v650 : BitVec 32 := Scalar.muli c16_i32_220 arg32
  let v653 : Index := Scalar.indexCast v650
  ![v651.toNat, 1, v653.toNat]
def k1_off176 (v21 : BitVec 32) (v23 : BitVec 32) (k1_t16 : Fin (k1_t16_loop v21 v23).trips) (k1_t24 : Fin (k1_t24_loop v21 v23 k1_t16).trips) (k1_t28 : Fin (k1_t28_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t28
  let v658 : BitVec 32 := Scalar.muli c16_i32_222 arg32
  let v661 : Index := Scalar.indexCast v658
  ![v659.toNat, 2, v661.toNat]
def k1_off177 (v21 : BitVec 32) (v23 : BitVec 32) (k1_t16 : Fin (k1_t16_loop v21 v23).trips) (k1_t24 : Fin (k1_t24_loop v21 v23 k1_t16).trips) (k1_t28 : Fin (k1_t28_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t28
  let v666 : BitVec 32 := Scalar.muli c16_i32_224 arg32
  let v669 : Index := Scalar.indexCast v666
  ![v667.toNat, 3, v669.toNat]
def k1_off178 (v21 : BitVec 32) (v23 : BitVec 32) (k1_t16 : Fin (k1_t16_loop v21 v23).trips) (k1_t24 : Fin (k1_t24_loop v21 v23 k1_t16).trips) (k1_t28 : Fin (k1_t28_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t28
  let v674 : BitVec 32 := Scalar.muli c16_i32_226 arg32
  let v677 : Index := Scalar.indexCast v674
  ![v675.toNat, 4, v677.toNat]
def k1_off179 (v21 : BitVec 32) (v23 : BitVec 32) (k1_t16 : Fin (k1_t16_loop v21 v23).trips) (k1_t24 : Fin (k1_t24_loop v21 v23 k1_t16).trips) (k1_t28 : Fin (k1_t28_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t28
  let v682 : BitVec 32 := Scalar.muli c16_i32_228 arg32
  let v685 : Index := Scalar.indexCast v682
  ![v683.toNat, 5, v685.toNat]
def k1_off180 (v21 : BitVec 32) (v23 : BitVec 32) (k1_t16 : Fin (k1_t16_loop v21 v23).trips) (k1_t24 : Fin (k1_t24_loop v21 v23 k1_t16).trips) (k1_t28 : Fin (k1_t28_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t28
  let v690 : BitVec 32 := Scalar.muli c16_i32_230 arg32
  let v693 : Index := Scalar.indexCast v690
  ![v691.toNat, 6, v693.toNat]
def k1_off181 (v21 : BitVec 32) (v23 : BitVec 32) (k1_t16 : Fin (k1_t16_loop v21 v23).trips) (k1_t24 : Fin (k1_t24_loop v21 v23 k1_t16).trips) (k1_t28 : Fin (k1_t28_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t28
  let v698 : BitVec 32 := Scalar.muli c16_i32_232 arg32
  let v701 : Index := Scalar.indexCast v698
  ![v699.toNat, 7, v701.toNat]
@[reducible] def k1_t29_loop (v21 : BitVec 32) (v23 : BitVec 32) (k1_t16 : Fin (k1_t16_loop v21 v23).trips) (k1_t24 : Fin (k1_t24_loop v21 v23 k1_t16).trips) : Scf.Loop 32 :=
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_215 : BitVec 32 := 1#32
  ⟨v623, v630, c1_i32_215⟩
def k1_off182 (v21 : BitVec 32) (v23 : BitVec 32) (k1_t16 : Fin (k1_t16_loop v21 v23).trips) (k1_t24 : Fin (k1_t24_loop v21 v23 k1_t16).trips) (k1_t29 : Fin (k1_t29_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t29
  let v642 : BitVec 32 := Scalar.muli c16_i32_218 arg32
  let v645 : Index := Scalar.indexCast v642
  ![v643.toNat, 0, v645.toNat]
def k1_off183 (v21 : BitVec 32) (v23 : BitVec 32) (k1_t16 : Fin (k1_t16_loop v21 v23).trips) (k1_t24 : Fin (k1_t24_loop v21 v23 k1_t16).trips) (k1_t29 : Fin (k1_t29_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t29
  let v650 : BitVec 32 := Scalar.muli c16_i32_220 arg32
  let v653 : Index := Scalar.indexCast v650
  ![v651.toNat, 1, v653.toNat]
def k1_off184 (v21 : BitVec 32) (v23 : BitVec 32) (k1_t16 : Fin (k1_t16_loop v21 v23).trips) (k1_t24 : Fin (k1_t24_loop v21 v23 k1_t16).trips) (k1_t29 : Fin (k1_t29_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t29
  let v658 : BitVec 32 := Scalar.muli c16_i32_222 arg32
  let v661 : Index := Scalar.indexCast v658
  ![v659.toNat, 2, v661.toNat]
def k1_off185 (v21 : BitVec 32) (v23 : BitVec 32) (k1_t16 : Fin (k1_t16_loop v21 v23).trips) (k1_t24 : Fin (k1_t24_loop v21 v23 k1_t16).trips) (k1_t29 : Fin (k1_t29_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t29
  let v666 : BitVec 32 := Scalar.muli c16_i32_224 arg32
  let v669 : Index := Scalar.indexCast v666
  ![v667.toNat, 3, v669.toNat]
def k1_off186 (v21 : BitVec 32) (v23 : BitVec 32) (k1_t16 : Fin (k1_t16_loop v21 v23).trips) (k1_t24 : Fin (k1_t24_loop v21 v23 k1_t16).trips) (k1_t29 : Fin (k1_t29_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t29
  let v674 : BitVec 32 := Scalar.muli c16_i32_226 arg32
  let v677 : Index := Scalar.indexCast v674
  ![v675.toNat, 4, v677.toNat]
def k1_off187 (v21 : BitVec 32) (v23 : BitVec 32) (k1_t16 : Fin (k1_t16_loop v21 v23).trips) (k1_t24 : Fin (k1_t24_loop v21 v23 k1_t16).trips) (k1_t29 : Fin (k1_t29_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t29
  let v682 : BitVec 32 := Scalar.muli c16_i32_228 arg32
  let v685 : Index := Scalar.indexCast v682
  ![v683.toNat, 5, v685.toNat]
def k1_off188 (v21 : BitVec 32) (v23 : BitVec 32) (k1_t16 : Fin (k1_t16_loop v21 v23).trips) (k1_t24 : Fin (k1_t24_loop v21 v23 k1_t16).trips) (k1_t29 : Fin (k1_t29_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t29
  let v690 : BitVec 32 := Scalar.muli c16_i32_230 arg32
  let v693 : Index := Scalar.indexCast v690
  ![v691.toNat, 6, v693.toNat]
def k1_off189 (v21 : BitVec 32) (v23 : BitVec 32) (k1_t16 : Fin (k1_t16_loop v21 v23).trips) (k1_t24 : Fin (k1_t24_loop v21 v23 k1_t16).trips) (k1_t29 : Fin (k1_t29_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t29
  let v698 : BitVec 32 := Scalar.muli c16_i32_232 arg32
  let v701 : Index := Scalar.indexCast v698
  ![v699.toNat, 7, v701.toNat]
@[reducible] def k1_t30_loop (v21 : BitVec 32) (v23 : BitVec 32) (k1_t16 : Fin (k1_t16_loop v21 v23).trips) (k1_t24 : Fin (k1_t24_loop v21 v23 k1_t16).trips) : Scf.Loop 32 :=
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let v627 : BitVec 32 := Scalar.addi v623 v626
  let c1_i32_216 : BitVec 32 := 1#32
  ⟨v630, v627, c1_i32_216⟩
def k1_off190 (v21 : BitVec 32) (v23 : BitVec 32) (k1_t16 : Fin (k1_t16_loop v21 v23).trips) (k1_t24 : Fin (k1_t24_loop v21 v23 k1_t16).trips) (k1_t30 : Fin (k1_t30_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t30
  let v642 : BitVec 32 := Scalar.muli c16_i32_218 arg32
  let v645 : Index := Scalar.indexCast v642
  ![v643.toNat, 0, v645.toNat]
def k1_off191 (v21 : BitVec 32) (v23 : BitVec 32) (k1_t16 : Fin (k1_t16_loop v21 v23).trips) (k1_t24 : Fin (k1_t24_loop v21 v23 k1_t16).trips) (k1_t30 : Fin (k1_t30_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t30
  let v650 : BitVec 32 := Scalar.muli c16_i32_220 arg32
  let v653 : Index := Scalar.indexCast v650
  ![v651.toNat, 1, v653.toNat]
def k1_off192 (v21 : BitVec 32) (v23 : BitVec 32) (k1_t16 : Fin (k1_t16_loop v21 v23).trips) (k1_t24 : Fin (k1_t24_loop v21 v23 k1_t16).trips) (k1_t30 : Fin (k1_t30_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t30
  let v658 : BitVec 32 := Scalar.muli c16_i32_222 arg32
  let v661 : Index := Scalar.indexCast v658
  ![v659.toNat, 2, v661.toNat]
def k1_off193 (v21 : BitVec 32) (v23 : BitVec 32) (k1_t16 : Fin (k1_t16_loop v21 v23).trips) (k1_t24 : Fin (k1_t24_loop v21 v23 k1_t16).trips) (k1_t30 : Fin (k1_t30_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t30
  let v666 : BitVec 32 := Scalar.muli c16_i32_224 arg32
  let v669 : Index := Scalar.indexCast v666
  ![v667.toNat, 3, v669.toNat]
def k1_off194 (v21 : BitVec 32) (v23 : BitVec 32) (k1_t16 : Fin (k1_t16_loop v21 v23).trips) (k1_t24 : Fin (k1_t24_loop v21 v23 k1_t16).trips) (k1_t30 : Fin (k1_t30_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t30
  let v674 : BitVec 32 := Scalar.muli c16_i32_226 arg32
  let v677 : Index := Scalar.indexCast v674
  ![v675.toNat, 4, v677.toNat]
def k1_off195 (v21 : BitVec 32) (v23 : BitVec 32) (k1_t16 : Fin (k1_t16_loop v21 v23).trips) (k1_t24 : Fin (k1_t24_loop v21 v23 k1_t16).trips) (k1_t30 : Fin (k1_t30_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t30
  let v682 : BitVec 32 := Scalar.muli c16_i32_228 arg32
  let v685 : Index := Scalar.indexCast v682
  ![v683.toNat, 5, v685.toNat]
def k1_off196 (v21 : BitVec 32) (v23 : BitVec 32) (k1_t16 : Fin (k1_t16_loop v21 v23).trips) (k1_t24 : Fin (k1_t24_loop v21 v23 k1_t16).trips) (k1_t30 : Fin (k1_t30_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t30
  let v690 : BitVec 32 := Scalar.muli c16_i32_230 arg32
  let v693 : Index := Scalar.indexCast v690
  ![v691.toNat, 6, v693.toNat]
def k1_off197 (v21 : BitVec 32) (v23 : BitVec 32) (k1_t16 : Fin (k1_t16_loop v21 v23).trips) (k1_t24 : Fin (k1_t24_loop v21 v23 k1_t16).trips) (k1_t30 : Fin (k1_t30_loop v21 v23 k1_t16 k1_t24).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let c1_i32_25 : BitVec 32 := 1#32
  let arg14 : BitVec 32 := Scf.iv c1_i32_23 c1_i32_25 k1_t16
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t24
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t30
  let v698 : BitVec 32 := Scalar.muli c16_i32_232 arg32
  let v701 : Index := Scalar.indexCast v698
  ![v699.toNat, 7, v701.toNat]
@[reducible] def k1_t31_loop (v21 : BitVec 32) (v23 : BitVec 32) : Scf.Loop 32 :=
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let v45 : BitVec 32 := Scalar.addi c1_i32_23 v44
  let c1_i32_26 : BitVec 32 := 1#32
  ⟨v48, v45, c1_i32_26⟩
def k1_off198 (v21 : BitVec 32) (v23 : BitVec 32) (k1_t31 : Fin (k1_t31_loop v21 v23).trips) : Fin 3 → Nat :=
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_199_r2 : BitVec 32 := 0#32
  let c0_i32_200_r2 : BitVec 32 := 0#32
  ![v587.toNat, 0, 0]
@[reducible] def k1_t32_loop (v21 : BitVec 32) (v23 : BitVec 32) (k1_t31 : Fin (k1_t31_loop v21 v23).trips) : Scf.Loop 32 :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_197 : BitVec 32 := 1#32
  ⟨c0_i32_195, v594, c1_i32_197⟩
@[reducible] def k1_t33_loop (v21 : BitVec 32) (v23 : BitVec 32) (k1_t31 : Fin (k1_t31_loop v21 v23).trips) (k1_t32 : Fin (k1_t32_loop v21 v23 k1_t31).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_195 : BitVec 32 := 0#32
  let c1_i32_197 : BitVec 32 := 1#32
  let arg23 : BitVec 32 := Scf.iv c0_i32_195 c1_i32_197 k1_t32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_206 : BitVec 32 := 1#32
  ⟨v606, v612, c1_i32_206⟩
def k1_off199 (v21 : BitVec 32) (v23 : BitVec 32) (k1_t31 : Fin (k1_t31_loop v21 v23).trips) (k1_t32 : Fin (k1_t32_loop v21 v23 k1_t31).trips) (k1_t33 : Fin (k1_t33_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t33
  let v633 : BitVec 32 := Scalar.muli c16_i32_217 arg32
  let v636 : Index := Scalar.indexCast v633
  ![v634.toNat, 0, v636.toNat]
def k1_off200 (v21 : BitVec 32) (v23 : BitVec 32) (k1_t31 : Fin (k1_t31_loop v21 v23).trips) (k1_t32 : Fin (k1_t32_loop v21 v23 k1_t31).trips) (k1_t33 : Fin (k1_t33_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t33
  let v640 : BitVec 32 := Scalar.muli c16_i32_219 arg32
  let v643 : Index := Scalar.indexCast v640
  ![v641.toNat, 1, v643.toNat]
def k1_off201 (v21 : BitVec 32) (v23 : BitVec 32) (k1_t31 : Fin (k1_t31_loop v21 v23).trips) (k1_t32 : Fin (k1_t32_loop v21 v23 k1_t31).trips) (k1_t33 : Fin (k1_t33_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t33
  let v647 : BitVec 32 := Scalar.muli c16_i32_221 arg32
  let v650 : Index := Scalar.indexCast v647
  ![v648.toNat, 2, v650.toNat]
def k1_off202 (v21 : BitVec 32) (v23 : BitVec 32) (k1_t31 : Fin (k1_t31_loop v21 v23).trips) (k1_t32 : Fin (k1_t32_loop v21 v23 k1_t31).trips) (k1_t33 : Fin (k1_t33_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t33
  let v654 : BitVec 32 := Scalar.muli c16_i32_223 arg32
  let v657 : Index := Scalar.indexCast v654
  ![v655.toNat, 3, v657.toNat]
def k1_off203 (v21 : BitVec 32) (v23 : BitVec 32) (k1_t31 : Fin (k1_t31_loop v21 v23).trips) (k1_t32 : Fin (k1_t32_loop v21 v23 k1_t31).trips) (k1_t33 : Fin (k1_t33_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t33
  let v661 : BitVec 32 := Scalar.muli c16_i32_225 arg32
  let v664 : Index := Scalar.indexCast v661
  ![v662.toNat, 4, v664.toNat]
def k1_off204 (v21 : BitVec 32) (v23 : BitVec 32) (k1_t31 : Fin (k1_t31_loop v21 v23).trips) (k1_t32 : Fin (k1_t32_loop v21 v23 k1_t31).trips) (k1_t33 : Fin (k1_t33_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t33
  let v668 : BitVec 32 := Scalar.muli c16_i32_227 arg32
  let v671 : Index := Scalar.indexCast v668
  ![v669.toNat, 5, v671.toNat]
def k1_off205 (v21 : BitVec 32) (v23 : BitVec 32) (k1_t31 : Fin (k1_t31_loop v21 v23).trips) (k1_t32 : Fin (k1_t32_loop v21 v23 k1_t31).trips) (k1_t33 : Fin (k1_t33_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t33
  let v675 : BitVec 32 := Scalar.muli c16_i32_229 arg32
  let v678 : Index := Scalar.indexCast v675
  ![v676.toNat, 6, v678.toNat]
def k1_off206 (v21 : BitVec 32) (v23 : BitVec 32) (k1_t31 : Fin (k1_t31_loop v21 v23).trips) (k1_t32 : Fin (k1_t32_loop v21 v23 k1_t31).trips) (k1_t33 : Fin (k1_t33_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t33
  let v682 : BitVec 32 := Scalar.muli c16_i32_231 arg32
  let v685 : Index := Scalar.indexCast v682
  ![v683.toNat, 7, v685.toNat]
@[reducible] def k1_t34_loop (v21 : BitVec 32) (v23 : BitVec 32) (k1_t31 : Fin (k1_t31_loop v21 v23).trips) (k1_t32 : Fin (k1_t32_loop v21 v23 k1_t31).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_195 : BitVec 32 := 0#32
  let c1_i32_197 : BitVec 32 := 1#32
  let arg23 : BitVec 32 := Scf.iv c0_i32_195 c1_i32_197 k1_t32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let v609 : BitVec 32 := Scalar.addi v606 v608
  let c1_i32_207 : BitVec 32 := 1#32
  ⟨v612, v609, c1_i32_207⟩
def k1_off207 (v21 : BitVec 32) (v23 : BitVec 32) (k1_t31 : Fin (k1_t31_loop v21 v23).trips) (k1_t32 : Fin (k1_t32_loop v21 v23 k1_t31).trips) (k1_t34 : Fin (k1_t34_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t34
  let v633 : BitVec 32 := Scalar.muli c16_i32_217 arg32
  let v636 : Index := Scalar.indexCast v633
  ![v634.toNat, 0, v636.toNat]
def k1_off208 (v21 : BitVec 32) (v23 : BitVec 32) (k1_t31 : Fin (k1_t31_loop v21 v23).trips) (k1_t32 : Fin (k1_t32_loop v21 v23 k1_t31).trips) (k1_t34 : Fin (k1_t34_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t34
  let v640 : BitVec 32 := Scalar.muli c16_i32_219 arg32
  let v643 : Index := Scalar.indexCast v640
  ![v641.toNat, 1, v643.toNat]
def k1_off209 (v21 : BitVec 32) (v23 : BitVec 32) (k1_t31 : Fin (k1_t31_loop v21 v23).trips) (k1_t32 : Fin (k1_t32_loop v21 v23 k1_t31).trips) (k1_t34 : Fin (k1_t34_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t34
  let v647 : BitVec 32 := Scalar.muli c16_i32_221 arg32
  let v650 : Index := Scalar.indexCast v647
  ![v648.toNat, 2, v650.toNat]
def k1_off210 (v21 : BitVec 32) (v23 : BitVec 32) (k1_t31 : Fin (k1_t31_loop v21 v23).trips) (k1_t32 : Fin (k1_t32_loop v21 v23 k1_t31).trips) (k1_t34 : Fin (k1_t34_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t34
  let v654 : BitVec 32 := Scalar.muli c16_i32_223 arg32
  let v657 : Index := Scalar.indexCast v654
  ![v655.toNat, 3, v657.toNat]
def k1_off211 (v21 : BitVec 32) (v23 : BitVec 32) (k1_t31 : Fin (k1_t31_loop v21 v23).trips) (k1_t32 : Fin (k1_t32_loop v21 v23 k1_t31).trips) (k1_t34 : Fin (k1_t34_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t34
  let v661 : BitVec 32 := Scalar.muli c16_i32_225 arg32
  let v664 : Index := Scalar.indexCast v661
  ![v662.toNat, 4, v664.toNat]
def k1_off212 (v21 : BitVec 32) (v23 : BitVec 32) (k1_t31 : Fin (k1_t31_loop v21 v23).trips) (k1_t32 : Fin (k1_t32_loop v21 v23 k1_t31).trips) (k1_t34 : Fin (k1_t34_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t34
  let v668 : BitVec 32 := Scalar.muli c16_i32_227 arg32
  let v671 : Index := Scalar.indexCast v668
  ![v669.toNat, 5, v671.toNat]
def k1_off213 (v21 : BitVec 32) (v23 : BitVec 32) (k1_t31 : Fin (k1_t31_loop v21 v23).trips) (k1_t32 : Fin (k1_t32_loop v21 v23 k1_t31).trips) (k1_t34 : Fin (k1_t34_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t34
  let v675 : BitVec 32 := Scalar.muli c16_i32_229 arg32
  let v678 : Index := Scalar.indexCast v675
  ![v676.toNat, 6, v678.toNat]
def k1_off214 (v21 : BitVec 32) (v23 : BitVec 32) (k1_t31 : Fin (k1_t31_loop v21 v23).trips) (k1_t32 : Fin (k1_t32_loop v21 v23 k1_t31).trips) (k1_t34 : Fin (k1_t34_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t34
  let v682 : BitVec 32 := Scalar.muli c16_i32_231 arg32
  let v685 : Index := Scalar.indexCast v682
  ![v683.toNat, 7, v685.toNat]
@[reducible] def k1_t35_loop (v21 : BitVec 32) (v23 : BitVec 32) (k1_t31 : Fin (k1_t31_loop v21 v23).trips) (k1_t32 : Fin (k1_t32_loop v21 v23 k1_t31).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_195 : BitVec 32 := 0#32
  let c1_i32_197 : BitVec 32 := 1#32
  let arg23 : BitVec 32 := Scf.iv c0_i32_195 c1_i32_197 k1_t32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_210 : BitVec 32 := 1#32
  ⟨v615, v620, c1_i32_210⟩
def k1_off215 (v21 : BitVec 32) (v23 : BitVec 32) (k1_t31 : Fin (k1_t31_loop v21 v23).trips) (k1_t32 : Fin (k1_t32_loop v21 v23 k1_t31).trips) (k1_t35 : Fin (k1_t35_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t35
  let v642 : BitVec 32 := Scalar.muli c16_i32_218 arg32
  let v645 : Index := Scalar.indexCast v642
  ![v643.toNat, 0, v645.toNat]
def k1_off216 (v21 : BitVec 32) (v23 : BitVec 32) (k1_t31 : Fin (k1_t31_loop v21 v23).trips) (k1_t32 : Fin (k1_t32_loop v21 v23 k1_t31).trips) (k1_t35 : Fin (k1_t35_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t35
  let v650 : BitVec 32 := Scalar.muli c16_i32_220 arg32
  let v653 : Index := Scalar.indexCast v650
  ![v651.toNat, 1, v653.toNat]
def k1_off217 (v21 : BitVec 32) (v23 : BitVec 32) (k1_t31 : Fin (k1_t31_loop v21 v23).trips) (k1_t32 : Fin (k1_t32_loop v21 v23 k1_t31).trips) (k1_t35 : Fin (k1_t35_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t35
  let v658 : BitVec 32 := Scalar.muli c16_i32_222 arg32
  let v661 : Index := Scalar.indexCast v658
  ![v659.toNat, 2, v661.toNat]
def k1_off218 (v21 : BitVec 32) (v23 : BitVec 32) (k1_t31 : Fin (k1_t31_loop v21 v23).trips) (k1_t32 : Fin (k1_t32_loop v21 v23 k1_t31).trips) (k1_t35 : Fin (k1_t35_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t35
  let v666 : BitVec 32 := Scalar.muli c16_i32_224 arg32
  let v669 : Index := Scalar.indexCast v666
  ![v667.toNat, 3, v669.toNat]
def k1_off219 (v21 : BitVec 32) (v23 : BitVec 32) (k1_t31 : Fin (k1_t31_loop v21 v23).trips) (k1_t32 : Fin (k1_t32_loop v21 v23 k1_t31).trips) (k1_t35 : Fin (k1_t35_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t35
  let v674 : BitVec 32 := Scalar.muli c16_i32_226 arg32
  let v677 : Index := Scalar.indexCast v674
  ![v675.toNat, 4, v677.toNat]
def k1_off220 (v21 : BitVec 32) (v23 : BitVec 32) (k1_t31 : Fin (k1_t31_loop v21 v23).trips) (k1_t32 : Fin (k1_t32_loop v21 v23 k1_t31).trips) (k1_t35 : Fin (k1_t35_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t35
  let v682 : BitVec 32 := Scalar.muli c16_i32_228 arg32
  let v685 : Index := Scalar.indexCast v682
  ![v683.toNat, 5, v685.toNat]
def k1_off221 (v21 : BitVec 32) (v23 : BitVec 32) (k1_t31 : Fin (k1_t31_loop v21 v23).trips) (k1_t32 : Fin (k1_t32_loop v21 v23 k1_t31).trips) (k1_t35 : Fin (k1_t35_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t35
  let v690 : BitVec 32 := Scalar.muli c16_i32_230 arg32
  let v693 : Index := Scalar.indexCast v690
  ![v691.toNat, 6, v693.toNat]
def k1_off222 (v21 : BitVec 32) (v23 : BitVec 32) (k1_t31 : Fin (k1_t31_loop v21 v23).trips) (k1_t32 : Fin (k1_t32_loop v21 v23 k1_t31).trips) (k1_t35 : Fin (k1_t35_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t35
  let v698 : BitVec 32 := Scalar.muli c16_i32_232 arg32
  let v701 : Index := Scalar.indexCast v698
  ![v699.toNat, 7, v701.toNat]
@[reducible] def k1_t36_loop (v21 : BitVec 32) (v23 : BitVec 32) (k1_t31 : Fin (k1_t31_loop v21 v23).trips) (k1_t32 : Fin (k1_t32_loop v21 v23 k1_t31).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_195 : BitVec 32 := 0#32
  let c1_i32_197 : BitVec 32 := 1#32
  let arg23 : BitVec 32 := Scf.iv c0_i32_195 c1_i32_197 k1_t32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let v617 : BitVec 32 := Scalar.addi v615 v616
  let c1_i32_211 : BitVec 32 := 1#32
  ⟨v620, v617, c1_i32_211⟩
def k1_off223 (v21 : BitVec 32) (v23 : BitVec 32) (k1_t31 : Fin (k1_t31_loop v21 v23).trips) (k1_t32 : Fin (k1_t32_loop v21 v23 k1_t31).trips) (k1_t36 : Fin (k1_t36_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t36
  let v642 : BitVec 32 := Scalar.muli c16_i32_218 arg32
  let v645 : Index := Scalar.indexCast v642
  ![v643.toNat, 0, v645.toNat]
def k1_off224 (v21 : BitVec 32) (v23 : BitVec 32) (k1_t31 : Fin (k1_t31_loop v21 v23).trips) (k1_t32 : Fin (k1_t32_loop v21 v23 k1_t31).trips) (k1_t36 : Fin (k1_t36_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t36
  let v650 : BitVec 32 := Scalar.muli c16_i32_220 arg32
  let v653 : Index := Scalar.indexCast v650
  ![v651.toNat, 1, v653.toNat]
def k1_off225 (v21 : BitVec 32) (v23 : BitVec 32) (k1_t31 : Fin (k1_t31_loop v21 v23).trips) (k1_t32 : Fin (k1_t32_loop v21 v23 k1_t31).trips) (k1_t36 : Fin (k1_t36_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t36
  let v658 : BitVec 32 := Scalar.muli c16_i32_222 arg32
  let v661 : Index := Scalar.indexCast v658
  ![v659.toNat, 2, v661.toNat]
def k1_off226 (v21 : BitVec 32) (v23 : BitVec 32) (k1_t31 : Fin (k1_t31_loop v21 v23).trips) (k1_t32 : Fin (k1_t32_loop v21 v23 k1_t31).trips) (k1_t36 : Fin (k1_t36_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t36
  let v666 : BitVec 32 := Scalar.muli c16_i32_224 arg32
  let v669 : Index := Scalar.indexCast v666
  ![v667.toNat, 3, v669.toNat]
def k1_off227 (v21 : BitVec 32) (v23 : BitVec 32) (k1_t31 : Fin (k1_t31_loop v21 v23).trips) (k1_t32 : Fin (k1_t32_loop v21 v23 k1_t31).trips) (k1_t36 : Fin (k1_t36_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t36
  let v674 : BitVec 32 := Scalar.muli c16_i32_226 arg32
  let v677 : Index := Scalar.indexCast v674
  ![v675.toNat, 4, v677.toNat]
def k1_off228 (v21 : BitVec 32) (v23 : BitVec 32) (k1_t31 : Fin (k1_t31_loop v21 v23).trips) (k1_t32 : Fin (k1_t32_loop v21 v23 k1_t31).trips) (k1_t36 : Fin (k1_t36_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t36
  let v682 : BitVec 32 := Scalar.muli c16_i32_228 arg32
  let v685 : Index := Scalar.indexCast v682
  ![v683.toNat, 5, v685.toNat]
def k1_off229 (v21 : BitVec 32) (v23 : BitVec 32) (k1_t31 : Fin (k1_t31_loop v21 v23).trips) (k1_t32 : Fin (k1_t32_loop v21 v23 k1_t31).trips) (k1_t36 : Fin (k1_t36_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t36
  let v690 : BitVec 32 := Scalar.muli c16_i32_230 arg32
  let v693 : Index := Scalar.indexCast v690
  ![v691.toNat, 6, v693.toNat]
def k1_off230 (v21 : BitVec 32) (v23 : BitVec 32) (k1_t31 : Fin (k1_t31_loop v21 v23).trips) (k1_t32 : Fin (k1_t32_loop v21 v23 k1_t31).trips) (k1_t36 : Fin (k1_t36_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t36
  let v698 : BitVec 32 := Scalar.muli c16_i32_232 arg32
  let v701 : Index := Scalar.indexCast v698
  ![v699.toNat, 7, v701.toNat]
@[reducible] def k1_t37_loop (v21 : BitVec 32) (v23 : BitVec 32) (k1_t31 : Fin (k1_t31_loop v21 v23).trips) (k1_t32 : Fin (k1_t32_loop v21 v23 k1_t31).trips) : Scf.Loop 32 :=
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_195 : BitVec 32 := 0#32
  let c1_i32_197 : BitVec 32 := 1#32
  let arg23 : BitVec 32 := Scf.iv c0_i32_195 c1_i32_197 k1_t32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_215 : BitVec 32 := 1#32
  ⟨v623, v630, c1_i32_215⟩
def k1_off231 (v21 : BitVec 32) (v23 : BitVec 32) (k1_t31 : Fin (k1_t31_loop v21 v23).trips) (k1_t32 : Fin (k1_t32_loop v21 v23 k1_t31).trips) (k1_t37 : Fin (k1_t37_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t37
  let v642 : BitVec 32 := Scalar.muli c16_i32_218 arg32
  let v645 : Index := Scalar.indexCast v642
  ![v643.toNat, 0, v645.toNat]
def k1_off232 (v21 : BitVec 32) (v23 : BitVec 32) (k1_t31 : Fin (k1_t31_loop v21 v23).trips) (k1_t32 : Fin (k1_t32_loop v21 v23 k1_t31).trips) (k1_t37 : Fin (k1_t37_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t37
  let v650 : BitVec 32 := Scalar.muli c16_i32_220 arg32
  let v653 : Index := Scalar.indexCast v650
  ![v651.toNat, 1, v653.toNat]
def k1_off233 (v21 : BitVec 32) (v23 : BitVec 32) (k1_t31 : Fin (k1_t31_loop v21 v23).trips) (k1_t32 : Fin (k1_t32_loop v21 v23 k1_t31).trips) (k1_t37 : Fin (k1_t37_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t37
  let v658 : BitVec 32 := Scalar.muli c16_i32_222 arg32
  let v661 : Index := Scalar.indexCast v658
  ![v659.toNat, 2, v661.toNat]
def k1_off234 (v21 : BitVec 32) (v23 : BitVec 32) (k1_t31 : Fin (k1_t31_loop v21 v23).trips) (k1_t32 : Fin (k1_t32_loop v21 v23 k1_t31).trips) (k1_t37 : Fin (k1_t37_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t37
  let v666 : BitVec 32 := Scalar.muli c16_i32_224 arg32
  let v669 : Index := Scalar.indexCast v666
  ![v667.toNat, 3, v669.toNat]
def k1_off235 (v21 : BitVec 32) (v23 : BitVec 32) (k1_t31 : Fin (k1_t31_loop v21 v23).trips) (k1_t32 : Fin (k1_t32_loop v21 v23 k1_t31).trips) (k1_t37 : Fin (k1_t37_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t37
  let v674 : BitVec 32 := Scalar.muli c16_i32_226 arg32
  let v677 : Index := Scalar.indexCast v674
  ![v675.toNat, 4, v677.toNat]
def k1_off236 (v21 : BitVec 32) (v23 : BitVec 32) (k1_t31 : Fin (k1_t31_loop v21 v23).trips) (k1_t32 : Fin (k1_t32_loop v21 v23 k1_t31).trips) (k1_t37 : Fin (k1_t37_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t37
  let v682 : BitVec 32 := Scalar.muli c16_i32_228 arg32
  let v685 : Index := Scalar.indexCast v682
  ![v683.toNat, 5, v685.toNat]
def k1_off237 (v21 : BitVec 32) (v23 : BitVec 32) (k1_t31 : Fin (k1_t31_loop v21 v23).trips) (k1_t32 : Fin (k1_t32_loop v21 v23 k1_t31).trips) (k1_t37 : Fin (k1_t37_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t37
  let v690 : BitVec 32 := Scalar.muli c16_i32_230 arg32
  let v693 : Index := Scalar.indexCast v690
  ![v691.toNat, 6, v693.toNat]
def k1_off238 (v21 : BitVec 32) (v23 : BitVec 32) (k1_t31 : Fin (k1_t31_loop v21 v23).trips) (k1_t32 : Fin (k1_t32_loop v21 v23 k1_t31).trips) (k1_t37 : Fin (k1_t37_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t37
  let v698 : BitVec 32 := Scalar.muli c16_i32_232 arg32
  let v701 : Index := Scalar.indexCast v698
  ![v699.toNat, 7, v701.toNat]
@[reducible] def k1_t38_loop (v21 : BitVec 32) (v23 : BitVec 32) (k1_t31 : Fin (k1_t31_loop v21 v23).trips) (k1_t32 : Fin (k1_t32_loop v21 v23 k1_t31).trips) : Scf.Loop 32 :=
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_195 : BitVec 32 := 0#32
  let c1_i32_197 : BitVec 32 := 1#32
  let arg23 : BitVec 32 := Scf.iv c0_i32_195 c1_i32_197 k1_t32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let v627 : BitVec 32 := Scalar.addi v623 v626
  let c1_i32_216 : BitVec 32 := 1#32
  ⟨v630, v627, c1_i32_216⟩
def k1_off239 (v21 : BitVec 32) (v23 : BitVec 32) (k1_t31 : Fin (k1_t31_loop v21 v23).trips) (k1_t32 : Fin (k1_t32_loop v21 v23 k1_t31).trips) (k1_t38 : Fin (k1_t38_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t38
  let v642 : BitVec 32 := Scalar.muli c16_i32_218 arg32
  let v645 : Index := Scalar.indexCast v642
  ![v643.toNat, 0, v645.toNat]
def k1_off240 (v21 : BitVec 32) (v23 : BitVec 32) (k1_t31 : Fin (k1_t31_loop v21 v23).trips) (k1_t32 : Fin (k1_t32_loop v21 v23 k1_t31).trips) (k1_t38 : Fin (k1_t38_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t38
  let v650 : BitVec 32 := Scalar.muli c16_i32_220 arg32
  let v653 : Index := Scalar.indexCast v650
  ![v651.toNat, 1, v653.toNat]
def k1_off241 (v21 : BitVec 32) (v23 : BitVec 32) (k1_t31 : Fin (k1_t31_loop v21 v23).trips) (k1_t32 : Fin (k1_t32_loop v21 v23 k1_t31).trips) (k1_t38 : Fin (k1_t38_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t38
  let v658 : BitVec 32 := Scalar.muli c16_i32_222 arg32
  let v661 : Index := Scalar.indexCast v658
  ![v659.toNat, 2, v661.toNat]
def k1_off242 (v21 : BitVec 32) (v23 : BitVec 32) (k1_t31 : Fin (k1_t31_loop v21 v23).trips) (k1_t32 : Fin (k1_t32_loop v21 v23 k1_t31).trips) (k1_t38 : Fin (k1_t38_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t38
  let v666 : BitVec 32 := Scalar.muli c16_i32_224 arg32
  let v669 : Index := Scalar.indexCast v666
  ![v667.toNat, 3, v669.toNat]
def k1_off243 (v21 : BitVec 32) (v23 : BitVec 32) (k1_t31 : Fin (k1_t31_loop v21 v23).trips) (k1_t32 : Fin (k1_t32_loop v21 v23 k1_t31).trips) (k1_t38 : Fin (k1_t38_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t38
  let v674 : BitVec 32 := Scalar.muli c16_i32_226 arg32
  let v677 : Index := Scalar.indexCast v674
  ![v675.toNat, 4, v677.toNat]
def k1_off244 (v21 : BitVec 32) (v23 : BitVec 32) (k1_t31 : Fin (k1_t31_loop v21 v23).trips) (k1_t32 : Fin (k1_t32_loop v21 v23 k1_t31).trips) (k1_t38 : Fin (k1_t38_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t38
  let v682 : BitVec 32 := Scalar.muli c16_i32_228 arg32
  let v685 : Index := Scalar.indexCast v682
  ![v683.toNat, 5, v685.toNat]
def k1_off245 (v21 : BitVec 32) (v23 : BitVec 32) (k1_t31 : Fin (k1_t31_loop v21 v23).trips) (k1_t32 : Fin (k1_t32_loop v21 v23 k1_t31).trips) (k1_t38 : Fin (k1_t38_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t38
  let v690 : BitVec 32 := Scalar.muli c16_i32_230 arg32
  let v693 : Index := Scalar.indexCast v690
  ![v691.toNat, 6, v693.toNat]
def k1_off246 (v21 : BitVec 32) (v23 : BitVec 32) (k1_t31 : Fin (k1_t31_loop v21 v23).trips) (k1_t32 : Fin (k1_t32_loop v21 v23 k1_t31).trips) (k1_t38 : Fin (k1_t38_loop v21 v23 k1_t31 k1_t32).trips) : Fin 3 → Nat :=
  let c0_i32_195 : BitVec 32 := 0#32
  let c1_i32_197 : BitVec 32 := 1#32
  let arg23 : BitVec 32 := Scf.iv c0_i32_195 c1_i32_197 k1_t32
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t38
  let v698 : BitVec 32 := Scalar.muli c16_i32_232 arg32
  let v701 : Index := Scalar.indexCast v698
  ![v699.toNat, 7, v701.toNat]
@[reducible] def k1_t39_loop (v21 : BitVec 32) (v23 : BitVec 32) (k1_t31 : Fin (k1_t31_loop v21 v23).trips) : Scf.Loop 32 :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let v591 : BitVec 32 := Scalar.addi c0_i32_195 v590
  let c1_i32_198 : BitVec 32 := 1#32
  ⟨v594, v591, c1_i32_198⟩
@[reducible] def k1_t40_loop (v21 : BitVec 32) (v23 : BitVec 32) (k1_t31 : Fin (k1_t31_loop v21 v23).trips) (k1_t39 : Fin (k1_t39_loop v21 v23 k1_t31).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_195 : BitVec 32 := 0#32
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_206 : BitVec 32 := 1#32
  ⟨v606, v612, c1_i32_206⟩
def k1_off247 (v21 : BitVec 32) (v23 : BitVec 32) (k1_t31 : Fin (k1_t31_loop v21 v23).trips) (k1_t39 : Fin (k1_t39_loop v21 v23 k1_t31).trips) (k1_t40 : Fin (k1_t40_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t40
  let v633 : BitVec 32 := Scalar.muli c16_i32_217 arg32
  let v636 : Index := Scalar.indexCast v633
  ![v634.toNat, 0, v636.toNat]
def k1_off248 (v21 : BitVec 32) (v23 : BitVec 32) (k1_t31 : Fin (k1_t31_loop v21 v23).trips) (k1_t39 : Fin (k1_t39_loop v21 v23 k1_t31).trips) (k1_t40 : Fin (k1_t40_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t40
  let v640 : BitVec 32 := Scalar.muli c16_i32_219 arg32
  let v643 : Index := Scalar.indexCast v640
  ![v641.toNat, 1, v643.toNat]
def k1_off249 (v21 : BitVec 32) (v23 : BitVec 32) (k1_t31 : Fin (k1_t31_loop v21 v23).trips) (k1_t39 : Fin (k1_t39_loop v21 v23 k1_t31).trips) (k1_t40 : Fin (k1_t40_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t40
  let v647 : BitVec 32 := Scalar.muli c16_i32_221 arg32
  let v650 : Index := Scalar.indexCast v647
  ![v648.toNat, 2, v650.toNat]
def k1_off250 (v21 : BitVec 32) (v23 : BitVec 32) (k1_t31 : Fin (k1_t31_loop v21 v23).trips) (k1_t39 : Fin (k1_t39_loop v21 v23 k1_t31).trips) (k1_t40 : Fin (k1_t40_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t40
  let v654 : BitVec 32 := Scalar.muli c16_i32_223 arg32
  let v657 : Index := Scalar.indexCast v654
  ![v655.toNat, 3, v657.toNat]
def k1_off251 (v21 : BitVec 32) (v23 : BitVec 32) (k1_t31 : Fin (k1_t31_loop v21 v23).trips) (k1_t39 : Fin (k1_t39_loop v21 v23 k1_t31).trips) (k1_t40 : Fin (k1_t40_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t40
  let v661 : BitVec 32 := Scalar.muli c16_i32_225 arg32
  let v664 : Index := Scalar.indexCast v661
  ![v662.toNat, 4, v664.toNat]
def k1_off252 (v21 : BitVec 32) (v23 : BitVec 32) (k1_t31 : Fin (k1_t31_loop v21 v23).trips) (k1_t39 : Fin (k1_t39_loop v21 v23 k1_t31).trips) (k1_t40 : Fin (k1_t40_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t40
  let v668 : BitVec 32 := Scalar.muli c16_i32_227 arg32
  let v671 : Index := Scalar.indexCast v668
  ![v669.toNat, 5, v671.toNat]
def k1_off253 (v21 : BitVec 32) (v23 : BitVec 32) (k1_t31 : Fin (k1_t31_loop v21 v23).trips) (k1_t39 : Fin (k1_t39_loop v21 v23 k1_t31).trips) (k1_t40 : Fin (k1_t40_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t40
  let v675 : BitVec 32 := Scalar.muli c16_i32_229 arg32
  let v678 : Index := Scalar.indexCast v675
  ![v676.toNat, 6, v678.toNat]
def k1_off254 (v21 : BitVec 32) (v23 : BitVec 32) (k1_t31 : Fin (k1_t31_loop v21 v23).trips) (k1_t39 : Fin (k1_t39_loop v21 v23 k1_t31).trips) (k1_t40 : Fin (k1_t40_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t40
  let v682 : BitVec 32 := Scalar.muli c16_i32_231 arg32
  let v685 : Index := Scalar.indexCast v682
  ![v683.toNat, 7, v685.toNat]
@[reducible] def k1_t41_loop (v21 : BitVec 32) (v23 : BitVec 32) (k1_t31 : Fin (k1_t31_loop v21 v23).trips) (k1_t39 : Fin (k1_t39_loop v21 v23 k1_t31).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_195 : BitVec 32 := 0#32
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let v609 : BitVec 32 := Scalar.addi v606 v608
  let c1_i32_207 : BitVec 32 := 1#32
  ⟨v612, v609, c1_i32_207⟩
def k1_off255 (v21 : BitVec 32) (v23 : BitVec 32) (k1_t31 : Fin (k1_t31_loop v21 v23).trips) (k1_t39 : Fin (k1_t39_loop v21 v23 k1_t31).trips) (k1_t41 : Fin (k1_t41_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t41
  let v633 : BitVec 32 := Scalar.muli c16_i32_217 arg32
  let v636 : Index := Scalar.indexCast v633
  ![v634.toNat, 0, v636.toNat]
def k1_off256 (v21 : BitVec 32) (v23 : BitVec 32) (k1_t31 : Fin (k1_t31_loop v21 v23).trips) (k1_t39 : Fin (k1_t39_loop v21 v23 k1_t31).trips) (k1_t41 : Fin (k1_t41_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t41
  let v640 : BitVec 32 := Scalar.muli c16_i32_219 arg32
  let v643 : Index := Scalar.indexCast v640
  ![v641.toNat, 1, v643.toNat]
def k1_off257 (v21 : BitVec 32) (v23 : BitVec 32) (k1_t31 : Fin (k1_t31_loop v21 v23).trips) (k1_t39 : Fin (k1_t39_loop v21 v23 k1_t31).trips) (k1_t41 : Fin (k1_t41_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t41
  let v647 : BitVec 32 := Scalar.muli c16_i32_221 arg32
  let v650 : Index := Scalar.indexCast v647
  ![v648.toNat, 2, v650.toNat]
def k1_off258 (v21 : BitVec 32) (v23 : BitVec 32) (k1_t31 : Fin (k1_t31_loop v21 v23).trips) (k1_t39 : Fin (k1_t39_loop v21 v23 k1_t31).trips) (k1_t41 : Fin (k1_t41_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t41
  let v654 : BitVec 32 := Scalar.muli c16_i32_223 arg32
  let v657 : Index := Scalar.indexCast v654
  ![v655.toNat, 3, v657.toNat]
def k1_off259 (v21 : BitVec 32) (v23 : BitVec 32) (k1_t31 : Fin (k1_t31_loop v21 v23).trips) (k1_t39 : Fin (k1_t39_loop v21 v23 k1_t31).trips) (k1_t41 : Fin (k1_t41_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t41
  let v661 : BitVec 32 := Scalar.muli c16_i32_225 arg32
  let v664 : Index := Scalar.indexCast v661
  ![v662.toNat, 4, v664.toNat]
def k1_off260 (v21 : BitVec 32) (v23 : BitVec 32) (k1_t31 : Fin (k1_t31_loop v21 v23).trips) (k1_t39 : Fin (k1_t39_loop v21 v23 k1_t31).trips) (k1_t41 : Fin (k1_t41_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t41
  let v668 : BitVec 32 := Scalar.muli c16_i32_227 arg32
  let v671 : Index := Scalar.indexCast v668
  ![v669.toNat, 5, v671.toNat]
def k1_off261 (v21 : BitVec 32) (v23 : BitVec 32) (k1_t31 : Fin (k1_t31_loop v21 v23).trips) (k1_t39 : Fin (k1_t39_loop v21 v23 k1_t31).trips) (k1_t41 : Fin (k1_t41_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t41
  let v675 : BitVec 32 := Scalar.muli c16_i32_229 arg32
  let v678 : Index := Scalar.indexCast v675
  ![v676.toNat, 6, v678.toNat]
def k1_off262 (v21 : BitVec 32) (v23 : BitVec 32) (k1_t31 : Fin (k1_t31_loop v21 v23).trips) (k1_t39 : Fin (k1_t39_loop v21 v23 k1_t31).trips) (k1_t41 : Fin (k1_t41_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t41
  let v682 : BitVec 32 := Scalar.muli c16_i32_231 arg32
  let v685 : Index := Scalar.indexCast v682
  ![v683.toNat, 7, v685.toNat]
@[reducible] def k1_t42_loop (v21 : BitVec 32) (v23 : BitVec 32) (k1_t31 : Fin (k1_t31_loop v21 v23).trips) (k1_t39 : Fin (k1_t39_loop v21 v23 k1_t31).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_195 : BitVec 32 := 0#32
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_210 : BitVec 32 := 1#32
  ⟨v615, v620, c1_i32_210⟩
def k1_off263 (v21 : BitVec 32) (v23 : BitVec 32) (k1_t31 : Fin (k1_t31_loop v21 v23).trips) (k1_t39 : Fin (k1_t39_loop v21 v23 k1_t31).trips) (k1_t42 : Fin (k1_t42_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t42
  let v642 : BitVec 32 := Scalar.muli c16_i32_218 arg32
  let v645 : Index := Scalar.indexCast v642
  ![v643.toNat, 0, v645.toNat]
def k1_off264 (v21 : BitVec 32) (v23 : BitVec 32) (k1_t31 : Fin (k1_t31_loop v21 v23).trips) (k1_t39 : Fin (k1_t39_loop v21 v23 k1_t31).trips) (k1_t42 : Fin (k1_t42_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t42
  let v650 : BitVec 32 := Scalar.muli c16_i32_220 arg32
  let v653 : Index := Scalar.indexCast v650
  ![v651.toNat, 1, v653.toNat]
def k1_off265 (v21 : BitVec 32) (v23 : BitVec 32) (k1_t31 : Fin (k1_t31_loop v21 v23).trips) (k1_t39 : Fin (k1_t39_loop v21 v23 k1_t31).trips) (k1_t42 : Fin (k1_t42_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t42
  let v658 : BitVec 32 := Scalar.muli c16_i32_222 arg32
  let v661 : Index := Scalar.indexCast v658
  ![v659.toNat, 2, v661.toNat]
def k1_off266 (v21 : BitVec 32) (v23 : BitVec 32) (k1_t31 : Fin (k1_t31_loop v21 v23).trips) (k1_t39 : Fin (k1_t39_loop v21 v23 k1_t31).trips) (k1_t42 : Fin (k1_t42_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t42
  let v666 : BitVec 32 := Scalar.muli c16_i32_224 arg32
  let v669 : Index := Scalar.indexCast v666
  ![v667.toNat, 3, v669.toNat]
def k1_off267 (v21 : BitVec 32) (v23 : BitVec 32) (k1_t31 : Fin (k1_t31_loop v21 v23).trips) (k1_t39 : Fin (k1_t39_loop v21 v23 k1_t31).trips) (k1_t42 : Fin (k1_t42_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t42
  let v674 : BitVec 32 := Scalar.muli c16_i32_226 arg32
  let v677 : Index := Scalar.indexCast v674
  ![v675.toNat, 4, v677.toNat]
def k1_off268 (v21 : BitVec 32) (v23 : BitVec 32) (k1_t31 : Fin (k1_t31_loop v21 v23).trips) (k1_t39 : Fin (k1_t39_loop v21 v23 k1_t31).trips) (k1_t42 : Fin (k1_t42_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t42
  let v682 : BitVec 32 := Scalar.muli c16_i32_228 arg32
  let v685 : Index := Scalar.indexCast v682
  ![v683.toNat, 5, v685.toNat]
def k1_off269 (v21 : BitVec 32) (v23 : BitVec 32) (k1_t31 : Fin (k1_t31_loop v21 v23).trips) (k1_t39 : Fin (k1_t39_loop v21 v23 k1_t31).trips) (k1_t42 : Fin (k1_t42_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t42
  let v690 : BitVec 32 := Scalar.muli c16_i32_230 arg32
  let v693 : Index := Scalar.indexCast v690
  ![v691.toNat, 6, v693.toNat]
def k1_off270 (v21 : BitVec 32) (v23 : BitVec 32) (k1_t31 : Fin (k1_t31_loop v21 v23).trips) (k1_t39 : Fin (k1_t39_loop v21 v23 k1_t31).trips) (k1_t42 : Fin (k1_t42_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t42
  let v698 : BitVec 32 := Scalar.muli c16_i32_232 arg32
  let v701 : Index := Scalar.indexCast v698
  ![v699.toNat, 7, v701.toNat]
@[reducible] def k1_t43_loop (v21 : BitVec 32) (v23 : BitVec 32) (k1_t31 : Fin (k1_t31_loop v21 v23).trips) (k1_t39 : Fin (k1_t39_loop v21 v23 k1_t31).trips) : Scf.Loop 32 :=
  let c128_i32_200 : BitVec 32 := 128#32
  let c0_i32_199 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_195 : BitVec 32 := 0#32
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let v617 : BitVec 32 := Scalar.addi v615 v616
  let c1_i32_211 : BitVec 32 := 1#32
  ⟨v620, v617, c1_i32_211⟩
def k1_off271 (v21 : BitVec 32) (v23 : BitVec 32) (k1_t31 : Fin (k1_t31_loop v21 v23).trips) (k1_t39 : Fin (k1_t39_loop v21 v23 k1_t31).trips) (k1_t43 : Fin (k1_t43_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t43
  let v642 : BitVec 32 := Scalar.muli c16_i32_218 arg32
  let v645 : Index := Scalar.indexCast v642
  ![v643.toNat, 0, v645.toNat]
def k1_off272 (v21 : BitVec 32) (v23 : BitVec 32) (k1_t31 : Fin (k1_t31_loop v21 v23).trips) (k1_t39 : Fin (k1_t39_loop v21 v23 k1_t31).trips) (k1_t43 : Fin (k1_t43_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t43
  let v650 : BitVec 32 := Scalar.muli c16_i32_220 arg32
  let v653 : Index := Scalar.indexCast v650
  ![v651.toNat, 1, v653.toNat]
def k1_off273 (v21 : BitVec 32) (v23 : BitVec 32) (k1_t31 : Fin (k1_t31_loop v21 v23).trips) (k1_t39 : Fin (k1_t39_loop v21 v23 k1_t31).trips) (k1_t43 : Fin (k1_t43_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t43
  let v658 : BitVec 32 := Scalar.muli c16_i32_222 arg32
  let v661 : Index := Scalar.indexCast v658
  ![v659.toNat, 2, v661.toNat]
def k1_off274 (v21 : BitVec 32) (v23 : BitVec 32) (k1_t31 : Fin (k1_t31_loop v21 v23).trips) (k1_t39 : Fin (k1_t39_loop v21 v23 k1_t31).trips) (k1_t43 : Fin (k1_t43_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t43
  let v666 : BitVec 32 := Scalar.muli c16_i32_224 arg32
  let v669 : Index := Scalar.indexCast v666
  ![v667.toNat, 3, v669.toNat]
def k1_off275 (v21 : BitVec 32) (v23 : BitVec 32) (k1_t31 : Fin (k1_t31_loop v21 v23).trips) (k1_t39 : Fin (k1_t39_loop v21 v23 k1_t31).trips) (k1_t43 : Fin (k1_t43_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t43
  let v674 : BitVec 32 := Scalar.muli c16_i32_226 arg32
  let v677 : Index := Scalar.indexCast v674
  ![v675.toNat, 4, v677.toNat]
def k1_off276 (v21 : BitVec 32) (v23 : BitVec 32) (k1_t31 : Fin (k1_t31_loop v21 v23).trips) (k1_t39 : Fin (k1_t39_loop v21 v23 k1_t31).trips) (k1_t43 : Fin (k1_t43_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t43
  let v682 : BitVec 32 := Scalar.muli c16_i32_228 arg32
  let v685 : Index := Scalar.indexCast v682
  ![v683.toNat, 5, v685.toNat]
def k1_off277 (v21 : BitVec 32) (v23 : BitVec 32) (k1_t31 : Fin (k1_t31_loop v21 v23).trips) (k1_t39 : Fin (k1_t39_loop v21 v23 k1_t31).trips) (k1_t43 : Fin (k1_t43_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t43
  let v690 : BitVec 32 := Scalar.muli c16_i32_230 arg32
  let v693 : Index := Scalar.indexCast v690
  ![v691.toNat, 6, v693.toNat]
def k1_off278 (v21 : BitVec 32) (v23 : BitVec 32) (k1_t31 : Fin (k1_t31_loop v21 v23).trips) (k1_t39 : Fin (k1_t39_loop v21 v23 k1_t31).trips) (k1_t43 : Fin (k1_t43_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v21 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t43
  let v698 : BitVec 32 := Scalar.muli c16_i32_232 arg32
  let v701 : Index := Scalar.indexCast v698
  ![v699.toNat, 7, v701.toNat]
@[reducible] def k1_t44_loop (v21 : BitVec 32) (v23 : BitVec 32) (k1_t31 : Fin (k1_t31_loop v21 v23).trips) (k1_t39 : Fin (k1_t39_loop v21 v23 k1_t31).trips) : Scf.Loop 32 :=
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_195 : BitVec 32 := 0#32
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_215 : BitVec 32 := 1#32
  ⟨v623, v630, c1_i32_215⟩
def k1_off279 (v21 : BitVec 32) (v23 : BitVec 32) (k1_t31 : Fin (k1_t31_loop v21 v23).trips) (k1_t39 : Fin (k1_t39_loop v21 v23 k1_t31).trips) (k1_t44 : Fin (k1_t44_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t44
  let v642 : BitVec 32 := Scalar.muli c16_i32_218 arg32
  let v645 : Index := Scalar.indexCast v642
  ![v643.toNat, 0, v645.toNat]
def k1_off280 (v21 : BitVec 32) (v23 : BitVec 32) (k1_t31 : Fin (k1_t31_loop v21 v23).trips) (k1_t39 : Fin (k1_t39_loop v21 v23 k1_t31).trips) (k1_t44 : Fin (k1_t44_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t44
  let v650 : BitVec 32 := Scalar.muli c16_i32_220 arg32
  let v653 : Index := Scalar.indexCast v650
  ![v651.toNat, 1, v653.toNat]
def k1_off281 (v21 : BitVec 32) (v23 : BitVec 32) (k1_t31 : Fin (k1_t31_loop v21 v23).trips) (k1_t39 : Fin (k1_t39_loop v21 v23 k1_t31).trips) (k1_t44 : Fin (k1_t44_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t44
  let v658 : BitVec 32 := Scalar.muli c16_i32_222 arg32
  let v661 : Index := Scalar.indexCast v658
  ![v659.toNat, 2, v661.toNat]
def k1_off282 (v21 : BitVec 32) (v23 : BitVec 32) (k1_t31 : Fin (k1_t31_loop v21 v23).trips) (k1_t39 : Fin (k1_t39_loop v21 v23 k1_t31).trips) (k1_t44 : Fin (k1_t44_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t44
  let v666 : BitVec 32 := Scalar.muli c16_i32_224 arg32
  let v669 : Index := Scalar.indexCast v666
  ![v667.toNat, 3, v669.toNat]
def k1_off283 (v21 : BitVec 32) (v23 : BitVec 32) (k1_t31 : Fin (k1_t31_loop v21 v23).trips) (k1_t39 : Fin (k1_t39_loop v21 v23 k1_t31).trips) (k1_t44 : Fin (k1_t44_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t44
  let v674 : BitVec 32 := Scalar.muli c16_i32_226 arg32
  let v677 : Index := Scalar.indexCast v674
  ![v675.toNat, 4, v677.toNat]
def k1_off284 (v21 : BitVec 32) (v23 : BitVec 32) (k1_t31 : Fin (k1_t31_loop v21 v23).trips) (k1_t39 : Fin (k1_t39_loop v21 v23 k1_t31).trips) (k1_t44 : Fin (k1_t44_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t44
  let v682 : BitVec 32 := Scalar.muli c16_i32_228 arg32
  let v685 : Index := Scalar.indexCast v682
  ![v683.toNat, 5, v685.toNat]
def k1_off285 (v21 : BitVec 32) (v23 : BitVec 32) (k1_t31 : Fin (k1_t31_loop v21 v23).trips) (k1_t39 : Fin (k1_t39_loop v21 v23 k1_t31).trips) (k1_t44 : Fin (k1_t44_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t44
  let v690 : BitVec 32 := Scalar.muli c16_i32_230 arg32
  let v693 : Index := Scalar.indexCast v690
  ![v691.toNat, 6, v693.toNat]
def k1_off286 (v21 : BitVec 32) (v23 : BitVec 32) (k1_t31 : Fin (k1_t31_loop v21 v23).trips) (k1_t39 : Fin (k1_t39_loop v21 v23 k1_t31).trips) (k1_t44 : Fin (k1_t44_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t44
  let v698 : BitVec 32 := Scalar.muli c16_i32_232 arg32
  let v701 : Index := Scalar.indexCast v698
  ![v699.toNat, 7, v701.toNat]
@[reducible] def k1_t45_loop (v21 : BitVec 32) (v23 : BitVec 32) (k1_t31 : Fin (k1_t31_loop v21 v23).trips) (k1_t39 : Fin (k1_t39_loop v21 v23 k1_t31).trips) : Scf.Loop 32 :=
  let c128_i32_202 : BitVec 32 := 128#32
  let c0_i32_201 : BitVec 32 := 0#32
  let c7_i32_9 : BitVec 32 := 7#32
  let v25 : BitVec 32 := Scalar.shrui v21 c7_i32_9
  let c1_i32_23 : BitVec 32 := 1#32
  let c127_i32 : BitVec 32 := 127#32
  let v26 : BitVec 32 := Scalar.addi v23 c127_i32
  let c7_i32_10 : BitVec 32 := 7#32
  let v27 : BitVec 32 := Scalar.shrui v26 c7_i32_10
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let c0_i32_195 : BitVec 32 := 0#32
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let v627 : BitVec 32 := Scalar.addi v623 v626
  let c1_i32_216 : BitVec 32 := 1#32
  ⟨v630, v627, c1_i32_216⟩
def k1_off287 (v21 : BitVec 32) (v23 : BitVec 32) (k1_t31 : Fin (k1_t31_loop v21 v23).trips) (k1_t39 : Fin (k1_t39_loop v21 v23 k1_t31).trips) (k1_t45 : Fin (k1_t45_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t45
  let v642 : BitVec 32 := Scalar.muli c16_i32_218 arg32
  let v645 : Index := Scalar.indexCast v642
  ![v643.toNat, 0, v645.toNat]
def k1_off288 (v21 : BitVec 32) (v23 : BitVec 32) (k1_t31 : Fin (k1_t31_loop v21 v23).trips) (k1_t39 : Fin (k1_t39_loop v21 v23 k1_t31).trips) (k1_t45 : Fin (k1_t45_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t45
  let v650 : BitVec 32 := Scalar.muli c16_i32_220 arg32
  let v653 : Index := Scalar.indexCast v650
  ![v651.toNat, 1, v653.toNat]
def k1_off289 (v21 : BitVec 32) (v23 : BitVec 32) (k1_t31 : Fin (k1_t31_loop v21 v23).trips) (k1_t39 : Fin (k1_t39_loop v21 v23 k1_t31).trips) (k1_t45 : Fin (k1_t45_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t45
  let v658 : BitVec 32 := Scalar.muli c16_i32_222 arg32
  let v661 : Index := Scalar.indexCast v658
  ![v659.toNat, 2, v661.toNat]
def k1_off290 (v21 : BitVec 32) (v23 : BitVec 32) (k1_t31 : Fin (k1_t31_loop v21 v23).trips) (k1_t39 : Fin (k1_t39_loop v21 v23 k1_t31).trips) (k1_t45 : Fin (k1_t45_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t45
  let v666 : BitVec 32 := Scalar.muli c16_i32_224 arg32
  let v669 : Index := Scalar.indexCast v666
  ![v667.toNat, 3, v669.toNat]
def k1_off291 (v21 : BitVec 32) (v23 : BitVec 32) (k1_t31 : Fin (k1_t31_loop v21 v23).trips) (k1_t39 : Fin (k1_t39_loop v21 v23 k1_t31).trips) (k1_t45 : Fin (k1_t45_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t45
  let v674 : BitVec 32 := Scalar.muli c16_i32_226 arg32
  let v677 : Index := Scalar.indexCast v674
  ![v675.toNat, 4, v677.toNat]
def k1_off292 (v21 : BitVec 32) (v23 : BitVec 32) (k1_t31 : Fin (k1_t31_loop v21 v23).trips) (k1_t39 : Fin (k1_t39_loop v21 v23 k1_t31).trips) (k1_t45 : Fin (k1_t45_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t45
  let v682 : BitVec 32 := Scalar.muli c16_i32_228 arg32
  let v685 : Index := Scalar.indexCast v682
  ![v683.toNat, 5, v685.toNat]
def k1_off293 (v21 : BitVec 32) (v23 : BitVec 32) (k1_t31 : Fin (k1_t31_loop v21 v23).trips) (k1_t39 : Fin (k1_t39_loop v21 v23 k1_t31).trips) (k1_t45 : Fin (k1_t45_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t45
  let v690 : BitVec 32 := Scalar.muli c16_i32_230 arg32
  let v693 : Index := Scalar.indexCast v690
  ![v691.toNat, 6, v693.toNat]
def k1_off294 (v21 : BitVec 32) (v23 : BitVec 32) (k1_t31 : Fin (k1_t31_loop v21 v23).trips) (k1_t39 : Fin (k1_t39_loop v21 v23 k1_t31).trips) (k1_t45 : Fin (k1_t45_loop v21 v23 k1_t31 k1_t39).trips) : Fin 3 → Nat :=
  let c0_i32_195 : BitVec 32 := 0#32
  let c127_i32 : BitVec 32 := 127#32
  let v26 : BitVec 32 := Scalar.addi v23 c127_i32
  let c7_i32_10 : BitVec 32 := 7#32
  let v27 : BitVec 32 := Scalar.shrui v26 c7_i32_10
  let c7_i32_9 : BitVec 32 := 7#32
  let v25 : BitVec 32 := Scalar.shrui v21 c7_i32_9
  let c1_i32_23 : BitVec 32 := 1#32
  let v28 : BitVec 32 := Scalar.subi v27 v25
  let c3_i32 : BitVec 32 := 3#32
  let v29 : BitVec 32 := Scalar.addi v28 c3_i32
  let c2_i32_11 : BitVec 32 := 2#32
  let v30 : BitVec 32 := Scalar.shrui v29 c2_i32_11
  let v44 : BitVec 32 := Scalar.subi v30 c1_i32_23
  let c1_i32_24 : BitVec 32 := 1#32
  let v46 : BitVec 32 := Scalar.divsi v44 c1_i32_24
  let v47 : BitVec 32 := Scalar.muli v46 c1_i32_24
  let v48 : BitVec 32 := Scalar.addi c1_i32_23 v47
  let c1_i32_26 : BitVec 32 := 1#32
  let arg14 : BitVec 32 := Scf.iv v48 c1_i32_26 k1_t31
  let c4_i32_193 : BitVec 32 := 4#32
  let v586 : BitVec 32 := Scalar.muli arg14 c4_i32_193
  let v587 : BitVec 32 := Scalar.addi v25 v586
  let v588 : BitVec 32 := Scalar.subi v27 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t39
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v23 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v21 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t45
  let v698 : BitVec 32 := Scalar.muli c16_i32_232 arg32
  let v701 : Index := Scalar.indexCast v698
  ![v699.toNat, 7, v701.toNat]

def k1_chk2_0 (k1_t1 : Fin k1_t1_loop.trips) (v21 : BitVec 32) (v23 : BitVec 32) : Prop :=
  (∀ (k1_h1 : k1_cond1 k1_t1 = 1#1), ∀ a, (k1_off4 v23) a + S4x8x128.size a ≤ S2550x8x128.size a) ∧
  ((k1_t2_loop v21 v23).OK) ∧
  (∀ k1_t2 : Fin (k1_t2_loop v21 v23).trips, (k1_t3_loop v21 v23 k1_t2).OK) ∧
  (∀ (k1_t2 : Fin (k1_t2_loop v21 v23).trips) (k1_t3 : Fin (k1_t3_loop v21 v23 k1_t2).trips), ∀ a, (k1_off5 v21 v23 k1_t2 k1_t3) a + S1x1x16.size a ≤ S4x8x128.size a) ∧
  (∀ (k1_t2 : Fin (k1_t2_loop v21 v23).trips) (k1_t3 : Fin (k1_t3_loop v21 v23 k1_t2).trips), ∀ a, (k1_off6 v21 v23 k1_t2 k1_t3) a + S1x1x16.size a ≤ S4x8x128.size a) ∧
  (∀ (k1_t2 : Fin (k1_t2_loop v21 v23).trips) (k1_t3 : Fin (k1_t3_loop v21 v23 k1_t2).trips), ∀ a, (k1_off7 v21 v23 k1_t2 k1_t3) a + S1x1x16.size a ≤ S4x8x128.size a) ∧
  (∀ (k1_t2 : Fin (k1_t2_loop v21 v23).trips) (k1_t3 : Fin (k1_t3_loop v21 v23 k1_t2).trips), ∀ a, (k1_off8 v21 v23 k1_t2 k1_t3) a + S1x1x16.size a ≤ S4x8x128.size a) ∧
  (∀ (k1_t2 : Fin (k1_t2_loop v21 v23).trips) (k1_t3 : Fin (k1_t3_loop v21 v23 k1_t2).trips), ∀ a, (k1_off9 v21 v23 k1_t2 k1_t3) a + S1x1x16.size a ≤ S4x8x128.size a) ∧
  (∀ (k1_t2 : Fin (k1_t2_loop v21 v23).trips) (k1_t3 : Fin (k1_t3_loop v21 v23 k1_t2).trips), ∀ a, (k1_off10 v21 v23 k1_t2 k1_t3) a + S1x1x16.size a ≤ S4x8x128.size a) ∧
  (∀ (k1_t2 : Fin (k1_t2_loop v21 v23).trips) (k1_t3 : Fin (k1_t3_loop v21 v23 k1_t2).trips), ∀ a, (k1_off11 v21 v23 k1_t2 k1_t3) a + S1x1x16.size a ≤ S4x8x128.size a) ∧
  (∀ (k1_t2 : Fin (k1_t2_loop v21 v23).trips) (k1_t3 : Fin (k1_t3_loop v21 v23 k1_t2).trips), ∀ a, (k1_off12 v21 v23 k1_t2 k1_t3) a + S1x1x16.size a ≤ S4x8x128.size a) ∧
  (∀ k1_t2 : Fin (k1_t2_loop v21 v23).trips, (k1_t4_loop v21 v23 k1_t2).OK) ∧
  (∀ (k1_t2 : Fin (k1_t2_loop v21 v23).trips) (k1_t4 : Fin (k1_t4_loop v21 v23 k1_t2).trips), ∀ a, (k1_off13 v21 v23 k1_t2 k1_t4) a + S1x1x16.size a ≤ S4x8x128.size a) ∧
  (∀ (k1_t2 : Fin (k1_t2_loop v21 v23).trips) (k1_t4 : Fin (k1_t4_loop v21 v23 k1_t2).trips), ∀ a, (k1_off14 v21 v23 k1_t2 k1_t4) a + S1x1x16.size a ≤ S4x8x128.size a) ∧
  (∀ (k1_t2 : Fin (k1_t2_loop v21 v23).trips) (k1_t4 : Fin (k1_t4_loop v21 v23 k1_t2).trips), ∀ a, (k1_off15 v21 v23 k1_t2 k1_t4) a + S1x1x16.size a ≤ S4x8x128.size a) ∧
  (∀ (k1_t2 : Fin (k1_t2_loop v21 v23).trips) (k1_t4 : Fin (k1_t4_loop v21 v23 k1_t2).trips), ∀ a, (k1_off16 v21 v23 k1_t2 k1_t4) a + S1x1x16.size a ≤ S4x8x128.size a) ∧
  (∀ (k1_t2 : Fin (k1_t2_loop v21 v23).trips) (k1_t4 : Fin (k1_t4_loop v21 v23 k1_t2).trips), ∀ a, (k1_off17 v21 v23 k1_t2 k1_t4) a + S1x1x16.size a ≤ S4x8x128.size a) ∧
  (∀ (k1_t2 : Fin (k1_t2_loop v21 v23).trips) (k1_t4 : Fin (k1_t4_loop v21 v23 k1_t2).trips), ∀ a, (k1_off18 v21 v23 k1_t2 k1_t4) a + S1x1x16.size a ≤ S4x8x128.size a) ∧
  (∀ (k1_t2 : Fin (k1_t2_loop v21 v23).trips) (k1_t4 : Fin (k1_t4_loop v21 v23 k1_t2).trips), ∀ a, (k1_off19 v21 v23 k1_t2 k1_t4) a + S1x1x16.size a ≤ S4x8x128.size a) ∧
  (∀ (k1_t2 : Fin (k1_t2_loop v21 v23).trips) (k1_t4 : Fin (k1_t4_loop v21 v23 k1_t2).trips), ∀ a, (k1_off20 v21 v23 k1_t2 k1_t4) a + S1x1x16.size a ≤ S4x8x128.size a) ∧
  (∀ k1_t2 : Fin (k1_t2_loop v21 v23).trips, (k1_t5_loop v21 v23 k1_t2).OK) ∧
  (∀ (k1_t2 : Fin (k1_t2_loop v21 v23).trips) (k1_t5 : Fin (k1_t5_loop v21 v23 k1_t2).trips), ∀ a, (k1_off21 v21 v23 k1_t2 k1_t5) a + S1x1x16.size a ≤ S4x8x128.size a) ∧
  (∀ (k1_t2 : Fin (k1_t2_loop v21 v23).trips) (k1_t5 : Fin (k1_t5_loop v21 v23 k1_t2).trips), ∀ a, (k1_off22 v21 v23 k1_t2 k1_t5) a + S1x1x16.size a ≤ S4x8x128.size a) ∧
  (∀ (k1_t2 : Fin (k1_t2_loop v21 v23).trips) (k1_t5 : Fin (k1_t5_loop v21 v23 k1_t2).trips), ∀ a, (k1_off23 v21 v23 k1_t2 k1_t5) a + S1x1x16.size a ≤ S4x8x128.size a) ∧
  (∀ (k1_t2 : Fin (k1_t2_loop v21 v23).trips) (k1_t5 : Fin (k1_t5_loop v21 v23 k1_t2).trips), ∀ a, (k1_off24 v21 v23 k1_t2 k1_t5) a + S1x1x16.size a ≤ S4x8x128.size a) ∧
  (∀ (k1_t2 : Fin (k1_t2_loop v21 v23).trips) (k1_t5 : Fin (k1_t5_loop v21 v23 k1_t2).trips), ∀ a, (k1_off25 v21 v23 k1_t2 k1_t5) a + S1x1x16.size a ≤ S4x8x128.size a) ∧
  (∀ (k1_t2 : Fin (k1_t2_loop v21 v23).trips) (k1_t5 : Fin (k1_t5_loop v21 v23 k1_t2).trips), ∀ a, (k1_off26 v21 v23 k1_t2 k1_t5) a + S1x1x16.size a ≤ S4x8x128.size a) ∧
  (∀ (k1_t2 : Fin (k1_t2_loop v21 v23).trips) (k1_t5 : Fin (k1_t5_loop v21 v23 k1_t2).trips), ∀ a, (k1_off27 v21 v23 k1_t2 k1_t5) a + S1x1x16.size a ≤ S4x8x128.size a) ∧
  (∀ (k1_t2 : Fin (k1_t2_loop v21 v23).trips) (k1_t5 : Fin (k1_t5_loop v21 v23 k1_t2).trips), ∀ a, (k1_off28 v21 v23 k1_t2 k1_t5) a + S1x1x16.size a ≤ S4x8x128.size a) ∧
  (∀ k1_t2 : Fin (k1_t2_loop v21 v23).trips, (k1_t6_loop v21 v23 k1_t2).OK) ∧
  (∀ (k1_t2 : Fin (k1_t2_loop v21 v23).trips) (k1_t6 : Fin (k1_t6_loop v21 v23 k1_t2).trips), ∀ a, (k1_off29 v21 v23 k1_t2 k1_t6) a + S1x1x16.size a ≤ S4x8x128.size a) ∧
  (∀ (k1_t2 : Fin (k1_t2_loop v21 v23).trips) (k1_t6 : Fin (k1_t6_loop v21 v23 k1_t2).trips), ∀ a, (k1_off30 v21 v23 k1_t2 k1_t6) a + S1x1x16.size a ≤ S4x8x128.size a)
def k1_chk2_1 (k1_t1 : Fin k1_t1_loop.trips) (v21 : BitVec 32) (v23 : BitVec 32) : Prop :=
  (∀ (k1_t2 : Fin (k1_t2_loop v21 v23).trips) (k1_t6 : Fin (k1_t6_loop v21 v23 k1_t2).trips), ∀ a, (k1_off31 v21 v23 k1_t2 k1_t6) a + S1x1x16.size a ≤ S4x8x128.size a) ∧
  (∀ (k1_t2 : Fin (k1_t2_loop v21 v23).trips) (k1_t6 : Fin (k1_t6_loop v21 v23 k1_t2).trips), ∀ a, (k1_off32 v21 v23 k1_t2 k1_t6) a + S1x1x16.size a ≤ S4x8x128.size a) ∧
  (∀ (k1_t2 : Fin (k1_t2_loop v21 v23).trips) (k1_t6 : Fin (k1_t6_loop v21 v23 k1_t2).trips), ∀ a, (k1_off33 v21 v23 k1_t2 k1_t6) a + S1x1x16.size a ≤ S4x8x128.size a) ∧
  (∀ (k1_t2 : Fin (k1_t2_loop v21 v23).trips) (k1_t6 : Fin (k1_t6_loop v21 v23 k1_t2).trips), ∀ a, (k1_off34 v21 v23 k1_t2 k1_t6) a + S1x1x16.size a ≤ S4x8x128.size a) ∧
  (∀ (k1_t2 : Fin (k1_t2_loop v21 v23).trips) (k1_t6 : Fin (k1_t6_loop v21 v23 k1_t2).trips), ∀ a, (k1_off35 v21 v23 k1_t2 k1_t6) a + S1x1x16.size a ≤ S4x8x128.size a) ∧
  (∀ (k1_t2 : Fin (k1_t2_loop v21 v23).trips) (k1_t6 : Fin (k1_t6_loop v21 v23 k1_t2).trips), ∀ a, (k1_off36 v21 v23 k1_t2 k1_t6) a + S1x1x16.size a ≤ S4x8x128.size a) ∧
  (∀ k1_t2 : Fin (k1_t2_loop v21 v23).trips, (k1_t7_loop v21 v23 k1_t2).OK) ∧
  (∀ (k1_t2 : Fin (k1_t2_loop v21 v23).trips) (k1_t7 : Fin (k1_t7_loop v21 v23 k1_t2).trips), ∀ a, (k1_off37 v21 v23 k1_t2 k1_t7) a + S1x1x16.size a ≤ S4x8x128.size a) ∧
  (∀ (k1_t2 : Fin (k1_t2_loop v21 v23).trips) (k1_t7 : Fin (k1_t7_loop v21 v23 k1_t2).trips), ∀ a, (k1_off38 v21 v23 k1_t2 k1_t7) a + S1x1x16.size a ≤ S4x8x128.size a) ∧
  (∀ (k1_t2 : Fin (k1_t2_loop v21 v23).trips) (k1_t7 : Fin (k1_t7_loop v21 v23 k1_t2).trips), ∀ a, (k1_off39 v21 v23 k1_t2 k1_t7) a + S1x1x16.size a ≤ S4x8x128.size a) ∧
  (∀ (k1_t2 : Fin (k1_t2_loop v21 v23).trips) (k1_t7 : Fin (k1_t7_loop v21 v23 k1_t2).trips), ∀ a, (k1_off40 v21 v23 k1_t2 k1_t7) a + S1x1x16.size a ≤ S4x8x128.size a) ∧
  (∀ (k1_t2 : Fin (k1_t2_loop v21 v23).trips) (k1_t7 : Fin (k1_t7_loop v21 v23 k1_t2).trips), ∀ a, (k1_off41 v21 v23 k1_t2 k1_t7) a + S1x1x16.size a ≤ S4x8x128.size a) ∧
  (∀ (k1_t2 : Fin (k1_t2_loop v21 v23).trips) (k1_t7 : Fin (k1_t7_loop v21 v23 k1_t2).trips), ∀ a, (k1_off42 v21 v23 k1_t2 k1_t7) a + S1x1x16.size a ≤ S4x8x128.size a) ∧
  (∀ (k1_t2 : Fin (k1_t2_loop v21 v23).trips) (k1_t7 : Fin (k1_t7_loop v21 v23 k1_t2).trips), ∀ a, (k1_off43 v21 v23 k1_t2 k1_t7) a + S1x1x16.size a ≤ S4x8x128.size a) ∧
  (∀ (k1_t2 : Fin (k1_t2_loop v21 v23).trips) (k1_t7 : Fin (k1_t7_loop v21 v23 k1_t2).trips), ∀ a, (k1_off44 v21 v23 k1_t2 k1_t7) a + S1x1x16.size a ≤ S4x8x128.size a) ∧
  (∀ k1_t2 : Fin (k1_t2_loop v21 v23).trips, (k1_t8_loop v21 v23 k1_t2).OK) ∧
  (∀ (k1_t2 : Fin (k1_t2_loop v21 v23).trips) (k1_t8 : Fin (k1_t8_loop v21 v23 k1_t2).trips), ∀ a, (k1_off45 v21 v23 k1_t2 k1_t8) a + S1x1x16.size a ≤ S4x8x128.size a) ∧
  (∀ (k1_t2 : Fin (k1_t2_loop v21 v23).trips) (k1_t8 : Fin (k1_t8_loop v21 v23 k1_t2).trips), ∀ a, (k1_off46 v21 v23 k1_t2 k1_t8) a + S1x1x16.size a ≤ S4x8x128.size a) ∧
  (∀ (k1_t2 : Fin (k1_t2_loop v21 v23).trips) (k1_t8 : Fin (k1_t8_loop v21 v23 k1_t2).trips), ∀ a, (k1_off47 v21 v23 k1_t2 k1_t8) a + S1x1x16.size a ≤ S4x8x128.size a) ∧
  (∀ (k1_t2 : Fin (k1_t2_loop v21 v23).trips) (k1_t8 : Fin (k1_t8_loop v21 v23 k1_t2).trips), ∀ a, (k1_off48 v21 v23 k1_t2 k1_t8) a + S1x1x16.size a ≤ S4x8x128.size a) ∧
  (∀ (k1_t2 : Fin (k1_t2_loop v21 v23).trips) (k1_t8 : Fin (k1_t8_loop v21 v23 k1_t2).trips), ∀ a, (k1_off49 v21 v23 k1_t2 k1_t8) a + S1x1x16.size a ≤ S4x8x128.size a) ∧
  (∀ (k1_t2 : Fin (k1_t2_loop v21 v23).trips) (k1_t8 : Fin (k1_t8_loop v21 v23 k1_t2).trips), ∀ a, (k1_off50 v21 v23 k1_t2 k1_t8) a + S1x1x16.size a ≤ S4x8x128.size a) ∧
  (∀ (k1_t2 : Fin (k1_t2_loop v21 v23).trips) (k1_t8 : Fin (k1_t8_loop v21 v23 k1_t2).trips), ∀ a, (k1_off51 v21 v23 k1_t2 k1_t8) a + S1x1x16.size a ≤ S4x8x128.size a) ∧
  (∀ (k1_t2 : Fin (k1_t2_loop v21 v23).trips) (k1_t8 : Fin (k1_t8_loop v21 v23 k1_t2).trips), ∀ a, (k1_off52 v21 v23 k1_t2 k1_t8) a + S1x1x16.size a ≤ S4x8x128.size a) ∧
  ((k1_t9_loop v21 v23).OK) ∧
  (∀ k1_t9 : Fin (k1_t9_loop v21 v23).trips, (k1_t10_loop v21 v23 k1_t9).OK) ∧
  (∀ (k1_t9 : Fin (k1_t9_loop v21 v23).trips) (k1_t10 : Fin (k1_t10_loop v21 v23 k1_t9).trips), ∀ a, (k1_off53 v21 v23 k1_t9 k1_t10) a + S1x1x16.size a ≤ S4x8x128.size a) ∧
  (∀ (k1_t9 : Fin (k1_t9_loop v21 v23).trips) (k1_t10 : Fin (k1_t10_loop v21 v23 k1_t9).trips), ∀ a, (k1_off54 v21 v23 k1_t9 k1_t10) a + S1x1x16.size a ≤ S4x8x128.size a) ∧
  (∀ (k1_t9 : Fin (k1_t9_loop v21 v23).trips) (k1_t10 : Fin (k1_t10_loop v21 v23 k1_t9).trips), ∀ a, (k1_off55 v21 v23 k1_t9 k1_t10) a + S1x1x16.size a ≤ S4x8x128.size a) ∧
  (∀ (k1_t9 : Fin (k1_t9_loop v21 v23).trips) (k1_t10 : Fin (k1_t10_loop v21 v23 k1_t9).trips), ∀ a, (k1_off56 v21 v23 k1_t9 k1_t10) a + S1x1x16.size a ≤ S4x8x128.size a) ∧
  (∀ (k1_t9 : Fin (k1_t9_loop v21 v23).trips) (k1_t10 : Fin (k1_t10_loop v21 v23 k1_t9).trips), ∀ a, (k1_off57 v21 v23 k1_t9 k1_t10) a + S1x1x16.size a ≤ S4x8x128.size a) ∧
  (∀ (k1_t9 : Fin (k1_t9_loop v21 v23).trips) (k1_t10 : Fin (k1_t10_loop v21 v23 k1_t9).trips), ∀ a, (k1_off58 v21 v23 k1_t9 k1_t10) a + S1x1x16.size a ≤ S4x8x128.size a)
def k1_chk2_2 (k1_t1 : Fin k1_t1_loop.trips) (v21 : BitVec 32) (v23 : BitVec 32) : Prop :=
  (∀ (k1_t9 : Fin (k1_t9_loop v21 v23).trips) (k1_t10 : Fin (k1_t10_loop v21 v23 k1_t9).trips), ∀ a, (k1_off59 v21 v23 k1_t9 k1_t10) a + S1x1x16.size a ≤ S4x8x128.size a) ∧
  (∀ (k1_t9 : Fin (k1_t9_loop v21 v23).trips) (k1_t10 : Fin (k1_t10_loop v21 v23 k1_t9).trips), ∀ a, (k1_off60 v21 v23 k1_t9 k1_t10) a + S1x1x16.size a ≤ S4x8x128.size a) ∧
  (∀ k1_t9 : Fin (k1_t9_loop v21 v23).trips, (k1_t11_loop v21 v23 k1_t9).OK) ∧
  (∀ (k1_t9 : Fin (k1_t9_loop v21 v23).trips) (k1_t11 : Fin (k1_t11_loop v21 v23 k1_t9).trips), ∀ a, (k1_off61 v21 v23 k1_t9 k1_t11) a + S1x1x16.size a ≤ S4x8x128.size a) ∧
  (∀ (k1_t9 : Fin (k1_t9_loop v21 v23).trips) (k1_t11 : Fin (k1_t11_loop v21 v23 k1_t9).trips), ∀ a, (k1_off62 v21 v23 k1_t9 k1_t11) a + S1x1x16.size a ≤ S4x8x128.size a) ∧
  (∀ (k1_t9 : Fin (k1_t9_loop v21 v23).trips) (k1_t11 : Fin (k1_t11_loop v21 v23 k1_t9).trips), ∀ a, (k1_off63 v21 v23 k1_t9 k1_t11) a + S1x1x16.size a ≤ S4x8x128.size a) ∧
  (∀ (k1_t9 : Fin (k1_t9_loop v21 v23).trips) (k1_t11 : Fin (k1_t11_loop v21 v23 k1_t9).trips), ∀ a, (k1_off64 v21 v23 k1_t9 k1_t11) a + S1x1x16.size a ≤ S4x8x128.size a) ∧
  (∀ (k1_t9 : Fin (k1_t9_loop v21 v23).trips) (k1_t11 : Fin (k1_t11_loop v21 v23 k1_t9).trips), ∀ a, (k1_off65 v21 v23 k1_t9 k1_t11) a + S1x1x16.size a ≤ S4x8x128.size a) ∧
  (∀ (k1_t9 : Fin (k1_t9_loop v21 v23).trips) (k1_t11 : Fin (k1_t11_loop v21 v23 k1_t9).trips), ∀ a, (k1_off66 v21 v23 k1_t9 k1_t11) a + S1x1x16.size a ≤ S4x8x128.size a) ∧
  (∀ (k1_t9 : Fin (k1_t9_loop v21 v23).trips) (k1_t11 : Fin (k1_t11_loop v21 v23 k1_t9).trips), ∀ a, (k1_off67 v21 v23 k1_t9 k1_t11) a + S1x1x16.size a ≤ S4x8x128.size a) ∧
  (∀ (k1_t9 : Fin (k1_t9_loop v21 v23).trips) (k1_t11 : Fin (k1_t11_loop v21 v23 k1_t9).trips), ∀ a, (k1_off68 v21 v23 k1_t9 k1_t11) a + S1x1x16.size a ≤ S4x8x128.size a) ∧
  (∀ k1_t9 : Fin (k1_t9_loop v21 v23).trips, (k1_t12_loop v21 v23 k1_t9).OK) ∧
  (∀ (k1_t9 : Fin (k1_t9_loop v21 v23).trips) (k1_t12 : Fin (k1_t12_loop v21 v23 k1_t9).trips), ∀ a, (k1_off69 v21 v23 k1_t9 k1_t12) a + S1x1x16.size a ≤ S4x8x128.size a) ∧
  (∀ (k1_t9 : Fin (k1_t9_loop v21 v23).trips) (k1_t12 : Fin (k1_t12_loop v21 v23 k1_t9).trips), ∀ a, (k1_off70 v21 v23 k1_t9 k1_t12) a + S1x1x16.size a ≤ S4x8x128.size a) ∧
  (∀ (k1_t9 : Fin (k1_t9_loop v21 v23).trips) (k1_t12 : Fin (k1_t12_loop v21 v23 k1_t9).trips), ∀ a, (k1_off71 v21 v23 k1_t9 k1_t12) a + S1x1x16.size a ≤ S4x8x128.size a) ∧
  (∀ (k1_t9 : Fin (k1_t9_loop v21 v23).trips) (k1_t12 : Fin (k1_t12_loop v21 v23 k1_t9).trips), ∀ a, (k1_off72 v21 v23 k1_t9 k1_t12) a + S1x1x16.size a ≤ S4x8x128.size a) ∧
  (∀ (k1_t9 : Fin (k1_t9_loop v21 v23).trips) (k1_t12 : Fin (k1_t12_loop v21 v23 k1_t9).trips), ∀ a, (k1_off73 v21 v23 k1_t9 k1_t12) a + S1x1x16.size a ≤ S4x8x128.size a) ∧
  (∀ (k1_t9 : Fin (k1_t9_loop v21 v23).trips) (k1_t12 : Fin (k1_t12_loop v21 v23 k1_t9).trips), ∀ a, (k1_off74 v21 v23 k1_t9 k1_t12) a + S1x1x16.size a ≤ S4x8x128.size a) ∧
  (∀ (k1_t9 : Fin (k1_t9_loop v21 v23).trips) (k1_t12 : Fin (k1_t12_loop v21 v23 k1_t9).trips), ∀ a, (k1_off75 v21 v23 k1_t9 k1_t12) a + S1x1x16.size a ≤ S4x8x128.size a) ∧
  (∀ (k1_t9 : Fin (k1_t9_loop v21 v23).trips) (k1_t12 : Fin (k1_t12_loop v21 v23 k1_t9).trips), ∀ a, (k1_off76 v21 v23 k1_t9 k1_t12) a + S1x1x16.size a ≤ S4x8x128.size a) ∧
  (∀ k1_t9 : Fin (k1_t9_loop v21 v23).trips, (k1_t13_loop v21 v23 k1_t9).OK) ∧
  (∀ (k1_t9 : Fin (k1_t9_loop v21 v23).trips) (k1_t13 : Fin (k1_t13_loop v21 v23 k1_t9).trips), ∀ a, (k1_off77 v21 v23 k1_t9 k1_t13) a + S1x1x16.size a ≤ S4x8x128.size a) ∧
  (∀ (k1_t9 : Fin (k1_t9_loop v21 v23).trips) (k1_t13 : Fin (k1_t13_loop v21 v23 k1_t9).trips), ∀ a, (k1_off78 v21 v23 k1_t9 k1_t13) a + S1x1x16.size a ≤ S4x8x128.size a) ∧
  (∀ (k1_t9 : Fin (k1_t9_loop v21 v23).trips) (k1_t13 : Fin (k1_t13_loop v21 v23 k1_t9).trips), ∀ a, (k1_off79 v21 v23 k1_t9 k1_t13) a + S1x1x16.size a ≤ S4x8x128.size a) ∧
  (∀ (k1_t9 : Fin (k1_t9_loop v21 v23).trips) (k1_t13 : Fin (k1_t13_loop v21 v23 k1_t9).trips), ∀ a, (k1_off80 v21 v23 k1_t9 k1_t13) a + S1x1x16.size a ≤ S4x8x128.size a) ∧
  (∀ (k1_t9 : Fin (k1_t9_loop v21 v23).trips) (k1_t13 : Fin (k1_t13_loop v21 v23 k1_t9).trips), ∀ a, (k1_off81 v21 v23 k1_t9 k1_t13) a + S1x1x16.size a ≤ S4x8x128.size a) ∧
  (∀ (k1_t9 : Fin (k1_t9_loop v21 v23).trips) (k1_t13 : Fin (k1_t13_loop v21 v23 k1_t9).trips), ∀ a, (k1_off82 v21 v23 k1_t9 k1_t13) a + S1x1x16.size a ≤ S4x8x128.size a) ∧
  (∀ (k1_t9 : Fin (k1_t9_loop v21 v23).trips) (k1_t13 : Fin (k1_t13_loop v21 v23 k1_t9).trips), ∀ a, (k1_off83 v21 v23 k1_t9 k1_t13) a + S1x1x16.size a ≤ S4x8x128.size a) ∧
  (∀ (k1_t9 : Fin (k1_t9_loop v21 v23).trips) (k1_t13 : Fin (k1_t13_loop v21 v23 k1_t9).trips), ∀ a, (k1_off84 v21 v23 k1_t9 k1_t13) a + S1x1x16.size a ≤ S4x8x128.size a) ∧
  (∀ k1_t9 : Fin (k1_t9_loop v21 v23).trips, (k1_t14_loop v21 v23 k1_t9).OK) ∧
  (∀ (k1_t9 : Fin (k1_t9_loop v21 v23).trips) (k1_t14 : Fin (k1_t14_loop v21 v23 k1_t9).trips), ∀ a, (k1_off85 v21 v23 k1_t9 k1_t14) a + S1x1x16.size a ≤ S4x8x128.size a) ∧
  (∀ (k1_t9 : Fin (k1_t9_loop v21 v23).trips) (k1_t14 : Fin (k1_t14_loop v21 v23 k1_t9).trips), ∀ a, (k1_off86 v21 v23 k1_t9 k1_t14) a + S1x1x16.size a ≤ S4x8x128.size a)
def k1_chk2_3 (k1_t1 : Fin k1_t1_loop.trips) (v21 : BitVec 32) (v23 : BitVec 32) : Prop :=
  (∀ (k1_t9 : Fin (k1_t9_loop v21 v23).trips) (k1_t14 : Fin (k1_t14_loop v21 v23 k1_t9).trips), ∀ a, (k1_off87 v21 v23 k1_t9 k1_t14) a + S1x1x16.size a ≤ S4x8x128.size a) ∧
  (∀ (k1_t9 : Fin (k1_t9_loop v21 v23).trips) (k1_t14 : Fin (k1_t14_loop v21 v23 k1_t9).trips), ∀ a, (k1_off88 v21 v23 k1_t9 k1_t14) a + S1x1x16.size a ≤ S4x8x128.size a) ∧
  (∀ (k1_t9 : Fin (k1_t9_loop v21 v23).trips) (k1_t14 : Fin (k1_t14_loop v21 v23 k1_t9).trips), ∀ a, (k1_off89 v21 v23 k1_t9 k1_t14) a + S1x1x16.size a ≤ S4x8x128.size a) ∧
  (∀ (k1_t9 : Fin (k1_t9_loop v21 v23).trips) (k1_t14 : Fin (k1_t14_loop v21 v23 k1_t9).trips), ∀ a, (k1_off90 v21 v23 k1_t9 k1_t14) a + S1x1x16.size a ≤ S4x8x128.size a) ∧
  (∀ (k1_t9 : Fin (k1_t9_loop v21 v23).trips) (k1_t14 : Fin (k1_t14_loop v21 v23 k1_t9).trips), ∀ a, (k1_off91 v21 v23 k1_t9 k1_t14) a + S1x1x16.size a ≤ S4x8x128.size a) ∧
  (∀ (k1_t9 : Fin (k1_t9_loop v21 v23).trips) (k1_t14 : Fin (k1_t14_loop v21 v23 k1_t9).trips), ∀ a, (k1_off92 v21 v23 k1_t9 k1_t14) a + S1x1x16.size a ≤ S4x8x128.size a) ∧
  (∀ k1_t9 : Fin (k1_t9_loop v21 v23).trips, (k1_t15_loop v21 v23 k1_t9).OK) ∧
  (∀ (k1_t9 : Fin (k1_t9_loop v21 v23).trips) (k1_t15 : Fin (k1_t15_loop v21 v23 k1_t9).trips), ∀ a, (k1_off93 v21 v23 k1_t9 k1_t15) a + S1x1x16.size a ≤ S4x8x128.size a) ∧
  (∀ (k1_t9 : Fin (k1_t9_loop v21 v23).trips) (k1_t15 : Fin (k1_t15_loop v21 v23 k1_t9).trips), ∀ a, (k1_off94 v21 v23 k1_t9 k1_t15) a + S1x1x16.size a ≤ S4x8x128.size a) ∧
  (∀ (k1_t9 : Fin (k1_t9_loop v21 v23).trips) (k1_t15 : Fin (k1_t15_loop v21 v23 k1_t9).trips), ∀ a, (k1_off95 v21 v23 k1_t9 k1_t15) a + S1x1x16.size a ≤ S4x8x128.size a) ∧
  (∀ (k1_t9 : Fin (k1_t9_loop v21 v23).trips) (k1_t15 : Fin (k1_t15_loop v21 v23 k1_t9).trips), ∀ a, (k1_off96 v21 v23 k1_t9 k1_t15) a + S1x1x16.size a ≤ S4x8x128.size a) ∧
  (∀ (k1_t9 : Fin (k1_t9_loop v21 v23).trips) (k1_t15 : Fin (k1_t15_loop v21 v23 k1_t9).trips), ∀ a, (k1_off97 v21 v23 k1_t9 k1_t15) a + S1x1x16.size a ≤ S4x8x128.size a) ∧
  (∀ (k1_t9 : Fin (k1_t9_loop v21 v23).trips) (k1_t15 : Fin (k1_t15_loop v21 v23 k1_t9).trips), ∀ a, (k1_off98 v21 v23 k1_t9 k1_t15) a + S1x1x16.size a ≤ S4x8x128.size a) ∧
  (∀ (k1_t9 : Fin (k1_t9_loop v21 v23).trips) (k1_t15 : Fin (k1_t15_loop v21 v23 k1_t9).trips), ∀ a, (k1_off99 v21 v23 k1_t9 k1_t15) a + S1x1x16.size a ≤ S4x8x128.size a) ∧
  (∀ (k1_t9 : Fin (k1_t9_loop v21 v23).trips) (k1_t15 : Fin (k1_t15_loop v21 v23 k1_t9).trips), ∀ a, (k1_off100 v21 v23 k1_t9 k1_t15) a + S1x1x16.size a ≤ S4x8x128.size a) ∧
  ((k1_t16_loop v21 v23).OK) ∧
  (∀ k1_t16 : Fin (k1_t16_loop v21 v23).trips, ∀ a, (k1_off101 v21 v23 k1_t16) a + S4x8x128.size a ≤ S2550x8x128.size a) ∧
  (∀ k1_t16 : Fin (k1_t16_loop v21 v23).trips, (k1_t17_loop v21 v23 k1_t16).OK) ∧
  (∀ (k1_t16 : Fin (k1_t16_loop v21 v23).trips) (k1_t17 : Fin (k1_t17_loop v21 v23 k1_t16).trips), (k1_t18_loop v21 v23 k1_t16 k1_t17).OK) ∧
  (∀ (k1_t16 : Fin (k1_t16_loop v21 v23).trips) (k1_t17 : Fin (k1_t17_loop v21 v23 k1_t16).trips) (k1_t18 : Fin (k1_t18_loop v21 v23 k1_t16 k1_t17).trips), ∀ a, (k1_off102 v21 v23 k1_t16 k1_t17 k1_t18) a + S1x1x16.size a ≤ S4x8x128.size a) ∧
  (∀ (k1_t16 : Fin (k1_t16_loop v21 v23).trips) (k1_t17 : Fin (k1_t17_loop v21 v23 k1_t16).trips) (k1_t18 : Fin (k1_t18_loop v21 v23 k1_t16 k1_t17).trips), ∀ a, (k1_off103 v21 v23 k1_t16 k1_t17 k1_t18) a + S1x1x16.size a ≤ S4x8x128.size a) ∧
  (∀ (k1_t16 : Fin (k1_t16_loop v21 v23).trips) (k1_t17 : Fin (k1_t17_loop v21 v23 k1_t16).trips) (k1_t18 : Fin (k1_t18_loop v21 v23 k1_t16 k1_t17).trips), ∀ a, (k1_off104 v21 v23 k1_t16 k1_t17 k1_t18) a + S1x1x16.size a ≤ S4x8x128.size a) ∧
  (∀ (k1_t16 : Fin (k1_t16_loop v21 v23).trips) (k1_t17 : Fin (k1_t17_loop v21 v23 k1_t16).trips) (k1_t18 : Fin (k1_t18_loop v21 v23 k1_t16 k1_t17).trips), ∀ a, (k1_off105 v21 v23 k1_t16 k1_t17 k1_t18) a + S1x1x16.size a ≤ S4x8x128.size a) ∧
  (∀ (k1_t16 : Fin (k1_t16_loop v21 v23).trips) (k1_t17 : Fin (k1_t17_loop v21 v23 k1_t16).trips) (k1_t18 : Fin (k1_t18_loop v21 v23 k1_t16 k1_t17).trips), ∀ a, (k1_off106 v21 v23 k1_t16 k1_t17 k1_t18) a + S1x1x16.size a ≤ S4x8x128.size a) ∧
  (∀ (k1_t16 : Fin (k1_t16_loop v21 v23).trips) (k1_t17 : Fin (k1_t17_loop v21 v23 k1_t16).trips) (k1_t18 : Fin (k1_t18_loop v21 v23 k1_t16 k1_t17).trips), ∀ a, (k1_off107 v21 v23 k1_t16 k1_t17 k1_t18) a + S1x1x16.size a ≤ S4x8x128.size a) ∧
  (∀ (k1_t16 : Fin (k1_t16_loop v21 v23).trips) (k1_t17 : Fin (k1_t17_loop v21 v23 k1_t16).trips) (k1_t18 : Fin (k1_t18_loop v21 v23 k1_t16 k1_t17).trips), ∀ a, (k1_off108 v21 v23 k1_t16 k1_t17 k1_t18) a + S1x1x16.size a ≤ S4x8x128.size a) ∧
  (∀ (k1_t16 : Fin (k1_t16_loop v21 v23).trips) (k1_t17 : Fin (k1_t17_loop v21 v23 k1_t16).trips) (k1_t18 : Fin (k1_t18_loop v21 v23 k1_t16 k1_t17).trips), ∀ a, (k1_off109 v21 v23 k1_t16 k1_t17 k1_t18) a + S1x1x16.size a ≤ S4x8x128.size a) ∧
  (∀ (k1_t16 : Fin (k1_t16_loop v21 v23).trips) (k1_t17 : Fin (k1_t17_loop v21 v23 k1_t16).trips), (k1_t19_loop v21 v23 k1_t16 k1_t17).OK) ∧
  (∀ (k1_t16 : Fin (k1_t16_loop v21 v23).trips) (k1_t17 : Fin (k1_t17_loop v21 v23 k1_t16).trips) (k1_t19 : Fin (k1_t19_loop v21 v23 k1_t16 k1_t17).trips), ∀ a, (k1_off110 v21 v23 k1_t16 k1_t17 k1_t19) a + S1x1x16.size a ≤ S4x8x128.size a) ∧
  (∀ (k1_t16 : Fin (k1_t16_loop v21 v23).trips) (k1_t17 : Fin (k1_t17_loop v21 v23 k1_t16).trips) (k1_t19 : Fin (k1_t19_loop v21 v23 k1_t16 k1_t17).trips), ∀ a, (k1_off111 v21 v23 k1_t16 k1_t17 k1_t19) a + S1x1x16.size a ≤ S4x8x128.size a) ∧
  (∀ (k1_t16 : Fin (k1_t16_loop v21 v23).trips) (k1_t17 : Fin (k1_t17_loop v21 v23 k1_t16).trips) (k1_t19 : Fin (k1_t19_loop v21 v23 k1_t16 k1_t17).trips), ∀ a, (k1_off112 v21 v23 k1_t16 k1_t17 k1_t19) a + S1x1x16.size a ≤ S4x8x128.size a) ∧
  (∀ (k1_t16 : Fin (k1_t16_loop v21 v23).trips) (k1_t17 : Fin (k1_t17_loop v21 v23 k1_t16).trips) (k1_t19 : Fin (k1_t19_loop v21 v23 k1_t16 k1_t17).trips), ∀ a, (k1_off113 v21 v23 k1_t16 k1_t17 k1_t19) a + S1x1x16.size a ≤ S4x8x128.size a)
def k1_chk2_4 (k1_t1 : Fin k1_t1_loop.trips) (v21 : BitVec 32) (v23 : BitVec 32) : Prop :=
  (∀ (k1_t16 : Fin (k1_t16_loop v21 v23).trips) (k1_t17 : Fin (k1_t17_loop v21 v23 k1_t16).trips) (k1_t19 : Fin (k1_t19_loop v21 v23 k1_t16 k1_t17).trips), ∀ a, (k1_off114 v21 v23 k1_t16 k1_t17 k1_t19) a + S1x1x16.size a ≤ S4x8x128.size a) ∧
  (∀ (k1_t16 : Fin (k1_t16_loop v21 v23).trips) (k1_t17 : Fin (k1_t17_loop v21 v23 k1_t16).trips) (k1_t19 : Fin (k1_t19_loop v21 v23 k1_t16 k1_t17).trips), ∀ a, (k1_off115 v21 v23 k1_t16 k1_t17 k1_t19) a + S1x1x16.size a ≤ S4x8x128.size a) ∧
  (∀ (k1_t16 : Fin (k1_t16_loop v21 v23).trips) (k1_t17 : Fin (k1_t17_loop v21 v23 k1_t16).trips) (k1_t19 : Fin (k1_t19_loop v21 v23 k1_t16 k1_t17).trips), ∀ a, (k1_off116 v21 v23 k1_t16 k1_t17 k1_t19) a + S1x1x16.size a ≤ S4x8x128.size a) ∧
  (∀ (k1_t16 : Fin (k1_t16_loop v21 v23).trips) (k1_t17 : Fin (k1_t17_loop v21 v23 k1_t16).trips) (k1_t19 : Fin (k1_t19_loop v21 v23 k1_t16 k1_t17).trips), ∀ a, (k1_off117 v21 v23 k1_t16 k1_t17 k1_t19) a + S1x1x16.size a ≤ S4x8x128.size a) ∧
  (∀ (k1_t16 : Fin (k1_t16_loop v21 v23).trips) (k1_t17 : Fin (k1_t17_loop v21 v23 k1_t16).trips), (k1_t20_loop v21 v23 k1_t16 k1_t17).OK) ∧
  (∀ (k1_t16 : Fin (k1_t16_loop v21 v23).trips) (k1_t17 : Fin (k1_t17_loop v21 v23 k1_t16).trips) (k1_t20 : Fin (k1_t20_loop v21 v23 k1_t16 k1_t17).trips), ∀ a, (k1_off118 v21 v23 k1_t16 k1_t17 k1_t20) a + S1x1x16.size a ≤ S4x8x128.size a) ∧
  (∀ (k1_t16 : Fin (k1_t16_loop v21 v23).trips) (k1_t17 : Fin (k1_t17_loop v21 v23 k1_t16).trips) (k1_t20 : Fin (k1_t20_loop v21 v23 k1_t16 k1_t17).trips), ∀ a, (k1_off119 v21 v23 k1_t16 k1_t17 k1_t20) a + S1x1x16.size a ≤ S4x8x128.size a) ∧
  (∀ (k1_t16 : Fin (k1_t16_loop v21 v23).trips) (k1_t17 : Fin (k1_t17_loop v21 v23 k1_t16).trips) (k1_t20 : Fin (k1_t20_loop v21 v23 k1_t16 k1_t17).trips), ∀ a, (k1_off120 v21 v23 k1_t16 k1_t17 k1_t20) a + S1x1x16.size a ≤ S4x8x128.size a) ∧
  (∀ (k1_t16 : Fin (k1_t16_loop v21 v23).trips) (k1_t17 : Fin (k1_t17_loop v21 v23 k1_t16).trips) (k1_t20 : Fin (k1_t20_loop v21 v23 k1_t16 k1_t17).trips), ∀ a, (k1_off121 v21 v23 k1_t16 k1_t17 k1_t20) a + S1x1x16.size a ≤ S4x8x128.size a) ∧
  (∀ (k1_t16 : Fin (k1_t16_loop v21 v23).trips) (k1_t17 : Fin (k1_t17_loop v21 v23 k1_t16).trips) (k1_t20 : Fin (k1_t20_loop v21 v23 k1_t16 k1_t17).trips), ∀ a, (k1_off122 v21 v23 k1_t16 k1_t17 k1_t20) a + S1x1x16.size a ≤ S4x8x128.size a) ∧
  (∀ (k1_t16 : Fin (k1_t16_loop v21 v23).trips) (k1_t17 : Fin (k1_t17_loop v21 v23 k1_t16).trips) (k1_t20 : Fin (k1_t20_loop v21 v23 k1_t16 k1_t17).trips), ∀ a, (k1_off123 v21 v23 k1_t16 k1_t17 k1_t20) a + S1x1x16.size a ≤ S4x8x128.size a) ∧
  (∀ (k1_t16 : Fin (k1_t16_loop v21 v23).trips) (k1_t17 : Fin (k1_t17_loop v21 v23 k1_t16).trips) (k1_t20 : Fin (k1_t20_loop v21 v23 k1_t16 k1_t17).trips), ∀ a, (k1_off124 v21 v23 k1_t16 k1_t17 k1_t20) a + S1x1x16.size a ≤ S4x8x128.size a) ∧
  (∀ (k1_t16 : Fin (k1_t16_loop v21 v23).trips) (k1_t17 : Fin (k1_t17_loop v21 v23 k1_t16).trips) (k1_t20 : Fin (k1_t20_loop v21 v23 k1_t16 k1_t17).trips), ∀ a, (k1_off125 v21 v23 k1_t16 k1_t17 k1_t20) a + S1x1x16.size a ≤ S4x8x128.size a) ∧
  (∀ (k1_t16 : Fin (k1_t16_loop v21 v23).trips) (k1_t17 : Fin (k1_t17_loop v21 v23 k1_t16).trips), (k1_t21_loop v21 v23 k1_t16 k1_t17).OK) ∧
  (∀ (k1_t16 : Fin (k1_t16_loop v21 v23).trips) (k1_t17 : Fin (k1_t17_loop v21 v23 k1_t16).trips) (k1_t21 : Fin (k1_t21_loop v21 v23 k1_t16 k1_t17).trips), ∀ a, (k1_off126 v21 v23 k1_t16 k1_t17 k1_t21) a + S1x1x16.size a ≤ S4x8x128.size a) ∧
  (∀ (k1_t16 : Fin (k1_t16_loop v21 v23).trips) (k1_t17 : Fin (k1_t17_loop v21 v23 k1_t16).trips) (k1_t21 : Fin (k1_t21_loop v21 v23 k1_t16 k1_t17).trips), ∀ a, (k1_off127 v21 v23 k1_t16 k1_t17 k1_t21) a + S1x1x16.size a ≤ S4x8x128.size a) ∧
  (∀ (k1_t16 : Fin (k1_t16_loop v21 v23).trips) (k1_t17 : Fin (k1_t17_loop v21 v23 k1_t16).trips) (k1_t21 : Fin (k1_t21_loop v21 v23 k1_t16 k1_t17).trips), ∀ a, (k1_off128 v21 v23 k1_t16 k1_t17 k1_t21) a + S1x1x16.size a ≤ S4x8x128.size a) ∧
  (∀ (k1_t16 : Fin (k1_t16_loop v21 v23).trips) (k1_t17 : Fin (k1_t17_loop v21 v23 k1_t16).trips) (k1_t21 : Fin (k1_t21_loop v21 v23 k1_t16 k1_t17).trips), ∀ a, (k1_off129 v21 v23 k1_t16 k1_t17 k1_t21) a + S1x1x16.size a ≤ S4x8x128.size a) ∧
  (∀ (k1_t16 : Fin (k1_t16_loop v21 v23).trips) (k1_t17 : Fin (k1_t17_loop v21 v23 k1_t16).trips) (k1_t21 : Fin (k1_t21_loop v21 v23 k1_t16 k1_t17).trips), ∀ a, (k1_off130 v21 v23 k1_t16 k1_t17 k1_t21) a + S1x1x16.size a ≤ S4x8x128.size a) ∧
  (∀ (k1_t16 : Fin (k1_t16_loop v21 v23).trips) (k1_t17 : Fin (k1_t17_loop v21 v23 k1_t16).trips) (k1_t21 : Fin (k1_t21_loop v21 v23 k1_t16 k1_t17).trips), ∀ a, (k1_off131 v21 v23 k1_t16 k1_t17 k1_t21) a + S1x1x16.size a ≤ S4x8x128.size a) ∧
  (∀ (k1_t16 : Fin (k1_t16_loop v21 v23).trips) (k1_t17 : Fin (k1_t17_loop v21 v23 k1_t16).trips) (k1_t21 : Fin (k1_t21_loop v21 v23 k1_t16 k1_t17).trips), ∀ a, (k1_off132 v21 v23 k1_t16 k1_t17 k1_t21) a + S1x1x16.size a ≤ S4x8x128.size a) ∧
  (∀ (k1_t16 : Fin (k1_t16_loop v21 v23).trips) (k1_t17 : Fin (k1_t17_loop v21 v23 k1_t16).trips) (k1_t21 : Fin (k1_t21_loop v21 v23 k1_t16 k1_t17).trips), ∀ a, (k1_off133 v21 v23 k1_t16 k1_t17 k1_t21) a + S1x1x16.size a ≤ S4x8x128.size a) ∧
  (∀ (k1_t16 : Fin (k1_t16_loop v21 v23).trips) (k1_t17 : Fin (k1_t17_loop v21 v23 k1_t16).trips), (k1_t22_loop v21 v23 k1_t16 k1_t17).OK) ∧
  (∀ (k1_t16 : Fin (k1_t16_loop v21 v23).trips) (k1_t17 : Fin (k1_t17_loop v21 v23 k1_t16).trips) (k1_t22 : Fin (k1_t22_loop v21 v23 k1_t16 k1_t17).trips), ∀ a, (k1_off134 v21 v23 k1_t16 k1_t17 k1_t22) a + S1x1x16.size a ≤ S4x8x128.size a) ∧
  (∀ (k1_t16 : Fin (k1_t16_loop v21 v23).trips) (k1_t17 : Fin (k1_t17_loop v21 v23 k1_t16).trips) (k1_t22 : Fin (k1_t22_loop v21 v23 k1_t16 k1_t17).trips), ∀ a, (k1_off135 v21 v23 k1_t16 k1_t17 k1_t22) a + S1x1x16.size a ≤ S4x8x128.size a) ∧
  (∀ (k1_t16 : Fin (k1_t16_loop v21 v23).trips) (k1_t17 : Fin (k1_t17_loop v21 v23 k1_t16).trips) (k1_t22 : Fin (k1_t22_loop v21 v23 k1_t16 k1_t17).trips), ∀ a, (k1_off136 v21 v23 k1_t16 k1_t17 k1_t22) a + S1x1x16.size a ≤ S4x8x128.size a) ∧
  (∀ (k1_t16 : Fin (k1_t16_loop v21 v23).trips) (k1_t17 : Fin (k1_t17_loop v21 v23 k1_t16).trips) (k1_t22 : Fin (k1_t22_loop v21 v23 k1_t16 k1_t17).trips), ∀ a, (k1_off137 v21 v23 k1_t16 k1_t17 k1_t22) a + S1x1x16.size a ≤ S4x8x128.size a) ∧
  (∀ (k1_t16 : Fin (k1_t16_loop v21 v23).trips) (k1_t17 : Fin (k1_t17_loop v21 v23 k1_t16).trips) (k1_t22 : Fin (k1_t22_loop v21 v23 k1_t16 k1_t17).trips), ∀ a, (k1_off138 v21 v23 k1_t16 k1_t17 k1_t22) a + S1x1x16.size a ≤ S4x8x128.size a) ∧
  (∀ (k1_t16 : Fin (k1_t16_loop v21 v23).trips) (k1_t17 : Fin (k1_t17_loop v21 v23 k1_t16).trips) (k1_t22 : Fin (k1_t22_loop v21 v23 k1_t16 k1_t17).trips), ∀ a, (k1_off139 v21 v23 k1_t16 k1_t17 k1_t22) a + S1x1x16.size a ≤ S4x8x128.size a) ∧
  (∀ (k1_t16 : Fin (k1_t16_loop v21 v23).trips) (k1_t17 : Fin (k1_t17_loop v21 v23 k1_t16).trips) (k1_t22 : Fin (k1_t22_loop v21 v23 k1_t16 k1_t17).trips), ∀ a, (k1_off140 v21 v23 k1_t16 k1_t17 k1_t22) a + S1x1x16.size a ≤ S4x8x128.size a) ∧
  (∀ (k1_t16 : Fin (k1_t16_loop v21 v23).trips) (k1_t17 : Fin (k1_t17_loop v21 v23 k1_t16).trips) (k1_t22 : Fin (k1_t22_loop v21 v23 k1_t16 k1_t17).trips), ∀ a, (k1_off141 v21 v23 k1_t16 k1_t17 k1_t22) a + S1x1x16.size a ≤ S4x8x128.size a) ∧
  (∀ (k1_t16 : Fin (k1_t16_loop v21 v23).trips) (k1_t17 : Fin (k1_t17_loop v21 v23 k1_t16).trips), (k1_t23_loop v21 v23 k1_t16 k1_t17).OK)
def k1_chk2_5 (k1_t1 : Fin k1_t1_loop.trips) (v21 : BitVec 32) (v23 : BitVec 32) : Prop :=
  (∀ (k1_t16 : Fin (k1_t16_loop v21 v23).trips) (k1_t17 : Fin (k1_t17_loop v21 v23 k1_t16).trips) (k1_t23 : Fin (k1_t23_loop v21 v23 k1_t16 k1_t17).trips), ∀ a, (k1_off142 v21 v23 k1_t16 k1_t17 k1_t23) a + S1x1x16.size a ≤ S4x8x128.size a) ∧
  (∀ (k1_t16 : Fin (k1_t16_loop v21 v23).trips) (k1_t17 : Fin (k1_t17_loop v21 v23 k1_t16).trips) (k1_t23 : Fin (k1_t23_loop v21 v23 k1_t16 k1_t17).trips), ∀ a, (k1_off143 v21 v23 k1_t16 k1_t17 k1_t23) a + S1x1x16.size a ≤ S4x8x128.size a) ∧
  (∀ (k1_t16 : Fin (k1_t16_loop v21 v23).trips) (k1_t17 : Fin (k1_t17_loop v21 v23 k1_t16).trips) (k1_t23 : Fin (k1_t23_loop v21 v23 k1_t16 k1_t17).trips), ∀ a, (k1_off144 v21 v23 k1_t16 k1_t17 k1_t23) a + S1x1x16.size a ≤ S4x8x128.size a) ∧
  (∀ (k1_t16 : Fin (k1_t16_loop v21 v23).trips) (k1_t17 : Fin (k1_t17_loop v21 v23 k1_t16).trips) (k1_t23 : Fin (k1_t23_loop v21 v23 k1_t16 k1_t17).trips), ∀ a, (k1_off145 v21 v23 k1_t16 k1_t17 k1_t23) a + S1x1x16.size a ≤ S4x8x128.size a) ∧
  (∀ (k1_t16 : Fin (k1_t16_loop v21 v23).trips) (k1_t17 : Fin (k1_t17_loop v21 v23 k1_t16).trips) (k1_t23 : Fin (k1_t23_loop v21 v23 k1_t16 k1_t17).trips), ∀ a, (k1_off146 v21 v23 k1_t16 k1_t17 k1_t23) a + S1x1x16.size a ≤ S4x8x128.size a) ∧
  (∀ (k1_t16 : Fin (k1_t16_loop v21 v23).trips) (k1_t17 : Fin (k1_t17_loop v21 v23 k1_t16).trips) (k1_t23 : Fin (k1_t23_loop v21 v23 k1_t16 k1_t17).trips), ∀ a, (k1_off147 v21 v23 k1_t16 k1_t17 k1_t23) a + S1x1x16.size a ≤ S4x8x128.size a) ∧
  (∀ (k1_t16 : Fin (k1_t16_loop v21 v23).trips) (k1_t17 : Fin (k1_t17_loop v21 v23 k1_t16).trips) (k1_t23 : Fin (k1_t23_loop v21 v23 k1_t16 k1_t17).trips), ∀ a, (k1_off148 v21 v23 k1_t16 k1_t17 k1_t23) a + S1x1x16.size a ≤ S4x8x128.size a) ∧
  (∀ (k1_t16 : Fin (k1_t16_loop v21 v23).trips) (k1_t17 : Fin (k1_t17_loop v21 v23 k1_t16).trips) (k1_t23 : Fin (k1_t23_loop v21 v23 k1_t16 k1_t17).trips), ∀ a, (k1_off149 v21 v23 k1_t16 k1_t17 k1_t23) a + S1x1x16.size a ≤ S4x8x128.size a) ∧
  (∀ k1_t16 : Fin (k1_t16_loop v21 v23).trips, (k1_t24_loop v21 v23 k1_t16).OK) ∧
  (∀ (k1_t16 : Fin (k1_t16_loop v21 v23).trips) (k1_t24 : Fin (k1_t24_loop v21 v23 k1_t16).trips), (k1_t25_loop v21 v23 k1_t16 k1_t24).OK) ∧
  (∀ (k1_t16 : Fin (k1_t16_loop v21 v23).trips) (k1_t24 : Fin (k1_t24_loop v21 v23 k1_t16).trips) (k1_t25 : Fin (k1_t25_loop v21 v23 k1_t16 k1_t24).trips), ∀ a, (k1_off150 v21 v23 k1_t16 k1_t24 k1_t25) a + S1x1x16.size a ≤ S4x8x128.size a) ∧
  (∀ (k1_t16 : Fin (k1_t16_loop v21 v23).trips) (k1_t24 : Fin (k1_t24_loop v21 v23 k1_t16).trips) (k1_t25 : Fin (k1_t25_loop v21 v23 k1_t16 k1_t24).trips), ∀ a, (k1_off151 v21 v23 k1_t16 k1_t24 k1_t25) a + S1x1x16.size a ≤ S4x8x128.size a) ∧
  (∀ (k1_t16 : Fin (k1_t16_loop v21 v23).trips) (k1_t24 : Fin (k1_t24_loop v21 v23 k1_t16).trips) (k1_t25 : Fin (k1_t25_loop v21 v23 k1_t16 k1_t24).trips), ∀ a, (k1_off152 v21 v23 k1_t16 k1_t24 k1_t25) a + S1x1x16.size a ≤ S4x8x128.size a) ∧
  (∀ (k1_t16 : Fin (k1_t16_loop v21 v23).trips) (k1_t24 : Fin (k1_t24_loop v21 v23 k1_t16).trips) (k1_t25 : Fin (k1_t25_loop v21 v23 k1_t16 k1_t24).trips), ∀ a, (k1_off153 v21 v23 k1_t16 k1_t24 k1_t25) a + S1x1x16.size a ≤ S4x8x128.size a) ∧
  (∀ (k1_t16 : Fin (k1_t16_loop v21 v23).trips) (k1_t24 : Fin (k1_t24_loop v21 v23 k1_t16).trips) (k1_t25 : Fin (k1_t25_loop v21 v23 k1_t16 k1_t24).trips), ∀ a, (k1_off154 v21 v23 k1_t16 k1_t24 k1_t25) a + S1x1x16.size a ≤ S4x8x128.size a) ∧
  (∀ (k1_t16 : Fin (k1_t16_loop v21 v23).trips) (k1_t24 : Fin (k1_t24_loop v21 v23 k1_t16).trips) (k1_t25 : Fin (k1_t25_loop v21 v23 k1_t16 k1_t24).trips), ∀ a, (k1_off155 v21 v23 k1_t16 k1_t24 k1_t25) a + S1x1x16.size a ≤ S4x8x128.size a) ∧
  (∀ (k1_t16 : Fin (k1_t16_loop v21 v23).trips) (k1_t24 : Fin (k1_t24_loop v21 v23 k1_t16).trips) (k1_t25 : Fin (k1_t25_loop v21 v23 k1_t16 k1_t24).trips), ∀ a, (k1_off156 v21 v23 k1_t16 k1_t24 k1_t25) a + S1x1x16.size a ≤ S4x8x128.size a) ∧
  (∀ (k1_t16 : Fin (k1_t16_loop v21 v23).trips) (k1_t24 : Fin (k1_t24_loop v21 v23 k1_t16).trips) (k1_t25 : Fin (k1_t25_loop v21 v23 k1_t16 k1_t24).trips), ∀ a, (k1_off157 v21 v23 k1_t16 k1_t24 k1_t25) a + S1x1x16.size a ≤ S4x8x128.size a) ∧
  (∀ (k1_t16 : Fin (k1_t16_loop v21 v23).trips) (k1_t24 : Fin (k1_t24_loop v21 v23 k1_t16).trips), (k1_t26_loop v21 v23 k1_t16 k1_t24).OK) ∧
  (∀ (k1_t16 : Fin (k1_t16_loop v21 v23).trips) (k1_t24 : Fin (k1_t24_loop v21 v23 k1_t16).trips) (k1_t26 : Fin (k1_t26_loop v21 v23 k1_t16 k1_t24).trips), ∀ a, (k1_off158 v21 v23 k1_t16 k1_t24 k1_t26) a + S1x1x16.size a ≤ S4x8x128.size a) ∧
  (∀ (k1_t16 : Fin (k1_t16_loop v21 v23).trips) (k1_t24 : Fin (k1_t24_loop v21 v23 k1_t16).trips) (k1_t26 : Fin (k1_t26_loop v21 v23 k1_t16 k1_t24).trips), ∀ a, (k1_off159 v21 v23 k1_t16 k1_t24 k1_t26) a + S1x1x16.size a ≤ S4x8x128.size a) ∧
  (∀ (k1_t16 : Fin (k1_t16_loop v21 v23).trips) (k1_t24 : Fin (k1_t24_loop v21 v23 k1_t16).trips) (k1_t26 : Fin (k1_t26_loop v21 v23 k1_t16 k1_t24).trips), ∀ a, (k1_off160 v21 v23 k1_t16 k1_t24 k1_t26) a + S1x1x16.size a ≤ S4x8x128.size a) ∧
  (∀ (k1_t16 : Fin (k1_t16_loop v21 v23).trips) (k1_t24 : Fin (k1_t24_loop v21 v23 k1_t16).trips) (k1_t26 : Fin (k1_t26_loop v21 v23 k1_t16 k1_t24).trips), ∀ a, (k1_off161 v21 v23 k1_t16 k1_t24 k1_t26) a + S1x1x16.size a ≤ S4x8x128.size a) ∧
  (∀ (k1_t16 : Fin (k1_t16_loop v21 v23).trips) (k1_t24 : Fin (k1_t24_loop v21 v23 k1_t16).trips) (k1_t26 : Fin (k1_t26_loop v21 v23 k1_t16 k1_t24).trips), ∀ a, (k1_off162 v21 v23 k1_t16 k1_t24 k1_t26) a + S1x1x16.size a ≤ S4x8x128.size a) ∧
  (∀ (k1_t16 : Fin (k1_t16_loop v21 v23).trips) (k1_t24 : Fin (k1_t24_loop v21 v23 k1_t16).trips) (k1_t26 : Fin (k1_t26_loop v21 v23 k1_t16 k1_t24).trips), ∀ a, (k1_off163 v21 v23 k1_t16 k1_t24 k1_t26) a + S1x1x16.size a ≤ S4x8x128.size a) ∧
  (∀ (k1_t16 : Fin (k1_t16_loop v21 v23).trips) (k1_t24 : Fin (k1_t24_loop v21 v23 k1_t16).trips) (k1_t26 : Fin (k1_t26_loop v21 v23 k1_t16 k1_t24).trips), ∀ a, (k1_off164 v21 v23 k1_t16 k1_t24 k1_t26) a + S1x1x16.size a ≤ S4x8x128.size a) ∧
  (∀ (k1_t16 : Fin (k1_t16_loop v21 v23).trips) (k1_t24 : Fin (k1_t24_loop v21 v23 k1_t16).trips) (k1_t26 : Fin (k1_t26_loop v21 v23 k1_t16 k1_t24).trips), ∀ a, (k1_off165 v21 v23 k1_t16 k1_t24 k1_t26) a + S1x1x16.size a ≤ S4x8x128.size a) ∧
  (∀ (k1_t16 : Fin (k1_t16_loop v21 v23).trips) (k1_t24 : Fin (k1_t24_loop v21 v23 k1_t16).trips), (k1_t27_loop v21 v23 k1_t16 k1_t24).OK) ∧
  (∀ (k1_t16 : Fin (k1_t16_loop v21 v23).trips) (k1_t24 : Fin (k1_t24_loop v21 v23 k1_t16).trips) (k1_t27 : Fin (k1_t27_loop v21 v23 k1_t16 k1_t24).trips), ∀ a, (k1_off166 v21 v23 k1_t16 k1_t24 k1_t27) a + S1x1x16.size a ≤ S4x8x128.size a) ∧
  (∀ (k1_t16 : Fin (k1_t16_loop v21 v23).trips) (k1_t24 : Fin (k1_t24_loop v21 v23 k1_t16).trips) (k1_t27 : Fin (k1_t27_loop v21 v23 k1_t16 k1_t24).trips), ∀ a, (k1_off167 v21 v23 k1_t16 k1_t24 k1_t27) a + S1x1x16.size a ≤ S4x8x128.size a) ∧
  (∀ (k1_t16 : Fin (k1_t16_loop v21 v23).trips) (k1_t24 : Fin (k1_t24_loop v21 v23 k1_t16).trips) (k1_t27 : Fin (k1_t27_loop v21 v23 k1_t16 k1_t24).trips), ∀ a, (k1_off168 v21 v23 k1_t16 k1_t24 k1_t27) a + S1x1x16.size a ≤ S4x8x128.size a) ∧
  (∀ (k1_t16 : Fin (k1_t16_loop v21 v23).trips) (k1_t24 : Fin (k1_t24_loop v21 v23 k1_t16).trips) (k1_t27 : Fin (k1_t27_loop v21 v23 k1_t16 k1_t24).trips), ∀ a, (k1_off169 v21 v23 k1_t16 k1_t24 k1_t27) a + S1x1x16.size a ≤ S4x8x128.size a)
def k1_chk2_6 (k1_t1 : Fin k1_t1_loop.trips) (v21 : BitVec 32) (v23 : BitVec 32) : Prop :=
  (∀ (k1_t16 : Fin (k1_t16_loop v21 v23).trips) (k1_t24 : Fin (k1_t24_loop v21 v23 k1_t16).trips) (k1_t27 : Fin (k1_t27_loop v21 v23 k1_t16 k1_t24).trips), ∀ a, (k1_off170 v21 v23 k1_t16 k1_t24 k1_t27) a + S1x1x16.size a ≤ S4x8x128.size a) ∧
  (∀ (k1_t16 : Fin (k1_t16_loop v21 v23).trips) (k1_t24 : Fin (k1_t24_loop v21 v23 k1_t16).trips) (k1_t27 : Fin (k1_t27_loop v21 v23 k1_t16 k1_t24).trips), ∀ a, (k1_off171 v21 v23 k1_t16 k1_t24 k1_t27) a + S1x1x16.size a ≤ S4x8x128.size a) ∧
  (∀ (k1_t16 : Fin (k1_t16_loop v21 v23).trips) (k1_t24 : Fin (k1_t24_loop v21 v23 k1_t16).trips) (k1_t27 : Fin (k1_t27_loop v21 v23 k1_t16 k1_t24).trips), ∀ a, (k1_off172 v21 v23 k1_t16 k1_t24 k1_t27) a + S1x1x16.size a ≤ S4x8x128.size a) ∧
  (∀ (k1_t16 : Fin (k1_t16_loop v21 v23).trips) (k1_t24 : Fin (k1_t24_loop v21 v23 k1_t16).trips) (k1_t27 : Fin (k1_t27_loop v21 v23 k1_t16 k1_t24).trips), ∀ a, (k1_off173 v21 v23 k1_t16 k1_t24 k1_t27) a + S1x1x16.size a ≤ S4x8x128.size a) ∧
  (∀ (k1_t16 : Fin (k1_t16_loop v21 v23).trips) (k1_t24 : Fin (k1_t24_loop v21 v23 k1_t16).trips), (k1_t28_loop v21 v23 k1_t16 k1_t24).OK) ∧
  (∀ (k1_t16 : Fin (k1_t16_loop v21 v23).trips) (k1_t24 : Fin (k1_t24_loop v21 v23 k1_t16).trips) (k1_t28 : Fin (k1_t28_loop v21 v23 k1_t16 k1_t24).trips), ∀ a, (k1_off174 v21 v23 k1_t16 k1_t24 k1_t28) a + S1x1x16.size a ≤ S4x8x128.size a) ∧
  (∀ (k1_t16 : Fin (k1_t16_loop v21 v23).trips) (k1_t24 : Fin (k1_t24_loop v21 v23 k1_t16).trips) (k1_t28 : Fin (k1_t28_loop v21 v23 k1_t16 k1_t24).trips), ∀ a, (k1_off175 v21 v23 k1_t16 k1_t24 k1_t28) a + S1x1x16.size a ≤ S4x8x128.size a) ∧
  (∀ (k1_t16 : Fin (k1_t16_loop v21 v23).trips) (k1_t24 : Fin (k1_t24_loop v21 v23 k1_t16).trips) (k1_t28 : Fin (k1_t28_loop v21 v23 k1_t16 k1_t24).trips), ∀ a, (k1_off176 v21 v23 k1_t16 k1_t24 k1_t28) a + S1x1x16.size a ≤ S4x8x128.size a) ∧
  (∀ (k1_t16 : Fin (k1_t16_loop v21 v23).trips) (k1_t24 : Fin (k1_t24_loop v21 v23 k1_t16).trips) (k1_t28 : Fin (k1_t28_loop v21 v23 k1_t16 k1_t24).trips), ∀ a, (k1_off177 v21 v23 k1_t16 k1_t24 k1_t28) a + S1x1x16.size a ≤ S4x8x128.size a) ∧
  (∀ (k1_t16 : Fin (k1_t16_loop v21 v23).trips) (k1_t24 : Fin (k1_t24_loop v21 v23 k1_t16).trips) (k1_t28 : Fin (k1_t28_loop v21 v23 k1_t16 k1_t24).trips), ∀ a, (k1_off178 v21 v23 k1_t16 k1_t24 k1_t28) a + S1x1x16.size a ≤ S4x8x128.size a) ∧
  (∀ (k1_t16 : Fin (k1_t16_loop v21 v23).trips) (k1_t24 : Fin (k1_t24_loop v21 v23 k1_t16).trips) (k1_t28 : Fin (k1_t28_loop v21 v23 k1_t16 k1_t24).trips), ∀ a, (k1_off179 v21 v23 k1_t16 k1_t24 k1_t28) a + S1x1x16.size a ≤ S4x8x128.size a) ∧
  (∀ (k1_t16 : Fin (k1_t16_loop v21 v23).trips) (k1_t24 : Fin (k1_t24_loop v21 v23 k1_t16).trips) (k1_t28 : Fin (k1_t28_loop v21 v23 k1_t16 k1_t24).trips), ∀ a, (k1_off180 v21 v23 k1_t16 k1_t24 k1_t28) a + S1x1x16.size a ≤ S4x8x128.size a) ∧
  (∀ (k1_t16 : Fin (k1_t16_loop v21 v23).trips) (k1_t24 : Fin (k1_t24_loop v21 v23 k1_t16).trips) (k1_t28 : Fin (k1_t28_loop v21 v23 k1_t16 k1_t24).trips), ∀ a, (k1_off181 v21 v23 k1_t16 k1_t24 k1_t28) a + S1x1x16.size a ≤ S4x8x128.size a) ∧
  (∀ (k1_t16 : Fin (k1_t16_loop v21 v23).trips) (k1_t24 : Fin (k1_t24_loop v21 v23 k1_t16).trips), (k1_t29_loop v21 v23 k1_t16 k1_t24).OK) ∧
  (∀ (k1_t16 : Fin (k1_t16_loop v21 v23).trips) (k1_t24 : Fin (k1_t24_loop v21 v23 k1_t16).trips) (k1_t29 : Fin (k1_t29_loop v21 v23 k1_t16 k1_t24).trips), ∀ a, (k1_off182 v21 v23 k1_t16 k1_t24 k1_t29) a + S1x1x16.size a ≤ S4x8x128.size a) ∧
  (∀ (k1_t16 : Fin (k1_t16_loop v21 v23).trips) (k1_t24 : Fin (k1_t24_loop v21 v23 k1_t16).trips) (k1_t29 : Fin (k1_t29_loop v21 v23 k1_t16 k1_t24).trips), ∀ a, (k1_off183 v21 v23 k1_t16 k1_t24 k1_t29) a + S1x1x16.size a ≤ S4x8x128.size a) ∧
  (∀ (k1_t16 : Fin (k1_t16_loop v21 v23).trips) (k1_t24 : Fin (k1_t24_loop v21 v23 k1_t16).trips) (k1_t29 : Fin (k1_t29_loop v21 v23 k1_t16 k1_t24).trips), ∀ a, (k1_off184 v21 v23 k1_t16 k1_t24 k1_t29) a + S1x1x16.size a ≤ S4x8x128.size a) ∧
  (∀ (k1_t16 : Fin (k1_t16_loop v21 v23).trips) (k1_t24 : Fin (k1_t24_loop v21 v23 k1_t16).trips) (k1_t29 : Fin (k1_t29_loop v21 v23 k1_t16 k1_t24).trips), ∀ a, (k1_off185 v21 v23 k1_t16 k1_t24 k1_t29) a + S1x1x16.size a ≤ S4x8x128.size a) ∧
  (∀ (k1_t16 : Fin (k1_t16_loop v21 v23).trips) (k1_t24 : Fin (k1_t24_loop v21 v23 k1_t16).trips) (k1_t29 : Fin (k1_t29_loop v21 v23 k1_t16 k1_t24).trips), ∀ a, (k1_off186 v21 v23 k1_t16 k1_t24 k1_t29) a + S1x1x16.size a ≤ S4x8x128.size a) ∧
  (∀ (k1_t16 : Fin (k1_t16_loop v21 v23).trips) (k1_t24 : Fin (k1_t24_loop v21 v23 k1_t16).trips) (k1_t29 : Fin (k1_t29_loop v21 v23 k1_t16 k1_t24).trips), ∀ a, (k1_off187 v21 v23 k1_t16 k1_t24 k1_t29) a + S1x1x16.size a ≤ S4x8x128.size a) ∧
  (∀ (k1_t16 : Fin (k1_t16_loop v21 v23).trips) (k1_t24 : Fin (k1_t24_loop v21 v23 k1_t16).trips) (k1_t29 : Fin (k1_t29_loop v21 v23 k1_t16 k1_t24).trips), ∀ a, (k1_off188 v21 v23 k1_t16 k1_t24 k1_t29) a + S1x1x16.size a ≤ S4x8x128.size a) ∧
  (∀ (k1_t16 : Fin (k1_t16_loop v21 v23).trips) (k1_t24 : Fin (k1_t24_loop v21 v23 k1_t16).trips) (k1_t29 : Fin (k1_t29_loop v21 v23 k1_t16 k1_t24).trips), ∀ a, (k1_off189 v21 v23 k1_t16 k1_t24 k1_t29) a + S1x1x16.size a ≤ S4x8x128.size a) ∧
  (∀ (k1_t16 : Fin (k1_t16_loop v21 v23).trips) (k1_t24 : Fin (k1_t24_loop v21 v23 k1_t16).trips), (k1_t30_loop v21 v23 k1_t16 k1_t24).OK) ∧
  (∀ (k1_t16 : Fin (k1_t16_loop v21 v23).trips) (k1_t24 : Fin (k1_t24_loop v21 v23 k1_t16).trips) (k1_t30 : Fin (k1_t30_loop v21 v23 k1_t16 k1_t24).trips), ∀ a, (k1_off190 v21 v23 k1_t16 k1_t24 k1_t30) a + S1x1x16.size a ≤ S4x8x128.size a) ∧
  (∀ (k1_t16 : Fin (k1_t16_loop v21 v23).trips) (k1_t24 : Fin (k1_t24_loop v21 v23 k1_t16).trips) (k1_t30 : Fin (k1_t30_loop v21 v23 k1_t16 k1_t24).trips), ∀ a, (k1_off191 v21 v23 k1_t16 k1_t24 k1_t30) a + S1x1x16.size a ≤ S4x8x128.size a) ∧
  (∀ (k1_t16 : Fin (k1_t16_loop v21 v23).trips) (k1_t24 : Fin (k1_t24_loop v21 v23 k1_t16).trips) (k1_t30 : Fin (k1_t30_loop v21 v23 k1_t16 k1_t24).trips), ∀ a, (k1_off192 v21 v23 k1_t16 k1_t24 k1_t30) a + S1x1x16.size a ≤ S4x8x128.size a) ∧
  (∀ (k1_t16 : Fin (k1_t16_loop v21 v23).trips) (k1_t24 : Fin (k1_t24_loop v21 v23 k1_t16).trips) (k1_t30 : Fin (k1_t30_loop v21 v23 k1_t16 k1_t24).trips), ∀ a, (k1_off193 v21 v23 k1_t16 k1_t24 k1_t30) a + S1x1x16.size a ≤ S4x8x128.size a) ∧
  (∀ (k1_t16 : Fin (k1_t16_loop v21 v23).trips) (k1_t24 : Fin (k1_t24_loop v21 v23 k1_t16).trips) (k1_t30 : Fin (k1_t30_loop v21 v23 k1_t16 k1_t24).trips), ∀ a, (k1_off194 v21 v23 k1_t16 k1_t24 k1_t30) a + S1x1x16.size a ≤ S4x8x128.size a) ∧
  (∀ (k1_t16 : Fin (k1_t16_loop v21 v23).trips) (k1_t24 : Fin (k1_t24_loop v21 v23 k1_t16).trips) (k1_t30 : Fin (k1_t30_loop v21 v23 k1_t16 k1_t24).trips), ∀ a, (k1_off195 v21 v23 k1_t16 k1_t24 k1_t30) a + S1x1x16.size a ≤ S4x8x128.size a) ∧
  (∀ (k1_t16 : Fin (k1_t16_loop v21 v23).trips) (k1_t24 : Fin (k1_t24_loop v21 v23 k1_t16).trips) (k1_t30 : Fin (k1_t30_loop v21 v23 k1_t16 k1_t24).trips), ∀ a, (k1_off196 v21 v23 k1_t16 k1_t24 k1_t30) a + S1x1x16.size a ≤ S4x8x128.size a) ∧
  (∀ (k1_t16 : Fin (k1_t16_loop v21 v23).trips) (k1_t24 : Fin (k1_t24_loop v21 v23 k1_t16).trips) (k1_t30 : Fin (k1_t30_loop v21 v23 k1_t16 k1_t24).trips), ∀ a, (k1_off197 v21 v23 k1_t16 k1_t24 k1_t30) a + S1x1x16.size a ≤ S4x8x128.size a) ∧
  ((k1_t31_loop v21 v23).OK)
def k1_chk2_7 (k1_t1 : Fin k1_t1_loop.trips) (v21 : BitVec 32) (v23 : BitVec 32) : Prop :=
  (∀ k1_t31 : Fin (k1_t31_loop v21 v23).trips, ∀ a, (k1_off198 v21 v23 k1_t31) a + S4x8x128.size a ≤ S2550x8x128.size a) ∧
  (∀ k1_t31 : Fin (k1_t31_loop v21 v23).trips, (k1_t32_loop v21 v23 k1_t31).OK) ∧
  (∀ (k1_t31 : Fin (k1_t31_loop v21 v23).trips) (k1_t32 : Fin (k1_t32_loop v21 v23 k1_t31).trips), (k1_t33_loop v21 v23 k1_t31 k1_t32).OK) ∧
  (∀ (k1_t31 : Fin (k1_t31_loop v21 v23).trips) (k1_t32 : Fin (k1_t32_loop v21 v23 k1_t31).trips) (k1_t33 : Fin (k1_t33_loop v21 v23 k1_t31 k1_t32).trips), ∀ a, (k1_off199 v21 v23 k1_t31 k1_t32 k1_t33) a + S1x1x16.size a ≤ S4x8x128.size a) ∧
  (∀ (k1_t31 : Fin (k1_t31_loop v21 v23).trips) (k1_t32 : Fin (k1_t32_loop v21 v23 k1_t31).trips) (k1_t33 : Fin (k1_t33_loop v21 v23 k1_t31 k1_t32).trips), ∀ a, (k1_off200 v21 v23 k1_t31 k1_t32 k1_t33) a + S1x1x16.size a ≤ S4x8x128.size a) ∧
  (∀ (k1_t31 : Fin (k1_t31_loop v21 v23).trips) (k1_t32 : Fin (k1_t32_loop v21 v23 k1_t31).trips) (k1_t33 : Fin (k1_t33_loop v21 v23 k1_t31 k1_t32).trips), ∀ a, (k1_off201 v21 v23 k1_t31 k1_t32 k1_t33) a + S1x1x16.size a ≤ S4x8x128.size a) ∧
  (∀ (k1_t31 : Fin (k1_t31_loop v21 v23).trips) (k1_t32 : Fin (k1_t32_loop v21 v23 k1_t31).trips) (k1_t33 : Fin (k1_t33_loop v21 v23 k1_t31 k1_t32).trips), ∀ a, (k1_off202 v21 v23 k1_t31 k1_t32 k1_t33) a + S1x1x16.size a ≤ S4x8x128.size a) ∧
  (∀ (k1_t31 : Fin (k1_t31_loop v21 v23).trips) (k1_t32 : Fin (k1_t32_loop v21 v23 k1_t31).trips) (k1_t33 : Fin (k1_t33_loop v21 v23 k1_t31 k1_t32).trips), ∀ a, (k1_off203 v21 v23 k1_t31 k1_t32 k1_t33) a + S1x1x16.size a ≤ S4x8x128.size a) ∧
  (∀ (k1_t31 : Fin (k1_t31_loop v21 v23).trips) (k1_t32 : Fin (k1_t32_loop v21 v23 k1_t31).trips) (k1_t33 : Fin (k1_t33_loop v21 v23 k1_t31 k1_t32).trips), ∀ a, (k1_off204 v21 v23 k1_t31 k1_t32 k1_t33) a + S1x1x16.size a ≤ S4x8x128.size a) ∧
  (∀ (k1_t31 : Fin (k1_t31_loop v21 v23).trips) (k1_t32 : Fin (k1_t32_loop v21 v23 k1_t31).trips) (k1_t33 : Fin (k1_t33_loop v21 v23 k1_t31 k1_t32).trips), ∀ a, (k1_off205 v21 v23 k1_t31 k1_t32 k1_t33) a + S1x1x16.size a ≤ S4x8x128.size a) ∧
  (∀ (k1_t31 : Fin (k1_t31_loop v21 v23).trips) (k1_t32 : Fin (k1_t32_loop v21 v23 k1_t31).trips) (k1_t33 : Fin (k1_t33_loop v21 v23 k1_t31 k1_t32).trips), ∀ a, (k1_off206 v21 v23 k1_t31 k1_t32 k1_t33) a + S1x1x16.size a ≤ S4x8x128.size a) ∧
  (∀ (k1_t31 : Fin (k1_t31_loop v21 v23).trips) (k1_t32 : Fin (k1_t32_loop v21 v23 k1_t31).trips), (k1_t34_loop v21 v23 k1_t31 k1_t32).OK) ∧
  (∀ (k1_t31 : Fin (k1_t31_loop v21 v23).trips) (k1_t32 : Fin (k1_t32_loop v21 v23 k1_t31).trips) (k1_t34 : Fin (k1_t34_loop v21 v23 k1_t31 k1_t32).trips), ∀ a, (k1_off207 v21 v23 k1_t31 k1_t32 k1_t34) a + S1x1x16.size a ≤ S4x8x128.size a) ∧
  (∀ (k1_t31 : Fin (k1_t31_loop v21 v23).trips) (k1_t32 : Fin (k1_t32_loop v21 v23 k1_t31).trips) (k1_t34 : Fin (k1_t34_loop v21 v23 k1_t31 k1_t32).trips), ∀ a, (k1_off208 v21 v23 k1_t31 k1_t32 k1_t34) a + S1x1x16.size a ≤ S4x8x128.size a) ∧
  (∀ (k1_t31 : Fin (k1_t31_loop v21 v23).trips) (k1_t32 : Fin (k1_t32_loop v21 v23 k1_t31).trips) (k1_t34 : Fin (k1_t34_loop v21 v23 k1_t31 k1_t32).trips), ∀ a, (k1_off209 v21 v23 k1_t31 k1_t32 k1_t34) a + S1x1x16.size a ≤ S4x8x128.size a) ∧
  (∀ (k1_t31 : Fin (k1_t31_loop v21 v23).trips) (k1_t32 : Fin (k1_t32_loop v21 v23 k1_t31).trips) (k1_t34 : Fin (k1_t34_loop v21 v23 k1_t31 k1_t32).trips), ∀ a, (k1_off210 v21 v23 k1_t31 k1_t32 k1_t34) a + S1x1x16.size a ≤ S4x8x128.size a) ∧
  (∀ (k1_t31 : Fin (k1_t31_loop v21 v23).trips) (k1_t32 : Fin (k1_t32_loop v21 v23 k1_t31).trips) (k1_t34 : Fin (k1_t34_loop v21 v23 k1_t31 k1_t32).trips), ∀ a, (k1_off211 v21 v23 k1_t31 k1_t32 k1_t34) a + S1x1x16.size a ≤ S4x8x128.size a) ∧
  (∀ (k1_t31 : Fin (k1_t31_loop v21 v23).trips) (k1_t32 : Fin (k1_t32_loop v21 v23 k1_t31).trips) (k1_t34 : Fin (k1_t34_loop v21 v23 k1_t31 k1_t32).trips), ∀ a, (k1_off212 v21 v23 k1_t31 k1_t32 k1_t34) a + S1x1x16.size a ≤ S4x8x128.size a) ∧
  (∀ (k1_t31 : Fin (k1_t31_loop v21 v23).trips) (k1_t32 : Fin (k1_t32_loop v21 v23 k1_t31).trips) (k1_t34 : Fin (k1_t34_loop v21 v23 k1_t31 k1_t32).trips), ∀ a, (k1_off213 v21 v23 k1_t31 k1_t32 k1_t34) a + S1x1x16.size a ≤ S4x8x128.size a) ∧
  (∀ (k1_t31 : Fin (k1_t31_loop v21 v23).trips) (k1_t32 : Fin (k1_t32_loop v21 v23 k1_t31).trips) (k1_t34 : Fin (k1_t34_loop v21 v23 k1_t31 k1_t32).trips), ∀ a, (k1_off214 v21 v23 k1_t31 k1_t32 k1_t34) a + S1x1x16.size a ≤ S4x8x128.size a) ∧
  (∀ (k1_t31 : Fin (k1_t31_loop v21 v23).trips) (k1_t32 : Fin (k1_t32_loop v21 v23 k1_t31).trips), (k1_t35_loop v21 v23 k1_t31 k1_t32).OK) ∧
  (∀ (k1_t31 : Fin (k1_t31_loop v21 v23).trips) (k1_t32 : Fin (k1_t32_loop v21 v23 k1_t31).trips) (k1_t35 : Fin (k1_t35_loop v21 v23 k1_t31 k1_t32).trips), ∀ a, (k1_off215 v21 v23 k1_t31 k1_t32 k1_t35) a + S1x1x16.size a ≤ S4x8x128.size a) ∧
  (∀ (k1_t31 : Fin (k1_t31_loop v21 v23).trips) (k1_t32 : Fin (k1_t32_loop v21 v23 k1_t31).trips) (k1_t35 : Fin (k1_t35_loop v21 v23 k1_t31 k1_t32).trips), ∀ a, (k1_off216 v21 v23 k1_t31 k1_t32 k1_t35) a + S1x1x16.size a ≤ S4x8x128.size a) ∧
  (∀ (k1_t31 : Fin (k1_t31_loop v21 v23).trips) (k1_t32 : Fin (k1_t32_loop v21 v23 k1_t31).trips) (k1_t35 : Fin (k1_t35_loop v21 v23 k1_t31 k1_t32).trips), ∀ a, (k1_off217 v21 v23 k1_t31 k1_t32 k1_t35) a + S1x1x16.size a ≤ S4x8x128.size a) ∧
  (∀ (k1_t31 : Fin (k1_t31_loop v21 v23).trips) (k1_t32 : Fin (k1_t32_loop v21 v23 k1_t31).trips) (k1_t35 : Fin (k1_t35_loop v21 v23 k1_t31 k1_t32).trips), ∀ a, (k1_off218 v21 v23 k1_t31 k1_t32 k1_t35) a + S1x1x16.size a ≤ S4x8x128.size a) ∧
  (∀ (k1_t31 : Fin (k1_t31_loop v21 v23).trips) (k1_t32 : Fin (k1_t32_loop v21 v23 k1_t31).trips) (k1_t35 : Fin (k1_t35_loop v21 v23 k1_t31 k1_t32).trips), ∀ a, (k1_off219 v21 v23 k1_t31 k1_t32 k1_t35) a + S1x1x16.size a ≤ S4x8x128.size a) ∧
  (∀ (k1_t31 : Fin (k1_t31_loop v21 v23).trips) (k1_t32 : Fin (k1_t32_loop v21 v23 k1_t31).trips) (k1_t35 : Fin (k1_t35_loop v21 v23 k1_t31 k1_t32).trips), ∀ a, (k1_off220 v21 v23 k1_t31 k1_t32 k1_t35) a + S1x1x16.size a ≤ S4x8x128.size a) ∧
  (∀ (k1_t31 : Fin (k1_t31_loop v21 v23).trips) (k1_t32 : Fin (k1_t32_loop v21 v23 k1_t31).trips) (k1_t35 : Fin (k1_t35_loop v21 v23 k1_t31 k1_t32).trips), ∀ a, (k1_off221 v21 v23 k1_t31 k1_t32 k1_t35) a + S1x1x16.size a ≤ S4x8x128.size a) ∧
  (∀ (k1_t31 : Fin (k1_t31_loop v21 v23).trips) (k1_t32 : Fin (k1_t32_loop v21 v23 k1_t31).trips) (k1_t35 : Fin (k1_t35_loop v21 v23 k1_t31 k1_t32).trips), ∀ a, (k1_off222 v21 v23 k1_t31 k1_t32 k1_t35) a + S1x1x16.size a ≤ S4x8x128.size a) ∧
  (∀ (k1_t31 : Fin (k1_t31_loop v21 v23).trips) (k1_t32 : Fin (k1_t32_loop v21 v23 k1_t31).trips), (k1_t36_loop v21 v23 k1_t31 k1_t32).OK) ∧
  (∀ (k1_t31 : Fin (k1_t31_loop v21 v23).trips) (k1_t32 : Fin (k1_t32_loop v21 v23 k1_t31).trips) (k1_t36 : Fin (k1_t36_loop v21 v23 k1_t31 k1_t32).trips), ∀ a, (k1_off223 v21 v23 k1_t31 k1_t32 k1_t36) a + S1x1x16.size a ≤ S4x8x128.size a) ∧
  (∀ (k1_t31 : Fin (k1_t31_loop v21 v23).trips) (k1_t32 : Fin (k1_t32_loop v21 v23 k1_t31).trips) (k1_t36 : Fin (k1_t36_loop v21 v23 k1_t31 k1_t32).trips), ∀ a, (k1_off224 v21 v23 k1_t31 k1_t32 k1_t36) a + S1x1x16.size a ≤ S4x8x128.size a)
def k1_chk2_8 (k1_t1 : Fin k1_t1_loop.trips) (v21 : BitVec 32) (v23 : BitVec 32) : Prop :=
  (∀ (k1_t31 : Fin (k1_t31_loop v21 v23).trips) (k1_t32 : Fin (k1_t32_loop v21 v23 k1_t31).trips) (k1_t36 : Fin (k1_t36_loop v21 v23 k1_t31 k1_t32).trips), ∀ a, (k1_off225 v21 v23 k1_t31 k1_t32 k1_t36) a + S1x1x16.size a ≤ S4x8x128.size a) ∧
  (∀ (k1_t31 : Fin (k1_t31_loop v21 v23).trips) (k1_t32 : Fin (k1_t32_loop v21 v23 k1_t31).trips) (k1_t36 : Fin (k1_t36_loop v21 v23 k1_t31 k1_t32).trips), ∀ a, (k1_off226 v21 v23 k1_t31 k1_t32 k1_t36) a + S1x1x16.size a ≤ S4x8x128.size a) ∧
  (∀ (k1_t31 : Fin (k1_t31_loop v21 v23).trips) (k1_t32 : Fin (k1_t32_loop v21 v23 k1_t31).trips) (k1_t36 : Fin (k1_t36_loop v21 v23 k1_t31 k1_t32).trips), ∀ a, (k1_off227 v21 v23 k1_t31 k1_t32 k1_t36) a + S1x1x16.size a ≤ S4x8x128.size a) ∧
  (∀ (k1_t31 : Fin (k1_t31_loop v21 v23).trips) (k1_t32 : Fin (k1_t32_loop v21 v23 k1_t31).trips) (k1_t36 : Fin (k1_t36_loop v21 v23 k1_t31 k1_t32).trips), ∀ a, (k1_off228 v21 v23 k1_t31 k1_t32 k1_t36) a + S1x1x16.size a ≤ S4x8x128.size a) ∧
  (∀ (k1_t31 : Fin (k1_t31_loop v21 v23).trips) (k1_t32 : Fin (k1_t32_loop v21 v23 k1_t31).trips) (k1_t36 : Fin (k1_t36_loop v21 v23 k1_t31 k1_t32).trips), ∀ a, (k1_off229 v21 v23 k1_t31 k1_t32 k1_t36) a + S1x1x16.size a ≤ S4x8x128.size a) ∧
  (∀ (k1_t31 : Fin (k1_t31_loop v21 v23).trips) (k1_t32 : Fin (k1_t32_loop v21 v23 k1_t31).trips) (k1_t36 : Fin (k1_t36_loop v21 v23 k1_t31 k1_t32).trips), ∀ a, (k1_off230 v21 v23 k1_t31 k1_t32 k1_t36) a + S1x1x16.size a ≤ S4x8x128.size a) ∧
  (∀ (k1_t31 : Fin (k1_t31_loop v21 v23).trips) (k1_t32 : Fin (k1_t32_loop v21 v23 k1_t31).trips), (k1_t37_loop v21 v23 k1_t31 k1_t32).OK) ∧
  (∀ (k1_t31 : Fin (k1_t31_loop v21 v23).trips) (k1_t32 : Fin (k1_t32_loop v21 v23 k1_t31).trips) (k1_t37 : Fin (k1_t37_loop v21 v23 k1_t31 k1_t32).trips), ∀ a, (k1_off231 v21 v23 k1_t31 k1_t32 k1_t37) a + S1x1x16.size a ≤ S4x8x128.size a) ∧
  (∀ (k1_t31 : Fin (k1_t31_loop v21 v23).trips) (k1_t32 : Fin (k1_t32_loop v21 v23 k1_t31).trips) (k1_t37 : Fin (k1_t37_loop v21 v23 k1_t31 k1_t32).trips), ∀ a, (k1_off232 v21 v23 k1_t31 k1_t32 k1_t37) a + S1x1x16.size a ≤ S4x8x128.size a) ∧
  (∀ (k1_t31 : Fin (k1_t31_loop v21 v23).trips) (k1_t32 : Fin (k1_t32_loop v21 v23 k1_t31).trips) (k1_t37 : Fin (k1_t37_loop v21 v23 k1_t31 k1_t32).trips), ∀ a, (k1_off233 v21 v23 k1_t31 k1_t32 k1_t37) a + S1x1x16.size a ≤ S4x8x128.size a) ∧
  (∀ (k1_t31 : Fin (k1_t31_loop v21 v23).trips) (k1_t32 : Fin (k1_t32_loop v21 v23 k1_t31).trips) (k1_t37 : Fin (k1_t37_loop v21 v23 k1_t31 k1_t32).trips), ∀ a, (k1_off234 v21 v23 k1_t31 k1_t32 k1_t37) a + S1x1x16.size a ≤ S4x8x128.size a) ∧
  (∀ (k1_t31 : Fin (k1_t31_loop v21 v23).trips) (k1_t32 : Fin (k1_t32_loop v21 v23 k1_t31).trips) (k1_t37 : Fin (k1_t37_loop v21 v23 k1_t31 k1_t32).trips), ∀ a, (k1_off235 v21 v23 k1_t31 k1_t32 k1_t37) a + S1x1x16.size a ≤ S4x8x128.size a) ∧
  (∀ (k1_t31 : Fin (k1_t31_loop v21 v23).trips) (k1_t32 : Fin (k1_t32_loop v21 v23 k1_t31).trips) (k1_t37 : Fin (k1_t37_loop v21 v23 k1_t31 k1_t32).trips), ∀ a, (k1_off236 v21 v23 k1_t31 k1_t32 k1_t37) a + S1x1x16.size a ≤ S4x8x128.size a) ∧
  (∀ (k1_t31 : Fin (k1_t31_loop v21 v23).trips) (k1_t32 : Fin (k1_t32_loop v21 v23 k1_t31).trips) (k1_t37 : Fin (k1_t37_loop v21 v23 k1_t31 k1_t32).trips), ∀ a, (k1_off237 v21 v23 k1_t31 k1_t32 k1_t37) a + S1x1x16.size a ≤ S4x8x128.size a) ∧
  (∀ (k1_t31 : Fin (k1_t31_loop v21 v23).trips) (k1_t32 : Fin (k1_t32_loop v21 v23 k1_t31).trips) (k1_t37 : Fin (k1_t37_loop v21 v23 k1_t31 k1_t32).trips), ∀ a, (k1_off238 v21 v23 k1_t31 k1_t32 k1_t37) a + S1x1x16.size a ≤ S4x8x128.size a) ∧
  (∀ (k1_t31 : Fin (k1_t31_loop v21 v23).trips) (k1_t32 : Fin (k1_t32_loop v21 v23 k1_t31).trips), (k1_t38_loop v21 v23 k1_t31 k1_t32).OK) ∧
  (∀ (k1_t31 : Fin (k1_t31_loop v21 v23).trips) (k1_t32 : Fin (k1_t32_loop v21 v23 k1_t31).trips) (k1_t38 : Fin (k1_t38_loop v21 v23 k1_t31 k1_t32).trips), ∀ a, (k1_off239 v21 v23 k1_t31 k1_t32 k1_t38) a + S1x1x16.size a ≤ S4x8x128.size a) ∧
  (∀ (k1_t31 : Fin (k1_t31_loop v21 v23).trips) (k1_t32 : Fin (k1_t32_loop v21 v23 k1_t31).trips) (k1_t38 : Fin (k1_t38_loop v21 v23 k1_t31 k1_t32).trips), ∀ a, (k1_off240 v21 v23 k1_t31 k1_t32 k1_t38) a + S1x1x16.size a ≤ S4x8x128.size a) ∧
  (∀ (k1_t31 : Fin (k1_t31_loop v21 v23).trips) (k1_t32 : Fin (k1_t32_loop v21 v23 k1_t31).trips) (k1_t38 : Fin (k1_t38_loop v21 v23 k1_t31 k1_t32).trips), ∀ a, (k1_off241 v21 v23 k1_t31 k1_t32 k1_t38) a + S1x1x16.size a ≤ S4x8x128.size a) ∧
  (∀ (k1_t31 : Fin (k1_t31_loop v21 v23).trips) (k1_t32 : Fin (k1_t32_loop v21 v23 k1_t31).trips) (k1_t38 : Fin (k1_t38_loop v21 v23 k1_t31 k1_t32).trips), ∀ a, (k1_off242 v21 v23 k1_t31 k1_t32 k1_t38) a + S1x1x16.size a ≤ S4x8x128.size a) ∧
  (∀ (k1_t31 : Fin (k1_t31_loop v21 v23).trips) (k1_t32 : Fin (k1_t32_loop v21 v23 k1_t31).trips) (k1_t38 : Fin (k1_t38_loop v21 v23 k1_t31 k1_t32).trips), ∀ a, (k1_off243 v21 v23 k1_t31 k1_t32 k1_t38) a + S1x1x16.size a ≤ S4x8x128.size a) ∧
  (∀ (k1_t31 : Fin (k1_t31_loop v21 v23).trips) (k1_t32 : Fin (k1_t32_loop v21 v23 k1_t31).trips) (k1_t38 : Fin (k1_t38_loop v21 v23 k1_t31 k1_t32).trips), ∀ a, (k1_off244 v21 v23 k1_t31 k1_t32 k1_t38) a + S1x1x16.size a ≤ S4x8x128.size a) ∧
  (∀ (k1_t31 : Fin (k1_t31_loop v21 v23).trips) (k1_t32 : Fin (k1_t32_loop v21 v23 k1_t31).trips) (k1_t38 : Fin (k1_t38_loop v21 v23 k1_t31 k1_t32).trips), ∀ a, (k1_off245 v21 v23 k1_t31 k1_t32 k1_t38) a + S1x1x16.size a ≤ S4x8x128.size a) ∧
  (∀ (k1_t31 : Fin (k1_t31_loop v21 v23).trips) (k1_t32 : Fin (k1_t32_loop v21 v23 k1_t31).trips) (k1_t38 : Fin (k1_t38_loop v21 v23 k1_t31 k1_t32).trips), ∀ a, (k1_off246 v21 v23 k1_t31 k1_t32 k1_t38) a + S1x1x16.size a ≤ S4x8x128.size a) ∧
  (∀ k1_t31 : Fin (k1_t31_loop v21 v23).trips, (k1_t39_loop v21 v23 k1_t31).OK) ∧
  (∀ (k1_t31 : Fin (k1_t31_loop v21 v23).trips) (k1_t39 : Fin (k1_t39_loop v21 v23 k1_t31).trips), (k1_t40_loop v21 v23 k1_t31 k1_t39).OK) ∧
  (∀ (k1_t31 : Fin (k1_t31_loop v21 v23).trips) (k1_t39 : Fin (k1_t39_loop v21 v23 k1_t31).trips) (k1_t40 : Fin (k1_t40_loop v21 v23 k1_t31 k1_t39).trips), ∀ a, (k1_off247 v21 v23 k1_t31 k1_t39 k1_t40) a + S1x1x16.size a ≤ S4x8x128.size a) ∧
  (∀ (k1_t31 : Fin (k1_t31_loop v21 v23).trips) (k1_t39 : Fin (k1_t39_loop v21 v23 k1_t31).trips) (k1_t40 : Fin (k1_t40_loop v21 v23 k1_t31 k1_t39).trips), ∀ a, (k1_off248 v21 v23 k1_t31 k1_t39 k1_t40) a + S1x1x16.size a ≤ S4x8x128.size a) ∧
  (∀ (k1_t31 : Fin (k1_t31_loop v21 v23).trips) (k1_t39 : Fin (k1_t39_loop v21 v23 k1_t31).trips) (k1_t40 : Fin (k1_t40_loop v21 v23 k1_t31 k1_t39).trips), ∀ a, (k1_off249 v21 v23 k1_t31 k1_t39 k1_t40) a + S1x1x16.size a ≤ S4x8x128.size a) ∧
  (∀ (k1_t31 : Fin (k1_t31_loop v21 v23).trips) (k1_t39 : Fin (k1_t39_loop v21 v23 k1_t31).trips) (k1_t40 : Fin (k1_t40_loop v21 v23 k1_t31 k1_t39).trips), ∀ a, (k1_off250 v21 v23 k1_t31 k1_t39 k1_t40) a + S1x1x16.size a ≤ S4x8x128.size a) ∧
  (∀ (k1_t31 : Fin (k1_t31_loop v21 v23).trips) (k1_t39 : Fin (k1_t39_loop v21 v23 k1_t31).trips) (k1_t40 : Fin (k1_t40_loop v21 v23 k1_t31 k1_t39).trips), ∀ a, (k1_off251 v21 v23 k1_t31 k1_t39 k1_t40) a + S1x1x16.size a ≤ S4x8x128.size a) ∧
  (∀ (k1_t31 : Fin (k1_t31_loop v21 v23).trips) (k1_t39 : Fin (k1_t39_loop v21 v23 k1_t31).trips) (k1_t40 : Fin (k1_t40_loop v21 v23 k1_t31 k1_t39).trips), ∀ a, (k1_off252 v21 v23 k1_t31 k1_t39 k1_t40) a + S1x1x16.size a ≤ S4x8x128.size a)
def k1_chk2_9 (k1_t1 : Fin k1_t1_loop.trips) (v21 : BitVec 32) (v23 : BitVec 32) : Prop :=
  (∀ (k1_t31 : Fin (k1_t31_loop v21 v23).trips) (k1_t39 : Fin (k1_t39_loop v21 v23 k1_t31).trips) (k1_t40 : Fin (k1_t40_loop v21 v23 k1_t31 k1_t39).trips), ∀ a, (k1_off253 v21 v23 k1_t31 k1_t39 k1_t40) a + S1x1x16.size a ≤ S4x8x128.size a) ∧
  (∀ (k1_t31 : Fin (k1_t31_loop v21 v23).trips) (k1_t39 : Fin (k1_t39_loop v21 v23 k1_t31).trips) (k1_t40 : Fin (k1_t40_loop v21 v23 k1_t31 k1_t39).trips), ∀ a, (k1_off254 v21 v23 k1_t31 k1_t39 k1_t40) a + S1x1x16.size a ≤ S4x8x128.size a) ∧
  (∀ (k1_t31 : Fin (k1_t31_loop v21 v23).trips) (k1_t39 : Fin (k1_t39_loop v21 v23 k1_t31).trips), (k1_t41_loop v21 v23 k1_t31 k1_t39).OK) ∧
  (∀ (k1_t31 : Fin (k1_t31_loop v21 v23).trips) (k1_t39 : Fin (k1_t39_loop v21 v23 k1_t31).trips) (k1_t41 : Fin (k1_t41_loop v21 v23 k1_t31 k1_t39).trips), ∀ a, (k1_off255 v21 v23 k1_t31 k1_t39 k1_t41) a + S1x1x16.size a ≤ S4x8x128.size a) ∧
  (∀ (k1_t31 : Fin (k1_t31_loop v21 v23).trips) (k1_t39 : Fin (k1_t39_loop v21 v23 k1_t31).trips) (k1_t41 : Fin (k1_t41_loop v21 v23 k1_t31 k1_t39).trips), ∀ a, (k1_off256 v21 v23 k1_t31 k1_t39 k1_t41) a + S1x1x16.size a ≤ S4x8x128.size a) ∧
  (∀ (k1_t31 : Fin (k1_t31_loop v21 v23).trips) (k1_t39 : Fin (k1_t39_loop v21 v23 k1_t31).trips) (k1_t41 : Fin (k1_t41_loop v21 v23 k1_t31 k1_t39).trips), ∀ a, (k1_off257 v21 v23 k1_t31 k1_t39 k1_t41) a + S1x1x16.size a ≤ S4x8x128.size a) ∧
  (∀ (k1_t31 : Fin (k1_t31_loop v21 v23).trips) (k1_t39 : Fin (k1_t39_loop v21 v23 k1_t31).trips) (k1_t41 : Fin (k1_t41_loop v21 v23 k1_t31 k1_t39).trips), ∀ a, (k1_off258 v21 v23 k1_t31 k1_t39 k1_t41) a + S1x1x16.size a ≤ S4x8x128.size a) ∧
  (∀ (k1_t31 : Fin (k1_t31_loop v21 v23).trips) (k1_t39 : Fin (k1_t39_loop v21 v23 k1_t31).trips) (k1_t41 : Fin (k1_t41_loop v21 v23 k1_t31 k1_t39).trips), ∀ a, (k1_off259 v21 v23 k1_t31 k1_t39 k1_t41) a + S1x1x16.size a ≤ S4x8x128.size a) ∧
  (∀ (k1_t31 : Fin (k1_t31_loop v21 v23).trips) (k1_t39 : Fin (k1_t39_loop v21 v23 k1_t31).trips) (k1_t41 : Fin (k1_t41_loop v21 v23 k1_t31 k1_t39).trips), ∀ a, (k1_off260 v21 v23 k1_t31 k1_t39 k1_t41) a + S1x1x16.size a ≤ S4x8x128.size a) ∧
  (∀ (k1_t31 : Fin (k1_t31_loop v21 v23).trips) (k1_t39 : Fin (k1_t39_loop v21 v23 k1_t31).trips) (k1_t41 : Fin (k1_t41_loop v21 v23 k1_t31 k1_t39).trips), ∀ a, (k1_off261 v21 v23 k1_t31 k1_t39 k1_t41) a + S1x1x16.size a ≤ S4x8x128.size a) ∧
  (∀ (k1_t31 : Fin (k1_t31_loop v21 v23).trips) (k1_t39 : Fin (k1_t39_loop v21 v23 k1_t31).trips) (k1_t41 : Fin (k1_t41_loop v21 v23 k1_t31 k1_t39).trips), ∀ a, (k1_off262 v21 v23 k1_t31 k1_t39 k1_t41) a + S1x1x16.size a ≤ S4x8x128.size a) ∧
  (∀ (k1_t31 : Fin (k1_t31_loop v21 v23).trips) (k1_t39 : Fin (k1_t39_loop v21 v23 k1_t31).trips), (k1_t42_loop v21 v23 k1_t31 k1_t39).OK) ∧
  (∀ (k1_t31 : Fin (k1_t31_loop v21 v23).trips) (k1_t39 : Fin (k1_t39_loop v21 v23 k1_t31).trips) (k1_t42 : Fin (k1_t42_loop v21 v23 k1_t31 k1_t39).trips), ∀ a, (k1_off263 v21 v23 k1_t31 k1_t39 k1_t42) a + S1x1x16.size a ≤ S4x8x128.size a) ∧
  (∀ (k1_t31 : Fin (k1_t31_loop v21 v23).trips) (k1_t39 : Fin (k1_t39_loop v21 v23 k1_t31).trips) (k1_t42 : Fin (k1_t42_loop v21 v23 k1_t31 k1_t39).trips), ∀ a, (k1_off264 v21 v23 k1_t31 k1_t39 k1_t42) a + S1x1x16.size a ≤ S4x8x128.size a) ∧
  (∀ (k1_t31 : Fin (k1_t31_loop v21 v23).trips) (k1_t39 : Fin (k1_t39_loop v21 v23 k1_t31).trips) (k1_t42 : Fin (k1_t42_loop v21 v23 k1_t31 k1_t39).trips), ∀ a, (k1_off265 v21 v23 k1_t31 k1_t39 k1_t42) a + S1x1x16.size a ≤ S4x8x128.size a) ∧
  (∀ (k1_t31 : Fin (k1_t31_loop v21 v23).trips) (k1_t39 : Fin (k1_t39_loop v21 v23 k1_t31).trips) (k1_t42 : Fin (k1_t42_loop v21 v23 k1_t31 k1_t39).trips), ∀ a, (k1_off266 v21 v23 k1_t31 k1_t39 k1_t42) a + S1x1x16.size a ≤ S4x8x128.size a) ∧
  (∀ (k1_t31 : Fin (k1_t31_loop v21 v23).trips) (k1_t39 : Fin (k1_t39_loop v21 v23 k1_t31).trips) (k1_t42 : Fin (k1_t42_loop v21 v23 k1_t31 k1_t39).trips), ∀ a, (k1_off267 v21 v23 k1_t31 k1_t39 k1_t42) a + S1x1x16.size a ≤ S4x8x128.size a) ∧
  (∀ (k1_t31 : Fin (k1_t31_loop v21 v23).trips) (k1_t39 : Fin (k1_t39_loop v21 v23 k1_t31).trips) (k1_t42 : Fin (k1_t42_loop v21 v23 k1_t31 k1_t39).trips), ∀ a, (k1_off268 v21 v23 k1_t31 k1_t39 k1_t42) a + S1x1x16.size a ≤ S4x8x128.size a) ∧
  (∀ (k1_t31 : Fin (k1_t31_loop v21 v23).trips) (k1_t39 : Fin (k1_t39_loop v21 v23 k1_t31).trips) (k1_t42 : Fin (k1_t42_loop v21 v23 k1_t31 k1_t39).trips), ∀ a, (k1_off269 v21 v23 k1_t31 k1_t39 k1_t42) a + S1x1x16.size a ≤ S4x8x128.size a) ∧
  (∀ (k1_t31 : Fin (k1_t31_loop v21 v23).trips) (k1_t39 : Fin (k1_t39_loop v21 v23 k1_t31).trips) (k1_t42 : Fin (k1_t42_loop v21 v23 k1_t31 k1_t39).trips), ∀ a, (k1_off270 v21 v23 k1_t31 k1_t39 k1_t42) a + S1x1x16.size a ≤ S4x8x128.size a) ∧
  (∀ (k1_t31 : Fin (k1_t31_loop v21 v23).trips) (k1_t39 : Fin (k1_t39_loop v21 v23 k1_t31).trips), (k1_t43_loop v21 v23 k1_t31 k1_t39).OK) ∧
  (∀ (k1_t31 : Fin (k1_t31_loop v21 v23).trips) (k1_t39 : Fin (k1_t39_loop v21 v23 k1_t31).trips) (k1_t43 : Fin (k1_t43_loop v21 v23 k1_t31 k1_t39).trips), ∀ a, (k1_off271 v21 v23 k1_t31 k1_t39 k1_t43) a + S1x1x16.size a ≤ S4x8x128.size a) ∧
  (∀ (k1_t31 : Fin (k1_t31_loop v21 v23).trips) (k1_t39 : Fin (k1_t39_loop v21 v23 k1_t31).trips) (k1_t43 : Fin (k1_t43_loop v21 v23 k1_t31 k1_t39).trips), ∀ a, (k1_off272 v21 v23 k1_t31 k1_t39 k1_t43) a + S1x1x16.size a ≤ S4x8x128.size a) ∧
  (∀ (k1_t31 : Fin (k1_t31_loop v21 v23).trips) (k1_t39 : Fin (k1_t39_loop v21 v23 k1_t31).trips) (k1_t43 : Fin (k1_t43_loop v21 v23 k1_t31 k1_t39).trips), ∀ a, (k1_off273 v21 v23 k1_t31 k1_t39 k1_t43) a + S1x1x16.size a ≤ S4x8x128.size a) ∧
  (∀ (k1_t31 : Fin (k1_t31_loop v21 v23).trips) (k1_t39 : Fin (k1_t39_loop v21 v23 k1_t31).trips) (k1_t43 : Fin (k1_t43_loop v21 v23 k1_t31 k1_t39).trips), ∀ a, (k1_off274 v21 v23 k1_t31 k1_t39 k1_t43) a + S1x1x16.size a ≤ S4x8x128.size a) ∧
  (∀ (k1_t31 : Fin (k1_t31_loop v21 v23).trips) (k1_t39 : Fin (k1_t39_loop v21 v23 k1_t31).trips) (k1_t43 : Fin (k1_t43_loop v21 v23 k1_t31 k1_t39).trips), ∀ a, (k1_off275 v21 v23 k1_t31 k1_t39 k1_t43) a + S1x1x16.size a ≤ S4x8x128.size a) ∧
  (∀ (k1_t31 : Fin (k1_t31_loop v21 v23).trips) (k1_t39 : Fin (k1_t39_loop v21 v23 k1_t31).trips) (k1_t43 : Fin (k1_t43_loop v21 v23 k1_t31 k1_t39).trips), ∀ a, (k1_off276 v21 v23 k1_t31 k1_t39 k1_t43) a + S1x1x16.size a ≤ S4x8x128.size a) ∧
  (∀ (k1_t31 : Fin (k1_t31_loop v21 v23).trips) (k1_t39 : Fin (k1_t39_loop v21 v23 k1_t31).trips) (k1_t43 : Fin (k1_t43_loop v21 v23 k1_t31 k1_t39).trips), ∀ a, (k1_off277 v21 v23 k1_t31 k1_t39 k1_t43) a + S1x1x16.size a ≤ S4x8x128.size a) ∧
  (∀ (k1_t31 : Fin (k1_t31_loop v21 v23).trips) (k1_t39 : Fin (k1_t39_loop v21 v23 k1_t31).trips) (k1_t43 : Fin (k1_t43_loop v21 v23 k1_t31 k1_t39).trips), ∀ a, (k1_off278 v21 v23 k1_t31 k1_t39 k1_t43) a + S1x1x16.size a ≤ S4x8x128.size a) ∧
  (∀ (k1_t31 : Fin (k1_t31_loop v21 v23).trips) (k1_t39 : Fin (k1_t39_loop v21 v23 k1_t31).trips), (k1_t44_loop v21 v23 k1_t31 k1_t39).OK) ∧
  (∀ (k1_t31 : Fin (k1_t31_loop v21 v23).trips) (k1_t39 : Fin (k1_t39_loop v21 v23 k1_t31).trips) (k1_t44 : Fin (k1_t44_loop v21 v23 k1_t31 k1_t39).trips), ∀ a, (k1_off279 v21 v23 k1_t31 k1_t39 k1_t44) a + S1x1x16.size a ≤ S4x8x128.size a) ∧
  (∀ (k1_t31 : Fin (k1_t31_loop v21 v23).trips) (k1_t39 : Fin (k1_t39_loop v21 v23 k1_t31).trips) (k1_t44 : Fin (k1_t44_loop v21 v23 k1_t31 k1_t39).trips), ∀ a, (k1_off280 v21 v23 k1_t31 k1_t39 k1_t44) a + S1x1x16.size a ≤ S4x8x128.size a)
def k1_chk2_10 (k1_t1 : Fin k1_t1_loop.trips) (v21 : BitVec 32) (v23 : BitVec 32) : Prop :=
  (∀ (k1_t31 : Fin (k1_t31_loop v21 v23).trips) (k1_t39 : Fin (k1_t39_loop v21 v23 k1_t31).trips) (k1_t44 : Fin (k1_t44_loop v21 v23 k1_t31 k1_t39).trips), ∀ a, (k1_off281 v21 v23 k1_t31 k1_t39 k1_t44) a + S1x1x16.size a ≤ S4x8x128.size a) ∧
  (∀ (k1_t31 : Fin (k1_t31_loop v21 v23).trips) (k1_t39 : Fin (k1_t39_loop v21 v23 k1_t31).trips) (k1_t44 : Fin (k1_t44_loop v21 v23 k1_t31 k1_t39).trips), ∀ a, (k1_off282 v21 v23 k1_t31 k1_t39 k1_t44) a + S1x1x16.size a ≤ S4x8x128.size a) ∧
  (∀ (k1_t31 : Fin (k1_t31_loop v21 v23).trips) (k1_t39 : Fin (k1_t39_loop v21 v23 k1_t31).trips) (k1_t44 : Fin (k1_t44_loop v21 v23 k1_t31 k1_t39).trips), ∀ a, (k1_off283 v21 v23 k1_t31 k1_t39 k1_t44) a + S1x1x16.size a ≤ S4x8x128.size a) ∧
  (∀ (k1_t31 : Fin (k1_t31_loop v21 v23).trips) (k1_t39 : Fin (k1_t39_loop v21 v23 k1_t31).trips) (k1_t44 : Fin (k1_t44_loop v21 v23 k1_t31 k1_t39).trips), ∀ a, (k1_off284 v21 v23 k1_t31 k1_t39 k1_t44) a + S1x1x16.size a ≤ S4x8x128.size a) ∧
  (∀ (k1_t31 : Fin (k1_t31_loop v21 v23).trips) (k1_t39 : Fin (k1_t39_loop v21 v23 k1_t31).trips) (k1_t44 : Fin (k1_t44_loop v21 v23 k1_t31 k1_t39).trips), ∀ a, (k1_off285 v21 v23 k1_t31 k1_t39 k1_t44) a + S1x1x16.size a ≤ S4x8x128.size a) ∧
  (∀ (k1_t31 : Fin (k1_t31_loop v21 v23).trips) (k1_t39 : Fin (k1_t39_loop v21 v23 k1_t31).trips) (k1_t44 : Fin (k1_t44_loop v21 v23 k1_t31 k1_t39).trips), ∀ a, (k1_off286 v21 v23 k1_t31 k1_t39 k1_t44) a + S1x1x16.size a ≤ S4x8x128.size a) ∧
  (∀ (k1_t31 : Fin (k1_t31_loop v21 v23).trips) (k1_t39 : Fin (k1_t39_loop v21 v23 k1_t31).trips), (k1_t45_loop v21 v23 k1_t31 k1_t39).OK) ∧
  (∀ (k1_t31 : Fin (k1_t31_loop v21 v23).trips) (k1_t39 : Fin (k1_t39_loop v21 v23 k1_t31).trips) (k1_t45 : Fin (k1_t45_loop v21 v23 k1_t31 k1_t39).trips), ∀ a, (k1_off287 v21 v23 k1_t31 k1_t39 k1_t45) a + S1x1x16.size a ≤ S4x8x128.size a) ∧
  (∀ (k1_t31 : Fin (k1_t31_loop v21 v23).trips) (k1_t39 : Fin (k1_t39_loop v21 v23 k1_t31).trips) (k1_t45 : Fin (k1_t45_loop v21 v23 k1_t31 k1_t39).trips), ∀ a, (k1_off288 v21 v23 k1_t31 k1_t39 k1_t45) a + S1x1x16.size a ≤ S4x8x128.size a) ∧
  (∀ (k1_t31 : Fin (k1_t31_loop v21 v23).trips) (k1_t39 : Fin (k1_t39_loop v21 v23 k1_t31).trips) (k1_t45 : Fin (k1_t45_loop v21 v23 k1_t31 k1_t39).trips), ∀ a, (k1_off289 v21 v23 k1_t31 k1_t39 k1_t45) a + S1x1x16.size a ≤ S4x8x128.size a) ∧
  (∀ (k1_t31 : Fin (k1_t31_loop v21 v23).trips) (k1_t39 : Fin (k1_t39_loop v21 v23 k1_t31).trips) (k1_t45 : Fin (k1_t45_loop v21 v23 k1_t31 k1_t39).trips), ∀ a, (k1_off290 v21 v23 k1_t31 k1_t39 k1_t45) a + S1x1x16.size a ≤ S4x8x128.size a) ∧
  (∀ (k1_t31 : Fin (k1_t31_loop v21 v23).trips) (k1_t39 : Fin (k1_t39_loop v21 v23 k1_t31).trips) (k1_t45 : Fin (k1_t45_loop v21 v23 k1_t31 k1_t39).trips), ∀ a, (k1_off291 v21 v23 k1_t31 k1_t39 k1_t45) a + S1x1x16.size a ≤ S4x8x128.size a) ∧
  (∀ (k1_t31 : Fin (k1_t31_loop v21 v23).trips) (k1_t39 : Fin (k1_t39_loop v21 v23 k1_t31).trips) (k1_t45 : Fin (k1_t45_loop v21 v23 k1_t31 k1_t39).trips), ∀ a, (k1_off292 v21 v23 k1_t31 k1_t39 k1_t45) a + S1x1x16.size a ≤ S4x8x128.size a) ∧
  (∀ (k1_t31 : Fin (k1_t31_loop v21 v23).trips) (k1_t39 : Fin (k1_t39_loop v21 v23 k1_t31).trips) (k1_t45 : Fin (k1_t45_loop v21 v23 k1_t31 k1_t39).trips), ∀ a, (k1_off293 v21 v23 k1_t31 k1_t39 k1_t45) a + S1x1x16.size a ≤ S4x8x128.size a) ∧
  (∀ (k1_t31 : Fin (k1_t31_loop v21 v23).trips) (k1_t39 : Fin (k1_t39_loop v21 v23 k1_t31).trips) (k1_t45 : Fin (k1_t45_loop v21 v23 k1_t31 k1_t39).trips), ∀ a, (k1_off294 v21 v23 k1_t31 k1_t39 k1_t45) a + S1x1x16.size a ≤ S4x8x128.size a)
def k1_chk2 (k1_t1 : Fin k1_t1_loop.trips) (v21 : BitVec 32) (v23 : BitVec 32) : Prop :=
  k1_chk2_0 k1_t1 v21 v23 ∧
  k1_chk2_1 k1_t1 v21 v23 ∧
  k1_chk2_2 k1_t1 v21 v23 ∧
  k1_chk2_3 k1_t1 v21 v23 ∧
  k1_chk2_4 k1_t1 v21 v23 ∧
  k1_chk2_5 k1_t1 v21 v23 ∧
  k1_chk2_6 k1_t1 v21 v23 ∧
  k1_chk2_7 k1_t1 v21 v23 ∧
  k1_chk2_8 k1_t1 v21 v23 ∧
  k1_chk2_9 k1_t1 v21 v23 ∧
  k1_chk2_10 k1_t1 v21 v23
theorem k1_off4_inb : ∀ (k1_t1 : Fin k1_t1_loop.trips) (v21 : BitVec 32) (v23 : BitVec 32) (k1_hw2 : k1_chk2 k1_t1 v21 v23), ∀ (k1_h1 : k1_cond1 k1_t1 = 1#1), ∀ a, (k1_off4 v23) a + S4x8x128.size a ≤ S2550x8x128.size a := fun k1_t1 v21 v23 k1_hw2 k1_h1 => k1_hw2.1.1 k1_h1
theorem k1_t2_ok : ∀ (k1_t1 : Fin k1_t1_loop.trips) (v21 : BitVec 32) (v23 : BitVec 32) (k1_hw2 : k1_chk2 k1_t1 v21 v23), (k1_t2_loop v21 v23).OK := fun k1_t1 v21 v23 k1_hw2 => k1_hw2.1.2.1
theorem k1_t3_ok : ∀ (k1_t1 : Fin k1_t1_loop.trips) (v21 : BitVec 32) (v23 : BitVec 32) (k1_hw2 : k1_chk2 k1_t1 v21 v23) (k1_t2 : Fin (k1_t2_loop v21 v23).trips), (k1_t3_loop v21 v23 k1_t2).OK := fun k1_t1 v21 v23 k1_hw2 k1_t2 => k1_hw2.1.2.2.1 k1_t2
theorem k1_off5_inb : ∀ (k1_t1 : Fin k1_t1_loop.trips) (v21 : BitVec 32) (v23 : BitVec 32) (k1_hw2 : k1_chk2 k1_t1 v21 v23) (k1_t2 : Fin (k1_t2_loop v21 v23).trips) (k1_t3 : Fin (k1_t3_loop v21 v23 k1_t2).trips), ∀ a, (k1_off5 v21 v23 k1_t2 k1_t3) a + S1x1x16.size a ≤ S4x8x128.size a := fun k1_t1 v21 v23 k1_hw2 k1_t2 k1_t3 => k1_hw2.1.2.2.2.1 k1_t2 k1_t3
theorem k1_off6_inb : ∀ (k1_t1 : Fin k1_t1_loop.trips) (v21 : BitVec 32) (v23 : BitVec 32) (k1_hw2 : k1_chk2 k1_t1 v21 v23) (k1_t2 : Fin (k1_t2_loop v21 v23).trips) (k1_t3 : Fin (k1_t3_loop v21 v23 k1_t2).trips), ∀ a, (k1_off6 v21 v23 k1_t2 k1_t3) a + S1x1x16.size a ≤ S4x8x128.size a := fun k1_t1 v21 v23 k1_hw2 k1_t2 k1_t3 => k1_hw2.1.2.2.2.2.1 k1_t2 k1_t3
theorem k1_off7_inb : ∀ (k1_t1 : Fin k1_t1_loop.trips) (v21 : BitVec 32) (v23 : BitVec 32) (k1_hw2 : k1_chk2 k1_t1 v21 v23) (k1_t2 : Fin (k1_t2_loop v21 v23).trips) (k1_t3 : Fin (k1_t3_loop v21 v23 k1_t2).trips), ∀ a, (k1_off7 v21 v23 k1_t2 k1_t3) a + S1x1x16.size a ≤ S4x8x128.size a := fun k1_t1 v21 v23 k1_hw2 k1_t2 k1_t3 => k1_hw2.1.2.2.2.2.2.1 k1_t2 k1_t3
theorem k1_off8_inb : ∀ (k1_t1 : Fin k1_t1_loop.trips) (v21 : BitVec 32) (v23 : BitVec 32) (k1_hw2 : k1_chk2 k1_t1 v21 v23) (k1_t2 : Fin (k1_t2_loop v21 v23).trips) (k1_t3 : Fin (k1_t3_loop v21 v23 k1_t2).trips), ∀ a, (k1_off8 v21 v23 k1_t2 k1_t3) a + S1x1x16.size a ≤ S4x8x128.size a := fun k1_t1 v21 v23 k1_hw2 k1_t2 k1_t3 => k1_hw2.1.2.2.2.2.2.2.1 k1_t2 k1_t3
theorem k1_off9_inb : ∀ (k1_t1 : Fin k1_t1_loop.trips) (v21 : BitVec 32) (v23 : BitVec 32) (k1_hw2 : k1_chk2 k1_t1 v21 v23) (k1_t2 : Fin (k1_t2_loop v21 v23).trips) (k1_t3 : Fin (k1_t3_loop v21 v23 k1_t2).trips), ∀ a, (k1_off9 v21 v23 k1_t2 k1_t3) a + S1x1x16.size a ≤ S4x8x128.size a := fun k1_t1 v21 v23 k1_hw2 k1_t2 k1_t3 => k1_hw2.1.2.2.2.2.2.2.2.1 k1_t2 k1_t3
theorem k1_off10_inb : ∀ (k1_t1 : Fin k1_t1_loop.trips) (v21 : BitVec 32) (v23 : BitVec 32) (k1_hw2 : k1_chk2 k1_t1 v21 v23) (k1_t2 : Fin (k1_t2_loop v21 v23).trips) (k1_t3 : Fin (k1_t3_loop v21 v23 k1_t2).trips), ∀ a, (k1_off10 v21 v23 k1_t2 k1_t3) a + S1x1x16.size a ≤ S4x8x128.size a := fun k1_t1 v21 v23 k1_hw2 k1_t2 k1_t3 => k1_hw2.1.2.2.2.2.2.2.2.2.1 k1_t2 k1_t3
theorem k1_off11_inb : ∀ (k1_t1 : Fin k1_t1_loop.trips) (v21 : BitVec 32) (v23 : BitVec 32) (k1_hw2 : k1_chk2 k1_t1 v21 v23) (k1_t2 : Fin (k1_t2_loop v21 v23).trips) (k1_t3 : Fin (k1_t3_loop v21 v23 k1_t2).trips), ∀ a, (k1_off11 v21 v23 k1_t2 k1_t3) a + S1x1x16.size a ≤ S4x8x128.size a := fun k1_t1 v21 v23 k1_hw2 k1_t2 k1_t3 => k1_hw2.1.2.2.2.2.2.2.2.2.2.1 k1_t2 k1_t3
theorem k1_off12_inb : ∀ (k1_t1 : Fin k1_t1_loop.trips) (v21 : BitVec 32) (v23 : BitVec 32) (k1_hw2 : k1_chk2 k1_t1 v21 v23) (k1_t2 : Fin (k1_t2_loop v21 v23).trips) (k1_t3 : Fin (k1_t3_loop v21 v23 k1_t2).trips), ∀ a, (k1_off12 v21 v23 k1_t2 k1_t3) a + S1x1x16.size a ≤ S4x8x128.size a := fun k1_t1 v21 v23 k1_hw2 k1_t2 k1_t3 => k1_hw2.1.2.2.2.2.2.2.2.2.2.2.1 k1_t2 k1_t3
theorem k1_t4_ok : ∀ (k1_t1 : Fin k1_t1_loop.trips) (v21 : BitVec 32) (v23 : BitVec 32) (k1_hw2 : k1_chk2 k1_t1 v21 v23) (k1_t2 : Fin (k1_t2_loop v21 v23).trips), (k1_t4_loop v21 v23 k1_t2).OK := fun k1_t1 v21 v23 k1_hw2 k1_t2 => k1_hw2.1.2.2.2.2.2.2.2.2.2.2.2.1 k1_t2
theorem k1_off13_inb : ∀ (k1_t1 : Fin k1_t1_loop.trips) (v21 : BitVec 32) (v23 : BitVec 32) (k1_hw2 : k1_chk2 k1_t1 v21 v23) (k1_t2 : Fin (k1_t2_loop v21 v23).trips) (k1_t4 : Fin (k1_t4_loop v21 v23 k1_t2).trips), ∀ a, (k1_off13 v21 v23 k1_t2 k1_t4) a + S1x1x16.size a ≤ S4x8x128.size a := fun k1_t1 v21 v23 k1_hw2 k1_t2 k1_t4 => k1_hw2.1.2.2.2.2.2.2.2.2.2.2.2.2.1 k1_t2 k1_t4
theorem k1_off14_inb : ∀ (k1_t1 : Fin k1_t1_loop.trips) (v21 : BitVec 32) (v23 : BitVec 32) (k1_hw2 : k1_chk2 k1_t1 v21 v23) (k1_t2 : Fin (k1_t2_loop v21 v23).trips) (k1_t4 : Fin (k1_t4_loop v21 v23 k1_t2).trips), ∀ a, (k1_off14 v21 v23 k1_t2 k1_t4) a + S1x1x16.size a ≤ S4x8x128.size a := fun k1_t1 v21 v23 k1_hw2 k1_t2 k1_t4 => k1_hw2.1.2.2.2.2.2.2.2.2.2.2.2.2.2.1 k1_t2 k1_t4
theorem k1_off15_inb : ∀ (k1_t1 : Fin k1_t1_loop.trips) (v21 : BitVec 32) (v23 : BitVec 32) (k1_hw2 : k1_chk2 k1_t1 v21 v23) (k1_t2 : Fin (k1_t2_loop v21 v23).trips) (k1_t4 : Fin (k1_t4_loop v21 v23 k1_t2).trips), ∀ a, (k1_off15 v21 v23 k1_t2 k1_t4) a + S1x1x16.size a ≤ S4x8x128.size a := fun k1_t1 v21 v23 k1_hw2 k1_t2 k1_t4 => k1_hw2.1.2.2.2.2.2.2.2.2.2.2.2.2.2.2.1 k1_t2 k1_t4
theorem k1_off16_inb : ∀ (k1_t1 : Fin k1_t1_loop.trips) (v21 : BitVec 32) (v23 : BitVec 32) (k1_hw2 : k1_chk2 k1_t1 v21 v23) (k1_t2 : Fin (k1_t2_loop v21 v23).trips) (k1_t4 : Fin (k1_t4_loop v21 v23 k1_t2).trips), ∀ a, (k1_off16 v21 v23 k1_t2 k1_t4) a + S1x1x16.size a ≤ S4x8x128.size a := fun k1_t1 v21 v23 k1_hw2 k1_t2 k1_t4 => k1_hw2.1.2.2.2.2.2.2.2.2.2.2.2.2.2.2.2.1 k1_t2 k1_t4
theorem k1_off17_inb : ∀ (k1_t1 : Fin k1_t1_loop.trips) (v21 : BitVec 32) (v23 : BitVec 32) (k1_hw2 : k1_chk2 k1_t1 v21 v23) (k1_t2 : Fin (k1_t2_loop v21 v23).trips) (k1_t4 : Fin (k1_t4_loop v21 v23 k1_t2).trips), ∀ a, (k1_off17 v21 v23 k1_t2 k1_t4) a + S1x1x16.size a ≤ S4x8x128.size a := fun k1_t1 v21 v23 k1_hw2 k1_t2 k1_t4 => k1_hw2.1.2.2.2.2.2.2.2.2.2.2.2.2.2.2.2.2.1 k1_t2 k1_t4
theorem k1_off18_inb : ∀ (k1_t1 : Fin k1_t1_loop.trips) (v21 : BitVec 32) (v23 : BitVec 32) (k1_hw2 : k1_chk2 k1_t1 v21 v23) (k1_t2 : Fin (k1_t2_loop v21 v23).trips) (k1_t4 : Fin (k1_t4_loop v21 v23 k1_t2).trips), ∀ a, (k1_off18 v21 v23 k1_t2 k1_t4) a + S1x1x16.size a ≤ S4x8x128.size a := fun k1_t1 v21 v23 k1_hw2 k1_t2 k1_t4 => k1_hw2.1.2.2.2.2.2.2.2.2.2.2.2.2.2.2.2.2.2.1 k1_t2 k1_t4
theorem k1_off19_inb : ∀ (k1_t1 : Fin k1_t1_loop.trips) (v21 : BitVec 32) (v23 : BitVec 32) (k1_hw2 : k1_chk2 k1_t1 v21 v23) (k1_t2 : Fin (k1_t2_loop v21 v23).trips) (k1_t4 : Fin (k1_t4_loop v21 v23 k1_t2).trips), ∀ a, (k1_off19 v21 v23 k1_t2 k1_t4) a + S1x1x16.size a ≤ S4x8x128.size a := fun k1_t1 v21 v23 k1_hw2 k1_t2 k1_t4 => k1_hw2.1.2.2.2.2.2.2.2.2.2.2.2.2.2.2.2.2.2.2.1 k1_t2 k1_t4
theorem k1_off20_inb : ∀ (k1_t1 : Fin k1_t1_loop.trips) (v21 : BitVec 32) (v23 : BitVec 32) (k1_hw2 : k1_chk2 k1_t1 v21 v23) (k1_t2 : Fin (k1_t2_loop v21 v23).trips) (k1_t4 : Fin (k1_t4_loop v21 v23 k1_t2).trips), ∀ a, (k1_off20 v21 v23 k1_t2 k1_t4) a + S1x1x16.size a ≤ S4x8x128.size a := fun k1_t1 v21 v23 k1_hw2 k1_t2 k1_t4 => k1_hw2.1.2.2.2.2.2.2.2.2.2.2.2.2.2.2.2.2.2.2.2.1 k1_t2 k1_t4
theorem k1_t5_ok : ∀ (k1_t1 : Fin k1_t1_loop.trips) (v21 : BitVec 32) (v23 : BitVec 32) (k1_hw2 : k1_chk2 k1_t1 v21 v23) (k1_t2 : Fin (k1_t2_loop v21 v23).trips), (k1_t5_loop v21 v23 k1_t2).OK := fun k1_t1 v21 v23 k1_hw2 k1_t2 => k1_hw2.1.2.2.2.2.2.2.2.2.2.2.2.2.2.2.2.2.2.2.2.2.1 k1_t2
theorem k1_off21_inb : ∀ (k1_t1 : Fin k1_t1_loop.trips) (v21 : BitVec 32) (v23 : BitVec 32) (k1_hw2 : k1_chk2 k1_t1 v21 v23) (k1_t2 : Fin (k1_t2_loop v21 v23).trips) (k1_t5 : Fin (k1_t5_loop v21 v23 k1_t2).trips), ∀ a, (k1_off21 v21 v23 k1_t2 k1_t5) a + S1x1x16.size a ≤ S4x8x128.size a := fun k1_t1 v21 v23 k1_hw2 k1_t2 k1_t5 => k1_hw2.1.2.2.2.2.2.2.2.2.2.2.2.2.2.2.2.2.2.2.2.2.2.1 k1_t2 k1_t5
theorem k1_off22_inb : ∀ (k1_t1 : Fin k1_t1_loop.trips) (v21 : BitVec 32) (v23 : BitVec 32) (k1_hw2 : k1_chk2 k1_t1 v21 v23) (k1_t2 : Fin (k1_t2_loop v21 v23).trips) (k1_t5 : Fin (k1_t5_loop v21 v23 k1_t2).trips), ∀ a, (k1_off22 v21 v23 k1_t2 k1_t5) a + S1x1x16.size a ≤ S4x8x128.size a := fun k1_t1 v21 v23 k1_hw2 k1_t2 k1_t5 => k1_hw2.1.2.2.2.2.2.2.2.2.2.2.2.2.2.2.2.2.2.2.2.2.2.2.1 k1_t2 k1_t5
theorem k1_off23_inb : ∀ (k1_t1 : Fin k1_t1_loop.trips) (v21 : BitVec 32) (v23 : BitVec 32) (k1_hw2 : k1_chk2 k1_t1 v21 v23) (k1_t2 : Fin (k1_t2_loop v21 v23).trips) (k1_t5 : Fin (k1_t5_loop v21 v23 k1_t2).trips), ∀ a, (k1_off23 v21 v23 k1_t2 k1_t5) a + S1x1x16.size a ≤ S4x8x128.size a := fun k1_t1 v21 v23 k1_hw2 k1_t2 k1_t5 => k1_hw2.1.2.2.2.2.2.2.2.2.2.2.2.2.2.2.2.2.2.2.2.2.2.2.2.1 k1_t2 k1_t5
theorem k1_off24_inb : ∀ (k1_t1 : Fin k1_t1_loop.trips) (v21 : BitVec 32) (v23 : BitVec 32) (k1_hw2 : k1_chk2 k1_t1 v21 v23) (k1_t2 : Fin (k1_t2_loop v21 v23).trips) (k1_t5 : Fin (k1_t5_loop v21 v23 k1_t2).trips), ∀ a, (k1_off24 v21 v23 k1_t2 k1_t5) a + S1x1x16.size a ≤ S4x8x128.size a := fun k1_t1 v21 v23 k1_hw2 k1_t2 k1_t5 => k1_hw2.1.2.2.2.2.2.2.2.2.2.2.2.2.2.2.2.2.2.2.2.2.2.2.2.2.1 k1_t2 k1_t5
theorem k1_off25_inb : ∀ (k1_t1 : Fin k1_t1_loop.trips) (v21 : BitVec 32) (v23 : BitVec 32) (k1_hw2 : k1_chk2 k1_t1 v21 v23) (k1_t2 : Fin (k1_t2_loop v21 v23).trips) (k1_t5 : Fin (k1_t5_loop v21 v23 k1_t2).trips), ∀ a, (k1_off25 v21 v23 k1_t2 k1_t5) a + S1x1x16.size a ≤ S4x8x128.size a := fun k1_t1 v21 v23 k1_hw2 k1_t2 k1_t5 => k1_hw2.1.2.2.2.2.2.2.2.2.2.2.2.2.2.2.2.2.2.2.2.2.2.2.2.2.2.1 k1_t2 k1_t5
theorem k1_off26_inb : ∀ (k1_t1 : Fin k1_t1_loop.trips) (v21 : BitVec 32) (v23 : BitVec 32) (k1_hw2 : k1_chk2 k1_t1 v21 v23) (k1_t2 : Fin (k1_t2_loop v21 v23).trips) (k1_t5 : Fin (k1_t5_loop v21 v23 k1_t2).trips), ∀ a, (k1_off26 v21 v23 k1_t2 k1_t5) a + S1x1x16.size a ≤ S4x8x128.size a := fun k1_t1 v21 v23 k1_hw2 k1_t2 k1_t5 => k1_hw2.1.2.2.2.2.2.2.2.2.2.2.2.2.2.2.2.2.2.2.2.2.2.2.2.2.2.2.1 k1_t2 k1_t5
theorem k1_off27_inb : ∀ (k1_t1 : Fin k1_t1_loop.trips) (v21 : BitVec 32) (v23 : BitVec 32) (k1_hw2 : k1_chk2 k1_t1 v21 v23) (k1_t2 : Fin (k1_t2_loop v21 v23).trips) (k1_t5 : Fin (k1_t5_loop v21 v23 k1_t2).trips), ∀ a, (k1_off27 v21 v23 k1_t2 k1_t5) a + S1x1x16.size a ≤ S4x8x128.size a := fun k1_t1 v21 v23 k1_hw2 k1_t2 k1_t5 => k1_hw2.1.2.2.2.2.2.2.2.2.2.2.2.2.2.2.2.2.2.2.2.2.2.2.2.2.2.2.2.1 k1_t2 k1_t5
theorem k1_off28_inb : ∀ (k1_t1 : Fin k1_t1_loop.trips) (v21 : BitVec 32) (v23 : BitVec 32) (k1_hw2 : k1_chk2 k1_t1 v21 v23) (k1_t2 : Fin (k1_t2_loop v21 v23).trips) (k1_t5 : Fin (k1_t5_loop v21 v23 k1_t2).trips), ∀ a, (k1_off28 v21 v23 k1_t2 k1_t5) a + S1x1x16.size a ≤ S4x8x128.size a := fun k1_t1 v21 v23 k1_hw2 k1_t2 k1_t5 => k1_hw2.1.2.2.2.2.2.2.2.2.2.2.2.2.2.2.2.2.2.2.2.2.2.2.2.2.2.2.2.2.1 k1_t2 k1_t5
theorem k1_t6_ok : ∀ (k1_t1 : Fin k1_t1_loop.trips) (v21 : BitVec 32) (v23 : BitVec 32) (k1_hw2 : k1_chk2 k1_t1 v21 v23) (k1_t2 : Fin (k1_t2_loop v21 v23).trips), (k1_t6_loop v21 v23 k1_t2).OK := fun k1_t1 v21 v23 k1_hw2 k1_t2 => k1_hw2.1.2.2.2.2.2.2.2.2.2.2.2.2.2.2.2.2.2.2.2.2.2.2.2.2.2.2.2.2.2.1 k1_t2
theorem k1_off29_inb : ∀ (k1_t1 : Fin k1_t1_loop.trips) (v21 : BitVec 32) (v23 : BitVec 32) (k1_hw2 : k1_chk2 k1_t1 v21 v23) (k1_t2 : Fin (k1_t2_loop v21 v23).trips) (k1_t6 : Fin (k1_t6_loop v21 v23 k1_t2).trips), ∀ a, (k1_off29 v21 v23 k1_t2 k1_t6) a + S1x1x16.size a ≤ S4x8x128.size a := fun k1_t1 v21 v23 k1_hw2 k1_t2 k1_t6 => k1_hw2.1.2.2.2.2.2.2.2.2.2.2.2.2.2.2.2.2.2.2.2.2.2.2.2.2.2.2.2.2.2.2.1 k1_t2 k1_t6
theorem k1_off30_inb : ∀ (k1_t1 : Fin k1_t1_loop.trips) (v21 : BitVec 32) (v23 : BitVec 32) (k1_hw2 : k1_chk2 k1_t1 v21 v23) (k1_t2 : Fin (k1_t2_loop v21 v23).trips) (k1_t6 : Fin (k1_t6_loop v21 v23 k1_t2).trips), ∀ a, (k1_off30 v21 v23 k1_t2 k1_t6) a + S1x1x16.size a ≤ S4x8x128.size a := fun k1_t1 v21 v23 k1_hw2 k1_t2 k1_t6 => k1_hw2.1.2.2.2.2.2.2.2.2.2.2.2.2.2.2.2.2.2.2.2.2.2.2.2.2.2.2.2.2.2.2.2 k1_t2 k1_t6
theorem k1_off31_inb : ∀ (k1_t1 : Fin k1_t1_loop.trips) (v21 : BitVec 32) (v23 : BitVec 32) (k1_hw2 : k1_chk2 k1_t1 v21 v23) (k1_t2 : Fin (k1_t2_loop v21 v23).trips) (k1_t6 : Fin (k1_t6_loop v21 v23 k1_t2).trips), ∀ a, (k1_off31 v21 v23 k1_t2 k1_t6) a + S1x1x16.size a ≤ S4x8x128.size a := fun k1_t1 v21 v23 k1_hw2 k1_t2 k1_t6 => k1_hw2.2.1.1 k1_t2 k1_t6
theorem k1_off32_inb : ∀ (k1_t1 : Fin k1_t1_loop.trips) (v21 : BitVec 32) (v23 : BitVec 32) (k1_hw2 : k1_chk2 k1_t1 v21 v23) (k1_t2 : Fin (k1_t2_loop v21 v23).trips) (k1_t6 : Fin (k1_t6_loop v21 v23 k1_t2).trips), ∀ a, (k1_off32 v21 v23 k1_t2 k1_t6) a + S1x1x16.size a ≤ S4x8x128.size a := fun k1_t1 v21 v23 k1_hw2 k1_t2 k1_t6 => k1_hw2.2.1.2.1 k1_t2 k1_t6
theorem k1_off33_inb : ∀ (k1_t1 : Fin k1_t1_loop.trips) (v21 : BitVec 32) (v23 : BitVec 32) (k1_hw2 : k1_chk2 k1_t1 v21 v23) (k1_t2 : Fin (k1_t2_loop v21 v23).trips) (k1_t6 : Fin (k1_t6_loop v21 v23 k1_t2).trips), ∀ a, (k1_off33 v21 v23 k1_t2 k1_t6) a + S1x1x16.size a ≤ S4x8x128.size a := fun k1_t1 v21 v23 k1_hw2 k1_t2 k1_t6 => k1_hw2.2.1.2.2.1 k1_t2 k1_t6
theorem k1_off34_inb : ∀ (k1_t1 : Fin k1_t1_loop.trips) (v21 : BitVec 32) (v23 : BitVec 32) (k1_hw2 : k1_chk2 k1_t1 v21 v23) (k1_t2 : Fin (k1_t2_loop v21 v23).trips) (k1_t6 : Fin (k1_t6_loop v21 v23 k1_t2).trips), ∀ a, (k1_off34 v21 v23 k1_t2 k1_t6) a + S1x1x16.size a ≤ S4x8x128.size a := fun k1_t1 v21 v23 k1_hw2 k1_t2 k1_t6 => k1_hw2.2.1.2.2.2.1 k1_t2 k1_t6
theorem k1_off35_inb : ∀ (k1_t1 : Fin k1_t1_loop.trips) (v21 : BitVec 32) (v23 : BitVec 32) (k1_hw2 : k1_chk2 k1_t1 v21 v23) (k1_t2 : Fin (k1_t2_loop v21 v23).trips) (k1_t6 : Fin (k1_t6_loop v21 v23 k1_t2).trips), ∀ a, (k1_off35 v21 v23 k1_t2 k1_t6) a + S1x1x16.size a ≤ S4x8x128.size a := fun k1_t1 v21 v23 k1_hw2 k1_t2 k1_t6 => k1_hw2.2.1.2.2.2.2.1 k1_t2 k1_t6
theorem k1_off36_inb : ∀ (k1_t1 : Fin k1_t1_loop.trips) (v21 : BitVec 32) (v23 : BitVec 32) (k1_hw2 : k1_chk2 k1_t1 v21 v23) (k1_t2 : Fin (k1_t2_loop v21 v23).trips) (k1_t6 : Fin (k1_t6_loop v21 v23 k1_t2).trips), ∀ a, (k1_off36 v21 v23 k1_t2 k1_t6) a + S1x1x16.size a ≤ S4x8x128.size a := fun k1_t1 v21 v23 k1_hw2 k1_t2 k1_t6 => k1_hw2.2.1.2.2.2.2.2.1 k1_t2 k1_t6
theorem k1_t7_ok : ∀ (k1_t1 : Fin k1_t1_loop.trips) (v21 : BitVec 32) (v23 : BitVec 32) (k1_hw2 : k1_chk2 k1_t1 v21 v23) (k1_t2 : Fin (k1_t2_loop v21 v23).trips), (k1_t7_loop v21 v23 k1_t2).OK := fun k1_t1 v21 v23 k1_hw2 k1_t2 => k1_hw2.2.1.2.2.2.2.2.2.1 k1_t2
theorem k1_off37_inb : ∀ (k1_t1 : Fin k1_t1_loop.trips) (v21 : BitVec 32) (v23 : BitVec 32) (k1_hw2 : k1_chk2 k1_t1 v21 v23) (k1_t2 : Fin (k1_t2_loop v21 v23).trips) (k1_t7 : Fin (k1_t7_loop v21 v23 k1_t2).trips), ∀ a, (k1_off37 v21 v23 k1_t2 k1_t7) a + S1x1x16.size a ≤ S4x8x128.size a := fun k1_t1 v21 v23 k1_hw2 k1_t2 k1_t7 => k1_hw2.2.1.2.2.2.2.2.2.2.1 k1_t2 k1_t7
theorem k1_off38_inb : ∀ (k1_t1 : Fin k1_t1_loop.trips) (v21 : BitVec 32) (v23 : BitVec 32) (k1_hw2 : k1_chk2 k1_t1 v21 v23) (k1_t2 : Fin (k1_t2_loop v21 v23).trips) (k1_t7 : Fin (k1_t7_loop v21 v23 k1_t2).trips), ∀ a, (k1_off38 v21 v23 k1_t2 k1_t7) a + S1x1x16.size a ≤ S4x8x128.size a := fun k1_t1 v21 v23 k1_hw2 k1_t2 k1_t7 => k1_hw2.2.1.2.2.2.2.2.2.2.2.1 k1_t2 k1_t7
theorem k1_off39_inb : ∀ (k1_t1 : Fin k1_t1_loop.trips) (v21 : BitVec 32) (v23 : BitVec 32) (k1_hw2 : k1_chk2 k1_t1 v21 v23) (k1_t2 : Fin (k1_t2_loop v21 v23).trips) (k1_t7 : Fin (k1_t7_loop v21 v23 k1_t2).trips), ∀ a, (k1_off39 v21 v23 k1_t2 k1_t7) a + S1x1x16.size a ≤ S4x8x128.size a := fun k1_t1 v21 v23 k1_hw2 k1_t2 k1_t7 => k1_hw2.2.1.2.2.2.2.2.2.2.2.2.1 k1_t2 k1_t7
theorem k1_off40_inb : ∀ (k1_t1 : Fin k1_t1_loop.trips) (v21 : BitVec 32) (v23 : BitVec 32) (k1_hw2 : k1_chk2 k1_t1 v21 v23) (k1_t2 : Fin (k1_t2_loop v21 v23).trips) (k1_t7 : Fin (k1_t7_loop v21 v23 k1_t2).trips), ∀ a, (k1_off40 v21 v23 k1_t2 k1_t7) a + S1x1x16.size a ≤ S4x8x128.size a := fun k1_t1 v21 v23 k1_hw2 k1_t2 k1_t7 => k1_hw2.2.1.2.2.2.2.2.2.2.2.2.2.1 k1_t2 k1_t7
theorem k1_off41_inb : ∀ (k1_t1 : Fin k1_t1_loop.trips) (v21 : BitVec 32) (v23 : BitVec 32) (k1_hw2 : k1_chk2 k1_t1 v21 v23) (k1_t2 : Fin (k1_t2_loop v21 v23).trips) (k1_t7 : Fin (k1_t7_loop v21 v23 k1_t2).trips), ∀ a, (k1_off41 v21 v23 k1_t2 k1_t7) a + S1x1x16.size a ≤ S4x8x128.size a := fun k1_t1 v21 v23 k1_hw2 k1_t2 k1_t7 => k1_hw2.2.1.2.2.2.2.2.2.2.2.2.2.2.1 k1_t2 k1_t7
theorem k1_off42_inb : ∀ (k1_t1 : Fin k1_t1_loop.trips) (v21 : BitVec 32) (v23 : BitVec 32) (k1_hw2 : k1_chk2 k1_t1 v21 v23) (k1_t2 : Fin (k1_t2_loop v21 v23).trips) (k1_t7 : Fin (k1_t7_loop v21 v23 k1_t2).trips), ∀ a, (k1_off42 v21 v23 k1_t2 k1_t7) a + S1x1x16.size a ≤ S4x8x128.size a := fun k1_t1 v21 v23 k1_hw2 k1_t2 k1_t7 => k1_hw2.2.1.2.2.2.2.2.2.2.2.2.2.2.2.1 k1_t2 k1_t7
theorem k1_off43_inb : ∀ (k1_t1 : Fin k1_t1_loop.trips) (v21 : BitVec 32) (v23 : BitVec 32) (k1_hw2 : k1_chk2 k1_t1 v21 v23) (k1_t2 : Fin (k1_t2_loop v21 v23).trips) (k1_t7 : Fin (k1_t7_loop v21 v23 k1_t2).trips), ∀ a, (k1_off43 v21 v23 k1_t2 k1_t7) a + S1x1x16.size a ≤ S4x8x128.size a := fun k1_t1 v21 v23 k1_hw2 k1_t2 k1_t7 => k1_hw2.2.1.2.2.2.2.2.2.2.2.2.2.2.2.2.1 k1_t2 k1_t7
theorem k1_off44_inb : ∀ (k1_t1 : Fin k1_t1_loop.trips) (v21 : BitVec 32) (v23 : BitVec 32) (k1_hw2 : k1_chk2 k1_t1 v21 v23) (k1_t2 : Fin (k1_t2_loop v21 v23).trips) (k1_t7 : Fin (k1_t7_loop v21 v23 k1_t2).trips), ∀ a, (k1_off44 v21 v23 k1_t2 k1_t7) a + S1x1x16.size a ≤ S4x8x128.size a := fun k1_t1 v21 v23 k1_hw2 k1_t2 k1_t7 => k1_hw2.2.1.2.2.2.2.2.2.2.2.2.2.2.2.2.2.1 k1_t2 k1_t7
theorem k1_t8_ok : ∀ (k1_t1 : Fin k1_t1_loop.trips) (v21 : BitVec 32) (v23 : BitVec 32) (k1_hw2 : k1_chk2 k1_t1 v21 v23) (k1_t2 : Fin (k1_t2_loop v21 v23).trips), (k1_t8_loop v21 v23 k1_t2).OK := fun k1_t1 v21 v23 k1_hw2 k1_t2 => k1_hw2.2.1.2.2.2.2.2.2.2.2.2.2.2.2.2.2.2.1 k1_t2
theorem k1_off45_inb : ∀ (k1_t1 : Fin k1_t1_loop.trips) (v21 : BitVec 32) (v23 : BitVec 32) (k1_hw2 : k1_chk2 k1_t1 v21 v23) (k1_t2 : Fin (k1_t2_loop v21 v23).trips) (k1_t8 : Fin (k1_t8_loop v21 v23 k1_t2).trips), ∀ a, (k1_off45 v21 v23 k1_t2 k1_t8) a + S1x1x16.size a ≤ S4x8x128.size a := fun k1_t1 v21 v23 k1_hw2 k1_t2 k1_t8 => k1_hw2.2.1.2.2.2.2.2.2.2.2.2.2.2.2.2.2.2.2.1 k1_t2 k1_t8
theorem k1_off46_inb : ∀ (k1_t1 : Fin k1_t1_loop.trips) (v21 : BitVec 32) (v23 : BitVec 32) (k1_hw2 : k1_chk2 k1_t1 v21 v23) (k1_t2 : Fin (k1_t2_loop v21 v23).trips) (k1_t8 : Fin (k1_t8_loop v21 v23 k1_t2).trips), ∀ a, (k1_off46 v21 v23 k1_t2 k1_t8) a + S1x1x16.size a ≤ S4x8x128.size a := fun k1_t1 v21 v23 k1_hw2 k1_t2 k1_t8 => k1_hw2.2.1.2.2.2.2.2.2.2.2.2.2.2.2.2.2.2.2.2.1 k1_t2 k1_t8
theorem k1_off47_inb : ∀ (k1_t1 : Fin k1_t1_loop.trips) (v21 : BitVec 32) (v23 : BitVec 32) (k1_hw2 : k1_chk2 k1_t1 v21 v23) (k1_t2 : Fin (k1_t2_loop v21 v23).trips) (k1_t8 : Fin (k1_t8_loop v21 v23 k1_t2).trips), ∀ a, (k1_off47 v21 v23 k1_t2 k1_t8) a + S1x1x16.size a ≤ S4x8x128.size a := fun k1_t1 v21 v23 k1_hw2 k1_t2 k1_t8 => k1_hw2.2.1.2.2.2.2.2.2.2.2.2.2.2.2.2.2.2.2.2.2.1 k1_t2 k1_t8
theorem k1_off48_inb : ∀ (k1_t1 : Fin k1_t1_loop.trips) (v21 : BitVec 32) (v23 : BitVec 32) (k1_hw2 : k1_chk2 k1_t1 v21 v23) (k1_t2 : Fin (k1_t2_loop v21 v23).trips) (k1_t8 : Fin (k1_t8_loop v21 v23 k1_t2).trips), ∀ a, (k1_off48 v21 v23 k1_t2 k1_t8) a + S1x1x16.size a ≤ S4x8x128.size a := fun k1_t1 v21 v23 k1_hw2 k1_t2 k1_t8 => k1_hw2.2.1.2.2.2.2.2.2.2.2.2.2.2.2.2.2.2.2.2.2.2.1 k1_t2 k1_t8
theorem k1_off49_inb : ∀ (k1_t1 : Fin k1_t1_loop.trips) (v21 : BitVec 32) (v23 : BitVec 32) (k1_hw2 : k1_chk2 k1_t1 v21 v23) (k1_t2 : Fin (k1_t2_loop v21 v23).trips) (k1_t8 : Fin (k1_t8_loop v21 v23 k1_t2).trips), ∀ a, (k1_off49 v21 v23 k1_t2 k1_t8) a + S1x1x16.size a ≤ S4x8x128.size a := fun k1_t1 v21 v23 k1_hw2 k1_t2 k1_t8 => k1_hw2.2.1.2.2.2.2.2.2.2.2.2.2.2.2.2.2.2.2.2.2.2.2.1 k1_t2 k1_t8
theorem k1_off50_inb : ∀ (k1_t1 : Fin k1_t1_loop.trips) (v21 : BitVec 32) (v23 : BitVec 32) (k1_hw2 : k1_chk2 k1_t1 v21 v23) (k1_t2 : Fin (k1_t2_loop v21 v23).trips) (k1_t8 : Fin (k1_t8_loop v21 v23 k1_t2).trips), ∀ a, (k1_off50 v21 v23 k1_t2 k1_t8) a + S1x1x16.size a ≤ S4x8x128.size a := fun k1_t1 v21 v23 k1_hw2 k1_t2 k1_t8 => k1_hw2.2.1.2.2.2.2.2.2.2.2.2.2.2.2.2.2.2.2.2.2.2.2.2.1 k1_t2 k1_t8
theorem k1_off51_inb : ∀ (k1_t1 : Fin k1_t1_loop.trips) (v21 : BitVec 32) (v23 : BitVec 32) (k1_hw2 : k1_chk2 k1_t1 v21 v23) (k1_t2 : Fin (k1_t2_loop v21 v23).trips) (k1_t8 : Fin (k1_t8_loop v21 v23 k1_t2).trips), ∀ a, (k1_off51 v21 v23 k1_t2 k1_t8) a + S1x1x16.size a ≤ S4x8x128.size a := fun k1_t1 v21 v23 k1_hw2 k1_t2 k1_t8 => k1_hw2.2.1.2.2.2.2.2.2.2.2.2.2.2.2.2.2.2.2.2.2.2.2.2.2.1 k1_t2 k1_t8
theorem k1_off52_inb : ∀ (k1_t1 : Fin k1_t1_loop.trips) (v21 : BitVec 32) (v23 : BitVec 32) (k1_hw2 : k1_chk2 k1_t1 v21 v23) (k1_t2 : Fin (k1_t2_loop v21 v23).trips) (k1_t8 : Fin (k1_t8_loop v21 v23 k1_t2).trips), ∀ a, (k1_off52 v21 v23 k1_t2 k1_t8) a + S1x1x16.size a ≤ S4x8x128.size a := fun k1_t1 v21 v23 k1_hw2 k1_t2 k1_t8 => k1_hw2.2.1.2.2.2.2.2.2.2.2.2.2.2.2.2.2.2.2.2.2.2.2.2.2.2.1 k1_t2 k1_t8
theorem k1_t9_ok : ∀ (k1_t1 : Fin k1_t1_loop.trips) (v21 : BitVec 32) (v23 : BitVec 32) (k1_hw2 : k1_chk2 k1_t1 v21 v23), (k1_t9_loop v21 v23).OK := fun k1_t1 v21 v23 k1_hw2 => k1_hw2.2.1.2.2.2.2.2.2.2.2.2.2.2.2.2.2.2.2.2.2.2.2.2.2.2.2.1
theorem k1_t10_ok : ∀ (k1_t1 : Fin k1_t1_loop.trips) (v21 : BitVec 32) (v23 : BitVec 32) (k1_hw2 : k1_chk2 k1_t1 v21 v23) (k1_t9 : Fin (k1_t9_loop v21 v23).trips), (k1_t10_loop v21 v23 k1_t9).OK := fun k1_t1 v21 v23 k1_hw2 k1_t9 => k1_hw2.2.1.2.2.2.2.2.2.2.2.2.2.2.2.2.2.2.2.2.2.2.2.2.2.2.2.2.1 k1_t9
theorem k1_off53_inb : ∀ (k1_t1 : Fin k1_t1_loop.trips) (v21 : BitVec 32) (v23 : BitVec 32) (k1_hw2 : k1_chk2 k1_t1 v21 v23) (k1_t9 : Fin (k1_t9_loop v21 v23).trips) (k1_t10 : Fin (k1_t10_loop v21 v23 k1_t9).trips), ∀ a, (k1_off53 v21 v23 k1_t9 k1_t10) a + S1x1x16.size a ≤ S4x8x128.size a := fun k1_t1 v21 v23 k1_hw2 k1_t9 k1_t10 => k1_hw2.2.1.2.2.2.2.2.2.2.2.2.2.2.2.2.2.2.2.2.2.2.2.2.2.2.2.2.2.1 k1_t9 k1_t10
theorem k1_off54_inb : ∀ (k1_t1 : Fin k1_t1_loop.trips) (v21 : BitVec 32) (v23 : BitVec 32) (k1_hw2 : k1_chk2 k1_t1 v21 v23) (k1_t9 : Fin (k1_t9_loop v21 v23).trips) (k1_t10 : Fin (k1_t10_loop v21 v23 k1_t9).trips), ∀ a, (k1_off54 v21 v23 k1_t9 k1_t10) a + S1x1x16.size a ≤ S4x8x128.size a := fun k1_t1 v21 v23 k1_hw2 k1_t9 k1_t10 => k1_hw2.2.1.2.2.2.2.2.2.2.2.2.2.2.2.2.2.2.2.2.2.2.2.2.2.2.2.2.2.2.1 k1_t9 k1_t10
theorem k1_off55_inb : ∀ (k1_t1 : Fin k1_t1_loop.trips) (v21 : BitVec 32) (v23 : BitVec 32) (k1_hw2 : k1_chk2 k1_t1 v21 v23) (k1_t9 : Fin (k1_t9_loop v21 v23).trips) (k1_t10 : Fin (k1_t10_loop v21 v23 k1_t9).trips), ∀ a, (k1_off55 v21 v23 k1_t9 k1_t10) a + S1x1x16.size a ≤ S4x8x128.size a := fun k1_t1 v21 v23 k1_hw2 k1_t9 k1_t10 => k1_hw2.2.1.2.2.2.2.2.2.2.2.2.2.2.2.2.2.2.2.2.2.2.2.2.2.2.2.2.2.2.2.1 k1_t9 k1_t10
theorem k1_off56_inb : ∀ (k1_t1 : Fin k1_t1_loop.trips) (v21 : BitVec 32) (v23 : BitVec 32) (k1_hw2 : k1_chk2 k1_t1 v21 v23) (k1_t9 : Fin (k1_t9_loop v21 v23).trips) (k1_t10 : Fin (k1_t10_loop v21 v23 k1_t9).trips), ∀ a, (k1_off56 v21 v23 k1_t9 k1_t10) a + S1x1x16.size a ≤ S4x8x128.size a := fun k1_t1 v21 v23 k1_hw2 k1_t9 k1_t10 => k1_hw2.2.1.2.2.2.2.2.2.2.2.2.2.2.2.2.2.2.2.2.2.2.2.2.2.2.2.2.2.2.2.2.1 k1_t9 k1_t10
theorem k1_off57_inb : ∀ (k1_t1 : Fin k1_t1_loop.trips) (v21 : BitVec 32) (v23 : BitVec 32) (k1_hw2 : k1_chk2 k1_t1 v21 v23) (k1_t9 : Fin (k1_t9_loop v21 v23).trips) (k1_t10 : Fin (k1_t10_loop v21 v23 k1_t9).trips), ∀ a, (k1_off57 v21 v23 k1_t9 k1_t10) a + S1x1x16.size a ≤ S4x8x128.size a := fun k1_t1 v21 v23 k1_hw2 k1_t9 k1_t10 => k1_hw2.2.1.2.2.2.2.2.2.2.2.2.2.2.2.2.2.2.2.2.2.2.2.2.2.2.2.2.2.2.2.2.2.1 k1_t9 k1_t10
theorem k1_off58_inb : ∀ (k1_t1 : Fin k1_t1_loop.trips) (v21 : BitVec 32) (v23 : BitVec 32) (k1_hw2 : k1_chk2 k1_t1 v21 v23) (k1_t9 : Fin (k1_t9_loop v21 v23).trips) (k1_t10 : Fin (k1_t10_loop v21 v23 k1_t9).trips), ∀ a, (k1_off58 v21 v23 k1_t9 k1_t10) a + S1x1x16.size a ≤ S4x8x128.size a := fun k1_t1 v21 v23 k1_hw2 k1_t9 k1_t10 => k1_hw2.2.1.2.2.2.2.2.2.2.2.2.2.2.2.2.2.2.2.2.2.2.2.2.2.2.2.2.2.2.2.2.2.2 k1_t9 k1_t10
theorem k1_off59_inb : ∀ (k1_t1 : Fin k1_t1_loop.trips) (v21 : BitVec 32) (v23 : BitVec 32) (k1_hw2 : k1_chk2 k1_t1 v21 v23) (k1_t9 : Fin (k1_t9_loop v21 v23).trips) (k1_t10 : Fin (k1_t10_loop v21 v23 k1_t9).trips), ∀ a, (k1_off59 v21 v23 k1_t9 k1_t10) a + S1x1x16.size a ≤ S4x8x128.size a := fun k1_t1 v21 v23 k1_hw2 k1_t9 k1_t10 => k1_hw2.2.2.1.1 k1_t9 k1_t10
theorem k1_off60_inb : ∀ (k1_t1 : Fin k1_t1_loop.trips) (v21 : BitVec 32) (v23 : BitVec 32) (k1_hw2 : k1_chk2 k1_t1 v21 v23) (k1_t9 : Fin (k1_t9_loop v21 v23).trips) (k1_t10 : Fin (k1_t10_loop v21 v23 k1_t9).trips), ∀ a, (k1_off60 v21 v23 k1_t9 k1_t10) a + S1x1x16.size a ≤ S4x8x128.size a := fun k1_t1 v21 v23 k1_hw2 k1_t9 k1_t10 => k1_hw2.2.2.1.2.1 k1_t9 k1_t10
theorem k1_t11_ok : ∀ (k1_t1 : Fin k1_t1_loop.trips) (v21 : BitVec 32) (v23 : BitVec 32) (k1_hw2 : k1_chk2 k1_t1 v21 v23) (k1_t9 : Fin (k1_t9_loop v21 v23).trips), (k1_t11_loop v21 v23 k1_t9).OK := fun k1_t1 v21 v23 k1_hw2 k1_t9 => k1_hw2.2.2.1.2.2.1 k1_t9
theorem k1_off61_inb : ∀ (k1_t1 : Fin k1_t1_loop.trips) (v21 : BitVec 32) (v23 : BitVec 32) (k1_hw2 : k1_chk2 k1_t1 v21 v23) (k1_t9 : Fin (k1_t9_loop v21 v23).trips) (k1_t11 : Fin (k1_t11_loop v21 v23 k1_t9).trips), ∀ a, (k1_off61 v21 v23 k1_t9 k1_t11) a + S1x1x16.size a ≤ S4x8x128.size a := fun k1_t1 v21 v23 k1_hw2 k1_t9 k1_t11 => k1_hw2.2.2.1.2.2.2.1 k1_t9 k1_t11
theorem k1_off62_inb : ∀ (k1_t1 : Fin k1_t1_loop.trips) (v21 : BitVec 32) (v23 : BitVec 32) (k1_hw2 : k1_chk2 k1_t1 v21 v23) (k1_t9 : Fin (k1_t9_loop v21 v23).trips) (k1_t11 : Fin (k1_t11_loop v21 v23 k1_t9).trips), ∀ a, (k1_off62 v21 v23 k1_t9 k1_t11) a + S1x1x16.size a ≤ S4x8x128.size a := fun k1_t1 v21 v23 k1_hw2 k1_t9 k1_t11 => k1_hw2.2.2.1.2.2.2.2.1 k1_t9 k1_t11
theorem k1_off63_inb : ∀ (k1_t1 : Fin k1_t1_loop.trips) (v21 : BitVec 32) (v23 : BitVec 32) (k1_hw2 : k1_chk2 k1_t1 v21 v23) (k1_t9 : Fin (k1_t9_loop v21 v23).trips) (k1_t11 : Fin (k1_t11_loop v21 v23 k1_t9).trips), ∀ a, (k1_off63 v21 v23 k1_t9 k1_t11) a + S1x1x16.size a ≤ S4x8x128.size a := fun k1_t1 v21 v23 k1_hw2 k1_t9 k1_t11 => k1_hw2.2.2.1.2.2.2.2.2.1 k1_t9 k1_t11
theorem k1_off64_inb : ∀ (k1_t1 : Fin k1_t1_loop.trips) (v21 : BitVec 32) (v23 : BitVec 32) (k1_hw2 : k1_chk2 k1_t1 v21 v23) (k1_t9 : Fin (k1_t9_loop v21 v23).trips) (k1_t11 : Fin (k1_t11_loop v21 v23 k1_t9).trips), ∀ a, (k1_off64 v21 v23 k1_t9 k1_t11) a + S1x1x16.size a ≤ S4x8x128.size a := fun k1_t1 v21 v23 k1_hw2 k1_t9 k1_t11 => k1_hw2.2.2.1.2.2.2.2.2.2.1 k1_t9 k1_t11
theorem k1_off65_inb : ∀ (k1_t1 : Fin k1_t1_loop.trips) (v21 : BitVec 32) (v23 : BitVec 32) (k1_hw2 : k1_chk2 k1_t1 v21 v23) (k1_t9 : Fin (k1_t9_loop v21 v23).trips) (k1_t11 : Fin (k1_t11_loop v21 v23 k1_t9).trips), ∀ a, (k1_off65 v21 v23 k1_t9 k1_t11) a + S1x1x16.size a ≤ S4x8x128.size a := fun k1_t1 v21 v23 k1_hw2 k1_t9 k1_t11 => k1_hw2.2.2.1.2.2.2.2.2.2.2.1 k1_t9 k1_t11
theorem k1_off66_inb : ∀ (k1_t1 : Fin k1_t1_loop.trips) (v21 : BitVec 32) (v23 : BitVec 32) (k1_hw2 : k1_chk2 k1_t1 v21 v23) (k1_t9 : Fin (k1_t9_loop v21 v23).trips) (k1_t11 : Fin (k1_t11_loop v21 v23 k1_t9).trips), ∀ a, (k1_off66 v21 v23 k1_t9 k1_t11) a + S1x1x16.size a ≤ S4x8x128.size a := fun k1_t1 v21 v23 k1_hw2 k1_t9 k1_t11 => k1_hw2.2.2.1.2.2.2.2.2.2.2.2.1 k1_t9 k1_t11
theorem k1_off67_inb : ∀ (k1_t1 : Fin k1_t1_loop.trips) (v21 : BitVec 32) (v23 : BitVec 32) (k1_hw2 : k1_chk2 k1_t1 v21 v23) (k1_t9 : Fin (k1_t9_loop v21 v23).trips) (k1_t11 : Fin (k1_t11_loop v21 v23 k1_t9).trips), ∀ a, (k1_off67 v21 v23 k1_t9 k1_t11) a + S1x1x16.size a ≤ S4x8x128.size a := fun k1_t1 v21 v23 k1_hw2 k1_t9 k1_t11 => k1_hw2.2.2.1.2.2.2.2.2.2.2.2.2.1 k1_t9 k1_t11
theorem k1_off68_inb : ∀ (k1_t1 : Fin k1_t1_loop.trips) (v21 : BitVec 32) (v23 : BitVec 32) (k1_hw2 : k1_chk2 k1_t1 v21 v23) (k1_t9 : Fin (k1_t9_loop v21 v23).trips) (k1_t11 : Fin (k1_t11_loop v21 v23 k1_t9).trips), ∀ a, (k1_off68 v21 v23 k1_t9 k1_t11) a + S1x1x16.size a ≤ S4x8x128.size a := fun k1_t1 v21 v23 k1_hw2 k1_t9 k1_t11 => k1_hw2.2.2.1.2.2.2.2.2.2.2.2.2.2.1 k1_t9 k1_t11
theorem k1_t12_ok : ∀ (k1_t1 : Fin k1_t1_loop.trips) (v21 : BitVec 32) (v23 : BitVec 32) (k1_hw2 : k1_chk2 k1_t1 v21 v23) (k1_t9 : Fin (k1_t9_loop v21 v23).trips), (k1_t12_loop v21 v23 k1_t9).OK := fun k1_t1 v21 v23 k1_hw2 k1_t9 => k1_hw2.2.2.1.2.2.2.2.2.2.2.2.2.2.2.1 k1_t9
theorem k1_off69_inb : ∀ (k1_t1 : Fin k1_t1_loop.trips) (v21 : BitVec 32) (v23 : BitVec 32) (k1_hw2 : k1_chk2 k1_t1 v21 v23) (k1_t9 : Fin (k1_t9_loop v21 v23).trips) (k1_t12 : Fin (k1_t12_loop v21 v23 k1_t9).trips), ∀ a, (k1_off69 v21 v23 k1_t9 k1_t12) a + S1x1x16.size a ≤ S4x8x128.size a := fun k1_t1 v21 v23 k1_hw2 k1_t9 k1_t12 => k1_hw2.2.2.1.2.2.2.2.2.2.2.2.2.2.2.2.1 k1_t9 k1_t12
theorem k1_off70_inb : ∀ (k1_t1 : Fin k1_t1_loop.trips) (v21 : BitVec 32) (v23 : BitVec 32) (k1_hw2 : k1_chk2 k1_t1 v21 v23) (k1_t9 : Fin (k1_t9_loop v21 v23).trips) (k1_t12 : Fin (k1_t12_loop v21 v23 k1_t9).trips), ∀ a, (k1_off70 v21 v23 k1_t9 k1_t12) a + S1x1x16.size a ≤ S4x8x128.size a := fun k1_t1 v21 v23 k1_hw2 k1_t9 k1_t12 => k1_hw2.2.2.1.2.2.2.2.2.2.2.2.2.2.2.2.2.1 k1_t9 k1_t12
theorem k1_off71_inb : ∀ (k1_t1 : Fin k1_t1_loop.trips) (v21 : BitVec 32) (v23 : BitVec 32) (k1_hw2 : k1_chk2 k1_t1 v21 v23) (k1_t9 : Fin (k1_t9_loop v21 v23).trips) (k1_t12 : Fin (k1_t12_loop v21 v23 k1_t9).trips), ∀ a, (k1_off71 v21 v23 k1_t9 k1_t12) a + S1x1x16.size a ≤ S4x8x128.size a := fun k1_t1 v21 v23 k1_hw2 k1_t9 k1_t12 => k1_hw2.2.2.1.2.2.2.2.2.2.2.2.2.2.2.2.2.2.1 k1_t9 k1_t12
theorem k1_off72_inb : ∀ (k1_t1 : Fin k1_t1_loop.trips) (v21 : BitVec 32) (v23 : BitVec 32) (k1_hw2 : k1_chk2 k1_t1 v21 v23) (k1_t9 : Fin (k1_t9_loop v21 v23).trips) (k1_t12 : Fin (k1_t12_loop v21 v23 k1_t9).trips), ∀ a, (k1_off72 v21 v23 k1_t9 k1_t12) a + S1x1x16.size a ≤ S4x8x128.size a := fun k1_t1 v21 v23 k1_hw2 k1_t9 k1_t12 => k1_hw2.2.2.1.2.2.2.2.2.2.2.2.2.2.2.2.2.2.2.1 k1_t9 k1_t12
theorem k1_off73_inb : ∀ (k1_t1 : Fin k1_t1_loop.trips) (v21 : BitVec 32) (v23 : BitVec 32) (k1_hw2 : k1_chk2 k1_t1 v21 v23) (k1_t9 : Fin (k1_t9_loop v21 v23).trips) (k1_t12 : Fin (k1_t12_loop v21 v23 k1_t9).trips), ∀ a, (k1_off73 v21 v23 k1_t9 k1_t12) a + S1x1x16.size a ≤ S4x8x128.size a := fun k1_t1 v21 v23 k1_hw2 k1_t9 k1_t12 => k1_hw2.2.2.1.2.2.2.2.2.2.2.2.2.2.2.2.2.2.2.2.1 k1_t9 k1_t12
theorem k1_off74_inb : ∀ (k1_t1 : Fin k1_t1_loop.trips) (v21 : BitVec 32) (v23 : BitVec 32) (k1_hw2 : k1_chk2 k1_t1 v21 v23) (k1_t9 : Fin (k1_t9_loop v21 v23).trips) (k1_t12 : Fin (k1_t12_loop v21 v23 k1_t9).trips), ∀ a, (k1_off74 v21 v23 k1_t9 k1_t12) a + S1x1x16.size a ≤ S4x8x128.size a := fun k1_t1 v21 v23 k1_hw2 k1_t9 k1_t12 => k1_hw2.2.2.1.2.2.2.2.2.2.2.2.2.2.2.2.2.2.2.2.2.1 k1_t9 k1_t12
theorem k1_off75_inb : ∀ (k1_t1 : Fin k1_t1_loop.trips) (v21 : BitVec 32) (v23 : BitVec 32) (k1_hw2 : k1_chk2 k1_t1 v21 v23) (k1_t9 : Fin (k1_t9_loop v21 v23).trips) (k1_t12 : Fin (k1_t12_loop v21 v23 k1_t9).trips), ∀ a, (k1_off75 v21 v23 k1_t9 k1_t12) a + S1x1x16.size a ≤ S4x8x128.size a := fun k1_t1 v21 v23 k1_hw2 k1_t9 k1_t12 => k1_hw2.2.2.1.2.2.2.2.2.2.2.2.2.2.2.2.2.2.2.2.2.2.1 k1_t9 k1_t12
theorem k1_off76_inb : ∀ (k1_t1 : Fin k1_t1_loop.trips) (v21 : BitVec 32) (v23 : BitVec 32) (k1_hw2 : k1_chk2 k1_t1 v21 v23) (k1_t9 : Fin (k1_t9_loop v21 v23).trips) (k1_t12 : Fin (k1_t12_loop v21 v23 k1_t9).trips), ∀ a, (k1_off76 v21 v23 k1_t9 k1_t12) a + S1x1x16.size a ≤ S4x8x128.size a := fun k1_t1 v21 v23 k1_hw2 k1_t9 k1_t12 => k1_hw2.2.2.1.2.2.2.2.2.2.2.2.2.2.2.2.2.2.2.2.2.2.2.1 k1_t9 k1_t12
theorem k1_t13_ok : ∀ (k1_t1 : Fin k1_t1_loop.trips) (v21 : BitVec 32) (v23 : BitVec 32) (k1_hw2 : k1_chk2 k1_t1 v21 v23) (k1_t9 : Fin (k1_t9_loop v21 v23).trips), (k1_t13_loop v21 v23 k1_t9).OK := fun k1_t1 v21 v23 k1_hw2 k1_t9 => k1_hw2.2.2.1.2.2.2.2.2.2.2.2.2.2.2.2.2.2.2.2.2.2.2.2.1 k1_t9
theorem k1_off77_inb : ∀ (k1_t1 : Fin k1_t1_loop.trips) (v21 : BitVec 32) (v23 : BitVec 32) (k1_hw2 : k1_chk2 k1_t1 v21 v23) (k1_t9 : Fin (k1_t9_loop v21 v23).trips) (k1_t13 : Fin (k1_t13_loop v21 v23 k1_t9).trips), ∀ a, (k1_off77 v21 v23 k1_t9 k1_t13) a + S1x1x16.size a ≤ S4x8x128.size a := fun k1_t1 v21 v23 k1_hw2 k1_t9 k1_t13 => k1_hw2.2.2.1.2.2.2.2.2.2.2.2.2.2.2.2.2.2.2.2.2.2.2.2.2.1 k1_t9 k1_t13
theorem k1_off78_inb : ∀ (k1_t1 : Fin k1_t1_loop.trips) (v21 : BitVec 32) (v23 : BitVec 32) (k1_hw2 : k1_chk2 k1_t1 v21 v23) (k1_t9 : Fin (k1_t9_loop v21 v23).trips) (k1_t13 : Fin (k1_t13_loop v21 v23 k1_t9).trips), ∀ a, (k1_off78 v21 v23 k1_t9 k1_t13) a + S1x1x16.size a ≤ S4x8x128.size a := fun k1_t1 v21 v23 k1_hw2 k1_t9 k1_t13 => k1_hw2.2.2.1.2.2.2.2.2.2.2.2.2.2.2.2.2.2.2.2.2.2.2.2.2.2.1 k1_t9 k1_t13
theorem k1_off79_inb : ∀ (k1_t1 : Fin k1_t1_loop.trips) (v21 : BitVec 32) (v23 : BitVec 32) (k1_hw2 : k1_chk2 k1_t1 v21 v23) (k1_t9 : Fin (k1_t9_loop v21 v23).trips) (k1_t13 : Fin (k1_t13_loop v21 v23 k1_t9).trips), ∀ a, (k1_off79 v21 v23 k1_t9 k1_t13) a + S1x1x16.size a ≤ S4x8x128.size a := fun k1_t1 v21 v23 k1_hw2 k1_t9 k1_t13 => k1_hw2.2.2.1.2.2.2.2.2.2.2.2.2.2.2.2.2.2.2.2.2.2.2.2.2.2.2.1 k1_t9 k1_t13
theorem k1_off80_inb : ∀ (k1_t1 : Fin k1_t1_loop.trips) (v21 : BitVec 32) (v23 : BitVec 32) (k1_hw2 : k1_chk2 k1_t1 v21 v23) (k1_t9 : Fin (k1_t9_loop v21 v23).trips) (k1_t13 : Fin (k1_t13_loop v21 v23 k1_t9).trips), ∀ a, (k1_off80 v21 v23 k1_t9 k1_t13) a + S1x1x16.size a ≤ S4x8x128.size a := fun k1_t1 v21 v23 k1_hw2 k1_t9 k1_t13 => k1_hw2.2.2.1.2.2.2.2.2.2.2.2.2.2.2.2.2.2.2.2.2.2.2.2.2.2.2.2.1 k1_t9 k1_t13
theorem k1_off81_inb : ∀ (k1_t1 : Fin k1_t1_loop.trips) (v21 : BitVec 32) (v23 : BitVec 32) (k1_hw2 : k1_chk2 k1_t1 v21 v23) (k1_t9 : Fin (k1_t9_loop v21 v23).trips) (k1_t13 : Fin (k1_t13_loop v21 v23 k1_t9).trips), ∀ a, (k1_off81 v21 v23 k1_t9 k1_t13) a + S1x1x16.size a ≤ S4x8x128.size a := fun k1_t1 v21 v23 k1_hw2 k1_t9 k1_t13 => k1_hw2.2.2.1.2.2.2.2.2.2.2.2.2.2.2.2.2.2.2.2.2.2.2.2.2.2.2.2.2.1 k1_t9 k1_t13
theorem k1_off82_inb : ∀ (k1_t1 : Fin k1_t1_loop.trips) (v21 : BitVec 32) (v23 : BitVec 32) (k1_hw2 : k1_chk2 k1_t1 v21 v23) (k1_t9 : Fin (k1_t9_loop v21 v23).trips) (k1_t13 : Fin (k1_t13_loop v21 v23 k1_t9).trips), ∀ a, (k1_off82 v21 v23 k1_t9 k1_t13) a + S1x1x16.size a ≤ S4x8x128.size a := fun k1_t1 v21 v23 k1_hw2 k1_t9 k1_t13 => k1_hw2.2.2.1.2.2.2.2.2.2.2.2.2.2.2.2.2.2.2.2.2.2.2.2.2.2.2.2.2.2.1 k1_t9 k1_t13
theorem k1_off83_inb : ∀ (k1_t1 : Fin k1_t1_loop.trips) (v21 : BitVec 32) (v23 : BitVec 32) (k1_hw2 : k1_chk2 k1_t1 v21 v23) (k1_t9 : Fin (k1_t9_loop v21 v23).trips) (k1_t13 : Fin (k1_t13_loop v21 v23 k1_t9).trips), ∀ a, (k1_off83 v21 v23 k1_t9 k1_t13) a + S1x1x16.size a ≤ S4x8x128.size a := fun k1_t1 v21 v23 k1_hw2 k1_t9 k1_t13 => k1_hw2.2.2.1.2.2.2.2.2.2.2.2.2.2.2.2.2.2.2.2.2.2.2.2.2.2.2.2.2.2.2.1 k1_t9 k1_t13
theorem k1_off84_inb : ∀ (k1_t1 : Fin k1_t1_loop.trips) (v21 : BitVec 32) (v23 : BitVec 32) (k1_hw2 : k1_chk2 k1_t1 v21 v23) (k1_t9 : Fin (k1_t9_loop v21 v23).trips) (k1_t13 : Fin (k1_t13_loop v21 v23 k1_t9).trips), ∀ a, (k1_off84 v21 v23 k1_t9 k1_t13) a + S1x1x16.size a ≤ S4x8x128.size a := fun k1_t1 v21 v23 k1_hw2 k1_t9 k1_t13 => k1_hw2.2.2.1.2.2.2.2.2.2.2.2.2.2.2.2.2.2.2.2.2.2.2.2.2.2.2.2.2.2.2.2.1 k1_t9 k1_t13
theorem k1_t14_ok : ∀ (k1_t1 : Fin k1_t1_loop.trips) (v21 : BitVec 32) (v23 : BitVec 32) (k1_hw2 : k1_chk2 k1_t1 v21 v23) (k1_t9 : Fin (k1_t9_loop v21 v23).trips), (k1_t14_loop v21 v23 k1_t9).OK := fun k1_t1 v21 v23 k1_hw2 k1_t9 => k1_hw2.2.2.1.2.2.2.2.2.2.2.2.2.2.2.2.2.2.2.2.2.2.2.2.2.2.2.2.2.2.2.2.2.1 k1_t9
theorem k1_off85_inb : ∀ (k1_t1 : Fin k1_t1_loop.trips) (v21 : BitVec 32) (v23 : BitVec 32) (k1_hw2 : k1_chk2 k1_t1 v21 v23) (k1_t9 : Fin (k1_t9_loop v21 v23).trips) (k1_t14 : Fin (k1_t14_loop v21 v23 k1_t9).trips), ∀ a, (k1_off85 v21 v23 k1_t9 k1_t14) a + S1x1x16.size a ≤ S4x8x128.size a := fun k1_t1 v21 v23 k1_hw2 k1_t9 k1_t14 => k1_hw2.2.2.1.2.2.2.2.2.2.2.2.2.2.2.2.2.2.2.2.2.2.2.2.2.2.2.2.2.2.2.2.2.2.1 k1_t9 k1_t14
theorem k1_off86_inb : ∀ (k1_t1 : Fin k1_t1_loop.trips) (v21 : BitVec 32) (v23 : BitVec 32) (k1_hw2 : k1_chk2 k1_t1 v21 v23) (k1_t9 : Fin (k1_t9_loop v21 v23).trips) (k1_t14 : Fin (k1_t14_loop v21 v23 k1_t9).trips), ∀ a, (k1_off86 v21 v23 k1_t9 k1_t14) a + S1x1x16.size a ≤ S4x8x128.size a := fun k1_t1 v21 v23 k1_hw2 k1_t9 k1_t14 => k1_hw2.2.2.1.2.2.2.2.2.2.2.2.2.2.2.2.2.2.2.2.2.2.2.2.2.2.2.2.2.2.2.2.2.2.2 k1_t9 k1_t14
theorem k1_off87_inb : ∀ (k1_t1 : Fin k1_t1_loop.trips) (v21 : BitVec 32) (v23 : BitVec 32) (k1_hw2 : k1_chk2 k1_t1 v21 v23) (k1_t9 : Fin (k1_t9_loop v21 v23).trips) (k1_t14 : Fin (k1_t14_loop v21 v23 k1_t9).trips), ∀ a, (k1_off87 v21 v23 k1_t9 k1_t14) a + S1x1x16.size a ≤ S4x8x128.size a := fun k1_t1 v21 v23 k1_hw2 k1_t9 k1_t14 => k1_hw2.2.2.2.1.1 k1_t9 k1_t14
theorem k1_off88_inb : ∀ (k1_t1 : Fin k1_t1_loop.trips) (v21 : BitVec 32) (v23 : BitVec 32) (k1_hw2 : k1_chk2 k1_t1 v21 v23) (k1_t9 : Fin (k1_t9_loop v21 v23).trips) (k1_t14 : Fin (k1_t14_loop v21 v23 k1_t9).trips), ∀ a, (k1_off88 v21 v23 k1_t9 k1_t14) a + S1x1x16.size a ≤ S4x8x128.size a := fun k1_t1 v21 v23 k1_hw2 k1_t9 k1_t14 => k1_hw2.2.2.2.1.2.1 k1_t9 k1_t14
theorem k1_off89_inb : ∀ (k1_t1 : Fin k1_t1_loop.trips) (v21 : BitVec 32) (v23 : BitVec 32) (k1_hw2 : k1_chk2 k1_t1 v21 v23) (k1_t9 : Fin (k1_t9_loop v21 v23).trips) (k1_t14 : Fin (k1_t14_loop v21 v23 k1_t9).trips), ∀ a, (k1_off89 v21 v23 k1_t9 k1_t14) a + S1x1x16.size a ≤ S4x8x128.size a := fun k1_t1 v21 v23 k1_hw2 k1_t9 k1_t14 => k1_hw2.2.2.2.1.2.2.1 k1_t9 k1_t14
theorem k1_off90_inb : ∀ (k1_t1 : Fin k1_t1_loop.trips) (v21 : BitVec 32) (v23 : BitVec 32) (k1_hw2 : k1_chk2 k1_t1 v21 v23) (k1_t9 : Fin (k1_t9_loop v21 v23).trips) (k1_t14 : Fin (k1_t14_loop v21 v23 k1_t9).trips), ∀ a, (k1_off90 v21 v23 k1_t9 k1_t14) a + S1x1x16.size a ≤ S4x8x128.size a := fun k1_t1 v21 v23 k1_hw2 k1_t9 k1_t14 => k1_hw2.2.2.2.1.2.2.2.1 k1_t9 k1_t14
theorem k1_off91_inb : ∀ (k1_t1 : Fin k1_t1_loop.trips) (v21 : BitVec 32) (v23 : BitVec 32) (k1_hw2 : k1_chk2 k1_t1 v21 v23) (k1_t9 : Fin (k1_t9_loop v21 v23).trips) (k1_t14 : Fin (k1_t14_loop v21 v23 k1_t9).trips), ∀ a, (k1_off91 v21 v23 k1_t9 k1_t14) a + S1x1x16.size a ≤ S4x8x128.size a := fun k1_t1 v21 v23 k1_hw2 k1_t9 k1_t14 => k1_hw2.2.2.2.1.2.2.2.2.1 k1_t9 k1_t14
theorem k1_off92_inb : ∀ (k1_t1 : Fin k1_t1_loop.trips) (v21 : BitVec 32) (v23 : BitVec 32) (k1_hw2 : k1_chk2 k1_t1 v21 v23) (k1_t9 : Fin (k1_t9_loop v21 v23).trips) (k1_t14 : Fin (k1_t14_loop v21 v23 k1_t9).trips), ∀ a, (k1_off92 v21 v23 k1_t9 k1_t14) a + S1x1x16.size a ≤ S4x8x128.size a := fun k1_t1 v21 v23 k1_hw2 k1_t9 k1_t14 => k1_hw2.2.2.2.1.2.2.2.2.2.1 k1_t9 k1_t14
theorem k1_t15_ok : ∀ (k1_t1 : Fin k1_t1_loop.trips) (v21 : BitVec 32) (v23 : BitVec 32) (k1_hw2 : k1_chk2 k1_t1 v21 v23) (k1_t9 : Fin (k1_t9_loop v21 v23).trips), (k1_t15_loop v21 v23 k1_t9).OK := fun k1_t1 v21 v23 k1_hw2 k1_t9 => k1_hw2.2.2.2.1.2.2.2.2.2.2.1 k1_t9
theorem k1_off93_inb : ∀ (k1_t1 : Fin k1_t1_loop.trips) (v21 : BitVec 32) (v23 : BitVec 32) (k1_hw2 : k1_chk2 k1_t1 v21 v23) (k1_t9 : Fin (k1_t9_loop v21 v23).trips) (k1_t15 : Fin (k1_t15_loop v21 v23 k1_t9).trips), ∀ a, (k1_off93 v21 v23 k1_t9 k1_t15) a + S1x1x16.size a ≤ S4x8x128.size a := fun k1_t1 v21 v23 k1_hw2 k1_t9 k1_t15 => k1_hw2.2.2.2.1.2.2.2.2.2.2.2.1 k1_t9 k1_t15
theorem k1_off94_inb : ∀ (k1_t1 : Fin k1_t1_loop.trips) (v21 : BitVec 32) (v23 : BitVec 32) (k1_hw2 : k1_chk2 k1_t1 v21 v23) (k1_t9 : Fin (k1_t9_loop v21 v23).trips) (k1_t15 : Fin (k1_t15_loop v21 v23 k1_t9).trips), ∀ a, (k1_off94 v21 v23 k1_t9 k1_t15) a + S1x1x16.size a ≤ S4x8x128.size a := fun k1_t1 v21 v23 k1_hw2 k1_t9 k1_t15 => k1_hw2.2.2.2.1.2.2.2.2.2.2.2.2.1 k1_t9 k1_t15
theorem k1_off95_inb : ∀ (k1_t1 : Fin k1_t1_loop.trips) (v21 : BitVec 32) (v23 : BitVec 32) (k1_hw2 : k1_chk2 k1_t1 v21 v23) (k1_t9 : Fin (k1_t9_loop v21 v23).trips) (k1_t15 : Fin (k1_t15_loop v21 v23 k1_t9).trips), ∀ a, (k1_off95 v21 v23 k1_t9 k1_t15) a + S1x1x16.size a ≤ S4x8x128.size a := fun k1_t1 v21 v23 k1_hw2 k1_t9 k1_t15 => k1_hw2.2.2.2.1.2.2.2.2.2.2.2.2.2.1 k1_t9 k1_t15
theorem k1_off96_inb : ∀ (k1_t1 : Fin k1_t1_loop.trips) (v21 : BitVec 32) (v23 : BitVec 32) (k1_hw2 : k1_chk2 k1_t1 v21 v23) (k1_t9 : Fin (k1_t9_loop v21 v23).trips) (k1_t15 : Fin (k1_t15_loop v21 v23 k1_t9).trips), ∀ a, (k1_off96 v21 v23 k1_t9 k1_t15) a + S1x1x16.size a ≤ S4x8x128.size a := fun k1_t1 v21 v23 k1_hw2 k1_t9 k1_t15 => k1_hw2.2.2.2.1.2.2.2.2.2.2.2.2.2.2.1 k1_t9 k1_t15
theorem k1_off97_inb : ∀ (k1_t1 : Fin k1_t1_loop.trips) (v21 : BitVec 32) (v23 : BitVec 32) (k1_hw2 : k1_chk2 k1_t1 v21 v23) (k1_t9 : Fin (k1_t9_loop v21 v23).trips) (k1_t15 : Fin (k1_t15_loop v21 v23 k1_t9).trips), ∀ a, (k1_off97 v21 v23 k1_t9 k1_t15) a + S1x1x16.size a ≤ S4x8x128.size a := fun k1_t1 v21 v23 k1_hw2 k1_t9 k1_t15 => k1_hw2.2.2.2.1.2.2.2.2.2.2.2.2.2.2.2.1 k1_t9 k1_t15
theorem k1_off98_inb : ∀ (k1_t1 : Fin k1_t1_loop.trips) (v21 : BitVec 32) (v23 : BitVec 32) (k1_hw2 : k1_chk2 k1_t1 v21 v23) (k1_t9 : Fin (k1_t9_loop v21 v23).trips) (k1_t15 : Fin (k1_t15_loop v21 v23 k1_t9).trips), ∀ a, (k1_off98 v21 v23 k1_t9 k1_t15) a + S1x1x16.size a ≤ S4x8x128.size a := fun k1_t1 v21 v23 k1_hw2 k1_t9 k1_t15 => k1_hw2.2.2.2.1.2.2.2.2.2.2.2.2.2.2.2.2.1 k1_t9 k1_t15
theorem k1_off99_inb : ∀ (k1_t1 : Fin k1_t1_loop.trips) (v21 : BitVec 32) (v23 : BitVec 32) (k1_hw2 : k1_chk2 k1_t1 v21 v23) (k1_t9 : Fin (k1_t9_loop v21 v23).trips) (k1_t15 : Fin (k1_t15_loop v21 v23 k1_t9).trips), ∀ a, (k1_off99 v21 v23 k1_t9 k1_t15) a + S1x1x16.size a ≤ S4x8x128.size a := fun k1_t1 v21 v23 k1_hw2 k1_t9 k1_t15 => k1_hw2.2.2.2.1.2.2.2.2.2.2.2.2.2.2.2.2.2.1 k1_t9 k1_t15
theorem k1_off100_inb : ∀ (k1_t1 : Fin k1_t1_loop.trips) (v21 : BitVec 32) (v23 : BitVec 32) (k1_hw2 : k1_chk2 k1_t1 v21 v23) (k1_t9 : Fin (k1_t9_loop v21 v23).trips) (k1_t15 : Fin (k1_t15_loop v21 v23 k1_t9).trips), ∀ a, (k1_off100 v21 v23 k1_t9 k1_t15) a + S1x1x16.size a ≤ S4x8x128.size a := fun k1_t1 v21 v23 k1_hw2 k1_t9 k1_t15 => k1_hw2.2.2.2.1.2.2.2.2.2.2.2.2.2.2.2.2.2.2.1 k1_t9 k1_t15
theorem k1_t16_ok : ∀ (k1_t1 : Fin k1_t1_loop.trips) (v21 : BitVec 32) (v23 : BitVec 32) (k1_hw2 : k1_chk2 k1_t1 v21 v23), (k1_t16_loop v21 v23).OK := fun k1_t1 v21 v23 k1_hw2 => k1_hw2.2.2.2.1.2.2.2.2.2.2.2.2.2.2.2.2.2.2.2.1
theorem k1_off101_inb : ∀ (k1_t1 : Fin k1_t1_loop.trips) (v21 : BitVec 32) (v23 : BitVec 32) (k1_hw2 : k1_chk2 k1_t1 v21 v23) (k1_t16 : Fin (k1_t16_loop v21 v23).trips), ∀ a, (k1_off101 v21 v23 k1_t16) a + S4x8x128.size a ≤ S2550x8x128.size a := fun k1_t1 v21 v23 k1_hw2 k1_t16 => k1_hw2.2.2.2.1.2.2.2.2.2.2.2.2.2.2.2.2.2.2.2.2.1 k1_t16
theorem k1_t17_ok : ∀ (k1_t1 : Fin k1_t1_loop.trips) (v21 : BitVec 32) (v23 : BitVec 32) (k1_hw2 : k1_chk2 k1_t1 v21 v23) (k1_t16 : Fin (k1_t16_loop v21 v23).trips), (k1_t17_loop v21 v23 k1_t16).OK := fun k1_t1 v21 v23 k1_hw2 k1_t16 => k1_hw2.2.2.2.1.2.2.2.2.2.2.2.2.2.2.2.2.2.2.2.2.2.1 k1_t16
theorem k1_t18_ok : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips), (k1_t18_loop v21 v23 k1_t16 k1_t17).OK := fun k1_t1 v21 v23 k1_hw2 k1_t16 k1_t17 => k1_hw2.2.2.2.1.2.2.2.2.2.2.2.2.2.2.2.2.2.2.2.2.2.2.1 k1_t16 k1_t17
theorem k1_off102_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t18 : Fin (k1_t18_loop v21 v23 k1_t16 k1_t17).trips), ∀ a, (k1_off102 v21 v23 k1_t16 k1_t17 k1_t18) a + S1x1x16.size a ≤ S4x8x128.size a := fun k1_t1 v21 v23 k1_hw2 k1_t16 k1_t17 k1_t18 => k1_hw2.2.2.2.1.2.2.2.2.2.2.2.2.2.2.2.2.2.2.2.2.2.2.2.1 k1_t16 k1_t17 k1_t18
theorem k1_off103_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t18 : Fin (k1_t18_loop v21 v23 k1_t16 k1_t17).trips), ∀ a, (k1_off103 v21 v23 k1_t16 k1_t17 k1_t18) a + S1x1x16.size a ≤ S4x8x128.size a := fun k1_t1 v21 v23 k1_hw2 k1_t16 k1_t17 k1_t18 => k1_hw2.2.2.2.1.2.2.2.2.2.2.2.2.2.2.2.2.2.2.2.2.2.2.2.2.1 k1_t16 k1_t17 k1_t18
theorem k1_off104_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t18 : Fin (k1_t18_loop v21 v23 k1_t16 k1_t17).trips), ∀ a, (k1_off104 v21 v23 k1_t16 k1_t17 k1_t18) a + S1x1x16.size a ≤ S4x8x128.size a := fun k1_t1 v21 v23 k1_hw2 k1_t16 k1_t17 k1_t18 => k1_hw2.2.2.2.1.2.2.2.2.2.2.2.2.2.2.2.2.2.2.2.2.2.2.2.2.2.1 k1_t16 k1_t17 k1_t18
theorem k1_off105_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t18 : Fin (k1_t18_loop v21 v23 k1_t16 k1_t17).trips), ∀ a, (k1_off105 v21 v23 k1_t16 k1_t17 k1_t18) a + S1x1x16.size a ≤ S4x8x128.size a := fun k1_t1 v21 v23 k1_hw2 k1_t16 k1_t17 k1_t18 => k1_hw2.2.2.2.1.2.2.2.2.2.2.2.2.2.2.2.2.2.2.2.2.2.2.2.2.2.2.1 k1_t16 k1_t17 k1_t18
theorem k1_off106_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t18 : Fin (k1_t18_loop v21 v23 k1_t16 k1_t17).trips), ∀ a, (k1_off106 v21 v23 k1_t16 k1_t17 k1_t18) a + S1x1x16.size a ≤ S4x8x128.size a := fun k1_t1 v21 v23 k1_hw2 k1_t16 k1_t17 k1_t18 => k1_hw2.2.2.2.1.2.2.2.2.2.2.2.2.2.2.2.2.2.2.2.2.2.2.2.2.2.2.2.1 k1_t16 k1_t17 k1_t18
theorem k1_off107_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t18 : Fin (k1_t18_loop v21 v23 k1_t16 k1_t17).trips), ∀ a, (k1_off107 v21 v23 k1_t16 k1_t17 k1_t18) a + S1x1x16.size a ≤ S4x8x128.size a := fun k1_t1 v21 v23 k1_hw2 k1_t16 k1_t17 k1_t18 => k1_hw2.2.2.2.1.2.2.2.2.2.2.2.2.2.2.2.2.2.2.2.2.2.2.2.2.2.2.2.2.1 k1_t16 k1_t17 k1_t18
theorem k1_off108_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t18 : Fin (k1_t18_loop v21 v23 k1_t16 k1_t17).trips), ∀ a, (k1_off108 v21 v23 k1_t16 k1_t17 k1_t18) a + S1x1x16.size a ≤ S4x8x128.size a := fun k1_t1 v21 v23 k1_hw2 k1_t16 k1_t17 k1_t18 => k1_hw2.2.2.2.1.2.2.2.2.2.2.2.2.2.2.2.2.2.2.2.2.2.2.2.2.2.2.2.2.2.1 k1_t16 k1_t17 k1_t18
theorem k1_off109_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t18 : Fin (k1_t18_loop v21 v23 k1_t16 k1_t17).trips), ∀ a, (k1_off109 v21 v23 k1_t16 k1_t17 k1_t18) a + S1x1x16.size a ≤ S4x8x128.size a := fun k1_t1 v21 v23 k1_hw2 k1_t16 k1_t17 k1_t18 => k1_hw2.2.2.2.1.2.2.2.2.2.2.2.2.2.2.2.2.2.2.2.2.2.2.2.2.2.2.2.2.2.2.1 k1_t16 k1_t17 k1_t18
theorem k1_t19_ok : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips), (k1_t19_loop v21 v23 k1_t16 k1_t17).OK := fun k1_t1 v21 v23 k1_hw2 k1_t16 k1_t17 => k1_hw2.2.2.2.1.2.2.2.2.2.2.2.2.2.2.2.2.2.2.2.2.2.2.2.2.2.2.2.2.2.2.2.1 k1_t16 k1_t17
theorem k1_off110_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t19 : Fin (k1_t19_loop v21 v23 k1_t16 k1_t17).trips), ∀ a, (k1_off110 v21 v23 k1_t16 k1_t17 k1_t19) a + S1x1x16.size a ≤ S4x8x128.size a := fun k1_t1 v21 v23 k1_hw2 k1_t16 k1_t17 k1_t19 => k1_hw2.2.2.2.1.2.2.2.2.2.2.2.2.2.2.2.2.2.2.2.2.2.2.2.2.2.2.2.2.2.2.2.2.1 k1_t16 k1_t17 k1_t19
theorem k1_off111_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t19 : Fin (k1_t19_loop v21 v23 k1_t16 k1_t17).trips), ∀ a, (k1_off111 v21 v23 k1_t16 k1_t17 k1_t19) a + S1x1x16.size a ≤ S4x8x128.size a := fun k1_t1 v21 v23 k1_hw2 k1_t16 k1_t17 k1_t19 => k1_hw2.2.2.2.1.2.2.2.2.2.2.2.2.2.2.2.2.2.2.2.2.2.2.2.2.2.2.2.2.2.2.2.2.2.1 k1_t16 k1_t17 k1_t19
theorem k1_off112_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t19 : Fin (k1_t19_loop v21 v23 k1_t16 k1_t17).trips), ∀ a, (k1_off112 v21 v23 k1_t16 k1_t17 k1_t19) a + S1x1x16.size a ≤ S4x8x128.size a := fun k1_t1 v21 v23 k1_hw2 k1_t16 k1_t17 k1_t19 => k1_hw2.2.2.2.1.2.2.2.2.2.2.2.2.2.2.2.2.2.2.2.2.2.2.2.2.2.2.2.2.2.2.2.2.2.2.1 k1_t16 k1_t17 k1_t19
theorem k1_off113_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t19 : Fin (k1_t19_loop v21 v23 k1_t16 k1_t17).trips), ∀ a, (k1_off113 v21 v23 k1_t16 k1_t17 k1_t19) a + S1x1x16.size a ≤ S4x8x128.size a := fun k1_t1 v21 v23 k1_hw2 k1_t16 k1_t17 k1_t19 => k1_hw2.2.2.2.1.2.2.2.2.2.2.2.2.2.2.2.2.2.2.2.2.2.2.2.2.2.2.2.2.2.2.2.2.2.2.2 k1_t16 k1_t17 k1_t19
theorem k1_off114_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t19 : Fin (k1_t19_loop v21 v23 k1_t16 k1_t17).trips), ∀ a, (k1_off114 v21 v23 k1_t16 k1_t17 k1_t19) a + S1x1x16.size a ≤ S4x8x128.size a := fun k1_t1 v21 v23 k1_hw2 k1_t16 k1_t17 k1_t19 => k1_hw2.2.2.2.2.1.1 k1_t16 k1_t17 k1_t19
theorem k1_off115_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t19 : Fin (k1_t19_loop v21 v23 k1_t16 k1_t17).trips), ∀ a, (k1_off115 v21 v23 k1_t16 k1_t17 k1_t19) a + S1x1x16.size a ≤ S4x8x128.size a := fun k1_t1 v21 v23 k1_hw2 k1_t16 k1_t17 k1_t19 => k1_hw2.2.2.2.2.1.2.1 k1_t16 k1_t17 k1_t19
theorem k1_off116_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t19 : Fin (k1_t19_loop v21 v23 k1_t16 k1_t17).trips), ∀ a, (k1_off116 v21 v23 k1_t16 k1_t17 k1_t19) a + S1x1x16.size a ≤ S4x8x128.size a := fun k1_t1 v21 v23 k1_hw2 k1_t16 k1_t17 k1_t19 => k1_hw2.2.2.2.2.1.2.2.1 k1_t16 k1_t17 k1_t19
theorem k1_off117_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t19 : Fin (k1_t19_loop v21 v23 k1_t16 k1_t17).trips), ∀ a, (k1_off117 v21 v23 k1_t16 k1_t17 k1_t19) a + S1x1x16.size a ≤ S4x8x128.size a := fun k1_t1 v21 v23 k1_hw2 k1_t16 k1_t17 k1_t19 => k1_hw2.2.2.2.2.1.2.2.2.1 k1_t16 k1_t17 k1_t19
theorem k1_t20_ok : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips), (k1_t20_loop v21 v23 k1_t16 k1_t17).OK := fun k1_t1 v21 v23 k1_hw2 k1_t16 k1_t17 => k1_hw2.2.2.2.2.1.2.2.2.2.1 k1_t16 k1_t17
theorem k1_off118_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t20 : Fin (k1_t20_loop v21 v23 k1_t16 k1_t17).trips), ∀ a, (k1_off118 v21 v23 k1_t16 k1_t17 k1_t20) a + S1x1x16.size a ≤ S4x8x128.size a := fun k1_t1 v21 v23 k1_hw2 k1_t16 k1_t17 k1_t20 => k1_hw2.2.2.2.2.1.2.2.2.2.2.1 k1_t16 k1_t17 k1_t20
theorem k1_off119_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t20 : Fin (k1_t20_loop v21 v23 k1_t16 k1_t17).trips), ∀ a, (k1_off119 v21 v23 k1_t16 k1_t17 k1_t20) a + S1x1x16.size a ≤ S4x8x128.size a := fun k1_t1 v21 v23 k1_hw2 k1_t16 k1_t17 k1_t20 => k1_hw2.2.2.2.2.1.2.2.2.2.2.2.1 k1_t16 k1_t17 k1_t20
theorem k1_off120_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t20 : Fin (k1_t20_loop v21 v23 k1_t16 k1_t17).trips), ∀ a, (k1_off120 v21 v23 k1_t16 k1_t17 k1_t20) a + S1x1x16.size a ≤ S4x8x128.size a := fun k1_t1 v21 v23 k1_hw2 k1_t16 k1_t17 k1_t20 => k1_hw2.2.2.2.2.1.2.2.2.2.2.2.2.1 k1_t16 k1_t17 k1_t20
theorem k1_off121_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t20 : Fin (k1_t20_loop v21 v23 k1_t16 k1_t17).trips), ∀ a, (k1_off121 v21 v23 k1_t16 k1_t17 k1_t20) a + S1x1x16.size a ≤ S4x8x128.size a := fun k1_t1 v21 v23 k1_hw2 k1_t16 k1_t17 k1_t20 => k1_hw2.2.2.2.2.1.2.2.2.2.2.2.2.2.1 k1_t16 k1_t17 k1_t20
theorem k1_off122_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t20 : Fin (k1_t20_loop v21 v23 k1_t16 k1_t17).trips), ∀ a, (k1_off122 v21 v23 k1_t16 k1_t17 k1_t20) a + S1x1x16.size a ≤ S4x8x128.size a := fun k1_t1 v21 v23 k1_hw2 k1_t16 k1_t17 k1_t20 => k1_hw2.2.2.2.2.1.2.2.2.2.2.2.2.2.2.1 k1_t16 k1_t17 k1_t20
theorem k1_off123_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t20 : Fin (k1_t20_loop v21 v23 k1_t16 k1_t17).trips), ∀ a, (k1_off123 v21 v23 k1_t16 k1_t17 k1_t20) a + S1x1x16.size a ≤ S4x8x128.size a := fun k1_t1 v21 v23 k1_hw2 k1_t16 k1_t17 k1_t20 => k1_hw2.2.2.2.2.1.2.2.2.2.2.2.2.2.2.2.1 k1_t16 k1_t17 k1_t20
theorem k1_off124_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t20 : Fin (k1_t20_loop v21 v23 k1_t16 k1_t17).trips), ∀ a, (k1_off124 v21 v23 k1_t16 k1_t17 k1_t20) a + S1x1x16.size a ≤ S4x8x128.size a := fun k1_t1 v21 v23 k1_hw2 k1_t16 k1_t17 k1_t20 => k1_hw2.2.2.2.2.1.2.2.2.2.2.2.2.2.2.2.2.1 k1_t16 k1_t17 k1_t20
theorem k1_off125_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t20 : Fin (k1_t20_loop v21 v23 k1_t16 k1_t17).trips), ∀ a, (k1_off125 v21 v23 k1_t16 k1_t17 k1_t20) a + S1x1x16.size a ≤ S4x8x128.size a := fun k1_t1 v21 v23 k1_hw2 k1_t16 k1_t17 k1_t20 => k1_hw2.2.2.2.2.1.2.2.2.2.2.2.2.2.2.2.2.2.1 k1_t16 k1_t17 k1_t20
theorem k1_t21_ok : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips), (k1_t21_loop v21 v23 k1_t16 k1_t17).OK := fun k1_t1 v21 v23 k1_hw2 k1_t16 k1_t17 => k1_hw2.2.2.2.2.1.2.2.2.2.2.2.2.2.2.2.2.2.2.1 k1_t16 k1_t17
theorem k1_off126_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t21 : Fin (k1_t21_loop v21 v23 k1_t16 k1_t17).trips), ∀ a, (k1_off126 v21 v23 k1_t16 k1_t17 k1_t21) a + S1x1x16.size a ≤ S4x8x128.size a := fun k1_t1 v21 v23 k1_hw2 k1_t16 k1_t17 k1_t21 => k1_hw2.2.2.2.2.1.2.2.2.2.2.2.2.2.2.2.2.2.2.2.1 k1_t16 k1_t17 k1_t21
theorem k1_off127_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t21 : Fin (k1_t21_loop v21 v23 k1_t16 k1_t17).trips), ∀ a, (k1_off127 v21 v23 k1_t16 k1_t17 k1_t21) a + S1x1x16.size a ≤ S4x8x128.size a := fun k1_t1 v21 v23 k1_hw2 k1_t16 k1_t17 k1_t21 => k1_hw2.2.2.2.2.1.2.2.2.2.2.2.2.2.2.2.2.2.2.2.2.1 k1_t16 k1_t17 k1_t21
theorem k1_off128_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t21 : Fin (k1_t21_loop v21 v23 k1_t16 k1_t17).trips), ∀ a, (k1_off128 v21 v23 k1_t16 k1_t17 k1_t21) a + S1x1x16.size a ≤ S4x8x128.size a := fun k1_t1 v21 v23 k1_hw2 k1_t16 k1_t17 k1_t21 => k1_hw2.2.2.2.2.1.2.2.2.2.2.2.2.2.2.2.2.2.2.2.2.2.1 k1_t16 k1_t17 k1_t21
theorem k1_off129_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t21 : Fin (k1_t21_loop v21 v23 k1_t16 k1_t17).trips), ∀ a, (k1_off129 v21 v23 k1_t16 k1_t17 k1_t21) a + S1x1x16.size a ≤ S4x8x128.size a := fun k1_t1 v21 v23 k1_hw2 k1_t16 k1_t17 k1_t21 => k1_hw2.2.2.2.2.1.2.2.2.2.2.2.2.2.2.2.2.2.2.2.2.2.2.1 k1_t16 k1_t17 k1_t21
theorem k1_off130_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t21 : Fin (k1_t21_loop v21 v23 k1_t16 k1_t17).trips), ∀ a, (k1_off130 v21 v23 k1_t16 k1_t17 k1_t21) a + S1x1x16.size a ≤ S4x8x128.size a := fun k1_t1 v21 v23 k1_hw2 k1_t16 k1_t17 k1_t21 => k1_hw2.2.2.2.2.1.2.2.2.2.2.2.2.2.2.2.2.2.2.2.2.2.2.2.1 k1_t16 k1_t17 k1_t21
theorem k1_off131_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t21 : Fin (k1_t21_loop v21 v23 k1_t16 k1_t17).trips), ∀ a, (k1_off131 v21 v23 k1_t16 k1_t17 k1_t21) a + S1x1x16.size a ≤ S4x8x128.size a := fun k1_t1 v21 v23 k1_hw2 k1_t16 k1_t17 k1_t21 => k1_hw2.2.2.2.2.1.2.2.2.2.2.2.2.2.2.2.2.2.2.2.2.2.2.2.2.1 k1_t16 k1_t17 k1_t21
theorem k1_off132_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t21 : Fin (k1_t21_loop v21 v23 k1_t16 k1_t17).trips), ∀ a, (k1_off132 v21 v23 k1_t16 k1_t17 k1_t21) a + S1x1x16.size a ≤ S4x8x128.size a := fun k1_t1 v21 v23 k1_hw2 k1_t16 k1_t17 k1_t21 => k1_hw2.2.2.2.2.1.2.2.2.2.2.2.2.2.2.2.2.2.2.2.2.2.2.2.2.2.1 k1_t16 k1_t17 k1_t21
theorem k1_off133_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t21 : Fin (k1_t21_loop v21 v23 k1_t16 k1_t17).trips), ∀ a, (k1_off133 v21 v23 k1_t16 k1_t17 k1_t21) a + S1x1x16.size a ≤ S4x8x128.size a := fun k1_t1 v21 v23 k1_hw2 k1_t16 k1_t17 k1_t21 => k1_hw2.2.2.2.2.1.2.2.2.2.2.2.2.2.2.2.2.2.2.2.2.2.2.2.2.2.2.1 k1_t16 k1_t17 k1_t21
theorem k1_t22_ok : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips), (k1_t22_loop v21 v23 k1_t16 k1_t17).OK := fun k1_t1 v21 v23 k1_hw2 k1_t16 k1_t17 => k1_hw2.2.2.2.2.1.2.2.2.2.2.2.2.2.2.2.2.2.2.2.2.2.2.2.2.2.2.2.1 k1_t16 k1_t17
theorem k1_off134_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t22 : Fin (k1_t22_loop v21 v23 k1_t16 k1_t17).trips), ∀ a, (k1_off134 v21 v23 k1_t16 k1_t17 k1_t22) a + S1x1x16.size a ≤ S4x8x128.size a := fun k1_t1 v21 v23 k1_hw2 k1_t16 k1_t17 k1_t22 => k1_hw2.2.2.2.2.1.2.2.2.2.2.2.2.2.2.2.2.2.2.2.2.2.2.2.2.2.2.2.2.1 k1_t16 k1_t17 k1_t22
theorem k1_off135_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t22 : Fin (k1_t22_loop v21 v23 k1_t16 k1_t17).trips), ∀ a, (k1_off135 v21 v23 k1_t16 k1_t17 k1_t22) a + S1x1x16.size a ≤ S4x8x128.size a := fun k1_t1 v21 v23 k1_hw2 k1_t16 k1_t17 k1_t22 => k1_hw2.2.2.2.2.1.2.2.2.2.2.2.2.2.2.2.2.2.2.2.2.2.2.2.2.2.2.2.2.2.1 k1_t16 k1_t17 k1_t22
theorem k1_off136_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t22 : Fin (k1_t22_loop v21 v23 k1_t16 k1_t17).trips), ∀ a, (k1_off136 v21 v23 k1_t16 k1_t17 k1_t22) a + S1x1x16.size a ≤ S4x8x128.size a := fun k1_t1 v21 v23 k1_hw2 k1_t16 k1_t17 k1_t22 => k1_hw2.2.2.2.2.1.2.2.2.2.2.2.2.2.2.2.2.2.2.2.2.2.2.2.2.2.2.2.2.2.2.1 k1_t16 k1_t17 k1_t22
theorem k1_off137_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t22 : Fin (k1_t22_loop v21 v23 k1_t16 k1_t17).trips), ∀ a, (k1_off137 v21 v23 k1_t16 k1_t17 k1_t22) a + S1x1x16.size a ≤ S4x8x128.size a := fun k1_t1 v21 v23 k1_hw2 k1_t16 k1_t17 k1_t22 => k1_hw2.2.2.2.2.1.2.2.2.2.2.2.2.2.2.2.2.2.2.2.2.2.2.2.2.2.2.2.2.2.2.2.1 k1_t16 k1_t17 k1_t22
theorem k1_off138_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t22 : Fin (k1_t22_loop v21 v23 k1_t16 k1_t17).trips), ∀ a, (k1_off138 v21 v23 k1_t16 k1_t17 k1_t22) a + S1x1x16.size a ≤ S4x8x128.size a := fun k1_t1 v21 v23 k1_hw2 k1_t16 k1_t17 k1_t22 => k1_hw2.2.2.2.2.1.2.2.2.2.2.2.2.2.2.2.2.2.2.2.2.2.2.2.2.2.2.2.2.2.2.2.2.1 k1_t16 k1_t17 k1_t22
theorem k1_off139_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t22 : Fin (k1_t22_loop v21 v23 k1_t16 k1_t17).trips), ∀ a, (k1_off139 v21 v23 k1_t16 k1_t17 k1_t22) a + S1x1x16.size a ≤ S4x8x128.size a := fun k1_t1 v21 v23 k1_hw2 k1_t16 k1_t17 k1_t22 => k1_hw2.2.2.2.2.1.2.2.2.2.2.2.2.2.2.2.2.2.2.2.2.2.2.2.2.2.2.2.2.2.2.2.2.2.1 k1_t16 k1_t17 k1_t22
theorem k1_off140_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t22 : Fin (k1_t22_loop v21 v23 k1_t16 k1_t17).trips), ∀ a, (k1_off140 v21 v23 k1_t16 k1_t17 k1_t22) a + S1x1x16.size a ≤ S4x8x128.size a := fun k1_t1 v21 v23 k1_hw2 k1_t16 k1_t17 k1_t22 => k1_hw2.2.2.2.2.1.2.2.2.2.2.2.2.2.2.2.2.2.2.2.2.2.2.2.2.2.2.2.2.2.2.2.2.2.2.1 k1_t16 k1_t17 k1_t22
theorem k1_off141_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t22 : Fin (k1_t22_loop v21 v23 k1_t16 k1_t17).trips), ∀ a, (k1_off141 v21 v23 k1_t16 k1_t17 k1_t22) a + S1x1x16.size a ≤ S4x8x128.size a := fun k1_t1 v21 v23 k1_hw2 k1_t16 k1_t17 k1_t22 => k1_hw2.2.2.2.2.1.2.2.2.2.2.2.2.2.2.2.2.2.2.2.2.2.2.2.2.2.2.2.2.2.2.2.2.2.2.2.1 k1_t16 k1_t17 k1_t22
theorem k1_t23_ok : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips), (k1_t23_loop v21 v23 k1_t16 k1_t17).OK := fun k1_t1 v21 v23 k1_hw2 k1_t16 k1_t17 => k1_hw2.2.2.2.2.1.2.2.2.2.2.2.2.2.2.2.2.2.2.2.2.2.2.2.2.2.2.2.2.2.2.2.2.2.2.2.2 k1_t16 k1_t17
theorem k1_off142_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t23 : Fin (k1_t23_loop v21 v23 k1_t16 k1_t17).trips), ∀ a, (k1_off142 v21 v23 k1_t16 k1_t17 k1_t23) a + S1x1x16.size a ≤ S4x8x128.size a := fun k1_t1 v21 v23 k1_hw2 k1_t16 k1_t17 k1_t23 => k1_hw2.2.2.2.2.2.1.1 k1_t16 k1_t17 k1_t23
theorem k1_off143_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t23 : Fin (k1_t23_loop v21 v23 k1_t16 k1_t17).trips), ∀ a, (k1_off143 v21 v23 k1_t16 k1_t17 k1_t23) a + S1x1x16.size a ≤ S4x8x128.size a := fun k1_t1 v21 v23 k1_hw2 k1_t16 k1_t17 k1_t23 => k1_hw2.2.2.2.2.2.1.2.1 k1_t16 k1_t17 k1_t23
theorem k1_off144_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t23 : Fin (k1_t23_loop v21 v23 k1_t16 k1_t17).trips), ∀ a, (k1_off144 v21 v23 k1_t16 k1_t17 k1_t23) a + S1x1x16.size a ≤ S4x8x128.size a := fun k1_t1 v21 v23 k1_hw2 k1_t16 k1_t17 k1_t23 => k1_hw2.2.2.2.2.2.1.2.2.1 k1_t16 k1_t17 k1_t23
theorem k1_off145_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t23 : Fin (k1_t23_loop v21 v23 k1_t16 k1_t17).trips), ∀ a, (k1_off145 v21 v23 k1_t16 k1_t17 k1_t23) a + S1x1x16.size a ≤ S4x8x128.size a := fun k1_t1 v21 v23 k1_hw2 k1_t16 k1_t17 k1_t23 => k1_hw2.2.2.2.2.2.1.2.2.2.1 k1_t16 k1_t17 k1_t23
theorem k1_off146_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t23 : Fin (k1_t23_loop v21 v23 k1_t16 k1_t17).trips), ∀ a, (k1_off146 v21 v23 k1_t16 k1_t17 k1_t23) a + S1x1x16.size a ≤ S4x8x128.size a := fun k1_t1 v21 v23 k1_hw2 k1_t16 k1_t17 k1_t23 => k1_hw2.2.2.2.2.2.1.2.2.2.2.1 k1_t16 k1_t17 k1_t23
theorem k1_off147_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t23 : Fin (k1_t23_loop v21 v23 k1_t16 k1_t17).trips), ∀ a, (k1_off147 v21 v23 k1_t16 k1_t17 k1_t23) a + S1x1x16.size a ≤ S4x8x128.size a := fun k1_t1 v21 v23 k1_hw2 k1_t16 k1_t17 k1_t23 => k1_hw2.2.2.2.2.2.1.2.2.2.2.2.1 k1_t16 k1_t17 k1_t23
theorem k1_off148_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t23 : Fin (k1_t23_loop v21 v23 k1_t16 k1_t17).trips), ∀ a, (k1_off148 v21 v23 k1_t16 k1_t17 k1_t23) a + S1x1x16.size a ≤ S4x8x128.size a := fun k1_t1 v21 v23 k1_hw2 k1_t16 k1_t17 k1_t23 => k1_hw2.2.2.2.2.2.1.2.2.2.2.2.2.1 k1_t16 k1_t17 k1_t23
theorem k1_off149_inb : ∀ (k1_t1 : Fin k1_t1_loop.trips) (v21 : BitVec 32) (v23 : BitVec 32) (k1_hw2 : k1_chk2 k1_t1 v21 v23) (k1_t16 : Fin (k1_t16_loop v21 v23).trips) (k1_t17 : Fin (k1_t17_loop v21 v23 k1_t16).trips) (k1_t23 : Fin (k1_t23_loop v21 v23 k1_t16 k1_t17).trips), ∀ a, (k1_off149 v21 v23 k1_t16 k1_t17 k1_t23) a + S1x1x16.size a ≤ S4x8x128.size a := fun k1_t1 v21 v23 k1_hw2 k1_t16 k1_t17 k1_t23 => k1_hw2.2.2.2.2.2.1.2.2.2.2.2.2.2.1 k1_t16 k1_t17 k1_t23
theorem k1_t24_ok : ∀ (k1_t1 : Fin k1_t1_loop.trips) (v21 : BitVec 32) (v23 : BitVec 32) (k1_hw2 : k1_chk2 k1_t1 v21 v23) (k1_t16 : Fin (k1_t16_loop v21 v23).trips), (k1_t24_loop v21 v23 k1_t16).OK := fun k1_t1 v21 v23 k1_hw2 k1_t16 => k1_hw2.2.2.2.2.2.1.2.2.2.2.2.2.2.2.1 k1_t16
theorem k1_t25_ok : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips), (k1_t25_loop v21 v23 k1_t16 k1_t24).OK := fun k1_t1 v21 v23 k1_hw2 k1_t16 k1_t24 => k1_hw2.2.2.2.2.2.1.2.2.2.2.2.2.2.2.2.1 k1_t16 k1_t24
theorem k1_off150_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t25 : Fin (k1_t25_loop v21 v23 k1_t16 k1_t24).trips), ∀ a, (k1_off150 v21 v23 k1_t16 k1_t24 k1_t25) a + S1x1x16.size a ≤ S4x8x128.size a := fun k1_t1 v21 v23 k1_hw2 k1_t16 k1_t24 k1_t25 => k1_hw2.2.2.2.2.2.1.2.2.2.2.2.2.2.2.2.2.1 k1_t16 k1_t24 k1_t25
theorem k1_off151_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t25 : Fin (k1_t25_loop v21 v23 k1_t16 k1_t24).trips), ∀ a, (k1_off151 v21 v23 k1_t16 k1_t24 k1_t25) a + S1x1x16.size a ≤ S4x8x128.size a := fun k1_t1 v21 v23 k1_hw2 k1_t16 k1_t24 k1_t25 => k1_hw2.2.2.2.2.2.1.2.2.2.2.2.2.2.2.2.2.2.1 k1_t16 k1_t24 k1_t25
theorem k1_off152_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t25 : Fin (k1_t25_loop v21 v23 k1_t16 k1_t24).trips), ∀ a, (k1_off152 v21 v23 k1_t16 k1_t24 k1_t25) a + S1x1x16.size a ≤ S4x8x128.size a := fun k1_t1 v21 v23 k1_hw2 k1_t16 k1_t24 k1_t25 => k1_hw2.2.2.2.2.2.1.2.2.2.2.2.2.2.2.2.2.2.2.1 k1_t16 k1_t24 k1_t25
theorem k1_off153_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t25 : Fin (k1_t25_loop v21 v23 k1_t16 k1_t24).trips), ∀ a, (k1_off153 v21 v23 k1_t16 k1_t24 k1_t25) a + S1x1x16.size a ≤ S4x8x128.size a := fun k1_t1 v21 v23 k1_hw2 k1_t16 k1_t24 k1_t25 => k1_hw2.2.2.2.2.2.1.2.2.2.2.2.2.2.2.2.2.2.2.2.1 k1_t16 k1_t24 k1_t25
theorem k1_off154_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t25 : Fin (k1_t25_loop v21 v23 k1_t16 k1_t24).trips), ∀ a, (k1_off154 v21 v23 k1_t16 k1_t24 k1_t25) a + S1x1x16.size a ≤ S4x8x128.size a := fun k1_t1 v21 v23 k1_hw2 k1_t16 k1_t24 k1_t25 => k1_hw2.2.2.2.2.2.1.2.2.2.2.2.2.2.2.2.2.2.2.2.2.1 k1_t16 k1_t24 k1_t25
theorem k1_off155_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t25 : Fin (k1_t25_loop v21 v23 k1_t16 k1_t24).trips), ∀ a, (k1_off155 v21 v23 k1_t16 k1_t24 k1_t25) a + S1x1x16.size a ≤ S4x8x128.size a := fun k1_t1 v21 v23 k1_hw2 k1_t16 k1_t24 k1_t25 => k1_hw2.2.2.2.2.2.1.2.2.2.2.2.2.2.2.2.2.2.2.2.2.2.1 k1_t16 k1_t24 k1_t25
theorem k1_off156_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t25 : Fin (k1_t25_loop v21 v23 k1_t16 k1_t24).trips), ∀ a, (k1_off156 v21 v23 k1_t16 k1_t24 k1_t25) a + S1x1x16.size a ≤ S4x8x128.size a := fun k1_t1 v21 v23 k1_hw2 k1_t16 k1_t24 k1_t25 => k1_hw2.2.2.2.2.2.1.2.2.2.2.2.2.2.2.2.2.2.2.2.2.2.2.1 k1_t16 k1_t24 k1_t25
theorem k1_off157_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t25 : Fin (k1_t25_loop v21 v23 k1_t16 k1_t24).trips), ∀ a, (k1_off157 v21 v23 k1_t16 k1_t24 k1_t25) a + S1x1x16.size a ≤ S4x8x128.size a := fun k1_t1 v21 v23 k1_hw2 k1_t16 k1_t24 k1_t25 => k1_hw2.2.2.2.2.2.1.2.2.2.2.2.2.2.2.2.2.2.2.2.2.2.2.2.1 k1_t16 k1_t24 k1_t25
theorem k1_t26_ok : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips), (k1_t26_loop v21 v23 k1_t16 k1_t24).OK := fun k1_t1 v21 v23 k1_hw2 k1_t16 k1_t24 => k1_hw2.2.2.2.2.2.1.2.2.2.2.2.2.2.2.2.2.2.2.2.2.2.2.2.2.1 k1_t16 k1_t24
theorem k1_off158_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t26 : Fin (k1_t26_loop v21 v23 k1_t16 k1_t24).trips), ∀ a, (k1_off158 v21 v23 k1_t16 k1_t24 k1_t26) a + S1x1x16.size a ≤ S4x8x128.size a := fun k1_t1 v21 v23 k1_hw2 k1_t16 k1_t24 k1_t26 => k1_hw2.2.2.2.2.2.1.2.2.2.2.2.2.2.2.2.2.2.2.2.2.2.2.2.2.2.1 k1_t16 k1_t24 k1_t26
theorem k1_off159_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t26 : Fin (k1_t26_loop v21 v23 k1_t16 k1_t24).trips), ∀ a, (k1_off159 v21 v23 k1_t16 k1_t24 k1_t26) a + S1x1x16.size a ≤ S4x8x128.size a := fun k1_t1 v21 v23 k1_hw2 k1_t16 k1_t24 k1_t26 => k1_hw2.2.2.2.2.2.1.2.2.2.2.2.2.2.2.2.2.2.2.2.2.2.2.2.2.2.2.1 k1_t16 k1_t24 k1_t26
theorem k1_off160_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t26 : Fin (k1_t26_loop v21 v23 k1_t16 k1_t24).trips), ∀ a, (k1_off160 v21 v23 k1_t16 k1_t24 k1_t26) a + S1x1x16.size a ≤ S4x8x128.size a := fun k1_t1 v21 v23 k1_hw2 k1_t16 k1_t24 k1_t26 => k1_hw2.2.2.2.2.2.1.2.2.2.2.2.2.2.2.2.2.2.2.2.2.2.2.2.2.2.2.2.1 k1_t16 k1_t24 k1_t26
theorem k1_off161_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t26 : Fin (k1_t26_loop v21 v23 k1_t16 k1_t24).trips), ∀ a, (k1_off161 v21 v23 k1_t16 k1_t24 k1_t26) a + S1x1x16.size a ≤ S4x8x128.size a := fun k1_t1 v21 v23 k1_hw2 k1_t16 k1_t24 k1_t26 => k1_hw2.2.2.2.2.2.1.2.2.2.2.2.2.2.2.2.2.2.2.2.2.2.2.2.2.2.2.2.2.1 k1_t16 k1_t24 k1_t26
theorem k1_off162_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t26 : Fin (k1_t26_loop v21 v23 k1_t16 k1_t24).trips), ∀ a, (k1_off162 v21 v23 k1_t16 k1_t24 k1_t26) a + S1x1x16.size a ≤ S4x8x128.size a := fun k1_t1 v21 v23 k1_hw2 k1_t16 k1_t24 k1_t26 => k1_hw2.2.2.2.2.2.1.2.2.2.2.2.2.2.2.2.2.2.2.2.2.2.2.2.2.2.2.2.2.2.1 k1_t16 k1_t24 k1_t26
theorem k1_off163_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t26 : Fin (k1_t26_loop v21 v23 k1_t16 k1_t24).trips), ∀ a, (k1_off163 v21 v23 k1_t16 k1_t24 k1_t26) a + S1x1x16.size a ≤ S4x8x128.size a := fun k1_t1 v21 v23 k1_hw2 k1_t16 k1_t24 k1_t26 => k1_hw2.2.2.2.2.2.1.2.2.2.2.2.2.2.2.2.2.2.2.2.2.2.2.2.2.2.2.2.2.2.2.1 k1_t16 k1_t24 k1_t26
theorem k1_off164_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t26 : Fin (k1_t26_loop v21 v23 k1_t16 k1_t24).trips), ∀ a, (k1_off164 v21 v23 k1_t16 k1_t24 k1_t26) a + S1x1x16.size a ≤ S4x8x128.size a := fun k1_t1 v21 v23 k1_hw2 k1_t16 k1_t24 k1_t26 => k1_hw2.2.2.2.2.2.1.2.2.2.2.2.2.2.2.2.2.2.2.2.2.2.2.2.2.2.2.2.2.2.2.2.1 k1_t16 k1_t24 k1_t26
theorem k1_off165_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t26 : Fin (k1_t26_loop v21 v23 k1_t16 k1_t24).trips), ∀ a, (k1_off165 v21 v23 k1_t16 k1_t24 k1_t26) a + S1x1x16.size a ≤ S4x8x128.size a := fun k1_t1 v21 v23 k1_hw2 k1_t16 k1_t24 k1_t26 => k1_hw2.2.2.2.2.2.1.2.2.2.2.2.2.2.2.2.2.2.2.2.2.2.2.2.2.2.2.2.2.2.2.2.2.1 k1_t16 k1_t24 k1_t26
theorem k1_t27_ok : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips), (k1_t27_loop v21 v23 k1_t16 k1_t24).OK := fun k1_t1 v21 v23 k1_hw2 k1_t16 k1_t24 => k1_hw2.2.2.2.2.2.1.2.2.2.2.2.2.2.2.2.2.2.2.2.2.2.2.2.2.2.2.2.2.2.2.2.2.2.1 k1_t16 k1_t24
theorem k1_off166_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t27 : Fin (k1_t27_loop v21 v23 k1_t16 k1_t24).trips), ∀ a, (k1_off166 v21 v23 k1_t16 k1_t24 k1_t27) a + S1x1x16.size a ≤ S4x8x128.size a := fun k1_t1 v21 v23 k1_hw2 k1_t16 k1_t24 k1_t27 => k1_hw2.2.2.2.2.2.1.2.2.2.2.2.2.2.2.2.2.2.2.2.2.2.2.2.2.2.2.2.2.2.2.2.2.2.2.1 k1_t16 k1_t24 k1_t27
theorem k1_off167_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t27 : Fin (k1_t27_loop v21 v23 k1_t16 k1_t24).trips), ∀ a, (k1_off167 v21 v23 k1_t16 k1_t24 k1_t27) a + S1x1x16.size a ≤ S4x8x128.size a := fun k1_t1 v21 v23 k1_hw2 k1_t16 k1_t24 k1_t27 => k1_hw2.2.2.2.2.2.1.2.2.2.2.2.2.2.2.2.2.2.2.2.2.2.2.2.2.2.2.2.2.2.2.2.2.2.2.2.1 k1_t16 k1_t24 k1_t27
theorem k1_off168_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t27 : Fin (k1_t27_loop v21 v23 k1_t16 k1_t24).trips), ∀ a, (k1_off168 v21 v23 k1_t16 k1_t24 k1_t27) a + S1x1x16.size a ≤ S4x8x128.size a := fun k1_t1 v21 v23 k1_hw2 k1_t16 k1_t24 k1_t27 => k1_hw2.2.2.2.2.2.1.2.2.2.2.2.2.2.2.2.2.2.2.2.2.2.2.2.2.2.2.2.2.2.2.2.2.2.2.2.2.1 k1_t16 k1_t24 k1_t27
theorem k1_off169_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t27 : Fin (k1_t27_loop v21 v23 k1_t16 k1_t24).trips), ∀ a, (k1_off169 v21 v23 k1_t16 k1_t24 k1_t27) a + S1x1x16.size a ≤ S4x8x128.size a := fun k1_t1 v21 v23 k1_hw2 k1_t16 k1_t24 k1_t27 => k1_hw2.2.2.2.2.2.1.2.2.2.2.2.2.2.2.2.2.2.2.2.2.2.2.2.2.2.2.2.2.2.2.2.2.2.2.2.2.2 k1_t16 k1_t24 k1_t27
theorem k1_off170_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t27 : Fin (k1_t27_loop v21 v23 k1_t16 k1_t24).trips), ∀ a, (k1_off170 v21 v23 k1_t16 k1_t24 k1_t27) a + S1x1x16.size a ≤ S4x8x128.size a := fun k1_t1 v21 v23 k1_hw2 k1_t16 k1_t24 k1_t27 => k1_hw2.2.2.2.2.2.2.1.1 k1_t16 k1_t24 k1_t27
theorem k1_off171_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t27 : Fin (k1_t27_loop v21 v23 k1_t16 k1_t24).trips), ∀ a, (k1_off171 v21 v23 k1_t16 k1_t24 k1_t27) a + S1x1x16.size a ≤ S4x8x128.size a := fun k1_t1 v21 v23 k1_hw2 k1_t16 k1_t24 k1_t27 => k1_hw2.2.2.2.2.2.2.1.2.1 k1_t16 k1_t24 k1_t27
theorem k1_off172_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t27 : Fin (k1_t27_loop v21 v23 k1_t16 k1_t24).trips), ∀ a, (k1_off172 v21 v23 k1_t16 k1_t24 k1_t27) a + S1x1x16.size a ≤ S4x8x128.size a := fun k1_t1 v21 v23 k1_hw2 k1_t16 k1_t24 k1_t27 => k1_hw2.2.2.2.2.2.2.1.2.2.1 k1_t16 k1_t24 k1_t27
theorem k1_off173_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t27 : Fin (k1_t27_loop v21 v23 k1_t16 k1_t24).trips), ∀ a, (k1_off173 v21 v23 k1_t16 k1_t24 k1_t27) a + S1x1x16.size a ≤ S4x8x128.size a := fun k1_t1 v21 v23 k1_hw2 k1_t16 k1_t24 k1_t27 => k1_hw2.2.2.2.2.2.2.1.2.2.2.1 k1_t16 k1_t24 k1_t27
theorem k1_t28_ok : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips), (k1_t28_loop v21 v23 k1_t16 k1_t24).OK := fun k1_t1 v21 v23 k1_hw2 k1_t16 k1_t24 => k1_hw2.2.2.2.2.2.2.1.2.2.2.2.1 k1_t16 k1_t24
theorem k1_off174_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t28 : Fin (k1_t28_loop v21 v23 k1_t16 k1_t24).trips), ∀ a, (k1_off174 v21 v23 k1_t16 k1_t24 k1_t28) a + S1x1x16.size a ≤ S4x8x128.size a := fun k1_t1 v21 v23 k1_hw2 k1_t16 k1_t24 k1_t28 => k1_hw2.2.2.2.2.2.2.1.2.2.2.2.2.1 k1_t16 k1_t24 k1_t28
theorem k1_off175_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t28 : Fin (k1_t28_loop v21 v23 k1_t16 k1_t24).trips), ∀ a, (k1_off175 v21 v23 k1_t16 k1_t24 k1_t28) a + S1x1x16.size a ≤ S4x8x128.size a := fun k1_t1 v21 v23 k1_hw2 k1_t16 k1_t24 k1_t28 => k1_hw2.2.2.2.2.2.2.1.2.2.2.2.2.2.1 k1_t16 k1_t24 k1_t28
theorem k1_off176_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t28 : Fin (k1_t28_loop v21 v23 k1_t16 k1_t24).trips), ∀ a, (k1_off176 v21 v23 k1_t16 k1_t24 k1_t28) a + S1x1x16.size a ≤ S4x8x128.size a := fun k1_t1 v21 v23 k1_hw2 k1_t16 k1_t24 k1_t28 => k1_hw2.2.2.2.2.2.2.1.2.2.2.2.2.2.2.1 k1_t16 k1_t24 k1_t28
theorem k1_off177_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t28 : Fin (k1_t28_loop v21 v23 k1_t16 k1_t24).trips), ∀ a, (k1_off177 v21 v23 k1_t16 k1_t24 k1_t28) a + S1x1x16.size a ≤ S4x8x128.size a := fun k1_t1 v21 v23 k1_hw2 k1_t16 k1_t24 k1_t28 => k1_hw2.2.2.2.2.2.2.1.2.2.2.2.2.2.2.2.1 k1_t16 k1_t24 k1_t28
theorem k1_off178_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t28 : Fin (k1_t28_loop v21 v23 k1_t16 k1_t24).trips), ∀ a, (k1_off178 v21 v23 k1_t16 k1_t24 k1_t28) a + S1x1x16.size a ≤ S4x8x128.size a := fun k1_t1 v21 v23 k1_hw2 k1_t16 k1_t24 k1_t28 => k1_hw2.2.2.2.2.2.2.1.2.2.2.2.2.2.2.2.2.1 k1_t16 k1_t24 k1_t28
theorem k1_off179_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t28 : Fin (k1_t28_loop v21 v23 k1_t16 k1_t24).trips), ∀ a, (k1_off179 v21 v23 k1_t16 k1_t24 k1_t28) a + S1x1x16.size a ≤ S4x8x128.size a := fun k1_t1 v21 v23 k1_hw2 k1_t16 k1_t24 k1_t28 => k1_hw2.2.2.2.2.2.2.1.2.2.2.2.2.2.2.2.2.2.1 k1_t16 k1_t24 k1_t28
theorem k1_off180_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t28 : Fin (k1_t28_loop v21 v23 k1_t16 k1_t24).trips), ∀ a, (k1_off180 v21 v23 k1_t16 k1_t24 k1_t28) a + S1x1x16.size a ≤ S4x8x128.size a := fun k1_t1 v21 v23 k1_hw2 k1_t16 k1_t24 k1_t28 => k1_hw2.2.2.2.2.2.2.1.2.2.2.2.2.2.2.2.2.2.2.1 k1_t16 k1_t24 k1_t28
theorem k1_off181_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t28 : Fin (k1_t28_loop v21 v23 k1_t16 k1_t24).trips), ∀ a, (k1_off181 v21 v23 k1_t16 k1_t24 k1_t28) a + S1x1x16.size a ≤ S4x8x128.size a := fun k1_t1 v21 v23 k1_hw2 k1_t16 k1_t24 k1_t28 => k1_hw2.2.2.2.2.2.2.1.2.2.2.2.2.2.2.2.2.2.2.2.1 k1_t16 k1_t24 k1_t28
theorem k1_t29_ok : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips), (k1_t29_loop v21 v23 k1_t16 k1_t24).OK := fun k1_t1 v21 v23 k1_hw2 k1_t16 k1_t24 => k1_hw2.2.2.2.2.2.2.1.2.2.2.2.2.2.2.2.2.2.2.2.2.1 k1_t16 k1_t24
theorem k1_off182_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t29 : Fin (k1_t29_loop v21 v23 k1_t16 k1_t24).trips), ∀ a, (k1_off182 v21 v23 k1_t16 k1_t24 k1_t29) a + S1x1x16.size a ≤ S4x8x128.size a := fun k1_t1 v21 v23 k1_hw2 k1_t16 k1_t24 k1_t29 => k1_hw2.2.2.2.2.2.2.1.2.2.2.2.2.2.2.2.2.2.2.2.2.2.1 k1_t16 k1_t24 k1_t29
theorem k1_off183_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t29 : Fin (k1_t29_loop v21 v23 k1_t16 k1_t24).trips), ∀ a, (k1_off183 v21 v23 k1_t16 k1_t24 k1_t29) a + S1x1x16.size a ≤ S4x8x128.size a := fun k1_t1 v21 v23 k1_hw2 k1_t16 k1_t24 k1_t29 => k1_hw2.2.2.2.2.2.2.1.2.2.2.2.2.2.2.2.2.2.2.2.2.2.2.1 k1_t16 k1_t24 k1_t29
theorem k1_off184_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t29 : Fin (k1_t29_loop v21 v23 k1_t16 k1_t24).trips), ∀ a, (k1_off184 v21 v23 k1_t16 k1_t24 k1_t29) a + S1x1x16.size a ≤ S4x8x128.size a := fun k1_t1 v21 v23 k1_hw2 k1_t16 k1_t24 k1_t29 => k1_hw2.2.2.2.2.2.2.1.2.2.2.2.2.2.2.2.2.2.2.2.2.2.2.2.1 k1_t16 k1_t24 k1_t29
theorem k1_off185_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t29 : Fin (k1_t29_loop v21 v23 k1_t16 k1_t24).trips), ∀ a, (k1_off185 v21 v23 k1_t16 k1_t24 k1_t29) a + S1x1x16.size a ≤ S4x8x128.size a := fun k1_t1 v21 v23 k1_hw2 k1_t16 k1_t24 k1_t29 => k1_hw2.2.2.2.2.2.2.1.2.2.2.2.2.2.2.2.2.2.2.2.2.2.2.2.2.1 k1_t16 k1_t24 k1_t29
theorem k1_off186_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t29 : Fin (k1_t29_loop v21 v23 k1_t16 k1_t24).trips), ∀ a, (k1_off186 v21 v23 k1_t16 k1_t24 k1_t29) a + S1x1x16.size a ≤ S4x8x128.size a := fun k1_t1 v21 v23 k1_hw2 k1_t16 k1_t24 k1_t29 => k1_hw2.2.2.2.2.2.2.1.2.2.2.2.2.2.2.2.2.2.2.2.2.2.2.2.2.2.1 k1_t16 k1_t24 k1_t29
theorem k1_off187_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t29 : Fin (k1_t29_loop v21 v23 k1_t16 k1_t24).trips), ∀ a, (k1_off187 v21 v23 k1_t16 k1_t24 k1_t29) a + S1x1x16.size a ≤ S4x8x128.size a := fun k1_t1 v21 v23 k1_hw2 k1_t16 k1_t24 k1_t29 => k1_hw2.2.2.2.2.2.2.1.2.2.2.2.2.2.2.2.2.2.2.2.2.2.2.2.2.2.2.1 k1_t16 k1_t24 k1_t29
theorem k1_off188_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t29 : Fin (k1_t29_loop v21 v23 k1_t16 k1_t24).trips), ∀ a, (k1_off188 v21 v23 k1_t16 k1_t24 k1_t29) a + S1x1x16.size a ≤ S4x8x128.size a := fun k1_t1 v21 v23 k1_hw2 k1_t16 k1_t24 k1_t29 => k1_hw2.2.2.2.2.2.2.1.2.2.2.2.2.2.2.2.2.2.2.2.2.2.2.2.2.2.2.2.1 k1_t16 k1_t24 k1_t29
theorem k1_off189_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t29 : Fin (k1_t29_loop v21 v23 k1_t16 k1_t24).trips), ∀ a, (k1_off189 v21 v23 k1_t16 k1_t24 k1_t29) a + S1x1x16.size a ≤ S4x8x128.size a := fun k1_t1 v21 v23 k1_hw2 k1_t16 k1_t24 k1_t29 => k1_hw2.2.2.2.2.2.2.1.2.2.2.2.2.2.2.2.2.2.2.2.2.2.2.2.2.2.2.2.2.1 k1_t16 k1_t24 k1_t29
theorem k1_t30_ok : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips), (k1_t30_loop v21 v23 k1_t16 k1_t24).OK := fun k1_t1 v21 v23 k1_hw2 k1_t16 k1_t24 => k1_hw2.2.2.2.2.2.2.1.2.2.2.2.2.2.2.2.2.2.2.2.2.2.2.2.2.2.2.2.2.2.1 k1_t16 k1_t24
theorem k1_off190_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t30 : Fin (k1_t30_loop v21 v23 k1_t16 k1_t24).trips), ∀ a, (k1_off190 v21 v23 k1_t16 k1_t24 k1_t30) a + S1x1x16.size a ≤ S4x8x128.size a := fun k1_t1 v21 v23 k1_hw2 k1_t16 k1_t24 k1_t30 => k1_hw2.2.2.2.2.2.2.1.2.2.2.2.2.2.2.2.2.2.2.2.2.2.2.2.2.2.2.2.2.2.2.1 k1_t16 k1_t24 k1_t30
theorem k1_off191_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t30 : Fin (k1_t30_loop v21 v23 k1_t16 k1_t24).trips), ∀ a, (k1_off191 v21 v23 k1_t16 k1_t24 k1_t30) a + S1x1x16.size a ≤ S4x8x128.size a := fun k1_t1 v21 v23 k1_hw2 k1_t16 k1_t24 k1_t30 => k1_hw2.2.2.2.2.2.2.1.2.2.2.2.2.2.2.2.2.2.2.2.2.2.2.2.2.2.2.2.2.2.2.2.1 k1_t16 k1_t24 k1_t30
theorem k1_off192_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t30 : Fin (k1_t30_loop v21 v23 k1_t16 k1_t24).trips), ∀ a, (k1_off192 v21 v23 k1_t16 k1_t24 k1_t30) a + S1x1x16.size a ≤ S4x8x128.size a := fun k1_t1 v21 v23 k1_hw2 k1_t16 k1_t24 k1_t30 => k1_hw2.2.2.2.2.2.2.1.2.2.2.2.2.2.2.2.2.2.2.2.2.2.2.2.2.2.2.2.2.2.2.2.2.1 k1_t16 k1_t24 k1_t30
theorem k1_off193_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t30 : Fin (k1_t30_loop v21 v23 k1_t16 k1_t24).trips), ∀ a, (k1_off193 v21 v23 k1_t16 k1_t24 k1_t30) a + S1x1x16.size a ≤ S4x8x128.size a := fun k1_t1 v21 v23 k1_hw2 k1_t16 k1_t24 k1_t30 => k1_hw2.2.2.2.2.2.2.1.2.2.2.2.2.2.2.2.2.2.2.2.2.2.2.2.2.2.2.2.2.2.2.2.2.2.1 k1_t16 k1_t24 k1_t30
theorem k1_off194_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t30 : Fin (k1_t30_loop v21 v23 k1_t16 k1_t24).trips), ∀ a, (k1_off194 v21 v23 k1_t16 k1_t24 k1_t30) a + S1x1x16.size a ≤ S4x8x128.size a := fun k1_t1 v21 v23 k1_hw2 k1_t16 k1_t24 k1_t30 => k1_hw2.2.2.2.2.2.2.1.2.2.2.2.2.2.2.2.2.2.2.2.2.2.2.2.2.2.2.2.2.2.2.2.2.2.2.1 k1_t16 k1_t24 k1_t30
theorem k1_off195_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t30 : Fin (k1_t30_loop v21 v23 k1_t16 k1_t24).trips), ∀ a, (k1_off195 v21 v23 k1_t16 k1_t24 k1_t30) a + S1x1x16.size a ≤ S4x8x128.size a := fun k1_t1 v21 v23 k1_hw2 k1_t16 k1_t24 k1_t30 => k1_hw2.2.2.2.2.2.2.1.2.2.2.2.2.2.2.2.2.2.2.2.2.2.2.2.2.2.2.2.2.2.2.2.2.2.2.2.1 k1_t16 k1_t24 k1_t30
theorem k1_off196_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t30 : Fin (k1_t30_loop v21 v23 k1_t16 k1_t24).trips), ∀ a, (k1_off196 v21 v23 k1_t16 k1_t24 k1_t30) a + S1x1x16.size a ≤ S4x8x128.size a := fun k1_t1 v21 v23 k1_hw2 k1_t16 k1_t24 k1_t30 => k1_hw2.2.2.2.2.2.2.1.2.2.2.2.2.2.2.2.2.2.2.2.2.2.2.2.2.2.2.2.2.2.2.2.2.2.2.2.2.1 k1_t16 k1_t24 k1_t30
theorem k1_off197_inb : ∀ (k1_t1 : Fin k1_t1_loop.trips) (v21 : BitVec 32) (v23 : BitVec 32) (k1_hw2 : k1_chk2 k1_t1 v21 v23) (k1_t16 : Fin (k1_t16_loop v21 v23).trips) (k1_t24 : Fin (k1_t24_loop v21 v23 k1_t16).trips) (k1_t30 : Fin (k1_t30_loop v21 v23 k1_t16 k1_t24).trips), ∀ a, (k1_off197 v21 v23 k1_t16 k1_t24 k1_t30) a + S1x1x16.size a ≤ S4x8x128.size a := fun k1_t1 v21 v23 k1_hw2 k1_t16 k1_t24 k1_t30 => k1_hw2.2.2.2.2.2.2.1.2.2.2.2.2.2.2.2.2.2.2.2.2.2.2.2.2.2.2.2.2.2.2.2.2.2.2.2.2.2.1 k1_t16 k1_t24 k1_t30
theorem k1_t31_ok : ∀ (k1_t1 : Fin k1_t1_loop.trips) (v21 : BitVec 32) (v23 : BitVec 32) (k1_hw2 : k1_chk2 k1_t1 v21 v23), (k1_t31_loop v21 v23).OK := fun k1_t1 v21 v23 k1_hw2 => k1_hw2.2.2.2.2.2.2.1.2.2.2.2.2.2.2.2.2.2.2.2.2.2.2.2.2.2.2.2.2.2.2.2.2.2.2.2.2.2.2
theorem k1_off198_inb : ∀ (k1_t1 : Fin k1_t1_loop.trips) (v21 : BitVec 32) (v23 : BitVec 32) (k1_hw2 : k1_chk2 k1_t1 v21 v23) (k1_t31 : Fin (k1_t31_loop v21 v23).trips), ∀ a, (k1_off198 v21 v23 k1_t31) a + S4x8x128.size a ≤ S2550x8x128.size a := fun k1_t1 v21 v23 k1_hw2 k1_t31 => k1_hw2.2.2.2.2.2.2.2.1.1 k1_t31
theorem k1_t32_ok : ∀ (k1_t1 : Fin k1_t1_loop.trips) (v21 : BitVec 32) (v23 : BitVec 32) (k1_hw2 : k1_chk2 k1_t1 v21 v23) (k1_t31 : Fin (k1_t31_loop v21 v23).trips), (k1_t32_loop v21 v23 k1_t31).OK := fun k1_t1 v21 v23 k1_hw2 k1_t31 => k1_hw2.2.2.2.2.2.2.2.1.2.1 k1_t31
theorem k1_t33_ok : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips), (k1_t33_loop v21 v23 k1_t31 k1_t32).OK := fun k1_t1 v21 v23 k1_hw2 k1_t31 k1_t32 => k1_hw2.2.2.2.2.2.2.2.1.2.2.1 k1_t31 k1_t32
theorem k1_off199_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t33 : Fin (k1_t33_loop v21 v23 k1_t31 k1_t32).trips), ∀ a, (k1_off199 v21 v23 k1_t31 k1_t32 k1_t33) a + S1x1x16.size a ≤ S4x8x128.size a := fun k1_t1 v21 v23 k1_hw2 k1_t31 k1_t32 k1_t33 => k1_hw2.2.2.2.2.2.2.2.1.2.2.2.1 k1_t31 k1_t32 k1_t33
theorem k1_off200_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t33 : Fin (k1_t33_loop v21 v23 k1_t31 k1_t32).trips), ∀ a, (k1_off200 v21 v23 k1_t31 k1_t32 k1_t33) a + S1x1x16.size a ≤ S4x8x128.size a := fun k1_t1 v21 v23 k1_hw2 k1_t31 k1_t32 k1_t33 => k1_hw2.2.2.2.2.2.2.2.1.2.2.2.2.1 k1_t31 k1_t32 k1_t33
theorem k1_off201_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t33 : Fin (k1_t33_loop v21 v23 k1_t31 k1_t32).trips), ∀ a, (k1_off201 v21 v23 k1_t31 k1_t32 k1_t33) a + S1x1x16.size a ≤ S4x8x128.size a := fun k1_t1 v21 v23 k1_hw2 k1_t31 k1_t32 k1_t33 => k1_hw2.2.2.2.2.2.2.2.1.2.2.2.2.2.1 k1_t31 k1_t32 k1_t33
theorem k1_off202_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t33 : Fin (k1_t33_loop v21 v23 k1_t31 k1_t32).trips), ∀ a, (k1_off202 v21 v23 k1_t31 k1_t32 k1_t33) a + S1x1x16.size a ≤ S4x8x128.size a := fun k1_t1 v21 v23 k1_hw2 k1_t31 k1_t32 k1_t33 => k1_hw2.2.2.2.2.2.2.2.1.2.2.2.2.2.2.1 k1_t31 k1_t32 k1_t33
theorem k1_off203_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t33 : Fin (k1_t33_loop v21 v23 k1_t31 k1_t32).trips), ∀ a, (k1_off203 v21 v23 k1_t31 k1_t32 k1_t33) a + S1x1x16.size a ≤ S4x8x128.size a := fun k1_t1 v21 v23 k1_hw2 k1_t31 k1_t32 k1_t33 => k1_hw2.2.2.2.2.2.2.2.1.2.2.2.2.2.2.2.1 k1_t31 k1_t32 k1_t33
theorem k1_off204_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t33 : Fin (k1_t33_loop v21 v23 k1_t31 k1_t32).trips), ∀ a, (k1_off204 v21 v23 k1_t31 k1_t32 k1_t33) a + S1x1x16.size a ≤ S4x8x128.size a := fun k1_t1 v21 v23 k1_hw2 k1_t31 k1_t32 k1_t33 => k1_hw2.2.2.2.2.2.2.2.1.2.2.2.2.2.2.2.2.1 k1_t31 k1_t32 k1_t33
theorem k1_off205_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t33 : Fin (k1_t33_loop v21 v23 k1_t31 k1_t32).trips), ∀ a, (k1_off205 v21 v23 k1_t31 k1_t32 k1_t33) a + S1x1x16.size a ≤ S4x8x128.size a := fun k1_t1 v21 v23 k1_hw2 k1_t31 k1_t32 k1_t33 => k1_hw2.2.2.2.2.2.2.2.1.2.2.2.2.2.2.2.2.2.1 k1_t31 k1_t32 k1_t33
theorem k1_off206_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t33 : Fin (k1_t33_loop v21 v23 k1_t31 k1_t32).trips), ∀ a, (k1_off206 v21 v23 k1_t31 k1_t32 k1_t33) a + S1x1x16.size a ≤ S4x8x128.size a := fun k1_t1 v21 v23 k1_hw2 k1_t31 k1_t32 k1_t33 => k1_hw2.2.2.2.2.2.2.2.1.2.2.2.2.2.2.2.2.2.2.1 k1_t31 k1_t32 k1_t33
theorem k1_t34_ok : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips), (k1_t34_loop v21 v23 k1_t31 k1_t32).OK := fun k1_t1 v21 v23 k1_hw2 k1_t31 k1_t32 => k1_hw2.2.2.2.2.2.2.2.1.2.2.2.2.2.2.2.2.2.2.2.1 k1_t31 k1_t32
theorem k1_off207_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t34 : Fin (k1_t34_loop v21 v23 k1_t31 k1_t32).trips), ∀ a, (k1_off207 v21 v23 k1_t31 k1_t32 k1_t34) a + S1x1x16.size a ≤ S4x8x128.size a := fun k1_t1 v21 v23 k1_hw2 k1_t31 k1_t32 k1_t34 => k1_hw2.2.2.2.2.2.2.2.1.2.2.2.2.2.2.2.2.2.2.2.2.1 k1_t31 k1_t32 k1_t34
theorem k1_off208_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t34 : Fin (k1_t34_loop v21 v23 k1_t31 k1_t32).trips), ∀ a, (k1_off208 v21 v23 k1_t31 k1_t32 k1_t34) a + S1x1x16.size a ≤ S4x8x128.size a := fun k1_t1 v21 v23 k1_hw2 k1_t31 k1_t32 k1_t34 => k1_hw2.2.2.2.2.2.2.2.1.2.2.2.2.2.2.2.2.2.2.2.2.2.1 k1_t31 k1_t32 k1_t34
theorem k1_off209_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t34 : Fin (k1_t34_loop v21 v23 k1_t31 k1_t32).trips), ∀ a, (k1_off209 v21 v23 k1_t31 k1_t32 k1_t34) a + S1x1x16.size a ≤ S4x8x128.size a := fun k1_t1 v21 v23 k1_hw2 k1_t31 k1_t32 k1_t34 => k1_hw2.2.2.2.2.2.2.2.1.2.2.2.2.2.2.2.2.2.2.2.2.2.2.1 k1_t31 k1_t32 k1_t34
theorem k1_off210_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t34 : Fin (k1_t34_loop v21 v23 k1_t31 k1_t32).trips), ∀ a, (k1_off210 v21 v23 k1_t31 k1_t32 k1_t34) a + S1x1x16.size a ≤ S4x8x128.size a := fun k1_t1 v21 v23 k1_hw2 k1_t31 k1_t32 k1_t34 => k1_hw2.2.2.2.2.2.2.2.1.2.2.2.2.2.2.2.2.2.2.2.2.2.2.2.1 k1_t31 k1_t32 k1_t34
theorem k1_off211_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t34 : Fin (k1_t34_loop v21 v23 k1_t31 k1_t32).trips), ∀ a, (k1_off211 v21 v23 k1_t31 k1_t32 k1_t34) a + S1x1x16.size a ≤ S4x8x128.size a := fun k1_t1 v21 v23 k1_hw2 k1_t31 k1_t32 k1_t34 => k1_hw2.2.2.2.2.2.2.2.1.2.2.2.2.2.2.2.2.2.2.2.2.2.2.2.2.1 k1_t31 k1_t32 k1_t34
theorem k1_off212_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t34 : Fin (k1_t34_loop v21 v23 k1_t31 k1_t32).trips), ∀ a, (k1_off212 v21 v23 k1_t31 k1_t32 k1_t34) a + S1x1x16.size a ≤ S4x8x128.size a := fun k1_t1 v21 v23 k1_hw2 k1_t31 k1_t32 k1_t34 => k1_hw2.2.2.2.2.2.2.2.1.2.2.2.2.2.2.2.2.2.2.2.2.2.2.2.2.2.1 k1_t31 k1_t32 k1_t34
theorem k1_off213_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t34 : Fin (k1_t34_loop v21 v23 k1_t31 k1_t32).trips), ∀ a, (k1_off213 v21 v23 k1_t31 k1_t32 k1_t34) a + S1x1x16.size a ≤ S4x8x128.size a := fun k1_t1 v21 v23 k1_hw2 k1_t31 k1_t32 k1_t34 => k1_hw2.2.2.2.2.2.2.2.1.2.2.2.2.2.2.2.2.2.2.2.2.2.2.2.2.2.2.1 k1_t31 k1_t32 k1_t34
theorem k1_off214_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t34 : Fin (k1_t34_loop v21 v23 k1_t31 k1_t32).trips), ∀ a, (k1_off214 v21 v23 k1_t31 k1_t32 k1_t34) a + S1x1x16.size a ≤ S4x8x128.size a := fun k1_t1 v21 v23 k1_hw2 k1_t31 k1_t32 k1_t34 => k1_hw2.2.2.2.2.2.2.2.1.2.2.2.2.2.2.2.2.2.2.2.2.2.2.2.2.2.2.2.1 k1_t31 k1_t32 k1_t34
theorem k1_t35_ok : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips), (k1_t35_loop v21 v23 k1_t31 k1_t32).OK := fun k1_t1 v21 v23 k1_hw2 k1_t31 k1_t32 => k1_hw2.2.2.2.2.2.2.2.1.2.2.2.2.2.2.2.2.2.2.2.2.2.2.2.2.2.2.2.2.1 k1_t31 k1_t32
theorem k1_off215_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t35 : Fin (k1_t35_loop v21 v23 k1_t31 k1_t32).trips), ∀ a, (k1_off215 v21 v23 k1_t31 k1_t32 k1_t35) a + S1x1x16.size a ≤ S4x8x128.size a := fun k1_t1 v21 v23 k1_hw2 k1_t31 k1_t32 k1_t35 => k1_hw2.2.2.2.2.2.2.2.1.2.2.2.2.2.2.2.2.2.2.2.2.2.2.2.2.2.2.2.2.2.1 k1_t31 k1_t32 k1_t35
theorem k1_off216_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t35 : Fin (k1_t35_loop v21 v23 k1_t31 k1_t32).trips), ∀ a, (k1_off216 v21 v23 k1_t31 k1_t32 k1_t35) a + S1x1x16.size a ≤ S4x8x128.size a := fun k1_t1 v21 v23 k1_hw2 k1_t31 k1_t32 k1_t35 => k1_hw2.2.2.2.2.2.2.2.1.2.2.2.2.2.2.2.2.2.2.2.2.2.2.2.2.2.2.2.2.2.2.1 k1_t31 k1_t32 k1_t35
theorem k1_off217_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t35 : Fin (k1_t35_loop v21 v23 k1_t31 k1_t32).trips), ∀ a, (k1_off217 v21 v23 k1_t31 k1_t32 k1_t35) a + S1x1x16.size a ≤ S4x8x128.size a := fun k1_t1 v21 v23 k1_hw2 k1_t31 k1_t32 k1_t35 => k1_hw2.2.2.2.2.2.2.2.1.2.2.2.2.2.2.2.2.2.2.2.2.2.2.2.2.2.2.2.2.2.2.2.1 k1_t31 k1_t32 k1_t35
theorem k1_off218_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t35 : Fin (k1_t35_loop v21 v23 k1_t31 k1_t32).trips), ∀ a, (k1_off218 v21 v23 k1_t31 k1_t32 k1_t35) a + S1x1x16.size a ≤ S4x8x128.size a := fun k1_t1 v21 v23 k1_hw2 k1_t31 k1_t32 k1_t35 => k1_hw2.2.2.2.2.2.2.2.1.2.2.2.2.2.2.2.2.2.2.2.2.2.2.2.2.2.2.2.2.2.2.2.2.1 k1_t31 k1_t32 k1_t35
theorem k1_off219_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t35 : Fin (k1_t35_loop v21 v23 k1_t31 k1_t32).trips), ∀ a, (k1_off219 v21 v23 k1_t31 k1_t32 k1_t35) a + S1x1x16.size a ≤ S4x8x128.size a := fun k1_t1 v21 v23 k1_hw2 k1_t31 k1_t32 k1_t35 => k1_hw2.2.2.2.2.2.2.2.1.2.2.2.2.2.2.2.2.2.2.2.2.2.2.2.2.2.2.2.2.2.2.2.2.2.1 k1_t31 k1_t32 k1_t35
theorem k1_off220_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t35 : Fin (k1_t35_loop v21 v23 k1_t31 k1_t32).trips), ∀ a, (k1_off220 v21 v23 k1_t31 k1_t32 k1_t35) a + S1x1x16.size a ≤ S4x8x128.size a := fun k1_t1 v21 v23 k1_hw2 k1_t31 k1_t32 k1_t35 => k1_hw2.2.2.2.2.2.2.2.1.2.2.2.2.2.2.2.2.2.2.2.2.2.2.2.2.2.2.2.2.2.2.2.2.2.2.1 k1_t31 k1_t32 k1_t35
theorem k1_off221_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t35 : Fin (k1_t35_loop v21 v23 k1_t31 k1_t32).trips), ∀ a, (k1_off221 v21 v23 k1_t31 k1_t32 k1_t35) a + S1x1x16.size a ≤ S4x8x128.size a := fun k1_t1 v21 v23 k1_hw2 k1_t31 k1_t32 k1_t35 => k1_hw2.2.2.2.2.2.2.2.1.2.2.2.2.2.2.2.2.2.2.2.2.2.2.2.2.2.2.2.2.2.2.2.2.2.2.2.1 k1_t31 k1_t32 k1_t35
theorem k1_off222_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t35 : Fin (k1_t35_loop v21 v23 k1_t31 k1_t32).trips), ∀ a, (k1_off222 v21 v23 k1_t31 k1_t32 k1_t35) a + S1x1x16.size a ≤ S4x8x128.size a := fun k1_t1 v21 v23 k1_hw2 k1_t31 k1_t32 k1_t35 => k1_hw2.2.2.2.2.2.2.2.1.2.2.2.2.2.2.2.2.2.2.2.2.2.2.2.2.2.2.2.2.2.2.2.2.2.2.2.2.1 k1_t31 k1_t32 k1_t35
theorem k1_t36_ok : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips), (k1_t36_loop v21 v23 k1_t31 k1_t32).OK := fun k1_t1 v21 v23 k1_hw2 k1_t31 k1_t32 => k1_hw2.2.2.2.2.2.2.2.1.2.2.2.2.2.2.2.2.2.2.2.2.2.2.2.2.2.2.2.2.2.2.2.2.2.2.2.2.2.1 k1_t31 k1_t32
theorem k1_off223_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t36 : Fin (k1_t36_loop v21 v23 k1_t31 k1_t32).trips), ∀ a, (k1_off223 v21 v23 k1_t31 k1_t32 k1_t36) a + S1x1x16.size a ≤ S4x8x128.size a := fun k1_t1 v21 v23 k1_hw2 k1_t31 k1_t32 k1_t36 => k1_hw2.2.2.2.2.2.2.2.1.2.2.2.2.2.2.2.2.2.2.2.2.2.2.2.2.2.2.2.2.2.2.2.2.2.2.2.2.2.2.1 k1_t31 k1_t32 k1_t36
theorem k1_off224_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t36 : Fin (k1_t36_loop v21 v23 k1_t31 k1_t32).trips), ∀ a, (k1_off224 v21 v23 k1_t31 k1_t32 k1_t36) a + S1x1x16.size a ≤ S4x8x128.size a := fun k1_t1 v21 v23 k1_hw2 k1_t31 k1_t32 k1_t36 => k1_hw2.2.2.2.2.2.2.2.1.2.2.2.2.2.2.2.2.2.2.2.2.2.2.2.2.2.2.2.2.2.2.2.2.2.2.2.2.2.2.2 k1_t31 k1_t32 k1_t36
theorem k1_off225_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t36 : Fin (k1_t36_loop v21 v23 k1_t31 k1_t32).trips), ∀ a, (k1_off225 v21 v23 k1_t31 k1_t32 k1_t36) a + S1x1x16.size a ≤ S4x8x128.size a := fun k1_t1 v21 v23 k1_hw2 k1_t31 k1_t32 k1_t36 => k1_hw2.2.2.2.2.2.2.2.2.1.1 k1_t31 k1_t32 k1_t36
theorem k1_off226_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t36 : Fin (k1_t36_loop v21 v23 k1_t31 k1_t32).trips), ∀ a, (k1_off226 v21 v23 k1_t31 k1_t32 k1_t36) a + S1x1x16.size a ≤ S4x8x128.size a := fun k1_t1 v21 v23 k1_hw2 k1_t31 k1_t32 k1_t36 => k1_hw2.2.2.2.2.2.2.2.2.1.2.1 k1_t31 k1_t32 k1_t36
theorem k1_off227_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t36 : Fin (k1_t36_loop v21 v23 k1_t31 k1_t32).trips), ∀ a, (k1_off227 v21 v23 k1_t31 k1_t32 k1_t36) a + S1x1x16.size a ≤ S4x8x128.size a := fun k1_t1 v21 v23 k1_hw2 k1_t31 k1_t32 k1_t36 => k1_hw2.2.2.2.2.2.2.2.2.1.2.2.1 k1_t31 k1_t32 k1_t36
theorem k1_off228_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t36 : Fin (k1_t36_loop v21 v23 k1_t31 k1_t32).trips), ∀ a, (k1_off228 v21 v23 k1_t31 k1_t32 k1_t36) a + S1x1x16.size a ≤ S4x8x128.size a := fun k1_t1 v21 v23 k1_hw2 k1_t31 k1_t32 k1_t36 => k1_hw2.2.2.2.2.2.2.2.2.1.2.2.2.1 k1_t31 k1_t32 k1_t36
theorem k1_off229_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t36 : Fin (k1_t36_loop v21 v23 k1_t31 k1_t32).trips), ∀ a, (k1_off229 v21 v23 k1_t31 k1_t32 k1_t36) a + S1x1x16.size a ≤ S4x8x128.size a := fun k1_t1 v21 v23 k1_hw2 k1_t31 k1_t32 k1_t36 => k1_hw2.2.2.2.2.2.2.2.2.1.2.2.2.2.1 k1_t31 k1_t32 k1_t36
theorem k1_off230_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t36 : Fin (k1_t36_loop v21 v23 k1_t31 k1_t32).trips), ∀ a, (k1_off230 v21 v23 k1_t31 k1_t32 k1_t36) a + S1x1x16.size a ≤ S4x8x128.size a := fun k1_t1 v21 v23 k1_hw2 k1_t31 k1_t32 k1_t36 => k1_hw2.2.2.2.2.2.2.2.2.1.2.2.2.2.2.1 k1_t31 k1_t32 k1_t36
theorem k1_t37_ok : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips), (k1_t37_loop v21 v23 k1_t31 k1_t32).OK := fun k1_t1 v21 v23 k1_hw2 k1_t31 k1_t32 => k1_hw2.2.2.2.2.2.2.2.2.1.2.2.2.2.2.2.1 k1_t31 k1_t32
theorem k1_off231_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t37 : Fin (k1_t37_loop v21 v23 k1_t31 k1_t32).trips), ∀ a, (k1_off231 v21 v23 k1_t31 k1_t32 k1_t37) a + S1x1x16.size a ≤ S4x8x128.size a := fun k1_t1 v21 v23 k1_hw2 k1_t31 k1_t32 k1_t37 => k1_hw2.2.2.2.2.2.2.2.2.1.2.2.2.2.2.2.2.1 k1_t31 k1_t32 k1_t37
theorem k1_off232_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t37 : Fin (k1_t37_loop v21 v23 k1_t31 k1_t32).trips), ∀ a, (k1_off232 v21 v23 k1_t31 k1_t32 k1_t37) a + S1x1x16.size a ≤ S4x8x128.size a := fun k1_t1 v21 v23 k1_hw2 k1_t31 k1_t32 k1_t37 => k1_hw2.2.2.2.2.2.2.2.2.1.2.2.2.2.2.2.2.2.1 k1_t31 k1_t32 k1_t37
theorem k1_off233_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t37 : Fin (k1_t37_loop v21 v23 k1_t31 k1_t32).trips), ∀ a, (k1_off233 v21 v23 k1_t31 k1_t32 k1_t37) a + S1x1x16.size a ≤ S4x8x128.size a := fun k1_t1 v21 v23 k1_hw2 k1_t31 k1_t32 k1_t37 => k1_hw2.2.2.2.2.2.2.2.2.1.2.2.2.2.2.2.2.2.2.1 k1_t31 k1_t32 k1_t37
theorem k1_off234_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t37 : Fin (k1_t37_loop v21 v23 k1_t31 k1_t32).trips), ∀ a, (k1_off234 v21 v23 k1_t31 k1_t32 k1_t37) a + S1x1x16.size a ≤ S4x8x128.size a := fun k1_t1 v21 v23 k1_hw2 k1_t31 k1_t32 k1_t37 => k1_hw2.2.2.2.2.2.2.2.2.1.2.2.2.2.2.2.2.2.2.2.1 k1_t31 k1_t32 k1_t37
theorem k1_off235_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t37 : Fin (k1_t37_loop v21 v23 k1_t31 k1_t32).trips), ∀ a, (k1_off235 v21 v23 k1_t31 k1_t32 k1_t37) a + S1x1x16.size a ≤ S4x8x128.size a := fun k1_t1 v21 v23 k1_hw2 k1_t31 k1_t32 k1_t37 => k1_hw2.2.2.2.2.2.2.2.2.1.2.2.2.2.2.2.2.2.2.2.2.1 k1_t31 k1_t32 k1_t37
theorem k1_off236_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t37 : Fin (k1_t37_loop v21 v23 k1_t31 k1_t32).trips), ∀ a, (k1_off236 v21 v23 k1_t31 k1_t32 k1_t37) a + S1x1x16.size a ≤ S4x8x128.size a := fun k1_t1 v21 v23 k1_hw2 k1_t31 k1_t32 k1_t37 => k1_hw2.2.2.2.2.2.2.2.2.1.2.2.2.2.2.2.2.2.2.2.2.2.1 k1_t31 k1_t32 k1_t37
theorem k1_off237_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t37 : Fin (k1_t37_loop v21 v23 k1_t31 k1_t32).trips), ∀ a, (k1_off237 v21 v23 k1_t31 k1_t32 k1_t37) a + S1x1x16.size a ≤ S4x8x128.size a := fun k1_t1 v21 v23 k1_hw2 k1_t31 k1_t32 k1_t37 => k1_hw2.2.2.2.2.2.2.2.2.1.2.2.2.2.2.2.2.2.2.2.2.2.2.1 k1_t31 k1_t32 k1_t37
theorem k1_off238_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t37 : Fin (k1_t37_loop v21 v23 k1_t31 k1_t32).trips), ∀ a, (k1_off238 v21 v23 k1_t31 k1_t32 k1_t37) a + S1x1x16.size a ≤ S4x8x128.size a := fun k1_t1 v21 v23 k1_hw2 k1_t31 k1_t32 k1_t37 => k1_hw2.2.2.2.2.2.2.2.2.1.2.2.2.2.2.2.2.2.2.2.2.2.2.2.1 k1_t31 k1_t32 k1_t37
theorem k1_t38_ok : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips), (k1_t38_loop v21 v23 k1_t31 k1_t32).OK := fun k1_t1 v21 v23 k1_hw2 k1_t31 k1_t32 => k1_hw2.2.2.2.2.2.2.2.2.1.2.2.2.2.2.2.2.2.2.2.2.2.2.2.2.1 k1_t31 k1_t32
theorem k1_off239_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t38 : Fin (k1_t38_loop v21 v23 k1_t31 k1_t32).trips), ∀ a, (k1_off239 v21 v23 k1_t31 k1_t32 k1_t38) a + S1x1x16.size a ≤ S4x8x128.size a := fun k1_t1 v21 v23 k1_hw2 k1_t31 k1_t32 k1_t38 => k1_hw2.2.2.2.2.2.2.2.2.1.2.2.2.2.2.2.2.2.2.2.2.2.2.2.2.2.1 k1_t31 k1_t32 k1_t38
theorem k1_off240_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t38 : Fin (k1_t38_loop v21 v23 k1_t31 k1_t32).trips), ∀ a, (k1_off240 v21 v23 k1_t31 k1_t32 k1_t38) a + S1x1x16.size a ≤ S4x8x128.size a := fun k1_t1 v21 v23 k1_hw2 k1_t31 k1_t32 k1_t38 => k1_hw2.2.2.2.2.2.2.2.2.1.2.2.2.2.2.2.2.2.2.2.2.2.2.2.2.2.2.1 k1_t31 k1_t32 k1_t38
theorem k1_off241_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t38 : Fin (k1_t38_loop v21 v23 k1_t31 k1_t32).trips), ∀ a, (k1_off241 v21 v23 k1_t31 k1_t32 k1_t38) a + S1x1x16.size a ≤ S4x8x128.size a := fun k1_t1 v21 v23 k1_hw2 k1_t31 k1_t32 k1_t38 => k1_hw2.2.2.2.2.2.2.2.2.1.2.2.2.2.2.2.2.2.2.2.2.2.2.2.2.2.2.2.1 k1_t31 k1_t32 k1_t38
theorem k1_off242_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t38 : Fin (k1_t38_loop v21 v23 k1_t31 k1_t32).trips), ∀ a, (k1_off242 v21 v23 k1_t31 k1_t32 k1_t38) a + S1x1x16.size a ≤ S4x8x128.size a := fun k1_t1 v21 v23 k1_hw2 k1_t31 k1_t32 k1_t38 => k1_hw2.2.2.2.2.2.2.2.2.1.2.2.2.2.2.2.2.2.2.2.2.2.2.2.2.2.2.2.2.1 k1_t31 k1_t32 k1_t38
theorem k1_off243_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t38 : Fin (k1_t38_loop v21 v23 k1_t31 k1_t32).trips), ∀ a, (k1_off243 v21 v23 k1_t31 k1_t32 k1_t38) a + S1x1x16.size a ≤ S4x8x128.size a := fun k1_t1 v21 v23 k1_hw2 k1_t31 k1_t32 k1_t38 => k1_hw2.2.2.2.2.2.2.2.2.1.2.2.2.2.2.2.2.2.2.2.2.2.2.2.2.2.2.2.2.2.1 k1_t31 k1_t32 k1_t38
theorem k1_off244_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t38 : Fin (k1_t38_loop v21 v23 k1_t31 k1_t32).trips), ∀ a, (k1_off244 v21 v23 k1_t31 k1_t32 k1_t38) a + S1x1x16.size a ≤ S4x8x128.size a := fun k1_t1 v21 v23 k1_hw2 k1_t31 k1_t32 k1_t38 => k1_hw2.2.2.2.2.2.2.2.2.1.2.2.2.2.2.2.2.2.2.2.2.2.2.2.2.2.2.2.2.2.2.1 k1_t31 k1_t32 k1_t38
theorem k1_off245_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t38 : Fin (k1_t38_loop v21 v23 k1_t31 k1_t32).trips), ∀ a, (k1_off245 v21 v23 k1_t31 k1_t32 k1_t38) a + S1x1x16.size a ≤ S4x8x128.size a := fun k1_t1 v21 v23 k1_hw2 k1_t31 k1_t32 k1_t38 => k1_hw2.2.2.2.2.2.2.2.2.1.2.2.2.2.2.2.2.2.2.2.2.2.2.2.2.2.2.2.2.2.2.2.1 k1_t31 k1_t32 k1_t38
theorem k1_off246_inb : ∀ (k1_t1 : Fin k1_t1_loop.trips) (v21 : BitVec 32) (v23 : BitVec 32) (k1_hw2 : k1_chk2 k1_t1 v21 v23) (k1_t31 : Fin (k1_t31_loop v21 v23).trips) (k1_t32 : Fin (k1_t32_loop v21 v23 k1_t31).trips) (k1_t38 : Fin (k1_t38_loop v21 v23 k1_t31 k1_t32).trips), ∀ a, (k1_off246 v21 v23 k1_t31 k1_t32 k1_t38) a + S1x1x16.size a ≤ S4x8x128.size a := fun k1_t1 v21 v23 k1_hw2 k1_t31 k1_t32 k1_t38 => k1_hw2.2.2.2.2.2.2.2.2.1.2.2.2.2.2.2.2.2.2.2.2.2.2.2.2.2.2.2.2.2.2.2.2.1 k1_t31 k1_t32 k1_t38
theorem k1_t39_ok : ∀ (k1_t1 : Fin k1_t1_loop.trips) (v21 : BitVec 32) (v23 : BitVec 32) (k1_hw2 : k1_chk2 k1_t1 v21 v23) (k1_t31 : Fin (k1_t31_loop v21 v23).trips), (k1_t39_loop v21 v23 k1_t31).OK := fun k1_t1 v21 v23 k1_hw2 k1_t31 => k1_hw2.2.2.2.2.2.2.2.2.1.2.2.2.2.2.2.2.2.2.2.2.2.2.2.2.2.2.2.2.2.2.2.2.2.1 k1_t31
theorem k1_t40_ok : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips), (k1_t40_loop v21 v23 k1_t31 k1_t39).OK := fun k1_t1 v21 v23 k1_hw2 k1_t31 k1_t39 => k1_hw2.2.2.2.2.2.2.2.2.1.2.2.2.2.2.2.2.2.2.2.2.2.2.2.2.2.2.2.2.2.2.2.2.2.2.1 k1_t31 k1_t39
theorem k1_off247_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t40 : Fin (k1_t40_loop v21 v23 k1_t31 k1_t39).trips), ∀ a, (k1_off247 v21 v23 k1_t31 k1_t39 k1_t40) a + S1x1x16.size a ≤ S4x8x128.size a := fun k1_t1 v21 v23 k1_hw2 k1_t31 k1_t39 k1_t40 => k1_hw2.2.2.2.2.2.2.2.2.1.2.2.2.2.2.2.2.2.2.2.2.2.2.2.2.2.2.2.2.2.2.2.2.2.2.2.1 k1_t31 k1_t39 k1_t40
theorem k1_off248_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t40 : Fin (k1_t40_loop v21 v23 k1_t31 k1_t39).trips), ∀ a, (k1_off248 v21 v23 k1_t31 k1_t39 k1_t40) a + S1x1x16.size a ≤ S4x8x128.size a := fun k1_t1 v21 v23 k1_hw2 k1_t31 k1_t39 k1_t40 => k1_hw2.2.2.2.2.2.2.2.2.1.2.2.2.2.2.2.2.2.2.2.2.2.2.2.2.2.2.2.2.2.2.2.2.2.2.2.2.1 k1_t31 k1_t39 k1_t40
theorem k1_off249_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t40 : Fin (k1_t40_loop v21 v23 k1_t31 k1_t39).trips), ∀ a, (k1_off249 v21 v23 k1_t31 k1_t39 k1_t40) a + S1x1x16.size a ≤ S4x8x128.size a := fun k1_t1 v21 v23 k1_hw2 k1_t31 k1_t39 k1_t40 => k1_hw2.2.2.2.2.2.2.2.2.1.2.2.2.2.2.2.2.2.2.2.2.2.2.2.2.2.2.2.2.2.2.2.2.2.2.2.2.2.1 k1_t31 k1_t39 k1_t40
theorem k1_off250_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t40 : Fin (k1_t40_loop v21 v23 k1_t31 k1_t39).trips), ∀ a, (k1_off250 v21 v23 k1_t31 k1_t39 k1_t40) a + S1x1x16.size a ≤ S4x8x128.size a := fun k1_t1 v21 v23 k1_hw2 k1_t31 k1_t39 k1_t40 => k1_hw2.2.2.2.2.2.2.2.2.1.2.2.2.2.2.2.2.2.2.2.2.2.2.2.2.2.2.2.2.2.2.2.2.2.2.2.2.2.2.1 k1_t31 k1_t39 k1_t40
theorem k1_off251_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t40 : Fin (k1_t40_loop v21 v23 k1_t31 k1_t39).trips), ∀ a, (k1_off251 v21 v23 k1_t31 k1_t39 k1_t40) a + S1x1x16.size a ≤ S4x8x128.size a := fun k1_t1 v21 v23 k1_hw2 k1_t31 k1_t39 k1_t40 => k1_hw2.2.2.2.2.2.2.2.2.1.2.2.2.2.2.2.2.2.2.2.2.2.2.2.2.2.2.2.2.2.2.2.2.2.2.2.2.2.2.2.1 k1_t31 k1_t39 k1_t40
theorem k1_off252_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t40 : Fin (k1_t40_loop v21 v23 k1_t31 k1_t39).trips), ∀ a, (k1_off252 v21 v23 k1_t31 k1_t39 k1_t40) a + S1x1x16.size a ≤ S4x8x128.size a := fun k1_t1 v21 v23 k1_hw2 k1_t31 k1_t39 k1_t40 => k1_hw2.2.2.2.2.2.2.2.2.1.2.2.2.2.2.2.2.2.2.2.2.2.2.2.2.2.2.2.2.2.2.2.2.2.2.2.2.2.2.2.2 k1_t31 k1_t39 k1_t40
theorem k1_off253_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t40 : Fin (k1_t40_loop v21 v23 k1_t31 k1_t39).trips), ∀ a, (k1_off253 v21 v23 k1_t31 k1_t39 k1_t40) a + S1x1x16.size a ≤ S4x8x128.size a := fun k1_t1 v21 v23 k1_hw2 k1_t31 k1_t39 k1_t40 => k1_hw2.2.2.2.2.2.2.2.2.2.1.1 k1_t31 k1_t39 k1_t40
theorem k1_off254_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t40 : Fin (k1_t40_loop v21 v23 k1_t31 k1_t39).trips), ∀ a, (k1_off254 v21 v23 k1_t31 k1_t39 k1_t40) a + S1x1x16.size a ≤ S4x8x128.size a := fun k1_t1 v21 v23 k1_hw2 k1_t31 k1_t39 k1_t40 => k1_hw2.2.2.2.2.2.2.2.2.2.1.2.1 k1_t31 k1_t39 k1_t40
theorem k1_t41_ok : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips), (k1_t41_loop v21 v23 k1_t31 k1_t39).OK := fun k1_t1 v21 v23 k1_hw2 k1_t31 k1_t39 => k1_hw2.2.2.2.2.2.2.2.2.2.1.2.2.1 k1_t31 k1_t39
theorem k1_off255_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t41 : Fin (k1_t41_loop v21 v23 k1_t31 k1_t39).trips), ∀ a, (k1_off255 v21 v23 k1_t31 k1_t39 k1_t41) a + S1x1x16.size a ≤ S4x8x128.size a := fun k1_t1 v21 v23 k1_hw2 k1_t31 k1_t39 k1_t41 => k1_hw2.2.2.2.2.2.2.2.2.2.1.2.2.2.1 k1_t31 k1_t39 k1_t41
theorem k1_off256_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t41 : Fin (k1_t41_loop v21 v23 k1_t31 k1_t39).trips), ∀ a, (k1_off256 v21 v23 k1_t31 k1_t39 k1_t41) a + S1x1x16.size a ≤ S4x8x128.size a := fun k1_t1 v21 v23 k1_hw2 k1_t31 k1_t39 k1_t41 => k1_hw2.2.2.2.2.2.2.2.2.2.1.2.2.2.2.1 k1_t31 k1_t39 k1_t41
theorem k1_off257_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t41 : Fin (k1_t41_loop v21 v23 k1_t31 k1_t39).trips), ∀ a, (k1_off257 v21 v23 k1_t31 k1_t39 k1_t41) a + S1x1x16.size a ≤ S4x8x128.size a := fun k1_t1 v21 v23 k1_hw2 k1_t31 k1_t39 k1_t41 => k1_hw2.2.2.2.2.2.2.2.2.2.1.2.2.2.2.2.1 k1_t31 k1_t39 k1_t41
theorem k1_off258_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t41 : Fin (k1_t41_loop v21 v23 k1_t31 k1_t39).trips), ∀ a, (k1_off258 v21 v23 k1_t31 k1_t39 k1_t41) a + S1x1x16.size a ≤ S4x8x128.size a := fun k1_t1 v21 v23 k1_hw2 k1_t31 k1_t39 k1_t41 => k1_hw2.2.2.2.2.2.2.2.2.2.1.2.2.2.2.2.2.1 k1_t31 k1_t39 k1_t41
theorem k1_off259_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t41 : Fin (k1_t41_loop v21 v23 k1_t31 k1_t39).trips), ∀ a, (k1_off259 v21 v23 k1_t31 k1_t39 k1_t41) a + S1x1x16.size a ≤ S4x8x128.size a := fun k1_t1 v21 v23 k1_hw2 k1_t31 k1_t39 k1_t41 => k1_hw2.2.2.2.2.2.2.2.2.2.1.2.2.2.2.2.2.2.1 k1_t31 k1_t39 k1_t41
theorem k1_off260_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t41 : Fin (k1_t41_loop v21 v23 k1_t31 k1_t39).trips), ∀ a, (k1_off260 v21 v23 k1_t31 k1_t39 k1_t41) a + S1x1x16.size a ≤ S4x8x128.size a := fun k1_t1 v21 v23 k1_hw2 k1_t31 k1_t39 k1_t41 => k1_hw2.2.2.2.2.2.2.2.2.2.1.2.2.2.2.2.2.2.2.1 k1_t31 k1_t39 k1_t41
theorem k1_off261_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t41 : Fin (k1_t41_loop v21 v23 k1_t31 k1_t39).trips), ∀ a, (k1_off261 v21 v23 k1_t31 k1_t39 k1_t41) a + S1x1x16.size a ≤ S4x8x128.size a := fun k1_t1 v21 v23 k1_hw2 k1_t31 k1_t39 k1_t41 => k1_hw2.2.2.2.2.2.2.2.2.2.1.2.2.2.2.2.2.2.2.2.1 k1_t31 k1_t39 k1_t41
theorem k1_off262_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t41 : Fin (k1_t41_loop v21 v23 k1_t31 k1_t39).trips), ∀ a, (k1_off262 v21 v23 k1_t31 k1_t39 k1_t41) a + S1x1x16.size a ≤ S4x8x128.size a := fun k1_t1 v21 v23 k1_hw2 k1_t31 k1_t39 k1_t41 => k1_hw2.2.2.2.2.2.2.2.2.2.1.2.2.2.2.2.2.2.2.2.2.1 k1_t31 k1_t39 k1_t41
theorem k1_t42_ok : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips), (k1_t42_loop v21 v23 k1_t31 k1_t39).OK := fun k1_t1 v21 v23 k1_hw2 k1_t31 k1_t39 => k1_hw2.2.2.2.2.2.2.2.2.2.1.2.2.2.2.2.2.2.2.2.2.2.1 k1_t31 k1_t39
theorem k1_off263_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t42 : Fin (k1_t42_loop v21 v23 k1_t31 k1_t39).trips), ∀ a, (k1_off263 v21 v23 k1_t31 k1_t39 k1_t42) a + S1x1x16.size a ≤ S4x8x128.size a := fun k1_t1 v21 v23 k1_hw2 k1_t31 k1_t39 k1_t42 => k1_hw2.2.2.2.2.2.2.2.2.2.1.2.2.2.2.2.2.2.2.2.2.2.2.1 k1_t31 k1_t39 k1_t42
theorem k1_off264_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t42 : Fin (k1_t42_loop v21 v23 k1_t31 k1_t39).trips), ∀ a, (k1_off264 v21 v23 k1_t31 k1_t39 k1_t42) a + S1x1x16.size a ≤ S4x8x128.size a := fun k1_t1 v21 v23 k1_hw2 k1_t31 k1_t39 k1_t42 => k1_hw2.2.2.2.2.2.2.2.2.2.1.2.2.2.2.2.2.2.2.2.2.2.2.2.1 k1_t31 k1_t39 k1_t42
theorem k1_off265_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t42 : Fin (k1_t42_loop v21 v23 k1_t31 k1_t39).trips), ∀ a, (k1_off265 v21 v23 k1_t31 k1_t39 k1_t42) a + S1x1x16.size a ≤ S4x8x128.size a := fun k1_t1 v21 v23 k1_hw2 k1_t31 k1_t39 k1_t42 => k1_hw2.2.2.2.2.2.2.2.2.2.1.2.2.2.2.2.2.2.2.2.2.2.2.2.2.1 k1_t31 k1_t39 k1_t42
theorem k1_off266_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t42 : Fin (k1_t42_loop v21 v23 k1_t31 k1_t39).trips), ∀ a, (k1_off266 v21 v23 k1_t31 k1_t39 k1_t42) a + S1x1x16.size a ≤ S4x8x128.size a := fun k1_t1 v21 v23 k1_hw2 k1_t31 k1_t39 k1_t42 => k1_hw2.2.2.2.2.2.2.2.2.2.1.2.2.2.2.2.2.2.2.2.2.2.2.2.2.2.1 k1_t31 k1_t39 k1_t42
theorem k1_off267_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t42 : Fin (k1_t42_loop v21 v23 k1_t31 k1_t39).trips), ∀ a, (k1_off267 v21 v23 k1_t31 k1_t39 k1_t42) a + S1x1x16.size a ≤ S4x8x128.size a := fun k1_t1 v21 v23 k1_hw2 k1_t31 k1_t39 k1_t42 => k1_hw2.2.2.2.2.2.2.2.2.2.1.2.2.2.2.2.2.2.2.2.2.2.2.2.2.2.2.1 k1_t31 k1_t39 k1_t42
theorem k1_off268_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t42 : Fin (k1_t42_loop v21 v23 k1_t31 k1_t39).trips), ∀ a, (k1_off268 v21 v23 k1_t31 k1_t39 k1_t42) a + S1x1x16.size a ≤ S4x8x128.size a := fun k1_t1 v21 v23 k1_hw2 k1_t31 k1_t39 k1_t42 => k1_hw2.2.2.2.2.2.2.2.2.2.1.2.2.2.2.2.2.2.2.2.2.2.2.2.2.2.2.2.1 k1_t31 k1_t39 k1_t42
theorem k1_off269_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t42 : Fin (k1_t42_loop v21 v23 k1_t31 k1_t39).trips), ∀ a, (k1_off269 v21 v23 k1_t31 k1_t39 k1_t42) a + S1x1x16.size a ≤ S4x8x128.size a := fun k1_t1 v21 v23 k1_hw2 k1_t31 k1_t39 k1_t42 => k1_hw2.2.2.2.2.2.2.2.2.2.1.2.2.2.2.2.2.2.2.2.2.2.2.2.2.2.2.2.2.1 k1_t31 k1_t39 k1_t42
theorem k1_off270_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t42 : Fin (k1_t42_loop v21 v23 k1_t31 k1_t39).trips), ∀ a, (k1_off270 v21 v23 k1_t31 k1_t39 k1_t42) a + S1x1x16.size a ≤ S4x8x128.size a := fun k1_t1 v21 v23 k1_hw2 k1_t31 k1_t39 k1_t42 => k1_hw2.2.2.2.2.2.2.2.2.2.1.2.2.2.2.2.2.2.2.2.2.2.2.2.2.2.2.2.2.2.1 k1_t31 k1_t39 k1_t42
theorem k1_t43_ok : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips), (k1_t43_loop v21 v23 k1_t31 k1_t39).OK := fun k1_t1 v21 v23 k1_hw2 k1_t31 k1_t39 => k1_hw2.2.2.2.2.2.2.2.2.2.1.2.2.2.2.2.2.2.2.2.2.2.2.2.2.2.2.2.2.2.2.1 k1_t31 k1_t39
theorem k1_off271_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t43 : Fin (k1_t43_loop v21 v23 k1_t31 k1_t39).trips), ∀ a, (k1_off271 v21 v23 k1_t31 k1_t39 k1_t43) a + S1x1x16.size a ≤ S4x8x128.size a := fun k1_t1 v21 v23 k1_hw2 k1_t31 k1_t39 k1_t43 => k1_hw2.2.2.2.2.2.2.2.2.2.1.2.2.2.2.2.2.2.2.2.2.2.2.2.2.2.2.2.2.2.2.2.1 k1_t31 k1_t39 k1_t43
theorem k1_off272_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t43 : Fin (k1_t43_loop v21 v23 k1_t31 k1_t39).trips), ∀ a, (k1_off272 v21 v23 k1_t31 k1_t39 k1_t43) a + S1x1x16.size a ≤ S4x8x128.size a := fun k1_t1 v21 v23 k1_hw2 k1_t31 k1_t39 k1_t43 => k1_hw2.2.2.2.2.2.2.2.2.2.1.2.2.2.2.2.2.2.2.2.2.2.2.2.2.2.2.2.2.2.2.2.2.1 k1_t31 k1_t39 k1_t43
theorem k1_off273_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t43 : Fin (k1_t43_loop v21 v23 k1_t31 k1_t39).trips), ∀ a, (k1_off273 v21 v23 k1_t31 k1_t39 k1_t43) a + S1x1x16.size a ≤ S4x8x128.size a := fun k1_t1 v21 v23 k1_hw2 k1_t31 k1_t39 k1_t43 => k1_hw2.2.2.2.2.2.2.2.2.2.1.2.2.2.2.2.2.2.2.2.2.2.2.2.2.2.2.2.2.2.2.2.2.2.1 k1_t31 k1_t39 k1_t43
theorem k1_off274_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t43 : Fin (k1_t43_loop v21 v23 k1_t31 k1_t39).trips), ∀ a, (k1_off274 v21 v23 k1_t31 k1_t39 k1_t43) a + S1x1x16.size a ≤ S4x8x128.size a := fun k1_t1 v21 v23 k1_hw2 k1_t31 k1_t39 k1_t43 => k1_hw2.2.2.2.2.2.2.2.2.2.1.2.2.2.2.2.2.2.2.2.2.2.2.2.2.2.2.2.2.2.2.2.2.2.2.1 k1_t31 k1_t39 k1_t43
theorem k1_off275_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t43 : Fin (k1_t43_loop v21 v23 k1_t31 k1_t39).trips), ∀ a, (k1_off275 v21 v23 k1_t31 k1_t39 k1_t43) a + S1x1x16.size a ≤ S4x8x128.size a := fun k1_t1 v21 v23 k1_hw2 k1_t31 k1_t39 k1_t43 => k1_hw2.2.2.2.2.2.2.2.2.2.1.2.2.2.2.2.2.2.2.2.2.2.2.2.2.2.2.2.2.2.2.2.2.2.2.2.1 k1_t31 k1_t39 k1_t43
theorem k1_off276_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t43 : Fin (k1_t43_loop v21 v23 k1_t31 k1_t39).trips), ∀ a, (k1_off276 v21 v23 k1_t31 k1_t39 k1_t43) a + S1x1x16.size a ≤ S4x8x128.size a := fun k1_t1 v21 v23 k1_hw2 k1_t31 k1_t39 k1_t43 => k1_hw2.2.2.2.2.2.2.2.2.2.1.2.2.2.2.2.2.2.2.2.2.2.2.2.2.2.2.2.2.2.2.2.2.2.2.2.2.1 k1_t31 k1_t39 k1_t43
theorem k1_off277_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t43 : Fin (k1_t43_loop v21 v23 k1_t31 k1_t39).trips), ∀ a, (k1_off277 v21 v23 k1_t31 k1_t39 k1_t43) a + S1x1x16.size a ≤ S4x8x128.size a := fun k1_t1 v21 v23 k1_hw2 k1_t31 k1_t39 k1_t43 => k1_hw2.2.2.2.2.2.2.2.2.2.1.2.2.2.2.2.2.2.2.2.2.2.2.2.2.2.2.2.2.2.2.2.2.2.2.2.2.2.1 k1_t31 k1_t39 k1_t43
theorem k1_off278_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t43 : Fin (k1_t43_loop v21 v23 k1_t31 k1_t39).trips), ∀ a, (k1_off278 v21 v23 k1_t31 k1_t39 k1_t43) a + S1x1x16.size a ≤ S4x8x128.size a := fun k1_t1 v21 v23 k1_hw2 k1_t31 k1_t39 k1_t43 => k1_hw2.2.2.2.2.2.2.2.2.2.1.2.2.2.2.2.2.2.2.2.2.2.2.2.2.2.2.2.2.2.2.2.2.2.2.2.2.2.2.1 k1_t31 k1_t39 k1_t43
theorem k1_t44_ok : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips), (k1_t44_loop v21 v23 k1_t31 k1_t39).OK := fun k1_t1 v21 v23 k1_hw2 k1_t31 k1_t39 => k1_hw2.2.2.2.2.2.2.2.2.2.1.2.2.2.2.2.2.2.2.2.2.2.2.2.2.2.2.2.2.2.2.2.2.2.2.2.2.2.2.2.1 k1_t31 k1_t39
theorem k1_off279_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t44 : Fin (k1_t44_loop v21 v23 k1_t31 k1_t39).trips), ∀ a, (k1_off279 v21 v23 k1_t31 k1_t39 k1_t44) a + S1x1x16.size a ≤ S4x8x128.size a := fun k1_t1 v21 v23 k1_hw2 k1_t31 k1_t39 k1_t44 => k1_hw2.2.2.2.2.2.2.2.2.2.1.2.2.2.2.2.2.2.2.2.2.2.2.2.2.2.2.2.2.2.2.2.2.2.2.2.2.2.2.2.2.1 k1_t31 k1_t39 k1_t44
theorem k1_off280_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t44 : Fin (k1_t44_loop v21 v23 k1_t31 k1_t39).trips), ∀ a, (k1_off280 v21 v23 k1_t31 k1_t39 k1_t44) a + S1x1x16.size a ≤ S4x8x128.size a := fun k1_t1 v21 v23 k1_hw2 k1_t31 k1_t39 k1_t44 => k1_hw2.2.2.2.2.2.2.2.2.2.1.2.2.2.2.2.2.2.2.2.2.2.2.2.2.2.2.2.2.2.2.2.2.2.2.2.2.2.2.2.2.2 k1_t31 k1_t39 k1_t44
theorem k1_off281_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t44 : Fin (k1_t44_loop v21 v23 k1_t31 k1_t39).trips), ∀ a, (k1_off281 v21 v23 k1_t31 k1_t39 k1_t44) a + S1x1x16.size a ≤ S4x8x128.size a := fun k1_t1 v21 v23 k1_hw2 k1_t31 k1_t39 k1_t44 => k1_hw2.2.2.2.2.2.2.2.2.2.2.1 k1_t31 k1_t39 k1_t44
theorem k1_off282_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t44 : Fin (k1_t44_loop v21 v23 k1_t31 k1_t39).trips), ∀ a, (k1_off282 v21 v23 k1_t31 k1_t39 k1_t44) a + S1x1x16.size a ≤ S4x8x128.size a := fun k1_t1 v21 v23 k1_hw2 k1_t31 k1_t39 k1_t44 => k1_hw2.2.2.2.2.2.2.2.2.2.2.2.1 k1_t31 k1_t39 k1_t44
theorem k1_off283_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t44 : Fin (k1_t44_loop v21 v23 k1_t31 k1_t39).trips), ∀ a, (k1_off283 v21 v23 k1_t31 k1_t39 k1_t44) a + S1x1x16.size a ≤ S4x8x128.size a := fun k1_t1 v21 v23 k1_hw2 k1_t31 k1_t39 k1_t44 => k1_hw2.2.2.2.2.2.2.2.2.2.2.2.2.1 k1_t31 k1_t39 k1_t44
theorem k1_off284_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t44 : Fin (k1_t44_loop v21 v23 k1_t31 k1_t39).trips), ∀ a, (k1_off284 v21 v23 k1_t31 k1_t39 k1_t44) a + S1x1x16.size a ≤ S4x8x128.size a := fun k1_t1 v21 v23 k1_hw2 k1_t31 k1_t39 k1_t44 => k1_hw2.2.2.2.2.2.2.2.2.2.2.2.2.2.1 k1_t31 k1_t39 k1_t44
theorem k1_off285_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t44 : Fin (k1_t44_loop v21 v23 k1_t31 k1_t39).trips), ∀ a, (k1_off285 v21 v23 k1_t31 k1_t39 k1_t44) a + S1x1x16.size a ≤ S4x8x128.size a := fun k1_t1 v21 v23 k1_hw2 k1_t31 k1_t39 k1_t44 => k1_hw2.2.2.2.2.2.2.2.2.2.2.2.2.2.2.1 k1_t31 k1_t39 k1_t44
theorem k1_off286_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t44 : Fin (k1_t44_loop v21 v23 k1_t31 k1_t39).trips), ∀ a, (k1_off286 v21 v23 k1_t31 k1_t39 k1_t44) a + S1x1x16.size a ≤ S4x8x128.size a := fun k1_t1 v21 v23 k1_hw2 k1_t31 k1_t39 k1_t44 => k1_hw2.2.2.2.2.2.2.2.2.2.2.2.2.2.2.2.1 k1_t31 k1_t39 k1_t44
theorem k1_t45_ok : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips), (k1_t45_loop v21 v23 k1_t31 k1_t39).OK := fun k1_t1 v21 v23 k1_hw2 k1_t31 k1_t39 => k1_hw2.2.2.2.2.2.2.2.2.2.2.2.2.2.2.2.2.1 k1_t31 k1_t39
theorem k1_off287_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t45 : Fin (k1_t45_loop v21 v23 k1_t31 k1_t39).trips), ∀ a, (k1_off287 v21 v23 k1_t31 k1_t39 k1_t45) a + S1x1x16.size a ≤ S4x8x128.size a := fun k1_t1 v21 v23 k1_hw2 k1_t31 k1_t39 k1_t45 => k1_hw2.2.2.2.2.2.2.2.2.2.2.2.2.2.2.2.2.2.1 k1_t31 k1_t39 k1_t45
theorem k1_off288_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t45 : Fin (k1_t45_loop v21 v23 k1_t31 k1_t39).trips), ∀ a, (k1_off288 v21 v23 k1_t31 k1_t39 k1_t45) a + S1x1x16.size a ≤ S4x8x128.size a := fun k1_t1 v21 v23 k1_hw2 k1_t31 k1_t39 k1_t45 => k1_hw2.2.2.2.2.2.2.2.2.2.2.2.2.2.2.2.2.2.2.1 k1_t31 k1_t39 k1_t45
theorem k1_off289_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t45 : Fin (k1_t45_loop v21 v23 k1_t31 k1_t39).trips), ∀ a, (k1_off289 v21 v23 k1_t31 k1_t39 k1_t45) a + S1x1x16.size a ≤ S4x8x128.size a := fun k1_t1 v21 v23 k1_hw2 k1_t31 k1_t39 k1_t45 => k1_hw2.2.2.2.2.2.2.2.2.2.2.2.2.2.2.2.2.2.2.2.1 k1_t31 k1_t39 k1_t45
theorem k1_off290_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t45 : Fin (k1_t45_loop v21 v23 k1_t31 k1_t39).trips), ∀ a, (k1_off290 v21 v23 k1_t31 k1_t39 k1_t45) a + S1x1x16.size a ≤ S4x8x128.size a := fun k1_t1 v21 v23 k1_hw2 k1_t31 k1_t39 k1_t45 => k1_hw2.2.2.2.2.2.2.2.2.2.2.2.2.2.2.2.2.2.2.2.2.1 k1_t31 k1_t39 k1_t45
theorem k1_off291_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t45 : Fin (k1_t45_loop v21 v23 k1_t31 k1_t39).trips), ∀ a, (k1_off291 v21 v23 k1_t31 k1_t39 k1_t45) a + S1x1x16.size a ≤ S4x8x128.size a := fun k1_t1 v21 v23 k1_hw2 k1_t31 k1_t39 k1_t45 => k1_hw2.2.2.2.2.2.2.2.2.2.2.2.2.2.2.2.2.2.2.2.2.2.1 k1_t31 k1_t39 k1_t45
theorem k1_off292_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t45 : Fin (k1_t45_loop v21 v23 k1_t31 k1_t39).trips), ∀ a, (k1_off292 v21 v23 k1_t31 k1_t39 k1_t45) a + S1x1x16.size a ≤ S4x8x128.size a := fun k1_t1 v21 v23 k1_hw2 k1_t31 k1_t39 k1_t45 => k1_hw2.2.2.2.2.2.2.2.2.2.2.2.2.2.2.2.2.2.2.2.2.2.2.1 k1_t31 k1_t39 k1_t45
theorem k1_off293_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t45 : Fin (k1_t45_loop v21 v23 k1_t31 k1_t39).trips), ∀ a, (k1_off293 v21 v23 k1_t31 k1_t39 k1_t45) a + S1x1x16.size a ≤ S4x8x128.size a := fun k1_t1 v21 v23 k1_hw2 k1_t31 k1_t39 k1_t45 => k1_hw2.2.2.2.2.2.2.2.2.2.2.2.2.2.2.2.2.2.2.2.2.2.2.2.1 k1_t31 k1_t39 k1_t45
theorem k1_off294_inb : ∀ (k1_t1 : Fin k1_t1_loop.trips) (v21 : BitVec 32) (v23 : BitVec 32) (k1_hw2 : k1_chk2 k1_t1 v21 v23) (k1_t31 : Fin (k1_t31_loop v21 v23).trips) (k1_t39 : Fin (k1_t39_loop v21 v23 k1_t31).trips) (k1_t45 : Fin (k1_t45_loop v21 v23 k1_t31 k1_t39).trips), ∀ a, (k1_off294 v21 v23 k1_t31 k1_t39 k1_t45) a + S1x1x16.size a ≤ S4x8x128.size a := fun k1_t1 v21 v23 k1_hw2 k1_t31 k1_t39 k1_t45 => k1_hw2.2.2.2.2.2.2.2.2.2.2.2.2.2.2.2.2.2.2.2.2.2.2.2.2 k1_t31 k1_t39 k1_t45

def k1_off295 (k1_t1 : Fin k1_t1_loop.trips) : Fin 1 → Nat :=
  let c2_i32_8 : BitVec 32 := 2#32
  let c0_i32_4 : BitVec 32 := 0#32
  let c1_i32 : BitVec 32 := 1#32
  let arg13 : BitVec 32 := Scf.iv c0_i32_4 c1_i32 k1_t1
  let v15 : BitVec 32 := Scalar.muli c2_i32_8 arg13
  let c16_i32_94 : BitVec 32 := 16#32
  let v295 : BitVec 32 := Scalar.muli v15 c16_i32_94
  let v296 : Index := Scalar.indexCast v295
  ![v296.toNat]
def k1_off296 (k1_t1 : Fin k1_t1_loop.trips) : Fin 1 → Nat :=
  let c2_i32_8 : BitVec 32 := 2#32
  let c0_i32_4 : BitVec 32 := 0#32
  let c1_i32 : BitVec 32 := 1#32
  let arg13 : BitVec 32 := Scf.iv c0_i32_4 c1_i32 k1_t1
  let v15 : BitVec 32 := Scalar.muli c2_i32_8 arg13
  let c1_i32_95 : BitVec 32 := 1#32
  let v300 : BitVec 32 := Scalar.addi v15 c1_i32_95
  let v303 : Index := Scalar.indexCast v300
  ![v303.toNat]
def k1_cond2 (k1_t1 : Fin k1_t1_loop.trips) : BitVec 1 :=
  let c2_i32_8 : BitVec 32 := 2#32
  let c0_i32_4 : BitVec 32 := 0#32
  let c1_i32 : BitVec 32 := 1#32
  let arg13 : BitVec 32 := Scf.iv c0_i32_4 c1_i32 k1_t1
  let v15 : BitVec 32 := Scalar.muli c2_i32_8 arg13
  let c1_i32_96 : BitVec 32 := 1#32
  let v301 : BitVec 32 := Scalar.addi v15 c1_i32_96
  let c31_i32_97 : BitVec 32 := 31#32
  let v302 : BitVec 1 := Scalar.cmpi .slt v301 c31_i32_97
  let v317 : BitVec 32 := Scalar.extui v302
  let c0_i32_103 : BitVec 32 := 0#32
  let v318 : BitVec 1 := Scalar.cmpi .ne v317 c0_i32_103
  v318

def k1_off297 (v309 : BitVec 32) : Fin 3 → Nat :=
  let c7_i32_193 : BitVec 32 := 7#32
  let v586 : BitVec 32 := Scalar.shrui v309 c7_i32_193
  let c0_i32_194 : BitVec 32 := 0#32
  let c0_i32_195 : BitVec 32 := 0#32
  ![v586.toNat, 0, 0]

@[reducible] def k1_t46_loop (v307 : BitVec 32) (v309 : BitVec 32) : Scf.Loop 32 :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_113 : BitVec 32 := 1#32
  ⟨c0_i32_111, v327, c1_i32_113⟩
@[reducible] def k1_t47_loop (v307 : BitVec 32) (v309 : BitVec 32) (k1_t46 : Fin (k1_t46_loop v307 v309).trips) : Scf.Loop 32 :=
  let c128_i32_194 : BitVec 32 := 128#32
  let c0_i32_193 : BitVec 32 := 0#32
  let c7_i32_98 : BitVec 32 := 7#32
  let v311 : BitVec 32 := Scalar.shrui v307 c7_i32_98
  let c0_i32_111 : BitVec 32 := 0#32
  let c1_i32_113 : BitVec 32 := 1#32
  let arg14 : BitVec 32 := Scf.iv c0_i32_111 c1_i32_113 k1_t46
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_200 : BitVec 32 := 1#32
  ⟨v595, v601, c1_i32_200⟩
def k1_off298 (v307 : BitVec 32) (v309 : BitVec 32) (k1_t46 : Fin (k1_t46_loop v307 v309).trips) (k1_t47 : Fin (k1_t47_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v623 : Index := Scalar.indexCast arg14
  let c0_i32_212 : BitVec 32 := 0#32
  let v624 : Index := Scalar.indexCast c0_i32_212
  let c16_i32_211 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t47
  let v622 : BitVec 32 := Scalar.muli c16_i32_211 arg23
  let v625 : Index := Scalar.indexCast v622
  ![v623.toNat, 0, v625.toNat]
def k1_off299 (v307 : BitVec 32) (v309 : BitVec 32) (k1_t46 : Fin (k1_t46_loop v307 v309).trips) (k1_t47 : Fin (k1_t47_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v630 : Index := Scalar.indexCast arg14
  let c1_i32_214 : BitVec 32 := 1#32
  let v631 : Index := Scalar.indexCast c1_i32_214
  let c16_i32_213 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t47
  let v629 : BitVec 32 := Scalar.muli c16_i32_213 arg23
  let v632 : Index := Scalar.indexCast v629
  ![v630.toNat, 1, v632.toNat]
def k1_off300 (v307 : BitVec 32) (v309 : BitVec 32) (k1_t46 : Fin (k1_t46_loop v307 v309).trips) (k1_t47 : Fin (k1_t47_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v637 : Index := Scalar.indexCast arg14
  let c2_i32_216 : BitVec 32 := 2#32
  let v638 : Index := Scalar.indexCast c2_i32_216
  let c16_i32_215 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t47
  let v636 : BitVec 32 := Scalar.muli c16_i32_215 arg23
  let v639 : Index := Scalar.indexCast v636
  ![v637.toNat, 2, v639.toNat]
def k1_off301 (v307 : BitVec 32) (v309 : BitVec 32) (k1_t46 : Fin (k1_t46_loop v307 v309).trips) (k1_t47 : Fin (k1_t47_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v644 : Index := Scalar.indexCast arg14
  let c3_i32_218 : BitVec 32 := 3#32
  let v645 : Index := Scalar.indexCast c3_i32_218
  let c16_i32_217 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t47
  let v643 : BitVec 32 := Scalar.muli c16_i32_217 arg23
  let v646 : Index := Scalar.indexCast v643
  ![v644.toNat, 3, v646.toNat]
def k1_off302 (v307 : BitVec 32) (v309 : BitVec 32) (k1_t46 : Fin (k1_t46_loop v307 v309).trips) (k1_t47 : Fin (k1_t47_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v651 : Index := Scalar.indexCast arg14
  let c4_i32_220 : BitVec 32 := 4#32
  let v652 : Index := Scalar.indexCast c4_i32_220
  let c16_i32_219 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t47
  let v650 : BitVec 32 := Scalar.muli c16_i32_219 arg23
  let v653 : Index := Scalar.indexCast v650
  ![v651.toNat, 4, v653.toNat]
def k1_off303 (v307 : BitVec 32) (v309 : BitVec 32) (k1_t46 : Fin (k1_t46_loop v307 v309).trips) (k1_t47 : Fin (k1_t47_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v658 : Index := Scalar.indexCast arg14
  let c5_i32_222 : BitVec 32 := 5#32
  let v659 : Index := Scalar.indexCast c5_i32_222
  let c16_i32_221 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t47
  let v657 : BitVec 32 := Scalar.muli c16_i32_221 arg23
  let v660 : Index := Scalar.indexCast v657
  ![v658.toNat, 5, v660.toNat]
def k1_off304 (v307 : BitVec 32) (v309 : BitVec 32) (k1_t46 : Fin (k1_t46_loop v307 v309).trips) (k1_t47 : Fin (k1_t47_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v665 : Index := Scalar.indexCast arg14
  let c6_i32_224 : BitVec 32 := 6#32
  let v666 : Index := Scalar.indexCast c6_i32_224
  let c16_i32_223 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t47
  let v664 : BitVec 32 := Scalar.muli c16_i32_223 arg23
  let v667 : Index := Scalar.indexCast v664
  ![v665.toNat, 6, v667.toNat]
def k1_off305 (v307 : BitVec 32) (v309 : BitVec 32) (k1_t46 : Fin (k1_t46_loop v307 v309).trips) (k1_t47 : Fin (k1_t47_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v672 : Index := Scalar.indexCast arg14
  let c7_i32_226 : BitVec 32 := 7#32
  let v673 : Index := Scalar.indexCast c7_i32_226
  let c16_i32_225 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t47
  let v671 : BitVec 32 := Scalar.muli c16_i32_225 arg23
  let v674 : Index := Scalar.indexCast v671
  ![v672.toNat, 7, v674.toNat]
@[reducible] def k1_t48_loop (v307 : BitVec 32) (v309 : BitVec 32) (k1_t46 : Fin (k1_t46_loop v307 v309).trips) : Scf.Loop 32 :=
  let c128_i32_194 : BitVec 32 := 128#32
  let c0_i32_193 : BitVec 32 := 0#32
  let c7_i32_98 : BitVec 32 := 7#32
  let v311 : BitVec 32 := Scalar.shrui v307 c7_i32_98
  let c0_i32_111 : BitVec 32 := 0#32
  let c1_i32_113 : BitVec 32 := 1#32
  let arg14 : BitVec 32 := Scf.iv c0_i32_111 c1_i32_113 k1_t46
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let v598 : BitVec 32 := Scalar.addi v595 v597
  let c1_i32_201 : BitVec 32 := 1#32
  ⟨v601, v598, c1_i32_201⟩
def k1_off306 (v307 : BitVec 32) (v309 : BitVec 32) (k1_t46 : Fin (k1_t46_loop v307 v309).trips) (k1_t48 : Fin (k1_t48_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v623 : Index := Scalar.indexCast arg14
  let c0_i32_212 : BitVec 32 := 0#32
  let v624 : Index := Scalar.indexCast c0_i32_212
  let c16_i32_211 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t48
  let v622 : BitVec 32 := Scalar.muli c16_i32_211 arg23
  let v625 : Index := Scalar.indexCast v622
  ![v623.toNat, 0, v625.toNat]
def k1_off307 (v307 : BitVec 32) (v309 : BitVec 32) (k1_t46 : Fin (k1_t46_loop v307 v309).trips) (k1_t48 : Fin (k1_t48_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v630 : Index := Scalar.indexCast arg14
  let c1_i32_214 : BitVec 32 := 1#32
  let v631 : Index := Scalar.indexCast c1_i32_214
  let c16_i32_213 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t48
  let v629 : BitVec 32 := Scalar.muli c16_i32_213 arg23
  let v632 : Index := Scalar.indexCast v629
  ![v630.toNat, 1, v632.toNat]
def k1_off308 (v307 : BitVec 32) (v309 : BitVec 32) (k1_t46 : Fin (k1_t46_loop v307 v309).trips) (k1_t48 : Fin (k1_t48_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v637 : Index := Scalar.indexCast arg14
  let c2_i32_216 : BitVec 32 := 2#32
  let v638 : Index := Scalar.indexCast c2_i32_216
  let c16_i32_215 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t48
  let v636 : BitVec 32 := Scalar.muli c16_i32_215 arg23
  let v639 : Index := Scalar.indexCast v636
  ![v637.toNat, 2, v639.toNat]
def k1_off309 (v307 : BitVec 32) (v309 : BitVec 32) (k1_t46 : Fin (k1_t46_loop v307 v309).trips) (k1_t48 : Fin (k1_t48_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v644 : Index := Scalar.indexCast arg14
  let c3_i32_218 : BitVec 32 := 3#32
  let v645 : Index := Scalar.indexCast c3_i32_218
  let c16_i32_217 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t48
  let v643 : BitVec 32 := Scalar.muli c16_i32_217 arg23
  let v646 : Index := Scalar.indexCast v643
  ![v644.toNat, 3, v646.toNat]
def k1_off310 (v307 : BitVec 32) (v309 : BitVec 32) (k1_t46 : Fin (k1_t46_loop v307 v309).trips) (k1_t48 : Fin (k1_t48_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v651 : Index := Scalar.indexCast arg14
  let c4_i32_220 : BitVec 32 := 4#32
  let v652 : Index := Scalar.indexCast c4_i32_220
  let c16_i32_219 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t48
  let v650 : BitVec 32 := Scalar.muli c16_i32_219 arg23
  let v653 : Index := Scalar.indexCast v650
  ![v651.toNat, 4, v653.toNat]
def k1_off311 (v307 : BitVec 32) (v309 : BitVec 32) (k1_t46 : Fin (k1_t46_loop v307 v309).trips) (k1_t48 : Fin (k1_t48_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v658 : Index := Scalar.indexCast arg14
  let c5_i32_222 : BitVec 32 := 5#32
  let v659 : Index := Scalar.indexCast c5_i32_222
  let c16_i32_221 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t48
  let v657 : BitVec 32 := Scalar.muli c16_i32_221 arg23
  let v660 : Index := Scalar.indexCast v657
  ![v658.toNat, 5, v660.toNat]
def k1_off312 (v307 : BitVec 32) (v309 : BitVec 32) (k1_t46 : Fin (k1_t46_loop v307 v309).trips) (k1_t48 : Fin (k1_t48_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v665 : Index := Scalar.indexCast arg14
  let c6_i32_224 : BitVec 32 := 6#32
  let v666 : Index := Scalar.indexCast c6_i32_224
  let c16_i32_223 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t48
  let v664 : BitVec 32 := Scalar.muli c16_i32_223 arg23
  let v667 : Index := Scalar.indexCast v664
  ![v665.toNat, 6, v667.toNat]
def k1_off313 (v307 : BitVec 32) (v309 : BitVec 32) (k1_t46 : Fin (k1_t46_loop v307 v309).trips) (k1_t48 : Fin (k1_t48_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v672 : Index := Scalar.indexCast arg14
  let c7_i32_226 : BitVec 32 := 7#32
  let v673 : Index := Scalar.indexCast c7_i32_226
  let c16_i32_225 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t48
  let v671 : BitVec 32 := Scalar.muli c16_i32_225 arg23
  let v674 : Index := Scalar.indexCast v671
  ![v672.toNat, 7, v674.toNat]
@[reducible] def k1_t49_loop (v307 : BitVec 32) (v309 : BitVec 32) (k1_t46 : Fin (k1_t46_loop v307 v309).trips) : Scf.Loop 32 :=
  let c128_i32_194 : BitVec 32 := 128#32
  let c0_i32_193 : BitVec 32 := 0#32
  let c7_i32_98 : BitVec 32 := 7#32
  let v311 : BitVec 32 := Scalar.shrui v307 c7_i32_98
  let c0_i32_111 : BitVec 32 := 0#32
  let c1_i32_113 : BitVec 32 := 1#32
  let arg14 : BitVec 32 := Scf.iv c0_i32_111 c1_i32_113 k1_t46
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_204 : BitVec 32 := 1#32
  ⟨v604, v609, c1_i32_204⟩
def k1_off314 (v307 : BitVec 32) (v309 : BitVec 32) (k1_t46 : Fin (k1_t46_loop v307 v309).trips) (k1_t49 : Fin (k1_t49_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v632 : Index := Scalar.indexCast arg14
  let c0_i32_213 : BitVec 32 := 0#32
  let v633 : Index := Scalar.indexCast c0_i32_213
  let c16_i32_212 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t49
  let v631 : BitVec 32 := Scalar.muli c16_i32_212 arg23
  let v634 : Index := Scalar.indexCast v631
  ![v632.toNat, 0, v634.toNat]
def k1_off315 (v307 : BitVec 32) (v309 : BitVec 32) (k1_t46 : Fin (k1_t46_loop v307 v309).trips) (k1_t49 : Fin (k1_t49_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v640 : Index := Scalar.indexCast arg14
  let c1_i32_215 : BitVec 32 := 1#32
  let v641 : Index := Scalar.indexCast c1_i32_215
  let c16_i32_214 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t49
  let v639 : BitVec 32 := Scalar.muli c16_i32_214 arg23
  let v642 : Index := Scalar.indexCast v639
  ![v640.toNat, 1, v642.toNat]
def k1_off316 (v307 : BitVec 32) (v309 : BitVec 32) (k1_t46 : Fin (k1_t46_loop v307 v309).trips) (k1_t49 : Fin (k1_t49_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v648 : Index := Scalar.indexCast arg14
  let c2_i32_217 : BitVec 32 := 2#32
  let v649 : Index := Scalar.indexCast c2_i32_217
  let c16_i32_216 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t49
  let v647 : BitVec 32 := Scalar.muli c16_i32_216 arg23
  let v650 : Index := Scalar.indexCast v647
  ![v648.toNat, 2, v650.toNat]
def k1_off317 (v307 : BitVec 32) (v309 : BitVec 32) (k1_t46 : Fin (k1_t46_loop v307 v309).trips) (k1_t49 : Fin (k1_t49_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v656 : Index := Scalar.indexCast arg14
  let c3_i32_219 : BitVec 32 := 3#32
  let v657 : Index := Scalar.indexCast c3_i32_219
  let c16_i32_218 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t49
  let v655 : BitVec 32 := Scalar.muli c16_i32_218 arg23
  let v658 : Index := Scalar.indexCast v655
  ![v656.toNat, 3, v658.toNat]
def k1_off318 (v307 : BitVec 32) (v309 : BitVec 32) (k1_t46 : Fin (k1_t46_loop v307 v309).trips) (k1_t49 : Fin (k1_t49_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v664 : Index := Scalar.indexCast arg14
  let c4_i32_221 : BitVec 32 := 4#32
  let v665 : Index := Scalar.indexCast c4_i32_221
  let c16_i32_220 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t49
  let v663 : BitVec 32 := Scalar.muli c16_i32_220 arg23
  let v666 : Index := Scalar.indexCast v663
  ![v664.toNat, 4, v666.toNat]
def k1_off319 (v307 : BitVec 32) (v309 : BitVec 32) (k1_t46 : Fin (k1_t46_loop v307 v309).trips) (k1_t49 : Fin (k1_t49_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v672 : Index := Scalar.indexCast arg14
  let c5_i32_223 : BitVec 32 := 5#32
  let v673 : Index := Scalar.indexCast c5_i32_223
  let c16_i32_222 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t49
  let v671 : BitVec 32 := Scalar.muli c16_i32_222 arg23
  let v674 : Index := Scalar.indexCast v671
  ![v672.toNat, 5, v674.toNat]
def k1_off320 (v307 : BitVec 32) (v309 : BitVec 32) (k1_t46 : Fin (k1_t46_loop v307 v309).trips) (k1_t49 : Fin (k1_t49_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v680 : Index := Scalar.indexCast arg14
  let c6_i32_225 : BitVec 32 := 6#32
  let v681 : Index := Scalar.indexCast c6_i32_225
  let c16_i32_224 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t49
  let v679 : BitVec 32 := Scalar.muli c16_i32_224 arg23
  let v682 : Index := Scalar.indexCast v679
  ![v680.toNat, 6, v682.toNat]
def k1_off321 (v307 : BitVec 32) (v309 : BitVec 32) (k1_t46 : Fin (k1_t46_loop v307 v309).trips) (k1_t49 : Fin (k1_t49_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v688 : Index := Scalar.indexCast arg14
  let c7_i32_227 : BitVec 32 := 7#32
  let v689 : Index := Scalar.indexCast c7_i32_227
  let c16_i32_226 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t49
  let v687 : BitVec 32 := Scalar.muli c16_i32_226 arg23
  let v690 : Index := Scalar.indexCast v687
  ![v688.toNat, 7, v690.toNat]
@[reducible] def k1_t50_loop (v307 : BitVec 32) (v309 : BitVec 32) (k1_t46 : Fin (k1_t46_loop v307 v309).trips) : Scf.Loop 32 :=
  let c128_i32_194 : BitVec 32 := 128#32
  let c0_i32_193 : BitVec 32 := 0#32
  let c7_i32_98 : BitVec 32 := 7#32
  let v311 : BitVec 32 := Scalar.shrui v307 c7_i32_98
  let c0_i32_111 : BitVec 32 := 0#32
  let c1_i32_113 : BitVec 32 := 1#32
  let arg14 : BitVec 32 := Scf.iv c0_i32_111 c1_i32_113 k1_t46
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let v606 : BitVec 32 := Scalar.addi v604 v605
  let c1_i32_205 : BitVec 32 := 1#32
  ⟨v609, v606, c1_i32_205⟩
def k1_off322 (v307 : BitVec 32) (v309 : BitVec 32) (k1_t46 : Fin (k1_t46_loop v307 v309).trips) (k1_t50 : Fin (k1_t50_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v632 : Index := Scalar.indexCast arg14
  let c0_i32_213 : BitVec 32 := 0#32
  let v633 : Index := Scalar.indexCast c0_i32_213
  let c16_i32_212 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t50
  let v631 : BitVec 32 := Scalar.muli c16_i32_212 arg23
  let v634 : Index := Scalar.indexCast v631
  ![v632.toNat, 0, v634.toNat]
def k1_off323 (v307 : BitVec 32) (v309 : BitVec 32) (k1_t46 : Fin (k1_t46_loop v307 v309).trips) (k1_t50 : Fin (k1_t50_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v640 : Index := Scalar.indexCast arg14
  let c1_i32_215 : BitVec 32 := 1#32
  let v641 : Index := Scalar.indexCast c1_i32_215
  let c16_i32_214 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t50
  let v639 : BitVec 32 := Scalar.muli c16_i32_214 arg23
  let v642 : Index := Scalar.indexCast v639
  ![v640.toNat, 1, v642.toNat]
def k1_off324 (v307 : BitVec 32) (v309 : BitVec 32) (k1_t46 : Fin (k1_t46_loop v307 v309).trips) (k1_t50 : Fin (k1_t50_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v648 : Index := Scalar.indexCast arg14
  let c2_i32_217 : BitVec 32 := 2#32
  let v649 : Index := Scalar.indexCast c2_i32_217
  let c16_i32_216 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t50
  let v647 : BitVec 32 := Scalar.muli c16_i32_216 arg23
  let v650 : Index := Scalar.indexCast v647
  ![v648.toNat, 2, v650.toNat]
def k1_off325 (v307 : BitVec 32) (v309 : BitVec 32) (k1_t46 : Fin (k1_t46_loop v307 v309).trips) (k1_t50 : Fin (k1_t50_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v656 : Index := Scalar.indexCast arg14
  let c3_i32_219 : BitVec 32 := 3#32
  let v657 : Index := Scalar.indexCast c3_i32_219
  let c16_i32_218 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t50
  let v655 : BitVec 32 := Scalar.muli c16_i32_218 arg23
  let v658 : Index := Scalar.indexCast v655
  ![v656.toNat, 3, v658.toNat]
def k1_off326 (v307 : BitVec 32) (v309 : BitVec 32) (k1_t46 : Fin (k1_t46_loop v307 v309).trips) (k1_t50 : Fin (k1_t50_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v664 : Index := Scalar.indexCast arg14
  let c4_i32_221 : BitVec 32 := 4#32
  let v665 : Index := Scalar.indexCast c4_i32_221
  let c16_i32_220 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t50
  let v663 : BitVec 32 := Scalar.muli c16_i32_220 arg23
  let v666 : Index := Scalar.indexCast v663
  ![v664.toNat, 4, v666.toNat]
def k1_off327 (v307 : BitVec 32) (v309 : BitVec 32) (k1_t46 : Fin (k1_t46_loop v307 v309).trips) (k1_t50 : Fin (k1_t50_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v672 : Index := Scalar.indexCast arg14
  let c5_i32_223 : BitVec 32 := 5#32
  let v673 : Index := Scalar.indexCast c5_i32_223
  let c16_i32_222 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t50
  let v671 : BitVec 32 := Scalar.muli c16_i32_222 arg23
  let v674 : Index := Scalar.indexCast v671
  ![v672.toNat, 5, v674.toNat]
def k1_off328 (v307 : BitVec 32) (v309 : BitVec 32) (k1_t46 : Fin (k1_t46_loop v307 v309).trips) (k1_t50 : Fin (k1_t50_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v680 : Index := Scalar.indexCast arg14
  let c6_i32_225 : BitVec 32 := 6#32
  let v681 : Index := Scalar.indexCast c6_i32_225
  let c16_i32_224 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t50
  let v679 : BitVec 32 := Scalar.muli c16_i32_224 arg23
  let v682 : Index := Scalar.indexCast v679
  ![v680.toNat, 6, v682.toNat]
def k1_off329 (v307 : BitVec 32) (v309 : BitVec 32) (k1_t46 : Fin (k1_t46_loop v307 v309).trips) (k1_t50 : Fin (k1_t50_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v688 : Index := Scalar.indexCast arg14
  let c7_i32_227 : BitVec 32 := 7#32
  let v689 : Index := Scalar.indexCast c7_i32_227
  let c16_i32_226 : BitVec 32 := 16#32
  let c128_i32_194 : BitVec 32 := 128#32
  let c0_i32_193 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t50
  let v687 : BitVec 32 := Scalar.muli c16_i32_226 arg23
  let v690 : Index := Scalar.indexCast v687
  ![v688.toNat, 7, v690.toNat]
@[reducible] def k1_t51_loop (v307 : BitVec 32) (v309 : BitVec 32) (k1_t46 : Fin (k1_t46_loop v307 v309).trips) : Scf.Loop 32 :=
  let c128_i32_196 : BitVec 32 := 128#32
  let c0_i32_195 : BitVec 32 := 0#32
  let c7_i32_98 : BitVec 32 := 7#32
  let v311 : BitVec 32 := Scalar.shrui v307 c7_i32_98
  let c0_i32_111 : BitVec 32 := 0#32
  let c1_i32_113 : BitVec 32 := 1#32
  let arg14 : BitVec 32 := Scf.iv c0_i32_111 c1_i32_113 k1_t46
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_209 : BitVec 32 := 1#32
  ⟨v612, v619, c1_i32_209⟩
def k1_off330 (v307 : BitVec 32) (v309 : BitVec 32) (k1_t46 : Fin (k1_t46_loop v307 v309).trips) (k1_t51 : Fin (k1_t51_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v632 : Index := Scalar.indexCast arg14
  let c0_i32_213 : BitVec 32 := 0#32
  let v633 : Index := Scalar.indexCast c0_i32_213
  let c16_i32_212 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t51
  let v631 : BitVec 32 := Scalar.muli c16_i32_212 arg23
  let v634 : Index := Scalar.indexCast v631
  ![v632.toNat, 0, v634.toNat]
def k1_off331 (v307 : BitVec 32) (v309 : BitVec 32) (k1_t46 : Fin (k1_t46_loop v307 v309).trips) (k1_t51 : Fin (k1_t51_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v640 : Index := Scalar.indexCast arg14
  let c1_i32_215 : BitVec 32 := 1#32
  let v641 : Index := Scalar.indexCast c1_i32_215
  let c16_i32_214 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t51
  let v639 : BitVec 32 := Scalar.muli c16_i32_214 arg23
  let v642 : Index := Scalar.indexCast v639
  ![v640.toNat, 1, v642.toNat]
def k1_off332 (v307 : BitVec 32) (v309 : BitVec 32) (k1_t46 : Fin (k1_t46_loop v307 v309).trips) (k1_t51 : Fin (k1_t51_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v648 : Index := Scalar.indexCast arg14
  let c2_i32_217 : BitVec 32 := 2#32
  let v649 : Index := Scalar.indexCast c2_i32_217
  let c16_i32_216 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t51
  let v647 : BitVec 32 := Scalar.muli c16_i32_216 arg23
  let v650 : Index := Scalar.indexCast v647
  ![v648.toNat, 2, v650.toNat]
def k1_off333 (v307 : BitVec 32) (v309 : BitVec 32) (k1_t46 : Fin (k1_t46_loop v307 v309).trips) (k1_t51 : Fin (k1_t51_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v656 : Index := Scalar.indexCast arg14
  let c3_i32_219 : BitVec 32 := 3#32
  let v657 : Index := Scalar.indexCast c3_i32_219
  let c16_i32_218 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t51
  let v655 : BitVec 32 := Scalar.muli c16_i32_218 arg23
  let v658 : Index := Scalar.indexCast v655
  ![v656.toNat, 3, v658.toNat]
def k1_off334 (v307 : BitVec 32) (v309 : BitVec 32) (k1_t46 : Fin (k1_t46_loop v307 v309).trips) (k1_t51 : Fin (k1_t51_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v664 : Index := Scalar.indexCast arg14
  let c4_i32_221 : BitVec 32 := 4#32
  let v665 : Index := Scalar.indexCast c4_i32_221
  let c16_i32_220 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t51
  let v663 : BitVec 32 := Scalar.muli c16_i32_220 arg23
  let v666 : Index := Scalar.indexCast v663
  ![v664.toNat, 4, v666.toNat]
def k1_off335 (v307 : BitVec 32) (v309 : BitVec 32) (k1_t46 : Fin (k1_t46_loop v307 v309).trips) (k1_t51 : Fin (k1_t51_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v672 : Index := Scalar.indexCast arg14
  let c5_i32_223 : BitVec 32 := 5#32
  let v673 : Index := Scalar.indexCast c5_i32_223
  let c16_i32_222 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t51
  let v671 : BitVec 32 := Scalar.muli c16_i32_222 arg23
  let v674 : Index := Scalar.indexCast v671
  ![v672.toNat, 5, v674.toNat]
def k1_off336 (v307 : BitVec 32) (v309 : BitVec 32) (k1_t46 : Fin (k1_t46_loop v307 v309).trips) (k1_t51 : Fin (k1_t51_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v680 : Index := Scalar.indexCast arg14
  let c6_i32_225 : BitVec 32 := 6#32
  let v681 : Index := Scalar.indexCast c6_i32_225
  let c16_i32_224 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t51
  let v679 : BitVec 32 := Scalar.muli c16_i32_224 arg23
  let v682 : Index := Scalar.indexCast v679
  ![v680.toNat, 6, v682.toNat]
def k1_off337 (v307 : BitVec 32) (v309 : BitVec 32) (k1_t46 : Fin (k1_t46_loop v307 v309).trips) (k1_t51 : Fin (k1_t51_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v688 : Index := Scalar.indexCast arg14
  let c7_i32_227 : BitVec 32 := 7#32
  let v689 : Index := Scalar.indexCast c7_i32_227
  let c16_i32_226 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t51
  let v687 : BitVec 32 := Scalar.muli c16_i32_226 arg23
  let v690 : Index := Scalar.indexCast v687
  ![v688.toNat, 7, v690.toNat]
@[reducible] def k1_t52_loop (v307 : BitVec 32) (v309 : BitVec 32) (k1_t46 : Fin (k1_t46_loop v307 v309).trips) : Scf.Loop 32 :=
  let c128_i32_196 : BitVec 32 := 128#32
  let c0_i32_195 : BitVec 32 := 0#32
  let c7_i32_98 : BitVec 32 := 7#32
  let v311 : BitVec 32 := Scalar.shrui v307 c7_i32_98
  let c0_i32_111 : BitVec 32 := 0#32
  let c1_i32_113 : BitVec 32 := 1#32
  let arg14 : BitVec 32 := Scf.iv c0_i32_111 c1_i32_113 k1_t46
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let v616 : BitVec 32 := Scalar.addi v612 v615
  let c1_i32_210 : BitVec 32 := 1#32
  ⟨v619, v616, c1_i32_210⟩
def k1_off338 (v307 : BitVec 32) (v309 : BitVec 32) (k1_t46 : Fin (k1_t46_loop v307 v309).trips) (k1_t52 : Fin (k1_t52_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v632 : Index := Scalar.indexCast arg14
  let c0_i32_213 : BitVec 32 := 0#32
  let v633 : Index := Scalar.indexCast c0_i32_213
  let c16_i32_212 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t52
  let v631 : BitVec 32 := Scalar.muli c16_i32_212 arg23
  let v634 : Index := Scalar.indexCast v631
  ![v632.toNat, 0, v634.toNat]
def k1_off339 (v307 : BitVec 32) (v309 : BitVec 32) (k1_t46 : Fin (k1_t46_loop v307 v309).trips) (k1_t52 : Fin (k1_t52_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v640 : Index := Scalar.indexCast arg14
  let c1_i32_215 : BitVec 32 := 1#32
  let v641 : Index := Scalar.indexCast c1_i32_215
  let c16_i32_214 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t52
  let v639 : BitVec 32 := Scalar.muli c16_i32_214 arg23
  let v642 : Index := Scalar.indexCast v639
  ![v640.toNat, 1, v642.toNat]
def k1_off340 (v307 : BitVec 32) (v309 : BitVec 32) (k1_t46 : Fin (k1_t46_loop v307 v309).trips) (k1_t52 : Fin (k1_t52_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v648 : Index := Scalar.indexCast arg14
  let c2_i32_217 : BitVec 32 := 2#32
  let v649 : Index := Scalar.indexCast c2_i32_217
  let c16_i32_216 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t52
  let v647 : BitVec 32 := Scalar.muli c16_i32_216 arg23
  let v650 : Index := Scalar.indexCast v647
  ![v648.toNat, 2, v650.toNat]
def k1_off341 (v307 : BitVec 32) (v309 : BitVec 32) (k1_t46 : Fin (k1_t46_loop v307 v309).trips) (k1_t52 : Fin (k1_t52_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v656 : Index := Scalar.indexCast arg14
  let c3_i32_219 : BitVec 32 := 3#32
  let v657 : Index := Scalar.indexCast c3_i32_219
  let c16_i32_218 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t52
  let v655 : BitVec 32 := Scalar.muli c16_i32_218 arg23
  let v658 : Index := Scalar.indexCast v655
  ![v656.toNat, 3, v658.toNat]
def k1_off342 (v307 : BitVec 32) (v309 : BitVec 32) (k1_t46 : Fin (k1_t46_loop v307 v309).trips) (k1_t52 : Fin (k1_t52_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v664 : Index := Scalar.indexCast arg14
  let c4_i32_221 : BitVec 32 := 4#32
  let v665 : Index := Scalar.indexCast c4_i32_221
  let c16_i32_220 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t52
  let v663 : BitVec 32 := Scalar.muli c16_i32_220 arg23
  let v666 : Index := Scalar.indexCast v663
  ![v664.toNat, 4, v666.toNat]
def k1_off343 (v307 : BitVec 32) (v309 : BitVec 32) (k1_t46 : Fin (k1_t46_loop v307 v309).trips) (k1_t52 : Fin (k1_t52_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v672 : Index := Scalar.indexCast arg14
  let c5_i32_223 : BitVec 32 := 5#32
  let v673 : Index := Scalar.indexCast c5_i32_223
  let c16_i32_222 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t52
  let v671 : BitVec 32 := Scalar.muli c16_i32_222 arg23
  let v674 : Index := Scalar.indexCast v671
  ![v672.toNat, 5, v674.toNat]
def k1_off344 (v307 : BitVec 32) (v309 : BitVec 32) (k1_t46 : Fin (k1_t46_loop v307 v309).trips) (k1_t52 : Fin (k1_t52_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v680 : Index := Scalar.indexCast arg14
  let c6_i32_225 : BitVec 32 := 6#32
  let v681 : Index := Scalar.indexCast c6_i32_225
  let c16_i32_224 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t52
  let v679 : BitVec 32 := Scalar.muli c16_i32_224 arg23
  let v682 : Index := Scalar.indexCast v679
  ![v680.toNat, 6, v682.toNat]
def k1_off345 (v307 : BitVec 32) (v309 : BitVec 32) (k1_t46 : Fin (k1_t46_loop v307 v309).trips) (k1_t52 : Fin (k1_t52_loop v307 v309 k1_t46).trips) : Fin 3 → Nat :=
  let c0_i32_111 : BitVec 32 := 0#32
  let c1_i32_113 : BitVec 32 := 1#32
  let arg14 : BitVec 32 := Scf.iv c0_i32_111 c1_i32_113 k1_t46
  let v688 : Index := Scalar.indexCast arg14
  let c7_i32_227 : BitVec 32 := 7#32
  let v689 : Index := Scalar.indexCast c7_i32_227
  let c16_i32_226 : BitVec 32 := 16#32
  let c128_i32_196 : BitVec 32 := 128#32
  let c0_i32_195 : BitVec 32 := 0#32
  let c7_i32_98 : BitVec 32 := 7#32
  let v311 : BitVec 32 := Scalar.shrui v307 c7_i32_98
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t52
  let v687 : BitVec 32 := Scalar.muli c16_i32_226 arg23
  let v690 : Index := Scalar.indexCast v687
  ![v688.toNat, 7, v690.toNat]
@[reducible] def k1_t53_loop (v307 : BitVec 32) (v309 : BitVec 32) : Scf.Loop 32 :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let v324 : BitVec 32 := Scalar.addi c0_i32_111 v323
  let c1_i32_114 : BitVec 32 := 1#32
  ⟨v327, v324, c1_i32_114⟩
@[reducible] def k1_t54_loop (v307 : BitVec 32) (v309 : BitVec 32) (k1_t53 : Fin (k1_t53_loop v307 v309).trips) : Scf.Loop 32 :=
  let c128_i32_194 : BitVec 32 := 128#32
  let c0_i32_193 : BitVec 32 := 0#32
  let c7_i32_98 : BitVec 32 := 7#32
  let v311 : BitVec 32 := Scalar.shrui v307 c7_i32_98
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_200 : BitVec 32 := 1#32
  ⟨v595, v601, c1_i32_200⟩
def k1_off346 (v307 : BitVec 32) (v309 : BitVec 32) (k1_t53 : Fin (k1_t53_loop v307 v309).trips) (k1_t54 : Fin (k1_t54_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v623 : Index := Scalar.indexCast arg14
  let c0_i32_212 : BitVec 32 := 0#32
  let v624 : Index := Scalar.indexCast c0_i32_212
  let c16_i32_211 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t54
  let v622 : BitVec 32 := Scalar.muli c16_i32_211 arg23
  let v625 : Index := Scalar.indexCast v622
  ![v623.toNat, 0, v625.toNat]
def k1_off347 (v307 : BitVec 32) (v309 : BitVec 32) (k1_t53 : Fin (k1_t53_loop v307 v309).trips) (k1_t54 : Fin (k1_t54_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v630 : Index := Scalar.indexCast arg14
  let c1_i32_214 : BitVec 32 := 1#32
  let v631 : Index := Scalar.indexCast c1_i32_214
  let c16_i32_213 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t54
  let v629 : BitVec 32 := Scalar.muli c16_i32_213 arg23
  let v632 : Index := Scalar.indexCast v629
  ![v630.toNat, 1, v632.toNat]
def k1_off348 (v307 : BitVec 32) (v309 : BitVec 32) (k1_t53 : Fin (k1_t53_loop v307 v309).trips) (k1_t54 : Fin (k1_t54_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v637 : Index := Scalar.indexCast arg14
  let c2_i32_216 : BitVec 32 := 2#32
  let v638 : Index := Scalar.indexCast c2_i32_216
  let c16_i32_215 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t54
  let v636 : BitVec 32 := Scalar.muli c16_i32_215 arg23
  let v639 : Index := Scalar.indexCast v636
  ![v637.toNat, 2, v639.toNat]
def k1_off349 (v307 : BitVec 32) (v309 : BitVec 32) (k1_t53 : Fin (k1_t53_loop v307 v309).trips) (k1_t54 : Fin (k1_t54_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v644 : Index := Scalar.indexCast arg14
  let c3_i32_218 : BitVec 32 := 3#32
  let v645 : Index := Scalar.indexCast c3_i32_218
  let c16_i32_217 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t54
  let v643 : BitVec 32 := Scalar.muli c16_i32_217 arg23
  let v646 : Index := Scalar.indexCast v643
  ![v644.toNat, 3, v646.toNat]
def k1_off350 (v307 : BitVec 32) (v309 : BitVec 32) (k1_t53 : Fin (k1_t53_loop v307 v309).trips) (k1_t54 : Fin (k1_t54_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v651 : Index := Scalar.indexCast arg14
  let c4_i32_220 : BitVec 32 := 4#32
  let v652 : Index := Scalar.indexCast c4_i32_220
  let c16_i32_219 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t54
  let v650 : BitVec 32 := Scalar.muli c16_i32_219 arg23
  let v653 : Index := Scalar.indexCast v650
  ![v651.toNat, 4, v653.toNat]
def k1_off351 (v307 : BitVec 32) (v309 : BitVec 32) (k1_t53 : Fin (k1_t53_loop v307 v309).trips) (k1_t54 : Fin (k1_t54_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v658 : Index := Scalar.indexCast arg14
  let c5_i32_222 : BitVec 32 := 5#32
  let v659 : Index := Scalar.indexCast c5_i32_222
  let c16_i32_221 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t54
  let v657 : BitVec 32 := Scalar.muli c16_i32_221 arg23
  let v660 : Index := Scalar.indexCast v657
  ![v658.toNat, 5, v660.toNat]
def k1_off352 (v307 : BitVec 32) (v309 : BitVec 32) (k1_t53 : Fin (k1_t53_loop v307 v309).trips) (k1_t54 : Fin (k1_t54_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v665 : Index := Scalar.indexCast arg14
  let c6_i32_224 : BitVec 32 := 6#32
  let v666 : Index := Scalar.indexCast c6_i32_224
  let c16_i32_223 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t54
  let v664 : BitVec 32 := Scalar.muli c16_i32_223 arg23
  let v667 : Index := Scalar.indexCast v664
  ![v665.toNat, 6, v667.toNat]
def k1_off353 (v307 : BitVec 32) (v309 : BitVec 32) (k1_t53 : Fin (k1_t53_loop v307 v309).trips) (k1_t54 : Fin (k1_t54_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v672 : Index := Scalar.indexCast arg14
  let c7_i32_226 : BitVec 32 := 7#32
  let v673 : Index := Scalar.indexCast c7_i32_226
  let c16_i32_225 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c1_i32_200 : BitVec 32 := 1#32
  let arg23 : BitVec 32 := Scf.iv v595 c1_i32_200 k1_t54
  let v671 : BitVec 32 := Scalar.muli c16_i32_225 arg23
  let v674 : Index := Scalar.indexCast v671
  ![v672.toNat, 7, v674.toNat]
@[reducible] def k1_t55_loop (v307 : BitVec 32) (v309 : BitVec 32) (k1_t53 : Fin (k1_t53_loop v307 v309).trips) : Scf.Loop 32 :=
  let c128_i32_194 : BitVec 32 := 128#32
  let c0_i32_193 : BitVec 32 := 0#32
  let c7_i32_98 : BitVec 32 := 7#32
  let v311 : BitVec 32 := Scalar.shrui v307 c7_i32_98
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let v598 : BitVec 32 := Scalar.addi v595 v597
  let c1_i32_201 : BitVec 32 := 1#32
  ⟨v601, v598, c1_i32_201⟩
def k1_off354 (v307 : BitVec 32) (v309 : BitVec 32) (k1_t53 : Fin (k1_t53_loop v307 v309).trips) (k1_t55 : Fin (k1_t55_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v623 : Index := Scalar.indexCast arg14
  let c0_i32_212 : BitVec 32 := 0#32
  let v624 : Index := Scalar.indexCast c0_i32_212
  let c16_i32_211 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t55
  let v622 : BitVec 32 := Scalar.muli c16_i32_211 arg23
  let v625 : Index := Scalar.indexCast v622
  ![v623.toNat, 0, v625.toNat]
def k1_off355 (v307 : BitVec 32) (v309 : BitVec 32) (k1_t53 : Fin (k1_t53_loop v307 v309).trips) (k1_t55 : Fin (k1_t55_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v630 : Index := Scalar.indexCast arg14
  let c1_i32_214 : BitVec 32 := 1#32
  let v631 : Index := Scalar.indexCast c1_i32_214
  let c16_i32_213 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t55
  let v629 : BitVec 32 := Scalar.muli c16_i32_213 arg23
  let v632 : Index := Scalar.indexCast v629
  ![v630.toNat, 1, v632.toNat]
def k1_off356 (v307 : BitVec 32) (v309 : BitVec 32) (k1_t53 : Fin (k1_t53_loop v307 v309).trips) (k1_t55 : Fin (k1_t55_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v637 : Index := Scalar.indexCast arg14
  let c2_i32_216 : BitVec 32 := 2#32
  let v638 : Index := Scalar.indexCast c2_i32_216
  let c16_i32_215 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t55
  let v636 : BitVec 32 := Scalar.muli c16_i32_215 arg23
  let v639 : Index := Scalar.indexCast v636
  ![v637.toNat, 2, v639.toNat]
def k1_off357 (v307 : BitVec 32) (v309 : BitVec 32) (k1_t53 : Fin (k1_t53_loop v307 v309).trips) (k1_t55 : Fin (k1_t55_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v644 : Index := Scalar.indexCast arg14
  let c3_i32_218 : BitVec 32 := 3#32
  let v645 : Index := Scalar.indexCast c3_i32_218
  let c16_i32_217 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t55
  let v643 : BitVec 32 := Scalar.muli c16_i32_217 arg23
  let v646 : Index := Scalar.indexCast v643
  ![v644.toNat, 3, v646.toNat]
def k1_off358 (v307 : BitVec 32) (v309 : BitVec 32) (k1_t53 : Fin (k1_t53_loop v307 v309).trips) (k1_t55 : Fin (k1_t55_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v651 : Index := Scalar.indexCast arg14
  let c4_i32_220 : BitVec 32 := 4#32
  let v652 : Index := Scalar.indexCast c4_i32_220
  let c16_i32_219 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t55
  let v650 : BitVec 32 := Scalar.muli c16_i32_219 arg23
  let v653 : Index := Scalar.indexCast v650
  ![v651.toNat, 4, v653.toNat]
def k1_off359 (v307 : BitVec 32) (v309 : BitVec 32) (k1_t53 : Fin (k1_t53_loop v307 v309).trips) (k1_t55 : Fin (k1_t55_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v658 : Index := Scalar.indexCast arg14
  let c5_i32_222 : BitVec 32 := 5#32
  let v659 : Index := Scalar.indexCast c5_i32_222
  let c16_i32_221 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t55
  let v657 : BitVec 32 := Scalar.muli c16_i32_221 arg23
  let v660 : Index := Scalar.indexCast v657
  ![v658.toNat, 5, v660.toNat]
def k1_off360 (v307 : BitVec 32) (v309 : BitVec 32) (k1_t53 : Fin (k1_t53_loop v307 v309).trips) (k1_t55 : Fin (k1_t55_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v665 : Index := Scalar.indexCast arg14
  let c6_i32_224 : BitVec 32 := 6#32
  let v666 : Index := Scalar.indexCast c6_i32_224
  let c16_i32_223 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t55
  let v664 : BitVec 32 := Scalar.muli c16_i32_223 arg23
  let v667 : Index := Scalar.indexCast v664
  ![v665.toNat, 6, v667.toNat]
def k1_off361 (v307 : BitVec 32) (v309 : BitVec 32) (k1_t53 : Fin (k1_t53_loop v307 v309).trips) (k1_t55 : Fin (k1_t55_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v672 : Index := Scalar.indexCast arg14
  let c7_i32_226 : BitVec 32 := 7#32
  let v673 : Index := Scalar.indexCast c7_i32_226
  let c16_i32_225 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let c128_i32_196 : BitVec 32 := 128#32
  let c0_i32_195 : BitVec 32 := 0#32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let v597 : BitVec 32 := Scalar.subi v596 v595
  let c1_i32_199 : BitVec 32 := 1#32
  let v599 : BitVec 32 := Scalar.divsi v597 c1_i32_199
  let v600 : BitVec 32 := Scalar.muli v599 c1_i32_199
  let v601 : BitVec 32 := Scalar.addi v595 v600
  let c1_i32_201 : BitVec 32 := 1#32
  let arg23 : BitVec 32 := Scf.iv v601 c1_i32_201 k1_t55
  let v671 : BitVec 32 := Scalar.muli c16_i32_225 arg23
  let v674 : Index := Scalar.indexCast v671
  ![v672.toNat, 7, v674.toNat]
@[reducible] def k1_t56_loop (v307 : BitVec 32) (v309 : BitVec 32) (k1_t53 : Fin (k1_t53_loop v307 v309).trips) : Scf.Loop 32 :=
  let c128_i32_194 : BitVec 32 := 128#32
  let c0_i32_193 : BitVec 32 := 0#32
  let c7_i32_98 : BitVec 32 := 7#32
  let v311 : BitVec 32 := Scalar.shrui v307 c7_i32_98
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_204 : BitVec 32 := 1#32
  ⟨v604, v609, c1_i32_204⟩
def k1_off362 (v307 : BitVec 32) (v309 : BitVec 32) (k1_t53 : Fin (k1_t53_loop v307 v309).trips) (k1_t56 : Fin (k1_t56_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v632 : Index := Scalar.indexCast arg14
  let c0_i32_213 : BitVec 32 := 0#32
  let v633 : Index := Scalar.indexCast c0_i32_213
  let c16_i32_212 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t56
  let v631 : BitVec 32 := Scalar.muli c16_i32_212 arg23
  let v634 : Index := Scalar.indexCast v631
  ![v632.toNat, 0, v634.toNat]
def k1_off363 (v307 : BitVec 32) (v309 : BitVec 32) (k1_t53 : Fin (k1_t53_loop v307 v309).trips) (k1_t56 : Fin (k1_t56_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v640 : Index := Scalar.indexCast arg14
  let c1_i32_215 : BitVec 32 := 1#32
  let v641 : Index := Scalar.indexCast c1_i32_215
  let c16_i32_214 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t56
  let v639 : BitVec 32 := Scalar.muli c16_i32_214 arg23
  let v642 : Index := Scalar.indexCast v639
  ![v640.toNat, 1, v642.toNat]
def k1_off364 (v307 : BitVec 32) (v309 : BitVec 32) (k1_t53 : Fin (k1_t53_loop v307 v309).trips) (k1_t56 : Fin (k1_t56_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v648 : Index := Scalar.indexCast arg14
  let c2_i32_217 : BitVec 32 := 2#32
  let v649 : Index := Scalar.indexCast c2_i32_217
  let c16_i32_216 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t56
  let v647 : BitVec 32 := Scalar.muli c16_i32_216 arg23
  let v650 : Index := Scalar.indexCast v647
  ![v648.toNat, 2, v650.toNat]
def k1_off365 (v307 : BitVec 32) (v309 : BitVec 32) (k1_t53 : Fin (k1_t53_loop v307 v309).trips) (k1_t56 : Fin (k1_t56_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v656 : Index := Scalar.indexCast arg14
  let c3_i32_219 : BitVec 32 := 3#32
  let v657 : Index := Scalar.indexCast c3_i32_219
  let c16_i32_218 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t56
  let v655 : BitVec 32 := Scalar.muli c16_i32_218 arg23
  let v658 : Index := Scalar.indexCast v655
  ![v656.toNat, 3, v658.toNat]
def k1_off366 (v307 : BitVec 32) (v309 : BitVec 32) (k1_t53 : Fin (k1_t53_loop v307 v309).trips) (k1_t56 : Fin (k1_t56_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v664 : Index := Scalar.indexCast arg14
  let c4_i32_221 : BitVec 32 := 4#32
  let v665 : Index := Scalar.indexCast c4_i32_221
  let c16_i32_220 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t56
  let v663 : BitVec 32 := Scalar.muli c16_i32_220 arg23
  let v666 : Index := Scalar.indexCast v663
  ![v664.toNat, 4, v666.toNat]
def k1_off367 (v307 : BitVec 32) (v309 : BitVec 32) (k1_t53 : Fin (k1_t53_loop v307 v309).trips) (k1_t56 : Fin (k1_t56_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v672 : Index := Scalar.indexCast arg14
  let c5_i32_223 : BitVec 32 := 5#32
  let v673 : Index := Scalar.indexCast c5_i32_223
  let c16_i32_222 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t56
  let v671 : BitVec 32 := Scalar.muli c16_i32_222 arg23
  let v674 : Index := Scalar.indexCast v671
  ![v672.toNat, 5, v674.toNat]
def k1_off368 (v307 : BitVec 32) (v309 : BitVec 32) (k1_t53 : Fin (k1_t53_loop v307 v309).trips) (k1_t56 : Fin (k1_t56_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v680 : Index := Scalar.indexCast arg14
  let c6_i32_225 : BitVec 32 := 6#32
  let v681 : Index := Scalar.indexCast c6_i32_225
  let c16_i32_224 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t56
  let v679 : BitVec 32 := Scalar.muli c16_i32_224 arg23
  let v682 : Index := Scalar.indexCast v679
  ![v680.toNat, 6, v682.toNat]
def k1_off369 (v307 : BitVec 32) (v309 : BitVec 32) (k1_t53 : Fin (k1_t53_loop v307 v309).trips) (k1_t56 : Fin (k1_t56_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v688 : Index := Scalar.indexCast arg14
  let c7_i32_227 : BitVec 32 := 7#32
  let v689 : Index := Scalar.indexCast c7_i32_227
  let c16_i32_226 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c1_i32_204 : BitVec 32 := 1#32
  let arg23 : BitVec 32 := Scf.iv v604 c1_i32_204 k1_t56
  let v687 : BitVec 32 := Scalar.muli c16_i32_226 arg23
  let v690 : Index := Scalar.indexCast v687
  ![v688.toNat, 7, v690.toNat]
@[reducible] def k1_t57_loop (v307 : BitVec 32) (v309 : BitVec 32) (k1_t53 : Fin (k1_t53_loop v307 v309).trips) : Scf.Loop 32 :=
  let c128_i32_194 : BitVec 32 := 128#32
  let c0_i32_193 : BitVec 32 := 0#32
  let c7_i32_98 : BitVec 32 := 7#32
  let v311 : BitVec 32 := Scalar.shrui v307 c7_i32_98
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let v606 : BitVec 32 := Scalar.addi v604 v605
  let c1_i32_205 : BitVec 32 := 1#32
  ⟨v609, v606, c1_i32_205⟩
def k1_off370 (v307 : BitVec 32) (v309 : BitVec 32) (k1_t53 : Fin (k1_t53_loop v307 v309).trips) (k1_t57 : Fin (k1_t57_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v632 : Index := Scalar.indexCast arg14
  let c0_i32_213 : BitVec 32 := 0#32
  let v633 : Index := Scalar.indexCast c0_i32_213
  let c16_i32_212 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t57
  let v631 : BitVec 32 := Scalar.muli c16_i32_212 arg23
  let v634 : Index := Scalar.indexCast v631
  ![v632.toNat, 0, v634.toNat]
def k1_off371 (v307 : BitVec 32) (v309 : BitVec 32) (k1_t53 : Fin (k1_t53_loop v307 v309).trips) (k1_t57 : Fin (k1_t57_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v640 : Index := Scalar.indexCast arg14
  let c1_i32_215 : BitVec 32 := 1#32
  let v641 : Index := Scalar.indexCast c1_i32_215
  let c16_i32_214 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t57
  let v639 : BitVec 32 := Scalar.muli c16_i32_214 arg23
  let v642 : Index := Scalar.indexCast v639
  ![v640.toNat, 1, v642.toNat]
def k1_off372 (v307 : BitVec 32) (v309 : BitVec 32) (k1_t53 : Fin (k1_t53_loop v307 v309).trips) (k1_t57 : Fin (k1_t57_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v648 : Index := Scalar.indexCast arg14
  let c2_i32_217 : BitVec 32 := 2#32
  let v649 : Index := Scalar.indexCast c2_i32_217
  let c16_i32_216 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t57
  let v647 : BitVec 32 := Scalar.muli c16_i32_216 arg23
  let v650 : Index := Scalar.indexCast v647
  ![v648.toNat, 2, v650.toNat]
def k1_off373 (v307 : BitVec 32) (v309 : BitVec 32) (k1_t53 : Fin (k1_t53_loop v307 v309).trips) (k1_t57 : Fin (k1_t57_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v656 : Index := Scalar.indexCast arg14
  let c3_i32_219 : BitVec 32 := 3#32
  let v657 : Index := Scalar.indexCast c3_i32_219
  let c16_i32_218 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t57
  let v655 : BitVec 32 := Scalar.muli c16_i32_218 arg23
  let v658 : Index := Scalar.indexCast v655
  ![v656.toNat, 3, v658.toNat]
def k1_off374 (v307 : BitVec 32) (v309 : BitVec 32) (k1_t53 : Fin (k1_t53_loop v307 v309).trips) (k1_t57 : Fin (k1_t57_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v664 : Index := Scalar.indexCast arg14
  let c4_i32_221 : BitVec 32 := 4#32
  let v665 : Index := Scalar.indexCast c4_i32_221
  let c16_i32_220 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t57
  let v663 : BitVec 32 := Scalar.muli c16_i32_220 arg23
  let v666 : Index := Scalar.indexCast v663
  ![v664.toNat, 4, v666.toNat]
def k1_off375 (v307 : BitVec 32) (v309 : BitVec 32) (k1_t53 : Fin (k1_t53_loop v307 v309).trips) (k1_t57 : Fin (k1_t57_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v672 : Index := Scalar.indexCast arg14
  let c5_i32_223 : BitVec 32 := 5#32
  let v673 : Index := Scalar.indexCast c5_i32_223
  let c16_i32_222 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t57
  let v671 : BitVec 32 := Scalar.muli c16_i32_222 arg23
  let v674 : Index := Scalar.indexCast v671
  ![v672.toNat, 5, v674.toNat]
def k1_off376 (v307 : BitVec 32) (v309 : BitVec 32) (k1_t53 : Fin (k1_t53_loop v307 v309).trips) (k1_t57 : Fin (k1_t57_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v680 : Index := Scalar.indexCast arg14
  let c6_i32_225 : BitVec 32 := 6#32
  let v681 : Index := Scalar.indexCast c6_i32_225
  let c16_i32_224 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t57
  let v679 : BitVec 32 := Scalar.muli c16_i32_224 arg23
  let v682 : Index := Scalar.indexCast v679
  ![v680.toNat, 6, v682.toNat]
def k1_off377 (v307 : BitVec 32) (v309 : BitVec 32) (k1_t53 : Fin (k1_t53_loop v307 v309).trips) (k1_t57 : Fin (k1_t57_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v688 : Index := Scalar.indexCast arg14
  let c7_i32_227 : BitVec 32 := 7#32
  let v689 : Index := Scalar.indexCast c7_i32_227
  let c16_i32_226 : BitVec 32 := 16#32
  let c128_i32_194 : BitVec 32 := 128#32
  let c0_i32_193 : BitVec 32 := 0#32
  let v586 : BitVec 32 := Scalar.addi v311 arg14
  let c128_i32 : BitVec 32 := 128#32
  let v587 : BitVec 32 := Scalar.muli v586 c128_i32
  let v588 : BitVec 32 := Scalar.subi v307 v587
  let v589 : BitVec 32 := Scalar.maxsi c0_i32_193 v588
  let v590 : BitVec 32 := Scalar.minsi c128_i32_194 v589
  let c4_i32_202 : BitVec 32 := 4#32
  let v604 : BitVec 32 := Scalar.shrui v590 c4_i32_202
  let c15_i32 : BitVec 32 := 15#32
  let v594 : BitVec 32 := Scalar.addi v590 c15_i32
  let c4_i32_197 : BitVec 32 := 4#32
  let v595 : BitVec 32 := Scalar.shrui v594 c4_i32_197
  let v605 : BitVec 32 := Scalar.subi v595 v604
  let c1_i32_203 : BitVec 32 := 1#32
  let v607 : BitVec 32 := Scalar.divsi v605 c1_i32_203
  let v608 : BitVec 32 := Scalar.muli v607 c1_i32_203
  let v609 : BitVec 32 := Scalar.addi v604 v608
  let c1_i32_205 : BitVec 32 := 1#32
  let arg23 : BitVec 32 := Scf.iv v609 c1_i32_205 k1_t57
  let v687 : BitVec 32 := Scalar.muli c16_i32_226 arg23
  let v690 : Index := Scalar.indexCast v687
  ![v688.toNat, 7, v690.toNat]
@[reducible] def k1_t58_loop (v307 : BitVec 32) (v309 : BitVec 32) (k1_t53 : Fin (k1_t53_loop v307 v309).trips) : Scf.Loop 32 :=
  let c128_i32_196 : BitVec 32 := 128#32
  let c0_i32_195 : BitVec 32 := 0#32
  let c7_i32_98 : BitVec 32 := 7#32
  let v311 : BitVec 32 := Scalar.shrui v307 c7_i32_98
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_209 : BitVec 32 := 1#32
  ⟨v612, v619, c1_i32_209⟩
def k1_off378 (v307 : BitVec 32) (v309 : BitVec 32) (k1_t53 : Fin (k1_t53_loop v307 v309).trips) (k1_t58 : Fin (k1_t58_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v632 : Index := Scalar.indexCast arg14
  let c0_i32_213 : BitVec 32 := 0#32
  let v633 : Index := Scalar.indexCast c0_i32_213
  let c16_i32_212 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t58
  let v631 : BitVec 32 := Scalar.muli c16_i32_212 arg23
  let v634 : Index := Scalar.indexCast v631
  ![v632.toNat, 0, v634.toNat]
def k1_off379 (v307 : BitVec 32) (v309 : BitVec 32) (k1_t53 : Fin (k1_t53_loop v307 v309).trips) (k1_t58 : Fin (k1_t58_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v640 : Index := Scalar.indexCast arg14
  let c1_i32_215 : BitVec 32 := 1#32
  let v641 : Index := Scalar.indexCast c1_i32_215
  let c16_i32_214 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t58
  let v639 : BitVec 32 := Scalar.muli c16_i32_214 arg23
  let v642 : Index := Scalar.indexCast v639
  ![v640.toNat, 1, v642.toNat]
def k1_off380 (v307 : BitVec 32) (v309 : BitVec 32) (k1_t53 : Fin (k1_t53_loop v307 v309).trips) (k1_t58 : Fin (k1_t58_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v648 : Index := Scalar.indexCast arg14
  let c2_i32_217 : BitVec 32 := 2#32
  let v649 : Index := Scalar.indexCast c2_i32_217
  let c16_i32_216 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t58
  let v647 : BitVec 32 := Scalar.muli c16_i32_216 arg23
  let v650 : Index := Scalar.indexCast v647
  ![v648.toNat, 2, v650.toNat]
def k1_off381 (v307 : BitVec 32) (v309 : BitVec 32) (k1_t53 : Fin (k1_t53_loop v307 v309).trips) (k1_t58 : Fin (k1_t58_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v656 : Index := Scalar.indexCast arg14
  let c3_i32_219 : BitVec 32 := 3#32
  let v657 : Index := Scalar.indexCast c3_i32_219
  let c16_i32_218 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t58
  let v655 : BitVec 32 := Scalar.muli c16_i32_218 arg23
  let v658 : Index := Scalar.indexCast v655
  ![v656.toNat, 3, v658.toNat]
def k1_off382 (v307 : BitVec 32) (v309 : BitVec 32) (k1_t53 : Fin (k1_t53_loop v307 v309).trips) (k1_t58 : Fin (k1_t58_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v664 : Index := Scalar.indexCast arg14
  let c4_i32_221 : BitVec 32 := 4#32
  let v665 : Index := Scalar.indexCast c4_i32_221
  let c16_i32_220 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t58
  let v663 : BitVec 32 := Scalar.muli c16_i32_220 arg23
  let v666 : Index := Scalar.indexCast v663
  ![v664.toNat, 4, v666.toNat]
def k1_off383 (v307 : BitVec 32) (v309 : BitVec 32) (k1_t53 : Fin (k1_t53_loop v307 v309).trips) (k1_t58 : Fin (k1_t58_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v672 : Index := Scalar.indexCast arg14
  let c5_i32_223 : BitVec 32 := 5#32
  let v673 : Index := Scalar.indexCast c5_i32_223
  let c16_i32_222 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t58
  let v671 : BitVec 32 := Scalar.muli c16_i32_222 arg23
  let v674 : Index := Scalar.indexCast v671
  ![v672.toNat, 5, v674.toNat]
def k1_off384 (v307 : BitVec 32) (v309 : BitVec 32) (k1_t53 : Fin (k1_t53_loop v307 v309).trips) (k1_t58 : Fin (k1_t58_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v680 : Index := Scalar.indexCast arg14
  let c6_i32_225 : BitVec 32 := 6#32
  let v681 : Index := Scalar.indexCast c6_i32_225
  let c16_i32_224 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t58
  let v679 : BitVec 32 := Scalar.muli c16_i32_224 arg23
  let v682 : Index := Scalar.indexCast v679
  ![v680.toNat, 6, v682.toNat]
def k1_off385 (v307 : BitVec 32) (v309 : BitVec 32) (k1_t53 : Fin (k1_t53_loop v307 v309).trips) (k1_t58 : Fin (k1_t58_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v688 : Index := Scalar.indexCast arg14
  let c7_i32_227 : BitVec 32 := 7#32
  let v689 : Index := Scalar.indexCast c7_i32_227
  let c16_i32_226 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c1_i32_209 : BitVec 32 := 1#32
  let arg23 : BitVec 32 := Scf.iv v612 c1_i32_209 k1_t58
  let v687 : BitVec 32 := Scalar.muli c16_i32_226 arg23
  let v690 : Index := Scalar.indexCast v687
  ![v688.toNat, 7, v690.toNat]
@[reducible] def k1_t59_loop (v307 : BitVec 32) (v309 : BitVec 32) (k1_t53 : Fin (k1_t53_loop v307 v309).trips) : Scf.Loop 32 :=
  let c128_i32_196 : BitVec 32 := 128#32
  let c0_i32_195 : BitVec 32 := 0#32
  let c7_i32_98 : BitVec 32 := 7#32
  let v311 : BitVec 32 := Scalar.shrui v307 c7_i32_98
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let v616 : BitVec 32 := Scalar.addi v612 v615
  let c1_i32_210 : BitVec 32 := 1#32
  ⟨v619, v616, c1_i32_210⟩
def k1_off386 (v307 : BitVec 32) (v309 : BitVec 32) (k1_t53 : Fin (k1_t53_loop v307 v309).trips) (k1_t59 : Fin (k1_t59_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v632 : Index := Scalar.indexCast arg14
  let c0_i32_213 : BitVec 32 := 0#32
  let v633 : Index := Scalar.indexCast c0_i32_213
  let c16_i32_212 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t59
  let v631 : BitVec 32 := Scalar.muli c16_i32_212 arg23
  let v634 : Index := Scalar.indexCast v631
  ![v632.toNat, 0, v634.toNat]
def k1_off387 (v307 : BitVec 32) (v309 : BitVec 32) (k1_t53 : Fin (k1_t53_loop v307 v309).trips) (k1_t59 : Fin (k1_t59_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v640 : Index := Scalar.indexCast arg14
  let c1_i32_215 : BitVec 32 := 1#32
  let v641 : Index := Scalar.indexCast c1_i32_215
  let c16_i32_214 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t59
  let v639 : BitVec 32 := Scalar.muli c16_i32_214 arg23
  let v642 : Index := Scalar.indexCast v639
  ![v640.toNat, 1, v642.toNat]
def k1_off388 (v307 : BitVec 32) (v309 : BitVec 32) (k1_t53 : Fin (k1_t53_loop v307 v309).trips) (k1_t59 : Fin (k1_t59_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v648 : Index := Scalar.indexCast arg14
  let c2_i32_217 : BitVec 32 := 2#32
  let v649 : Index := Scalar.indexCast c2_i32_217
  let c16_i32_216 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t59
  let v647 : BitVec 32 := Scalar.muli c16_i32_216 arg23
  let v650 : Index := Scalar.indexCast v647
  ![v648.toNat, 2, v650.toNat]
def k1_off389 (v307 : BitVec 32) (v309 : BitVec 32) (k1_t53 : Fin (k1_t53_loop v307 v309).trips) (k1_t59 : Fin (k1_t59_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v656 : Index := Scalar.indexCast arg14
  let c3_i32_219 : BitVec 32 := 3#32
  let v657 : Index := Scalar.indexCast c3_i32_219
  let c16_i32_218 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t59
  let v655 : BitVec 32 := Scalar.muli c16_i32_218 arg23
  let v658 : Index := Scalar.indexCast v655
  ![v656.toNat, 3, v658.toNat]
def k1_off390 (v307 : BitVec 32) (v309 : BitVec 32) (k1_t53 : Fin (k1_t53_loop v307 v309).trips) (k1_t59 : Fin (k1_t59_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v664 : Index := Scalar.indexCast arg14
  let c4_i32_221 : BitVec 32 := 4#32
  let v665 : Index := Scalar.indexCast c4_i32_221
  let c16_i32_220 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t59
  let v663 : BitVec 32 := Scalar.muli c16_i32_220 arg23
  let v666 : Index := Scalar.indexCast v663
  ![v664.toNat, 4, v666.toNat]
def k1_off391 (v307 : BitVec 32) (v309 : BitVec 32) (k1_t53 : Fin (k1_t53_loop v307 v309).trips) (k1_t59 : Fin (k1_t59_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v672 : Index := Scalar.indexCast arg14
  let c5_i32_223 : BitVec 32 := 5#32
  let v673 : Index := Scalar.indexCast c5_i32_223
  let c16_i32_222 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t59
  let v671 : BitVec 32 := Scalar.muli c16_i32_222 arg23
  let v674 : Index := Scalar.indexCast v671
  ![v672.toNat, 5, v674.toNat]
def k1_off392 (v307 : BitVec 32) (v309 : BitVec 32) (k1_t53 : Fin (k1_t53_loop v307 v309).trips) (k1_t59 : Fin (k1_t59_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v680 : Index := Scalar.indexCast arg14
  let c6_i32_225 : BitVec 32 := 6#32
  let v681 : Index := Scalar.indexCast c6_i32_225
  let c16_i32_224 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t59
  let v679 : BitVec 32 := Scalar.muli c16_i32_224 arg23
  let v682 : Index := Scalar.indexCast v679
  ![v680.toNat, 6, v682.toNat]
def k1_off393 (v307 : BitVec 32) (v309 : BitVec 32) (k1_t53 : Fin (k1_t53_loop v307 v309).trips) (k1_t59 : Fin (k1_t59_loop v307 v309 k1_t53).trips) : Fin 3 → Nat :=
  let c0_i32_111 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v321 : BitVec 32 := Scalar.subi v313 v311
  let c4_i32_110 : BitVec 32 := 4#32
  let v322 : BitVec 32 := Scalar.minsi v321 c4_i32_110
  let v323 : BitVec 32 := Scalar.subi v322 c0_i32_111
  let c1_i32_112 : BitVec 32 := 1#32
  let v325 : BitVec 32 := Scalar.divsi v323 c1_i32_112
  let v326 : BitVec 32 := Scalar.muli v325 c1_i32_112
  let v327 : BitVec 32 := Scalar.addi c0_i32_111 v326
  let c1_i32_114 : BitVec 32 := 1#32
  let arg14 : BitVec 32 := Scf.iv v327 c1_i32_114 k1_t53
  let v688 : Index := Scalar.indexCast arg14
  let c7_i32_227 : BitVec 32 := 7#32
  let v689 : Index := Scalar.indexCast c7_i32_227
  let c16_i32_226 : BitVec 32 := 16#32
  let c128_i32_196 : BitVec 32 := 128#32
  let c0_i32_195 : BitVec 32 := 0#32
  let v586 : BitVec 32 := Scalar.addi v311 arg14
  let c128_i32 : BitVec 32 := 128#32
  let v587 : BitVec 32 := Scalar.muli v586 c128_i32
  let v591 : BitVec 32 := Scalar.subi v309 v587
  let v592 : BitVec 32 := Scalar.maxsi c0_i32_195 v591
  let v593 : BitVec 32 := Scalar.minsi c128_i32_196 v592
  let c4_i32_198 : BitVec 32 := 4#32
  let v596 : BitVec 32 := Scalar.shrui v593 c4_i32_198
  let c128_i32_194 : BitVec 32 := 128#32
  let c0_i32_193 : BitVec 32 := 0#32
  let v588 : BitVec 32 := Scalar.subi v307 v587
  let v589 : BitVec 32 := Scalar.maxsi c0_i32_193 v588
  let v590 : BitVec 32 := Scalar.minsi c128_i32_194 v589
  let c15_i32 : BitVec 32 := 15#32
  let v594 : BitVec 32 := Scalar.addi v590 c15_i32
  let c4_i32_197 : BitVec 32 := 4#32
  let v595 : BitVec 32 := Scalar.shrui v594 c4_i32_197
  let v612 : BitVec 32 := Scalar.maxsi v596 v595
  let c15_i32_206 : BitVec 32 := 15#32
  let v613 : BitVec 32 := Scalar.addi v593 c15_i32_206
  let c4_i32_207 : BitVec 32 := 4#32
  let v614 : BitVec 32 := Scalar.shrui v613 c4_i32_207
  let v615 : BitVec 32 := Scalar.subi v614 v612
  let c1_i32_208 : BitVec 32 := 1#32
  let v617 : BitVec 32 := Scalar.divsi v615 c1_i32_208
  let v618 : BitVec 32 := Scalar.muli v617 c1_i32_208
  let v619 : BitVec 32 := Scalar.addi v612 v618
  let c1_i32_210 : BitVec 32 := 1#32
  let arg23 : BitVec 32 := Scf.iv v619 c1_i32_210 k1_t59
  let v687 : BitVec 32 := Scalar.muli c16_i32_226 arg23
  let v690 : Index := Scalar.indexCast v687
  ![v688.toNat, 7, v690.toNat]
@[reducible] def k1_t60_loop (v307 : BitVec 32) (v309 : BitVec 32) : Scf.Loop 32 :=
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_117 : BitVec 32 := 1#32
  ⟨c1_i32_115, v334, c1_i32_117⟩
def k1_off394 (v307 : BitVec 32) (v309 : BitVec 32) (k1_t60 : Fin (k1_t60_loop v307 v309).trips) : Fin 3 → Nat :=
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_199_r3 : BitVec 32 := 0#32
  let c0_i32_200_r3 : BitVec 32 := 0#32
  ![v587.toNat, 0, 0]
@[reducible] def k1_t61_loop (v307 : BitVec 32) (v309 : BitVec 32) (k1_t60 : Fin (k1_t60_loop v307 v309).trips) : Scf.Loop 32 :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_197 : BitVec 32 := 1#32
  ⟨c0_i32_195, v594, c1_i32_197⟩
@[reducible] def k1_t62_loop (v307 : BitVec 32) (v309 : BitVec 32) (k1_t60 : Fin (k1_t60_loop v307 v309).trips) (k1_t61 : Fin (k1_t61_loop v307 v309 k1_t60).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_195 : BitVec 32 := 0#32
  let c1_i32_197 : BitVec 32 := 1#32
  let arg23 : BitVec 32 := Scf.iv c0_i32_195 c1_i32_197 k1_t61
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_206 : BitVec 32 := 1#32
  ⟨v606, v612, c1_i32_206⟩
def k1_off395 (v307 : BitVec 32) (v309 : BitVec 32) (k1_t60 : Fin (k1_t60_loop v307 v309).trips) (k1_t61 : Fin (k1_t61_loop v307 v309 k1_t60).trips) (k1_t62 : Fin (k1_t62_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t62
  let v633 : BitVec 32 := Scalar.muli c16_i32_217 arg32
  let v636 : Index := Scalar.indexCast v633
  ![v634.toNat, 0, v636.toNat]
def k1_off396 (v307 : BitVec 32) (v309 : BitVec 32) (k1_t60 : Fin (k1_t60_loop v307 v309).trips) (k1_t61 : Fin (k1_t61_loop v307 v309 k1_t60).trips) (k1_t62 : Fin (k1_t62_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t62
  let v640 : BitVec 32 := Scalar.muli c16_i32_219 arg32
  let v643 : Index := Scalar.indexCast v640
  ![v641.toNat, 1, v643.toNat]
def k1_off397 (v307 : BitVec 32) (v309 : BitVec 32) (k1_t60 : Fin (k1_t60_loop v307 v309).trips) (k1_t61 : Fin (k1_t61_loop v307 v309 k1_t60).trips) (k1_t62 : Fin (k1_t62_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t62
  let v647 : BitVec 32 := Scalar.muli c16_i32_221 arg32
  let v650 : Index := Scalar.indexCast v647
  ![v648.toNat, 2, v650.toNat]
def k1_off398 (v307 : BitVec 32) (v309 : BitVec 32) (k1_t60 : Fin (k1_t60_loop v307 v309).trips) (k1_t61 : Fin (k1_t61_loop v307 v309 k1_t60).trips) (k1_t62 : Fin (k1_t62_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t62
  let v654 : BitVec 32 := Scalar.muli c16_i32_223 arg32
  let v657 : Index := Scalar.indexCast v654
  ![v655.toNat, 3, v657.toNat]
def k1_off399 (v307 : BitVec 32) (v309 : BitVec 32) (k1_t60 : Fin (k1_t60_loop v307 v309).trips) (k1_t61 : Fin (k1_t61_loop v307 v309 k1_t60).trips) (k1_t62 : Fin (k1_t62_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t62
  let v661 : BitVec 32 := Scalar.muli c16_i32_225 arg32
  let v664 : Index := Scalar.indexCast v661
  ![v662.toNat, 4, v664.toNat]
def k1_off400 (v307 : BitVec 32) (v309 : BitVec 32) (k1_t60 : Fin (k1_t60_loop v307 v309).trips) (k1_t61 : Fin (k1_t61_loop v307 v309 k1_t60).trips) (k1_t62 : Fin (k1_t62_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t62
  let v668 : BitVec 32 := Scalar.muli c16_i32_227 arg32
  let v671 : Index := Scalar.indexCast v668
  ![v669.toNat, 5, v671.toNat]
def k1_off401 (v307 : BitVec 32) (v309 : BitVec 32) (k1_t60 : Fin (k1_t60_loop v307 v309).trips) (k1_t61 : Fin (k1_t61_loop v307 v309 k1_t60).trips) (k1_t62 : Fin (k1_t62_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t62
  let v675 : BitVec 32 := Scalar.muli c16_i32_229 arg32
  let v678 : Index := Scalar.indexCast v675
  ![v676.toNat, 6, v678.toNat]
def k1_off402 (v307 : BitVec 32) (v309 : BitVec 32) (k1_t60 : Fin (k1_t60_loop v307 v309).trips) (k1_t61 : Fin (k1_t61_loop v307 v309 k1_t60).trips) (k1_t62 : Fin (k1_t62_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t62
  let v682 : BitVec 32 := Scalar.muli c16_i32_231 arg32
  let v685 : Index := Scalar.indexCast v682
  ![v683.toNat, 7, v685.toNat]
@[reducible] def k1_t63_loop (v307 : BitVec 32) (v309 : BitVec 32) (k1_t60 : Fin (k1_t60_loop v307 v309).trips) (k1_t61 : Fin (k1_t61_loop v307 v309 k1_t60).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_195 : BitVec 32 := 0#32
  let c1_i32_197 : BitVec 32 := 1#32
  let arg23 : BitVec 32 := Scf.iv c0_i32_195 c1_i32_197 k1_t61
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let v609 : BitVec 32 := Scalar.addi v606 v608
  let c1_i32_207 : BitVec 32 := 1#32
  ⟨v612, v609, c1_i32_207⟩
def k1_off403 (v307 : BitVec 32) (v309 : BitVec 32) (k1_t60 : Fin (k1_t60_loop v307 v309).trips) (k1_t61 : Fin (k1_t61_loop v307 v309 k1_t60).trips) (k1_t63 : Fin (k1_t63_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t63
  let v633 : BitVec 32 := Scalar.muli c16_i32_217 arg32
  let v636 : Index := Scalar.indexCast v633
  ![v634.toNat, 0, v636.toNat]
def k1_off404 (v307 : BitVec 32) (v309 : BitVec 32) (k1_t60 : Fin (k1_t60_loop v307 v309).trips) (k1_t61 : Fin (k1_t61_loop v307 v309 k1_t60).trips) (k1_t63 : Fin (k1_t63_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t63
  let v640 : BitVec 32 := Scalar.muli c16_i32_219 arg32
  let v643 : Index := Scalar.indexCast v640
  ![v641.toNat, 1, v643.toNat]
def k1_off405 (v307 : BitVec 32) (v309 : BitVec 32) (k1_t60 : Fin (k1_t60_loop v307 v309).trips) (k1_t61 : Fin (k1_t61_loop v307 v309 k1_t60).trips) (k1_t63 : Fin (k1_t63_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t63
  let v647 : BitVec 32 := Scalar.muli c16_i32_221 arg32
  let v650 : Index := Scalar.indexCast v647
  ![v648.toNat, 2, v650.toNat]
def k1_off406 (v307 : BitVec 32) (v309 : BitVec 32) (k1_t60 : Fin (k1_t60_loop v307 v309).trips) (k1_t61 : Fin (k1_t61_loop v307 v309 k1_t60).trips) (k1_t63 : Fin (k1_t63_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t63
  let v654 : BitVec 32 := Scalar.muli c16_i32_223 arg32
  let v657 : Index := Scalar.indexCast v654
  ![v655.toNat, 3, v657.toNat]
def k1_off407 (v307 : BitVec 32) (v309 : BitVec 32) (k1_t60 : Fin (k1_t60_loop v307 v309).trips) (k1_t61 : Fin (k1_t61_loop v307 v309 k1_t60).trips) (k1_t63 : Fin (k1_t63_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t63
  let v661 : BitVec 32 := Scalar.muli c16_i32_225 arg32
  let v664 : Index := Scalar.indexCast v661
  ![v662.toNat, 4, v664.toNat]
def k1_off408 (v307 : BitVec 32) (v309 : BitVec 32) (k1_t60 : Fin (k1_t60_loop v307 v309).trips) (k1_t61 : Fin (k1_t61_loop v307 v309 k1_t60).trips) (k1_t63 : Fin (k1_t63_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t63
  let v668 : BitVec 32 := Scalar.muli c16_i32_227 arg32
  let v671 : Index := Scalar.indexCast v668
  ![v669.toNat, 5, v671.toNat]
def k1_off409 (v307 : BitVec 32) (v309 : BitVec 32) (k1_t60 : Fin (k1_t60_loop v307 v309).trips) (k1_t61 : Fin (k1_t61_loop v307 v309 k1_t60).trips) (k1_t63 : Fin (k1_t63_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t63
  let v675 : BitVec 32 := Scalar.muli c16_i32_229 arg32
  let v678 : Index := Scalar.indexCast v675
  ![v676.toNat, 6, v678.toNat]
def k1_off410 (v307 : BitVec 32) (v309 : BitVec 32) (k1_t60 : Fin (k1_t60_loop v307 v309).trips) (k1_t61 : Fin (k1_t61_loop v307 v309 k1_t60).trips) (k1_t63 : Fin (k1_t63_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t63
  let v682 : BitVec 32 := Scalar.muli c16_i32_231 arg32
  let v685 : Index := Scalar.indexCast v682
  ![v683.toNat, 7, v685.toNat]
@[reducible] def k1_t64_loop (v307 : BitVec 32) (v309 : BitVec 32) (k1_t60 : Fin (k1_t60_loop v307 v309).trips) (k1_t61 : Fin (k1_t61_loop v307 v309 k1_t60).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_195 : BitVec 32 := 0#32
  let c1_i32_197 : BitVec 32 := 1#32
  let arg23 : BitVec 32 := Scf.iv c0_i32_195 c1_i32_197 k1_t61
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_210 : BitVec 32 := 1#32
  ⟨v615, v620, c1_i32_210⟩
def k1_off411 (v307 : BitVec 32) (v309 : BitVec 32) (k1_t60 : Fin (k1_t60_loop v307 v309).trips) (k1_t61 : Fin (k1_t61_loop v307 v309 k1_t60).trips) (k1_t64 : Fin (k1_t64_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t64
  let v642 : BitVec 32 := Scalar.muli c16_i32_218 arg32
  let v645 : Index := Scalar.indexCast v642
  ![v643.toNat, 0, v645.toNat]
def k1_off412 (v307 : BitVec 32) (v309 : BitVec 32) (k1_t60 : Fin (k1_t60_loop v307 v309).trips) (k1_t61 : Fin (k1_t61_loop v307 v309 k1_t60).trips) (k1_t64 : Fin (k1_t64_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t64
  let v650 : BitVec 32 := Scalar.muli c16_i32_220 arg32
  let v653 : Index := Scalar.indexCast v650
  ![v651.toNat, 1, v653.toNat]
def k1_off413 (v307 : BitVec 32) (v309 : BitVec 32) (k1_t60 : Fin (k1_t60_loop v307 v309).trips) (k1_t61 : Fin (k1_t61_loop v307 v309 k1_t60).trips) (k1_t64 : Fin (k1_t64_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t64
  let v658 : BitVec 32 := Scalar.muli c16_i32_222 arg32
  let v661 : Index := Scalar.indexCast v658
  ![v659.toNat, 2, v661.toNat]
def k1_off414 (v307 : BitVec 32) (v309 : BitVec 32) (k1_t60 : Fin (k1_t60_loop v307 v309).trips) (k1_t61 : Fin (k1_t61_loop v307 v309 k1_t60).trips) (k1_t64 : Fin (k1_t64_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t64
  let v666 : BitVec 32 := Scalar.muli c16_i32_224 arg32
  let v669 : Index := Scalar.indexCast v666
  ![v667.toNat, 3, v669.toNat]
def k1_off415 (v307 : BitVec 32) (v309 : BitVec 32) (k1_t60 : Fin (k1_t60_loop v307 v309).trips) (k1_t61 : Fin (k1_t61_loop v307 v309 k1_t60).trips) (k1_t64 : Fin (k1_t64_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t64
  let v674 : BitVec 32 := Scalar.muli c16_i32_226 arg32
  let v677 : Index := Scalar.indexCast v674
  ![v675.toNat, 4, v677.toNat]
def k1_off416 (v307 : BitVec 32) (v309 : BitVec 32) (k1_t60 : Fin (k1_t60_loop v307 v309).trips) (k1_t61 : Fin (k1_t61_loop v307 v309 k1_t60).trips) (k1_t64 : Fin (k1_t64_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t64
  let v682 : BitVec 32 := Scalar.muli c16_i32_228 arg32
  let v685 : Index := Scalar.indexCast v682
  ![v683.toNat, 5, v685.toNat]
def k1_off417 (v307 : BitVec 32) (v309 : BitVec 32) (k1_t60 : Fin (k1_t60_loop v307 v309).trips) (k1_t61 : Fin (k1_t61_loop v307 v309 k1_t60).trips) (k1_t64 : Fin (k1_t64_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t64
  let v690 : BitVec 32 := Scalar.muli c16_i32_230 arg32
  let v693 : Index := Scalar.indexCast v690
  ![v691.toNat, 6, v693.toNat]
def k1_off418 (v307 : BitVec 32) (v309 : BitVec 32) (k1_t60 : Fin (k1_t60_loop v307 v309).trips) (k1_t61 : Fin (k1_t61_loop v307 v309 k1_t60).trips) (k1_t64 : Fin (k1_t64_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t64
  let v698 : BitVec 32 := Scalar.muli c16_i32_232 arg32
  let v701 : Index := Scalar.indexCast v698
  ![v699.toNat, 7, v701.toNat]
@[reducible] def k1_t65_loop (v307 : BitVec 32) (v309 : BitVec 32) (k1_t60 : Fin (k1_t60_loop v307 v309).trips) (k1_t61 : Fin (k1_t61_loop v307 v309 k1_t60).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_195 : BitVec 32 := 0#32
  let c1_i32_197 : BitVec 32 := 1#32
  let arg23 : BitVec 32 := Scf.iv c0_i32_195 c1_i32_197 k1_t61
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let v617 : BitVec 32 := Scalar.addi v615 v616
  let c1_i32_211 : BitVec 32 := 1#32
  ⟨v620, v617, c1_i32_211⟩
def k1_off419 (v307 : BitVec 32) (v309 : BitVec 32) (k1_t60 : Fin (k1_t60_loop v307 v309).trips) (k1_t61 : Fin (k1_t61_loop v307 v309 k1_t60).trips) (k1_t65 : Fin (k1_t65_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t65
  let v642 : BitVec 32 := Scalar.muli c16_i32_218 arg32
  let v645 : Index := Scalar.indexCast v642
  ![v643.toNat, 0, v645.toNat]
def k1_off420 (v307 : BitVec 32) (v309 : BitVec 32) (k1_t60 : Fin (k1_t60_loop v307 v309).trips) (k1_t61 : Fin (k1_t61_loop v307 v309 k1_t60).trips) (k1_t65 : Fin (k1_t65_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t65
  let v650 : BitVec 32 := Scalar.muli c16_i32_220 arg32
  let v653 : Index := Scalar.indexCast v650
  ![v651.toNat, 1, v653.toNat]
def k1_off421 (v307 : BitVec 32) (v309 : BitVec 32) (k1_t60 : Fin (k1_t60_loop v307 v309).trips) (k1_t61 : Fin (k1_t61_loop v307 v309 k1_t60).trips) (k1_t65 : Fin (k1_t65_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t65
  let v658 : BitVec 32 := Scalar.muli c16_i32_222 arg32
  let v661 : Index := Scalar.indexCast v658
  ![v659.toNat, 2, v661.toNat]
def k1_off422 (v307 : BitVec 32) (v309 : BitVec 32) (k1_t60 : Fin (k1_t60_loop v307 v309).trips) (k1_t61 : Fin (k1_t61_loop v307 v309 k1_t60).trips) (k1_t65 : Fin (k1_t65_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t65
  let v666 : BitVec 32 := Scalar.muli c16_i32_224 arg32
  let v669 : Index := Scalar.indexCast v666
  ![v667.toNat, 3, v669.toNat]
def k1_off423 (v307 : BitVec 32) (v309 : BitVec 32) (k1_t60 : Fin (k1_t60_loop v307 v309).trips) (k1_t61 : Fin (k1_t61_loop v307 v309 k1_t60).trips) (k1_t65 : Fin (k1_t65_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t65
  let v674 : BitVec 32 := Scalar.muli c16_i32_226 arg32
  let v677 : Index := Scalar.indexCast v674
  ![v675.toNat, 4, v677.toNat]
def k1_off424 (v307 : BitVec 32) (v309 : BitVec 32) (k1_t60 : Fin (k1_t60_loop v307 v309).trips) (k1_t61 : Fin (k1_t61_loop v307 v309 k1_t60).trips) (k1_t65 : Fin (k1_t65_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t65
  let v682 : BitVec 32 := Scalar.muli c16_i32_228 arg32
  let v685 : Index := Scalar.indexCast v682
  ![v683.toNat, 5, v685.toNat]
def k1_off425 (v307 : BitVec 32) (v309 : BitVec 32) (k1_t60 : Fin (k1_t60_loop v307 v309).trips) (k1_t61 : Fin (k1_t61_loop v307 v309 k1_t60).trips) (k1_t65 : Fin (k1_t65_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t65
  let v690 : BitVec 32 := Scalar.muli c16_i32_230 arg32
  let v693 : Index := Scalar.indexCast v690
  ![v691.toNat, 6, v693.toNat]
def k1_off426 (v307 : BitVec 32) (v309 : BitVec 32) (k1_t60 : Fin (k1_t60_loop v307 v309).trips) (k1_t61 : Fin (k1_t61_loop v307 v309 k1_t60).trips) (k1_t65 : Fin (k1_t65_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t65
  let v698 : BitVec 32 := Scalar.muli c16_i32_232 arg32
  let v701 : Index := Scalar.indexCast v698
  ![v699.toNat, 7, v701.toNat]
@[reducible] def k1_t66_loop (v307 : BitVec 32) (v309 : BitVec 32) (k1_t60 : Fin (k1_t60_loop v307 v309).trips) (k1_t61 : Fin (k1_t61_loop v307 v309 k1_t60).trips) : Scf.Loop 32 :=
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_195 : BitVec 32 := 0#32
  let c1_i32_197 : BitVec 32 := 1#32
  let arg23 : BitVec 32 := Scf.iv c0_i32_195 c1_i32_197 k1_t61
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_215 : BitVec 32 := 1#32
  ⟨v623, v630, c1_i32_215⟩
def k1_off427 (v307 : BitVec 32) (v309 : BitVec 32) (k1_t60 : Fin (k1_t60_loop v307 v309).trips) (k1_t61 : Fin (k1_t61_loop v307 v309 k1_t60).trips) (k1_t66 : Fin (k1_t66_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t66
  let v642 : BitVec 32 := Scalar.muli c16_i32_218 arg32
  let v645 : Index := Scalar.indexCast v642
  ![v643.toNat, 0, v645.toNat]
def k1_off428 (v307 : BitVec 32) (v309 : BitVec 32) (k1_t60 : Fin (k1_t60_loop v307 v309).trips) (k1_t61 : Fin (k1_t61_loop v307 v309 k1_t60).trips) (k1_t66 : Fin (k1_t66_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t66
  let v650 : BitVec 32 := Scalar.muli c16_i32_220 arg32
  let v653 : Index := Scalar.indexCast v650
  ![v651.toNat, 1, v653.toNat]
def k1_off429 (v307 : BitVec 32) (v309 : BitVec 32) (k1_t60 : Fin (k1_t60_loop v307 v309).trips) (k1_t61 : Fin (k1_t61_loop v307 v309 k1_t60).trips) (k1_t66 : Fin (k1_t66_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t66
  let v658 : BitVec 32 := Scalar.muli c16_i32_222 arg32
  let v661 : Index := Scalar.indexCast v658
  ![v659.toNat, 2, v661.toNat]
def k1_off430 (v307 : BitVec 32) (v309 : BitVec 32) (k1_t60 : Fin (k1_t60_loop v307 v309).trips) (k1_t61 : Fin (k1_t61_loop v307 v309 k1_t60).trips) (k1_t66 : Fin (k1_t66_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t66
  let v666 : BitVec 32 := Scalar.muli c16_i32_224 arg32
  let v669 : Index := Scalar.indexCast v666
  ![v667.toNat, 3, v669.toNat]
def k1_off431 (v307 : BitVec 32) (v309 : BitVec 32) (k1_t60 : Fin (k1_t60_loop v307 v309).trips) (k1_t61 : Fin (k1_t61_loop v307 v309 k1_t60).trips) (k1_t66 : Fin (k1_t66_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t66
  let v674 : BitVec 32 := Scalar.muli c16_i32_226 arg32
  let v677 : Index := Scalar.indexCast v674
  ![v675.toNat, 4, v677.toNat]
def k1_off432 (v307 : BitVec 32) (v309 : BitVec 32) (k1_t60 : Fin (k1_t60_loop v307 v309).trips) (k1_t61 : Fin (k1_t61_loop v307 v309 k1_t60).trips) (k1_t66 : Fin (k1_t66_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t66
  let v682 : BitVec 32 := Scalar.muli c16_i32_228 arg32
  let v685 : Index := Scalar.indexCast v682
  ![v683.toNat, 5, v685.toNat]
def k1_off433 (v307 : BitVec 32) (v309 : BitVec 32) (k1_t60 : Fin (k1_t60_loop v307 v309).trips) (k1_t61 : Fin (k1_t61_loop v307 v309 k1_t60).trips) (k1_t66 : Fin (k1_t66_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t66
  let v690 : BitVec 32 := Scalar.muli c16_i32_230 arg32
  let v693 : Index := Scalar.indexCast v690
  ![v691.toNat, 6, v693.toNat]
def k1_off434 (v307 : BitVec 32) (v309 : BitVec 32) (k1_t60 : Fin (k1_t60_loop v307 v309).trips) (k1_t61 : Fin (k1_t61_loop v307 v309 k1_t60).trips) (k1_t66 : Fin (k1_t66_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t66
  let v698 : BitVec 32 := Scalar.muli c16_i32_232 arg32
  let v701 : Index := Scalar.indexCast v698
  ![v699.toNat, 7, v701.toNat]
@[reducible] def k1_t67_loop (v307 : BitVec 32) (v309 : BitVec 32) (k1_t60 : Fin (k1_t60_loop v307 v309).trips) (k1_t61 : Fin (k1_t61_loop v307 v309 k1_t60).trips) : Scf.Loop 32 :=
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_195 : BitVec 32 := 0#32
  let c1_i32_197 : BitVec 32 := 1#32
  let arg23 : BitVec 32 := Scf.iv c0_i32_195 c1_i32_197 k1_t61
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let v627 : BitVec 32 := Scalar.addi v623 v626
  let c1_i32_216 : BitVec 32 := 1#32
  ⟨v630, v627, c1_i32_216⟩
def k1_off435 (v307 : BitVec 32) (v309 : BitVec 32) (k1_t60 : Fin (k1_t60_loop v307 v309).trips) (k1_t61 : Fin (k1_t61_loop v307 v309 k1_t60).trips) (k1_t67 : Fin (k1_t67_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t67
  let v642 : BitVec 32 := Scalar.muli c16_i32_218 arg32
  let v645 : Index := Scalar.indexCast v642
  ![v643.toNat, 0, v645.toNat]
def k1_off436 (v307 : BitVec 32) (v309 : BitVec 32) (k1_t60 : Fin (k1_t60_loop v307 v309).trips) (k1_t61 : Fin (k1_t61_loop v307 v309 k1_t60).trips) (k1_t67 : Fin (k1_t67_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t67
  let v650 : BitVec 32 := Scalar.muli c16_i32_220 arg32
  let v653 : Index := Scalar.indexCast v650
  ![v651.toNat, 1, v653.toNat]
def k1_off437 (v307 : BitVec 32) (v309 : BitVec 32) (k1_t60 : Fin (k1_t60_loop v307 v309).trips) (k1_t61 : Fin (k1_t61_loop v307 v309 k1_t60).trips) (k1_t67 : Fin (k1_t67_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t67
  let v658 : BitVec 32 := Scalar.muli c16_i32_222 arg32
  let v661 : Index := Scalar.indexCast v658
  ![v659.toNat, 2, v661.toNat]
def k1_off438 (v307 : BitVec 32) (v309 : BitVec 32) (k1_t60 : Fin (k1_t60_loop v307 v309).trips) (k1_t61 : Fin (k1_t61_loop v307 v309 k1_t60).trips) (k1_t67 : Fin (k1_t67_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t67
  let v666 : BitVec 32 := Scalar.muli c16_i32_224 arg32
  let v669 : Index := Scalar.indexCast v666
  ![v667.toNat, 3, v669.toNat]
def k1_off439 (v307 : BitVec 32) (v309 : BitVec 32) (k1_t60 : Fin (k1_t60_loop v307 v309).trips) (k1_t61 : Fin (k1_t61_loop v307 v309 k1_t60).trips) (k1_t67 : Fin (k1_t67_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t67
  let v674 : BitVec 32 := Scalar.muli c16_i32_226 arg32
  let v677 : Index := Scalar.indexCast v674
  ![v675.toNat, 4, v677.toNat]
def k1_off440 (v307 : BitVec 32) (v309 : BitVec 32) (k1_t60 : Fin (k1_t60_loop v307 v309).trips) (k1_t61 : Fin (k1_t61_loop v307 v309 k1_t60).trips) (k1_t67 : Fin (k1_t67_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t67
  let v682 : BitVec 32 := Scalar.muli c16_i32_228 arg32
  let v685 : Index := Scalar.indexCast v682
  ![v683.toNat, 5, v685.toNat]
def k1_off441 (v307 : BitVec 32) (v309 : BitVec 32) (k1_t60 : Fin (k1_t60_loop v307 v309).trips) (k1_t61 : Fin (k1_t61_loop v307 v309 k1_t60).trips) (k1_t67 : Fin (k1_t67_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t67
  let v690 : BitVec 32 := Scalar.muli c16_i32_230 arg32
  let v693 : Index := Scalar.indexCast v690
  ![v691.toNat, 6, v693.toNat]
def k1_off442 (v307 : BitVec 32) (v309 : BitVec 32) (k1_t60 : Fin (k1_t60_loop v307 v309).trips) (k1_t61 : Fin (k1_t61_loop v307 v309 k1_t60).trips) (k1_t67 : Fin (k1_t67_loop v307 v309 k1_t60 k1_t61).trips) : Fin 3 → Nat :=
  let c0_i32_195 : BitVec 32 := 0#32
  let c1_i32_197 : BitVec 32 := 1#32
  let arg23 : BitVec 32 := Scf.iv c0_i32_195 c1_i32_197 k1_t61
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t67
  let v698 : BitVec 32 := Scalar.muli c16_i32_232 arg32
  let v701 : Index := Scalar.indexCast v698
  ![v699.toNat, 7, v701.toNat]
@[reducible] def k1_t68_loop (v307 : BitVec 32) (v309 : BitVec 32) (k1_t60 : Fin (k1_t60_loop v307 v309).trips) : Scf.Loop 32 :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let v591 : BitVec 32 := Scalar.addi c0_i32_195 v590
  let c1_i32_198 : BitVec 32 := 1#32
  ⟨v594, v591, c1_i32_198⟩
@[reducible] def k1_t69_loop (v307 : BitVec 32) (v309 : BitVec 32) (k1_t60 : Fin (k1_t60_loop v307 v309).trips) (k1_t68 : Fin (k1_t68_loop v307 v309 k1_t60).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_206 : BitVec 32 := 1#32
  ⟨v606, v612, c1_i32_206⟩
def k1_off443 (v307 : BitVec 32) (v309 : BitVec 32) (k1_t60 : Fin (k1_t60_loop v307 v309).trips) (k1_t68 : Fin (k1_t68_loop v307 v309 k1_t60).trips) (k1_t69 : Fin (k1_t69_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t69
  let v633 : BitVec 32 := Scalar.muli c16_i32_217 arg32
  let v636 : Index := Scalar.indexCast v633
  ![v634.toNat, 0, v636.toNat]
def k1_off444 (v307 : BitVec 32) (v309 : BitVec 32) (k1_t60 : Fin (k1_t60_loop v307 v309).trips) (k1_t68 : Fin (k1_t68_loop v307 v309 k1_t60).trips) (k1_t69 : Fin (k1_t69_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t69
  let v640 : BitVec 32 := Scalar.muli c16_i32_219 arg32
  let v643 : Index := Scalar.indexCast v640
  ![v641.toNat, 1, v643.toNat]
def k1_off445 (v307 : BitVec 32) (v309 : BitVec 32) (k1_t60 : Fin (k1_t60_loop v307 v309).trips) (k1_t68 : Fin (k1_t68_loop v307 v309 k1_t60).trips) (k1_t69 : Fin (k1_t69_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t69
  let v647 : BitVec 32 := Scalar.muli c16_i32_221 arg32
  let v650 : Index := Scalar.indexCast v647
  ![v648.toNat, 2, v650.toNat]
def k1_off446 (v307 : BitVec 32) (v309 : BitVec 32) (k1_t60 : Fin (k1_t60_loop v307 v309).trips) (k1_t68 : Fin (k1_t68_loop v307 v309 k1_t60).trips) (k1_t69 : Fin (k1_t69_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t69
  let v654 : BitVec 32 := Scalar.muli c16_i32_223 arg32
  let v657 : Index := Scalar.indexCast v654
  ![v655.toNat, 3, v657.toNat]
def k1_off447 (v307 : BitVec 32) (v309 : BitVec 32) (k1_t60 : Fin (k1_t60_loop v307 v309).trips) (k1_t68 : Fin (k1_t68_loop v307 v309 k1_t60).trips) (k1_t69 : Fin (k1_t69_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t69
  let v661 : BitVec 32 := Scalar.muli c16_i32_225 arg32
  let v664 : Index := Scalar.indexCast v661
  ![v662.toNat, 4, v664.toNat]
def k1_off448 (v307 : BitVec 32) (v309 : BitVec 32) (k1_t60 : Fin (k1_t60_loop v307 v309).trips) (k1_t68 : Fin (k1_t68_loop v307 v309 k1_t60).trips) (k1_t69 : Fin (k1_t69_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t69
  let v668 : BitVec 32 := Scalar.muli c16_i32_227 arg32
  let v671 : Index := Scalar.indexCast v668
  ![v669.toNat, 5, v671.toNat]
def k1_off449 (v307 : BitVec 32) (v309 : BitVec 32) (k1_t60 : Fin (k1_t60_loop v307 v309).trips) (k1_t68 : Fin (k1_t68_loop v307 v309 k1_t60).trips) (k1_t69 : Fin (k1_t69_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t69
  let v675 : BitVec 32 := Scalar.muli c16_i32_229 arg32
  let v678 : Index := Scalar.indexCast v675
  ![v676.toNat, 6, v678.toNat]
def k1_off450 (v307 : BitVec 32) (v309 : BitVec 32) (k1_t60 : Fin (k1_t60_loop v307 v309).trips) (k1_t68 : Fin (k1_t68_loop v307 v309 k1_t60).trips) (k1_t69 : Fin (k1_t69_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t69
  let v682 : BitVec 32 := Scalar.muli c16_i32_231 arg32
  let v685 : Index := Scalar.indexCast v682
  ![v683.toNat, 7, v685.toNat]
@[reducible] def k1_t70_loop (v307 : BitVec 32) (v309 : BitVec 32) (k1_t60 : Fin (k1_t60_loop v307 v309).trips) (k1_t68 : Fin (k1_t68_loop v307 v309 k1_t60).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let v609 : BitVec 32 := Scalar.addi v606 v608
  let c1_i32_207 : BitVec 32 := 1#32
  ⟨v612, v609, c1_i32_207⟩
def k1_off451 (v307 : BitVec 32) (v309 : BitVec 32) (k1_t60 : Fin (k1_t60_loop v307 v309).trips) (k1_t68 : Fin (k1_t68_loop v307 v309 k1_t60).trips) (k1_t70 : Fin (k1_t70_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t70
  let v633 : BitVec 32 := Scalar.muli c16_i32_217 arg32
  let v636 : Index := Scalar.indexCast v633
  ![v634.toNat, 0, v636.toNat]
def k1_off452 (v307 : BitVec 32) (v309 : BitVec 32) (k1_t60 : Fin (k1_t60_loop v307 v309).trips) (k1_t68 : Fin (k1_t68_loop v307 v309 k1_t60).trips) (k1_t70 : Fin (k1_t70_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t70
  let v640 : BitVec 32 := Scalar.muli c16_i32_219 arg32
  let v643 : Index := Scalar.indexCast v640
  ![v641.toNat, 1, v643.toNat]
def k1_off453 (v307 : BitVec 32) (v309 : BitVec 32) (k1_t60 : Fin (k1_t60_loop v307 v309).trips) (k1_t68 : Fin (k1_t68_loop v307 v309 k1_t60).trips) (k1_t70 : Fin (k1_t70_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t70
  let v647 : BitVec 32 := Scalar.muli c16_i32_221 arg32
  let v650 : Index := Scalar.indexCast v647
  ![v648.toNat, 2, v650.toNat]
def k1_off454 (v307 : BitVec 32) (v309 : BitVec 32) (k1_t60 : Fin (k1_t60_loop v307 v309).trips) (k1_t68 : Fin (k1_t68_loop v307 v309 k1_t60).trips) (k1_t70 : Fin (k1_t70_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t70
  let v654 : BitVec 32 := Scalar.muli c16_i32_223 arg32
  let v657 : Index := Scalar.indexCast v654
  ![v655.toNat, 3, v657.toNat]
def k1_off455 (v307 : BitVec 32) (v309 : BitVec 32) (k1_t60 : Fin (k1_t60_loop v307 v309).trips) (k1_t68 : Fin (k1_t68_loop v307 v309 k1_t60).trips) (k1_t70 : Fin (k1_t70_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t70
  let v661 : BitVec 32 := Scalar.muli c16_i32_225 arg32
  let v664 : Index := Scalar.indexCast v661
  ![v662.toNat, 4, v664.toNat]
def k1_off456 (v307 : BitVec 32) (v309 : BitVec 32) (k1_t60 : Fin (k1_t60_loop v307 v309).trips) (k1_t68 : Fin (k1_t68_loop v307 v309 k1_t60).trips) (k1_t70 : Fin (k1_t70_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t70
  let v668 : BitVec 32 := Scalar.muli c16_i32_227 arg32
  let v671 : Index := Scalar.indexCast v668
  ![v669.toNat, 5, v671.toNat]
def k1_off457 (v307 : BitVec 32) (v309 : BitVec 32) (k1_t60 : Fin (k1_t60_loop v307 v309).trips) (k1_t68 : Fin (k1_t68_loop v307 v309 k1_t60).trips) (k1_t70 : Fin (k1_t70_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t70
  let v675 : BitVec 32 := Scalar.muli c16_i32_229 arg32
  let v678 : Index := Scalar.indexCast v675
  ![v676.toNat, 6, v678.toNat]
def k1_off458 (v307 : BitVec 32) (v309 : BitVec 32) (k1_t60 : Fin (k1_t60_loop v307 v309).trips) (k1_t68 : Fin (k1_t68_loop v307 v309 k1_t60).trips) (k1_t70 : Fin (k1_t70_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t70
  let v682 : BitVec 32 := Scalar.muli c16_i32_231 arg32
  let v685 : Index := Scalar.indexCast v682
  ![v683.toNat, 7, v685.toNat]
@[reducible] def k1_t71_loop (v307 : BitVec 32) (v309 : BitVec 32) (k1_t60 : Fin (k1_t60_loop v307 v309).trips) (k1_t68 : Fin (k1_t68_loop v307 v309 k1_t60).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_210 : BitVec 32 := 1#32
  ⟨v615, v620, c1_i32_210⟩
def k1_off459 (v307 : BitVec 32) (v309 : BitVec 32) (k1_t60 : Fin (k1_t60_loop v307 v309).trips) (k1_t68 : Fin (k1_t68_loop v307 v309 k1_t60).trips) (k1_t71 : Fin (k1_t71_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t71
  let v642 : BitVec 32 := Scalar.muli c16_i32_218 arg32
  let v645 : Index := Scalar.indexCast v642
  ![v643.toNat, 0, v645.toNat]
def k1_off460 (v307 : BitVec 32) (v309 : BitVec 32) (k1_t60 : Fin (k1_t60_loop v307 v309).trips) (k1_t68 : Fin (k1_t68_loop v307 v309 k1_t60).trips) (k1_t71 : Fin (k1_t71_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t71
  let v650 : BitVec 32 := Scalar.muli c16_i32_220 arg32
  let v653 : Index := Scalar.indexCast v650
  ![v651.toNat, 1, v653.toNat]
def k1_off461 (v307 : BitVec 32) (v309 : BitVec 32) (k1_t60 : Fin (k1_t60_loop v307 v309).trips) (k1_t68 : Fin (k1_t68_loop v307 v309 k1_t60).trips) (k1_t71 : Fin (k1_t71_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t71
  let v658 : BitVec 32 := Scalar.muli c16_i32_222 arg32
  let v661 : Index := Scalar.indexCast v658
  ![v659.toNat, 2, v661.toNat]
def k1_off462 (v307 : BitVec 32) (v309 : BitVec 32) (k1_t60 : Fin (k1_t60_loop v307 v309).trips) (k1_t68 : Fin (k1_t68_loop v307 v309 k1_t60).trips) (k1_t71 : Fin (k1_t71_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t71
  let v666 : BitVec 32 := Scalar.muli c16_i32_224 arg32
  let v669 : Index := Scalar.indexCast v666
  ![v667.toNat, 3, v669.toNat]
def k1_off463 (v307 : BitVec 32) (v309 : BitVec 32) (k1_t60 : Fin (k1_t60_loop v307 v309).trips) (k1_t68 : Fin (k1_t68_loop v307 v309 k1_t60).trips) (k1_t71 : Fin (k1_t71_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t71
  let v674 : BitVec 32 := Scalar.muli c16_i32_226 arg32
  let v677 : Index := Scalar.indexCast v674
  ![v675.toNat, 4, v677.toNat]
def k1_off464 (v307 : BitVec 32) (v309 : BitVec 32) (k1_t60 : Fin (k1_t60_loop v307 v309).trips) (k1_t68 : Fin (k1_t68_loop v307 v309 k1_t60).trips) (k1_t71 : Fin (k1_t71_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t71
  let v682 : BitVec 32 := Scalar.muli c16_i32_228 arg32
  let v685 : Index := Scalar.indexCast v682
  ![v683.toNat, 5, v685.toNat]
def k1_off465 (v307 : BitVec 32) (v309 : BitVec 32) (k1_t60 : Fin (k1_t60_loop v307 v309).trips) (k1_t68 : Fin (k1_t68_loop v307 v309 k1_t60).trips) (k1_t71 : Fin (k1_t71_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t71
  let v690 : BitVec 32 := Scalar.muli c16_i32_230 arg32
  let v693 : Index := Scalar.indexCast v690
  ![v691.toNat, 6, v693.toNat]
def k1_off466 (v307 : BitVec 32) (v309 : BitVec 32) (k1_t60 : Fin (k1_t60_loop v307 v309).trips) (k1_t68 : Fin (k1_t68_loop v307 v309 k1_t60).trips) (k1_t71 : Fin (k1_t71_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t71
  let v698 : BitVec 32 := Scalar.muli c16_i32_232 arg32
  let v701 : Index := Scalar.indexCast v698
  ![v699.toNat, 7, v701.toNat]
@[reducible] def k1_t72_loop (v307 : BitVec 32) (v309 : BitVec 32) (k1_t60 : Fin (k1_t60_loop v307 v309).trips) (k1_t68 : Fin (k1_t68_loop v307 v309 k1_t60).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let v617 : BitVec 32 := Scalar.addi v615 v616
  let c1_i32_211 : BitVec 32 := 1#32
  ⟨v620, v617, c1_i32_211⟩
def k1_off467 (v307 : BitVec 32) (v309 : BitVec 32) (k1_t60 : Fin (k1_t60_loop v307 v309).trips) (k1_t68 : Fin (k1_t68_loop v307 v309 k1_t60).trips) (k1_t72 : Fin (k1_t72_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t72
  let v642 : BitVec 32 := Scalar.muli c16_i32_218 arg32
  let v645 : Index := Scalar.indexCast v642
  ![v643.toNat, 0, v645.toNat]
def k1_off468 (v307 : BitVec 32) (v309 : BitVec 32) (k1_t60 : Fin (k1_t60_loop v307 v309).trips) (k1_t68 : Fin (k1_t68_loop v307 v309 k1_t60).trips) (k1_t72 : Fin (k1_t72_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t72
  let v650 : BitVec 32 := Scalar.muli c16_i32_220 arg32
  let v653 : Index := Scalar.indexCast v650
  ![v651.toNat, 1, v653.toNat]
def k1_off469 (v307 : BitVec 32) (v309 : BitVec 32) (k1_t60 : Fin (k1_t60_loop v307 v309).trips) (k1_t68 : Fin (k1_t68_loop v307 v309 k1_t60).trips) (k1_t72 : Fin (k1_t72_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t72
  let v658 : BitVec 32 := Scalar.muli c16_i32_222 arg32
  let v661 : Index := Scalar.indexCast v658
  ![v659.toNat, 2, v661.toNat]
def k1_off470 (v307 : BitVec 32) (v309 : BitVec 32) (k1_t60 : Fin (k1_t60_loop v307 v309).trips) (k1_t68 : Fin (k1_t68_loop v307 v309 k1_t60).trips) (k1_t72 : Fin (k1_t72_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t72
  let v666 : BitVec 32 := Scalar.muli c16_i32_224 arg32
  let v669 : Index := Scalar.indexCast v666
  ![v667.toNat, 3, v669.toNat]
def k1_off471 (v307 : BitVec 32) (v309 : BitVec 32) (k1_t60 : Fin (k1_t60_loop v307 v309).trips) (k1_t68 : Fin (k1_t68_loop v307 v309 k1_t60).trips) (k1_t72 : Fin (k1_t72_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t72
  let v674 : BitVec 32 := Scalar.muli c16_i32_226 arg32
  let v677 : Index := Scalar.indexCast v674
  ![v675.toNat, 4, v677.toNat]
def k1_off472 (v307 : BitVec 32) (v309 : BitVec 32) (k1_t60 : Fin (k1_t60_loop v307 v309).trips) (k1_t68 : Fin (k1_t68_loop v307 v309 k1_t60).trips) (k1_t72 : Fin (k1_t72_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t72
  let v682 : BitVec 32 := Scalar.muli c16_i32_228 arg32
  let v685 : Index := Scalar.indexCast v682
  ![v683.toNat, 5, v685.toNat]
def k1_off473 (v307 : BitVec 32) (v309 : BitVec 32) (k1_t60 : Fin (k1_t60_loop v307 v309).trips) (k1_t68 : Fin (k1_t68_loop v307 v309 k1_t60).trips) (k1_t72 : Fin (k1_t72_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t72
  let v690 : BitVec 32 := Scalar.muli c16_i32_230 arg32
  let v693 : Index := Scalar.indexCast v690
  ![v691.toNat, 6, v693.toNat]
def k1_off474 (v307 : BitVec 32) (v309 : BitVec 32) (k1_t60 : Fin (k1_t60_loop v307 v309).trips) (k1_t68 : Fin (k1_t68_loop v307 v309 k1_t60).trips) (k1_t72 : Fin (k1_t72_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t72
  let v698 : BitVec 32 := Scalar.muli c16_i32_232 arg32
  let v701 : Index := Scalar.indexCast v698
  ![v699.toNat, 7, v701.toNat]
@[reducible] def k1_t73_loop (v307 : BitVec 32) (v309 : BitVec 32) (k1_t60 : Fin (k1_t60_loop v307 v309).trips) (k1_t68 : Fin (k1_t68_loop v307 v309 k1_t60).trips) : Scf.Loop 32 :=
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_215 : BitVec 32 := 1#32
  ⟨v623, v630, c1_i32_215⟩
def k1_off475 (v307 : BitVec 32) (v309 : BitVec 32) (k1_t60 : Fin (k1_t60_loop v307 v309).trips) (k1_t68 : Fin (k1_t68_loop v307 v309 k1_t60).trips) (k1_t73 : Fin (k1_t73_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t73
  let v642 : BitVec 32 := Scalar.muli c16_i32_218 arg32
  let v645 : Index := Scalar.indexCast v642
  ![v643.toNat, 0, v645.toNat]
def k1_off476 (v307 : BitVec 32) (v309 : BitVec 32) (k1_t60 : Fin (k1_t60_loop v307 v309).trips) (k1_t68 : Fin (k1_t68_loop v307 v309 k1_t60).trips) (k1_t73 : Fin (k1_t73_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t73
  let v650 : BitVec 32 := Scalar.muli c16_i32_220 arg32
  let v653 : Index := Scalar.indexCast v650
  ![v651.toNat, 1, v653.toNat]
def k1_off477 (v307 : BitVec 32) (v309 : BitVec 32) (k1_t60 : Fin (k1_t60_loop v307 v309).trips) (k1_t68 : Fin (k1_t68_loop v307 v309 k1_t60).trips) (k1_t73 : Fin (k1_t73_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t73
  let v658 : BitVec 32 := Scalar.muli c16_i32_222 arg32
  let v661 : Index := Scalar.indexCast v658
  ![v659.toNat, 2, v661.toNat]
def k1_off478 (v307 : BitVec 32) (v309 : BitVec 32) (k1_t60 : Fin (k1_t60_loop v307 v309).trips) (k1_t68 : Fin (k1_t68_loop v307 v309 k1_t60).trips) (k1_t73 : Fin (k1_t73_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t73
  let v666 : BitVec 32 := Scalar.muli c16_i32_224 arg32
  let v669 : Index := Scalar.indexCast v666
  ![v667.toNat, 3, v669.toNat]
def k1_off479 (v307 : BitVec 32) (v309 : BitVec 32) (k1_t60 : Fin (k1_t60_loop v307 v309).trips) (k1_t68 : Fin (k1_t68_loop v307 v309 k1_t60).trips) (k1_t73 : Fin (k1_t73_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t73
  let v674 : BitVec 32 := Scalar.muli c16_i32_226 arg32
  let v677 : Index := Scalar.indexCast v674
  ![v675.toNat, 4, v677.toNat]
def k1_off480 (v307 : BitVec 32) (v309 : BitVec 32) (k1_t60 : Fin (k1_t60_loop v307 v309).trips) (k1_t68 : Fin (k1_t68_loop v307 v309 k1_t60).trips) (k1_t73 : Fin (k1_t73_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t73
  let v682 : BitVec 32 := Scalar.muli c16_i32_228 arg32
  let v685 : Index := Scalar.indexCast v682
  ![v683.toNat, 5, v685.toNat]
def k1_off481 (v307 : BitVec 32) (v309 : BitVec 32) (k1_t60 : Fin (k1_t60_loop v307 v309).trips) (k1_t68 : Fin (k1_t68_loop v307 v309 k1_t60).trips) (k1_t73 : Fin (k1_t73_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t73
  let v690 : BitVec 32 := Scalar.muli c16_i32_230 arg32
  let v693 : Index := Scalar.indexCast v690
  ![v691.toNat, 6, v693.toNat]
def k1_off482 (v307 : BitVec 32) (v309 : BitVec 32) (k1_t60 : Fin (k1_t60_loop v307 v309).trips) (k1_t68 : Fin (k1_t68_loop v307 v309 k1_t60).trips) (k1_t73 : Fin (k1_t73_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t73
  let v698 : BitVec 32 := Scalar.muli c16_i32_232 arg32
  let v701 : Index := Scalar.indexCast v698
  ![v699.toNat, 7, v701.toNat]
@[reducible] def k1_t74_loop (v307 : BitVec 32) (v309 : BitVec 32) (k1_t60 : Fin (k1_t60_loop v307 v309).trips) (k1_t68 : Fin (k1_t68_loop v307 v309 k1_t60).trips) : Scf.Loop 32 :=
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let v627 : BitVec 32 := Scalar.addi v623 v626
  let c1_i32_216 : BitVec 32 := 1#32
  ⟨v630, v627, c1_i32_216⟩
def k1_off483 (v307 : BitVec 32) (v309 : BitVec 32) (k1_t60 : Fin (k1_t60_loop v307 v309).trips) (k1_t68 : Fin (k1_t68_loop v307 v309 k1_t60).trips) (k1_t74 : Fin (k1_t74_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t74
  let v642 : BitVec 32 := Scalar.muli c16_i32_218 arg32
  let v645 : Index := Scalar.indexCast v642
  ![v643.toNat, 0, v645.toNat]
def k1_off484 (v307 : BitVec 32) (v309 : BitVec 32) (k1_t60 : Fin (k1_t60_loop v307 v309).trips) (k1_t68 : Fin (k1_t68_loop v307 v309 k1_t60).trips) (k1_t74 : Fin (k1_t74_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t74
  let v650 : BitVec 32 := Scalar.muli c16_i32_220 arg32
  let v653 : Index := Scalar.indexCast v650
  ![v651.toNat, 1, v653.toNat]
def k1_off485 (v307 : BitVec 32) (v309 : BitVec 32) (k1_t60 : Fin (k1_t60_loop v307 v309).trips) (k1_t68 : Fin (k1_t68_loop v307 v309 k1_t60).trips) (k1_t74 : Fin (k1_t74_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t74
  let v658 : BitVec 32 := Scalar.muli c16_i32_222 arg32
  let v661 : Index := Scalar.indexCast v658
  ![v659.toNat, 2, v661.toNat]
def k1_off486 (v307 : BitVec 32) (v309 : BitVec 32) (k1_t60 : Fin (k1_t60_loop v307 v309).trips) (k1_t68 : Fin (k1_t68_loop v307 v309 k1_t60).trips) (k1_t74 : Fin (k1_t74_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t74
  let v666 : BitVec 32 := Scalar.muli c16_i32_224 arg32
  let v669 : Index := Scalar.indexCast v666
  ![v667.toNat, 3, v669.toNat]
def k1_off487 (v307 : BitVec 32) (v309 : BitVec 32) (k1_t60 : Fin (k1_t60_loop v307 v309).trips) (k1_t68 : Fin (k1_t68_loop v307 v309 k1_t60).trips) (k1_t74 : Fin (k1_t74_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t74
  let v674 : BitVec 32 := Scalar.muli c16_i32_226 arg32
  let v677 : Index := Scalar.indexCast v674
  ![v675.toNat, 4, v677.toNat]
def k1_off488 (v307 : BitVec 32) (v309 : BitVec 32) (k1_t60 : Fin (k1_t60_loop v307 v309).trips) (k1_t68 : Fin (k1_t68_loop v307 v309 k1_t60).trips) (k1_t74 : Fin (k1_t74_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t74
  let v682 : BitVec 32 := Scalar.muli c16_i32_228 arg32
  let v685 : Index := Scalar.indexCast v682
  ![v683.toNat, 5, v685.toNat]
def k1_off489 (v307 : BitVec 32) (v309 : BitVec 32) (k1_t60 : Fin (k1_t60_loop v307 v309).trips) (k1_t68 : Fin (k1_t68_loop v307 v309 k1_t60).trips) (k1_t74 : Fin (k1_t74_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t74
  let v690 : BitVec 32 := Scalar.muli c16_i32_230 arg32
  let v693 : Index := Scalar.indexCast v690
  ![v691.toNat, 6, v693.toNat]
def k1_off490 (v307 : BitVec 32) (v309 : BitVec 32) (k1_t60 : Fin (k1_t60_loop v307 v309).trips) (k1_t68 : Fin (k1_t68_loop v307 v309 k1_t60).trips) (k1_t74 : Fin (k1_t74_loop v307 v309 k1_t60 k1_t68).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let c1_i32_117 : BitVec 32 := 1#32
  let arg14 : BitVec 32 := Scf.iv c1_i32_115 c1_i32_117 k1_t60
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t68
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t74
  let v698 : BitVec 32 := Scalar.muli c16_i32_232 arg32
  let v701 : Index := Scalar.indexCast v698
  ![v699.toNat, 7, v701.toNat]
@[reducible] def k1_t75_loop (v307 : BitVec 32) (v309 : BitVec 32) : Scf.Loop 32 :=
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let v331 : BitVec 32 := Scalar.addi c1_i32_115 v330
  let c1_i32_118 : BitVec 32 := 1#32
  ⟨v334, v331, c1_i32_118⟩
def k1_off491 (v307 : BitVec 32) (v309 : BitVec 32) (k1_t75 : Fin (k1_t75_loop v307 v309).trips) : Fin 3 → Nat :=
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_199_r4 : BitVec 32 := 0#32
  let c0_i32_200_r4 : BitVec 32 := 0#32
  ![v587.toNat, 0, 0]
@[reducible] def k1_t76_loop (v307 : BitVec 32) (v309 : BitVec 32) (k1_t75 : Fin (k1_t75_loop v307 v309).trips) : Scf.Loop 32 :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_197 : BitVec 32 := 1#32
  ⟨c0_i32_195, v594, c1_i32_197⟩
@[reducible] def k1_t77_loop (v307 : BitVec 32) (v309 : BitVec 32) (k1_t75 : Fin (k1_t75_loop v307 v309).trips) (k1_t76 : Fin (k1_t76_loop v307 v309 k1_t75).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_195 : BitVec 32 := 0#32
  let c1_i32_197 : BitVec 32 := 1#32
  let arg23 : BitVec 32 := Scf.iv c0_i32_195 c1_i32_197 k1_t76
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_206 : BitVec 32 := 1#32
  ⟨v606, v612, c1_i32_206⟩
def k1_off492 (v307 : BitVec 32) (v309 : BitVec 32) (k1_t75 : Fin (k1_t75_loop v307 v309).trips) (k1_t76 : Fin (k1_t76_loop v307 v309 k1_t75).trips) (k1_t77 : Fin (k1_t77_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t77
  let v633 : BitVec 32 := Scalar.muli c16_i32_217 arg32
  let v636 : Index := Scalar.indexCast v633
  ![v634.toNat, 0, v636.toNat]
def k1_off493 (v307 : BitVec 32) (v309 : BitVec 32) (k1_t75 : Fin (k1_t75_loop v307 v309).trips) (k1_t76 : Fin (k1_t76_loop v307 v309 k1_t75).trips) (k1_t77 : Fin (k1_t77_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t77
  let v640 : BitVec 32 := Scalar.muli c16_i32_219 arg32
  let v643 : Index := Scalar.indexCast v640
  ![v641.toNat, 1, v643.toNat]
def k1_off494 (v307 : BitVec 32) (v309 : BitVec 32) (k1_t75 : Fin (k1_t75_loop v307 v309).trips) (k1_t76 : Fin (k1_t76_loop v307 v309 k1_t75).trips) (k1_t77 : Fin (k1_t77_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t77
  let v647 : BitVec 32 := Scalar.muli c16_i32_221 arg32
  let v650 : Index := Scalar.indexCast v647
  ![v648.toNat, 2, v650.toNat]
def k1_off495 (v307 : BitVec 32) (v309 : BitVec 32) (k1_t75 : Fin (k1_t75_loop v307 v309).trips) (k1_t76 : Fin (k1_t76_loop v307 v309 k1_t75).trips) (k1_t77 : Fin (k1_t77_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t77
  let v654 : BitVec 32 := Scalar.muli c16_i32_223 arg32
  let v657 : Index := Scalar.indexCast v654
  ![v655.toNat, 3, v657.toNat]
def k1_off496 (v307 : BitVec 32) (v309 : BitVec 32) (k1_t75 : Fin (k1_t75_loop v307 v309).trips) (k1_t76 : Fin (k1_t76_loop v307 v309 k1_t75).trips) (k1_t77 : Fin (k1_t77_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t77
  let v661 : BitVec 32 := Scalar.muli c16_i32_225 arg32
  let v664 : Index := Scalar.indexCast v661
  ![v662.toNat, 4, v664.toNat]
def k1_off497 (v307 : BitVec 32) (v309 : BitVec 32) (k1_t75 : Fin (k1_t75_loop v307 v309).trips) (k1_t76 : Fin (k1_t76_loop v307 v309 k1_t75).trips) (k1_t77 : Fin (k1_t77_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t77
  let v668 : BitVec 32 := Scalar.muli c16_i32_227 arg32
  let v671 : Index := Scalar.indexCast v668
  ![v669.toNat, 5, v671.toNat]
def k1_off498 (v307 : BitVec 32) (v309 : BitVec 32) (k1_t75 : Fin (k1_t75_loop v307 v309).trips) (k1_t76 : Fin (k1_t76_loop v307 v309 k1_t75).trips) (k1_t77 : Fin (k1_t77_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t77
  let v675 : BitVec 32 := Scalar.muli c16_i32_229 arg32
  let v678 : Index := Scalar.indexCast v675
  ![v676.toNat, 6, v678.toNat]
def k1_off499 (v307 : BitVec 32) (v309 : BitVec 32) (k1_t75 : Fin (k1_t75_loop v307 v309).trips) (k1_t76 : Fin (k1_t76_loop v307 v309 k1_t75).trips) (k1_t77 : Fin (k1_t77_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t77
  let v682 : BitVec 32 := Scalar.muli c16_i32_231 arg32
  let v685 : Index := Scalar.indexCast v682
  ![v683.toNat, 7, v685.toNat]
@[reducible] def k1_t78_loop (v307 : BitVec 32) (v309 : BitVec 32) (k1_t75 : Fin (k1_t75_loop v307 v309).trips) (k1_t76 : Fin (k1_t76_loop v307 v309 k1_t75).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_195 : BitVec 32 := 0#32
  let c1_i32_197 : BitVec 32 := 1#32
  let arg23 : BitVec 32 := Scf.iv c0_i32_195 c1_i32_197 k1_t76
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let v609 : BitVec 32 := Scalar.addi v606 v608
  let c1_i32_207 : BitVec 32 := 1#32
  ⟨v612, v609, c1_i32_207⟩
def k1_off500 (v307 : BitVec 32) (v309 : BitVec 32) (k1_t75 : Fin (k1_t75_loop v307 v309).trips) (k1_t76 : Fin (k1_t76_loop v307 v309 k1_t75).trips) (k1_t78 : Fin (k1_t78_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t78
  let v633 : BitVec 32 := Scalar.muli c16_i32_217 arg32
  let v636 : Index := Scalar.indexCast v633
  ![v634.toNat, 0, v636.toNat]
def k1_off501 (v307 : BitVec 32) (v309 : BitVec 32) (k1_t75 : Fin (k1_t75_loop v307 v309).trips) (k1_t76 : Fin (k1_t76_loop v307 v309 k1_t75).trips) (k1_t78 : Fin (k1_t78_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t78
  let v640 : BitVec 32 := Scalar.muli c16_i32_219 arg32
  let v643 : Index := Scalar.indexCast v640
  ![v641.toNat, 1, v643.toNat]
def k1_off502 (v307 : BitVec 32) (v309 : BitVec 32) (k1_t75 : Fin (k1_t75_loop v307 v309).trips) (k1_t76 : Fin (k1_t76_loop v307 v309 k1_t75).trips) (k1_t78 : Fin (k1_t78_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t78
  let v647 : BitVec 32 := Scalar.muli c16_i32_221 arg32
  let v650 : Index := Scalar.indexCast v647
  ![v648.toNat, 2, v650.toNat]
def k1_off503 (v307 : BitVec 32) (v309 : BitVec 32) (k1_t75 : Fin (k1_t75_loop v307 v309).trips) (k1_t76 : Fin (k1_t76_loop v307 v309 k1_t75).trips) (k1_t78 : Fin (k1_t78_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t78
  let v654 : BitVec 32 := Scalar.muli c16_i32_223 arg32
  let v657 : Index := Scalar.indexCast v654
  ![v655.toNat, 3, v657.toNat]
def k1_off504 (v307 : BitVec 32) (v309 : BitVec 32) (k1_t75 : Fin (k1_t75_loop v307 v309).trips) (k1_t76 : Fin (k1_t76_loop v307 v309 k1_t75).trips) (k1_t78 : Fin (k1_t78_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t78
  let v661 : BitVec 32 := Scalar.muli c16_i32_225 arg32
  let v664 : Index := Scalar.indexCast v661
  ![v662.toNat, 4, v664.toNat]
def k1_off505 (v307 : BitVec 32) (v309 : BitVec 32) (k1_t75 : Fin (k1_t75_loop v307 v309).trips) (k1_t76 : Fin (k1_t76_loop v307 v309 k1_t75).trips) (k1_t78 : Fin (k1_t78_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t78
  let v668 : BitVec 32 := Scalar.muli c16_i32_227 arg32
  let v671 : Index := Scalar.indexCast v668
  ![v669.toNat, 5, v671.toNat]
def k1_off506 (v307 : BitVec 32) (v309 : BitVec 32) (k1_t75 : Fin (k1_t75_loop v307 v309).trips) (k1_t76 : Fin (k1_t76_loop v307 v309 k1_t75).trips) (k1_t78 : Fin (k1_t78_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t78
  let v675 : BitVec 32 := Scalar.muli c16_i32_229 arg32
  let v678 : Index := Scalar.indexCast v675
  ![v676.toNat, 6, v678.toNat]
def k1_off507 (v307 : BitVec 32) (v309 : BitVec 32) (k1_t75 : Fin (k1_t75_loop v307 v309).trips) (k1_t76 : Fin (k1_t76_loop v307 v309 k1_t75).trips) (k1_t78 : Fin (k1_t78_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t78
  let v682 : BitVec 32 := Scalar.muli c16_i32_231 arg32
  let v685 : Index := Scalar.indexCast v682
  ![v683.toNat, 7, v685.toNat]
@[reducible] def k1_t79_loop (v307 : BitVec 32) (v309 : BitVec 32) (k1_t75 : Fin (k1_t75_loop v307 v309).trips) (k1_t76 : Fin (k1_t76_loop v307 v309 k1_t75).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_195 : BitVec 32 := 0#32
  let c1_i32_197 : BitVec 32 := 1#32
  let arg23 : BitVec 32 := Scf.iv c0_i32_195 c1_i32_197 k1_t76
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_210 : BitVec 32 := 1#32
  ⟨v615, v620, c1_i32_210⟩
def k1_off508 (v307 : BitVec 32) (v309 : BitVec 32) (k1_t75 : Fin (k1_t75_loop v307 v309).trips) (k1_t76 : Fin (k1_t76_loop v307 v309 k1_t75).trips) (k1_t79 : Fin (k1_t79_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t79
  let v642 : BitVec 32 := Scalar.muli c16_i32_218 arg32
  let v645 : Index := Scalar.indexCast v642
  ![v643.toNat, 0, v645.toNat]
def k1_off509 (v307 : BitVec 32) (v309 : BitVec 32) (k1_t75 : Fin (k1_t75_loop v307 v309).trips) (k1_t76 : Fin (k1_t76_loop v307 v309 k1_t75).trips) (k1_t79 : Fin (k1_t79_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t79
  let v650 : BitVec 32 := Scalar.muli c16_i32_220 arg32
  let v653 : Index := Scalar.indexCast v650
  ![v651.toNat, 1, v653.toNat]
def k1_off510 (v307 : BitVec 32) (v309 : BitVec 32) (k1_t75 : Fin (k1_t75_loop v307 v309).trips) (k1_t76 : Fin (k1_t76_loop v307 v309 k1_t75).trips) (k1_t79 : Fin (k1_t79_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t79
  let v658 : BitVec 32 := Scalar.muli c16_i32_222 arg32
  let v661 : Index := Scalar.indexCast v658
  ![v659.toNat, 2, v661.toNat]
def k1_off511 (v307 : BitVec 32) (v309 : BitVec 32) (k1_t75 : Fin (k1_t75_loop v307 v309).trips) (k1_t76 : Fin (k1_t76_loop v307 v309 k1_t75).trips) (k1_t79 : Fin (k1_t79_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t79
  let v666 : BitVec 32 := Scalar.muli c16_i32_224 arg32
  let v669 : Index := Scalar.indexCast v666
  ![v667.toNat, 3, v669.toNat]
def k1_off512 (v307 : BitVec 32) (v309 : BitVec 32) (k1_t75 : Fin (k1_t75_loop v307 v309).trips) (k1_t76 : Fin (k1_t76_loop v307 v309 k1_t75).trips) (k1_t79 : Fin (k1_t79_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t79
  let v674 : BitVec 32 := Scalar.muli c16_i32_226 arg32
  let v677 : Index := Scalar.indexCast v674
  ![v675.toNat, 4, v677.toNat]
def k1_off513 (v307 : BitVec 32) (v309 : BitVec 32) (k1_t75 : Fin (k1_t75_loop v307 v309).trips) (k1_t76 : Fin (k1_t76_loop v307 v309 k1_t75).trips) (k1_t79 : Fin (k1_t79_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t79
  let v682 : BitVec 32 := Scalar.muli c16_i32_228 arg32
  let v685 : Index := Scalar.indexCast v682
  ![v683.toNat, 5, v685.toNat]
def k1_off514 (v307 : BitVec 32) (v309 : BitVec 32) (k1_t75 : Fin (k1_t75_loop v307 v309).trips) (k1_t76 : Fin (k1_t76_loop v307 v309 k1_t75).trips) (k1_t79 : Fin (k1_t79_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t79
  let v690 : BitVec 32 := Scalar.muli c16_i32_230 arg32
  let v693 : Index := Scalar.indexCast v690
  ![v691.toNat, 6, v693.toNat]
def k1_off515 (v307 : BitVec 32) (v309 : BitVec 32) (k1_t75 : Fin (k1_t75_loop v307 v309).trips) (k1_t76 : Fin (k1_t76_loop v307 v309 k1_t75).trips) (k1_t79 : Fin (k1_t79_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t79
  let v698 : BitVec 32 := Scalar.muli c16_i32_232 arg32
  let v701 : Index := Scalar.indexCast v698
  ![v699.toNat, 7, v701.toNat]
@[reducible] def k1_t80_loop (v307 : BitVec 32) (v309 : BitVec 32) (k1_t75 : Fin (k1_t75_loop v307 v309).trips) (k1_t76 : Fin (k1_t76_loop v307 v309 k1_t75).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_195 : BitVec 32 := 0#32
  let c1_i32_197 : BitVec 32 := 1#32
  let arg23 : BitVec 32 := Scf.iv c0_i32_195 c1_i32_197 k1_t76
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let v617 : BitVec 32 := Scalar.addi v615 v616
  let c1_i32_211 : BitVec 32 := 1#32
  ⟨v620, v617, c1_i32_211⟩
def k1_off516 (v307 : BitVec 32) (v309 : BitVec 32) (k1_t75 : Fin (k1_t75_loop v307 v309).trips) (k1_t76 : Fin (k1_t76_loop v307 v309 k1_t75).trips) (k1_t80 : Fin (k1_t80_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t80
  let v642 : BitVec 32 := Scalar.muli c16_i32_218 arg32
  let v645 : Index := Scalar.indexCast v642
  ![v643.toNat, 0, v645.toNat]
def k1_off517 (v307 : BitVec 32) (v309 : BitVec 32) (k1_t75 : Fin (k1_t75_loop v307 v309).trips) (k1_t76 : Fin (k1_t76_loop v307 v309 k1_t75).trips) (k1_t80 : Fin (k1_t80_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t80
  let v650 : BitVec 32 := Scalar.muli c16_i32_220 arg32
  let v653 : Index := Scalar.indexCast v650
  ![v651.toNat, 1, v653.toNat]
def k1_off518 (v307 : BitVec 32) (v309 : BitVec 32) (k1_t75 : Fin (k1_t75_loop v307 v309).trips) (k1_t76 : Fin (k1_t76_loop v307 v309 k1_t75).trips) (k1_t80 : Fin (k1_t80_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t80
  let v658 : BitVec 32 := Scalar.muli c16_i32_222 arg32
  let v661 : Index := Scalar.indexCast v658
  ![v659.toNat, 2, v661.toNat]
def k1_off519 (v307 : BitVec 32) (v309 : BitVec 32) (k1_t75 : Fin (k1_t75_loop v307 v309).trips) (k1_t76 : Fin (k1_t76_loop v307 v309 k1_t75).trips) (k1_t80 : Fin (k1_t80_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t80
  let v666 : BitVec 32 := Scalar.muli c16_i32_224 arg32
  let v669 : Index := Scalar.indexCast v666
  ![v667.toNat, 3, v669.toNat]
def k1_off520 (v307 : BitVec 32) (v309 : BitVec 32) (k1_t75 : Fin (k1_t75_loop v307 v309).trips) (k1_t76 : Fin (k1_t76_loop v307 v309 k1_t75).trips) (k1_t80 : Fin (k1_t80_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t80
  let v674 : BitVec 32 := Scalar.muli c16_i32_226 arg32
  let v677 : Index := Scalar.indexCast v674
  ![v675.toNat, 4, v677.toNat]
def k1_off521 (v307 : BitVec 32) (v309 : BitVec 32) (k1_t75 : Fin (k1_t75_loop v307 v309).trips) (k1_t76 : Fin (k1_t76_loop v307 v309 k1_t75).trips) (k1_t80 : Fin (k1_t80_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t80
  let v682 : BitVec 32 := Scalar.muli c16_i32_228 arg32
  let v685 : Index := Scalar.indexCast v682
  ![v683.toNat, 5, v685.toNat]
def k1_off522 (v307 : BitVec 32) (v309 : BitVec 32) (k1_t75 : Fin (k1_t75_loop v307 v309).trips) (k1_t76 : Fin (k1_t76_loop v307 v309 k1_t75).trips) (k1_t80 : Fin (k1_t80_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t80
  let v690 : BitVec 32 := Scalar.muli c16_i32_230 arg32
  let v693 : Index := Scalar.indexCast v690
  ![v691.toNat, 6, v693.toNat]
def k1_off523 (v307 : BitVec 32) (v309 : BitVec 32) (k1_t75 : Fin (k1_t75_loop v307 v309).trips) (k1_t76 : Fin (k1_t76_loop v307 v309 k1_t75).trips) (k1_t80 : Fin (k1_t80_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t80
  let v698 : BitVec 32 := Scalar.muli c16_i32_232 arg32
  let v701 : Index := Scalar.indexCast v698
  ![v699.toNat, 7, v701.toNat]
@[reducible] def k1_t81_loop (v307 : BitVec 32) (v309 : BitVec 32) (k1_t75 : Fin (k1_t75_loop v307 v309).trips) (k1_t76 : Fin (k1_t76_loop v307 v309 k1_t75).trips) : Scf.Loop 32 :=
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_195 : BitVec 32 := 0#32
  let c1_i32_197 : BitVec 32 := 1#32
  let arg23 : BitVec 32 := Scf.iv c0_i32_195 c1_i32_197 k1_t76
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_215 : BitVec 32 := 1#32
  ⟨v623, v630, c1_i32_215⟩
def k1_off524 (v307 : BitVec 32) (v309 : BitVec 32) (k1_t75 : Fin (k1_t75_loop v307 v309).trips) (k1_t76 : Fin (k1_t76_loop v307 v309 k1_t75).trips) (k1_t81 : Fin (k1_t81_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t81
  let v642 : BitVec 32 := Scalar.muli c16_i32_218 arg32
  let v645 : Index := Scalar.indexCast v642
  ![v643.toNat, 0, v645.toNat]
def k1_off525 (v307 : BitVec 32) (v309 : BitVec 32) (k1_t75 : Fin (k1_t75_loop v307 v309).trips) (k1_t76 : Fin (k1_t76_loop v307 v309 k1_t75).trips) (k1_t81 : Fin (k1_t81_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t81
  let v650 : BitVec 32 := Scalar.muli c16_i32_220 arg32
  let v653 : Index := Scalar.indexCast v650
  ![v651.toNat, 1, v653.toNat]
def k1_off526 (v307 : BitVec 32) (v309 : BitVec 32) (k1_t75 : Fin (k1_t75_loop v307 v309).trips) (k1_t76 : Fin (k1_t76_loop v307 v309 k1_t75).trips) (k1_t81 : Fin (k1_t81_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t81
  let v658 : BitVec 32 := Scalar.muli c16_i32_222 arg32
  let v661 : Index := Scalar.indexCast v658
  ![v659.toNat, 2, v661.toNat]
def k1_off527 (v307 : BitVec 32) (v309 : BitVec 32) (k1_t75 : Fin (k1_t75_loop v307 v309).trips) (k1_t76 : Fin (k1_t76_loop v307 v309 k1_t75).trips) (k1_t81 : Fin (k1_t81_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t81
  let v666 : BitVec 32 := Scalar.muli c16_i32_224 arg32
  let v669 : Index := Scalar.indexCast v666
  ![v667.toNat, 3, v669.toNat]
def k1_off528 (v307 : BitVec 32) (v309 : BitVec 32) (k1_t75 : Fin (k1_t75_loop v307 v309).trips) (k1_t76 : Fin (k1_t76_loop v307 v309 k1_t75).trips) (k1_t81 : Fin (k1_t81_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t81
  let v674 : BitVec 32 := Scalar.muli c16_i32_226 arg32
  let v677 : Index := Scalar.indexCast v674
  ![v675.toNat, 4, v677.toNat]
def k1_off529 (v307 : BitVec 32) (v309 : BitVec 32) (k1_t75 : Fin (k1_t75_loop v307 v309).trips) (k1_t76 : Fin (k1_t76_loop v307 v309 k1_t75).trips) (k1_t81 : Fin (k1_t81_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t81
  let v682 : BitVec 32 := Scalar.muli c16_i32_228 arg32
  let v685 : Index := Scalar.indexCast v682
  ![v683.toNat, 5, v685.toNat]
def k1_off530 (v307 : BitVec 32) (v309 : BitVec 32) (k1_t75 : Fin (k1_t75_loop v307 v309).trips) (k1_t76 : Fin (k1_t76_loop v307 v309 k1_t75).trips) (k1_t81 : Fin (k1_t81_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t81
  let v690 : BitVec 32 := Scalar.muli c16_i32_230 arg32
  let v693 : Index := Scalar.indexCast v690
  ![v691.toNat, 6, v693.toNat]
def k1_off531 (v307 : BitVec 32) (v309 : BitVec 32) (k1_t75 : Fin (k1_t75_loop v307 v309).trips) (k1_t76 : Fin (k1_t76_loop v307 v309 k1_t75).trips) (k1_t81 : Fin (k1_t81_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t81
  let v698 : BitVec 32 := Scalar.muli c16_i32_232 arg32
  let v701 : Index := Scalar.indexCast v698
  ![v699.toNat, 7, v701.toNat]
@[reducible] def k1_t82_loop (v307 : BitVec 32) (v309 : BitVec 32) (k1_t75 : Fin (k1_t75_loop v307 v309).trips) (k1_t76 : Fin (k1_t76_loop v307 v309 k1_t75).trips) : Scf.Loop 32 :=
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_195 : BitVec 32 := 0#32
  let c1_i32_197 : BitVec 32 := 1#32
  let arg23 : BitVec 32 := Scf.iv c0_i32_195 c1_i32_197 k1_t76
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let v627 : BitVec 32 := Scalar.addi v623 v626
  let c1_i32_216 : BitVec 32 := 1#32
  ⟨v630, v627, c1_i32_216⟩
def k1_off532 (v307 : BitVec 32) (v309 : BitVec 32) (k1_t75 : Fin (k1_t75_loop v307 v309).trips) (k1_t76 : Fin (k1_t76_loop v307 v309 k1_t75).trips) (k1_t82 : Fin (k1_t82_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t82
  let v642 : BitVec 32 := Scalar.muli c16_i32_218 arg32
  let v645 : Index := Scalar.indexCast v642
  ![v643.toNat, 0, v645.toNat]
def k1_off533 (v307 : BitVec 32) (v309 : BitVec 32) (k1_t75 : Fin (k1_t75_loop v307 v309).trips) (k1_t76 : Fin (k1_t76_loop v307 v309 k1_t75).trips) (k1_t82 : Fin (k1_t82_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t82
  let v650 : BitVec 32 := Scalar.muli c16_i32_220 arg32
  let v653 : Index := Scalar.indexCast v650
  ![v651.toNat, 1, v653.toNat]
def k1_off534 (v307 : BitVec 32) (v309 : BitVec 32) (k1_t75 : Fin (k1_t75_loop v307 v309).trips) (k1_t76 : Fin (k1_t76_loop v307 v309 k1_t75).trips) (k1_t82 : Fin (k1_t82_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t82
  let v658 : BitVec 32 := Scalar.muli c16_i32_222 arg32
  let v661 : Index := Scalar.indexCast v658
  ![v659.toNat, 2, v661.toNat]
def k1_off535 (v307 : BitVec 32) (v309 : BitVec 32) (k1_t75 : Fin (k1_t75_loop v307 v309).trips) (k1_t76 : Fin (k1_t76_loop v307 v309 k1_t75).trips) (k1_t82 : Fin (k1_t82_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t82
  let v666 : BitVec 32 := Scalar.muli c16_i32_224 arg32
  let v669 : Index := Scalar.indexCast v666
  ![v667.toNat, 3, v669.toNat]
def k1_off536 (v307 : BitVec 32) (v309 : BitVec 32) (k1_t75 : Fin (k1_t75_loop v307 v309).trips) (k1_t76 : Fin (k1_t76_loop v307 v309 k1_t75).trips) (k1_t82 : Fin (k1_t82_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t82
  let v674 : BitVec 32 := Scalar.muli c16_i32_226 arg32
  let v677 : Index := Scalar.indexCast v674
  ![v675.toNat, 4, v677.toNat]
def k1_off537 (v307 : BitVec 32) (v309 : BitVec 32) (k1_t75 : Fin (k1_t75_loop v307 v309).trips) (k1_t76 : Fin (k1_t76_loop v307 v309 k1_t75).trips) (k1_t82 : Fin (k1_t82_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t82
  let v682 : BitVec 32 := Scalar.muli c16_i32_228 arg32
  let v685 : Index := Scalar.indexCast v682
  ![v683.toNat, 5, v685.toNat]
def k1_off538 (v307 : BitVec 32) (v309 : BitVec 32) (k1_t75 : Fin (k1_t75_loop v307 v309).trips) (k1_t76 : Fin (k1_t76_loop v307 v309 k1_t75).trips) (k1_t82 : Fin (k1_t82_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t82
  let v690 : BitVec 32 := Scalar.muli c16_i32_230 arg32
  let v693 : Index := Scalar.indexCast v690
  ![v691.toNat, 6, v693.toNat]
def k1_off539 (v307 : BitVec 32) (v309 : BitVec 32) (k1_t75 : Fin (k1_t75_loop v307 v309).trips) (k1_t76 : Fin (k1_t76_loop v307 v309 k1_t75).trips) (k1_t82 : Fin (k1_t82_loop v307 v309 k1_t75 k1_t76).trips) : Fin 3 → Nat :=
  let c0_i32_195 : BitVec 32 := 0#32
  let c1_i32_197 : BitVec 32 := 1#32
  let arg23 : BitVec 32 := Scf.iv c0_i32_195 c1_i32_197 k1_t76
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t82
  let v698 : BitVec 32 := Scalar.muli c16_i32_232 arg32
  let v701 : Index := Scalar.indexCast v698
  ![v699.toNat, 7, v701.toNat]
@[reducible] def k1_t83_loop (v307 : BitVec 32) (v309 : BitVec 32) (k1_t75 : Fin (k1_t75_loop v307 v309).trips) : Scf.Loop 32 :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let v591 : BitVec 32 := Scalar.addi c0_i32_195 v590
  let c1_i32_198 : BitVec 32 := 1#32
  ⟨v594, v591, c1_i32_198⟩
@[reducible] def k1_t84_loop (v307 : BitVec 32) (v309 : BitVec 32) (k1_t75 : Fin (k1_t75_loop v307 v309).trips) (k1_t83 : Fin (k1_t83_loop v307 v309 k1_t75).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_195 : BitVec 32 := 0#32
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_206 : BitVec 32 := 1#32
  ⟨v606, v612, c1_i32_206⟩
def k1_off540 (v307 : BitVec 32) (v309 : BitVec 32) (k1_t75 : Fin (k1_t75_loop v307 v309).trips) (k1_t83 : Fin (k1_t83_loop v307 v309 k1_t75).trips) (k1_t84 : Fin (k1_t84_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t84
  let v633 : BitVec 32 := Scalar.muli c16_i32_217 arg32
  let v636 : Index := Scalar.indexCast v633
  ![v634.toNat, 0, v636.toNat]
def k1_off541 (v307 : BitVec 32) (v309 : BitVec 32) (k1_t75 : Fin (k1_t75_loop v307 v309).trips) (k1_t83 : Fin (k1_t83_loop v307 v309 k1_t75).trips) (k1_t84 : Fin (k1_t84_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t84
  let v640 : BitVec 32 := Scalar.muli c16_i32_219 arg32
  let v643 : Index := Scalar.indexCast v640
  ![v641.toNat, 1, v643.toNat]
def k1_off542 (v307 : BitVec 32) (v309 : BitVec 32) (k1_t75 : Fin (k1_t75_loop v307 v309).trips) (k1_t83 : Fin (k1_t83_loop v307 v309 k1_t75).trips) (k1_t84 : Fin (k1_t84_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t84
  let v647 : BitVec 32 := Scalar.muli c16_i32_221 arg32
  let v650 : Index := Scalar.indexCast v647
  ![v648.toNat, 2, v650.toNat]
def k1_off543 (v307 : BitVec 32) (v309 : BitVec 32) (k1_t75 : Fin (k1_t75_loop v307 v309).trips) (k1_t83 : Fin (k1_t83_loop v307 v309 k1_t75).trips) (k1_t84 : Fin (k1_t84_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t84
  let v654 : BitVec 32 := Scalar.muli c16_i32_223 arg32
  let v657 : Index := Scalar.indexCast v654
  ![v655.toNat, 3, v657.toNat]
def k1_off544 (v307 : BitVec 32) (v309 : BitVec 32) (k1_t75 : Fin (k1_t75_loop v307 v309).trips) (k1_t83 : Fin (k1_t83_loop v307 v309 k1_t75).trips) (k1_t84 : Fin (k1_t84_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t84
  let v661 : BitVec 32 := Scalar.muli c16_i32_225 arg32
  let v664 : Index := Scalar.indexCast v661
  ![v662.toNat, 4, v664.toNat]
def k1_off545 (v307 : BitVec 32) (v309 : BitVec 32) (k1_t75 : Fin (k1_t75_loop v307 v309).trips) (k1_t83 : Fin (k1_t83_loop v307 v309 k1_t75).trips) (k1_t84 : Fin (k1_t84_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t84
  let v668 : BitVec 32 := Scalar.muli c16_i32_227 arg32
  let v671 : Index := Scalar.indexCast v668
  ![v669.toNat, 5, v671.toNat]
def k1_off546 (v307 : BitVec 32) (v309 : BitVec 32) (k1_t75 : Fin (k1_t75_loop v307 v309).trips) (k1_t83 : Fin (k1_t83_loop v307 v309 k1_t75).trips) (k1_t84 : Fin (k1_t84_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t84
  let v675 : BitVec 32 := Scalar.muli c16_i32_229 arg32
  let v678 : Index := Scalar.indexCast v675
  ![v676.toNat, 6, v678.toNat]
def k1_off547 (v307 : BitVec 32) (v309 : BitVec 32) (k1_t75 : Fin (k1_t75_loop v307 v309).trips) (k1_t83 : Fin (k1_t83_loop v307 v309 k1_t75).trips) (k1_t84 : Fin (k1_t84_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c1_i32_206 : BitVec 32 := 1#32
  let arg32 : BitVec 32 := Scf.iv v606 c1_i32_206 k1_t84
  let v682 : BitVec 32 := Scalar.muli c16_i32_231 arg32
  let v685 : Index := Scalar.indexCast v682
  ![v683.toNat, 7, v685.toNat]
@[reducible] def k1_t85_loop (v307 : BitVec 32) (v309 : BitVec 32) (k1_t75 : Fin (k1_t75_loop v307 v309).trips) (k1_t83 : Fin (k1_t83_loop v307 v309 k1_t75).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_195 : BitVec 32 := 0#32
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let v609 : BitVec 32 := Scalar.addi v606 v608
  let c1_i32_207 : BitVec 32 := 1#32
  ⟨v612, v609, c1_i32_207⟩
def k1_off548 (v307 : BitVec 32) (v309 : BitVec 32) (k1_t75 : Fin (k1_t75_loop v307 v309).trips) (k1_t83 : Fin (k1_t83_loop v307 v309 k1_t75).trips) (k1_t85 : Fin (k1_t85_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v634 : Index := Scalar.indexCast arg23
  let c0_i32_218 : BitVec 32 := 0#32
  let v635 : Index := Scalar.indexCast c0_i32_218
  let c16_i32_217 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t85
  let v633 : BitVec 32 := Scalar.muli c16_i32_217 arg32
  let v636 : Index := Scalar.indexCast v633
  ![v634.toNat, 0, v636.toNat]
def k1_off549 (v307 : BitVec 32) (v309 : BitVec 32) (k1_t75 : Fin (k1_t75_loop v307 v309).trips) (k1_t83 : Fin (k1_t83_loop v307 v309 k1_t75).trips) (k1_t85 : Fin (k1_t85_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v641 : Index := Scalar.indexCast arg23
  let c1_i32_220 : BitVec 32 := 1#32
  let v642 : Index := Scalar.indexCast c1_i32_220
  let c16_i32_219 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t85
  let v640 : BitVec 32 := Scalar.muli c16_i32_219 arg32
  let v643 : Index := Scalar.indexCast v640
  ![v641.toNat, 1, v643.toNat]
def k1_off550 (v307 : BitVec 32) (v309 : BitVec 32) (k1_t75 : Fin (k1_t75_loop v307 v309).trips) (k1_t83 : Fin (k1_t83_loop v307 v309 k1_t75).trips) (k1_t85 : Fin (k1_t85_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v648 : Index := Scalar.indexCast arg23
  let c2_i32_222 : BitVec 32 := 2#32
  let v649 : Index := Scalar.indexCast c2_i32_222
  let c16_i32_221 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t85
  let v647 : BitVec 32 := Scalar.muli c16_i32_221 arg32
  let v650 : Index := Scalar.indexCast v647
  ![v648.toNat, 2, v650.toNat]
def k1_off551 (v307 : BitVec 32) (v309 : BitVec 32) (k1_t75 : Fin (k1_t75_loop v307 v309).trips) (k1_t83 : Fin (k1_t83_loop v307 v309 k1_t75).trips) (k1_t85 : Fin (k1_t85_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v655 : Index := Scalar.indexCast arg23
  let c3_i32_224 : BitVec 32 := 3#32
  let v656 : Index := Scalar.indexCast c3_i32_224
  let c16_i32_223 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t85
  let v654 : BitVec 32 := Scalar.muli c16_i32_223 arg32
  let v657 : Index := Scalar.indexCast v654
  ![v655.toNat, 3, v657.toNat]
def k1_off552 (v307 : BitVec 32) (v309 : BitVec 32) (k1_t75 : Fin (k1_t75_loop v307 v309).trips) (k1_t83 : Fin (k1_t83_loop v307 v309 k1_t75).trips) (k1_t85 : Fin (k1_t85_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v662 : Index := Scalar.indexCast arg23
  let c4_i32_226 : BitVec 32 := 4#32
  let v663 : Index := Scalar.indexCast c4_i32_226
  let c16_i32_225 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t85
  let v661 : BitVec 32 := Scalar.muli c16_i32_225 arg32
  let v664 : Index := Scalar.indexCast v661
  ![v662.toNat, 4, v664.toNat]
def k1_off553 (v307 : BitVec 32) (v309 : BitVec 32) (k1_t75 : Fin (k1_t75_loop v307 v309).trips) (k1_t83 : Fin (k1_t83_loop v307 v309 k1_t75).trips) (k1_t85 : Fin (k1_t85_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v669 : Index := Scalar.indexCast arg23
  let c5_i32_228 : BitVec 32 := 5#32
  let v670 : Index := Scalar.indexCast c5_i32_228
  let c16_i32_227 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t85
  let v668 : BitVec 32 := Scalar.muli c16_i32_227 arg32
  let v671 : Index := Scalar.indexCast v668
  ![v669.toNat, 5, v671.toNat]
def k1_off554 (v307 : BitVec 32) (v309 : BitVec 32) (k1_t75 : Fin (k1_t75_loop v307 v309).trips) (k1_t83 : Fin (k1_t83_loop v307 v309 k1_t75).trips) (k1_t85 : Fin (k1_t85_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v676 : Index := Scalar.indexCast arg23
  let c6_i32_230 : BitVec 32 := 6#32
  let v677 : Index := Scalar.indexCast c6_i32_230
  let c16_i32_229 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t85
  let v675 : BitVec 32 := Scalar.muli c16_i32_229 arg32
  let v678 : Index := Scalar.indexCast v675
  ![v676.toNat, 6, v678.toNat]
def k1_off555 (v307 : BitVec 32) (v309 : BitVec 32) (k1_t75 : Fin (k1_t75_loop v307 v309).trips) (k1_t83 : Fin (k1_t83_loop v307 v309 k1_t75).trips) (k1_t85 : Fin (k1_t85_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v683 : Index := Scalar.indexCast arg23
  let c7_i32_232 : BitVec 32 := 7#32
  let v684 : Index := Scalar.indexCast c7_i32_232
  let c16_i32_231 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let c128_i32_202 : BitVec 32 := 128#32
  let c0_i32_201 : BitVec 32 := 0#32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let v608 : BitVec 32 := Scalar.subi v607 v606
  let c1_i32_205 : BitVec 32 := 1#32
  let v610 : BitVec 32 := Scalar.divsi v608 c1_i32_205
  let v611 : BitVec 32 := Scalar.muli v610 c1_i32_205
  let v612 : BitVec 32 := Scalar.addi v606 v611
  let c1_i32_207 : BitVec 32 := 1#32
  let arg32 : BitVec 32 := Scf.iv v612 c1_i32_207 k1_t85
  let v682 : BitVec 32 := Scalar.muli c16_i32_231 arg32
  let v685 : Index := Scalar.indexCast v682
  ![v683.toNat, 7, v685.toNat]
@[reducible] def k1_t86_loop (v307 : BitVec 32) (v309 : BitVec 32) (k1_t75 : Fin (k1_t75_loop v307 v309).trips) (k1_t83 : Fin (k1_t83_loop v307 v309 k1_t75).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_195 : BitVec 32 := 0#32
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_210 : BitVec 32 := 1#32
  ⟨v615, v620, c1_i32_210⟩
def k1_off556 (v307 : BitVec 32) (v309 : BitVec 32) (k1_t75 : Fin (k1_t75_loop v307 v309).trips) (k1_t83 : Fin (k1_t83_loop v307 v309 k1_t75).trips) (k1_t86 : Fin (k1_t86_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t86
  let v642 : BitVec 32 := Scalar.muli c16_i32_218 arg32
  let v645 : Index := Scalar.indexCast v642
  ![v643.toNat, 0, v645.toNat]
def k1_off557 (v307 : BitVec 32) (v309 : BitVec 32) (k1_t75 : Fin (k1_t75_loop v307 v309).trips) (k1_t83 : Fin (k1_t83_loop v307 v309 k1_t75).trips) (k1_t86 : Fin (k1_t86_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t86
  let v650 : BitVec 32 := Scalar.muli c16_i32_220 arg32
  let v653 : Index := Scalar.indexCast v650
  ![v651.toNat, 1, v653.toNat]
def k1_off558 (v307 : BitVec 32) (v309 : BitVec 32) (k1_t75 : Fin (k1_t75_loop v307 v309).trips) (k1_t83 : Fin (k1_t83_loop v307 v309 k1_t75).trips) (k1_t86 : Fin (k1_t86_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t86
  let v658 : BitVec 32 := Scalar.muli c16_i32_222 arg32
  let v661 : Index := Scalar.indexCast v658
  ![v659.toNat, 2, v661.toNat]
def k1_off559 (v307 : BitVec 32) (v309 : BitVec 32) (k1_t75 : Fin (k1_t75_loop v307 v309).trips) (k1_t83 : Fin (k1_t83_loop v307 v309 k1_t75).trips) (k1_t86 : Fin (k1_t86_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t86
  let v666 : BitVec 32 := Scalar.muli c16_i32_224 arg32
  let v669 : Index := Scalar.indexCast v666
  ![v667.toNat, 3, v669.toNat]
def k1_off560 (v307 : BitVec 32) (v309 : BitVec 32) (k1_t75 : Fin (k1_t75_loop v307 v309).trips) (k1_t83 : Fin (k1_t83_loop v307 v309 k1_t75).trips) (k1_t86 : Fin (k1_t86_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t86
  let v674 : BitVec 32 := Scalar.muli c16_i32_226 arg32
  let v677 : Index := Scalar.indexCast v674
  ![v675.toNat, 4, v677.toNat]
def k1_off561 (v307 : BitVec 32) (v309 : BitVec 32) (k1_t75 : Fin (k1_t75_loop v307 v309).trips) (k1_t83 : Fin (k1_t83_loop v307 v309 k1_t75).trips) (k1_t86 : Fin (k1_t86_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t86
  let v682 : BitVec 32 := Scalar.muli c16_i32_228 arg32
  let v685 : Index := Scalar.indexCast v682
  ![v683.toNat, 5, v685.toNat]
def k1_off562 (v307 : BitVec 32) (v309 : BitVec 32) (k1_t75 : Fin (k1_t75_loop v307 v309).trips) (k1_t83 : Fin (k1_t83_loop v307 v309 k1_t75).trips) (k1_t86 : Fin (k1_t86_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t86
  let v690 : BitVec 32 := Scalar.muli c16_i32_230 arg32
  let v693 : Index := Scalar.indexCast v690
  ![v691.toNat, 6, v693.toNat]
def k1_off563 (v307 : BitVec 32) (v309 : BitVec 32) (k1_t75 : Fin (k1_t75_loop v307 v309).trips) (k1_t83 : Fin (k1_t83_loop v307 v309 k1_t75).trips) (k1_t86 : Fin (k1_t86_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c1_i32_210 : BitVec 32 := 1#32
  let arg32 : BitVec 32 := Scf.iv v615 c1_i32_210 k1_t86
  let v698 : BitVec 32 := Scalar.muli c16_i32_232 arg32
  let v701 : Index := Scalar.indexCast v698
  ![v699.toNat, 7, v701.toNat]
@[reducible] def k1_t87_loop (v307 : BitVec 32) (v309 : BitVec 32) (k1_t75 : Fin (k1_t75_loop v307 v309).trips) (k1_t83 : Fin (k1_t83_loop v307 v309 k1_t75).trips) : Scf.Loop 32 :=
  let c128_i32_200 : BitVec 32 := 128#32
  let c0_i32_199 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_195 : BitVec 32 := 0#32
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let v617 : BitVec 32 := Scalar.addi v615 v616
  let c1_i32_211 : BitVec 32 := 1#32
  ⟨v620, v617, c1_i32_211⟩
def k1_off564 (v307 : BitVec 32) (v309 : BitVec 32) (k1_t75 : Fin (k1_t75_loop v307 v309).trips) (k1_t83 : Fin (k1_t83_loop v307 v309 k1_t75).trips) (k1_t87 : Fin (k1_t87_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v643 : Index := Scalar.indexCast arg23
  let c0_i32_219 : BitVec 32 := 0#32
  let v644 : Index := Scalar.indexCast c0_i32_219
  let c16_i32_218 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t87
  let v642 : BitVec 32 := Scalar.muli c16_i32_218 arg32
  let v645 : Index := Scalar.indexCast v642
  ![v643.toNat, 0, v645.toNat]
def k1_off565 (v307 : BitVec 32) (v309 : BitVec 32) (k1_t75 : Fin (k1_t75_loop v307 v309).trips) (k1_t83 : Fin (k1_t83_loop v307 v309 k1_t75).trips) (k1_t87 : Fin (k1_t87_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v651 : Index := Scalar.indexCast arg23
  let c1_i32_221 : BitVec 32 := 1#32
  let v652 : Index := Scalar.indexCast c1_i32_221
  let c16_i32_220 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t87
  let v650 : BitVec 32 := Scalar.muli c16_i32_220 arg32
  let v653 : Index := Scalar.indexCast v650
  ![v651.toNat, 1, v653.toNat]
def k1_off566 (v307 : BitVec 32) (v309 : BitVec 32) (k1_t75 : Fin (k1_t75_loop v307 v309).trips) (k1_t83 : Fin (k1_t83_loop v307 v309 k1_t75).trips) (k1_t87 : Fin (k1_t87_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v659 : Index := Scalar.indexCast arg23
  let c2_i32_223 : BitVec 32 := 2#32
  let v660 : Index := Scalar.indexCast c2_i32_223
  let c16_i32_222 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t87
  let v658 : BitVec 32 := Scalar.muli c16_i32_222 arg32
  let v661 : Index := Scalar.indexCast v658
  ![v659.toNat, 2, v661.toNat]
def k1_off567 (v307 : BitVec 32) (v309 : BitVec 32) (k1_t75 : Fin (k1_t75_loop v307 v309).trips) (k1_t83 : Fin (k1_t83_loop v307 v309 k1_t75).trips) (k1_t87 : Fin (k1_t87_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v667 : Index := Scalar.indexCast arg23
  let c3_i32_225 : BitVec 32 := 3#32
  let v668 : Index := Scalar.indexCast c3_i32_225
  let c16_i32_224 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t87
  let v666 : BitVec 32 := Scalar.muli c16_i32_224 arg32
  let v669 : Index := Scalar.indexCast v666
  ![v667.toNat, 3, v669.toNat]
def k1_off568 (v307 : BitVec 32) (v309 : BitVec 32) (k1_t75 : Fin (k1_t75_loop v307 v309).trips) (k1_t83 : Fin (k1_t83_loop v307 v309 k1_t75).trips) (k1_t87 : Fin (k1_t87_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v675 : Index := Scalar.indexCast arg23
  let c4_i32_227 : BitVec 32 := 4#32
  let v676 : Index := Scalar.indexCast c4_i32_227
  let c16_i32_226 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t87
  let v674 : BitVec 32 := Scalar.muli c16_i32_226 arg32
  let v677 : Index := Scalar.indexCast v674
  ![v675.toNat, 4, v677.toNat]
def k1_off569 (v307 : BitVec 32) (v309 : BitVec 32) (k1_t75 : Fin (k1_t75_loop v307 v309).trips) (k1_t83 : Fin (k1_t83_loop v307 v309 k1_t75).trips) (k1_t87 : Fin (k1_t87_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v683 : Index := Scalar.indexCast arg23
  let c5_i32_229 : BitVec 32 := 5#32
  let v684 : Index := Scalar.indexCast c5_i32_229
  let c16_i32_228 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t87
  let v682 : BitVec 32 := Scalar.muli c16_i32_228 arg32
  let v685 : Index := Scalar.indexCast v682
  ![v683.toNat, 5, v685.toNat]
def k1_off570 (v307 : BitVec 32) (v309 : BitVec 32) (k1_t75 : Fin (k1_t75_loop v307 v309).trips) (k1_t83 : Fin (k1_t83_loop v307 v309 k1_t75).trips) (k1_t87 : Fin (k1_t87_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v691 : Index := Scalar.indexCast arg23
  let c6_i32_231 : BitVec 32 := 6#32
  let v692 : Index := Scalar.indexCast c6_i32_231
  let c16_i32_230 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t87
  let v690 : BitVec 32 := Scalar.muli c16_i32_230 arg32
  let v693 : Index := Scalar.indexCast v690
  ![v691.toNat, 6, v693.toNat]
def k1_off571 (v307 : BitVec 32) (v309 : BitVec 32) (k1_t75 : Fin (k1_t75_loop v307 v309).trips) (k1_t83 : Fin (k1_t83_loop v307 v309 k1_t75).trips) (k1_t87 : Fin (k1_t87_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v699 : Index := Scalar.indexCast arg23
  let c7_i32_233 : BitVec 32 := 7#32
  let v700 : Index := Scalar.indexCast c7_i32_233
  let c16_i32_232 : BitVec 32 := 16#32
  let c128_i32_200 : BitVec 32 := 128#32
  let c0_i32_199 : BitVec 32 := 0#32
  let v597 : BitVec 32 := Scalar.addi v587 arg23
  let c128_i32 : BitVec 32 := 128#32
  let v598 : BitVec 32 := Scalar.muli v597 c128_i32
  let v599 : BitVec 32 := Scalar.subi v307 v598
  let v600 : BitVec 32 := Scalar.maxsi c0_i32_199 v599
  let v601 : BitVec 32 := Scalar.minsi c128_i32_200 v600
  let c4_i32_208 : BitVec 32 := 4#32
  let v615 : BitVec 32 := Scalar.shrui v601 c4_i32_208
  let c15_i32 : BitVec 32 := 15#32
  let v605 : BitVec 32 := Scalar.addi v601 c15_i32
  let c4_i32_203 : BitVec 32 := 4#32
  let v606 : BitVec 32 := Scalar.shrui v605 c4_i32_203
  let v616 : BitVec 32 := Scalar.subi v606 v615
  let c1_i32_209 : BitVec 32 := 1#32
  let v618 : BitVec 32 := Scalar.divsi v616 c1_i32_209
  let v619 : BitVec 32 := Scalar.muli v618 c1_i32_209
  let v620 : BitVec 32 := Scalar.addi v615 v619
  let c1_i32_211 : BitVec 32 := 1#32
  let arg32 : BitVec 32 := Scf.iv v620 c1_i32_211 k1_t87
  let v698 : BitVec 32 := Scalar.muli c16_i32_232 arg32
  let v701 : Index := Scalar.indexCast v698
  ![v699.toNat, 7, v701.toNat]
@[reducible] def k1_t88_loop (v307 : BitVec 32) (v309 : BitVec 32) (k1_t75 : Fin (k1_t75_loop v307 v309).trips) (k1_t83 : Fin (k1_t83_loop v307 v309 k1_t75).trips) : Scf.Loop 32 :=
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_195 : BitVec 32 := 0#32
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_215 : BitVec 32 := 1#32
  ⟨v623, v630, c1_i32_215⟩
def k1_off572 (v307 : BitVec 32) (v309 : BitVec 32) (k1_t75 : Fin (k1_t75_loop v307 v309).trips) (k1_t83 : Fin (k1_t83_loop v307 v309 k1_t75).trips) (k1_t88 : Fin (k1_t88_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t88
  let v642 : BitVec 32 := Scalar.muli c16_i32_218 arg32
  let v645 : Index := Scalar.indexCast v642
  ![v643.toNat, 0, v645.toNat]
def k1_off573 (v307 : BitVec 32) (v309 : BitVec 32) (k1_t75 : Fin (k1_t75_loop v307 v309).trips) (k1_t83 : Fin (k1_t83_loop v307 v309 k1_t75).trips) (k1_t88 : Fin (k1_t88_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t88
  let v650 : BitVec 32 := Scalar.muli c16_i32_220 arg32
  let v653 : Index := Scalar.indexCast v650
  ![v651.toNat, 1, v653.toNat]
def k1_off574 (v307 : BitVec 32) (v309 : BitVec 32) (k1_t75 : Fin (k1_t75_loop v307 v309).trips) (k1_t83 : Fin (k1_t83_loop v307 v309 k1_t75).trips) (k1_t88 : Fin (k1_t88_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t88
  let v658 : BitVec 32 := Scalar.muli c16_i32_222 arg32
  let v661 : Index := Scalar.indexCast v658
  ![v659.toNat, 2, v661.toNat]
def k1_off575 (v307 : BitVec 32) (v309 : BitVec 32) (k1_t75 : Fin (k1_t75_loop v307 v309).trips) (k1_t83 : Fin (k1_t83_loop v307 v309 k1_t75).trips) (k1_t88 : Fin (k1_t88_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t88
  let v666 : BitVec 32 := Scalar.muli c16_i32_224 arg32
  let v669 : Index := Scalar.indexCast v666
  ![v667.toNat, 3, v669.toNat]
def k1_off576 (v307 : BitVec 32) (v309 : BitVec 32) (k1_t75 : Fin (k1_t75_loop v307 v309).trips) (k1_t83 : Fin (k1_t83_loop v307 v309 k1_t75).trips) (k1_t88 : Fin (k1_t88_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t88
  let v674 : BitVec 32 := Scalar.muli c16_i32_226 arg32
  let v677 : Index := Scalar.indexCast v674
  ![v675.toNat, 4, v677.toNat]
def k1_off577 (v307 : BitVec 32) (v309 : BitVec 32) (k1_t75 : Fin (k1_t75_loop v307 v309).trips) (k1_t83 : Fin (k1_t83_loop v307 v309 k1_t75).trips) (k1_t88 : Fin (k1_t88_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t88
  let v682 : BitVec 32 := Scalar.muli c16_i32_228 arg32
  let v685 : Index := Scalar.indexCast v682
  ![v683.toNat, 5, v685.toNat]
def k1_off578 (v307 : BitVec 32) (v309 : BitVec 32) (k1_t75 : Fin (k1_t75_loop v307 v309).trips) (k1_t83 : Fin (k1_t83_loop v307 v309 k1_t75).trips) (k1_t88 : Fin (k1_t88_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t88
  let v690 : BitVec 32 := Scalar.muli c16_i32_230 arg32
  let v693 : Index := Scalar.indexCast v690
  ![v691.toNat, 6, v693.toNat]
def k1_off579 (v307 : BitVec 32) (v309 : BitVec 32) (k1_t75 : Fin (k1_t75_loop v307 v309).trips) (k1_t83 : Fin (k1_t83_loop v307 v309 k1_t75).trips) (k1_t88 : Fin (k1_t88_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c1_i32_215 : BitVec 32 := 1#32
  let arg32 : BitVec 32 := Scf.iv v623 c1_i32_215 k1_t88
  let v698 : BitVec 32 := Scalar.muli c16_i32_232 arg32
  let v701 : Index := Scalar.indexCast v698
  ![v699.toNat, 7, v701.toNat]
@[reducible] def k1_t89_loop (v307 : BitVec 32) (v309 : BitVec 32) (k1_t75 : Fin (k1_t75_loop v307 v309).trips) (k1_t83 : Fin (k1_t83_loop v307 v309 k1_t75).trips) : Scf.Loop 32 :=
  let c128_i32_202 : BitVec 32 := 128#32
  let c0_i32_201 : BitVec 32 := 0#32
  let c7_i32_98 : BitVec 32 := 7#32
  let v311 : BitVec 32 := Scalar.shrui v307 c7_i32_98
  let c1_i32_115 : BitVec 32 := 1#32
  let c127_i32_99 : BitVec 32 := 127#32
  let v312 : BitVec 32 := Scalar.addi v309 c127_i32_99
  let c7_i32_100 : BitVec 32 := 7#32
  let v313 : BitVec 32 := Scalar.shrui v312 c7_i32_100
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let c0_i32_195 : BitVec 32 := 0#32
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let v627 : BitVec 32 := Scalar.addi v623 v626
  let c1_i32_216 : BitVec 32 := 1#32
  ⟨v630, v627, c1_i32_216⟩
def k1_off580 (v307 : BitVec 32) (v309 : BitVec 32) (k1_t75 : Fin (k1_t75_loop v307 v309).trips) (k1_t83 : Fin (k1_t83_loop v307 v309 k1_t75).trips) (k1_t89 : Fin (k1_t89_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v643 : Index := Scalar.indexCast arg23
  let c0_i32_219 : BitVec 32 := 0#32
  let v644 : Index := Scalar.indexCast c0_i32_219
  let c16_i32_218 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t89
  let v642 : BitVec 32 := Scalar.muli c16_i32_218 arg32
  let v645 : Index := Scalar.indexCast v642
  ![v643.toNat, 0, v645.toNat]
def k1_off581 (v307 : BitVec 32) (v309 : BitVec 32) (k1_t75 : Fin (k1_t75_loop v307 v309).trips) (k1_t83 : Fin (k1_t83_loop v307 v309 k1_t75).trips) (k1_t89 : Fin (k1_t89_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v651 : Index := Scalar.indexCast arg23
  let c1_i32_221 : BitVec 32 := 1#32
  let v652 : Index := Scalar.indexCast c1_i32_221
  let c16_i32_220 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t89
  let v650 : BitVec 32 := Scalar.muli c16_i32_220 arg32
  let v653 : Index := Scalar.indexCast v650
  ![v651.toNat, 1, v653.toNat]
def k1_off582 (v307 : BitVec 32) (v309 : BitVec 32) (k1_t75 : Fin (k1_t75_loop v307 v309).trips) (k1_t83 : Fin (k1_t83_loop v307 v309 k1_t75).trips) (k1_t89 : Fin (k1_t89_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v659 : Index := Scalar.indexCast arg23
  let c2_i32_223 : BitVec 32 := 2#32
  let v660 : Index := Scalar.indexCast c2_i32_223
  let c16_i32_222 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t89
  let v658 : BitVec 32 := Scalar.muli c16_i32_222 arg32
  let v661 : Index := Scalar.indexCast v658
  ![v659.toNat, 2, v661.toNat]
def k1_off583 (v307 : BitVec 32) (v309 : BitVec 32) (k1_t75 : Fin (k1_t75_loop v307 v309).trips) (k1_t83 : Fin (k1_t83_loop v307 v309 k1_t75).trips) (k1_t89 : Fin (k1_t89_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v667 : Index := Scalar.indexCast arg23
  let c3_i32_225 : BitVec 32 := 3#32
  let v668 : Index := Scalar.indexCast c3_i32_225
  let c16_i32_224 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t89
  let v666 : BitVec 32 := Scalar.muli c16_i32_224 arg32
  let v669 : Index := Scalar.indexCast v666
  ![v667.toNat, 3, v669.toNat]
def k1_off584 (v307 : BitVec 32) (v309 : BitVec 32) (k1_t75 : Fin (k1_t75_loop v307 v309).trips) (k1_t83 : Fin (k1_t83_loop v307 v309 k1_t75).trips) (k1_t89 : Fin (k1_t89_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v675 : Index := Scalar.indexCast arg23
  let c4_i32_227 : BitVec 32 := 4#32
  let v676 : Index := Scalar.indexCast c4_i32_227
  let c16_i32_226 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t89
  let v674 : BitVec 32 := Scalar.muli c16_i32_226 arg32
  let v677 : Index := Scalar.indexCast v674
  ![v675.toNat, 4, v677.toNat]
def k1_off585 (v307 : BitVec 32) (v309 : BitVec 32) (k1_t75 : Fin (k1_t75_loop v307 v309).trips) (k1_t83 : Fin (k1_t83_loop v307 v309 k1_t75).trips) (k1_t89 : Fin (k1_t89_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v683 : Index := Scalar.indexCast arg23
  let c5_i32_229 : BitVec 32 := 5#32
  let v684 : Index := Scalar.indexCast c5_i32_229
  let c16_i32_228 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t89
  let v682 : BitVec 32 := Scalar.muli c16_i32_228 arg32
  let v685 : Index := Scalar.indexCast v682
  ![v683.toNat, 5, v685.toNat]
def k1_off586 (v307 : BitVec 32) (v309 : BitVec 32) (k1_t75 : Fin (k1_t75_loop v307 v309).trips) (k1_t83 : Fin (k1_t83_loop v307 v309 k1_t75).trips) (k1_t89 : Fin (k1_t89_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v691 : Index := Scalar.indexCast arg23
  let c6_i32_231 : BitVec 32 := 6#32
  let v692 : Index := Scalar.indexCast c6_i32_231
  let c16_i32_230 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t89
  let v690 : BitVec 32 := Scalar.muli c16_i32_230 arg32
  let v693 : Index := Scalar.indexCast v690
  ![v691.toNat, 6, v693.toNat]
def k1_off587 (v307 : BitVec 32) (v309 : BitVec 32) (k1_t75 : Fin (k1_t75_loop v307 v309).trips) (k1_t83 : Fin (k1_t83_loop v307 v309 k1_t75).trips) (k1_t89 : Fin (k1_t89_loop v307 v309 k1_t75 k1_t83).trips) : Fin 3 → Nat :=
  let c0_i32_195 : BitVec 32 := 0#32
  let c127_i32_99 : BitVec 32 := 127#32
  let v312 : BitVec 32 := Scalar.addi v309 c127_i32_99
  let c7_i32_100 : BitVec 32 := 7#32
  let v313 : BitVec 32 := Scalar.shrui v312 c7_i32_100
  let c7_i32_98 : BitVec 32 := 7#32
  let v311 : BitVec 32 := Scalar.shrui v307 c7_i32_98
  let c1_i32_115 : BitVec 32 := 1#32
  let v314 : BitVec 32 := Scalar.subi v313 v311
  let c3_i32_101 : BitVec 32 := 3#32
  let v315 : BitVec 32 := Scalar.addi v314 c3_i32_101
  let c2_i32_102 : BitVec 32 := 2#32
  let v316 : BitVec 32 := Scalar.shrui v315 c2_i32_102
  let v330 : BitVec 32 := Scalar.subi v316 c1_i32_115
  let c1_i32_116 : BitVec 32 := 1#32
  let v332 : BitVec 32 := Scalar.divsi v330 c1_i32_116
  let v333 : BitVec 32 := Scalar.muli v332 c1_i32_116
  let v334 : BitVec 32 := Scalar.addi c1_i32_115 v333
  let c1_i32_118 : BitVec 32 := 1#32
  let arg14 : BitVec 32 := Scf.iv v334 c1_i32_118 k1_t75
  let c4_i32_193 : BitVec 32 := 4#32
  let v586 : BitVec 32 := Scalar.muli arg14 c4_i32_193
  let v587 : BitVec 32 := Scalar.addi v311 v586
  let v588 : BitVec 32 := Scalar.subi v313 v587
  let c4_i32_194 : BitVec 32 := 4#32
  let v589 : BitVec 32 := Scalar.minsi v588 c4_i32_194
  let v590 : BitVec 32 := Scalar.subi v589 c0_i32_195
  let c1_i32_196 : BitVec 32 := 1#32
  let v592 : BitVec 32 := Scalar.divsi v590 c1_i32_196
  let v593 : BitVec 32 := Scalar.muli v592 c1_i32_196
  let v594 : BitVec 32 := Scalar.addi c0_i32_195 v593
  let c1_i32_198 : BitVec 32 := 1#32
  let arg23 : BitVec 32 := Scf.iv v594 c1_i32_198 k1_t83
  let v699 : Index := Scalar.indexCast arg23
  let c7_i32_233 : BitVec 32 := 7#32
  let v700 : Index := Scalar.indexCast c7_i32_233
  let c16_i32_232 : BitVec 32 := 16#32
  let c128_i32_202 : BitVec 32 := 128#32
  let c0_i32_201 : BitVec 32 := 0#32
  let v597 : BitVec 32 := Scalar.addi v587 arg23
  let c128_i32 : BitVec 32 := 128#32
  let v598 : BitVec 32 := Scalar.muli v597 c128_i32
  let v602 : BitVec 32 := Scalar.subi v309 v598
  let v603 : BitVec 32 := Scalar.maxsi c0_i32_201 v602
  let v604 : BitVec 32 := Scalar.minsi c128_i32_202 v603
  let c4_i32_204 : BitVec 32 := 4#32
  let v607 : BitVec 32 := Scalar.shrui v604 c4_i32_204
  let c128_i32_200 : BitVec 32 := 128#32
  let c0_i32_199 : BitVec 32 := 0#32
  let v599 : BitVec 32 := Scalar.subi v307 v598
  let v600 : BitVec 32 := Scalar.maxsi c0_i32_199 v599
  let v601 : BitVec 32 := Scalar.minsi c128_i32_200 v600
  let c15_i32 : BitVec 32 := 15#32
  let v605 : BitVec 32 := Scalar.addi v601 c15_i32
  let c4_i32_203 : BitVec 32 := 4#32
  let v606 : BitVec 32 := Scalar.shrui v605 c4_i32_203
  let v623 : BitVec 32 := Scalar.maxsi v607 v606
  let c15_i32_212 : BitVec 32 := 15#32
  let v624 : BitVec 32 := Scalar.addi v604 c15_i32_212
  let c4_i32_213 : BitVec 32 := 4#32
  let v625 : BitVec 32 := Scalar.shrui v624 c4_i32_213
  let v626 : BitVec 32 := Scalar.subi v625 v623
  let c1_i32_214 : BitVec 32 := 1#32
  let v628 : BitVec 32 := Scalar.divsi v626 c1_i32_214
  let v629 : BitVec 32 := Scalar.muli v628 c1_i32_214
  let v630 : BitVec 32 := Scalar.addi v623 v629
  let c1_i32_216 : BitVec 32 := 1#32
  let arg32 : BitVec 32 := Scf.iv v630 c1_i32_216 k1_t89
  let v698 : BitVec 32 := Scalar.muli c16_i32_232 arg32
  let v701 : Index := Scalar.indexCast v698
  ![v699.toNat, 7, v701.toNat]

variable {F : FTy → Type} [FloatOps F]

def k1_chk3_0 (k1_t1 : Fin k1_t1_loop.trips) (v307 : BitVec 32) (v309 : BitVec 32) : Prop :=
  (∀ (k1_h2 : k1_cond2 k1_t1 = 1#1), ∀ a, (k1_off297 v309) a + S4x8x128.size a ≤ S2550x8x128.size a) ∧
  ((k1_t46_loop v307 v309).OK) ∧
  (∀ k1_t46 : Fin (k1_t46_loop v307 v309).trips, (k1_t47_loop v307 v309 k1_t46).OK) ∧
  (∀ (k1_t46 : Fin (k1_t46_loop v307 v309).trips) (k1_t47 : Fin (k1_t47_loop v307 v309 k1_t46).trips), ∀ a, (k1_off298 v307 v309 k1_t46 k1_t47) a + S1x1x16.size a ≤ S4x8x128.size a) ∧
  (∀ (k1_t46 : Fin (k1_t46_loop v307 v309).trips) (k1_t47 : Fin (k1_t47_loop v307 v309 k1_t46).trips), ∀ a, (k1_off299 v307 v309 k1_t46 k1_t47) a + S1x1x16.size a ≤ S4x8x128.size a) ∧
  (∀ (k1_t46 : Fin (k1_t46_loop v307 v309).trips) (k1_t47 : Fin (k1_t47_loop v307 v309 k1_t46).trips), ∀ a, (k1_off300 v307 v309 k1_t46 k1_t47) a + S1x1x16.size a ≤ S4x8x128.size a) ∧
  (∀ (k1_t46 : Fin (k1_t46_loop v307 v309).trips) (k1_t47 : Fin (k1_t47_loop v307 v309 k1_t46).trips), ∀ a, (k1_off301 v307 v309 k1_t46 k1_t47) a + S1x1x16.size a ≤ S4x8x128.size a) ∧
  (∀ (k1_t46 : Fin (k1_t46_loop v307 v309).trips) (k1_t47 : Fin (k1_t47_loop v307 v309 k1_t46).trips), ∀ a, (k1_off302 v307 v309 k1_t46 k1_t47) a + S1x1x16.size a ≤ S4x8x128.size a) ∧
  (∀ (k1_t46 : Fin (k1_t46_loop v307 v309).trips) (k1_t47 : Fin (k1_t47_loop v307 v309 k1_t46).trips), ∀ a, (k1_off303 v307 v309 k1_t46 k1_t47) a + S1x1x16.size a ≤ S4x8x128.size a) ∧
  (∀ (k1_t46 : Fin (k1_t46_loop v307 v309).trips) (k1_t47 : Fin (k1_t47_loop v307 v309 k1_t46).trips), ∀ a, (k1_off304 v307 v309 k1_t46 k1_t47) a + S1x1x16.size a ≤ S4x8x128.size a) ∧
  (∀ (k1_t46 : Fin (k1_t46_loop v307 v309).trips) (k1_t47 : Fin (k1_t47_loop v307 v309 k1_t46).trips), ∀ a, (k1_off305 v307 v309 k1_t46 k1_t47) a + S1x1x16.size a ≤ S4x8x128.size a) ∧
  (∀ k1_t46 : Fin (k1_t46_loop v307 v309).trips, (k1_t48_loop v307 v309 k1_t46).OK) ∧
  (∀ (k1_t46 : Fin (k1_t46_loop v307 v309).trips) (k1_t48 : Fin (k1_t48_loop v307 v309 k1_t46).trips), ∀ a, (k1_off306 v307 v309 k1_t46 k1_t48) a + S1x1x16.size a ≤ S4x8x128.size a) ∧
  (∀ (k1_t46 : Fin (k1_t46_loop v307 v309).trips) (k1_t48 : Fin (k1_t48_loop v307 v309 k1_t46).trips), ∀ a, (k1_off307 v307 v309 k1_t46 k1_t48) a + S1x1x16.size a ≤ S4x8x128.size a) ∧
  (∀ (k1_t46 : Fin (k1_t46_loop v307 v309).trips) (k1_t48 : Fin (k1_t48_loop v307 v309 k1_t46).trips), ∀ a, (k1_off308 v307 v309 k1_t46 k1_t48) a + S1x1x16.size a ≤ S4x8x128.size a) ∧
  (∀ (k1_t46 : Fin (k1_t46_loop v307 v309).trips) (k1_t48 : Fin (k1_t48_loop v307 v309 k1_t46).trips), ∀ a, (k1_off309 v307 v309 k1_t46 k1_t48) a + S1x1x16.size a ≤ S4x8x128.size a) ∧
  (∀ (k1_t46 : Fin (k1_t46_loop v307 v309).trips) (k1_t48 : Fin (k1_t48_loop v307 v309 k1_t46).trips), ∀ a, (k1_off310 v307 v309 k1_t46 k1_t48) a + S1x1x16.size a ≤ S4x8x128.size a) ∧
  (∀ (k1_t46 : Fin (k1_t46_loop v307 v309).trips) (k1_t48 : Fin (k1_t48_loop v307 v309 k1_t46).trips), ∀ a, (k1_off311 v307 v309 k1_t46 k1_t48) a + S1x1x16.size a ≤ S4x8x128.size a) ∧
  (∀ (k1_t46 : Fin (k1_t46_loop v307 v309).trips) (k1_t48 : Fin (k1_t48_loop v307 v309 k1_t46).trips), ∀ a, (k1_off312 v307 v309 k1_t46 k1_t48) a + S1x1x16.size a ≤ S4x8x128.size a) ∧
  (∀ (k1_t46 : Fin (k1_t46_loop v307 v309).trips) (k1_t48 : Fin (k1_t48_loop v307 v309 k1_t46).trips), ∀ a, (k1_off313 v307 v309 k1_t46 k1_t48) a + S1x1x16.size a ≤ S4x8x128.size a) ∧
  (∀ k1_t46 : Fin (k1_t46_loop v307 v309).trips, (k1_t49_loop v307 v309 k1_t46).OK) ∧
  (∀ (k1_t46 : Fin (k1_t46_loop v307 v309).trips) (k1_t49 : Fin (k1_t49_loop v307 v309 k1_t46).trips), ∀ a, (k1_off314 v307 v309 k1_t46 k1_t49) a + S1x1x16.size a ≤ S4x8x128.size a) ∧
  (∀ (k1_t46 : Fin (k1_t46_loop v307 v309).trips) (k1_t49 : Fin (k1_t49_loop v307 v309 k1_t46).trips), ∀ a, (k1_off315 v307 v309 k1_t46 k1_t49) a + S1x1x16.size a ≤ S4x8x128.size a) ∧
  (∀ (k1_t46 : Fin (k1_t46_loop v307 v309).trips) (k1_t49 : Fin (k1_t49_loop v307 v309 k1_t46).trips), ∀ a, (k1_off316 v307 v309 k1_t46 k1_t49) a + S1x1x16.size a ≤ S4x8x128.size a) ∧
  (∀ (k1_t46 : Fin (k1_t46_loop v307 v309).trips) (k1_t49 : Fin (k1_t49_loop v307 v309 k1_t46).trips), ∀ a, (k1_off317 v307 v309 k1_t46 k1_t49) a + S1x1x16.size a ≤ S4x8x128.size a) ∧
  (∀ (k1_t46 : Fin (k1_t46_loop v307 v309).trips) (k1_t49 : Fin (k1_t49_loop v307 v309 k1_t46).trips), ∀ a, (k1_off318 v307 v309 k1_t46 k1_t49) a + S1x1x16.size a ≤ S4x8x128.size a) ∧
  (∀ (k1_t46 : Fin (k1_t46_loop v307 v309).trips) (k1_t49 : Fin (k1_t49_loop v307 v309 k1_t46).trips), ∀ a, (k1_off319 v307 v309 k1_t46 k1_t49) a + S1x1x16.size a ≤ S4x8x128.size a) ∧
  (∀ (k1_t46 : Fin (k1_t46_loop v307 v309).trips) (k1_t49 : Fin (k1_t49_loop v307 v309 k1_t46).trips), ∀ a, (k1_off320 v307 v309 k1_t46 k1_t49) a + S1x1x16.size a ≤ S4x8x128.size a) ∧
  (∀ (k1_t46 : Fin (k1_t46_loop v307 v309).trips) (k1_t49 : Fin (k1_t49_loop v307 v309 k1_t46).trips), ∀ a, (k1_off321 v307 v309 k1_t46 k1_t49) a + S1x1x16.size a ≤ S4x8x128.size a) ∧
  (∀ k1_t46 : Fin (k1_t46_loop v307 v309).trips, (k1_t50_loop v307 v309 k1_t46).OK) ∧
  (∀ (k1_t46 : Fin (k1_t46_loop v307 v309).trips) (k1_t50 : Fin (k1_t50_loop v307 v309 k1_t46).trips), ∀ a, (k1_off322 v307 v309 k1_t46 k1_t50) a + S1x1x16.size a ≤ S4x8x128.size a) ∧
  (∀ (k1_t46 : Fin (k1_t46_loop v307 v309).trips) (k1_t50 : Fin (k1_t50_loop v307 v309 k1_t46).trips), ∀ a, (k1_off323 v307 v309 k1_t46 k1_t50) a + S1x1x16.size a ≤ S4x8x128.size a)
def k1_chk3_1 (k1_t1 : Fin k1_t1_loop.trips) (v307 : BitVec 32) (v309 : BitVec 32) : Prop :=
  (∀ (k1_t46 : Fin (k1_t46_loop v307 v309).trips) (k1_t50 : Fin (k1_t50_loop v307 v309 k1_t46).trips), ∀ a, (k1_off324 v307 v309 k1_t46 k1_t50) a + S1x1x16.size a ≤ S4x8x128.size a) ∧
  (∀ (k1_t46 : Fin (k1_t46_loop v307 v309).trips) (k1_t50 : Fin (k1_t50_loop v307 v309 k1_t46).trips), ∀ a, (k1_off325 v307 v309 k1_t46 k1_t50) a + S1x1x16.size a ≤ S4x8x128.size a) ∧
  (∀ (k1_t46 : Fin (k1_t46_loop v307 v309).trips) (k1_t50 : Fin (k1_t50_loop v307 v309 k1_t46).trips), ∀ a, (k1_off326 v307 v309 k1_t46 k1_t50) a + S1x1x16.size a ≤ S4x8x128.size a) ∧
  (∀ (k1_t46 : Fin (k1_t46_loop v307 v309).trips) (k1_t50 : Fin (k1_t50_loop v307 v309 k1_t46).trips), ∀ a, (k1_off327 v307 v309 k1_t46 k1_t50) a + S1x1x16.size a ≤ S4x8x128.size a) ∧
  (∀ (k1_t46 : Fin (k1_t46_loop v307 v309).trips) (k1_t50 : Fin (k1_t50_loop v307 v309 k1_t46).trips), ∀ a, (k1_off328 v307 v309 k1_t46 k1_t50) a + S1x1x16.size a ≤ S4x8x128.size a) ∧
  (∀ (k1_t46 : Fin (k1_t46_loop v307 v309).trips) (k1_t50 : Fin (k1_t50_loop v307 v309 k1_t46).trips), ∀ a, (k1_off329 v307 v309 k1_t46 k1_t50) a + S1x1x16.size a ≤ S4x8x128.size a) ∧
  (∀ k1_t46 : Fin (k1_t46_loop v307 v309).trips, (k1_t51_loop v307 v309 k1_t46).OK) ∧
  (∀ (k1_t46 : Fin (k1_t46_loop v307 v309).trips) (k1_t51 : Fin (k1_t51_loop v307 v309 k1_t46).trips), ∀ a, (k1_off330 v307 v309 k1_t46 k1_t51) a + S1x1x16.size a ≤ S4x8x128.size a) ∧
  (∀ (k1_t46 : Fin (k1_t46_loop v307 v309).trips) (k1_t51 : Fin (k1_t51_loop v307 v309 k1_t46).trips), ∀ a, (k1_off331 v307 v309 k1_t46 k1_t51) a + S1x1x16.size a ≤ S4x8x128.size a) ∧
  (∀ (k1_t46 : Fin (k1_t46_loop v307 v309).trips) (k1_t51 : Fin (k1_t51_loop v307 v309 k1_t46).trips), ∀ a, (k1_off332 v307 v309 k1_t46 k1_t51) a + S1x1x16.size a ≤ S4x8x128.size a) ∧
  (∀ (k1_t46 : Fin (k1_t46_loop v307 v309).trips) (k1_t51 : Fin (k1_t51_loop v307 v309 k1_t46).trips), ∀ a, (k1_off333 v307 v309 k1_t46 k1_t51) a + S1x1x16.size a ≤ S4x8x128.size a) ∧
  (∀ (k1_t46 : Fin (k1_t46_loop v307 v309).trips) (k1_t51 : Fin (k1_t51_loop v307 v309 k1_t46).trips), ∀ a, (k1_off334 v307 v309 k1_t46 k1_t51) a + S1x1x16.size a ≤ S4x8x128.size a) ∧
  (∀ (k1_t46 : Fin (k1_t46_loop v307 v309).trips) (k1_t51 : Fin (k1_t51_loop v307 v309 k1_t46).trips), ∀ a, (k1_off335 v307 v309 k1_t46 k1_t51) a + S1x1x16.size a ≤ S4x8x128.size a) ∧
  (∀ (k1_t46 : Fin (k1_t46_loop v307 v309).trips) (k1_t51 : Fin (k1_t51_loop v307 v309 k1_t46).trips), ∀ a, (k1_off336 v307 v309 k1_t46 k1_t51) a + S1x1x16.size a ≤ S4x8x128.size a) ∧
  (∀ (k1_t46 : Fin (k1_t46_loop v307 v309).trips) (k1_t51 : Fin (k1_t51_loop v307 v309 k1_t46).trips), ∀ a, (k1_off337 v307 v309 k1_t46 k1_t51) a + S1x1x16.size a ≤ S4x8x128.size a) ∧
  (∀ k1_t46 : Fin (k1_t46_loop v307 v309).trips, (k1_t52_loop v307 v309 k1_t46).OK) ∧
  (∀ (k1_t46 : Fin (k1_t46_loop v307 v309).trips) (k1_t52 : Fin (k1_t52_loop v307 v309 k1_t46).trips), ∀ a, (k1_off338 v307 v309 k1_t46 k1_t52) a + S1x1x16.size a ≤ S4x8x128.size a) ∧
  (∀ (k1_t46 : Fin (k1_t46_loop v307 v309).trips) (k1_t52 : Fin (k1_t52_loop v307 v309 k1_t46).trips), ∀ a, (k1_off339 v307 v309 k1_t46 k1_t52) a + S1x1x16.size a ≤ S4x8x128.size a) ∧
  (∀ (k1_t46 : Fin (k1_t46_loop v307 v309).trips) (k1_t52 : Fin (k1_t52_loop v307 v309 k1_t46).trips), ∀ a, (k1_off340 v307 v309 k1_t46 k1_t52) a + S1x1x16.size a ≤ S4x8x128.size a) ∧
  (∀ (k1_t46 : Fin (k1_t46_loop v307 v309).trips) (k1_t52 : Fin (k1_t52_loop v307 v309 k1_t46).trips), ∀ a, (k1_off341 v307 v309 k1_t46 k1_t52) a + S1x1x16.size a ≤ S4x8x128.size a) ∧
  (∀ (k1_t46 : Fin (k1_t46_loop v307 v309).trips) (k1_t52 : Fin (k1_t52_loop v307 v309 k1_t46).trips), ∀ a, (k1_off342 v307 v309 k1_t46 k1_t52) a + S1x1x16.size a ≤ S4x8x128.size a) ∧
  (∀ (k1_t46 : Fin (k1_t46_loop v307 v309).trips) (k1_t52 : Fin (k1_t52_loop v307 v309 k1_t46).trips), ∀ a, (k1_off343 v307 v309 k1_t46 k1_t52) a + S1x1x16.size a ≤ S4x8x128.size a) ∧
  (∀ (k1_t46 : Fin (k1_t46_loop v307 v309).trips) (k1_t52 : Fin (k1_t52_loop v307 v309 k1_t46).trips), ∀ a, (k1_off344 v307 v309 k1_t46 k1_t52) a + S1x1x16.size a ≤ S4x8x128.size a) ∧
  (∀ (k1_t46 : Fin (k1_t46_loop v307 v309).trips) (k1_t52 : Fin (k1_t52_loop v307 v309 k1_t46).trips), ∀ a, (k1_off345 v307 v309 k1_t46 k1_t52) a + S1x1x16.size a ≤ S4x8x128.size a) ∧
  ((k1_t53_loop v307 v309).OK) ∧
  (∀ k1_t53 : Fin (k1_t53_loop v307 v309).trips, (k1_t54_loop v307 v309 k1_t53).OK) ∧
  (∀ (k1_t53 : Fin (k1_t53_loop v307 v309).trips) (k1_t54 : Fin (k1_t54_loop v307 v309 k1_t53).trips), ∀ a, (k1_off346 v307 v309 k1_t53 k1_t54) a + S1x1x16.size a ≤ S4x8x128.size a) ∧
  (∀ (k1_t53 : Fin (k1_t53_loop v307 v309).trips) (k1_t54 : Fin (k1_t54_loop v307 v309 k1_t53).trips), ∀ a, (k1_off347 v307 v309 k1_t53 k1_t54) a + S1x1x16.size a ≤ S4x8x128.size a) ∧
  (∀ (k1_t53 : Fin (k1_t53_loop v307 v309).trips) (k1_t54 : Fin (k1_t54_loop v307 v309 k1_t53).trips), ∀ a, (k1_off348 v307 v309 k1_t53 k1_t54) a + S1x1x16.size a ≤ S4x8x128.size a) ∧
  (∀ (k1_t53 : Fin (k1_t53_loop v307 v309).trips) (k1_t54 : Fin (k1_t54_loop v307 v309 k1_t53).trips), ∀ a, (k1_off349 v307 v309 k1_t53 k1_t54) a + S1x1x16.size a ≤ S4x8x128.size a) ∧
  (∀ (k1_t53 : Fin (k1_t53_loop v307 v309).trips) (k1_t54 : Fin (k1_t54_loop v307 v309 k1_t53).trips), ∀ a, (k1_off350 v307 v309 k1_t53 k1_t54) a + S1x1x16.size a ≤ S4x8x128.size a) ∧
  (∀ (k1_t53 : Fin (k1_t53_loop v307 v309).trips) (k1_t54 : Fin (k1_t54_loop v307 v309 k1_t53).trips), ∀ a, (k1_off351 v307 v309 k1_t53 k1_t54) a + S1x1x16.size a ≤ S4x8x128.size a)
def k1_chk3_2 (k1_t1 : Fin k1_t1_loop.trips) (v307 : BitVec 32) (v309 : BitVec 32) : Prop :=
  (∀ (k1_t53 : Fin (k1_t53_loop v307 v309).trips) (k1_t54 : Fin (k1_t54_loop v307 v309 k1_t53).trips), ∀ a, (k1_off352 v307 v309 k1_t53 k1_t54) a + S1x1x16.size a ≤ S4x8x128.size a) ∧
  (∀ (k1_t53 : Fin (k1_t53_loop v307 v309).trips) (k1_t54 : Fin (k1_t54_loop v307 v309 k1_t53).trips), ∀ a, (k1_off353 v307 v309 k1_t53 k1_t54) a + S1x1x16.size a ≤ S4x8x128.size a) ∧
  (∀ k1_t53 : Fin (k1_t53_loop v307 v309).trips, (k1_t55_loop v307 v309 k1_t53).OK) ∧
  (∀ (k1_t53 : Fin (k1_t53_loop v307 v309).trips) (k1_t55 : Fin (k1_t55_loop v307 v309 k1_t53).trips), ∀ a, (k1_off354 v307 v309 k1_t53 k1_t55) a + S1x1x16.size a ≤ S4x8x128.size a) ∧
  (∀ (k1_t53 : Fin (k1_t53_loop v307 v309).trips) (k1_t55 : Fin (k1_t55_loop v307 v309 k1_t53).trips), ∀ a, (k1_off355 v307 v309 k1_t53 k1_t55) a + S1x1x16.size a ≤ S4x8x128.size a) ∧
  (∀ (k1_t53 : Fin (k1_t53_loop v307 v309).trips) (k1_t55 : Fin (k1_t55_loop v307 v309 k1_t53).trips), ∀ a, (k1_off356 v307 v309 k1_t53 k1_t55) a + S1x1x16.size a ≤ S4x8x128.size a) ∧
  (∀ (k1_t53 : Fin (k1_t53_loop v307 v309).trips) (k1_t55 : Fin (k1_t55_loop v307 v309 k1_t53).trips), ∀ a, (k1_off357 v307 v309 k1_t53 k1_t55) a + S1x1x16.size a ≤ S4x8x128.size a) ∧
  (∀ (k1_t53 : Fin (k1_t53_loop v307 v309).trips) (k1_t55 : Fin (k1_t55_loop v307 v309 k1_t53).trips), ∀ a, (k1_off358 v307 v309 k1_t53 k1_t55) a + S1x1x16.size a ≤ S4x8x128.size a) ∧
  (∀ (k1_t53 : Fin (k1_t53_loop v307 v309).trips) (k1_t55 : Fin (k1_t55_loop v307 v309 k1_t53).trips), ∀ a, (k1_off359 v307 v309 k1_t53 k1_t55) a + S1x1x16.size a ≤ S4x8x128.size a) ∧
  (∀ (k1_t53 : Fin (k1_t53_loop v307 v309).trips) (k1_t55 : Fin (k1_t55_loop v307 v309 k1_t53).trips), ∀ a, (k1_off360 v307 v309 k1_t53 k1_t55) a + S1x1x16.size a ≤ S4x8x128.size a) ∧
  (∀ (k1_t53 : Fin (k1_t53_loop v307 v309).trips) (k1_t55 : Fin (k1_t55_loop v307 v309 k1_t53).trips), ∀ a, (k1_off361 v307 v309 k1_t53 k1_t55) a + S1x1x16.size a ≤ S4x8x128.size a) ∧
  (∀ k1_t53 : Fin (k1_t53_loop v307 v309).trips, (k1_t56_loop v307 v309 k1_t53).OK) ∧
  (∀ (k1_t53 : Fin (k1_t53_loop v307 v309).trips) (k1_t56 : Fin (k1_t56_loop v307 v309 k1_t53).trips), ∀ a, (k1_off362 v307 v309 k1_t53 k1_t56) a + S1x1x16.size a ≤ S4x8x128.size a) ∧
  (∀ (k1_t53 : Fin (k1_t53_loop v307 v309).trips) (k1_t56 : Fin (k1_t56_loop v307 v309 k1_t53).trips), ∀ a, (k1_off363 v307 v309 k1_t53 k1_t56) a + S1x1x16.size a ≤ S4x8x128.size a) ∧
  (∀ (k1_t53 : Fin (k1_t53_loop v307 v309).trips) (k1_t56 : Fin (k1_t56_loop v307 v309 k1_t53).trips), ∀ a, (k1_off364 v307 v309 k1_t53 k1_t56) a + S1x1x16.size a ≤ S4x8x128.size a) ∧
  (∀ (k1_t53 : Fin (k1_t53_loop v307 v309).trips) (k1_t56 : Fin (k1_t56_loop v307 v309 k1_t53).trips), ∀ a, (k1_off365 v307 v309 k1_t53 k1_t56) a + S1x1x16.size a ≤ S4x8x128.size a) ∧
  (∀ (k1_t53 : Fin (k1_t53_loop v307 v309).trips) (k1_t56 : Fin (k1_t56_loop v307 v309 k1_t53).trips), ∀ a, (k1_off366 v307 v309 k1_t53 k1_t56) a + S1x1x16.size a ≤ S4x8x128.size a) ∧
  (∀ (k1_t53 : Fin (k1_t53_loop v307 v309).trips) (k1_t56 : Fin (k1_t56_loop v307 v309 k1_t53).trips), ∀ a, (k1_off367 v307 v309 k1_t53 k1_t56) a + S1x1x16.size a ≤ S4x8x128.size a) ∧
  (∀ (k1_t53 : Fin (k1_t53_loop v307 v309).trips) (k1_t56 : Fin (k1_t56_loop v307 v309 k1_t53).trips), ∀ a, (k1_off368 v307 v309 k1_t53 k1_t56) a + S1x1x16.size a ≤ S4x8x128.size a) ∧
  (∀ (k1_t53 : Fin (k1_t53_loop v307 v309).trips) (k1_t56 : Fin (k1_t56_loop v307 v309 k1_t53).trips), ∀ a, (k1_off369 v307 v309 k1_t53 k1_t56) a + S1x1x16.size a ≤ S4x8x128.size a) ∧
  (∀ k1_t53 : Fin (k1_t53_loop v307 v309).trips, (k1_t57_loop v307 v309 k1_t53).OK) ∧
  (∀ (k1_t53 : Fin (k1_t53_loop v307 v309).trips) (k1_t57 : Fin (k1_t57_loop v307 v309 k1_t53).trips), ∀ a, (k1_off370 v307 v309 k1_t53 k1_t57) a + S1x1x16.size a ≤ S4x8x128.size a) ∧
  (∀ (k1_t53 : Fin (k1_t53_loop v307 v309).trips) (k1_t57 : Fin (k1_t57_loop v307 v309 k1_t53).trips), ∀ a, (k1_off371 v307 v309 k1_t53 k1_t57) a + S1x1x16.size a ≤ S4x8x128.size a) ∧
  (∀ (k1_t53 : Fin (k1_t53_loop v307 v309).trips) (k1_t57 : Fin (k1_t57_loop v307 v309 k1_t53).trips), ∀ a, (k1_off372 v307 v309 k1_t53 k1_t57) a + S1x1x16.size a ≤ S4x8x128.size a) ∧
  (∀ (k1_t53 : Fin (k1_t53_loop v307 v309).trips) (k1_t57 : Fin (k1_t57_loop v307 v309 k1_t53).trips), ∀ a, (k1_off373 v307 v309 k1_t53 k1_t57) a + S1x1x16.size a ≤ S4x8x128.size a) ∧
  (∀ (k1_t53 : Fin (k1_t53_loop v307 v309).trips) (k1_t57 : Fin (k1_t57_loop v307 v309 k1_t53).trips), ∀ a, (k1_off374 v307 v309 k1_t53 k1_t57) a + S1x1x16.size a ≤ S4x8x128.size a) ∧
  (∀ (k1_t53 : Fin (k1_t53_loop v307 v309).trips) (k1_t57 : Fin (k1_t57_loop v307 v309 k1_t53).trips), ∀ a, (k1_off375 v307 v309 k1_t53 k1_t57) a + S1x1x16.size a ≤ S4x8x128.size a) ∧
  (∀ (k1_t53 : Fin (k1_t53_loop v307 v309).trips) (k1_t57 : Fin (k1_t57_loop v307 v309 k1_t53).trips), ∀ a, (k1_off376 v307 v309 k1_t53 k1_t57) a + S1x1x16.size a ≤ S4x8x128.size a) ∧
  (∀ (k1_t53 : Fin (k1_t53_loop v307 v309).trips) (k1_t57 : Fin (k1_t57_loop v307 v309 k1_t53).trips), ∀ a, (k1_off377 v307 v309 k1_t53 k1_t57) a + S1x1x16.size a ≤ S4x8x128.size a) ∧
  (∀ k1_t53 : Fin (k1_t53_loop v307 v309).trips, (k1_t58_loop v307 v309 k1_t53).OK) ∧
  (∀ (k1_t53 : Fin (k1_t53_loop v307 v309).trips) (k1_t58 : Fin (k1_t58_loop v307 v309 k1_t53).trips), ∀ a, (k1_off378 v307 v309 k1_t53 k1_t58) a + S1x1x16.size a ≤ S4x8x128.size a) ∧
  (∀ (k1_t53 : Fin (k1_t53_loop v307 v309).trips) (k1_t58 : Fin (k1_t58_loop v307 v309 k1_t53).trips), ∀ a, (k1_off379 v307 v309 k1_t53 k1_t58) a + S1x1x16.size a ≤ S4x8x128.size a)
def k1_chk3_3 (k1_t1 : Fin k1_t1_loop.trips) (v307 : BitVec 32) (v309 : BitVec 32) : Prop :=
  (∀ (k1_t53 : Fin (k1_t53_loop v307 v309).trips) (k1_t58 : Fin (k1_t58_loop v307 v309 k1_t53).trips), ∀ a, (k1_off380 v307 v309 k1_t53 k1_t58) a + S1x1x16.size a ≤ S4x8x128.size a) ∧
  (∀ (k1_t53 : Fin (k1_t53_loop v307 v309).trips) (k1_t58 : Fin (k1_t58_loop v307 v309 k1_t53).trips), ∀ a, (k1_off381 v307 v309 k1_t53 k1_t58) a + S1x1x16.size a ≤ S4x8x128.size a) ∧
  (∀ (k1_t53 : Fin (k1_t53_loop v307 v309).trips) (k1_t58 : Fin (k1_t58_loop v307 v309 k1_t53).trips), ∀ a, (k1_off382 v307 v309 k1_t53 k1_t58) a + S1x1x16.size a ≤ S4x8x128.size a) ∧
  (∀ (k1_t53 : Fin (k1_t53_loop v307 v309).trips) (k1_t58 : Fin (k1_t58_loop v307 v309 k1_t53).trips), ∀ a, (k1_off383 v307 v309 k1_t53 k1_t58) a + S1x1x16.size a ≤ S4x8x128.size a) ∧
  (∀ (k1_t53 : Fin (k1_t53_loop v307 v309).trips) (k1_t58 : Fin (k1_t58_loop v307 v309 k1_t53).trips), ∀ a, (k1_off384 v307 v309 k1_t53 k1_t58) a + S1x1x16.size a ≤ S4x8x128.size a) ∧
  (∀ (k1_t53 : Fin (k1_t53_loop v307 v309).trips) (k1_t58 : Fin (k1_t58_loop v307 v309 k1_t53).trips), ∀ a, (k1_off385 v307 v309 k1_t53 k1_t58) a + S1x1x16.size a ≤ S4x8x128.size a) ∧
  (∀ k1_t53 : Fin (k1_t53_loop v307 v309).trips, (k1_t59_loop v307 v309 k1_t53).OK) ∧
  (∀ (k1_t53 : Fin (k1_t53_loop v307 v309).trips) (k1_t59 : Fin (k1_t59_loop v307 v309 k1_t53).trips), ∀ a, (k1_off386 v307 v309 k1_t53 k1_t59) a + S1x1x16.size a ≤ S4x8x128.size a) ∧
  (∀ (k1_t53 : Fin (k1_t53_loop v307 v309).trips) (k1_t59 : Fin (k1_t59_loop v307 v309 k1_t53).trips), ∀ a, (k1_off387 v307 v309 k1_t53 k1_t59) a + S1x1x16.size a ≤ S4x8x128.size a) ∧
  (∀ (k1_t53 : Fin (k1_t53_loop v307 v309).trips) (k1_t59 : Fin (k1_t59_loop v307 v309 k1_t53).trips), ∀ a, (k1_off388 v307 v309 k1_t53 k1_t59) a + S1x1x16.size a ≤ S4x8x128.size a) ∧
  (∀ (k1_t53 : Fin (k1_t53_loop v307 v309).trips) (k1_t59 : Fin (k1_t59_loop v307 v309 k1_t53).trips), ∀ a, (k1_off389 v307 v309 k1_t53 k1_t59) a + S1x1x16.size a ≤ S4x8x128.size a) ∧
  (∀ (k1_t53 : Fin (k1_t53_loop v307 v309).trips) (k1_t59 : Fin (k1_t59_loop v307 v309 k1_t53).trips), ∀ a, (k1_off390 v307 v309 k1_t53 k1_t59) a + S1x1x16.size a ≤ S4x8x128.size a) ∧
  (∀ (k1_t53 : Fin (k1_t53_loop v307 v309).trips) (k1_t59 : Fin (k1_t59_loop v307 v309 k1_t53).trips), ∀ a, (k1_off391 v307 v309 k1_t53 k1_t59) a + S1x1x16.size a ≤ S4x8x128.size a) ∧
  (∀ (k1_t53 : Fin (k1_t53_loop v307 v309).trips) (k1_t59 : Fin (k1_t59_loop v307 v309 k1_t53).trips), ∀ a, (k1_off392 v307 v309 k1_t53 k1_t59) a + S1x1x16.size a ≤ S4x8x128.size a) ∧
  (∀ (k1_t53 : Fin (k1_t53_loop v307 v309).trips) (k1_t59 : Fin (k1_t59_loop v307 v309 k1_t53).trips), ∀ a, (k1_off393 v307 v309 k1_t53 k1_t59) a + S1x1x16.size a ≤ S4x8x128.size a) ∧
  ((k1_t60_loop v307 v309).OK) ∧
  (∀ k1_t60 : Fin (k1_t60_loop v307 v309).trips, ∀ a, (k1_off394 v307 v309 k1_t60) a + S4x8x128.size a ≤ S2550x8x128.size a) ∧
  (∀ k1_t60 : Fin (k1_t60_loop v307 v309).trips, (k1_t61_loop v307 v309 k1_t60).OK) ∧
  (∀ (k1_t60 : Fin (k1_t60_loop v307 v309).trips) (k1_t61 : Fin (k1_t61_loop v307 v309 k1_t60).trips), (k1_t62_loop v307 v309 k1_t60 k1_t61).OK) ∧
  (∀ (k1_t60 : Fin (k1_t60_loop v307 v309).trips) (k1_t61 : Fin (k1_t61_loop v307 v309 k1_t60).trips) (k1_t62 : Fin (k1_t62_loop v307 v309 k1_t60 k1_t61).trips), ∀ a, (k1_off395 v307 v309 k1_t60 k1_t61 k1_t62) a + S1x1x16.size a ≤ S4x8x128.size a) ∧
  (∀ (k1_t60 : Fin (k1_t60_loop v307 v309).trips) (k1_t61 : Fin (k1_t61_loop v307 v309 k1_t60).trips) (k1_t62 : Fin (k1_t62_loop v307 v309 k1_t60 k1_t61).trips), ∀ a, (k1_off396 v307 v309 k1_t60 k1_t61 k1_t62) a + S1x1x16.size a ≤ S4x8x128.size a) ∧
  (∀ (k1_t60 : Fin (k1_t60_loop v307 v309).trips) (k1_t61 : Fin (k1_t61_loop v307 v309 k1_t60).trips) (k1_t62 : Fin (k1_t62_loop v307 v309 k1_t60 k1_t61).trips), ∀ a, (k1_off397 v307 v309 k1_t60 k1_t61 k1_t62) a + S1x1x16.size a ≤ S4x8x128.size a) ∧
  (∀ (k1_t60 : Fin (k1_t60_loop v307 v309).trips) (k1_t61 : Fin (k1_t61_loop v307 v309 k1_t60).trips) (k1_t62 : Fin (k1_t62_loop v307 v309 k1_t60 k1_t61).trips), ∀ a, (k1_off398 v307 v309 k1_t60 k1_t61 k1_t62) a + S1x1x16.size a ≤ S4x8x128.size a) ∧
  (∀ (k1_t60 : Fin (k1_t60_loop v307 v309).trips) (k1_t61 : Fin (k1_t61_loop v307 v309 k1_t60).trips) (k1_t62 : Fin (k1_t62_loop v307 v309 k1_t60 k1_t61).trips), ∀ a, (k1_off399 v307 v309 k1_t60 k1_t61 k1_t62) a + S1x1x16.size a ≤ S4x8x128.size a) ∧
  (∀ (k1_t60 : Fin (k1_t60_loop v307 v309).trips) (k1_t61 : Fin (k1_t61_loop v307 v309 k1_t60).trips) (k1_t62 : Fin (k1_t62_loop v307 v309 k1_t60 k1_t61).trips), ∀ a, (k1_off400 v307 v309 k1_t60 k1_t61 k1_t62) a + S1x1x16.size a ≤ S4x8x128.size a) ∧
  (∀ (k1_t60 : Fin (k1_t60_loop v307 v309).trips) (k1_t61 : Fin (k1_t61_loop v307 v309 k1_t60).trips) (k1_t62 : Fin (k1_t62_loop v307 v309 k1_t60 k1_t61).trips), ∀ a, (k1_off401 v307 v309 k1_t60 k1_t61 k1_t62) a + S1x1x16.size a ≤ S4x8x128.size a) ∧
  (∀ (k1_t60 : Fin (k1_t60_loop v307 v309).trips) (k1_t61 : Fin (k1_t61_loop v307 v309 k1_t60).trips) (k1_t62 : Fin (k1_t62_loop v307 v309 k1_t60 k1_t61).trips), ∀ a, (k1_off402 v307 v309 k1_t60 k1_t61 k1_t62) a + S1x1x16.size a ≤ S4x8x128.size a) ∧
  (∀ (k1_t60 : Fin (k1_t60_loop v307 v309).trips) (k1_t61 : Fin (k1_t61_loop v307 v309 k1_t60).trips), (k1_t63_loop v307 v309 k1_t60 k1_t61).OK) ∧
  (∀ (k1_t60 : Fin (k1_t60_loop v307 v309).trips) (k1_t61 : Fin (k1_t61_loop v307 v309 k1_t60).trips) (k1_t63 : Fin (k1_t63_loop v307 v309 k1_t60 k1_t61).trips), ∀ a, (k1_off403 v307 v309 k1_t60 k1_t61 k1_t63) a + S1x1x16.size a ≤ S4x8x128.size a) ∧
  (∀ (k1_t60 : Fin (k1_t60_loop v307 v309).trips) (k1_t61 : Fin (k1_t61_loop v307 v309 k1_t60).trips) (k1_t63 : Fin (k1_t63_loop v307 v309 k1_t60 k1_t61).trips), ∀ a, (k1_off404 v307 v309 k1_t60 k1_t61 k1_t63) a + S1x1x16.size a ≤ S4x8x128.size a) ∧
  (∀ (k1_t60 : Fin (k1_t60_loop v307 v309).trips) (k1_t61 : Fin (k1_t61_loop v307 v309 k1_t60).trips) (k1_t63 : Fin (k1_t63_loop v307 v309 k1_t60 k1_t61).trips), ∀ a, (k1_off405 v307 v309 k1_t60 k1_t61 k1_t63) a + S1x1x16.size a ≤ S4x8x128.size a) ∧
  (∀ (k1_t60 : Fin (k1_t60_loop v307 v309).trips) (k1_t61 : Fin (k1_t61_loop v307 v309 k1_t60).trips) (k1_t63 : Fin (k1_t63_loop v307 v309 k1_t60 k1_t61).trips), ∀ a, (k1_off406 v307 v309 k1_t60 k1_t61 k1_t63) a + S1x1x16.size a ≤ S4x8x128.size a)
def k1_chk3_4 (k1_t1 : Fin k1_t1_loop.trips) (v307 : BitVec 32) (v309 : BitVec 32) : Prop :=
  (∀ (k1_t60 : Fin (k1_t60_loop v307 v309).trips) (k1_t61 : Fin (k1_t61_loop v307 v309 k1_t60).trips) (k1_t63 : Fin (k1_t63_loop v307 v309 k1_t60 k1_t61).trips), ∀ a, (k1_off407 v307 v309 k1_t60 k1_t61 k1_t63) a + S1x1x16.size a ≤ S4x8x128.size a) ∧
  (∀ (k1_t60 : Fin (k1_t60_loop v307 v309).trips) (k1_t61 : Fin (k1_t61_loop v307 v309 k1_t60).trips) (k1_t63 : Fin (k1_t63_loop v307 v309 k1_t60 k1_t61).trips), ∀ a, (k1_off408 v307 v309 k1_t60 k1_t61 k1_t63) a + S1x1x16.size a ≤ S4x8x128.size a) ∧
  (∀ (k1_t60 : Fin (k1_t60_loop v307 v309).trips) (k1_t61 : Fin (k1_t61_loop v307 v309 k1_t60).trips) (k1_t63 : Fin (k1_t63_loop v307 v309 k1_t60 k1_t61).trips), ∀ a, (k1_off409 v307 v309 k1_t60 k1_t61 k1_t63) a + S1x1x16.size a ≤ S4x8x128.size a) ∧
  (∀ (k1_t60 : Fin (k1_t60_loop v307 v309).trips) (k1_t61 : Fin (k1_t61_loop v307 v309 k1_t60).trips) (k1_t63 : Fin (k1_t63_loop v307 v309 k1_t60 k1_t61).trips), ∀ a, (k1_off410 v307 v309 k1_t60 k1_t61 k1_t63) a + S1x1x16.size a ≤ S4x8x128.size a) ∧
  (∀ (k1_t60 : Fin (k1_t60_loop v307 v309).trips) (k1_t61 : Fin (k1_t61_loop v307 v309 k1_t60).trips), (k1_t64_loop v307 v309 k1_t60 k1_t61).OK) ∧
  (∀ (k1_t60 : Fin (k1_t60_loop v307 v309).trips) (k1_t61 : Fin (k1_t61_loop v307 v309 k1_t60).trips) (k1_t64 : Fin (k1_t64_loop v307 v309 k1_t60 k1_t61).trips), ∀ a, (k1_off411 v307 v309 k1_t60 k1_t61 k1_t64) a + S1x1x16.size a ≤ S4x8x128.size a) ∧
  (∀ (k1_t60 : Fin (k1_t60_loop v307 v309).trips) (k1_t61 : Fin (k1_t61_loop v307 v309 k1_t60).trips) (k1_t64 : Fin (k1_t64_loop v307 v309 k1_t60 k1_t61).trips), ∀ a, (k1_off412 v307 v309 k1_t60 k1_t61 k1_t64) a + S1x1x16.size a ≤ S4x8x128.size a) ∧
  (∀ (k1_t60 : Fin (k1_t60_loop v307 v309).trips) (k1_t61 : Fin (k1_t61_loop v307 v309 k1_t60).trips) (k1_t64 : Fin (k1_t64_loop v307 v309 k1_t60 k1_t61).trips), ∀ a, (k1_off413 v307 v309 k1_t60 k1_t61 k1_t64) a + S1x1x16.size a ≤ S4x8x128.size a) ∧
  (∀ (k1_t60 : Fin (k1_t60_loop v307 v309).trips) (k1_t61 : Fin (k1_t61_loop v307 v309 k1_t60).trips) (k1_t64 : Fin (k1_t64_loop v307 v309 k1_t60 k1_t61).trips), ∀ a, (k1_off414 v307 v309 k1_t60 k1_t61 k1_t64) a + S1x1x16.size a ≤ S4x8x128.size a) ∧
  (∀ (k1_t60 : Fin (k1_t60_loop v307 v309).trips) (k1_t61 : Fin (k1_t61_loop v307 v309 k1_t60).trips) (k1_t64 : Fin (k1_t64_loop v307 v309 k1_t60 k1_t61).trips), ∀ a, (k1_off415 v307 v309 k1_t60 k1_t61 k1_t64) a + S1x1x16.size a ≤ S4x8x128.size a) ∧
  (∀ (k1_t60 : Fin (k1_t60_loop v307 v309).trips) (k1_t61 : Fin (k1_t61_loop v307 v309 k1_t60).trips) (k1_t64 : Fin (k1_t64_loop v307 v309 k1_t60 k1_t61).trips), ∀ a, (k1_off416 v307 v309 k1_t60 k1_t61 k1_t64) a + S1x1x16.size a ≤ S4x8x128.size a) ∧
  (∀ (k1_t60 : Fin (k1_t60_loop v307 v309).trips) (k1_t61 : Fin (k1_t61_loop v307 v309 k1_t60).trips) (k1_t64 : Fin (k1_t64_loop v307 v309 k1_t60 k1_t61).trips), ∀ a, (k1_off417 v307 v309 k1_t60 k1_t61 k1_t64) a + S1x1x16.size a ≤ S4x8x128.size a) ∧
  (∀ (k1_t60 : Fin (k1_t60_loop v307 v309).trips) (k1_t61 : Fin (k1_t61_loop v307 v309 k1_t60).trips) (k1_t64 : Fin (k1_t64_loop v307 v309 k1_t60 k1_t61).trips), ∀ a, (k1_off418 v307 v309 k1_t60 k1_t61 k1_t64) a + S1x1x16.size a ≤ S4x8x128.size a) ∧
  (∀ (k1_t60 : Fin (k1_t60_loop v307 v309).trips) (k1_t61 : Fin (k1_t61_loop v307 v309 k1_t60).trips), (k1_t65_loop v307 v309 k1_t60 k1_t61).OK) ∧
  (∀ (k1_t60 : Fin (k1_t60_loop v307 v309).trips) (k1_t61 : Fin (k1_t61_loop v307 v309 k1_t60).trips) (k1_t65 : Fin (k1_t65_loop v307 v309 k1_t60 k1_t61).trips), ∀ a, (k1_off419 v307 v309 k1_t60 k1_t61 k1_t65) a + S1x1x16.size a ≤ S4x8x128.size a) ∧
  (∀ (k1_t60 : Fin (k1_t60_loop v307 v309).trips) (k1_t61 : Fin (k1_t61_loop v307 v309 k1_t60).trips) (k1_t65 : Fin (k1_t65_loop v307 v309 k1_t60 k1_t61).trips), ∀ a, (k1_off420 v307 v309 k1_t60 k1_t61 k1_t65) a + S1x1x16.size a ≤ S4x8x128.size a) ∧
  (∀ (k1_t60 : Fin (k1_t60_loop v307 v309).trips) (k1_t61 : Fin (k1_t61_loop v307 v309 k1_t60).trips) (k1_t65 : Fin (k1_t65_loop v307 v309 k1_t60 k1_t61).trips), ∀ a, (k1_off421 v307 v309 k1_t60 k1_t61 k1_t65) a + S1x1x16.size a ≤ S4x8x128.size a) ∧
  (∀ (k1_t60 : Fin (k1_t60_loop v307 v309).trips) (k1_t61 : Fin (k1_t61_loop v307 v309 k1_t60).trips) (k1_t65 : Fin (k1_t65_loop v307 v309 k1_t60 k1_t61).trips), ∀ a, (k1_off422 v307 v309 k1_t60 k1_t61 k1_t65) a + S1x1x16.size a ≤ S4x8x128.size a) ∧
  (∀ (k1_t60 : Fin (k1_t60_loop v307 v309).trips) (k1_t61 : Fin (k1_t61_loop v307 v309 k1_t60).trips) (k1_t65 : Fin (k1_t65_loop v307 v309 k1_t60 k1_t61).trips), ∀ a, (k1_off423 v307 v309 k1_t60 k1_t61 k1_t65) a + S1x1x16.size a ≤ S4x8x128.size a) ∧
  (∀ (k1_t60 : Fin (k1_t60_loop v307 v309).trips) (k1_t61 : Fin (k1_t61_loop v307 v309 k1_t60).trips) (k1_t65 : Fin (k1_t65_loop v307 v309 k1_t60 k1_t61).trips), ∀ a, (k1_off424 v307 v309 k1_t60 k1_t61 k1_t65) a + S1x1x16.size a ≤ S4x8x128.size a) ∧
  (∀ (k1_t60 : Fin (k1_t60_loop v307 v309).trips) (k1_t61 : Fin (k1_t61_loop v307 v309 k1_t60).trips) (k1_t65 : Fin (k1_t65_loop v307 v309 k1_t60 k1_t61).trips), ∀ a, (k1_off425 v307 v309 k1_t60 k1_t61 k1_t65) a + S1x1x16.size a ≤ S4x8x128.size a) ∧
  (∀ (k1_t60 : Fin (k1_t60_loop v307 v309).trips) (k1_t61 : Fin (k1_t61_loop v307 v309 k1_t60).trips) (k1_t65 : Fin (k1_t65_loop v307 v309 k1_t60 k1_t61).trips), ∀ a, (k1_off426 v307 v309 k1_t60 k1_t61 k1_t65) a + S1x1x16.size a ≤ S4x8x128.size a) ∧
  (∀ (k1_t60 : Fin (k1_t60_loop v307 v309).trips) (k1_t61 : Fin (k1_t61_loop v307 v309 k1_t60).trips), (k1_t66_loop v307 v309 k1_t60 k1_t61).OK) ∧
  (∀ (k1_t60 : Fin (k1_t60_loop v307 v309).trips) (k1_t61 : Fin (k1_t61_loop v307 v309 k1_t60).trips) (k1_t66 : Fin (k1_t66_loop v307 v309 k1_t60 k1_t61).trips), ∀ a, (k1_off427 v307 v309 k1_t60 k1_t61 k1_t66) a + S1x1x16.size a ≤ S4x8x128.size a) ∧
  (∀ (k1_t60 : Fin (k1_t60_loop v307 v309).trips) (k1_t61 : Fin (k1_t61_loop v307 v309 k1_t60).trips) (k1_t66 : Fin (k1_t66_loop v307 v309 k1_t60 k1_t61).trips), ∀ a, (k1_off428 v307 v309 k1_t60 k1_t61 k1_t66) a + S1x1x16.size a ≤ S4x8x128.size a) ∧
  (∀ (k1_t60 : Fin (k1_t60_loop v307 v309).trips) (k1_t61 : Fin (k1_t61_loop v307 v309 k1_t60).trips) (k1_t66 : Fin (k1_t66_loop v307 v309 k1_t60 k1_t61).trips), ∀ a, (k1_off429 v307 v309 k1_t60 k1_t61 k1_t66) a + S1x1x16.size a ≤ S4x8x128.size a) ∧
  (∀ (k1_t60 : Fin (k1_t60_loop v307 v309).trips) (k1_t61 : Fin (k1_t61_loop v307 v309 k1_t60).trips) (k1_t66 : Fin (k1_t66_loop v307 v309 k1_t60 k1_t61).trips), ∀ a, (k1_off430 v307 v309 k1_t60 k1_t61 k1_t66) a + S1x1x16.size a ≤ S4x8x128.size a) ∧
  (∀ (k1_t60 : Fin (k1_t60_loop v307 v309).trips) (k1_t61 : Fin (k1_t61_loop v307 v309 k1_t60).trips) (k1_t66 : Fin (k1_t66_loop v307 v309 k1_t60 k1_t61).trips), ∀ a, (k1_off431 v307 v309 k1_t60 k1_t61 k1_t66) a + S1x1x16.size a ≤ S4x8x128.size a) ∧
  (∀ (k1_t60 : Fin (k1_t60_loop v307 v309).trips) (k1_t61 : Fin (k1_t61_loop v307 v309 k1_t60).trips) (k1_t66 : Fin (k1_t66_loop v307 v309 k1_t60 k1_t61).trips), ∀ a, (k1_off432 v307 v309 k1_t60 k1_t61 k1_t66) a + S1x1x16.size a ≤ S4x8x128.size a) ∧
  (∀ (k1_t60 : Fin (k1_t60_loop v307 v309).trips) (k1_t61 : Fin (k1_t61_loop v307 v309 k1_t60).trips) (k1_t66 : Fin (k1_t66_loop v307 v309 k1_t60 k1_t61).trips), ∀ a, (k1_off433 v307 v309 k1_t60 k1_t61 k1_t66) a + S1x1x16.size a ≤ S4x8x128.size a) ∧
  (∀ (k1_t60 : Fin (k1_t60_loop v307 v309).trips) (k1_t61 : Fin (k1_t61_loop v307 v309 k1_t60).trips) (k1_t66 : Fin (k1_t66_loop v307 v309 k1_t60 k1_t61).trips), ∀ a, (k1_off434 v307 v309 k1_t60 k1_t61 k1_t66) a + S1x1x16.size a ≤ S4x8x128.size a) ∧
  (∀ (k1_t60 : Fin (k1_t60_loop v307 v309).trips) (k1_t61 : Fin (k1_t61_loop v307 v309 k1_t60).trips), (k1_t67_loop v307 v309 k1_t60 k1_t61).OK)
def k1_chk3_5 (k1_t1 : Fin k1_t1_loop.trips) (v307 : BitVec 32) (v309 : BitVec 32) : Prop :=
  (∀ (k1_t60 : Fin (k1_t60_loop v307 v309).trips) (k1_t61 : Fin (k1_t61_loop v307 v309 k1_t60).trips) (k1_t67 : Fin (k1_t67_loop v307 v309 k1_t60 k1_t61).trips), ∀ a, (k1_off435 v307 v309 k1_t60 k1_t61 k1_t67) a + S1x1x16.size a ≤ S4x8x128.size a) ∧
  (∀ (k1_t60 : Fin (k1_t60_loop v307 v309).trips) (k1_t61 : Fin (k1_t61_loop v307 v309 k1_t60).trips) (k1_t67 : Fin (k1_t67_loop v307 v309 k1_t60 k1_t61).trips), ∀ a, (k1_off436 v307 v309 k1_t60 k1_t61 k1_t67) a + S1x1x16.size a ≤ S4x8x128.size a) ∧
  (∀ (k1_t60 : Fin (k1_t60_loop v307 v309).trips) (k1_t61 : Fin (k1_t61_loop v307 v309 k1_t60).trips) (k1_t67 : Fin (k1_t67_loop v307 v309 k1_t60 k1_t61).trips), ∀ a, (k1_off437 v307 v309 k1_t60 k1_t61 k1_t67) a + S1x1x16.size a ≤ S4x8x128.size a) ∧
  (∀ (k1_t60 : Fin (k1_t60_loop v307 v309).trips) (k1_t61 : Fin (k1_t61_loop v307 v309 k1_t60).trips) (k1_t67 : Fin (k1_t67_loop v307 v309 k1_t60 k1_t61).trips), ∀ a, (k1_off438 v307 v309 k1_t60 k1_t61 k1_t67) a + S1x1x16.size a ≤ S4x8x128.size a) ∧
  (∀ (k1_t60 : Fin (k1_t60_loop v307 v309).trips) (k1_t61 : Fin (k1_t61_loop v307 v309 k1_t60).trips) (k1_t67 : Fin (k1_t67_loop v307 v309 k1_t60 k1_t61).trips), ∀ a, (k1_off439 v307 v309 k1_t60 k1_t61 k1_t67) a + S1x1x16.size a ≤ S4x8x128.size a) ∧
  (∀ (k1_t60 : Fin (k1_t60_loop v307 v309).trips) (k1_t61 : Fin (k1_t61_loop v307 v309 k1_t60).trips) (k1_t67 : Fin (k1_t67_loop v307 v309 k1_t60 k1_t61).trips), ∀ a, (k1_off440 v307 v309 k1_t60 k1_t61 k1_t67) a + S1x1x16.size a ≤ S4x8x128.size a) ∧
  (∀ (k1_t60 : Fin (k1_t60_loop v307 v309).trips) (k1_t61 : Fin (k1_t61_loop v307 v309 k1_t60).trips) (k1_t67 : Fin (k1_t67_loop v307 v309 k1_t60 k1_t61).trips), ∀ a, (k1_off441 v307 v309 k1_t60 k1_t61 k1_t67) a + S1x1x16.size a ≤ S4x8x128.size a) ∧
  (∀ (k1_t60 : Fin (k1_t60_loop v307 v309).trips) (k1_t61 : Fin (k1_t61_loop v307 v309 k1_t60).trips) (k1_t67 : Fin (k1_t67_loop v307 v309 k1_t60 k1_t61).trips), ∀ a, (k1_off442 v307 v309 k1_t60 k1_t61 k1_t67) a + S1x1x16.size a ≤ S4x8x128.size a) ∧
  (∀ k1_t60 : Fin (k1_t60_loop v307 v309).trips, (k1_t68_loop v307 v309 k1_t60).OK) ∧
  (∀ (k1_t60 : Fin (k1_t60_loop v307 v309).trips) (k1_t68 : Fin (k1_t68_loop v307 v309 k1_t60).trips), (k1_t69_loop v307 v309 k1_t60 k1_t68).OK) ∧
  (∀ (k1_t60 : Fin (k1_t60_loop v307 v309).trips) (k1_t68 : Fin (k1_t68_loop v307 v309 k1_t60).trips) (k1_t69 : Fin (k1_t69_loop v307 v309 k1_t60 k1_t68).trips), ∀ a, (k1_off443 v307 v309 k1_t60 k1_t68 k1_t69) a + S1x1x16.size a ≤ S4x8x128.size a) ∧
  (∀ (k1_t60 : Fin (k1_t60_loop v307 v309).trips) (k1_t68 : Fin (k1_t68_loop v307 v309 k1_t60).trips) (k1_t69 : Fin (k1_t69_loop v307 v309 k1_t60 k1_t68).trips), ∀ a, (k1_off444 v307 v309 k1_t60 k1_t68 k1_t69) a + S1x1x16.size a ≤ S4x8x128.size a) ∧
  (∀ (k1_t60 : Fin (k1_t60_loop v307 v309).trips) (k1_t68 : Fin (k1_t68_loop v307 v309 k1_t60).trips) (k1_t69 : Fin (k1_t69_loop v307 v309 k1_t60 k1_t68).trips), ∀ a, (k1_off445 v307 v309 k1_t60 k1_t68 k1_t69) a + S1x1x16.size a ≤ S4x8x128.size a) ∧
  (∀ (k1_t60 : Fin (k1_t60_loop v307 v309).trips) (k1_t68 : Fin (k1_t68_loop v307 v309 k1_t60).trips) (k1_t69 : Fin (k1_t69_loop v307 v309 k1_t60 k1_t68).trips), ∀ a, (k1_off446 v307 v309 k1_t60 k1_t68 k1_t69) a + S1x1x16.size a ≤ S4x8x128.size a) ∧
  (∀ (k1_t60 : Fin (k1_t60_loop v307 v309).trips) (k1_t68 : Fin (k1_t68_loop v307 v309 k1_t60).trips) (k1_t69 : Fin (k1_t69_loop v307 v309 k1_t60 k1_t68).trips), ∀ a, (k1_off447 v307 v309 k1_t60 k1_t68 k1_t69) a + S1x1x16.size a ≤ S4x8x128.size a) ∧
  (∀ (k1_t60 : Fin (k1_t60_loop v307 v309).trips) (k1_t68 : Fin (k1_t68_loop v307 v309 k1_t60).trips) (k1_t69 : Fin (k1_t69_loop v307 v309 k1_t60 k1_t68).trips), ∀ a, (k1_off448 v307 v309 k1_t60 k1_t68 k1_t69) a + S1x1x16.size a ≤ S4x8x128.size a) ∧
  (∀ (k1_t60 : Fin (k1_t60_loop v307 v309).trips) (k1_t68 : Fin (k1_t68_loop v307 v309 k1_t60).trips) (k1_t69 : Fin (k1_t69_loop v307 v309 k1_t60 k1_t68).trips), ∀ a, (k1_off449 v307 v309 k1_t60 k1_t68 k1_t69) a + S1x1x16.size a ≤ S4x8x128.size a) ∧
  (∀ (k1_t60 : Fin (k1_t60_loop v307 v309).trips) (k1_t68 : Fin (k1_t68_loop v307 v309 k1_t60).trips) (k1_t69 : Fin (k1_t69_loop v307 v309 k1_t60 k1_t68).trips), ∀ a, (k1_off450 v307 v309 k1_t60 k1_t68 k1_t69) a + S1x1x16.size a ≤ S4x8x128.size a) ∧
  (∀ (k1_t60 : Fin (k1_t60_loop v307 v309).trips) (k1_t68 : Fin (k1_t68_loop v307 v309 k1_t60).trips), (k1_t70_loop v307 v309 k1_t60 k1_t68).OK) ∧
  (∀ (k1_t60 : Fin (k1_t60_loop v307 v309).trips) (k1_t68 : Fin (k1_t68_loop v307 v309 k1_t60).trips) (k1_t70 : Fin (k1_t70_loop v307 v309 k1_t60 k1_t68).trips), ∀ a, (k1_off451 v307 v309 k1_t60 k1_t68 k1_t70) a + S1x1x16.size a ≤ S4x8x128.size a) ∧
  (∀ (k1_t60 : Fin (k1_t60_loop v307 v309).trips) (k1_t68 : Fin (k1_t68_loop v307 v309 k1_t60).trips) (k1_t70 : Fin (k1_t70_loop v307 v309 k1_t60 k1_t68).trips), ∀ a, (k1_off452 v307 v309 k1_t60 k1_t68 k1_t70) a + S1x1x16.size a ≤ S4x8x128.size a) ∧
  (∀ (k1_t60 : Fin (k1_t60_loop v307 v309).trips) (k1_t68 : Fin (k1_t68_loop v307 v309 k1_t60).trips) (k1_t70 : Fin (k1_t70_loop v307 v309 k1_t60 k1_t68).trips), ∀ a, (k1_off453 v307 v309 k1_t60 k1_t68 k1_t70) a + S1x1x16.size a ≤ S4x8x128.size a) ∧
  (∀ (k1_t60 : Fin (k1_t60_loop v307 v309).trips) (k1_t68 : Fin (k1_t68_loop v307 v309 k1_t60).trips) (k1_t70 : Fin (k1_t70_loop v307 v309 k1_t60 k1_t68).trips), ∀ a, (k1_off454 v307 v309 k1_t60 k1_t68 k1_t70) a + S1x1x16.size a ≤ S4x8x128.size a) ∧
  (∀ (k1_t60 : Fin (k1_t60_loop v307 v309).trips) (k1_t68 : Fin (k1_t68_loop v307 v309 k1_t60).trips) (k1_t70 : Fin (k1_t70_loop v307 v309 k1_t60 k1_t68).trips), ∀ a, (k1_off455 v307 v309 k1_t60 k1_t68 k1_t70) a + S1x1x16.size a ≤ S4x8x128.size a) ∧
  (∀ (k1_t60 : Fin (k1_t60_loop v307 v309).trips) (k1_t68 : Fin (k1_t68_loop v307 v309 k1_t60).trips) (k1_t70 : Fin (k1_t70_loop v307 v309 k1_t60 k1_t68).trips), ∀ a, (k1_off456 v307 v309 k1_t60 k1_t68 k1_t70) a + S1x1x16.size a ≤ S4x8x128.size a) ∧
  (∀ (k1_t60 : Fin (k1_t60_loop v307 v309).trips) (k1_t68 : Fin (k1_t68_loop v307 v309 k1_t60).trips) (k1_t70 : Fin (k1_t70_loop v307 v309 k1_t60 k1_t68).trips), ∀ a, (k1_off457 v307 v309 k1_t60 k1_t68 k1_t70) a + S1x1x16.size a ≤ S4x8x128.size a) ∧
  (∀ (k1_t60 : Fin (k1_t60_loop v307 v309).trips) (k1_t68 : Fin (k1_t68_loop v307 v309 k1_t60).trips) (k1_t70 : Fin (k1_t70_loop v307 v309 k1_t60 k1_t68).trips), ∀ a, (k1_off458 v307 v309 k1_t60 k1_t68 k1_t70) a + S1x1x16.size a ≤ S4x8x128.size a) ∧
  (∀ (k1_t60 : Fin (k1_t60_loop v307 v309).trips) (k1_t68 : Fin (k1_t68_loop v307 v309 k1_t60).trips), (k1_t71_loop v307 v309 k1_t60 k1_t68).OK) ∧
  (∀ (k1_t60 : Fin (k1_t60_loop v307 v309).trips) (k1_t68 : Fin (k1_t68_loop v307 v309 k1_t60).trips) (k1_t71 : Fin (k1_t71_loop v307 v309 k1_t60 k1_t68).trips), ∀ a, (k1_off459 v307 v309 k1_t60 k1_t68 k1_t71) a + S1x1x16.size a ≤ S4x8x128.size a) ∧
  (∀ (k1_t60 : Fin (k1_t60_loop v307 v309).trips) (k1_t68 : Fin (k1_t68_loop v307 v309 k1_t60).trips) (k1_t71 : Fin (k1_t71_loop v307 v309 k1_t60 k1_t68).trips), ∀ a, (k1_off460 v307 v309 k1_t60 k1_t68 k1_t71) a + S1x1x16.size a ≤ S4x8x128.size a) ∧
  (∀ (k1_t60 : Fin (k1_t60_loop v307 v309).trips) (k1_t68 : Fin (k1_t68_loop v307 v309 k1_t60).trips) (k1_t71 : Fin (k1_t71_loop v307 v309 k1_t60 k1_t68).trips), ∀ a, (k1_off461 v307 v309 k1_t60 k1_t68 k1_t71) a + S1x1x16.size a ≤ S4x8x128.size a) ∧
  (∀ (k1_t60 : Fin (k1_t60_loop v307 v309).trips) (k1_t68 : Fin (k1_t68_loop v307 v309 k1_t60).trips) (k1_t71 : Fin (k1_t71_loop v307 v309 k1_t60 k1_t68).trips), ∀ a, (k1_off462 v307 v309 k1_t60 k1_t68 k1_t71) a + S1x1x16.size a ≤ S4x8x128.size a)
def k1_chk3_6 (k1_t1 : Fin k1_t1_loop.trips) (v307 : BitVec 32) (v309 : BitVec 32) : Prop :=
  (∀ (k1_t60 : Fin (k1_t60_loop v307 v309).trips) (k1_t68 : Fin (k1_t68_loop v307 v309 k1_t60).trips) (k1_t71 : Fin (k1_t71_loop v307 v309 k1_t60 k1_t68).trips), ∀ a, (k1_off463 v307 v309 k1_t60 k1_t68 k1_t71) a + S1x1x16.size a ≤ S4x8x128.size a) ∧
  (∀ (k1_t60 : Fin (k1_t60_loop v307 v309).trips) (k1_t68 : Fin (k1_t68_loop v307 v309 k1_t60).trips) (k1_t71 : Fin (k1_t71_loop v307 v309 k1_t60 k1_t68).trips), ∀ a, (k1_off464 v307 v309 k1_t60 k1_t68 k1_t71) a + S1x1x16.size a ≤ S4x8x128.size a) ∧
  (∀ (k1_t60 : Fin (k1_t60_loop v307 v309).trips) (k1_t68 : Fin (k1_t68_loop v307 v309 k1_t60).trips) (k1_t71 : Fin (k1_t71_loop v307 v309 k1_t60 k1_t68).trips), ∀ a, (k1_off465 v307 v309 k1_t60 k1_t68 k1_t71) a + S1x1x16.size a ≤ S4x8x128.size a) ∧
  (∀ (k1_t60 : Fin (k1_t60_loop v307 v309).trips) (k1_t68 : Fin (k1_t68_loop v307 v309 k1_t60).trips) (k1_t71 : Fin (k1_t71_loop v307 v309 k1_t60 k1_t68).trips), ∀ a, (k1_off466 v307 v309 k1_t60 k1_t68 k1_t71) a + S1x1x16.size a ≤ S4x8x128.size a) ∧
  (∀ (k1_t60 : Fin (k1_t60_loop v307 v309).trips) (k1_t68 : Fin (k1_t68_loop v307 v309 k1_t60).trips), (k1_t72_loop v307 v309 k1_t60 k1_t68).OK) ∧
  (∀ (k1_t60 : Fin (k1_t60_loop v307 v309).trips) (k1_t68 : Fin (k1_t68_loop v307 v309 k1_t60).trips) (k1_t72 : Fin (k1_t72_loop v307 v309 k1_t60 k1_t68).trips), ∀ a, (k1_off467 v307 v309 k1_t60 k1_t68 k1_t72) a + S1x1x16.size a ≤ S4x8x128.size a) ∧
  (∀ (k1_t60 : Fin (k1_t60_loop v307 v309).trips) (k1_t68 : Fin (k1_t68_loop v307 v309 k1_t60).trips) (k1_t72 : Fin (k1_t72_loop v307 v309 k1_t60 k1_t68).trips), ∀ a, (k1_off468 v307 v309 k1_t60 k1_t68 k1_t72) a + S1x1x16.size a ≤ S4x8x128.size a) ∧
  (∀ (k1_t60 : Fin (k1_t60_loop v307 v309).trips) (k1_t68 : Fin (k1_t68_loop v307 v309 k1_t60).trips) (k1_t72 : Fin (k1_t72_loop v307 v309 k1_t60 k1_t68).trips), ∀ a, (k1_off469 v307 v309 k1_t60 k1_t68 k1_t72) a + S1x1x16.size a ≤ S4x8x128.size a) ∧
  (∀ (k1_t60 : Fin (k1_t60_loop v307 v309).trips) (k1_t68 : Fin (k1_t68_loop v307 v309 k1_t60).trips) (k1_t72 : Fin (k1_t72_loop v307 v309 k1_t60 k1_t68).trips), ∀ a, (k1_off470 v307 v309 k1_t60 k1_t68 k1_t72) a + S1x1x16.size a ≤ S4x8x128.size a) ∧
  (∀ (k1_t60 : Fin (k1_t60_loop v307 v309).trips) (k1_t68 : Fin (k1_t68_loop v307 v309 k1_t60).trips) (k1_t72 : Fin (k1_t72_loop v307 v309 k1_t60 k1_t68).trips), ∀ a, (k1_off471 v307 v309 k1_t60 k1_t68 k1_t72) a + S1x1x16.size a ≤ S4x8x128.size a) ∧
  (∀ (k1_t60 : Fin (k1_t60_loop v307 v309).trips) (k1_t68 : Fin (k1_t68_loop v307 v309 k1_t60).trips) (k1_t72 : Fin (k1_t72_loop v307 v309 k1_t60 k1_t68).trips), ∀ a, (k1_off472 v307 v309 k1_t60 k1_t68 k1_t72) a + S1x1x16.size a ≤ S4x8x128.size a) ∧
  (∀ (k1_t60 : Fin (k1_t60_loop v307 v309).trips) (k1_t68 : Fin (k1_t68_loop v307 v309 k1_t60).trips) (k1_t72 : Fin (k1_t72_loop v307 v309 k1_t60 k1_t68).trips), ∀ a, (k1_off473 v307 v309 k1_t60 k1_t68 k1_t72) a + S1x1x16.size a ≤ S4x8x128.size a) ∧
  (∀ (k1_t60 : Fin (k1_t60_loop v307 v309).trips) (k1_t68 : Fin (k1_t68_loop v307 v309 k1_t60).trips) (k1_t72 : Fin (k1_t72_loop v307 v309 k1_t60 k1_t68).trips), ∀ a, (k1_off474 v307 v309 k1_t60 k1_t68 k1_t72) a + S1x1x16.size a ≤ S4x8x128.size a) ∧
  (∀ (k1_t60 : Fin (k1_t60_loop v307 v309).trips) (k1_t68 : Fin (k1_t68_loop v307 v309 k1_t60).trips), (k1_t73_loop v307 v309 k1_t60 k1_t68).OK) ∧
  (∀ (k1_t60 : Fin (k1_t60_loop v307 v309).trips) (k1_t68 : Fin (k1_t68_loop v307 v309 k1_t60).trips) (k1_t73 : Fin (k1_t73_loop v307 v309 k1_t60 k1_t68).trips), ∀ a, (k1_off475 v307 v309 k1_t60 k1_t68 k1_t73) a + S1x1x16.size a ≤ S4x8x128.size a) ∧
  (∀ (k1_t60 : Fin (k1_t60_loop v307 v309).trips) (k1_t68 : Fin (k1_t68_loop v307 v309 k1_t60).trips) (k1_t73 : Fin (k1_t73_loop v307 v309 k1_t60 k1_t68).trips), ∀ a, (k1_off476 v307 v309 k1_t60 k1_t68 k1_t73) a + S1x1x16.size a ≤ S4x8x128.size a) ∧
  (∀ (k1_t60 : Fin (k1_t60_loop v307 v309).trips) (k1_t68 : Fin (k1_t68_loop v307 v309 k1_t60).trips) (k1_t73 : Fin (k1_t73_loop v307 v309 k1_t60 k1_t68).trips), ∀ a, (k1_off477 v307 v309 k1_t60 k1_t68 k1_t73) a + S1x1x16.size a ≤ S4x8x128.size a) ∧
  (∀ (k1_t60 : Fin (k1_t60_loop v307 v309).trips) (k1_t68 : Fin (k1_t68_loop v307 v309 k1_t60).trips) (k1_t73 : Fin (k1_t73_loop v307 v309 k1_t60 k1_t68).trips), ∀ a, (k1_off478 v307 v309 k1_t60 k1_t68 k1_t73) a + S1x1x16.size a ≤ S4x8x128.size a) ∧
  (∀ (k1_t60 : Fin (k1_t60_loop v307 v309).trips) (k1_t68 : Fin (k1_t68_loop v307 v309 k1_t60).trips) (k1_t73 : Fin (k1_t73_loop v307 v309 k1_t60 k1_t68).trips), ∀ a, (k1_off479 v307 v309 k1_t60 k1_t68 k1_t73) a + S1x1x16.size a ≤ S4x8x128.size a) ∧
  (∀ (k1_t60 : Fin (k1_t60_loop v307 v309).trips) (k1_t68 : Fin (k1_t68_loop v307 v309 k1_t60).trips) (k1_t73 : Fin (k1_t73_loop v307 v309 k1_t60 k1_t68).trips), ∀ a, (k1_off480 v307 v309 k1_t60 k1_t68 k1_t73) a + S1x1x16.size a ≤ S4x8x128.size a) ∧
  (∀ (k1_t60 : Fin (k1_t60_loop v307 v309).trips) (k1_t68 : Fin (k1_t68_loop v307 v309 k1_t60).trips) (k1_t73 : Fin (k1_t73_loop v307 v309 k1_t60 k1_t68).trips), ∀ a, (k1_off481 v307 v309 k1_t60 k1_t68 k1_t73) a + S1x1x16.size a ≤ S4x8x128.size a) ∧
  (∀ (k1_t60 : Fin (k1_t60_loop v307 v309).trips) (k1_t68 : Fin (k1_t68_loop v307 v309 k1_t60).trips) (k1_t73 : Fin (k1_t73_loop v307 v309 k1_t60 k1_t68).trips), ∀ a, (k1_off482 v307 v309 k1_t60 k1_t68 k1_t73) a + S1x1x16.size a ≤ S4x8x128.size a) ∧
  (∀ (k1_t60 : Fin (k1_t60_loop v307 v309).trips) (k1_t68 : Fin (k1_t68_loop v307 v309 k1_t60).trips), (k1_t74_loop v307 v309 k1_t60 k1_t68).OK) ∧
  (∀ (k1_t60 : Fin (k1_t60_loop v307 v309).trips) (k1_t68 : Fin (k1_t68_loop v307 v309 k1_t60).trips) (k1_t74 : Fin (k1_t74_loop v307 v309 k1_t60 k1_t68).trips), ∀ a, (k1_off483 v307 v309 k1_t60 k1_t68 k1_t74) a + S1x1x16.size a ≤ S4x8x128.size a) ∧
  (∀ (k1_t60 : Fin (k1_t60_loop v307 v309).trips) (k1_t68 : Fin (k1_t68_loop v307 v309 k1_t60).trips) (k1_t74 : Fin (k1_t74_loop v307 v309 k1_t60 k1_t68).trips), ∀ a, (k1_off484 v307 v309 k1_t60 k1_t68 k1_t74) a + S1x1x16.size a ≤ S4x8x128.size a) ∧
  (∀ (k1_t60 : Fin (k1_t60_loop v307 v309).trips) (k1_t68 : Fin (k1_t68_loop v307 v309 k1_t60).trips) (k1_t74 : Fin (k1_t74_loop v307 v309 k1_t60 k1_t68).trips), ∀ a, (k1_off485 v307 v309 k1_t60 k1_t68 k1_t74) a + S1x1x16.size a ≤ S4x8x128.size a) ∧
  (∀ (k1_t60 : Fin (k1_t60_loop v307 v309).trips) (k1_t68 : Fin (k1_t68_loop v307 v309 k1_t60).trips) (k1_t74 : Fin (k1_t74_loop v307 v309 k1_t60 k1_t68).trips), ∀ a, (k1_off486 v307 v309 k1_t60 k1_t68 k1_t74) a + S1x1x16.size a ≤ S4x8x128.size a) ∧
  (∀ (k1_t60 : Fin (k1_t60_loop v307 v309).trips) (k1_t68 : Fin (k1_t68_loop v307 v309 k1_t60).trips) (k1_t74 : Fin (k1_t74_loop v307 v309 k1_t60 k1_t68).trips), ∀ a, (k1_off487 v307 v309 k1_t60 k1_t68 k1_t74) a + S1x1x16.size a ≤ S4x8x128.size a) ∧
  (∀ (k1_t60 : Fin (k1_t60_loop v307 v309).trips) (k1_t68 : Fin (k1_t68_loop v307 v309 k1_t60).trips) (k1_t74 : Fin (k1_t74_loop v307 v309 k1_t60 k1_t68).trips), ∀ a, (k1_off488 v307 v309 k1_t60 k1_t68 k1_t74) a + S1x1x16.size a ≤ S4x8x128.size a) ∧
  (∀ (k1_t60 : Fin (k1_t60_loop v307 v309).trips) (k1_t68 : Fin (k1_t68_loop v307 v309 k1_t60).trips) (k1_t74 : Fin (k1_t74_loop v307 v309 k1_t60 k1_t68).trips), ∀ a, (k1_off489 v307 v309 k1_t60 k1_t68 k1_t74) a + S1x1x16.size a ≤ S4x8x128.size a) ∧
  (∀ (k1_t60 : Fin (k1_t60_loop v307 v309).trips) (k1_t68 : Fin (k1_t68_loop v307 v309 k1_t60).trips) (k1_t74 : Fin (k1_t74_loop v307 v309 k1_t60 k1_t68).trips), ∀ a, (k1_off490 v307 v309 k1_t60 k1_t68 k1_t74) a + S1x1x16.size a ≤ S4x8x128.size a) ∧
  ((k1_t75_loop v307 v309).OK)
def k1_chk3_7 (k1_t1 : Fin k1_t1_loop.trips) (v307 : BitVec 32) (v309 : BitVec 32) : Prop :=
  (∀ k1_t75 : Fin (k1_t75_loop v307 v309).trips, ∀ a, (k1_off491 v307 v309 k1_t75) a + S4x8x128.size a ≤ S2550x8x128.size a) ∧
  (∀ k1_t75 : Fin (k1_t75_loop v307 v309).trips, (k1_t76_loop v307 v309 k1_t75).OK) ∧
  (∀ (k1_t75 : Fin (k1_t75_loop v307 v309).trips) (k1_t76 : Fin (k1_t76_loop v307 v309 k1_t75).trips), (k1_t77_loop v307 v309 k1_t75 k1_t76).OK) ∧
  (∀ (k1_t75 : Fin (k1_t75_loop v307 v309).trips) (k1_t76 : Fin (k1_t76_loop v307 v309 k1_t75).trips) (k1_t77 : Fin (k1_t77_loop v307 v309 k1_t75 k1_t76).trips), ∀ a, (k1_off492 v307 v309 k1_t75 k1_t76 k1_t77) a + S1x1x16.size a ≤ S4x8x128.size a) ∧
  (∀ (k1_t75 : Fin (k1_t75_loop v307 v309).trips) (k1_t76 : Fin (k1_t76_loop v307 v309 k1_t75).trips) (k1_t77 : Fin (k1_t77_loop v307 v309 k1_t75 k1_t76).trips), ∀ a, (k1_off493 v307 v309 k1_t75 k1_t76 k1_t77) a + S1x1x16.size a ≤ S4x8x128.size a) ∧
  (∀ (k1_t75 : Fin (k1_t75_loop v307 v309).trips) (k1_t76 : Fin (k1_t76_loop v307 v309 k1_t75).trips) (k1_t77 : Fin (k1_t77_loop v307 v309 k1_t75 k1_t76).trips), ∀ a, (k1_off494 v307 v309 k1_t75 k1_t76 k1_t77) a + S1x1x16.size a ≤ S4x8x128.size a) ∧
  (∀ (k1_t75 : Fin (k1_t75_loop v307 v309).trips) (k1_t76 : Fin (k1_t76_loop v307 v309 k1_t75).trips) (k1_t77 : Fin (k1_t77_loop v307 v309 k1_t75 k1_t76).trips), ∀ a, (k1_off495 v307 v309 k1_t75 k1_t76 k1_t77) a + S1x1x16.size a ≤ S4x8x128.size a) ∧
  (∀ (k1_t75 : Fin (k1_t75_loop v307 v309).trips) (k1_t76 : Fin (k1_t76_loop v307 v309 k1_t75).trips) (k1_t77 : Fin (k1_t77_loop v307 v309 k1_t75 k1_t76).trips), ∀ a, (k1_off496 v307 v309 k1_t75 k1_t76 k1_t77) a + S1x1x16.size a ≤ S4x8x128.size a) ∧
  (∀ (k1_t75 : Fin (k1_t75_loop v307 v309).trips) (k1_t76 : Fin (k1_t76_loop v307 v309 k1_t75).trips) (k1_t77 : Fin (k1_t77_loop v307 v309 k1_t75 k1_t76).trips), ∀ a, (k1_off497 v307 v309 k1_t75 k1_t76 k1_t77) a + S1x1x16.size a ≤ S4x8x128.size a) ∧
  (∀ (k1_t75 : Fin (k1_t75_loop v307 v309).trips) (k1_t76 : Fin (k1_t76_loop v307 v309 k1_t75).trips) (k1_t77 : Fin (k1_t77_loop v307 v309 k1_t75 k1_t76).trips), ∀ a, (k1_off498 v307 v309 k1_t75 k1_t76 k1_t77) a + S1x1x16.size a ≤ S4x8x128.size a) ∧
  (∀ (k1_t75 : Fin (k1_t75_loop v307 v309).trips) (k1_t76 : Fin (k1_t76_loop v307 v309 k1_t75).trips) (k1_t77 : Fin (k1_t77_loop v307 v309 k1_t75 k1_t76).trips), ∀ a, (k1_off499 v307 v309 k1_t75 k1_t76 k1_t77) a + S1x1x16.size a ≤ S4x8x128.size a) ∧
  (∀ (k1_t75 : Fin (k1_t75_loop v307 v309).trips) (k1_t76 : Fin (k1_t76_loop v307 v309 k1_t75).trips), (k1_t78_loop v307 v309 k1_t75 k1_t76).OK) ∧
  (∀ (k1_t75 : Fin (k1_t75_loop v307 v309).trips) (k1_t76 : Fin (k1_t76_loop v307 v309 k1_t75).trips) (k1_t78 : Fin (k1_t78_loop v307 v309 k1_t75 k1_t76).trips), ∀ a, (k1_off500 v307 v309 k1_t75 k1_t76 k1_t78) a + S1x1x16.size a ≤ S4x8x128.size a) ∧
  (∀ (k1_t75 : Fin (k1_t75_loop v307 v309).trips) (k1_t76 : Fin (k1_t76_loop v307 v309 k1_t75).trips) (k1_t78 : Fin (k1_t78_loop v307 v309 k1_t75 k1_t76).trips), ∀ a, (k1_off501 v307 v309 k1_t75 k1_t76 k1_t78) a + S1x1x16.size a ≤ S4x8x128.size a) ∧
  (∀ (k1_t75 : Fin (k1_t75_loop v307 v309).trips) (k1_t76 : Fin (k1_t76_loop v307 v309 k1_t75).trips) (k1_t78 : Fin (k1_t78_loop v307 v309 k1_t75 k1_t76).trips), ∀ a, (k1_off502 v307 v309 k1_t75 k1_t76 k1_t78) a + S1x1x16.size a ≤ S4x8x128.size a) ∧
  (∀ (k1_t75 : Fin (k1_t75_loop v307 v309).trips) (k1_t76 : Fin (k1_t76_loop v307 v309 k1_t75).trips) (k1_t78 : Fin (k1_t78_loop v307 v309 k1_t75 k1_t76).trips), ∀ a, (k1_off503 v307 v309 k1_t75 k1_t76 k1_t78) a + S1x1x16.size a ≤ S4x8x128.size a) ∧
  (∀ (k1_t75 : Fin (k1_t75_loop v307 v309).trips) (k1_t76 : Fin (k1_t76_loop v307 v309 k1_t75).trips) (k1_t78 : Fin (k1_t78_loop v307 v309 k1_t75 k1_t76).trips), ∀ a, (k1_off504 v307 v309 k1_t75 k1_t76 k1_t78) a + S1x1x16.size a ≤ S4x8x128.size a) ∧
  (∀ (k1_t75 : Fin (k1_t75_loop v307 v309).trips) (k1_t76 : Fin (k1_t76_loop v307 v309 k1_t75).trips) (k1_t78 : Fin (k1_t78_loop v307 v309 k1_t75 k1_t76).trips), ∀ a, (k1_off505 v307 v309 k1_t75 k1_t76 k1_t78) a + S1x1x16.size a ≤ S4x8x128.size a) ∧
  (∀ (k1_t75 : Fin (k1_t75_loop v307 v309).trips) (k1_t76 : Fin (k1_t76_loop v307 v309 k1_t75).trips) (k1_t78 : Fin (k1_t78_loop v307 v309 k1_t75 k1_t76).trips), ∀ a, (k1_off506 v307 v309 k1_t75 k1_t76 k1_t78) a + S1x1x16.size a ≤ S4x8x128.size a) ∧
  (∀ (k1_t75 : Fin (k1_t75_loop v307 v309).trips) (k1_t76 : Fin (k1_t76_loop v307 v309 k1_t75).trips) (k1_t78 : Fin (k1_t78_loop v307 v309 k1_t75 k1_t76).trips), ∀ a, (k1_off507 v307 v309 k1_t75 k1_t76 k1_t78) a + S1x1x16.size a ≤ S4x8x128.size a) ∧
  (∀ (k1_t75 : Fin (k1_t75_loop v307 v309).trips) (k1_t76 : Fin (k1_t76_loop v307 v309 k1_t75).trips), (k1_t79_loop v307 v309 k1_t75 k1_t76).OK) ∧
  (∀ (k1_t75 : Fin (k1_t75_loop v307 v309).trips) (k1_t76 : Fin (k1_t76_loop v307 v309 k1_t75).trips) (k1_t79 : Fin (k1_t79_loop v307 v309 k1_t75 k1_t76).trips), ∀ a, (k1_off508 v307 v309 k1_t75 k1_t76 k1_t79) a + S1x1x16.size a ≤ S4x8x128.size a) ∧
  (∀ (k1_t75 : Fin (k1_t75_loop v307 v309).trips) (k1_t76 : Fin (k1_t76_loop v307 v309 k1_t75).trips) (k1_t79 : Fin (k1_t79_loop v307 v309 k1_t75 k1_t76).trips), ∀ a, (k1_off509 v307 v309 k1_t75 k1_t76 k1_t79) a + S1x1x16.size a ≤ S4x8x128.size a) ∧
  (∀ (k1_t75 : Fin (k1_t75_loop v307 v309).trips) (k1_t76 : Fin (k1_t76_loop v307 v309 k1_t75).trips) (k1_t79 : Fin (k1_t79_loop v307 v309 k1_t75 k1_t76).trips), ∀ a, (k1_off510 v307 v309 k1_t75 k1_t76 k1_t79) a + S1x1x16.size a ≤ S4x8x128.size a) ∧
  (∀ (k1_t75 : Fin (k1_t75_loop v307 v309).trips) (k1_t76 : Fin (k1_t76_loop v307 v309 k1_t75).trips) (k1_t79 : Fin (k1_t79_loop v307 v309 k1_t75 k1_t76).trips), ∀ a, (k1_off511 v307 v309 k1_t75 k1_t76 k1_t79) a + S1x1x16.size a ≤ S4x8x128.size a) ∧
  (∀ (k1_t75 : Fin (k1_t75_loop v307 v309).trips) (k1_t76 : Fin (k1_t76_loop v307 v309 k1_t75).trips) (k1_t79 : Fin (k1_t79_loop v307 v309 k1_t75 k1_t76).trips), ∀ a, (k1_off512 v307 v309 k1_t75 k1_t76 k1_t79) a + S1x1x16.size a ≤ S4x8x128.size a) ∧
  (∀ (k1_t75 : Fin (k1_t75_loop v307 v309).trips) (k1_t76 : Fin (k1_t76_loop v307 v309 k1_t75).trips) (k1_t79 : Fin (k1_t79_loop v307 v309 k1_t75 k1_t76).trips), ∀ a, (k1_off513 v307 v309 k1_t75 k1_t76 k1_t79) a + S1x1x16.size a ≤ S4x8x128.size a) ∧
  (∀ (k1_t75 : Fin (k1_t75_loop v307 v309).trips) (k1_t76 : Fin (k1_t76_loop v307 v309 k1_t75).trips) (k1_t79 : Fin (k1_t79_loop v307 v309 k1_t75 k1_t76).trips), ∀ a, (k1_off514 v307 v309 k1_t75 k1_t76 k1_t79) a + S1x1x16.size a ≤ S4x8x128.size a) ∧
  (∀ (k1_t75 : Fin (k1_t75_loop v307 v309).trips) (k1_t76 : Fin (k1_t76_loop v307 v309 k1_t75).trips) (k1_t79 : Fin (k1_t79_loop v307 v309 k1_t75 k1_t76).trips), ∀ a, (k1_off515 v307 v309 k1_t75 k1_t76 k1_t79) a + S1x1x16.size a ≤ S4x8x128.size a) ∧
  (∀ (k1_t75 : Fin (k1_t75_loop v307 v309).trips) (k1_t76 : Fin (k1_t76_loop v307 v309 k1_t75).trips), (k1_t80_loop v307 v309 k1_t75 k1_t76).OK) ∧
  (∀ (k1_t75 : Fin (k1_t75_loop v307 v309).trips) (k1_t76 : Fin (k1_t76_loop v307 v309 k1_t75).trips) (k1_t80 : Fin (k1_t80_loop v307 v309 k1_t75 k1_t76).trips), ∀ a, (k1_off516 v307 v309 k1_t75 k1_t76 k1_t80) a + S1x1x16.size a ≤ S4x8x128.size a) ∧
  (∀ (k1_t75 : Fin (k1_t75_loop v307 v309).trips) (k1_t76 : Fin (k1_t76_loop v307 v309 k1_t75).trips) (k1_t80 : Fin (k1_t80_loop v307 v309 k1_t75 k1_t76).trips), ∀ a, (k1_off517 v307 v309 k1_t75 k1_t76 k1_t80) a + S1x1x16.size a ≤ S4x8x128.size a)
def k1_chk3_8 (k1_t1 : Fin k1_t1_loop.trips) (v307 : BitVec 32) (v309 : BitVec 32) : Prop :=
  (∀ (k1_t75 : Fin (k1_t75_loop v307 v309).trips) (k1_t76 : Fin (k1_t76_loop v307 v309 k1_t75).trips) (k1_t80 : Fin (k1_t80_loop v307 v309 k1_t75 k1_t76).trips), ∀ a, (k1_off518 v307 v309 k1_t75 k1_t76 k1_t80) a + S1x1x16.size a ≤ S4x8x128.size a) ∧
  (∀ (k1_t75 : Fin (k1_t75_loop v307 v309).trips) (k1_t76 : Fin (k1_t76_loop v307 v309 k1_t75).trips) (k1_t80 : Fin (k1_t80_loop v307 v309 k1_t75 k1_t76).trips), ∀ a, (k1_off519 v307 v309 k1_t75 k1_t76 k1_t80) a + S1x1x16.size a ≤ S4x8x128.size a) ∧
  (∀ (k1_t75 : Fin (k1_t75_loop v307 v309).trips) (k1_t76 : Fin (k1_t76_loop v307 v309 k1_t75).trips) (k1_t80 : Fin (k1_t80_loop v307 v309 k1_t75 k1_t76).trips), ∀ a, (k1_off520 v307 v309 k1_t75 k1_t76 k1_t80) a + S1x1x16.size a ≤ S4x8x128.size a) ∧
  (∀ (k1_t75 : Fin (k1_t75_loop v307 v309).trips) (k1_t76 : Fin (k1_t76_loop v307 v309 k1_t75).trips) (k1_t80 : Fin (k1_t80_loop v307 v309 k1_t75 k1_t76).trips), ∀ a, (k1_off521 v307 v309 k1_t75 k1_t76 k1_t80) a + S1x1x16.size a ≤ S4x8x128.size a) ∧
  (∀ (k1_t75 : Fin (k1_t75_loop v307 v309).trips) (k1_t76 : Fin (k1_t76_loop v307 v309 k1_t75).trips) (k1_t80 : Fin (k1_t80_loop v307 v309 k1_t75 k1_t76).trips), ∀ a, (k1_off522 v307 v309 k1_t75 k1_t76 k1_t80) a + S1x1x16.size a ≤ S4x8x128.size a) ∧
  (∀ (k1_t75 : Fin (k1_t75_loop v307 v309).trips) (k1_t76 : Fin (k1_t76_loop v307 v309 k1_t75).trips) (k1_t80 : Fin (k1_t80_loop v307 v309 k1_t75 k1_t76).trips), ∀ a, (k1_off523 v307 v309 k1_t75 k1_t76 k1_t80) a + S1x1x16.size a ≤ S4x8x128.size a) ∧
  (∀ (k1_t75 : Fin (k1_t75_loop v307 v309).trips) (k1_t76 : Fin (k1_t76_loop v307 v309 k1_t75).trips), (k1_t81_loop v307 v309 k1_t75 k1_t76).OK) ∧
  (∀ (k1_t75 : Fin (k1_t75_loop v307 v309).trips) (k1_t76 : Fin (k1_t76_loop v307 v309 k1_t75).trips) (k1_t81 : Fin (k1_t81_loop v307 v309 k1_t75 k1_t76).trips), ∀ a, (k1_off524 v307 v309 k1_t75 k1_t76 k1_t81) a + S1x1x16.size a ≤ S4x8x128.size a) ∧
  (∀ (k1_t75 : Fin (k1_t75_loop v307 v309).trips) (k1_t76 : Fin (k1_t76_loop v307 v309 k1_t75).trips) (k1_t81 : Fin (k1_t81_loop v307 v309 k1_t75 k1_t76).trips), ∀ a, (k1_off525 v307 v309 k1_t75 k1_t76 k1_t81) a + S1x1x16.size a ≤ S4x8x128.size a) ∧
  (∀ (k1_t75 : Fin (k1_t75_loop v307 v309).trips) (k1_t76 : Fin (k1_t76_loop v307 v309 k1_t75).trips) (k1_t81 : Fin (k1_t81_loop v307 v309 k1_t75 k1_t76).trips), ∀ a, (k1_off526 v307 v309 k1_t75 k1_t76 k1_t81) a + S1x1x16.size a ≤ S4x8x128.size a) ∧
  (∀ (k1_t75 : Fin (k1_t75_loop v307 v309).trips) (k1_t76 : Fin (k1_t76_loop v307 v309 k1_t75).trips) (k1_t81 : Fin (k1_t81_loop v307 v309 k1_t75 k1_t76).trips), ∀ a, (k1_off527 v307 v309 k1_t75 k1_t76 k1_t81) a + S1x1x16.size a ≤ S4x8x128.size a) ∧
  (∀ (k1_t75 : Fin (k1_t75_loop v307 v309).trips) (k1_t76 : Fin (k1_t76_loop v307 v309 k1_t75).trips) (k1_t81 : Fin (k1_t81_loop v307 v309 k1_t75 k1_t76).trips), ∀ a, (k1_off528 v307 v309 k1_t75 k1_t76 k1_t81) a + S1x1x16.size a ≤ S4x8x128.size a) ∧
  (∀ (k1_t75 : Fin (k1_t75_loop v307 v309).trips) (k1_t76 : Fin (k1_t76_loop v307 v309 k1_t75).trips) (k1_t81 : Fin (k1_t81_loop v307 v309 k1_t75 k1_t76).trips), ∀ a, (k1_off529 v307 v309 k1_t75 k1_t76 k1_t81) a + S1x1x16.size a ≤ S4x8x128.size a) ∧
  (∀ (k1_t75 : Fin (k1_t75_loop v307 v309).trips) (k1_t76 : Fin (k1_t76_loop v307 v309 k1_t75).trips) (k1_t81 : Fin (k1_t81_loop v307 v309 k1_t75 k1_t76).trips), ∀ a, (k1_off530 v307 v309 k1_t75 k1_t76 k1_t81) a + S1x1x16.size a ≤ S4x8x128.size a) ∧
  (∀ (k1_t75 : Fin (k1_t75_loop v307 v309).trips) (k1_t76 : Fin (k1_t76_loop v307 v309 k1_t75).trips) (k1_t81 : Fin (k1_t81_loop v307 v309 k1_t75 k1_t76).trips), ∀ a, (k1_off531 v307 v309 k1_t75 k1_t76 k1_t81) a + S1x1x16.size a ≤ S4x8x128.size a) ∧
  (∀ (k1_t75 : Fin (k1_t75_loop v307 v309).trips) (k1_t76 : Fin (k1_t76_loop v307 v309 k1_t75).trips), (k1_t82_loop v307 v309 k1_t75 k1_t76).OK) ∧
  (∀ (k1_t75 : Fin (k1_t75_loop v307 v309).trips) (k1_t76 : Fin (k1_t76_loop v307 v309 k1_t75).trips) (k1_t82 : Fin (k1_t82_loop v307 v309 k1_t75 k1_t76).trips), ∀ a, (k1_off532 v307 v309 k1_t75 k1_t76 k1_t82) a + S1x1x16.size a ≤ S4x8x128.size a) ∧
  (∀ (k1_t75 : Fin (k1_t75_loop v307 v309).trips) (k1_t76 : Fin (k1_t76_loop v307 v309 k1_t75).trips) (k1_t82 : Fin (k1_t82_loop v307 v309 k1_t75 k1_t76).trips), ∀ a, (k1_off533 v307 v309 k1_t75 k1_t76 k1_t82) a + S1x1x16.size a ≤ S4x8x128.size a) ∧
  (∀ (k1_t75 : Fin (k1_t75_loop v307 v309).trips) (k1_t76 : Fin (k1_t76_loop v307 v309 k1_t75).trips) (k1_t82 : Fin (k1_t82_loop v307 v309 k1_t75 k1_t76).trips), ∀ a, (k1_off534 v307 v309 k1_t75 k1_t76 k1_t82) a + S1x1x16.size a ≤ S4x8x128.size a) ∧
  (∀ (k1_t75 : Fin (k1_t75_loop v307 v309).trips) (k1_t76 : Fin (k1_t76_loop v307 v309 k1_t75).trips) (k1_t82 : Fin (k1_t82_loop v307 v309 k1_t75 k1_t76).trips), ∀ a, (k1_off535 v307 v309 k1_t75 k1_t76 k1_t82) a + S1x1x16.size a ≤ S4x8x128.size a) ∧
  (∀ (k1_t75 : Fin (k1_t75_loop v307 v309).trips) (k1_t76 : Fin (k1_t76_loop v307 v309 k1_t75).trips) (k1_t82 : Fin (k1_t82_loop v307 v309 k1_t75 k1_t76).trips), ∀ a, (k1_off536 v307 v309 k1_t75 k1_t76 k1_t82) a + S1x1x16.size a ≤ S4x8x128.size a) ∧
  (∀ (k1_t75 : Fin (k1_t75_loop v307 v309).trips) (k1_t76 : Fin (k1_t76_loop v307 v309 k1_t75).trips) (k1_t82 : Fin (k1_t82_loop v307 v309 k1_t75 k1_t76).trips), ∀ a, (k1_off537 v307 v309 k1_t75 k1_t76 k1_t82) a + S1x1x16.size a ≤ S4x8x128.size a) ∧
  (∀ (k1_t75 : Fin (k1_t75_loop v307 v309).trips) (k1_t76 : Fin (k1_t76_loop v307 v309 k1_t75).trips) (k1_t82 : Fin (k1_t82_loop v307 v309 k1_t75 k1_t76).trips), ∀ a, (k1_off538 v307 v309 k1_t75 k1_t76 k1_t82) a + S1x1x16.size a ≤ S4x8x128.size a) ∧
  (∀ (k1_t75 : Fin (k1_t75_loop v307 v309).trips) (k1_t76 : Fin (k1_t76_loop v307 v309 k1_t75).trips) (k1_t82 : Fin (k1_t82_loop v307 v309 k1_t75 k1_t76).trips), ∀ a, (k1_off539 v307 v309 k1_t75 k1_t76 k1_t82) a + S1x1x16.size a ≤ S4x8x128.size a) ∧
  (∀ k1_t75 : Fin (k1_t75_loop v307 v309).trips, (k1_t83_loop v307 v309 k1_t75).OK) ∧
  (∀ (k1_t75 : Fin (k1_t75_loop v307 v309).trips) (k1_t83 : Fin (k1_t83_loop v307 v309 k1_t75).trips), (k1_t84_loop v307 v309 k1_t75 k1_t83).OK) ∧
  (∀ (k1_t75 : Fin (k1_t75_loop v307 v309).trips) (k1_t83 : Fin (k1_t83_loop v307 v309 k1_t75).trips) (k1_t84 : Fin (k1_t84_loop v307 v309 k1_t75 k1_t83).trips), ∀ a, (k1_off540 v307 v309 k1_t75 k1_t83 k1_t84) a + S1x1x16.size a ≤ S4x8x128.size a) ∧
  (∀ (k1_t75 : Fin (k1_t75_loop v307 v309).trips) (k1_t83 : Fin (k1_t83_loop v307 v309 k1_t75).trips) (k1_t84 : Fin (k1_t84_loop v307 v309 k1_t75 k1_t83).trips), ∀ a, (k1_off541 v307 v309 k1_t75 k1_t83 k1_t84) a + S1x1x16.size a ≤ S4x8x128.size a) ∧
  (∀ (k1_t75 : Fin (k1_t75_loop v307 v309).trips) (k1_t83 : Fin (k1_t83_loop v307 v309 k1_t75).trips) (k1_t84 : Fin (k1_t84_loop v307 v309 k1_t75 k1_t83).trips), ∀ a, (k1_off542 v307 v309 k1_t75 k1_t83 k1_t84) a + S1x1x16.size a ≤ S4x8x128.size a) ∧
  (∀ (k1_t75 : Fin (k1_t75_loop v307 v309).trips) (k1_t83 : Fin (k1_t83_loop v307 v309 k1_t75).trips) (k1_t84 : Fin (k1_t84_loop v307 v309 k1_t75 k1_t83).trips), ∀ a, (k1_off543 v307 v309 k1_t75 k1_t83 k1_t84) a + S1x1x16.size a ≤ S4x8x128.size a) ∧
  (∀ (k1_t75 : Fin (k1_t75_loop v307 v309).trips) (k1_t83 : Fin (k1_t83_loop v307 v309 k1_t75).trips) (k1_t84 : Fin (k1_t84_loop v307 v309 k1_t75 k1_t83).trips), ∀ a, (k1_off544 v307 v309 k1_t75 k1_t83 k1_t84) a + S1x1x16.size a ≤ S4x8x128.size a) ∧
  (∀ (k1_t75 : Fin (k1_t75_loop v307 v309).trips) (k1_t83 : Fin (k1_t83_loop v307 v309 k1_t75).trips) (k1_t84 : Fin (k1_t84_loop v307 v309 k1_t75 k1_t83).trips), ∀ a, (k1_off545 v307 v309 k1_t75 k1_t83 k1_t84) a + S1x1x16.size a ≤ S4x8x128.size a)
def k1_chk3_9 (k1_t1 : Fin k1_t1_loop.trips) (v307 : BitVec 32) (v309 : BitVec 32) : Prop :=
  (∀ (k1_t75 : Fin (k1_t75_loop v307 v309).trips) (k1_t83 : Fin (k1_t83_loop v307 v309 k1_t75).trips) (k1_t84 : Fin (k1_t84_loop v307 v309 k1_t75 k1_t83).trips), ∀ a, (k1_off546 v307 v309 k1_t75 k1_t83 k1_t84) a + S1x1x16.size a ≤ S4x8x128.size a) ∧
  (∀ (k1_t75 : Fin (k1_t75_loop v307 v309).trips) (k1_t83 : Fin (k1_t83_loop v307 v309 k1_t75).trips) (k1_t84 : Fin (k1_t84_loop v307 v309 k1_t75 k1_t83).trips), ∀ a, (k1_off547 v307 v309 k1_t75 k1_t83 k1_t84) a + S1x1x16.size a ≤ S4x8x128.size a) ∧
  (∀ (k1_t75 : Fin (k1_t75_loop v307 v309).trips) (k1_t83 : Fin (k1_t83_loop v307 v309 k1_t75).trips), (k1_t85_loop v307 v309 k1_t75 k1_t83).OK) ∧
  (∀ (k1_t75 : Fin (k1_t75_loop v307 v309).trips) (k1_t83 : Fin (k1_t83_loop v307 v309 k1_t75).trips) (k1_t85 : Fin (k1_t85_loop v307 v309 k1_t75 k1_t83).trips), ∀ a, (k1_off548 v307 v309 k1_t75 k1_t83 k1_t85) a + S1x1x16.size a ≤ S4x8x128.size a) ∧
  (∀ (k1_t75 : Fin (k1_t75_loop v307 v309).trips) (k1_t83 : Fin (k1_t83_loop v307 v309 k1_t75).trips) (k1_t85 : Fin (k1_t85_loop v307 v309 k1_t75 k1_t83).trips), ∀ a, (k1_off549 v307 v309 k1_t75 k1_t83 k1_t85) a + S1x1x16.size a ≤ S4x8x128.size a) ∧
  (∀ (k1_t75 : Fin (k1_t75_loop v307 v309).trips) (k1_t83 : Fin (k1_t83_loop v307 v309 k1_t75).trips) (k1_t85 : Fin (k1_t85_loop v307 v309 k1_t75 k1_t83).trips), ∀ a, (k1_off550 v307 v309 k1_t75 k1_t83 k1_t85) a + S1x1x16.size a ≤ S4x8x128.size a) ∧
  (∀ (k1_t75 : Fin (k1_t75_loop v307 v309).trips) (k1_t83 : Fin (k1_t83_loop v307 v309 k1_t75).trips) (k1_t85 : Fin (k1_t85_loop v307 v309 k1_t75 k1_t83).trips), ∀ a, (k1_off551 v307 v309 k1_t75 k1_t83 k1_t85) a + S1x1x16.size a ≤ S4x8x128.size a) ∧
  (∀ (k1_t75 : Fin (k1_t75_loop v307 v309).trips) (k1_t83 : Fin (k1_t83_loop v307 v309 k1_t75).trips) (k1_t85 : Fin (k1_t85_loop v307 v309 k1_t75 k1_t83).trips), ∀ a, (k1_off552 v307 v309 k1_t75 k1_t83 k1_t85) a + S1x1x16.size a ≤ S4x8x128.size a) ∧
  (∀ (k1_t75 : Fin (k1_t75_loop v307 v309).trips) (k1_t83 : Fin (k1_t83_loop v307 v309 k1_t75).trips) (k1_t85 : Fin (k1_t85_loop v307 v309 k1_t75 k1_t83).trips), ∀ a, (k1_off553 v307 v309 k1_t75 k1_t83 k1_t85) a + S1x1x16.size a ≤ S4x8x128.size a) ∧
  (∀ (k1_t75 : Fin (k1_t75_loop v307 v309).trips) (k1_t83 : Fin (k1_t83_loop v307 v309 k1_t75).trips) (k1_t85 : Fin (k1_t85_loop v307 v309 k1_t75 k1_t83).trips), ∀ a, (k1_off554 v307 v309 k1_t75 k1_t83 k1_t85) a + S1x1x16.size a ≤ S4x8x128.size a) ∧
  (∀ (k1_t75 : Fin (k1_t75_loop v307 v309).trips) (k1_t83 : Fin (k1_t83_loop v307 v309 k1_t75).trips) (k1_t85 : Fin (k1_t85_loop v307 v309 k1_t75 k1_t83).trips), ∀ a, (k1_off555 v307 v309 k1_t75 k1_t83 k1_t85) a + S1x1x16.size a ≤ S4x8x128.size a) ∧
  (∀ (k1_t75 : Fin (k1_t75_loop v307 v309).trips) (k1_t83 : Fin (k1_t83_loop v307 v309 k1_t75).trips), (k1_t86_loop v307 v309 k1_t75 k1_t83).OK) ∧
  (∀ (k1_t75 : Fin (k1_t75_loop v307 v309).trips) (k1_t83 : Fin (k1_t83_loop v307 v309 k1_t75).trips) (k1_t86 : Fin (k1_t86_loop v307 v309 k1_t75 k1_t83).trips), ∀ a, (k1_off556 v307 v309 k1_t75 k1_t83 k1_t86) a + S1x1x16.size a ≤ S4x8x128.size a) ∧
  (∀ (k1_t75 : Fin (k1_t75_loop v307 v309).trips) (k1_t83 : Fin (k1_t83_loop v307 v309 k1_t75).trips) (k1_t86 : Fin (k1_t86_loop v307 v309 k1_t75 k1_t83).trips), ∀ a, (k1_off557 v307 v309 k1_t75 k1_t83 k1_t86) a + S1x1x16.size a ≤ S4x8x128.size a) ∧
  (∀ (k1_t75 : Fin (k1_t75_loop v307 v309).trips) (k1_t83 : Fin (k1_t83_loop v307 v309 k1_t75).trips) (k1_t86 : Fin (k1_t86_loop v307 v309 k1_t75 k1_t83).trips), ∀ a, (k1_off558 v307 v309 k1_t75 k1_t83 k1_t86) a + S1x1x16.size a ≤ S4x8x128.size a) ∧
  (∀ (k1_t75 : Fin (k1_t75_loop v307 v309).trips) (k1_t83 : Fin (k1_t83_loop v307 v309 k1_t75).trips) (k1_t86 : Fin (k1_t86_loop v307 v309 k1_t75 k1_t83).trips), ∀ a, (k1_off559 v307 v309 k1_t75 k1_t83 k1_t86) a + S1x1x16.size a ≤ S4x8x128.size a) ∧
  (∀ (k1_t75 : Fin (k1_t75_loop v307 v309).trips) (k1_t83 : Fin (k1_t83_loop v307 v309 k1_t75).trips) (k1_t86 : Fin (k1_t86_loop v307 v309 k1_t75 k1_t83).trips), ∀ a, (k1_off560 v307 v309 k1_t75 k1_t83 k1_t86) a + S1x1x16.size a ≤ S4x8x128.size a) ∧
  (∀ (k1_t75 : Fin (k1_t75_loop v307 v309).trips) (k1_t83 : Fin (k1_t83_loop v307 v309 k1_t75).trips) (k1_t86 : Fin (k1_t86_loop v307 v309 k1_t75 k1_t83).trips), ∀ a, (k1_off561 v307 v309 k1_t75 k1_t83 k1_t86) a + S1x1x16.size a ≤ S4x8x128.size a) ∧
  (∀ (k1_t75 : Fin (k1_t75_loop v307 v309).trips) (k1_t83 : Fin (k1_t83_loop v307 v309 k1_t75).trips) (k1_t86 : Fin (k1_t86_loop v307 v309 k1_t75 k1_t83).trips), ∀ a, (k1_off562 v307 v309 k1_t75 k1_t83 k1_t86) a + S1x1x16.size a ≤ S4x8x128.size a) ∧
  (∀ (k1_t75 : Fin (k1_t75_loop v307 v309).trips) (k1_t83 : Fin (k1_t83_loop v307 v309 k1_t75).trips) (k1_t86 : Fin (k1_t86_loop v307 v309 k1_t75 k1_t83).trips), ∀ a, (k1_off563 v307 v309 k1_t75 k1_t83 k1_t86) a + S1x1x16.size a ≤ S4x8x128.size a) ∧
  (∀ (k1_t75 : Fin (k1_t75_loop v307 v309).trips) (k1_t83 : Fin (k1_t83_loop v307 v309 k1_t75).trips), (k1_t87_loop v307 v309 k1_t75 k1_t83).OK) ∧
  (∀ (k1_t75 : Fin (k1_t75_loop v307 v309).trips) (k1_t83 : Fin (k1_t83_loop v307 v309 k1_t75).trips) (k1_t87 : Fin (k1_t87_loop v307 v309 k1_t75 k1_t83).trips), ∀ a, (k1_off564 v307 v309 k1_t75 k1_t83 k1_t87) a + S1x1x16.size a ≤ S4x8x128.size a) ∧
  (∀ (k1_t75 : Fin (k1_t75_loop v307 v309).trips) (k1_t83 : Fin (k1_t83_loop v307 v309 k1_t75).trips) (k1_t87 : Fin (k1_t87_loop v307 v309 k1_t75 k1_t83).trips), ∀ a, (k1_off565 v307 v309 k1_t75 k1_t83 k1_t87) a + S1x1x16.size a ≤ S4x8x128.size a) ∧
  (∀ (k1_t75 : Fin (k1_t75_loop v307 v309).trips) (k1_t83 : Fin (k1_t83_loop v307 v309 k1_t75).trips) (k1_t87 : Fin (k1_t87_loop v307 v309 k1_t75 k1_t83).trips), ∀ a, (k1_off566 v307 v309 k1_t75 k1_t83 k1_t87) a + S1x1x16.size a ≤ S4x8x128.size a) ∧
  (∀ (k1_t75 : Fin (k1_t75_loop v307 v309).trips) (k1_t83 : Fin (k1_t83_loop v307 v309 k1_t75).trips) (k1_t87 : Fin (k1_t87_loop v307 v309 k1_t75 k1_t83).trips), ∀ a, (k1_off567 v307 v309 k1_t75 k1_t83 k1_t87) a + S1x1x16.size a ≤ S4x8x128.size a) ∧
  (∀ (k1_t75 : Fin (k1_t75_loop v307 v309).trips) (k1_t83 : Fin (k1_t83_loop v307 v309 k1_t75).trips) (k1_t87 : Fin (k1_t87_loop v307 v309 k1_t75 k1_t83).trips), ∀ a, (k1_off568 v307 v309 k1_t75 k1_t83 k1_t87) a + S1x1x16.size a ≤ S4x8x128.size a) ∧
  (∀ (k1_t75 : Fin (k1_t75_loop v307 v309).trips) (k1_t83 : Fin (k1_t83_loop v307 v309 k1_t75).trips) (k1_t87 : Fin (k1_t87_loop v307 v309 k1_t75 k1_t83).trips), ∀ a, (k1_off569 v307 v309 k1_t75 k1_t83 k1_t87) a + S1x1x16.size a ≤ S4x8x128.size a) ∧
  (∀ (k1_t75 : Fin (k1_t75_loop v307 v309).trips) (k1_t83 : Fin (k1_t83_loop v307 v309 k1_t75).trips) (k1_t87 : Fin (k1_t87_loop v307 v309 k1_t75 k1_t83).trips), ∀ a, (k1_off570 v307 v309 k1_t75 k1_t83 k1_t87) a + S1x1x16.size a ≤ S4x8x128.size a) ∧
  (∀ (k1_t75 : Fin (k1_t75_loop v307 v309).trips) (k1_t83 : Fin (k1_t83_loop v307 v309 k1_t75).trips) (k1_t87 : Fin (k1_t87_loop v307 v309 k1_t75 k1_t83).trips), ∀ a, (k1_off571 v307 v309 k1_t75 k1_t83 k1_t87) a + S1x1x16.size a ≤ S4x8x128.size a) ∧
  (∀ (k1_t75 : Fin (k1_t75_loop v307 v309).trips) (k1_t83 : Fin (k1_t83_loop v307 v309 k1_t75).trips), (k1_t88_loop v307 v309 k1_t75 k1_t83).OK) ∧
  (∀ (k1_t75 : Fin (k1_t75_loop v307 v309).trips) (k1_t83 : Fin (k1_t83_loop v307 v309 k1_t75).trips) (k1_t88 : Fin (k1_t88_loop v307 v309 k1_t75 k1_t83).trips), ∀ a, (k1_off572 v307 v309 k1_t75 k1_t83 k1_t88) a + S1x1x16.size a ≤ S4x8x128.size a) ∧
  (∀ (k1_t75 : Fin (k1_t75_loop v307 v309).trips) (k1_t83 : Fin (k1_t83_loop v307 v309 k1_t75).trips) (k1_t88 : Fin (k1_t88_loop v307 v309 k1_t75 k1_t83).trips), ∀ a, (k1_off573 v307 v309 k1_t75 k1_t83 k1_t88) a + S1x1x16.size a ≤ S4x8x128.size a)
def k1_chk3_10 (k1_t1 : Fin k1_t1_loop.trips) (v307 : BitVec 32) (v309 : BitVec 32) : Prop :=
  (∀ (k1_t75 : Fin (k1_t75_loop v307 v309).trips) (k1_t83 : Fin (k1_t83_loop v307 v309 k1_t75).trips) (k1_t88 : Fin (k1_t88_loop v307 v309 k1_t75 k1_t83).trips), ∀ a, (k1_off574 v307 v309 k1_t75 k1_t83 k1_t88) a + S1x1x16.size a ≤ S4x8x128.size a) ∧
  (∀ (k1_t75 : Fin (k1_t75_loop v307 v309).trips) (k1_t83 : Fin (k1_t83_loop v307 v309 k1_t75).trips) (k1_t88 : Fin (k1_t88_loop v307 v309 k1_t75 k1_t83).trips), ∀ a, (k1_off575 v307 v309 k1_t75 k1_t83 k1_t88) a + S1x1x16.size a ≤ S4x8x128.size a) ∧
  (∀ (k1_t75 : Fin (k1_t75_loop v307 v309).trips) (k1_t83 : Fin (k1_t83_loop v307 v309 k1_t75).trips) (k1_t88 : Fin (k1_t88_loop v307 v309 k1_t75 k1_t83).trips), ∀ a, (k1_off576 v307 v309 k1_t75 k1_t83 k1_t88) a + S1x1x16.size a ≤ S4x8x128.size a) ∧
  (∀ (k1_t75 : Fin (k1_t75_loop v307 v309).trips) (k1_t83 : Fin (k1_t83_loop v307 v309 k1_t75).trips) (k1_t88 : Fin (k1_t88_loop v307 v309 k1_t75 k1_t83).trips), ∀ a, (k1_off577 v307 v309 k1_t75 k1_t83 k1_t88) a + S1x1x16.size a ≤ S4x8x128.size a) ∧
  (∀ (k1_t75 : Fin (k1_t75_loop v307 v309).trips) (k1_t83 : Fin (k1_t83_loop v307 v309 k1_t75).trips) (k1_t88 : Fin (k1_t88_loop v307 v309 k1_t75 k1_t83).trips), ∀ a, (k1_off578 v307 v309 k1_t75 k1_t83 k1_t88) a + S1x1x16.size a ≤ S4x8x128.size a) ∧
  (∀ (k1_t75 : Fin (k1_t75_loop v307 v309).trips) (k1_t83 : Fin (k1_t83_loop v307 v309 k1_t75).trips) (k1_t88 : Fin (k1_t88_loop v307 v309 k1_t75 k1_t83).trips), ∀ a, (k1_off579 v307 v309 k1_t75 k1_t83 k1_t88) a + S1x1x16.size a ≤ S4x8x128.size a) ∧
  (∀ (k1_t75 : Fin (k1_t75_loop v307 v309).trips) (k1_t83 : Fin (k1_t83_loop v307 v309 k1_t75).trips), (k1_t89_loop v307 v309 k1_t75 k1_t83).OK) ∧
  (∀ (k1_t75 : Fin (k1_t75_loop v307 v309).trips) (k1_t83 : Fin (k1_t83_loop v307 v309 k1_t75).trips) (k1_t89 : Fin (k1_t89_loop v307 v309 k1_t75 k1_t83).trips), ∀ a, (k1_off580 v307 v309 k1_t75 k1_t83 k1_t89) a + S1x1x16.size a ≤ S4x8x128.size a) ∧
  (∀ (k1_t75 : Fin (k1_t75_loop v307 v309).trips) (k1_t83 : Fin (k1_t83_loop v307 v309 k1_t75).trips) (k1_t89 : Fin (k1_t89_loop v307 v309 k1_t75 k1_t83).trips), ∀ a, (k1_off581 v307 v309 k1_t75 k1_t83 k1_t89) a + S1x1x16.size a ≤ S4x8x128.size a) ∧
  (∀ (k1_t75 : Fin (k1_t75_loop v307 v309).trips) (k1_t83 : Fin (k1_t83_loop v307 v309 k1_t75).trips) (k1_t89 : Fin (k1_t89_loop v307 v309 k1_t75 k1_t83).trips), ∀ a, (k1_off582 v307 v309 k1_t75 k1_t83 k1_t89) a + S1x1x16.size a ≤ S4x8x128.size a) ∧
  (∀ (k1_t75 : Fin (k1_t75_loop v307 v309).trips) (k1_t83 : Fin (k1_t83_loop v307 v309 k1_t75).trips) (k1_t89 : Fin (k1_t89_loop v307 v309 k1_t75 k1_t83).trips), ∀ a, (k1_off583 v307 v309 k1_t75 k1_t83 k1_t89) a + S1x1x16.size a ≤ S4x8x128.size a) ∧
  (∀ (k1_t75 : Fin (k1_t75_loop v307 v309).trips) (k1_t83 : Fin (k1_t83_loop v307 v309 k1_t75).trips) (k1_t89 : Fin (k1_t89_loop v307 v309 k1_t75 k1_t83).trips), ∀ a, (k1_off584 v307 v309 k1_t75 k1_t83 k1_t89) a + S1x1x16.size a ≤ S4x8x128.size a) ∧
  (∀ (k1_t75 : Fin (k1_t75_loop v307 v309).trips) (k1_t83 : Fin (k1_t83_loop v307 v309 k1_t75).trips) (k1_t89 : Fin (k1_t89_loop v307 v309 k1_t75 k1_t83).trips), ∀ a, (k1_off585 v307 v309 k1_t75 k1_t83 k1_t89) a + S1x1x16.size a ≤ S4x8x128.size a) ∧
  (∀ (k1_t75 : Fin (k1_t75_loop v307 v309).trips) (k1_t83 : Fin (k1_t83_loop v307 v309 k1_t75).trips) (k1_t89 : Fin (k1_t89_loop v307 v309 k1_t75 k1_t83).trips), ∀ a, (k1_off586 v307 v309 k1_t75 k1_t83 k1_t89) a + S1x1x16.size a ≤ S4x8x128.size a) ∧
  (∀ (k1_t75 : Fin (k1_t75_loop v307 v309).trips) (k1_t83 : Fin (k1_t83_loop v307 v309 k1_t75).trips) (k1_t89 : Fin (k1_t89_loop v307 v309 k1_t75 k1_t83).trips), ∀ a, (k1_off587 v307 v309 k1_t75 k1_t83 k1_t89) a + S1x1x16.size a ≤ S4x8x128.size a)
def k1_chk3 (k1_t1 : Fin k1_t1_loop.trips) (v307 : BitVec 32) (v309 : BitVec 32) : Prop :=
  k1_chk3_0 k1_t1 v307 v309 ∧
  k1_chk3_1 k1_t1 v307 v309 ∧
  k1_chk3_2 k1_t1 v307 v309 ∧
  k1_chk3_3 k1_t1 v307 v309 ∧
  k1_chk3_4 k1_t1 v307 v309 ∧
  k1_chk3_5 k1_t1 v307 v309 ∧
  k1_chk3_6 k1_t1 v307 v309 ∧
  k1_chk3_7 k1_t1 v307 v309 ∧
  k1_chk3_8 k1_t1 v307 v309 ∧
  k1_chk3_9 k1_t1 v307 v309 ∧
  k1_chk3_10 k1_t1 v307 v309
theorem k1_off297_inb : ∀ (k1_t1 : Fin k1_t1_loop.trips) (v307 : BitVec 32) (v309 : BitVec 32) (k1_hw3 : k1_chk3 k1_t1 v307 v309), ∀ (k1_h2 : k1_cond2 k1_t1 = 1#1), ∀ a, (k1_off297 v309) a + S4x8x128.size a ≤ S2550x8x128.size a := fun k1_t1 v307 v309 k1_hw3 k1_h2 => k1_hw3.1.1 k1_h2
theorem k1_t46_ok : ∀ (k1_t1 : Fin k1_t1_loop.trips) (v307 : BitVec 32) (v309 : BitVec 32) (k1_hw3 : k1_chk3 k1_t1 v307 v309), (k1_t46_loop v307 v309).OK := fun k1_t1 v307 v309 k1_hw3 => k1_hw3.1.2.1
theorem k1_t47_ok : ∀ (k1_t1 : Fin k1_t1_loop.trips) (v307 : BitVec 32) (v309 : BitVec 32) (k1_hw3 : k1_chk3 k1_t1 v307 v309) (k1_t46 : Fin (k1_t46_loop v307 v309).trips), (k1_t47_loop v307 v309 k1_t46).OK := fun k1_t1 v307 v309 k1_hw3 k1_t46 => k1_hw3.1.2.2.1 k1_t46
theorem k1_off298_inb : ∀ (k1_t1 : Fin k1_t1_loop.trips) (v307 : BitVec 32) (v309 : BitVec 32) (k1_hw3 : k1_chk3 k1_t1 v307 v309) (k1_t46 : Fin (k1_t46_loop v307 v309).trips) (k1_t47 : Fin (k1_t47_loop v307 v309 k1_t46).trips), ∀ a, (k1_off298 v307 v309 k1_t46 k1_t47) a + S1x1x16.size a ≤ S4x8x128.size a := fun k1_t1 v307 v309 k1_hw3 k1_t46 k1_t47 => k1_hw3.1.2.2.2.1 k1_t46 k1_t47
theorem k1_off299_inb : ∀ (k1_t1 : Fin k1_t1_loop.trips) (v307 : BitVec 32) (v309 : BitVec 32) (k1_hw3 : k1_chk3 k1_t1 v307 v309) (k1_t46 : Fin (k1_t46_loop v307 v309).trips) (k1_t47 : Fin (k1_t47_loop v307 v309 k1_t46).trips), ∀ a, (k1_off299 v307 v309 k1_t46 k1_t47) a + S1x1x16.size a ≤ S4x8x128.size a := fun k1_t1 v307 v309 k1_hw3 k1_t46 k1_t47 => k1_hw3.1.2.2.2.2.1 k1_t46 k1_t47
theorem k1_off300_inb : ∀ (k1_t1 : Fin k1_t1_loop.trips) (v307 : BitVec 32) (v309 : BitVec 32) (k1_hw3 : k1_chk3 k1_t1 v307 v309) (k1_t46 : Fin (k1_t46_loop v307 v309).trips) (k1_t47 : Fin (k1_t47_loop v307 v309 k1_t46).trips), ∀ a, (k1_off300 v307 v309 k1_t46 k1_t47) a + S1x1x16.size a ≤ S4x8x128.size a := fun k1_t1 v307 v309 k1_hw3 k1_t46 k1_t47 => k1_hw3.1.2.2.2.2.2.1 k1_t46 k1_t47
theorem k1_off301_inb : ∀ (k1_t1 : Fin k1_t1_loop.trips) (v307 : BitVec 32) (v309 : BitVec 32) (k1_hw3 : k1_chk3 k1_t1 v307 v309) (k1_t46 : Fin (k1_t46_loop v307 v309).trips) (k1_t47 : Fin (k1_t47_loop v307 v309 k1_t46).trips), ∀ a, (k1_off301 v307 v309 k1_t46 k1_t47) a + S1x1x16.size a ≤ S4x8x128.size a := fun k1_t1 v307 v309 k1_hw3 k1_t46 k1_t47 => k1_hw3.1.2.2.2.2.2.2.1 k1_t46 k1_t47
theorem k1_off302_inb : ∀ (k1_t1 : Fin k1_t1_loop.trips) (v307 : BitVec 32) (v309 : BitVec 32) (k1_hw3 : k1_chk3 k1_t1 v307 v309) (k1_t46 : Fin (k1_t46_loop v307 v309).trips) (k1_t47 : Fin (k1_t47_loop v307 v309 k1_t46).trips), ∀ a, (k1_off302 v307 v309 k1_t46 k1_t47) a + S1x1x16.size a ≤ S4x8x128.size a := fun k1_t1 v307 v309 k1_hw3 k1_t46 k1_t47 => k1_hw3.1.2.2.2.2.2.2.2.1 k1_t46 k1_t47
theorem k1_off303_inb : ∀ (k1_t1 : Fin k1_t1_loop.trips) (v307 : BitVec 32) (v309 : BitVec 32) (k1_hw3 : k1_chk3 k1_t1 v307 v309) (k1_t46 : Fin (k1_t46_loop v307 v309).trips) (k1_t47 : Fin (k1_t47_loop v307 v309 k1_t46).trips), ∀ a, (k1_off303 v307 v309 k1_t46 k1_t47) a + S1x1x16.size a ≤ S4x8x128.size a := fun k1_t1 v307 v309 k1_hw3 k1_t46 k1_t47 => k1_hw3.1.2.2.2.2.2.2.2.2.1 k1_t46 k1_t47
theorem k1_off304_inb : ∀ (k1_t1 : Fin k1_t1_loop.trips) (v307 : BitVec 32) (v309 : BitVec 32) (k1_hw3 : k1_chk3 k1_t1 v307 v309) (k1_t46 : Fin (k1_t46_loop v307 v309).trips) (k1_t47 : Fin (k1_t47_loop v307 v309 k1_t46).trips), ∀ a, (k1_off304 v307 v309 k1_t46 k1_t47) a + S1x1x16.size a ≤ S4x8x128.size a := fun k1_t1 v307 v309 k1_hw3 k1_t46 k1_t47 => k1_hw3.1.2.2.2.2.2.2.2.2.2.1 k1_t46 k1_t47
theorem k1_off305_inb : ∀ (k1_t1 : Fin k1_t1_loop.trips) (v307 : BitVec 32) (v309 : BitVec 32) (k1_hw3 : k1_chk3 k1_t1 v307 v309) (k1_t46 : Fin (k1_t46_loop v307 v309).trips) (k1_t47 : Fin (k1_t47_loop v307 v309 k1_t46).trips), ∀ a, (k1_off305 v307 v309 k1_t46 k1_t47) a + S1x1x16.size a ≤ S4x8x128.size a := fun k1_t1 v307 v309 k1_hw3 k1_t46 k1_t47 => k1_hw3.1.2.2.2.2.2.2.2.2.2.2.1 k1_t46 k1_t47
theorem k1_t48_ok : ∀ (k1_t1 : Fin k1_t1_loop.trips) (v307 : BitVec 32) (v309 : BitVec 32) (k1_hw3 : k1_chk3 k1_t1 v307 v309) (k1_t46 : Fin (k1_t46_loop v307 v309).trips), (k1_t48_loop v307 v309 k1_t46).OK := fun k1_t1 v307 v309 k1_hw3 k1_t46 => k1_hw3.1.2.2.2.2.2.2.2.2.2.2.2.1 k1_t46
theorem k1_off306_inb : ∀ (k1_t1 : Fin k1_t1_loop.trips) (v307 : BitVec 32) (v309 : BitVec 32) (k1_hw3 : k1_chk3 k1_t1 v307 v309) (k1_t46 : Fin (k1_t46_loop v307 v309).trips) (k1_t48 : Fin (k1_t48_loop v307 v309 k1_t46).trips), ∀ a, (k1_off306 v307 v309 k1_t46 k1_t48) a + S1x1x16.size a ≤ S4x8x128.size a := fun k1_t1 v307 v309 k1_hw3 k1_t46 k1_t48 => k1_hw3.1.2.2.2.2.2.2.2.2.2.2.2.2.1 k1_t46 k1_t48
theorem k1_off307_inb : ∀ (k1_t1 : Fin k1_t1_loop.trips) (v307 : BitVec 32) (v309 : BitVec 32) (k1_hw3 : k1_chk3 k1_t1 v307 v309) (k1_t46 : Fin (k1_t46_loop v307 v309).trips) (k1_t48 : Fin (k1_t48_loop v307 v309 k1_t46).trips), ∀ a, (k1_off307 v307 v309 k1_t46 k1_t48) a + S1x1x16.size a ≤ S4x8x128.size a := fun k1_t1 v307 v309 k1_hw3 k1_t46 k1_t48 => k1_hw3.1.2.2.2.2.2.2.2.2.2.2.2.2.2.1 k1_t46 k1_t48
theorem k1_off308_inb : ∀ (k1_t1 : Fin k1_t1_loop.trips) (v307 : BitVec 32) (v309 : BitVec 32) (k1_hw3 : k1_chk3 k1_t1 v307 v309) (k1_t46 : Fin (k1_t46_loop v307 v309).trips) (k1_t48 : Fin (k1_t48_loop v307 v309 k1_t46).trips), ∀ a, (k1_off308 v307 v309 k1_t46 k1_t48) a + S1x1x16.size a ≤ S4x8x128.size a := fun k1_t1 v307 v309 k1_hw3 k1_t46 k1_t48 => k1_hw3.1.2.2.2.2.2.2.2.2.2.2.2.2.2.2.1 k1_t46 k1_t48
theorem k1_off309_inb : ∀ (k1_t1 : Fin k1_t1_loop.trips) (v307 : BitVec 32) (v309 : BitVec 32) (k1_hw3 : k1_chk3 k1_t1 v307 v309) (k1_t46 : Fin (k1_t46_loop v307 v309).trips) (k1_t48 : Fin (k1_t48_loop v307 v309 k1_t46).trips), ∀ a, (k1_off309 v307 v309 k1_t46 k1_t48) a + S1x1x16.size a ≤ S4x8x128.size a := fun k1_t1 v307 v309 k1_hw3 k1_t46 k1_t48 => k1_hw3.1.2.2.2.2.2.2.2.2.2.2.2.2.2.2.2.1 k1_t46 k1_t48
theorem k1_off310_inb : ∀ (k1_t1 : Fin k1_t1_loop.trips) (v307 : BitVec 32) (v309 : BitVec 32) (k1_hw3 : k1_chk3 k1_t1 v307 v309) (k1_t46 : Fin (k1_t46_loop v307 v309).trips) (k1_t48 : Fin (k1_t48_loop v307 v309 k1_t46).trips), ∀ a, (k1_off310 v307 v309 k1_t46 k1_t48) a + S1x1x16.size a ≤ S4x8x128.size a := fun k1_t1 v307 v309 k1_hw3 k1_t46 k1_t48 => k1_hw3.1.2.2.2.2.2.2.2.2.2.2.2.2.2.2.2.2.1 k1_t46 k1_t48
theorem k1_off311_inb : ∀ (k1_t1 : Fin k1_t1_loop.trips) (v307 : BitVec 32) (v309 : BitVec 32) (k1_hw3 : k1_chk3 k1_t1 v307 v309) (k1_t46 : Fin (k1_t46_loop v307 v309).trips) (k1_t48 : Fin (k1_t48_loop v307 v309 k1_t46).trips), ∀ a, (k1_off311 v307 v309 k1_t46 k1_t48) a + S1x1x16.size a ≤ S4x8x128.size a := fun k1_t1 v307 v309 k1_hw3 k1_t46 k1_t48 => k1_hw3.1.2.2.2.2.2.2.2.2.2.2.2.2.2.2.2.2.2.1 k1_t46 k1_t48
theorem k1_off312_inb : ∀ (k1_t1 : Fin k1_t1_loop.trips) (v307 : BitVec 32) (v309 : BitVec 32) (k1_hw3 : k1_chk3 k1_t1 v307 v309) (k1_t46 : Fin (k1_t46_loop v307 v309).trips) (k1_t48 : Fin (k1_t48_loop v307 v309 k1_t46).trips), ∀ a, (k1_off312 v307 v309 k1_t46 k1_t48) a + S1x1x16.size a ≤ S4x8x128.size a := fun k1_t1 v307 v309 k1_hw3 k1_t46 k1_t48 => k1_hw3.1.2.2.2.2.2.2.2.2.2.2.2.2.2.2.2.2.2.2.1 k1_t46 k1_t48
theorem k1_off313_inb : ∀ (k1_t1 : Fin k1_t1_loop.trips) (v307 : BitVec 32) (v309 : BitVec 32) (k1_hw3 : k1_chk3 k1_t1 v307 v309) (k1_t46 : Fin (k1_t46_loop v307 v309).trips) (k1_t48 : Fin (k1_t48_loop v307 v309 k1_t46).trips), ∀ a, (k1_off313 v307 v309 k1_t46 k1_t48) a + S1x1x16.size a ≤ S4x8x128.size a := fun k1_t1 v307 v309 k1_hw3 k1_t46 k1_t48 => k1_hw3.1.2.2.2.2.2.2.2.2.2.2.2.2.2.2.2.2.2.2.2.1 k1_t46 k1_t48
theorem k1_t49_ok : ∀ (k1_t1 : Fin k1_t1_loop.trips) (v307 : BitVec 32) (v309 : BitVec 32) (k1_hw3 : k1_chk3 k1_t1 v307 v309) (k1_t46 : Fin (k1_t46_loop v307 v309).trips), (k1_t49_loop v307 v309 k1_t46).OK := fun k1_t1 v307 v309 k1_hw3 k1_t46 => k1_hw3.1.2.2.2.2.2.2.2.2.2.2.2.2.2.2.2.2.2.2.2.2.1 k1_t46
theorem k1_off314_inb : ∀ (k1_t1 : Fin k1_t1_loop.trips) (v307 : BitVec 32) (v309 : BitVec 32) (k1_hw3 : k1_chk3 k1_t1 v307 v309) (k1_t46 : Fin (k1_t46_loop v307 v309).trips) (k1_t49 : Fin (k1_t49_loop v307 v309 k1_t46).trips), ∀ a, (k1_off314 v307 v309 k1_t46 k1_t49) a + S1x1x16.size a ≤ S4x8x128.size a := fun k1_t1 v307 v309 k1_hw3 k1_t46 k1_t49 => k1_hw3.1.2.2.2.2.2.2.2.2.2.2.2.2.2.2.2.2.2.2.2.2.2.1 k1_t46 k1_t49
theorem k1_off315_inb : ∀ (k1_t1 : Fin k1_t1_loop.trips) (v307 : BitVec 32) (v309 : BitVec 32) (k1_hw3 : k1_chk3 k1_t1 v307 v309) (k1_t46 : Fin (k1_t46_loop v307 v309).trips) (k1_t49 : Fin (k1_t49_loop v307 v309 k1_t46).trips), ∀ a, (k1_off315 v307 v309 k1_t46 k1_t49) a + S1x1x16.size a ≤ S4x8x128.size a := fun k1_t1 v307 v309 k1_hw3 k1_t46 k1_t49 => k1_hw3.1.2.2.2.2.2.2.2.2.2.2.2.2.2.2.2.2.2.2.2.2.2.2.1 k1_t46 k1_t49
theorem k1_off316_inb : ∀ (k1_t1 : Fin k1_t1_loop.trips) (v307 : BitVec 32) (v309 : BitVec 32) (k1_hw3 : k1_chk3 k1_t1 v307 v309) (k1_t46 : Fin (k1_t46_loop v307 v309).trips) (k1_t49 : Fin (k1_t49_loop v307 v309 k1_t46).trips), ∀ a, (k1_off316 v307 v309 k1_t46 k1_t49) a + S1x1x16.size a ≤ S4x8x128.size a := fun k1_t1 v307 v309 k1_hw3 k1_t46 k1_t49 => k1_hw3.1.2.2.2.2.2.2.2.2.2.2.2.2.2.2.2.2.2.2.2.2.2.2.2.1 k1_t46 k1_t49
theorem k1_off317_inb : ∀ (k1_t1 : Fin k1_t1_loop.trips) (v307 : BitVec 32) (v309 : BitVec 32) (k1_hw3 : k1_chk3 k1_t1 v307 v309) (k1_t46 : Fin (k1_t46_loop v307 v309).trips) (k1_t49 : Fin (k1_t49_loop v307 v309 k1_t46).trips), ∀ a, (k1_off317 v307 v309 k1_t46 k1_t49) a + S1x1x16.size a ≤ S4x8x128.size a := fun k1_t1 v307 v309 k1_hw3 k1_t46 k1_t49 => k1_hw3.1.2.2.2.2.2.2.2.2.2.2.2.2.2.2.2.2.2.2.2.2.2.2.2.2.1 k1_t46 k1_t49
theorem k1_off318_inb : ∀ (k1_t1 : Fin k1_t1_loop.trips) (v307 : BitVec 32) (v309 : BitVec 32) (k1_hw3 : k1_chk3 k1_t1 v307 v309) (k1_t46 : Fin (k1_t46_loop v307 v309).trips) (k1_t49 : Fin (k1_t49_loop v307 v309 k1_t46).trips), ∀ a, (k1_off318 v307 v309 k1_t46 k1_t49) a + S1x1x16.size a ≤ S4x8x128.size a := fun k1_t1 v307 v309 k1_hw3 k1_t46 k1_t49 => k1_hw3.1.2.2.2.2.2.2.2.2.2.2.2.2.2.2.2.2.2.2.2.2.2.2.2.2.2.1 k1_t46 k1_t49
theorem k1_off319_inb : ∀ (k1_t1 : Fin k1_t1_loop.trips) (v307 : BitVec 32) (v309 : BitVec 32) (k1_hw3 : k1_chk3 k1_t1 v307 v309) (k1_t46 : Fin (k1_t46_loop v307 v309).trips) (k1_t49 : Fin (k1_t49_loop v307 v309 k1_t46).trips), ∀ a, (k1_off319 v307 v309 k1_t46 k1_t49) a + S1x1x16.size a ≤ S4x8x128.size a := fun k1_t1 v307 v309 k1_hw3 k1_t46 k1_t49 => k1_hw3.1.2.2.2.2.2.2.2.2.2.2.2.2.2.2.2.2.2.2.2.2.2.2.2.2.2.2.1 k1_t46 k1_t49
theorem k1_off320_inb : ∀ (k1_t1 : Fin k1_t1_loop.trips) (v307 : BitVec 32) (v309 : BitVec 32) (k1_hw3 : k1_chk3 k1_t1 v307 v309) (k1_t46 : Fin (k1_t46_loop v307 v309).trips) (k1_t49 : Fin (k1_t49_loop v307 v309 k1_t46).trips), ∀ a, (k1_off320 v307 v309 k1_t46 k1_t49) a + S1x1x16.size a ≤ S4x8x128.size a := fun k1_t1 v307 v309 k1_hw3 k1_t46 k1_t49 => k1_hw3.1.2.2.2.2.2.2.2.2.2.2.2.2.2.2.2.2.2.2.2.2.2.2.2.2.2.2.2.1 k1_t46 k1_t49
theorem k1_off321_inb : ∀ (k1_t1 : Fin k1_t1_loop.trips) (v307 : BitVec 32) (v309 : BitVec 32) (k1_hw3 : k1_chk3 k1_t1 v307 v309) (k1_t46 : Fin (k1_t46_loop v307 v309).trips) (k1_t49 : Fin (k1_t49_loop v307 v309 k1_t46).trips), ∀ a, (k1_off321 v307 v309 k1_t46 k1_t49) a + S1x1x16.size a ≤ S4x8x128.size a := fun k1_t1 v307 v309 k1_hw3 k1_t46 k1_t49 => k1_hw3.1.2.2.2.2.2.2.2.2.2.2.2.2.2.2.2.2.2.2.2.2.2.2.2.2.2.2.2.2.1 k1_t46 k1_t49
theorem k1_t50_ok : ∀ (k1_t1 : Fin k1_t1_loop.trips) (v307 : BitVec 32) (v309 : BitVec 32) (k1_hw3 : k1_chk3 k1_t1 v307 v309) (k1_t46 : Fin (k1_t46_loop v307 v309).trips), (k1_t50_loop v307 v309 k1_t46).OK := fun k1_t1 v307 v309 k1_hw3 k1_t46 => k1_hw3.1.2.2.2.2.2.2.2.2.2.2.2.2.2.2.2.2.2.2.2.2.2.2.2.2.2.2.2.2.2.1 k1_t46
theorem k1_off322_inb : ∀ (k1_t1 : Fin k1_t1_loop.trips) (v307 : BitVec 32) (v309 : BitVec 32) (k1_hw3 : k1_chk3 k1_t1 v307 v309) (k1_t46 : Fin (k1_t46_loop v307 v309).trips) (k1_t50 : Fin (k1_t50_loop v307 v309 k1_t46).trips), ∀ a, (k1_off322 v307 v309 k1_t46 k1_t50) a + S1x1x16.size a ≤ S4x8x128.size a := fun k1_t1 v307 v309 k1_hw3 k1_t46 k1_t50 => k1_hw3.1.2.2.2.2.2.2.2.2.2.2.2.2.2.2.2.2.2.2.2.2.2.2.2.2.2.2.2.2.2.2.1 k1_t46 k1_t50
theorem k1_off323_inb : ∀ (k1_t1 : Fin k1_t1_loop.trips) (v307 : BitVec 32) (v309 : BitVec 32) (k1_hw3 : k1_chk3 k1_t1 v307 v309) (k1_t46 : Fin (k1_t46_loop v307 v309).trips) (k1_t50 : Fin (k1_t50_loop v307 v309 k1_t46).trips), ∀ a, (k1_off323 v307 v309 k1_t46 k1_t50) a + S1x1x16.size a ≤ S4x8x128.size a := fun k1_t1 v307 v309 k1_hw3 k1_t46 k1_t50 => k1_hw3.1.2.2.2.2.2.2.2.2.2.2.2.2.2.2.2.2.2.2.2.2.2.2.2.2.2.2.2.2.2.2.2 k1_t46 k1_t50
theorem k1_off324_inb : ∀ (k1_t1 : Fin k1_t1_loop.trips) (v307 : BitVec 32) (v309 : BitVec 32) (k1_hw3 : k1_chk3 k1_t1 v307 v309) (k1_t46 : Fin (k1_t46_loop v307 v309).trips) (k1_t50 : Fin (k1_t50_loop v307 v309 k1_t46).trips), ∀ a, (k1_off324 v307 v309 k1_t46 k1_t50) a + S1x1x16.size a ≤ S4x8x128.size a := fun k1_t1 v307 v309 k1_hw3 k1_t46 k1_t50 => k1_hw3.2.1.1 k1_t46 k1_t50
theorem k1_off325_inb : ∀ (k1_t1 : Fin k1_t1_loop.trips) (v307 : BitVec 32) (v309 : BitVec 32) (k1_hw3 : k1_chk3 k1_t1 v307 v309) (k1_t46 : Fin (k1_t46_loop v307 v309).trips) (k1_t50 : Fin (k1_t50_loop v307 v309 k1_t46).trips), ∀ a, (k1_off325 v307 v309 k1_t46 k1_t50) a + S1x1x16.size a ≤ S4x8x128.size a := fun k1_t1 v307 v309 k1_hw3 k1_t46 k1_t50 => k1_hw3.2.1.2.1 k1_t46 k1_t50
theorem k1_off326_inb : ∀ (k1_t1 : Fin k1_t1_loop.trips) (v307 : BitVec 32) (v309 : BitVec 32) (k1_hw3 : k1_chk3 k1_t1 v307 v309) (k1_t46 : Fin (k1_t46_loop v307 v309).trips) (k1_t50 : Fin (k1_t50_loop v307 v309 k1_t46).trips), ∀ a, (k1_off326 v307 v309 k1_t46 k1_t50) a + S1x1x16.size a ≤ S4x8x128.size a := fun k1_t1 v307 v309 k1_hw3 k1_t46 k1_t50 => k1_hw3.2.1.2.2.1 k1_t46 k1_t50
theorem k1_off327_inb : ∀ (k1_t1 : Fin k1_t1_loop.trips) (v307 : BitVec 32) (v309 : BitVec 32) (k1_hw3 : k1_chk3 k1_t1 v307 v309) (k1_t46 : Fin (k1_t46_loop v307 v309).trips) (k1_t50 : Fin (k1_t50_loop v307 v309 k1_t46).trips), ∀ a, (k1_off327 v307 v309 k1_t46 k1_t50) a + S1x1x16.size a ≤ S4x8x128.size a := fun k1_t1 v307 v309 k1_hw3 k1_t46 k1_t50 => k1_hw3.2.1.2.2.2.1 k1_t46 k1_t50
theorem k1_off328_inb : ∀ (k1_t1 : Fin k1_t1_loop.trips) (v307 : BitVec 32) (v309 : BitVec 32) (k1_hw3 : k1_chk3 k1_t1 v307 v309) (k1_t46 : Fin (k1_t46_loop v307 v309).trips) (k1_t50 : Fin (k1_t50_loop v307 v309 k1_t46).trips), ∀ a, (k1_off328 v307 v309 k1_t46 k1_t50) a + S1x1x16.size a ≤ S4x8x128.size a := fun k1_t1 v307 v309 k1_hw3 k1_t46 k1_t50 => k1_hw3.2.1.2.2.2.2.1 k1_t46 k1_t50
theorem k1_off329_inb : ∀ (k1_t1 : Fin k1_t1_loop.trips) (v307 : BitVec 32) (v309 : BitVec 32) (k1_hw3 : k1_chk3 k1_t1 v307 v309) (k1_t46 : Fin (k1_t46_loop v307 v309).trips) (k1_t50 : Fin (k1_t50_loop v307 v309 k1_t46).trips), ∀ a, (k1_off329 v307 v309 k1_t46 k1_t50) a + S1x1x16.size a ≤ S4x8x128.size a := fun k1_t1 v307 v309 k1_hw3 k1_t46 k1_t50 => k1_hw3.2.1.2.2.2.2.2.1 k1_t46 k1_t50
theorem k1_t51_ok : ∀ (k1_t1 : Fin k1_t1_loop.trips) (v307 : BitVec 32) (v309 : BitVec 32) (k1_hw3 : k1_chk3 k1_t1 v307 v309) (k1_t46 : Fin (k1_t46_loop v307 v309).trips), (k1_t51_loop v307 v309 k1_t46).OK := fun k1_t1 v307 v309 k1_hw3 k1_t46 => k1_hw3.2.1.2.2.2.2.2.2.1 k1_t46
theorem k1_off330_inb : ∀ (k1_t1 : Fin k1_t1_loop.trips) (v307 : BitVec 32) (v309 : BitVec 32) (k1_hw3 : k1_chk3 k1_t1 v307 v309) (k1_t46 : Fin (k1_t46_loop v307 v309).trips) (k1_t51 : Fin (k1_t51_loop v307 v309 k1_t46).trips), ∀ a, (k1_off330 v307 v309 k1_t46 k1_t51) a + S1x1x16.size a ≤ S4x8x128.size a := fun k1_t1 v307 v309 k1_hw3 k1_t46 k1_t51 => k1_hw3.2.1.2.2.2.2.2.2.2.1 k1_t46 k1_t51
theorem k1_off331_inb : ∀ (k1_t1 : Fin k1_t1_loop.trips) (v307 : BitVec 32) (v309 : BitVec 32) (k1_hw3 : k1_chk3 k1_t1 v307 v309) (k1_t46 : Fin (k1_t46_loop v307 v309).trips) (k1_t51 : Fin (k1_t51_loop v307 v309 k1_t46).trips), ∀ a, (k1_off331 v307 v309 k1_t46 k1_t51) a + S1x1x16.size a ≤ S4x8x128.size a := fun k1_t1 v307 v309 k1_hw3 k1_t46 k1_t51 => k1_hw3.2.1.2.2.2.2.2.2.2.2.1 k1_t46 k1_t51
theorem k1_off332_inb : ∀ (k1_t1 : Fin k1_t1_loop.trips) (v307 : BitVec 32) (v309 : BitVec 32) (k1_hw3 : k1_chk3 k1_t1 v307 v309) (k1_t46 : Fin (k1_t46_loop v307 v309).trips) (k1_t51 : Fin (k1_t51_loop v307 v309 k1_t46).trips), ∀ a, (k1_off332 v307 v309 k1_t46 k1_t51) a + S1x1x16.size a ≤ S4x8x128.size a := fun k1_t1 v307 v309 k1_hw3 k1_t46 k1_t51 => k1_hw3.2.1.2.2.2.2.2.2.2.2.2.1 k1_t46 k1_t51
theorem k1_off333_inb : ∀ (k1_t1 : Fin k1_t1_loop.trips) (v307 : BitVec 32) (v309 : BitVec 32) (k1_hw3 : k1_chk3 k1_t1 v307 v309) (k1_t46 : Fin (k1_t46_loop v307 v309).trips) (k1_t51 : Fin (k1_t51_loop v307 v309 k1_t46).trips), ∀ a, (k1_off333 v307 v309 k1_t46 k1_t51) a + S1x1x16.size a ≤ S4x8x128.size a := fun k1_t1 v307 v309 k1_hw3 k1_t46 k1_t51 => k1_hw3.2.1.2.2.2.2.2.2.2.2.2.2.1 k1_t46 k1_t51
theorem k1_off334_inb : ∀ (k1_t1 : Fin k1_t1_loop.trips) (v307 : BitVec 32) (v309 : BitVec 32) (k1_hw3 : k1_chk3 k1_t1 v307 v309) (k1_t46 : Fin (k1_t46_loop v307 v309).trips) (k1_t51 : Fin (k1_t51_loop v307 v309 k1_t46).trips), ∀ a, (k1_off334 v307 v309 k1_t46 k1_t51) a + S1x1x16.size a ≤ S4x8x128.size a := fun k1_t1 v307 v309 k1_hw3 k1_t46 k1_t51 => k1_hw3.2.1.2.2.2.2.2.2.2.2.2.2.2.1 k1_t46 k1_t51
theorem k1_off335_inb : ∀ (k1_t1 : Fin k1_t1_loop.trips) (v307 : BitVec 32) (v309 : BitVec 32) (k1_hw3 : k1_chk3 k1_t1 v307 v309) (k1_t46 : Fin (k1_t46_loop v307 v309).trips) (k1_t51 : Fin (k1_t51_loop v307 v309 k1_t46).trips), ∀ a, (k1_off335 v307 v309 k1_t46 k1_t51) a + S1x1x16.size a ≤ S4x8x128.size a := fun k1_t1 v307 v309 k1_hw3 k1_t46 k1_t51 => k1_hw3.2.1.2.2.2.2.2.2.2.2.2.2.2.2.1 k1_t46 k1_t51
theorem k1_off336_inb : ∀ (k1_t1 : Fin k1_t1_loop.trips) (v307 : BitVec 32) (v309 : BitVec 32) (k1_hw3 : k1_chk3 k1_t1 v307 v309) (k1_t46 : Fin (k1_t46_loop v307 v309).trips) (k1_t51 : Fin (k1_t51_loop v307 v309 k1_t46).trips), ∀ a, (k1_off336 v307 v309 k1_t46 k1_t51) a + S1x1x16.size a ≤ S4x8x128.size a := fun k1_t1 v307 v309 k1_hw3 k1_t46 k1_t51 => k1_hw3.2.1.2.2.2.2.2.2.2.2.2.2.2.2.2.1 k1_t46 k1_t51
theorem k1_off337_inb : ∀ (k1_t1 : Fin k1_t1_loop.trips) (v307 : BitVec 32) (v309 : BitVec 32) (k1_hw3 : k1_chk3 k1_t1 v307 v309) (k1_t46 : Fin (k1_t46_loop v307 v309).trips) (k1_t51 : Fin (k1_t51_loop v307 v309 k1_t46).trips), ∀ a, (k1_off337 v307 v309 k1_t46 k1_t51) a + S1x1x16.size a ≤ S4x8x128.size a := fun k1_t1 v307 v309 k1_hw3 k1_t46 k1_t51 => k1_hw3.2.1.2.2.2.2.2.2.2.2.2.2.2.2.2.2.1 k1_t46 k1_t51
theorem k1_t52_ok : ∀ (k1_t1 : Fin k1_t1_loop.trips) (v307 : BitVec 32) (v309 : BitVec 32) (k1_hw3 : k1_chk3 k1_t1 v307 v309) (k1_t46 : Fin (k1_t46_loop v307 v309).trips), (k1_t52_loop v307 v309 k1_t46).OK := fun k1_t1 v307 v309 k1_hw3 k1_t46 => k1_hw3.2.1.2.2.2.2.2.2.2.2.2.2.2.2.2.2.2.1 k1_t46
theorem k1_off338_inb : ∀ (k1_t1 : Fin k1_t1_loop.trips) (v307 : BitVec 32) (v309 : BitVec 32) (k1_hw3 : k1_chk3 k1_t1 v307 v309) (k1_t46 : Fin (k1_t46_loop v307 v309).trips) (k1_t52 : Fin (k1_t52_loop v307 v309 k1_t46).trips), ∀ a, (k1_off338 v307 v309 k1_t46 k1_t52) a + S1x1x16.size a ≤ S4x8x128.size a := fun k1_t1 v307 v309 k1_hw3 k1_t46 k1_t52 => k1_hw3.2.1.2.2.2.2.2.2.2.2.2.2.2.2.2.2.2.2.1 k1_t46 k1_t52
theorem k1_off339_inb : ∀ (k1_t1 : Fin k1_t1_loop.trips) (v307 : BitVec 32) (v309 : BitVec 32) (k1_hw3 : k1_chk3 k1_t1 v307 v309) (k1_t46 : Fin (k1_t46_loop v307 v309).trips) (k1_t52 : Fin (k1_t52_loop v307 v309 k1_t46).trips), ∀ a, (k1_off339 v307 v309 k1_t46 k1_t52) a + S1x1x16.size a ≤ S4x8x128.size a := fun k1_t1 v307 v309 k1_hw3 k1_t46 k1_t52 => k1_hw3.2.1.2.2.2.2.2.2.2.2.2.2.2.2.2.2.2.2.2.1 k1_t46 k1_t52
theorem k1_off340_inb : ∀ (k1_t1 : Fin k1_t1_loop.trips) (v307 : BitVec 32) (v309 : BitVec 32) (k1_hw3 : k1_chk3 k1_t1 v307 v309) (k1_t46 : Fin (k1_t46_loop v307 v309).trips) (k1_t52 : Fin (k1_t52_loop v307 v309 k1_t46).trips), ∀ a, (k1_off340 v307 v309 k1_t46 k1_t52) a + S1x1x16.size a ≤ S4x8x128.size a := fun k1_t1 v307 v309 k1_hw3 k1_t46 k1_t52 => k1_hw3.2.1.2.2.2.2.2.2.2.2.2.2.2.2.2.2.2.2.2.2.1 k1_t46 k1_t52
theorem k1_off341_inb : ∀ (k1_t1 : Fin k1_t1_loop.trips) (v307 : BitVec 32) (v309 : BitVec 32) (k1_hw3 : k1_chk3 k1_t1 v307 v309) (k1_t46 : Fin (k1_t46_loop v307 v309).trips) (k1_t52 : Fin (k1_t52_loop v307 v309 k1_t46).trips), ∀ a, (k1_off341 v307 v309 k1_t46 k1_t52) a + S1x1x16.size a ≤ S4x8x128.size a := fun k1_t1 v307 v309 k1_hw3 k1_t46 k1_t52 => k1_hw3.2.1.2.2.2.2.2.2.2.2.2.2.2.2.2.2.2.2.2.2.2.1 k1_t46 k1_t52
theorem k1_off342_inb : ∀ (k1_t1 : Fin k1_t1_loop.trips) (v307 : BitVec 32) (v309 : BitVec 32) (k1_hw3 : k1_chk3 k1_t1 v307 v309) (k1_t46 : Fin (k1_t46_loop v307 v309).trips) (k1_t52 : Fin (k1_t52_loop v307 v309 k1_t46).trips), ∀ a, (k1_off342 v307 v309 k1_t46 k1_t52) a + S1x1x16.size a ≤ S4x8x128.size a := fun k1_t1 v307 v309 k1_hw3 k1_t46 k1_t52 => k1_hw3.2.1.2.2.2.2.2.2.2.2.2.2.2.2.2.2.2.2.2.2.2.2.1 k1_t46 k1_t52
theorem k1_off343_inb : ∀ (k1_t1 : Fin k1_t1_loop.trips) (v307 : BitVec 32) (v309 : BitVec 32) (k1_hw3 : k1_chk3 k1_t1 v307 v309) (k1_t46 : Fin (k1_t46_loop v307 v309).trips) (k1_t52 : Fin (k1_t52_loop v307 v309 k1_t46).trips), ∀ a, (k1_off343 v307 v309 k1_t46 k1_t52) a + S1x1x16.size a ≤ S4x8x128.size a := fun k1_t1 v307 v309 k1_hw3 k1_t46 k1_t52 => k1_hw3.2.1.2.2.2.2.2.2.2.2.2.2.2.2.2.2.2.2.2.2.2.2.2.1 k1_t46 k1_t52
theorem k1_off344_inb : ∀ (k1_t1 : Fin k1_t1_loop.trips) (v307 : BitVec 32) (v309 : BitVec 32) (k1_hw3 : k1_chk3 k1_t1 v307 v309) (k1_t46 : Fin (k1_t46_loop v307 v309).trips) (k1_t52 : Fin (k1_t52_loop v307 v309 k1_t46).trips), ∀ a, (k1_off344 v307 v309 k1_t46 k1_t52) a + S1x1x16.size a ≤ S4x8x128.size a := fun k1_t1 v307 v309 k1_hw3 k1_t46 k1_t52 => k1_hw3.2.1.2.2.2.2.2.2.2.2.2.2.2.2.2.2.2.2.2.2.2.2.2.2.1 k1_t46 k1_t52
theorem k1_off345_inb : ∀ (k1_t1 : Fin k1_t1_loop.trips) (v307 : BitVec 32) (v309 : BitVec 32) (k1_hw3 : k1_chk3 k1_t1 v307 v309) (k1_t46 : Fin (k1_t46_loop v307 v309).trips) (k1_t52 : Fin (k1_t52_loop v307 v309 k1_t46).trips), ∀ a, (k1_off345 v307 v309 k1_t46 k1_t52) a + S1x1x16.size a ≤ S4x8x128.size a := fun k1_t1 v307 v309 k1_hw3 k1_t46 k1_t52 => k1_hw3.2.1.2.2.2.2.2.2.2.2.2.2.2.2.2.2.2.2.2.2.2.2.2.2.2.1 k1_t46 k1_t52
theorem k1_t53_ok : ∀ (k1_t1 : Fin k1_t1_loop.trips) (v307 : BitVec 32) (v309 : BitVec 32) (k1_hw3 : k1_chk3 k1_t1 v307 v309), (k1_t53_loop v307 v309).OK := fun k1_t1 v307 v309 k1_hw3 => k1_hw3.2.1.2.2.2.2.2.2.2.2.2.2.2.2.2.2.2.2.2.2.2.2.2.2.2.2.1
theorem k1_t54_ok : ∀ (k1_t1 : Fin k1_t1_loop.trips) (v307 : BitVec 32) (v309 : BitVec 32) (k1_hw3 : k1_chk3 k1_t1 v307 v309) (k1_t53 : Fin (k1_t53_loop v307 v309).trips), (k1_t54_loop v307 v309 k1_t53).OK := fun k1_t1 v307 v309 k1_hw3 k1_t53 => k1_hw3.2.1.2.2.2.2.2.2.2.2.2.2.2.2.2.2.2.2.2.2.2.2.2.2.2.2.2.1 k1_t53
theorem k1_off346_inb : ∀ (k1_t1 : Fin k1_t1_loop.trips) (v307 : BitVec 32) (v309 : BitVec 32) (k1_hw3 : k1_chk3 k1_t1 v307 v309) (k1_t53 : Fin (k1_t53_loop v307 v309).trips) (k1_t54 : Fin (k1_t54_loop v307 v309 k1_t53).trips), ∀ a, (k1_off346 v307 v309 k1_t53 k1_t54) a + S1x1x16.size a ≤ S4x8x128.size a := fun k1_t1 v307 v309 k1_hw3 k1_t53 k1_t54 => k1_hw3.2.1.2.2.2.2.2.2.2.2.2.2.2.2.2.2.2.2.2.2.2.2.2.2.2.2.2.2.1 k1_t53 k1_t54
theorem k1_off347_inb : ∀ (k1_t1 : Fin k1_t1_loop.trips) (v307 : BitVec 32) (v309 : BitVec 32) (k1_hw3 : k1_chk3 k1_t1 v307 v309) (k1_t53 : Fin (k1_t53_loop v307 v309).trips) (k1_t54 : Fin (k1_t54_loop v307 v309 k1_t53).trips), ∀ a, (k1_off347 v307 v309 k1_t53 k1_t54) a + S1x1x16.size a ≤ S4x8x128.size a := fun k1_t1 v307 v309 k1_hw3 k1_t53 k1_t54 => k1_hw3.2.1.2.2.2.2.2.2.2.2.2.2.2.2.2.2.2.2.2.2.2.2.2.2.2.2.2.2.2.1 k1_t53 k1_t54
theorem k1_off348_inb : ∀ (k1_t1 : Fin k1_t1_loop.trips) (v307 : BitVec 32) (v309 : BitVec 32) (k1_hw3 : k1_chk3 k1_t1 v307 v309) (k1_t53 : Fin (k1_t53_loop v307 v309).trips) (k1_t54 : Fin (k1_t54_loop v307 v309 k1_t53).trips), ∀ a, (k1_off348 v307 v309 k1_t53 k1_t54) a + S1x1x16.size a ≤ S4x8x128.size a := fun k1_t1 v307 v309 k1_hw3 k1_t53 k1_t54 => k1_hw3.2.1.2.2.2.2.2.2.2.2.2.2.2.2.2.2.2.2.2.2.2.2.2.2.2.2.2.2.2.2.1 k1_t53 k1_t54
theorem k1_off349_inb : ∀ (k1_t1 : Fin k1_t1_loop.trips) (v307 : BitVec 32) (v309 : BitVec 32) (k1_hw3 : k1_chk3 k1_t1 v307 v309) (k1_t53 : Fin (k1_t53_loop v307 v309).trips) (k1_t54 : Fin (k1_t54_loop v307 v309 k1_t53).trips), ∀ a, (k1_off349 v307 v309 k1_t53 k1_t54) a + S1x1x16.size a ≤ S4x8x128.size a := fun k1_t1 v307 v309 k1_hw3 k1_t53 k1_t54 => k1_hw3.2.1.2.2.2.2.2.2.2.2.2.2.2.2.2.2.2.2.2.2.2.2.2.2.2.2.2.2.2.2.2.1 k1_t53 k1_t54
theorem k1_off350_inb : ∀ (k1_t1 : Fin k1_t1_loop.trips) (v307 : BitVec 32) (v309 : BitVec 32) (k1_hw3 : k1_chk3 k1_t1 v307 v309) (k1_t53 : Fin (k1_t53_loop v307 v309).trips) (k1_t54 : Fin (k1_t54_loop v307 v309 k1_t53).trips), ∀ a, (k1_off350 v307 v309 k1_t53 k1_t54) a + S1x1x16.size a ≤ S4x8x128.size a := fun k1_t1 v307 v309 k1_hw3 k1_t53 k1_t54 => k1_hw3.2.1.2.2.2.2.2.2.2.2.2.2.2.2.2.2.2.2.2.2.2.2.2.2.2.2.2.2.2.2.2.2.1 k1_t53 k1_t54
theorem k1_off351_inb : ∀ (k1_t1 : Fin k1_t1_loop.trips) (v307 : BitVec 32) (v309 : BitVec 32) (k1_hw3 : k1_chk3 k1_t1 v307 v309) (k1_t53 : Fin (k1_t53_loop v307 v309).trips) (k1_t54 : Fin (k1_t54_loop v307 v309 k1_t53).trips), ∀ a, (k1_off351 v307 v309 k1_t53 k1_t54) a + S1x1x16.size a ≤ S4x8x128.size a := fun k1_t1 v307 v309 k1_hw3 k1_t53 k1_t54 => k1_hw3.2.1.2.2.2.2.2.2.2.2.2.2.2.2.2.2.2.2.2.2.2.2.2.2.2.2.2.2.2.2.2.2.2 k1_t53 k1_t54
theorem k1_off352_inb : ∀ (k1_t1 : Fin k1_t1_loop.trips) (v307 : BitVec 32) (v309 : BitVec 32) (k1_hw3 : k1_chk3 k1_t1 v307 v309) (k1_t53 : Fin (k1_t53_loop v307 v309).trips) (k1_t54 : Fin (k1_t54_loop v307 v309 k1_t53).trips), ∀ a, (k1_off352 v307 v309 k1_t53 k1_t54) a + S1x1x16.size a ≤ S4x8x128.size a := fun k1_t1 v307 v309 k1_hw3 k1_t53 k1_t54 => k1_hw3.2.2.1.1 k1_t53 k1_t54
theorem k1_off353_inb : ∀ (k1_t1 : Fin k1_t1_loop.trips) (v307 : BitVec 32) (v309 : BitVec 32) (k1_hw3 : k1_chk3 k1_t1 v307 v309) (k1_t53 : Fin (k1_t53_loop v307 v309).trips) (k1_t54 : Fin (k1_t54_loop v307 v309 k1_t53).trips), ∀ a, (k1_off353 v307 v309 k1_t53 k1_t54) a + S1x1x16.size a ≤ S4x8x128.size a := fun k1_t1 v307 v309 k1_hw3 k1_t53 k1_t54 => k1_hw3.2.2.1.2.1 k1_t53 k1_t54
theorem k1_t55_ok : ∀ (k1_t1 : Fin k1_t1_loop.trips) (v307 : BitVec 32) (v309 : BitVec 32) (k1_hw3 : k1_chk3 k1_t1 v307 v309) (k1_t53 : Fin (k1_t53_loop v307 v309).trips), (k1_t55_loop v307 v309 k1_t53).OK := fun k1_t1 v307 v309 k1_hw3 k1_t53 => k1_hw3.2.2.1.2.2.1 k1_t53
theorem k1_off354_inb : ∀ (k1_t1 : Fin k1_t1_loop.trips) (v307 : BitVec 32) (v309 : BitVec 32) (k1_hw3 : k1_chk3 k1_t1 v307 v309) (k1_t53 : Fin (k1_t53_loop v307 v309).trips) (k1_t55 : Fin (k1_t55_loop v307 v309 k1_t53).trips), ∀ a, (k1_off354 v307 v309 k1_t53 k1_t55) a + S1x1x16.size a ≤ S4x8x128.size a := fun k1_t1 v307 v309 k1_hw3 k1_t53 k1_t55 => k1_hw3.2.2.1.2.2.2.1 k1_t53 k1_t55
theorem k1_off355_inb : ∀ (k1_t1 : Fin k1_t1_loop.trips) (v307 : BitVec 32) (v309 : BitVec 32) (k1_hw3 : k1_chk3 k1_t1 v307 v309) (k1_t53 : Fin (k1_t53_loop v307 v309).trips) (k1_t55 : Fin (k1_t55_loop v307 v309 k1_t53).trips), ∀ a, (k1_off355 v307 v309 k1_t53 k1_t55) a + S1x1x16.size a ≤ S4x8x128.size a := fun k1_t1 v307 v309 k1_hw3 k1_t53 k1_t55 => k1_hw3.2.2.1.2.2.2.2.1 k1_t53 k1_t55
theorem k1_off356_inb : ∀ (k1_t1 : Fin k1_t1_loop.trips) (v307 : BitVec 32) (v309 : BitVec 32) (k1_hw3 : k1_chk3 k1_t1 v307 v309) (k1_t53 : Fin (k1_t53_loop v307 v309).trips) (k1_t55 : Fin (k1_t55_loop v307 v309 k1_t53).trips), ∀ a, (k1_off356 v307 v309 k1_t53 k1_t55) a + S1x1x16.size a ≤ S4x8x128.size a := fun k1_t1 v307 v309 k1_hw3 k1_t53 k1_t55 => k1_hw3.2.2.1.2.2.2.2.2.1 k1_t53 k1_t55
theorem k1_off357_inb : ∀ (k1_t1 : Fin k1_t1_loop.trips) (v307 : BitVec 32) (v309 : BitVec 32) (k1_hw3 : k1_chk3 k1_t1 v307 v309) (k1_t53 : Fin (k1_t53_loop v307 v309).trips) (k1_t55 : Fin (k1_t55_loop v307 v309 k1_t53).trips), ∀ a, (k1_off357 v307 v309 k1_t53 k1_t55) a + S1x1x16.size a ≤ S4x8x128.size a := fun k1_t1 v307 v309 k1_hw3 k1_t53 k1_t55 => k1_hw3.2.2.1.2.2.2.2.2.2.1 k1_t53 k1_t55
theorem k1_off358_inb : ∀ (k1_t1 : Fin k1_t1_loop.trips) (v307 : BitVec 32) (v309 : BitVec 32) (k1_hw3 : k1_chk3 k1_t1 v307 v309) (k1_t53 : Fin (k1_t53_loop v307 v309).trips) (k1_t55 : Fin (k1_t55_loop v307 v309 k1_t53).trips), ∀ a, (k1_off358 v307 v309 k1_t53 k1_t55) a + S1x1x16.size a ≤ S4x8x128.size a := fun k1_t1 v307 v309 k1_hw3 k1_t53 k1_t55 => k1_hw3.2.2.1.2.2.2.2.2.2.2.1 k1_t53 k1_t55
theorem k1_off359_inb : ∀ (k1_t1 : Fin k1_t1_loop.trips) (v307 : BitVec 32) (v309 : BitVec 32) (k1_hw3 : k1_chk3 k1_t1 v307 v309) (k1_t53 : Fin (k1_t53_loop v307 v309).trips) (k1_t55 : Fin (k1_t55_loop v307 v309 k1_t53).trips), ∀ a, (k1_off359 v307 v309 k1_t53 k1_t55) a + S1x1x16.size a ≤ S4x8x128.size a := fun k1_t1 v307 v309 k1_hw3 k1_t53 k1_t55 => k1_hw3.2.2.1.2.2.2.2.2.2.2.2.1 k1_t53 k1_t55
theorem k1_off360_inb : ∀ (k1_t1 : Fin k1_t1_loop.trips) (v307 : BitVec 32) (v309 : BitVec 32) (k1_hw3 : k1_chk3 k1_t1 v307 v309) (k1_t53 : Fin (k1_t53_loop v307 v309).trips) (k1_t55 : Fin (k1_t55_loop v307 v309 k1_t53).trips), ∀ a, (k1_off360 v307 v309 k1_t53 k1_t55) a + S1x1x16.size a ≤ S4x8x128.size a := fun k1_t1 v307 v309 k1_hw3 k1_t53 k1_t55 => k1_hw3.2.2.1.2.2.2.2.2.2.2.2.2.1 k1_t53 k1_t55
theorem k1_off361_inb : ∀ (k1_t1 : Fin k1_t1_loop.trips) (v307 : BitVec 32) (v309 : BitVec 32) (k1_hw3 : k1_chk3 k1_t1 v307 v309) (k1_t53 : Fin (k1_t53_loop v307 v309).trips) (k1_t55 : Fin (k1_t55_loop v307 v309 k1_t53).trips), ∀ a, (k1_off361 v307 v309 k1_t53 k1_t55) a + S1x1x16.size a ≤ S4x8x128.size a := fun k1_t1 v307 v309 k1_hw3 k1_t53 k1_t55 => k1_hw3.2.2.1.2.2.2.2.2.2.2.2.2.2.1 k1_t53 k1_t55
theorem k1_t56_ok : ∀ (k1_t1 : Fin k1_t1_loop.trips) (v307 : BitVec 32) (v309 : BitVec 32) (k1_hw3 : k1_chk3 k1_t1 v307 v309) (k1_t53 : Fin (k1_t53_loop v307 v309).trips), (k1_t56_loop v307 v309 k1_t53).OK := fun k1_t1 v307 v309 k1_hw3 k1_t53 => k1_hw3.2.2.1.2.2.2.2.2.2.2.2.2.2.2.1 k1_t53
theorem k1_off362_inb : ∀ (k1_t1 : Fin k1_t1_loop.trips) (v307 : BitVec 32) (v309 : BitVec 32) (k1_hw3 : k1_chk3 k1_t1 v307 v309) (k1_t53 : Fin (k1_t53_loop v307 v309).trips) (k1_t56 : Fin (k1_t56_loop v307 v309 k1_t53).trips), ∀ a, (k1_off362 v307 v309 k1_t53 k1_t56) a + S1x1x16.size a ≤ S4x8x128.size a := fun k1_t1 v307 v309 k1_hw3 k1_t53 k1_t56 => k1_hw3.2.2.1.2.2.2.2.2.2.2.2.2.2.2.2.1 k1_t53 k1_t56
theorem k1_off363_inb : ∀ (k1_t1 : Fin k1_t1_loop.trips) (v307 : BitVec 32) (v309 : BitVec 32) (k1_hw3 : k1_chk3 k1_t1 v307 v309) (k1_t53 : Fin (k1_t53_loop v307 v309).trips) (k1_t56 : Fin (k1_t56_loop v307 v309 k1_t53).trips), ∀ a, (k1_off363 v307 v309 k1_t53 k1_t56) a + S1x1x16.size a ≤ S4x8x128.size a := fun k1_t1 v307 v309 k1_hw3 k1_t53 k1_t56 => k1_hw3.2.2.1.2.2.2.2.2.2.2.2.2.2.2.2.2.1 k1_t53 k1_t56
theorem k1_off364_inb : ∀ (k1_t1 : Fin k1_t1_loop.trips) (v307 : BitVec 32) (v309 : BitVec 32) (k1_hw3 : k1_chk3 k1_t1 v307 v309) (k1_t53 : Fin (k1_t53_loop v307 v309).trips) (k1_t56 : Fin (k1_t56_loop v307 v309 k1_t53).trips), ∀ a, (k1_off364 v307 v309 k1_t53 k1_t56) a + S1x1x16.size a ≤ S4x8x128.size a := fun k1_t1 v307 v309 k1_hw3 k1_t53 k1_t56 => k1_hw3.2.2.1.2.2.2.2.2.2.2.2.2.2.2.2.2.2.1 k1_t53 k1_t56
theorem k1_off365_inb : ∀ (k1_t1 : Fin k1_t1_loop.trips) (v307 : BitVec 32) (v309 : BitVec 32) (k1_hw3 : k1_chk3 k1_t1 v307 v309) (k1_t53 : Fin (k1_t53_loop v307 v309).trips) (k1_t56 : Fin (k1_t56_loop v307 v309 k1_t53).trips), ∀ a, (k1_off365 v307 v309 k1_t53 k1_t56) a + S1x1x16.size a ≤ S4x8x128.size a := fun k1_t1 v307 v309 k1_hw3 k1_t53 k1_t56 => k1_hw3.2.2.1.2.2.2.2.2.2.2.2.2.2.2.2.2.2.2.1 k1_t53 k1_t56
theorem k1_off366_inb : ∀ (k1_t1 : Fin k1_t1_loop.trips) (v307 : BitVec 32) (v309 : BitVec 32) (k1_hw3 : k1_chk3 k1_t1 v307 v309) (k1_t53 : Fin (k1_t53_loop v307 v309).trips) (k1_t56 : Fin (k1_t56_loop v307 v309 k1_t53).trips), ∀ a, (k1_off366 v307 v309 k1_t53 k1_t56) a + S1x1x16.size a ≤ S4x8x128.size a := fun k1_t1 v307 v309 k1_hw3 k1_t53 k1_t56 => k1_hw3.2.2.1.2.2.2.2.2.2.2.2.2.2.2.2.2.2.2.2.1 k1_t53 k1_t56
theorem k1_off367_inb : ∀ (k1_t1 : Fin k1_t1_loop.trips) (v307 : BitVec 32) (v309 : BitVec 32) (k1_hw3 : k1_chk3 k1_t1 v307 v309) (k1_t53 : Fin (k1_t53_loop v307 v309).trips) (k1_t56 : Fin (k1_t56_loop v307 v309 k1_t53).trips), ∀ a, (k1_off367 v307 v309 k1_t53 k1_t56) a + S1x1x16.size a ≤ S4x8x128.size a := fun k1_t1 v307 v309 k1_hw3 k1_t53 k1_t56 => k1_hw3.2.2.1.2.2.2.2.2.2.2.2.2.2.2.2.2.2.2.2.2.1 k1_t53 k1_t56
theorem k1_off368_inb : ∀ (k1_t1 : Fin k1_t1_loop.trips) (v307 : BitVec 32) (v309 : BitVec 32) (k1_hw3 : k1_chk3 k1_t1 v307 v309) (k1_t53 : Fin (k1_t53_loop v307 v309).trips) (k1_t56 : Fin (k1_t56_loop v307 v309 k1_t53).trips), ∀ a, (k1_off368 v307 v309 k1_t53 k1_t56) a + S1x1x16.size a ≤ S4x8x128.size a := fun k1_t1 v307 v309 k1_hw3 k1_t53 k1_t56 => k1_hw3.2.2.1.2.2.2.2.2.2.2.2.2.2.2.2.2.2.2.2.2.2.1 k1_t53 k1_t56
theorem k1_off369_inb : ∀ (k1_t1 : Fin k1_t1_loop.trips) (v307 : BitVec 32) (v309 : BitVec 32) (k1_hw3 : k1_chk3 k1_t1 v307 v309) (k1_t53 : Fin (k1_t53_loop v307 v309).trips) (k1_t56 : Fin (k1_t56_loop v307 v309 k1_t53).trips), ∀ a, (k1_off369 v307 v309 k1_t53 k1_t56) a + S1x1x16.size a ≤ S4x8x128.size a := fun k1_t1 v307 v309 k1_hw3 k1_t53 k1_t56 => k1_hw3.2.2.1.2.2.2.2.2.2.2.2.2.2.2.2.2.2.2.2.2.2.2.1 k1_t53 k1_t56
theorem k1_t57_ok : ∀ (k1_t1 : Fin k1_t1_loop.trips) (v307 : BitVec 32) (v309 : BitVec 32) (k1_hw3 : k1_chk3 k1_t1 v307 v309) (k1_t53 : Fin (k1_t53_loop v307 v309).trips), (k1_t57_loop v307 v309 k1_t53).OK := fun k1_t1 v307 v309 k1_hw3 k1_t53 => k1_hw3.2.2.1.2.2.2.2.2.2.2.2.2.2.2.2.2.2.2.2.2.2.2.2.1 k1_t53
theorem k1_off370_inb : ∀ (k1_t1 : Fin k1_t1_loop.trips) (v307 : BitVec 32) (v309 : BitVec 32) (k1_hw3 : k1_chk3 k1_t1 v307 v309) (k1_t53 : Fin (k1_t53_loop v307 v309).trips) (k1_t57 : Fin (k1_t57_loop v307 v309 k1_t53).trips), ∀ a, (k1_off370 v307 v309 k1_t53 k1_t57) a + S1x1x16.size a ≤ S4x8x128.size a := fun k1_t1 v307 v309 k1_hw3 k1_t53 k1_t57 => k1_hw3.2.2.1.2.2.2.2.2.2.2.2.2.2.2.2.2.2.2.2.2.2.2.2.2.1 k1_t53 k1_t57
theorem k1_off371_inb : ∀ (k1_t1 : Fin k1_t1_loop.trips) (v307 : BitVec 32) (v309 : BitVec 32) (k1_hw3 : k1_chk3 k1_t1 v307 v309) (k1_t53 : Fin (k1_t53_loop v307 v309).trips) (k1_t57 : Fin (k1_t57_loop v307 v309 k1_t53).trips), ∀ a, (k1_off371 v307 v309 k1_t53 k1_t57) a + S1x1x16.size a ≤ S4x8x128.size a := fun k1_t1 v307 v309 k1_hw3 k1_t53 k1_t57 => k1_hw3.2.2.1.2.2.2.2.2.2.2.2.2.2.2.2.2.2.2.2.2.2.2.2.2.2.1 k1_t53 k1_t57
theorem k1_off372_inb : ∀ (k1_t1 : Fin k1_t1_loop.trips) (v307 : BitVec 32) (v309 : BitVec 32) (k1_hw3 : k1_chk3 k1_t1 v307 v309) (k1_t53 : Fin (k1_t53_loop v307 v309).trips) (k1_t57 : Fin (k1_t57_loop v307 v309 k1_t53).trips), ∀ a, (k1_off372 v307 v309 k1_t53 k1_t57) a + S1x1x16.size a ≤ S4x8x128.size a := fun k1_t1 v307 v309 k1_hw3 k1_t53 k1_t57 => k1_hw3.2.2.1.2.2.2.2.2.2.2.2.2.2.2.2.2.2.2.2.2.2.2.2.2.2.2.1 k1_t53 k1_t57
theorem k1_off373_inb : ∀ (k1_t1 : Fin k1_t1_loop.trips) (v307 : BitVec 32) (v309 : BitVec 32) (k1_hw3 : k1_chk3 k1_t1 v307 v309) (k1_t53 : Fin (k1_t53_loop v307 v309).trips) (k1_t57 : Fin (k1_t57_loop v307 v309 k1_t53).trips), ∀ a, (k1_off373 v307 v309 k1_t53 k1_t57) a + S1x1x16.size a ≤ S4x8x128.size a := fun k1_t1 v307 v309 k1_hw3 k1_t53 k1_t57 => k1_hw3.2.2.1.2.2.2.2.2.2.2.2.2.2.2.2.2.2.2.2.2.2.2.2.2.2.2.2.1 k1_t53 k1_t57
theorem k1_off374_inb : ∀ (k1_t1 : Fin k1_t1_loop.trips) (v307 : BitVec 32) (v309 : BitVec 32) (k1_hw3 : k1_chk3 k1_t1 v307 v309) (k1_t53 : Fin (k1_t53_loop v307 v309).trips) (k1_t57 : Fin (k1_t57_loop v307 v309 k1_t53).trips), ∀ a, (k1_off374 v307 v309 k1_t53 k1_t57) a + S1x1x16.size a ≤ S4x8x128.size a := fun k1_t1 v307 v309 k1_hw3 k1_t53 k1_t57 => k1_hw3.2.2.1.2.2.2.2.2.2.2.2.2.2.2.2.2.2.2.2.2.2.2.2.2.2.2.2.2.1 k1_t53 k1_t57
theorem k1_off375_inb : ∀ (k1_t1 : Fin k1_t1_loop.trips) (v307 : BitVec 32) (v309 : BitVec 32) (k1_hw3 : k1_chk3 k1_t1 v307 v309) (k1_t53 : Fin (k1_t53_loop v307 v309).trips) (k1_t57 : Fin (k1_t57_loop v307 v309 k1_t53).trips), ∀ a, (k1_off375 v307 v309 k1_t53 k1_t57) a + S1x1x16.size a ≤ S4x8x128.size a := fun k1_t1 v307 v309 k1_hw3 k1_t53 k1_t57 => k1_hw3.2.2.1.2.2.2.2.2.2.2.2.2.2.2.2.2.2.2.2.2.2.2.2.2.2.2.2.2.2.1 k1_t53 k1_t57
theorem k1_off376_inb : ∀ (k1_t1 : Fin k1_t1_loop.trips) (v307 : BitVec 32) (v309 : BitVec 32) (k1_hw3 : k1_chk3 k1_t1 v307 v309) (k1_t53 : Fin (k1_t53_loop v307 v309).trips) (k1_t57 : Fin (k1_t57_loop v307 v309 k1_t53).trips), ∀ a, (k1_off376 v307 v309 k1_t53 k1_t57) a + S1x1x16.size a ≤ S4x8x128.size a := fun k1_t1 v307 v309 k1_hw3 k1_t53 k1_t57 => k1_hw3.2.2.1.2.2.2.2.2.2.2.2.2.2.2.2.2.2.2.2.2.2.2.2.2.2.2.2.2.2.2.1 k1_t53 k1_t57
theorem k1_off377_inb : ∀ (k1_t1 : Fin k1_t1_loop.trips) (v307 : BitVec 32) (v309 : BitVec 32) (k1_hw3 : k1_chk3 k1_t1 v307 v309) (k1_t53 : Fin (k1_t53_loop v307 v309).trips) (k1_t57 : Fin (k1_t57_loop v307 v309 k1_t53).trips), ∀ a, (k1_off377 v307 v309 k1_t53 k1_t57) a + S1x1x16.size a ≤ S4x8x128.size a := fun k1_t1 v307 v309 k1_hw3 k1_t53 k1_t57 => k1_hw3.2.2.1.2.2.2.2.2.2.2.2.2.2.2.2.2.2.2.2.2.2.2.2.2.2.2.2.2.2.2.2.1 k1_t53 k1_t57
theorem k1_t58_ok : ∀ (k1_t1 : Fin k1_t1_loop.trips) (v307 : BitVec 32) (v309 : BitVec 32) (k1_hw3 : k1_chk3 k1_t1 v307 v309) (k1_t53 : Fin (k1_t53_loop v307 v309).trips), (k1_t58_loop v307 v309 k1_t53).OK := fun k1_t1 v307 v309 k1_hw3 k1_t53 => k1_hw3.2.2.1.2.2.2.2.2.2.2.2.2.2.2.2.2.2.2.2.2.2.2.2.2.2.2.2.2.2.2.2.2.1 k1_t53
theorem k1_off378_inb : ∀ (k1_t1 : Fin k1_t1_loop.trips) (v307 : BitVec 32) (v309 : BitVec 32) (k1_hw3 : k1_chk3 k1_t1 v307 v309) (k1_t53 : Fin (k1_t53_loop v307 v309).trips) (k1_t58 : Fin (k1_t58_loop v307 v309 k1_t53).trips), ∀ a, (k1_off378 v307 v309 k1_t53 k1_t58) a + S1x1x16.size a ≤ S4x8x128.size a := fun k1_t1 v307 v309 k1_hw3 k1_t53 k1_t58 => k1_hw3.2.2.1.2.2.2.2.2.2.2.2.2.2.2.2.2.2.2.2.2.2.2.2.2.2.2.2.2.2.2.2.2.2.1 k1_t53 k1_t58
theorem k1_off379_inb : ∀ (k1_t1 : Fin k1_t1_loop.trips) (v307 : BitVec 32) (v309 : BitVec 32) (k1_hw3 : k1_chk3 k1_t1 v307 v309) (k1_t53 : Fin (k1_t53_loop v307 v309).trips) (k1_t58 : Fin (k1_t58_loop v307 v309 k1_t53).trips), ∀ a, (k1_off379 v307 v309 k1_t53 k1_t58) a + S1x1x16.size a ≤ S4x8x128.size a := fun k1_t1 v307 v309 k1_hw3 k1_t53 k1_t58 => k1_hw3.2.2.1.2.2.2.2.2.2.2.2.2.2.2.2.2.2.2.2.2.2.2.2.2.2.2.2.2.2.2.2.2.2.2 k1_t53 k1_t58
theorem k1_off380_inb : ∀ (k1_t1 : Fin k1_t1_loop.trips) (v307 : BitVec 32) (v309 : BitVec 32) (k1_hw3 : k1_chk3 k1_t1 v307 v309) (k1_t53 : Fin (k1_t53_loop v307 v309).trips) (k1_t58 : Fin (k1_t58_loop v307 v309 k1_t53).trips), ∀ a, (k1_off380 v307 v309 k1_t53 k1_t58) a + S1x1x16.size a ≤ S4x8x128.size a := fun k1_t1 v307 v309 k1_hw3 k1_t53 k1_t58 => k1_hw3.2.2.2.1.1 k1_t53 k1_t58
theorem k1_off381_inb : ∀ (k1_t1 : Fin k1_t1_loop.trips) (v307 : BitVec 32) (v309 : BitVec 32) (k1_hw3 : k1_chk3 k1_t1 v307 v309) (k1_t53 : Fin (k1_t53_loop v307 v309).trips) (k1_t58 : Fin (k1_t58_loop v307 v309 k1_t53).trips), ∀ a, (k1_off381 v307 v309 k1_t53 k1_t58) a + S1x1x16.size a ≤ S4x8x128.size a := fun k1_t1 v307 v309 k1_hw3 k1_t53 k1_t58 => k1_hw3.2.2.2.1.2.1 k1_t53 k1_t58
theorem k1_off382_inb : ∀ (k1_t1 : Fin k1_t1_loop.trips) (v307 : BitVec 32) (v309 : BitVec 32) (k1_hw3 : k1_chk3 k1_t1 v307 v309) (k1_t53 : Fin (k1_t53_loop v307 v309).trips) (k1_t58 : Fin (k1_t58_loop v307 v309 k1_t53).trips), ∀ a, (k1_off382 v307 v309 k1_t53 k1_t58) a + S1x1x16.size a ≤ S4x8x128.size a := fun k1_t1 v307 v309 k1_hw3 k1_t53 k1_t58 => k1_hw3.2.2.2.1.2.2.1 k1_t53 k1_t58
theorem k1_off383_inb : ∀ (k1_t1 : Fin k1_t1_loop.trips) (v307 : BitVec 32) (v309 : BitVec 32) (k1_hw3 : k1_chk3 k1_t1 v307 v309) (k1_t53 : Fin (k1_t53_loop v307 v309).trips) (k1_t58 : Fin (k1_t58_loop v307 v309 k1_t53).trips), ∀ a, (k1_off383 v307 v309 k1_t53 k1_t58) a + S1x1x16.size a ≤ S4x8x128.size a := fun k1_t1 v307 v309 k1_hw3 k1_t53 k1_t58 => k1_hw3.2.2.2.1.2.2.2.1 k1_t53 k1_t58
theorem k1_off384_inb : ∀ (k1_t1 : Fin k1_t1_loop.trips) (v307 : BitVec 32) (v309 : BitVec 32) (k1_hw3 : k1_chk3 k1_t1 v307 v309) (k1_t53 : Fin (k1_t53_loop v307 v309).trips) (k1_t58 : Fin (k1_t58_loop v307 v309 k1_t53).trips), ∀ a, (k1_off384 v307 v309 k1_t53 k1_t58) a + S1x1x16.size a ≤ S4x8x128.size a := fun k1_t1 v307 v309 k1_hw3 k1_t53 k1_t58 => k1_hw3.2.2.2.1.2.2.2.2.1 k1_t53 k1_t58
theorem k1_off385_inb : ∀ (k1_t1 : Fin k1_t1_loop.trips) (v307 : BitVec 32) (v309 : BitVec 32) (k1_hw3 : k1_chk3 k1_t1 v307 v309) (k1_t53 : Fin (k1_t53_loop v307 v309).trips) (k1_t58 : Fin (k1_t58_loop v307 v309 k1_t53).trips), ∀ a, (k1_off385 v307 v309 k1_t53 k1_t58) a + S1x1x16.size a ≤ S4x8x128.size a := fun k1_t1 v307 v309 k1_hw3 k1_t53 k1_t58 => k1_hw3.2.2.2.1.2.2.2.2.2.1 k1_t53 k1_t58
theorem k1_t59_ok : ∀ (k1_t1 : Fin k1_t1_loop.trips) (v307 : BitVec 32) (v309 : BitVec 32) (k1_hw3 : k1_chk3 k1_t1 v307 v309) (k1_t53 : Fin (k1_t53_loop v307 v309).trips), (k1_t59_loop v307 v309 k1_t53).OK := fun k1_t1 v307 v309 k1_hw3 k1_t53 => k1_hw3.2.2.2.1.2.2.2.2.2.2.1 k1_t53
theorem k1_off386_inb : ∀ (k1_t1 : Fin k1_t1_loop.trips) (v307 : BitVec 32) (v309 : BitVec 32) (k1_hw3 : k1_chk3 k1_t1 v307 v309) (k1_t53 : Fin (k1_t53_loop v307 v309).trips) (k1_t59 : Fin (k1_t59_loop v307 v309 k1_t53).trips), ∀ a, (k1_off386 v307 v309 k1_t53 k1_t59) a + S1x1x16.size a ≤ S4x8x128.size a := fun k1_t1 v307 v309 k1_hw3 k1_t53 k1_t59 => k1_hw3.2.2.2.1.2.2.2.2.2.2.2.1 k1_t53 k1_t59
theorem k1_off387_inb : ∀ (k1_t1 : Fin k1_t1_loop.trips) (v307 : BitVec 32) (v309 : BitVec 32) (k1_hw3 : k1_chk3 k1_t1 v307 v309) (k1_t53 : Fin (k1_t53_loop v307 v309).trips) (k1_t59 : Fin (k1_t59_loop v307 v309 k1_t53).trips), ∀ a, (k1_off387 v307 v309 k1_t53 k1_t59) a + S1x1x16.size a ≤ S4x8x128.size a := fun k1_t1 v307 v309 k1_hw3 k1_t53 k1_t59 => k1_hw3.2.2.2.1.2.2.2.2.2.2.2.2.1 k1_t53 k1_t59
theorem k1_off388_inb : ∀ (k1_t1 : Fin k1_t1_loop.trips) (v307 : BitVec 32) (v309 : BitVec 32) (k1_hw3 : k1_chk3 k1_t1 v307 v309) (k1_t53 : Fin (k1_t53_loop v307 v309).trips) (k1_t59 : Fin (k1_t59_loop v307 v309 k1_t53).trips), ∀ a, (k1_off388 v307 v309 k1_t53 k1_t59) a + S1x1x16.size a ≤ S4x8x128.size a := fun k1_t1 v307 v309 k1_hw3 k1_t53 k1_t59 => k1_hw3.2.2.2.1.2.2.2.2.2.2.2.2.2.1 k1_t53 k1_t59
theorem k1_off389_inb : ∀ (k1_t1 : Fin k1_t1_loop.trips) (v307 : BitVec 32) (v309 : BitVec 32) (k1_hw3 : k1_chk3 k1_t1 v307 v309) (k1_t53 : Fin (k1_t53_loop v307 v309).trips) (k1_t59 : Fin (k1_t59_loop v307 v309 k1_t53).trips), ∀ a, (k1_off389 v307 v309 k1_t53 k1_t59) a + S1x1x16.size a ≤ S4x8x128.size a := fun k1_t1 v307 v309 k1_hw3 k1_t53 k1_t59 => k1_hw3.2.2.2.1.2.2.2.2.2.2.2.2.2.2.1 k1_t53 k1_t59
theorem k1_off390_inb : ∀ (k1_t1 : Fin k1_t1_loop.trips) (v307 : BitVec 32) (v309 : BitVec 32) (k1_hw3 : k1_chk3 k1_t1 v307 v309) (k1_t53 : Fin (k1_t53_loop v307 v309).trips) (k1_t59 : Fin (k1_t59_loop v307 v309 k1_t53).trips), ∀ a, (k1_off390 v307 v309 k1_t53 k1_t59) a + S1x1x16.size a ≤ S4x8x128.size a := fun k1_t1 v307 v309 k1_hw3 k1_t53 k1_t59 => k1_hw3.2.2.2.1.2.2.2.2.2.2.2.2.2.2.2.1 k1_t53 k1_t59
theorem k1_off391_inb : ∀ (k1_t1 : Fin k1_t1_loop.trips) (v307 : BitVec 32) (v309 : BitVec 32) (k1_hw3 : k1_chk3 k1_t1 v307 v309) (k1_t53 : Fin (k1_t53_loop v307 v309).trips) (k1_t59 : Fin (k1_t59_loop v307 v309 k1_t53).trips), ∀ a, (k1_off391 v307 v309 k1_t53 k1_t59) a + S1x1x16.size a ≤ S4x8x128.size a := fun k1_t1 v307 v309 k1_hw3 k1_t53 k1_t59 => k1_hw3.2.2.2.1.2.2.2.2.2.2.2.2.2.2.2.2.1 k1_t53 k1_t59
theorem k1_off392_inb : ∀ (k1_t1 : Fin k1_t1_loop.trips) (v307 : BitVec 32) (v309 : BitVec 32) (k1_hw3 : k1_chk3 k1_t1 v307 v309) (k1_t53 : Fin (k1_t53_loop v307 v309).trips) (k1_t59 : Fin (k1_t59_loop v307 v309 k1_t53).trips), ∀ a, (k1_off392 v307 v309 k1_t53 k1_t59) a + S1x1x16.size a ≤ S4x8x128.size a := fun k1_t1 v307 v309 k1_hw3 k1_t53 k1_t59 => k1_hw3.2.2.2.1.2.2.2.2.2.2.2.2.2.2.2.2.2.1 k1_t53 k1_t59
theorem k1_off393_inb : ∀ (k1_t1 : Fin k1_t1_loop.trips) (v307 : BitVec 32) (v309 : BitVec 32) (k1_hw3 : k1_chk3 k1_t1 v307 v309) (k1_t53 : Fin (k1_t53_loop v307 v309).trips) (k1_t59 : Fin (k1_t59_loop v307 v309 k1_t53).trips), ∀ a, (k1_off393 v307 v309 k1_t53 k1_t59) a + S1x1x16.size a ≤ S4x8x128.size a := fun k1_t1 v307 v309 k1_hw3 k1_t53 k1_t59 => k1_hw3.2.2.2.1.2.2.2.2.2.2.2.2.2.2.2.2.2.2.1 k1_t53 k1_t59
theorem k1_t60_ok : ∀ (k1_t1 : Fin k1_t1_loop.trips) (v307 : BitVec 32) (v309 : BitVec 32) (k1_hw3 : k1_chk3 k1_t1 v307 v309), (k1_t60_loop v307 v309).OK := fun k1_t1 v307 v309 k1_hw3 => k1_hw3.2.2.2.1.2.2.2.2.2.2.2.2.2.2.2.2.2.2.2.1
theorem k1_off394_inb : ∀ (k1_t1 : Fin k1_t1_loop.trips) (v307 : BitVec 32) (v309 : BitVec 32) (k1_hw3 : k1_chk3 k1_t1 v307 v309) (k1_t60 : Fin (k1_t60_loop v307 v309).trips), ∀ a, (k1_off394 v307 v309 k1_t60) a + S4x8x128.size a ≤ S2550x8x128.size a := fun k1_t1 v307 v309 k1_hw3 k1_t60 => k1_hw3.2.2.2.1.2.2.2.2.2.2.2.2.2.2.2.2.2.2.2.2.1 k1_t60
theorem k1_t61_ok : ∀ (k1_t1 : Fin k1_t1_loop.trips) (v307 : BitVec 32) (v309 : BitVec 32) (k1_hw3 : k1_chk3 k1_t1 v307 v309) (k1_t60 : Fin (k1_t60_loop v307 v309).trips), (k1_t61_loop v307 v309 k1_t60).OK := fun k1_t1 v307 v309 k1_hw3 k1_t60 => k1_hw3.2.2.2.1.2.2.2.2.2.2.2.2.2.2.2.2.2.2.2.2.2.1 k1_t60
theorem k1_t62_ok : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips), (k1_t62_loop v307 v309 k1_t60 k1_t61).OK := fun k1_t1 v307 v309 k1_hw3 k1_t60 k1_t61 => k1_hw3.2.2.2.1.2.2.2.2.2.2.2.2.2.2.2.2.2.2.2.2.2.2.1 k1_t60 k1_t61
theorem k1_off395_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t62 : Fin (k1_t62_loop v307 v309 k1_t60 k1_t61).trips), ∀ a, (k1_off395 v307 v309 k1_t60 k1_t61 k1_t62) a + S1x1x16.size a ≤ S4x8x128.size a := fun k1_t1 v307 v309 k1_hw3 k1_t60 k1_t61 k1_t62 => k1_hw3.2.2.2.1.2.2.2.2.2.2.2.2.2.2.2.2.2.2.2.2.2.2.2.1 k1_t60 k1_t61 k1_t62
theorem k1_off396_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t62 : Fin (k1_t62_loop v307 v309 k1_t60 k1_t61).trips), ∀ a, (k1_off396 v307 v309 k1_t60 k1_t61 k1_t62) a + S1x1x16.size a ≤ S4x8x128.size a := fun k1_t1 v307 v309 k1_hw3 k1_t60 k1_t61 k1_t62 => k1_hw3.2.2.2.1.2.2.2.2.2.2.2.2.2.2.2.2.2.2.2.2.2.2.2.2.1 k1_t60 k1_t61 k1_t62
theorem k1_off397_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t62 : Fin (k1_t62_loop v307 v309 k1_t60 k1_t61).trips), ∀ a, (k1_off397 v307 v309 k1_t60 k1_t61 k1_t62) a + S1x1x16.size a ≤ S4x8x128.size a := fun k1_t1 v307 v309 k1_hw3 k1_t60 k1_t61 k1_t62 => k1_hw3.2.2.2.1.2.2.2.2.2.2.2.2.2.2.2.2.2.2.2.2.2.2.2.2.2.1 k1_t60 k1_t61 k1_t62
theorem k1_off398_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t62 : Fin (k1_t62_loop v307 v309 k1_t60 k1_t61).trips), ∀ a, (k1_off398 v307 v309 k1_t60 k1_t61 k1_t62) a + S1x1x16.size a ≤ S4x8x128.size a := fun k1_t1 v307 v309 k1_hw3 k1_t60 k1_t61 k1_t62 => k1_hw3.2.2.2.1.2.2.2.2.2.2.2.2.2.2.2.2.2.2.2.2.2.2.2.2.2.2.1 k1_t60 k1_t61 k1_t62
theorem k1_off399_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t62 : Fin (k1_t62_loop v307 v309 k1_t60 k1_t61).trips), ∀ a, (k1_off399 v307 v309 k1_t60 k1_t61 k1_t62) a + S1x1x16.size a ≤ S4x8x128.size a := fun k1_t1 v307 v309 k1_hw3 k1_t60 k1_t61 k1_t62 => k1_hw3.2.2.2.1.2.2.2.2.2.2.2.2.2.2.2.2.2.2.2.2.2.2.2.2.2.2.2.1 k1_t60 k1_t61 k1_t62
theorem k1_off400_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t62 : Fin (k1_t62_loop v307 v309 k1_t60 k1_t61).trips), ∀ a, (k1_off400 v307 v309 k1_t60 k1_t61 k1_t62) a + S1x1x16.size a ≤ S4x8x128.size a := fun k1_t1 v307 v309 k1_hw3 k1_t60 k1_t61 k1_t62 => k1_hw3.2.2.2.1.2.2.2.2.2.2.2.2.2.2.2.2.2.2.2.2.2.2.2.2.2.2.2.2.1 k1_t60 k1_t61 k1_t62
theorem k1_off401_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t62 : Fin (k1_t62_loop v307 v309 k1_t60 k1_t61).trips), ∀ a, (k1_off401 v307 v309 k1_t60 k1_t61 k1_t62) a + S1x1x16.size a ≤ S4x8x128.size a := fun k1_t1 v307 v309 k1_hw3 k1_t60 k1_t61 k1_t62 => k1_hw3.2.2.2.1.2.2.2.2.2.2.2.2.2.2.2.2.2.2.2.2.2.2.2.2.2.2.2.2.2.1 k1_t60 k1_t61 k1_t62
theorem k1_off402_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t62 : Fin (k1_t62_loop v307 v309 k1_t60 k1_t61).trips), ∀ a, (k1_off402 v307 v309 k1_t60 k1_t61 k1_t62) a + S1x1x16.size a ≤ S4x8x128.size a := fun k1_t1 v307 v309 k1_hw3 k1_t60 k1_t61 k1_t62 => k1_hw3.2.2.2.1.2.2.2.2.2.2.2.2.2.2.2.2.2.2.2.2.2.2.2.2.2.2.2.2.2.2.1 k1_t60 k1_t61 k1_t62
theorem k1_t63_ok : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips), (k1_t63_loop v307 v309 k1_t60 k1_t61).OK := fun k1_t1 v307 v309 k1_hw3 k1_t60 k1_t61 => k1_hw3.2.2.2.1.2.2.2.2.2.2.2.2.2.2.2.2.2.2.2.2.2.2.2.2.2.2.2.2.2.2.2.1 k1_t60 k1_t61
theorem k1_off403_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t63 : Fin (k1_t63_loop v307 v309 k1_t60 k1_t61).trips), ∀ a, (k1_off403 v307 v309 k1_t60 k1_t61 k1_t63) a + S1x1x16.size a ≤ S4x8x128.size a := fun k1_t1 v307 v309 k1_hw3 k1_t60 k1_t61 k1_t63 => k1_hw3.2.2.2.1.2.2.2.2.2.2.2.2.2.2.2.2.2.2.2.2.2.2.2.2.2.2.2.2.2.2.2.2.1 k1_t60 k1_t61 k1_t63
theorem k1_off404_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t63 : Fin (k1_t63_loop v307 v309 k1_t60 k1_t61).trips), ∀ a, (k1_off404 v307 v309 k1_t60 k1_t61 k1_t63) a + S1x1x16.size a ≤ S4x8x128.size a := fun k1_t1 v307 v309 k1_hw3 k1_t60 k1_t61 k1_t63 => k1_hw3.2.2.2.1.2.2.2.2.2.2.2.2.2.2.2.2.2.2.2.2.2.2.2.2.2.2.2.2.2.2.2.2.2.1 k1_t60 k1_t61 k1_t63
theorem k1_off405_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t63 : Fin (k1_t63_loop v307 v309 k1_t60 k1_t61).trips), ∀ a, (k1_off405 v307 v309 k1_t60 k1_t61 k1_t63) a + S1x1x16.size a ≤ S4x8x128.size a := fun k1_t1 v307 v309 k1_hw3 k1_t60 k1_t61 k1_t63 => k1_hw3.2.2.2.1.2.2.2.2.2.2.2.2.2.2.2.2.2.2.2.2.2.2.2.2.2.2.2.2.2.2.2.2.2.2.1 k1_t60 k1_t61 k1_t63
theorem k1_off406_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t63 : Fin (k1_t63_loop v307 v309 k1_t60 k1_t61).trips), ∀ a, (k1_off406 v307 v309 k1_t60 k1_t61 k1_t63) a + S1x1x16.size a ≤ S4x8x128.size a := fun k1_t1 v307 v309 k1_hw3 k1_t60 k1_t61 k1_t63 => k1_hw3.2.2.2.1.2.2.2.2.2.2.2.2.2.2.2.2.2.2.2.2.2.2.2.2.2.2.2.2.2.2.2.2.2.2.2 k1_t60 k1_t61 k1_t63
theorem k1_off407_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t63 : Fin (k1_t63_loop v307 v309 k1_t60 k1_t61).trips), ∀ a, (k1_off407 v307 v309 k1_t60 k1_t61 k1_t63) a + S1x1x16.size a ≤ S4x8x128.size a := fun k1_t1 v307 v309 k1_hw3 k1_t60 k1_t61 k1_t63 => k1_hw3.2.2.2.2.1.1 k1_t60 k1_t61 k1_t63
theorem k1_off408_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t63 : Fin (k1_t63_loop v307 v309 k1_t60 k1_t61).trips), ∀ a, (k1_off408 v307 v309 k1_t60 k1_t61 k1_t63) a + S1x1x16.size a ≤ S4x8x128.size a := fun k1_t1 v307 v309 k1_hw3 k1_t60 k1_t61 k1_t63 => k1_hw3.2.2.2.2.1.2.1 k1_t60 k1_t61 k1_t63
theorem k1_off409_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t63 : Fin (k1_t63_loop v307 v309 k1_t60 k1_t61).trips), ∀ a, (k1_off409 v307 v309 k1_t60 k1_t61 k1_t63) a + S1x1x16.size a ≤ S4x8x128.size a := fun k1_t1 v307 v309 k1_hw3 k1_t60 k1_t61 k1_t63 => k1_hw3.2.2.2.2.1.2.2.1 k1_t60 k1_t61 k1_t63
theorem k1_off410_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t63 : Fin (k1_t63_loop v307 v309 k1_t60 k1_t61).trips), ∀ a, (k1_off410 v307 v309 k1_t60 k1_t61 k1_t63) a + S1x1x16.size a ≤ S4x8x128.size a := fun k1_t1 v307 v309 k1_hw3 k1_t60 k1_t61 k1_t63 => k1_hw3.2.2.2.2.1.2.2.2.1 k1_t60 k1_t61 k1_t63
theorem k1_t64_ok : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips), (k1_t64_loop v307 v309 k1_t60 k1_t61).OK := fun k1_t1 v307 v309 k1_hw3 k1_t60 k1_t61 => k1_hw3.2.2.2.2.1.2.2.2.2.1 k1_t60 k1_t61
theorem k1_off411_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t64 : Fin (k1_t64_loop v307 v309 k1_t60 k1_t61).trips), ∀ a, (k1_off411 v307 v309 k1_t60 k1_t61 k1_t64) a + S1x1x16.size a ≤ S4x8x128.size a := fun k1_t1 v307 v309 k1_hw3 k1_t60 k1_t61 k1_t64 => k1_hw3.2.2.2.2.1.2.2.2.2.2.1 k1_t60 k1_t61 k1_t64
theorem k1_off412_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t64 : Fin (k1_t64_loop v307 v309 k1_t60 k1_t61).trips), ∀ a, (k1_off412 v307 v309 k1_t60 k1_t61 k1_t64) a + S1x1x16.size a ≤ S4x8x128.size a := fun k1_t1 v307 v309 k1_hw3 k1_t60 k1_t61 k1_t64 => k1_hw3.2.2.2.2.1.2.2.2.2.2.2.1 k1_t60 k1_t61 k1_t64
theorem k1_off413_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t64 : Fin (k1_t64_loop v307 v309 k1_t60 k1_t61).trips), ∀ a, (k1_off413 v307 v309 k1_t60 k1_t61 k1_t64) a + S1x1x16.size a ≤ S4x8x128.size a := fun k1_t1 v307 v309 k1_hw3 k1_t60 k1_t61 k1_t64 => k1_hw3.2.2.2.2.1.2.2.2.2.2.2.2.1 k1_t60 k1_t61 k1_t64
theorem k1_off414_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t64 : Fin (k1_t64_loop v307 v309 k1_t60 k1_t61).trips), ∀ a, (k1_off414 v307 v309 k1_t60 k1_t61 k1_t64) a + S1x1x16.size a ≤ S4x8x128.size a := fun k1_t1 v307 v309 k1_hw3 k1_t60 k1_t61 k1_t64 => k1_hw3.2.2.2.2.1.2.2.2.2.2.2.2.2.1 k1_t60 k1_t61 k1_t64
theorem k1_off415_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t64 : Fin (k1_t64_loop v307 v309 k1_t60 k1_t61).trips), ∀ a, (k1_off415 v307 v309 k1_t60 k1_t61 k1_t64) a + S1x1x16.size a ≤ S4x8x128.size a := fun k1_t1 v307 v309 k1_hw3 k1_t60 k1_t61 k1_t64 => k1_hw3.2.2.2.2.1.2.2.2.2.2.2.2.2.2.1 k1_t60 k1_t61 k1_t64
theorem k1_off416_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t64 : Fin (k1_t64_loop v307 v309 k1_t60 k1_t61).trips), ∀ a, (k1_off416 v307 v309 k1_t60 k1_t61 k1_t64) a + S1x1x16.size a ≤ S4x8x128.size a := fun k1_t1 v307 v309 k1_hw3 k1_t60 k1_t61 k1_t64 => k1_hw3.2.2.2.2.1.2.2.2.2.2.2.2.2.2.2.1 k1_t60 k1_t61 k1_t64
theorem k1_off417_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t64 : Fin (k1_t64_loop v307 v309 k1_t60 k1_t61).trips), ∀ a, (k1_off417 v307 v309 k1_t60 k1_t61 k1_t64) a + S1x1x16.size a ≤ S4x8x128.size a := fun k1_t1 v307 v309 k1_hw3 k1_t60 k1_t61 k1_t64 => k1_hw3.2.2.2.2.1.2.2.2.2.2.2.2.2.2.2.2.1 k1_t60 k1_t61 k1_t64
theorem k1_off418_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t64 : Fin (k1_t64_loop v307 v309 k1_t60 k1_t61).trips), ∀ a, (k1_off418 v307 v309 k1_t60 k1_t61 k1_t64) a + S1x1x16.size a ≤ S4x8x128.size a := fun k1_t1 v307 v309 k1_hw3 k1_t60 k1_t61 k1_t64 => k1_hw3.2.2.2.2.1.2.2.2.2.2.2.2.2.2.2.2.2.1 k1_t60 k1_t61 k1_t64
theorem k1_t65_ok : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips), (k1_t65_loop v307 v309 k1_t60 k1_t61).OK := fun k1_t1 v307 v309 k1_hw3 k1_t60 k1_t61 => k1_hw3.2.2.2.2.1.2.2.2.2.2.2.2.2.2.2.2.2.2.1 k1_t60 k1_t61
theorem k1_off419_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t65 : Fin (k1_t65_loop v307 v309 k1_t60 k1_t61).trips), ∀ a, (k1_off419 v307 v309 k1_t60 k1_t61 k1_t65) a + S1x1x16.size a ≤ S4x8x128.size a := fun k1_t1 v307 v309 k1_hw3 k1_t60 k1_t61 k1_t65 => k1_hw3.2.2.2.2.1.2.2.2.2.2.2.2.2.2.2.2.2.2.2.1 k1_t60 k1_t61 k1_t65
theorem k1_off420_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t65 : Fin (k1_t65_loop v307 v309 k1_t60 k1_t61).trips), ∀ a, (k1_off420 v307 v309 k1_t60 k1_t61 k1_t65) a + S1x1x16.size a ≤ S4x8x128.size a := fun k1_t1 v307 v309 k1_hw3 k1_t60 k1_t61 k1_t65 => k1_hw3.2.2.2.2.1.2.2.2.2.2.2.2.2.2.2.2.2.2.2.2.1 k1_t60 k1_t61 k1_t65
theorem k1_off421_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t65 : Fin (k1_t65_loop v307 v309 k1_t60 k1_t61).trips), ∀ a, (k1_off421 v307 v309 k1_t60 k1_t61 k1_t65) a + S1x1x16.size a ≤ S4x8x128.size a := fun k1_t1 v307 v309 k1_hw3 k1_t60 k1_t61 k1_t65 => k1_hw3.2.2.2.2.1.2.2.2.2.2.2.2.2.2.2.2.2.2.2.2.2.1 k1_t60 k1_t61 k1_t65
theorem k1_off422_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t65 : Fin (k1_t65_loop v307 v309 k1_t60 k1_t61).trips), ∀ a, (k1_off422 v307 v309 k1_t60 k1_t61 k1_t65) a + S1x1x16.size a ≤ S4x8x128.size a := fun k1_t1 v307 v309 k1_hw3 k1_t60 k1_t61 k1_t65 => k1_hw3.2.2.2.2.1.2.2.2.2.2.2.2.2.2.2.2.2.2.2.2.2.2.1 k1_t60 k1_t61 k1_t65
theorem k1_off423_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t65 : Fin (k1_t65_loop v307 v309 k1_t60 k1_t61).trips), ∀ a, (k1_off423 v307 v309 k1_t60 k1_t61 k1_t65) a + S1x1x16.size a ≤ S4x8x128.size a := fun k1_t1 v307 v309 k1_hw3 k1_t60 k1_t61 k1_t65 => k1_hw3.2.2.2.2.1.2.2.2.2.2.2.2.2.2.2.2.2.2.2.2.2.2.2.1 k1_t60 k1_t61 k1_t65
theorem k1_off424_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t65 : Fin (k1_t65_loop v307 v309 k1_t60 k1_t61).trips), ∀ a, (k1_off424 v307 v309 k1_t60 k1_t61 k1_t65) a + S1x1x16.size a ≤ S4x8x128.size a := fun k1_t1 v307 v309 k1_hw3 k1_t60 k1_t61 k1_t65 => k1_hw3.2.2.2.2.1.2.2.2.2.2.2.2.2.2.2.2.2.2.2.2.2.2.2.2.1 k1_t60 k1_t61 k1_t65
theorem k1_off425_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t65 : Fin (k1_t65_loop v307 v309 k1_t60 k1_t61).trips), ∀ a, (k1_off425 v307 v309 k1_t60 k1_t61 k1_t65) a + S1x1x16.size a ≤ S4x8x128.size a := fun k1_t1 v307 v309 k1_hw3 k1_t60 k1_t61 k1_t65 => k1_hw3.2.2.2.2.1.2.2.2.2.2.2.2.2.2.2.2.2.2.2.2.2.2.2.2.2.1 k1_t60 k1_t61 k1_t65
theorem k1_off426_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t65 : Fin (k1_t65_loop v307 v309 k1_t60 k1_t61).trips), ∀ a, (k1_off426 v307 v309 k1_t60 k1_t61 k1_t65) a + S1x1x16.size a ≤ S4x8x128.size a := fun k1_t1 v307 v309 k1_hw3 k1_t60 k1_t61 k1_t65 => k1_hw3.2.2.2.2.1.2.2.2.2.2.2.2.2.2.2.2.2.2.2.2.2.2.2.2.2.2.1 k1_t60 k1_t61 k1_t65
theorem k1_t66_ok : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips), (k1_t66_loop v307 v309 k1_t60 k1_t61).OK := fun k1_t1 v307 v309 k1_hw3 k1_t60 k1_t61 => k1_hw3.2.2.2.2.1.2.2.2.2.2.2.2.2.2.2.2.2.2.2.2.2.2.2.2.2.2.2.1 k1_t60 k1_t61
theorem k1_off427_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t66 : Fin (k1_t66_loop v307 v309 k1_t60 k1_t61).trips), ∀ a, (k1_off427 v307 v309 k1_t60 k1_t61 k1_t66) a + S1x1x16.size a ≤ S4x8x128.size a := fun k1_t1 v307 v309 k1_hw3 k1_t60 k1_t61 k1_t66 => k1_hw3.2.2.2.2.1.2.2.2.2.2.2.2.2.2.2.2.2.2.2.2.2.2.2.2.2.2.2.2.1 k1_t60 k1_t61 k1_t66
theorem k1_off428_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t66 : Fin (k1_t66_loop v307 v309 k1_t60 k1_t61).trips), ∀ a, (k1_off428 v307 v309 k1_t60 k1_t61 k1_t66) a + S1x1x16.size a ≤ S4x8x128.size a := fun k1_t1 v307 v309 k1_hw3 k1_t60 k1_t61 k1_t66 => k1_hw3.2.2.2.2.1.2.2.2.2.2.2.2.2.2.2.2.2.2.2.2.2.2.2.2.2.2.2.2.2.1 k1_t60 k1_t61 k1_t66
theorem k1_off429_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t66 : Fin (k1_t66_loop v307 v309 k1_t60 k1_t61).trips), ∀ a, (k1_off429 v307 v309 k1_t60 k1_t61 k1_t66) a + S1x1x16.size a ≤ S4x8x128.size a := fun k1_t1 v307 v309 k1_hw3 k1_t60 k1_t61 k1_t66 => k1_hw3.2.2.2.2.1.2.2.2.2.2.2.2.2.2.2.2.2.2.2.2.2.2.2.2.2.2.2.2.2.2.1 k1_t60 k1_t61 k1_t66
theorem k1_off430_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t66 : Fin (k1_t66_loop v307 v309 k1_t60 k1_t61).trips), ∀ a, (k1_off430 v307 v309 k1_t60 k1_t61 k1_t66) a + S1x1x16.size a ≤ S4x8x128.size a := fun k1_t1 v307 v309 k1_hw3 k1_t60 k1_t61 k1_t66 => k1_hw3.2.2.2.2.1.2.2.2.2.2.2.2.2.2.2.2.2.2.2.2.2.2.2.2.2.2.2.2.2.2.2.1 k1_t60 k1_t61 k1_t66
theorem k1_off431_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t66 : Fin (k1_t66_loop v307 v309 k1_t60 k1_t61).trips), ∀ a, (k1_off431 v307 v309 k1_t60 k1_t61 k1_t66) a + S1x1x16.size a ≤ S4x8x128.size a := fun k1_t1 v307 v309 k1_hw3 k1_t60 k1_t61 k1_t66 => k1_hw3.2.2.2.2.1.2.2.2.2.2.2.2.2.2.2.2.2.2.2.2.2.2.2.2.2.2.2.2.2.2.2.2.1 k1_t60 k1_t61 k1_t66
theorem k1_off432_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t66 : Fin (k1_t66_loop v307 v309 k1_t60 k1_t61).trips), ∀ a, (k1_off432 v307 v309 k1_t60 k1_t61 k1_t66) a + S1x1x16.size a ≤ S4x8x128.size a := fun k1_t1 v307 v309 k1_hw3 k1_t60 k1_t61 k1_t66 => k1_hw3.2.2.2.2.1.2.2.2.2.2.2.2.2.2.2.2.2.2.2.2.2.2.2.2.2.2.2.2.2.2.2.2.2.1 k1_t60 k1_t61 k1_t66
theorem k1_off433_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t66 : Fin (k1_t66_loop v307 v309 k1_t60 k1_t61).trips), ∀ a, (k1_off433 v307 v309 k1_t60 k1_t61 k1_t66) a + S1x1x16.size a ≤ S4x8x128.size a := fun k1_t1 v307 v309 k1_hw3 k1_t60 k1_t61 k1_t66 => k1_hw3.2.2.2.2.1.2.2.2.2.2.2.2.2.2.2.2.2.2.2.2.2.2.2.2.2.2.2.2.2.2.2.2.2.2.1 k1_t60 k1_t61 k1_t66
theorem k1_off434_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t66 : Fin (k1_t66_loop v307 v309 k1_t60 k1_t61).trips), ∀ a, (k1_off434 v307 v309 k1_t60 k1_t61 k1_t66) a + S1x1x16.size a ≤ S4x8x128.size a := fun k1_t1 v307 v309 k1_hw3 k1_t60 k1_t61 k1_t66 => k1_hw3.2.2.2.2.1.2.2.2.2.2.2.2.2.2.2.2.2.2.2.2.2.2.2.2.2.2.2.2.2.2.2.2.2.2.2.1 k1_t60 k1_t61 k1_t66
theorem k1_t67_ok : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips), (k1_t67_loop v307 v309 k1_t60 k1_t61).OK := fun k1_t1 v307 v309 k1_hw3 k1_t60 k1_t61 => k1_hw3.2.2.2.2.1.2.2.2.2.2.2.2.2.2.2.2.2.2.2.2.2.2.2.2.2.2.2.2.2.2.2.2.2.2.2.2 k1_t60 k1_t61
theorem k1_off435_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t67 : Fin (k1_t67_loop v307 v309 k1_t60 k1_t61).trips), ∀ a, (k1_off435 v307 v309 k1_t60 k1_t61 k1_t67) a + S1x1x16.size a ≤ S4x8x128.size a := fun k1_t1 v307 v309 k1_hw3 k1_t60 k1_t61 k1_t67 => k1_hw3.2.2.2.2.2.1.1 k1_t60 k1_t61 k1_t67
theorem k1_off436_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t67 : Fin (k1_t67_loop v307 v309 k1_t60 k1_t61).trips), ∀ a, (k1_off436 v307 v309 k1_t60 k1_t61 k1_t67) a + S1x1x16.size a ≤ S4x8x128.size a := fun k1_t1 v307 v309 k1_hw3 k1_t60 k1_t61 k1_t67 => k1_hw3.2.2.2.2.2.1.2.1 k1_t60 k1_t61 k1_t67
theorem k1_off437_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t67 : Fin (k1_t67_loop v307 v309 k1_t60 k1_t61).trips), ∀ a, (k1_off437 v307 v309 k1_t60 k1_t61 k1_t67) a + S1x1x16.size a ≤ S4x8x128.size a := fun k1_t1 v307 v309 k1_hw3 k1_t60 k1_t61 k1_t67 => k1_hw3.2.2.2.2.2.1.2.2.1 k1_t60 k1_t61 k1_t67
theorem k1_off438_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t67 : Fin (k1_t67_loop v307 v309 k1_t60 k1_t61).trips), ∀ a, (k1_off438 v307 v309 k1_t60 k1_t61 k1_t67) a + S1x1x16.size a ≤ S4x8x128.size a := fun k1_t1 v307 v309 k1_hw3 k1_t60 k1_t61 k1_t67 => k1_hw3.2.2.2.2.2.1.2.2.2.1 k1_t60 k1_t61 k1_t67
theorem k1_off439_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t67 : Fin (k1_t67_loop v307 v309 k1_t60 k1_t61).trips), ∀ a, (k1_off439 v307 v309 k1_t60 k1_t61 k1_t67) a + S1x1x16.size a ≤ S4x8x128.size a := fun k1_t1 v307 v309 k1_hw3 k1_t60 k1_t61 k1_t67 => k1_hw3.2.2.2.2.2.1.2.2.2.2.1 k1_t60 k1_t61 k1_t67
theorem k1_off440_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t67 : Fin (k1_t67_loop v307 v309 k1_t60 k1_t61).trips), ∀ a, (k1_off440 v307 v309 k1_t60 k1_t61 k1_t67) a + S1x1x16.size a ≤ S4x8x128.size a := fun k1_t1 v307 v309 k1_hw3 k1_t60 k1_t61 k1_t67 => k1_hw3.2.2.2.2.2.1.2.2.2.2.2.1 k1_t60 k1_t61 k1_t67
theorem k1_off441_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t67 : Fin (k1_t67_loop v307 v309 k1_t60 k1_t61).trips), ∀ a, (k1_off441 v307 v309 k1_t60 k1_t61 k1_t67) a + S1x1x16.size a ≤ S4x8x128.size a := fun k1_t1 v307 v309 k1_hw3 k1_t60 k1_t61 k1_t67 => k1_hw3.2.2.2.2.2.1.2.2.2.2.2.2.1 k1_t60 k1_t61 k1_t67
theorem k1_off442_inb : ∀ (k1_t1 : Fin k1_t1_loop.trips) (v307 : BitVec 32) (v309 : BitVec 32) (k1_hw3 : k1_chk3 k1_t1 v307 v309) (k1_t60 : Fin (k1_t60_loop v307 v309).trips) (k1_t61 : Fin (k1_t61_loop v307 v309 k1_t60).trips) (k1_t67 : Fin (k1_t67_loop v307 v309 k1_t60 k1_t61).trips), ∀ a, (k1_off442 v307 v309 k1_t60 k1_t61 k1_t67) a + S1x1x16.size a ≤ S4x8x128.size a := fun k1_t1 v307 v309 k1_hw3 k1_t60 k1_t61 k1_t67 => k1_hw3.2.2.2.2.2.1.2.2.2.2.2.2.2.1 k1_t60 k1_t61 k1_t67
theorem k1_t68_ok : ∀ (k1_t1 : Fin k1_t1_loop.trips) (v307 : BitVec 32) (v309 : BitVec 32) (k1_hw3 : k1_chk3 k1_t1 v307 v309) (k1_t60 : Fin (k1_t60_loop v307 v309).trips), (k1_t68_loop v307 v309 k1_t60).OK := fun k1_t1 v307 v309 k1_hw3 k1_t60 => k1_hw3.2.2.2.2.2.1.2.2.2.2.2.2.2.2.1 k1_t60
theorem k1_t69_ok : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips), (k1_t69_loop v307 v309 k1_t60 k1_t68).OK := fun k1_t1 v307 v309 k1_hw3 k1_t60 k1_t68 => k1_hw3.2.2.2.2.2.1.2.2.2.2.2.2.2.2.2.1 k1_t60 k1_t68
theorem k1_off443_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t69 : Fin (k1_t69_loop v307 v309 k1_t60 k1_t68).trips), ∀ a, (k1_off443 v307 v309 k1_t60 k1_t68 k1_t69) a + S1x1x16.size a ≤ S4x8x128.size a := fun k1_t1 v307 v309 k1_hw3 k1_t60 k1_t68 k1_t69 => k1_hw3.2.2.2.2.2.1.2.2.2.2.2.2.2.2.2.2.1 k1_t60 k1_t68 k1_t69
theorem k1_off444_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t69 : Fin (k1_t69_loop v307 v309 k1_t60 k1_t68).trips), ∀ a, (k1_off444 v307 v309 k1_t60 k1_t68 k1_t69) a + S1x1x16.size a ≤ S4x8x128.size a := fun k1_t1 v307 v309 k1_hw3 k1_t60 k1_t68 k1_t69 => k1_hw3.2.2.2.2.2.1.2.2.2.2.2.2.2.2.2.2.2.1 k1_t60 k1_t68 k1_t69
theorem k1_off445_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t69 : Fin (k1_t69_loop v307 v309 k1_t60 k1_t68).trips), ∀ a, (k1_off445 v307 v309 k1_t60 k1_t68 k1_t69) a + S1x1x16.size a ≤ S4x8x128.size a := fun k1_t1 v307 v309 k1_hw3 k1_t60 k1_t68 k1_t69 => k1_hw3.2.2.2.2.2.1.2.2.2.2.2.2.2.2.2.2.2.2.1 k1_t60 k1_t68 k1_t69
theorem k1_off446_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t69 : Fin (k1_t69_loop v307 v309 k1_t60 k1_t68).trips), ∀ a, (k1_off446 v307 v309 k1_t60 k1_t68 k1_t69) a + S1x1x16.size a ≤ S4x8x128.size a := fun k1_t1 v307 v309 k1_hw3 k1_t60 k1_t68 k1_t69 => k1_hw3.2.2.2.2.2.1.2.2.2.2.2.2.2.2.2.2.2.2.2.1 k1_t60 k1_t68 k1_t69
theorem k1_off447_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t69 : Fin (k1_t69_loop v307 v309 k1_t60 k1_t68).trips), ∀ a, (k1_off447 v307 v309 k1_t60 k1_t68 k1_t69) a + S1x1x16.size a ≤ S4x8x128.size a := fun k1_t1 v307 v309 k1_hw3 k1_t60 k1_t68 k1_t69 => k1_hw3.2.2.2.2.2.1.2.2.2.2.2.2.2.2.2.2.2.2.2.2.1 k1_t60 k1_t68 k1_t69
theorem k1_off448_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t69 : Fin (k1_t69_loop v307 v309 k1_t60 k1_t68).trips), ∀ a, (k1_off448 v307 v309 k1_t60 k1_t68 k1_t69) a + S1x1x16.size a ≤ S4x8x128.size a := fun k1_t1 v307 v309 k1_hw3 k1_t60 k1_t68 k1_t69 => k1_hw3.2.2.2.2.2.1.2.2.2.2.2.2.2.2.2.2.2.2.2.2.2.1 k1_t60 k1_t68 k1_t69
theorem k1_off449_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t69 : Fin (k1_t69_loop v307 v309 k1_t60 k1_t68).trips), ∀ a, (k1_off449 v307 v309 k1_t60 k1_t68 k1_t69) a + S1x1x16.size a ≤ S4x8x128.size a := fun k1_t1 v307 v309 k1_hw3 k1_t60 k1_t68 k1_t69 => k1_hw3.2.2.2.2.2.1.2.2.2.2.2.2.2.2.2.2.2.2.2.2.2.2.1 k1_t60 k1_t68 k1_t69
theorem k1_off450_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t69 : Fin (k1_t69_loop v307 v309 k1_t60 k1_t68).trips), ∀ a, (k1_off450 v307 v309 k1_t60 k1_t68 k1_t69) a + S1x1x16.size a ≤ S4x8x128.size a := fun k1_t1 v307 v309 k1_hw3 k1_t60 k1_t68 k1_t69 => k1_hw3.2.2.2.2.2.1.2.2.2.2.2.2.2.2.2.2.2.2.2.2.2.2.2.1 k1_t60 k1_t68 k1_t69
theorem k1_t70_ok : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips), (k1_t70_loop v307 v309 k1_t60 k1_t68).OK := fun k1_t1 v307 v309 k1_hw3 k1_t60 k1_t68 => k1_hw3.2.2.2.2.2.1.2.2.2.2.2.2.2.2.2.2.2.2.2.2.2.2.2.2.1 k1_t60 k1_t68
theorem k1_off451_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t70 : Fin (k1_t70_loop v307 v309 k1_t60 k1_t68).trips), ∀ a, (k1_off451 v307 v309 k1_t60 k1_t68 k1_t70) a + S1x1x16.size a ≤ S4x8x128.size a := fun k1_t1 v307 v309 k1_hw3 k1_t60 k1_t68 k1_t70 => k1_hw3.2.2.2.2.2.1.2.2.2.2.2.2.2.2.2.2.2.2.2.2.2.2.2.2.2.1 k1_t60 k1_t68 k1_t70
theorem k1_off452_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t70 : Fin (k1_t70_loop v307 v309 k1_t60 k1_t68).trips), ∀ a, (k1_off452 v307 v309 k1_t60 k1_t68 k1_t70) a + S1x1x16.size a ≤ S4x8x128.size a := fun k1_t1 v307 v309 k1_hw3 k1_t60 k1_t68 k1_t70 => k1_hw3.2.2.2.2.2.1.2.2.2.2.2.2.2.2.2.2.2.2.2.2.2.2.2.2.2.2.1 k1_t60 k1_t68 k1_t70
theorem k1_off453_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t70 : Fin (k1_t70_loop v307 v309 k1_t60 k1_t68).trips), ∀ a, (k1_off453 v307 v309 k1_t60 k1_t68 k1_t70) a + S1x1x16.size a ≤ S4x8x128.size a := fun k1_t1 v307 v309 k1_hw3 k1_t60 k1_t68 k1_t70 => k1_hw3.2.2.2.2.2.1.2.2.2.2.2.2.2.2.2.2.2.2.2.2.2.2.2.2.2.2.2.1 k1_t60 k1_t68 k1_t70
theorem k1_off454_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t70 : Fin (k1_t70_loop v307 v309 k1_t60 k1_t68).trips), ∀ a, (k1_off454 v307 v309 k1_t60 k1_t68 k1_t70) a + S1x1x16.size a ≤ S4x8x128.size a := fun k1_t1 v307 v309 k1_hw3 k1_t60 k1_t68 k1_t70 => k1_hw3.2.2.2.2.2.1.2.2.2.2.2.2.2.2.2.2.2.2.2.2.2.2.2.2.2.2.2.2.1 k1_t60 k1_t68 k1_t70
theorem k1_off455_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t70 : Fin (k1_t70_loop v307 v309 k1_t60 k1_t68).trips), ∀ a, (k1_off455 v307 v309 k1_t60 k1_t68 k1_t70) a + S1x1x16.size a ≤ S4x8x128.size a := fun k1_t1 v307 v309 k1_hw3 k1_t60 k1_t68 k1_t70 => k1_hw3.2.2.2.2.2.1.2.2.2.2.2.2.2.2.2.2.2.2.2.2.2.2.2.2.2.2.2.2.2.1 k1_t60 k1_t68 k1_t70
theorem k1_off456_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t70 : Fin (k1_t70_loop v307 v309 k1_t60 k1_t68).trips), ∀ a, (k1_off456 v307 v309 k1_t60 k1_t68 k1_t70) a + S1x1x16.size a ≤ S4x8x128.size a := fun k1_t1 v307 v309 k1_hw3 k1_t60 k1_t68 k1_t70 => k1_hw3.2.2.2.2.2.1.2.2.2.2.2.2.2.2.2.2.2.2.2.2.2.2.2.2.2.2.2.2.2.2.1 k1_t60 k1_t68 k1_t70
theorem k1_off457_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t70 : Fin (k1_t70_loop v307 v309 k1_t60 k1_t68).trips), ∀ a, (k1_off457 v307 v309 k1_t60 k1_t68 k1_t70) a + S1x1x16.size a ≤ S4x8x128.size a := fun k1_t1 v307 v309 k1_hw3 k1_t60 k1_t68 k1_t70 => k1_hw3.2.2.2.2.2.1.2.2.2.2.2.2.2.2.2.2.2.2.2.2.2.2.2.2.2.2.2.2.2.2.2.1 k1_t60 k1_t68 k1_t70
theorem k1_off458_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t70 : Fin (k1_t70_loop v307 v309 k1_t60 k1_t68).trips), ∀ a, (k1_off458 v307 v309 k1_t60 k1_t68 k1_t70) a + S1x1x16.size a ≤ S4x8x128.size a := fun k1_t1 v307 v309 k1_hw3 k1_t60 k1_t68 k1_t70 => k1_hw3.2.2.2.2.2.1.2.2.2.2.2.2.2.2.2.2.2.2.2.2.2.2.2.2.2.2.2.2.2.2.2.2.1 k1_t60 k1_t68 k1_t70
theorem k1_t71_ok : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips), (k1_t71_loop v307 v309 k1_t60 k1_t68).OK := fun k1_t1 v307 v309 k1_hw3 k1_t60 k1_t68 => k1_hw3.2.2.2.2.2.1.2.2.2.2.2.2.2.2.2.2.2.2.2.2.2.2.2.2.2.2.2.2.2.2.2.2.2.1 k1_t60 k1_t68
theorem k1_off459_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t71 : Fin (k1_t71_loop v307 v309 k1_t60 k1_t68).trips), ∀ a, (k1_off459 v307 v309 k1_t60 k1_t68 k1_t71) a + S1x1x16.size a ≤ S4x8x128.size a := fun k1_t1 v307 v309 k1_hw3 k1_t60 k1_t68 k1_t71 => k1_hw3.2.2.2.2.2.1.2.2.2.2.2.2.2.2.2.2.2.2.2.2.2.2.2.2.2.2.2.2.2.2.2.2.2.2.1 k1_t60 k1_t68 k1_t71
theorem k1_off460_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t71 : Fin (k1_t71_loop v307 v309 k1_t60 k1_t68).trips), ∀ a, (k1_off460 v307 v309 k1_t60 k1_t68 k1_t71) a + S1x1x16.size a ≤ S4x8x128.size a := fun k1_t1 v307 v309 k1_hw3 k1_t60 k1_t68 k1_t71 => k1_hw3.2.2.2.2.2.1.2.2.2.2.2.2.2.2.2.2.2.2.2.2.2.2.2.2.2.2.2.2.2.2.2.2.2.2.2.1 k1_t60 k1_t68 k1_t71
theorem k1_off461_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t71 : Fin (k1_t71_loop v307 v309 k1_t60 k1_t68).trips), ∀ a, (k1_off461 v307 v309 k1_t60 k1_t68 k1_t71) a + S1x1x16.size a ≤ S4x8x128.size a := fun k1_t1 v307 v309 k1_hw3 k1_t60 k1_t68 k1_t71 => k1_hw3.2.2.2.2.2.1.2.2.2.2.2.2.2.2.2.2.2.2.2.2.2.2.2.2.2.2.2.2.2.2.2.2.2.2.2.2.1 k1_t60 k1_t68 k1_t71
theorem k1_off462_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t71 : Fin (k1_t71_loop v307 v309 k1_t60 k1_t68).trips), ∀ a, (k1_off462 v307 v309 k1_t60 k1_t68 k1_t71) a + S1x1x16.size a ≤ S4x8x128.size a := fun k1_t1 v307 v309 k1_hw3 k1_t60 k1_t68 k1_t71 => k1_hw3.2.2.2.2.2.1.2.2.2.2.2.2.2.2.2.2.2.2.2.2.2.2.2.2.2.2.2.2.2.2.2.2.2.2.2.2.2 k1_t60 k1_t68 k1_t71
theorem k1_off463_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t71 : Fin (k1_t71_loop v307 v309 k1_t60 k1_t68).trips), ∀ a, (k1_off463 v307 v309 k1_t60 k1_t68 k1_t71) a + S1x1x16.size a ≤ S4x8x128.size a := fun k1_t1 v307 v309 k1_hw3 k1_t60 k1_t68 k1_t71 => k1_hw3.2.2.2.2.2.2.1.1 k1_t60 k1_t68 k1_t71
theorem k1_off464_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t71 : Fin (k1_t71_loop v307 v309 k1_t60 k1_t68).trips), ∀ a, (k1_off464 v307 v309 k1_t60 k1_t68 k1_t71) a + S1x1x16.size a ≤ S4x8x128.size a := fun k1_t1 v307 v309 k1_hw3 k1_t60 k1_t68 k1_t71 => k1_hw3.2.2.2.2.2.2.1.2.1 k1_t60 k1_t68 k1_t71
theorem k1_off465_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t71 : Fin (k1_t71_loop v307 v309 k1_t60 k1_t68).trips), ∀ a, (k1_off465 v307 v309 k1_t60 k1_t68 k1_t71) a + S1x1x16.size a ≤ S4x8x128.size a := fun k1_t1 v307 v309 k1_hw3 k1_t60 k1_t68 k1_t71 => k1_hw3.2.2.2.2.2.2.1.2.2.1 k1_t60 k1_t68 k1_t71
theorem k1_off466_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t71 : Fin (k1_t71_loop v307 v309 k1_t60 k1_t68).trips), ∀ a, (k1_off466 v307 v309 k1_t60 k1_t68 k1_t71) a + S1x1x16.size a ≤ S4x8x128.size a := fun k1_t1 v307 v309 k1_hw3 k1_t60 k1_t68 k1_t71 => k1_hw3.2.2.2.2.2.2.1.2.2.2.1 k1_t60 k1_t68 k1_t71
theorem k1_t72_ok : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips), (k1_t72_loop v307 v309 k1_t60 k1_t68).OK := fun k1_t1 v307 v309 k1_hw3 k1_t60 k1_t68 => k1_hw3.2.2.2.2.2.2.1.2.2.2.2.1 k1_t60 k1_t68
theorem k1_off467_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t72 : Fin (k1_t72_loop v307 v309 k1_t60 k1_t68).trips), ∀ a, (k1_off467 v307 v309 k1_t60 k1_t68 k1_t72) a + S1x1x16.size a ≤ S4x8x128.size a := fun k1_t1 v307 v309 k1_hw3 k1_t60 k1_t68 k1_t72 => k1_hw3.2.2.2.2.2.2.1.2.2.2.2.2.1 k1_t60 k1_t68 k1_t72
theorem k1_off468_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t72 : Fin (k1_t72_loop v307 v309 k1_t60 k1_t68).trips), ∀ a, (k1_off468 v307 v309 k1_t60 k1_t68 k1_t72) a + S1x1x16.size a ≤ S4x8x128.size a := fun k1_t1 v307 v309 k1_hw3 k1_t60 k1_t68 k1_t72 => k1_hw3.2.2.2.2.2.2.1.2.2.2.2.2.2.1 k1_t60 k1_t68 k1_t72
theorem k1_off469_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t72 : Fin (k1_t72_loop v307 v309 k1_t60 k1_t68).trips), ∀ a, (k1_off469 v307 v309 k1_t60 k1_t68 k1_t72) a + S1x1x16.size a ≤ S4x8x128.size a := fun k1_t1 v307 v309 k1_hw3 k1_t60 k1_t68 k1_t72 => k1_hw3.2.2.2.2.2.2.1.2.2.2.2.2.2.2.1 k1_t60 k1_t68 k1_t72
theorem k1_off470_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t72 : Fin (k1_t72_loop v307 v309 k1_t60 k1_t68).trips), ∀ a, (k1_off470 v307 v309 k1_t60 k1_t68 k1_t72) a + S1x1x16.size a ≤ S4x8x128.size a := fun k1_t1 v307 v309 k1_hw3 k1_t60 k1_t68 k1_t72 => k1_hw3.2.2.2.2.2.2.1.2.2.2.2.2.2.2.2.1 k1_t60 k1_t68 k1_t72
theorem k1_off471_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t72 : Fin (k1_t72_loop v307 v309 k1_t60 k1_t68).trips), ∀ a, (k1_off471 v307 v309 k1_t60 k1_t68 k1_t72) a + S1x1x16.size a ≤ S4x8x128.size a := fun k1_t1 v307 v309 k1_hw3 k1_t60 k1_t68 k1_t72 => k1_hw3.2.2.2.2.2.2.1.2.2.2.2.2.2.2.2.2.1 k1_t60 k1_t68 k1_t72
theorem k1_off472_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t72 : Fin (k1_t72_loop v307 v309 k1_t60 k1_t68).trips), ∀ a, (k1_off472 v307 v309 k1_t60 k1_t68 k1_t72) a + S1x1x16.size a ≤ S4x8x128.size a := fun k1_t1 v307 v309 k1_hw3 k1_t60 k1_t68 k1_t72 => k1_hw3.2.2.2.2.2.2.1.2.2.2.2.2.2.2.2.2.2.1 k1_t60 k1_t68 k1_t72
theorem k1_off473_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t72 : Fin (k1_t72_loop v307 v309 k1_t60 k1_t68).trips), ∀ a, (k1_off473 v307 v309 k1_t60 k1_t68 k1_t72) a + S1x1x16.size a ≤ S4x8x128.size a := fun k1_t1 v307 v309 k1_hw3 k1_t60 k1_t68 k1_t72 => k1_hw3.2.2.2.2.2.2.1.2.2.2.2.2.2.2.2.2.2.2.1 k1_t60 k1_t68 k1_t72
theorem k1_off474_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t72 : Fin (k1_t72_loop v307 v309 k1_t60 k1_t68).trips), ∀ a, (k1_off474 v307 v309 k1_t60 k1_t68 k1_t72) a + S1x1x16.size a ≤ S4x8x128.size a := fun k1_t1 v307 v309 k1_hw3 k1_t60 k1_t68 k1_t72 => k1_hw3.2.2.2.2.2.2.1.2.2.2.2.2.2.2.2.2.2.2.2.1 k1_t60 k1_t68 k1_t72
theorem k1_t73_ok : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips), (k1_t73_loop v307 v309 k1_t60 k1_t68).OK := fun k1_t1 v307 v309 k1_hw3 k1_t60 k1_t68 => k1_hw3.2.2.2.2.2.2.1.2.2.2.2.2.2.2.2.2.2.2.2.2.1 k1_t60 k1_t68
theorem k1_off475_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t73 : Fin (k1_t73_loop v307 v309 k1_t60 k1_t68).trips), ∀ a, (k1_off475 v307 v309 k1_t60 k1_t68 k1_t73) a + S1x1x16.size a ≤ S4x8x128.size a := fun k1_t1 v307 v309 k1_hw3 k1_t60 k1_t68 k1_t73 => k1_hw3.2.2.2.2.2.2.1.2.2.2.2.2.2.2.2.2.2.2.2.2.2.1 k1_t60 k1_t68 k1_t73
theorem k1_off476_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t73 : Fin (k1_t73_loop v307 v309 k1_t60 k1_t68).trips), ∀ a, (k1_off476 v307 v309 k1_t60 k1_t68 k1_t73) a + S1x1x16.size a ≤ S4x8x128.size a := fun k1_t1 v307 v309 k1_hw3 k1_t60 k1_t68 k1_t73 => k1_hw3.2.2.2.2.2.2.1.2.2.2.2.2.2.2.2.2.2.2.2.2.2.2.1 k1_t60 k1_t68 k1_t73
theorem k1_off477_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t73 : Fin (k1_t73_loop v307 v309 k1_t60 k1_t68).trips), ∀ a, (k1_off477 v307 v309 k1_t60 k1_t68 k1_t73) a + S1x1x16.size a ≤ S4x8x128.size a := fun k1_t1 v307 v309 k1_hw3 k1_t60 k1_t68 k1_t73 => k1_hw3.2.2.2.2.2.2.1.2.2.2.2.2.2.2.2.2.2.2.2.2.2.2.2.1 k1_t60 k1_t68 k1_t73
theorem k1_off478_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t73 : Fin (k1_t73_loop v307 v309 k1_t60 k1_t68).trips), ∀ a, (k1_off478 v307 v309 k1_t60 k1_t68 k1_t73) a + S1x1x16.size a ≤ S4x8x128.size a := fun k1_t1 v307 v309 k1_hw3 k1_t60 k1_t68 k1_t73 => k1_hw3.2.2.2.2.2.2.1.2.2.2.2.2.2.2.2.2.2.2.2.2.2.2.2.2.1 k1_t60 k1_t68 k1_t73
theorem k1_off479_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t73 : Fin (k1_t73_loop v307 v309 k1_t60 k1_t68).trips), ∀ a, (k1_off479 v307 v309 k1_t60 k1_t68 k1_t73) a + S1x1x16.size a ≤ S4x8x128.size a := fun k1_t1 v307 v309 k1_hw3 k1_t60 k1_t68 k1_t73 => k1_hw3.2.2.2.2.2.2.1.2.2.2.2.2.2.2.2.2.2.2.2.2.2.2.2.2.2.1 k1_t60 k1_t68 k1_t73
theorem k1_off480_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t73 : Fin (k1_t73_loop v307 v309 k1_t60 k1_t68).trips), ∀ a, (k1_off480 v307 v309 k1_t60 k1_t68 k1_t73) a + S1x1x16.size a ≤ S4x8x128.size a := fun k1_t1 v307 v309 k1_hw3 k1_t60 k1_t68 k1_t73 => k1_hw3.2.2.2.2.2.2.1.2.2.2.2.2.2.2.2.2.2.2.2.2.2.2.2.2.2.2.1 k1_t60 k1_t68 k1_t73
theorem k1_off481_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t73 : Fin (k1_t73_loop v307 v309 k1_t60 k1_t68).trips), ∀ a, (k1_off481 v307 v309 k1_t60 k1_t68 k1_t73) a + S1x1x16.size a ≤ S4x8x128.size a := fun k1_t1 v307 v309 k1_hw3 k1_t60 k1_t68 k1_t73 => k1_hw3.2.2.2.2.2.2.1.2.2.2.2.2.2.2.2.2.2.2.2.2.2.2.2.2.2.2.2.1 k1_t60 k1_t68 k1_t73
theorem k1_off482_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t73 : Fin (k1_t73_loop v307 v309 k1_t60 k1_t68).trips), ∀ a, (k1_off482 v307 v309 k1_t60 k1_t68 k1_t73) a + S1x1x16.size a ≤ S4x8x128.size a := fun k1_t1 v307 v309 k1_hw3 k1_t60 k1_t68 k1_t73 => k1_hw3.2.2.2.2.2.2.1.2.2.2.2.2.2.2.2.2.2.2.2.2.2.2.2.2.2.2.2.2.1 k1_t60 k1_t68 k1_t73
theorem k1_t74_ok : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips), (k1_t74_loop v307 v309 k1_t60 k1_t68).OK := fun k1_t1 v307 v309 k1_hw3 k1_t60 k1_t68 => k1_hw3.2.2.2.2.2.2.1.2.2.2.2.2.2.2.2.2.2.2.2.2.2.2.2.2.2.2.2.2.2.1 k1_t60 k1_t68
theorem k1_off483_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t74 : Fin (k1_t74_loop v307 v309 k1_t60 k1_t68).trips), ∀ a, (k1_off483 v307 v309 k1_t60 k1_t68 k1_t74) a + S1x1x16.size a ≤ S4x8x128.size a := fun k1_t1 v307 v309 k1_hw3 k1_t60 k1_t68 k1_t74 => k1_hw3.2.2.2.2.2.2.1.2.2.2.2.2.2.2.2.2.2.2.2.2.2.2.2.2.2.2.2.2.2.2.1 k1_t60 k1_t68 k1_t74
theorem k1_off484_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t74 : Fin (k1_t74_loop v307 v309 k1_t60 k1_t68).trips), ∀ a, (k1_off484 v307 v309 k1_t60 k1_t68 k1_t74) a + S1x1x16.size a ≤ S4x8x128.size a := fun k1_t1 v307 v309 k1_hw3 k1_t60 k1_t68 k1_t74 => k1_hw3.2.2.2.2.2.2.1.2.2.2.2.2.2.2.2.2.2.2.2.2.2.2.2.2.2.2.2.2.2.2.2.1 k1_t60 k1_t68 k1_t74
theorem k1_off485_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t74 : Fin (k1_t74_loop v307 v309 k1_t60 k1_t68).trips), ∀ a, (k1_off485 v307 v309 k1_t60 k1_t68 k1_t74) a + S1x1x16.size a ≤ S4x8x128.size a := fun k1_t1 v307 v309 k1_hw3 k1_t60 k1_t68 k1_t74 => k1_hw3.2.2.2.2.2.2.1.2.2.2.2.2.2.2.2.2.2.2.2.2.2.2.2.2.2.2.2.2.2.2.2.2.1 k1_t60 k1_t68 k1_t74
theorem k1_off486_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t74 : Fin (k1_t74_loop v307 v309 k1_t60 k1_t68).trips), ∀ a, (k1_off486 v307 v309 k1_t60 k1_t68 k1_t74) a + S1x1x16.size a ≤ S4x8x128.size a := fun k1_t1 v307 v309 k1_hw3 k1_t60 k1_t68 k1_t74 => k1_hw3.2.2.2.2.2.2.1.2.2.2.2.2.2.2.2.2.2.2.2.2.2.2.2.2.2.2.2.2.2.2.2.2.2.1 k1_t60 k1_t68 k1_t74
theorem k1_off487_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t74 : Fin (k1_t74_loop v307 v309 k1_t60 k1_t68).trips), ∀ a, (k1_off487 v307 v309 k1_t60 k1_t68 k1_t74) a + S1x1x16.size a ≤ S4x8x128.size a := fun k1_t1 v307 v309 k1_hw3 k1_t60 k1_t68 k1_t74 => k1_hw3.2.2.2.2.2.2.1.2.2.2.2.2.2.2.2.2.2.2.2.2.2.2.2.2.2.2.2.2.2.2.2.2.2.2.1 k1_t60 k1_t68 k1_t74
theorem k1_off488_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t74 : Fin (k1_t74_loop v307 v309 k1_t60 k1_t68).trips), ∀ a, (k1_off488 v307 v309 k1_t60 k1_t68 k1_t74) a + S1x1x16.size a ≤ S4x8x128.size a := fun k1_t1 v307 v309 k1_hw3 k1_t60 k1_t68 k1_t74 => k1_hw3.2.2.2.2.2.2.1.2.2.2.2.2.2.2.2.2.2.2.2.2.2.2.2.2.2.2.2.2.2.2.2.2.2.2.2.1 k1_t60 k1_t68 k1_t74
theorem k1_off489_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t74 : Fin (k1_t74_loop v307 v309 k1_t60 k1_t68).trips), ∀ a, (k1_off489 v307 v309 k1_t60 k1_t68 k1_t74) a + S1x1x16.size a ≤ S4x8x128.size a := fun k1_t1 v307 v309 k1_hw3 k1_t60 k1_t68 k1_t74 => k1_hw3.2.2.2.2.2.2.1.2.2.2.2.2.2.2.2.2.2.2.2.2.2.2.2.2.2.2.2.2.2.2.2.2.2.2.2.2.1 k1_t60 k1_t68 k1_t74
theorem k1_off490_inb : ∀ (k1_t1 : Fin k1_t1_loop.trips) (v307 : BitVec 32) (v309 : BitVec 32) (k1_hw3 : k1_chk3 k1_t1 v307 v309) (k1_t60 : Fin (k1_t60_loop v307 v309).trips) (k1_t68 : Fin (k1_t68_loop v307 v309 k1_t60).trips) (k1_t74 : Fin (k1_t74_loop v307 v309 k1_t60 k1_t68).trips), ∀ a, (k1_off490 v307 v309 k1_t60 k1_t68 k1_t74) a + S1x1x16.size a ≤ S4x8x128.size a := fun k1_t1 v307 v309 k1_hw3 k1_t60 k1_t68 k1_t74 => k1_hw3.2.2.2.2.2.2.1.2.2.2.2.2.2.2.2.2.2.2.2.2.2.2.2.2.2.2.2.2.2.2.2.2.2.2.2.2.2.1 k1_t60 k1_t68 k1_t74
theorem k1_t75_ok : ∀ (k1_t1 : Fin k1_t1_loop.trips) (v307 : BitVec 32) (v309 : BitVec 32) (k1_hw3 : k1_chk3 k1_t1 v307 v309), (k1_t75_loop v307 v309).OK := fun k1_t1 v307 v309 k1_hw3 => k1_hw3.2.2.2.2.2.2.1.2.2.2.2.2.2.2.2.2.2.2.2.2.2.2.2.2.2.2.2.2.2.2.2.2.2.2.2.2.2.2
theorem k1_off491_inb : ∀ (k1_t1 : Fin k1_t1_loop.trips) (v307 : BitVec 32) (v309 : BitVec 32) (k1_hw3 : k1_chk3 k1_t1 v307 v309) (k1_t75 : Fin (k1_t75_loop v307 v309).trips), ∀ a, (k1_off491 v307 v309 k1_t75) a + S4x8x128.size a ≤ S2550x8x128.size a := fun k1_t1 v307 v309 k1_hw3 k1_t75 => k1_hw3.2.2.2.2.2.2.2.1.1 k1_t75
theorem k1_t76_ok : ∀ (k1_t1 : Fin k1_t1_loop.trips) (v307 : BitVec 32) (v309 : BitVec 32) (k1_hw3 : k1_chk3 k1_t1 v307 v309) (k1_t75 : Fin (k1_t75_loop v307 v309).trips), (k1_t76_loop v307 v309 k1_t75).OK := fun k1_t1 v307 v309 k1_hw3 k1_t75 => k1_hw3.2.2.2.2.2.2.2.1.2.1 k1_t75
theorem k1_t77_ok : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips), (k1_t77_loop v307 v309 k1_t75 k1_t76).OK := fun k1_t1 v307 v309 k1_hw3 k1_t75 k1_t76 => k1_hw3.2.2.2.2.2.2.2.1.2.2.1 k1_t75 k1_t76
theorem k1_off492_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t77 : Fin (k1_t77_loop v307 v309 k1_t75 k1_t76).trips), ∀ a, (k1_off492 v307 v309 k1_t75 k1_t76 k1_t77) a + S1x1x16.size a ≤ S4x8x128.size a := fun k1_t1 v307 v309 k1_hw3 k1_t75 k1_t76 k1_t77 => k1_hw3.2.2.2.2.2.2.2.1.2.2.2.1 k1_t75 k1_t76 k1_t77
theorem k1_off493_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t77 : Fin (k1_t77_loop v307 v309 k1_t75 k1_t76).trips), ∀ a, (k1_off493 v307 v309 k1_t75 k1_t76 k1_t77) a + S1x1x16.size a ≤ S4x8x128.size a := fun k1_t1 v307 v309 k1_hw3 k1_t75 k1_t76 k1_t77 => k1_hw3.2.2.2.2.2.2.2.1.2.2.2.2.1 k1_t75 k1_t76 k1_t77
theorem k1_off494_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t77 : Fin (k1_t77_loop v307 v309 k1_t75 k1_t76).trips), ∀ a, (k1_off494 v307 v309 k1_t75 k1_t76 k1_t77) a + S1x1x16.size a ≤ S4x8x128.size a := fun k1_t1 v307 v309 k1_hw3 k1_t75 k1_t76 k1_t77 => k1_hw3.2.2.2.2.2.2.2.1.2.2.2.2.2.1 k1_t75 k1_t76 k1_t77
theorem k1_off495_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t77 : Fin (k1_t77_loop v307 v309 k1_t75 k1_t76).trips), ∀ a, (k1_off495 v307 v309 k1_t75 k1_t76 k1_t77) a + S1x1x16.size a ≤ S4x8x128.size a := fun k1_t1 v307 v309 k1_hw3 k1_t75 k1_t76 k1_t77 => k1_hw3.2.2.2.2.2.2.2.1.2.2.2.2.2.2.1 k1_t75 k1_t76 k1_t77
theorem k1_off496_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t77 : Fin (k1_t77_loop v307 v309 k1_t75 k1_t76).trips), ∀ a, (k1_off496 v307 v309 k1_t75 k1_t76 k1_t77) a + S1x1x16.size a ≤ S4x8x128.size a := fun k1_t1 v307 v309 k1_hw3 k1_t75 k1_t76 k1_t77 => k1_hw3.2.2.2.2.2.2.2.1.2.2.2.2.2.2.2.1 k1_t75 k1_t76 k1_t77
theorem k1_off497_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t77 : Fin (k1_t77_loop v307 v309 k1_t75 k1_t76).trips), ∀ a, (k1_off497 v307 v309 k1_t75 k1_t76 k1_t77) a + S1x1x16.size a ≤ S4x8x128.size a := fun k1_t1 v307 v309 k1_hw3 k1_t75 k1_t76 k1_t77 => k1_hw3.2.2.2.2.2.2.2.1.2.2.2.2.2.2.2.2.1 k1_t75 k1_t76 k1_t77
theorem k1_off498_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t77 : Fin (k1_t77_loop v307 v309 k1_t75 k1_t76).trips), ∀ a, (k1_off498 v307 v309 k1_t75 k1_t76 k1_t77) a + S1x1x16.size a ≤ S4x8x128.size a := fun k1_t1 v307 v309 k1_hw3 k1_t75 k1_t76 k1_t77 => k1_hw3.2.2.2.2.2.2.2.1.2.2.2.2.2.2.2.2.2.1 k1_t75 k1_t76 k1_t77
theorem k1_off499_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t77 : Fin (k1_t77_loop v307 v309 k1_t75 k1_t76).trips), ∀ a, (k1_off499 v307 v309 k1_t75 k1_t76 k1_t77) a + S1x1x16.size a ≤ S4x8x128.size a := fun k1_t1 v307 v309 k1_hw3 k1_t75 k1_t76 k1_t77 => k1_hw3.2.2.2.2.2.2.2.1.2.2.2.2.2.2.2.2.2.2.1 k1_t75 k1_t76 k1_t77
theorem k1_t78_ok : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips), (k1_t78_loop v307 v309 k1_t75 k1_t76).OK := fun k1_t1 v307 v309 k1_hw3 k1_t75 k1_t76 => k1_hw3.2.2.2.2.2.2.2.1.2.2.2.2.2.2.2.2.2.2.2.1 k1_t75 k1_t76
theorem k1_off500_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t78 : Fin (k1_t78_loop v307 v309 k1_t75 k1_t76).trips), ∀ a, (k1_off500 v307 v309 k1_t75 k1_t76 k1_t78) a + S1x1x16.size a ≤ S4x8x128.size a := fun k1_t1 v307 v309 k1_hw3 k1_t75 k1_t76 k1_t78 => k1_hw3.2.2.2.2.2.2.2.1.2.2.2.2.2.2.2.2.2.2.2.2.1 k1_t75 k1_t76 k1_t78
theorem k1_off501_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t78 : Fin (k1_t78_loop v307 v309 k1_t75 k1_t76).trips), ∀ a, (k1_off501 v307 v309 k1_t75 k1_t76 k1_t78) a + S1x1x16.size a ≤ S4x8x128.size a := fun k1_t1 v307 v309 k1_hw3 k1_t75 k1_t76 k1_t78 => k1_hw3.2.2.2.2.2.2.2.1.2.2.2.2.2.2.2.2.2.2.2.2.2.1 k1_t75 k1_t76 k1_t78
theorem k1_off502_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t78 : Fin (k1_t78_loop v307 v309 k1_t75 k1_t76).trips), ∀ a, (k1_off502 v307 v309 k1_t75 k1_t76 k1_t78) a + S1x1x16.size a ≤ S4x8x128.size a := fun k1_t1 v307 v309 k1_hw3 k1_t75 k1_t76 k1_t78 => k1_hw3.2.2.2.2.2.2.2.1.2.2.2.2.2.2.2.2.2.2.2.2.2.2.1 k1_t75 k1_t76 k1_t78
theorem k1_off503_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t78 : Fin (k1_t78_loop v307 v309 k1_t75 k1_t76).trips), ∀ a, (k1_off503 v307 v309 k1_t75 k1_t76 k1_t78) a + S1x1x16.size a ≤ S4x8x128.size a := fun k1_t1 v307 v309 k1_hw3 k1_t75 k1_t76 k1_t78 => k1_hw3.2.2.2.2.2.2.2.1.2.2.2.2.2.2.2.2.2.2.2.2.2.2.2.1 k1_t75 k1_t76 k1_t78
theorem k1_off504_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t78 : Fin (k1_t78_loop v307 v309 k1_t75 k1_t76).trips), ∀ a, (k1_off504 v307 v309 k1_t75 k1_t76 k1_t78) a + S1x1x16.size a ≤ S4x8x128.size a := fun k1_t1 v307 v309 k1_hw3 k1_t75 k1_t76 k1_t78 => k1_hw3.2.2.2.2.2.2.2.1.2.2.2.2.2.2.2.2.2.2.2.2.2.2.2.2.1 k1_t75 k1_t76 k1_t78
theorem k1_off505_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t78 : Fin (k1_t78_loop v307 v309 k1_t75 k1_t76).trips), ∀ a, (k1_off505 v307 v309 k1_t75 k1_t76 k1_t78) a + S1x1x16.size a ≤ S4x8x128.size a := fun k1_t1 v307 v309 k1_hw3 k1_t75 k1_t76 k1_t78 => k1_hw3.2.2.2.2.2.2.2.1.2.2.2.2.2.2.2.2.2.2.2.2.2.2.2.2.2.1 k1_t75 k1_t76 k1_t78
theorem k1_off506_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t78 : Fin (k1_t78_loop v307 v309 k1_t75 k1_t76).trips), ∀ a, (k1_off506 v307 v309 k1_t75 k1_t76 k1_t78) a + S1x1x16.size a ≤ S4x8x128.size a := fun k1_t1 v307 v309 k1_hw3 k1_t75 k1_t76 k1_t78 => k1_hw3.2.2.2.2.2.2.2.1.2.2.2.2.2.2.2.2.2.2.2.2.2.2.2.2.2.2.1 k1_t75 k1_t76 k1_t78
theorem k1_off507_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t78 : Fin (k1_t78_loop v307 v309 k1_t75 k1_t76).trips), ∀ a, (k1_off507 v307 v309 k1_t75 k1_t76 k1_t78) a + S1x1x16.size a ≤ S4x8x128.size a := fun k1_t1 v307 v309 k1_hw3 k1_t75 k1_t76 k1_t78 => k1_hw3.2.2.2.2.2.2.2.1.2.2.2.2.2.2.2.2.2.2.2.2.2.2.2.2.2.2.2.1 k1_t75 k1_t76 k1_t78
theorem k1_t79_ok : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips), (k1_t79_loop v307 v309 k1_t75 k1_t76).OK := fun k1_t1 v307 v309 k1_hw3 k1_t75 k1_t76 => k1_hw3.2.2.2.2.2.2.2.1.2.2.2.2.2.2.2.2.2.2.2.2.2.2.2.2.2.2.2.2.1 k1_t75 k1_t76
theorem k1_off508_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t79 : Fin (k1_t79_loop v307 v309 k1_t75 k1_t76).trips), ∀ a, (k1_off508 v307 v309 k1_t75 k1_t76 k1_t79) a + S1x1x16.size a ≤ S4x8x128.size a := fun k1_t1 v307 v309 k1_hw3 k1_t75 k1_t76 k1_t79 => k1_hw3.2.2.2.2.2.2.2.1.2.2.2.2.2.2.2.2.2.2.2.2.2.2.2.2.2.2.2.2.2.1 k1_t75 k1_t76 k1_t79
theorem k1_off509_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t79 : Fin (k1_t79_loop v307 v309 k1_t75 k1_t76).trips), ∀ a, (k1_off509 v307 v309 k1_t75 k1_t76 k1_t79) a + S1x1x16.size a ≤ S4x8x128.size a := fun k1_t1 v307 v309 k1_hw3 k1_t75 k1_t76 k1_t79 => k1_hw3.2.2.2.2.2.2.2.1.2.2.2.2.2.2.2.2.2.2.2.2.2.2.2.2.2.2.2.2.2.2.1 k1_t75 k1_t76 k1_t79
theorem k1_off510_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t79 : Fin (k1_t79_loop v307 v309 k1_t75 k1_t76).trips), ∀ a, (k1_off510 v307 v309 k1_t75 k1_t76 k1_t79) a + S1x1x16.size a ≤ S4x8x128.size a := fun k1_t1 v307 v309 k1_hw3 k1_t75 k1_t76 k1_t79 => k1_hw3.2.2.2.2.2.2.2.1.2.2.2.2.2.2.2.2.2.2.2.2.2.2.2.2.2.2.2.2.2.2.2.1 k1_t75 k1_t76 k1_t79
theorem k1_off511_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t79 : Fin (k1_t79_loop v307 v309 k1_t75 k1_t76).trips), ∀ a, (k1_off511 v307 v309 k1_t75 k1_t76 k1_t79) a + S1x1x16.size a ≤ S4x8x128.size a := fun k1_t1 v307 v309 k1_hw3 k1_t75 k1_t76 k1_t79 => k1_hw3.2.2.2.2.2.2.2.1.2.2.2.2.2.2.2.2.2.2.2.2.2.2.2.2.2.2.2.2.2.2.2.2.1 k1_t75 k1_t76 k1_t79
theorem k1_off512_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t79 : Fin (k1_t79_loop v307 v309 k1_t75 k1_t76).trips), ∀ a, (k1_off512 v307 v309 k1_t75 k1_t76 k1_t79) a + S1x1x16.size a ≤ S4x8x128.size a := fun k1_t1 v307 v309 k1_hw3 k1_t75 k1_t76 k1_t79 => k1_hw3.2.2.2.2.2.2.2.1.2.2.2.2.2.2.2.2.2.2.2.2.2.2.2.2.2.2.2.2.2.2.2.2.2.1 k1_t75 k1_t76 k1_t79
theorem k1_off513_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t79 : Fin (k1_t79_loop v307 v309 k1_t75 k1_t76).trips), ∀ a, (k1_off513 v307 v309 k1_t75 k1_t76 k1_t79) a + S1x1x16.size a ≤ S4x8x128.size a := fun k1_t1 v307 v309 k1_hw3 k1_t75 k1_t76 k1_t79 => k1_hw3.2.2.2.2.2.2.2.1.2.2.2.2.2.2.2.2.2.2.2.2.2.2.2.2.2.2.2.2.2.2.2.2.2.2.1 k1_t75 k1_t76 k1_t79
theorem k1_off514_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t79 : Fin (k1_t79_loop v307 v309 k1_t75 k1_t76).trips), ∀ a, (k1_off514 v307 v309 k1_t75 k1_t76 k1_t79) a + S1x1x16.size a ≤ S4x8x128.size a := fun k1_t1 v307 v309 k1_hw3 k1_t75 k1_t76 k1_t79 => k1_hw3.2.2.2.2.2.2.2.1.2.2.2.2.2.2.2.2.2.2.2.2.2.2.2.2.2.2.2.2.2.2.2.2.2.2.2.1 k1_t75 k1_t76 k1_t79
theorem k1_off515_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t79 : Fin (k1_t79_loop v307 v309 k1_t75 k1_t76).trips), ∀ a, (k1_off515 v307 v309 k1_t75 k1_t76 k1_t79) a + S1x1x16.size a ≤ S4x8x128.size a := fun k1_t1 v307 v309 k1_hw3 k1_t75 k1_t76 k1_t79 => k1_hw3.2.2.2.2.2.2.2.1.2.2.2.2.2.2.2.2.2.2.2.2.2.2.2.2.2.2.2.2.2.2.2.2.2.2.2.2.1 k1_t75 k1_t76 k1_t79
theorem k1_t80_ok : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips), (k1_t80_loop v307 v309 k1_t75 k1_t76).OK := fun k1_t1 v307 v309 k1_hw3 k1_t75 k1_t76 => k1_hw3.2.2.2.2.2.2.2.1.2.2.2.2.2.2.2.2.2.2.2.2.2.2.2.2.2.2.2.2.2.2.2.2.2.2.2.2.2.1 k1_t75 k1_t76
theorem k1_off516_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t80 : Fin (k1_t80_loop v307 v309 k1_t75 k1_t76).trips), ∀ a, (k1_off516 v307 v309 k1_t75 k1_t76 k1_t80) a + S1x1x16.size a ≤ S4x8x128.size a := fun k1_t1 v307 v309 k1_hw3 k1_t75 k1_t76 k1_t80 => k1_hw3.2.2.2.2.2.2.2.1.2.2.2.2.2.2.2.2.2.2.2.2.2.2.2.2.2.2.2.2.2.2.2.2.2.2.2.2.2.2.1 k1_t75 k1_t76 k1_t80
theorem k1_off517_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t80 : Fin (k1_t80_loop v307 v309 k1_t75 k1_t76).trips), ∀ a, (k1_off517 v307 v309 k1_t75 k1_t76 k1_t80) a + S1x1x16.size a ≤ S4x8x128.size a := fun k1_t1 v307 v309 k1_hw3 k1_t75 k1_t76 k1_t80 => k1_hw3.2.2.2.2.2.2.2.1.2.2.2.2.2.2.2.2.2.2.2.2.2.2.2.2.2.2.2.2.2.2.2.2.2.2.2.2.2.2.2 k1_t75 k1_t76 k1_t80
theorem k1_off518_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t80 : Fin (k1_t80_loop v307 v309 k1_t75 k1_t76).trips), ∀ a, (k1_off518 v307 v309 k1_t75 k1_t76 k1_t80) a + S1x1x16.size a ≤ S4x8x128.size a := fun k1_t1 v307 v309 k1_hw3 k1_t75 k1_t76 k1_t80 => k1_hw3.2.2.2.2.2.2.2.2.1.1 k1_t75 k1_t76 k1_t80
theorem k1_off519_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t80 : Fin (k1_t80_loop v307 v309 k1_t75 k1_t76).trips), ∀ a, (k1_off519 v307 v309 k1_t75 k1_t76 k1_t80) a + S1x1x16.size a ≤ S4x8x128.size a := fun k1_t1 v307 v309 k1_hw3 k1_t75 k1_t76 k1_t80 => k1_hw3.2.2.2.2.2.2.2.2.1.2.1 k1_t75 k1_t76 k1_t80
theorem k1_off520_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t80 : Fin (k1_t80_loop v307 v309 k1_t75 k1_t76).trips), ∀ a, (k1_off520 v307 v309 k1_t75 k1_t76 k1_t80) a + S1x1x16.size a ≤ S4x8x128.size a := fun k1_t1 v307 v309 k1_hw3 k1_t75 k1_t76 k1_t80 => k1_hw3.2.2.2.2.2.2.2.2.1.2.2.1 k1_t75 k1_t76 k1_t80
theorem k1_off521_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t80 : Fin (k1_t80_loop v307 v309 k1_t75 k1_t76).trips), ∀ a, (k1_off521 v307 v309 k1_t75 k1_t76 k1_t80) a + S1x1x16.size a ≤ S4x8x128.size a := fun k1_t1 v307 v309 k1_hw3 k1_t75 k1_t76 k1_t80 => k1_hw3.2.2.2.2.2.2.2.2.1.2.2.2.1 k1_t75 k1_t76 k1_t80
theorem k1_off522_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t80 : Fin (k1_t80_loop v307 v309 k1_t75 k1_t76).trips), ∀ a, (k1_off522 v307 v309 k1_t75 k1_t76 k1_t80) a + S1x1x16.size a ≤ S4x8x128.size a := fun k1_t1 v307 v309 k1_hw3 k1_t75 k1_t76 k1_t80 => k1_hw3.2.2.2.2.2.2.2.2.1.2.2.2.2.1 k1_t75 k1_t76 k1_t80
theorem k1_off523_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t80 : Fin (k1_t80_loop v307 v309 k1_t75 k1_t76).trips), ∀ a, (k1_off523 v307 v309 k1_t75 k1_t76 k1_t80) a + S1x1x16.size a ≤ S4x8x128.size a := fun k1_t1 v307 v309 k1_hw3 k1_t75 k1_t76 k1_t80 => k1_hw3.2.2.2.2.2.2.2.2.1.2.2.2.2.2.1 k1_t75 k1_t76 k1_t80
theorem k1_t81_ok : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips), (k1_t81_loop v307 v309 k1_t75 k1_t76).OK := fun k1_t1 v307 v309 k1_hw3 k1_t75 k1_t76 => k1_hw3.2.2.2.2.2.2.2.2.1.2.2.2.2.2.2.1 k1_t75 k1_t76
theorem k1_off524_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t81 : Fin (k1_t81_loop v307 v309 k1_t75 k1_t76).trips), ∀ a, (k1_off524 v307 v309 k1_t75 k1_t76 k1_t81) a + S1x1x16.size a ≤ S4x8x128.size a := fun k1_t1 v307 v309 k1_hw3 k1_t75 k1_t76 k1_t81 => k1_hw3.2.2.2.2.2.2.2.2.1.2.2.2.2.2.2.2.1 k1_t75 k1_t76 k1_t81
theorem k1_off525_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t81 : Fin (k1_t81_loop v307 v309 k1_t75 k1_t76).trips), ∀ a, (k1_off525 v307 v309 k1_t75 k1_t76 k1_t81) a + S1x1x16.size a ≤ S4x8x128.size a := fun k1_t1 v307 v309 k1_hw3 k1_t75 k1_t76 k1_t81 => k1_hw3.2.2.2.2.2.2.2.2.1.2.2.2.2.2.2.2.2.1 k1_t75 k1_t76 k1_t81
theorem k1_off526_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t81 : Fin (k1_t81_loop v307 v309 k1_t75 k1_t76).trips), ∀ a, (k1_off526 v307 v309 k1_t75 k1_t76 k1_t81) a + S1x1x16.size a ≤ S4x8x128.size a := fun k1_t1 v307 v309 k1_hw3 k1_t75 k1_t76 k1_t81 => k1_hw3.2.2.2.2.2.2.2.2.1.2.2.2.2.2.2.2.2.2.1 k1_t75 k1_t76 k1_t81
theorem k1_off527_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t81 : Fin (k1_t81_loop v307 v309 k1_t75 k1_t76).trips), ∀ a, (k1_off527 v307 v309 k1_t75 k1_t76 k1_t81) a + S1x1x16.size a ≤ S4x8x128.size a := fun k1_t1 v307 v309 k1_hw3 k1_t75 k1_t76 k1_t81 => k1_hw3.2.2.2.2.2.2.2.2.1.2.2.2.2.2.2.2.2.2.2.1 k1_t75 k1_t76 k1_t81
theorem k1_off528_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t81 : Fin (k1_t81_loop v307 v309 k1_t75 k1_t76).trips), ∀ a, (k1_off528 v307 v309 k1_t75 k1_t76 k1_t81) a + S1x1x16.size a ≤ S4x8x128.size a := fun k1_t1 v307 v309 k1_hw3 k1_t75 k1_t76 k1_t81 => k1_hw3.2.2.2.2.2.2.2.2.1.2.2.2.2.2.2.2.2.2.2.2.1 k1_t75 k1_t76 k1_t81
theorem k1_off529_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t81 : Fin (k1_t81_loop v307 v309 k1_t75 k1_t76).trips), ∀ a, (k1_off529 v307 v309 k1_t75 k1_t76 k1_t81) a + S1x1x16.size a ≤ S4x8x128.size a := fun k1_t1 v307 v309 k1_hw3 k1_t75 k1_t76 k1_t81 => k1_hw3.2.2.2.2.2.2.2.2.1.2.2.2.2.2.2.2.2.2.2.2.2.1 k1_t75 k1_t76 k1_t81
theorem k1_off530_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t81 : Fin (k1_t81_loop v307 v309 k1_t75 k1_t76).trips), ∀ a, (k1_off530 v307 v309 k1_t75 k1_t76 k1_t81) a + S1x1x16.size a ≤ S4x8x128.size a := fun k1_t1 v307 v309 k1_hw3 k1_t75 k1_t76 k1_t81 => k1_hw3.2.2.2.2.2.2.2.2.1.2.2.2.2.2.2.2.2.2.2.2.2.2.1 k1_t75 k1_t76 k1_t81
theorem k1_off531_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t81 : Fin (k1_t81_loop v307 v309 k1_t75 k1_t76).trips), ∀ a, (k1_off531 v307 v309 k1_t75 k1_t76 k1_t81) a + S1x1x16.size a ≤ S4x8x128.size a := fun k1_t1 v307 v309 k1_hw3 k1_t75 k1_t76 k1_t81 => k1_hw3.2.2.2.2.2.2.2.2.1.2.2.2.2.2.2.2.2.2.2.2.2.2.2.1 k1_t75 k1_t76 k1_t81
theorem k1_t82_ok : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips), (k1_t82_loop v307 v309 k1_t75 k1_t76).OK := fun k1_t1 v307 v309 k1_hw3 k1_t75 k1_t76 => k1_hw3.2.2.2.2.2.2.2.2.1.2.2.2.2.2.2.2.2.2.2.2.2.2.2.2.1 k1_t75 k1_t76
theorem k1_off532_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t82 : Fin (k1_t82_loop v307 v309 k1_t75 k1_t76).trips), ∀ a, (k1_off532 v307 v309 k1_t75 k1_t76 k1_t82) a + S1x1x16.size a ≤ S4x8x128.size a := fun k1_t1 v307 v309 k1_hw3 k1_t75 k1_t76 k1_t82 => k1_hw3.2.2.2.2.2.2.2.2.1.2.2.2.2.2.2.2.2.2.2.2.2.2.2.2.2.1 k1_t75 k1_t76 k1_t82
theorem k1_off533_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t82 : Fin (k1_t82_loop v307 v309 k1_t75 k1_t76).trips), ∀ a, (k1_off533 v307 v309 k1_t75 k1_t76 k1_t82) a + S1x1x16.size a ≤ S4x8x128.size a := fun k1_t1 v307 v309 k1_hw3 k1_t75 k1_t76 k1_t82 => k1_hw3.2.2.2.2.2.2.2.2.1.2.2.2.2.2.2.2.2.2.2.2.2.2.2.2.2.2.1 k1_t75 k1_t76 k1_t82
theorem k1_off534_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t82 : Fin (k1_t82_loop v307 v309 k1_t75 k1_t76).trips), ∀ a, (k1_off534 v307 v309 k1_t75 k1_t76 k1_t82) a + S1x1x16.size a ≤ S4x8x128.size a := fun k1_t1 v307 v309 k1_hw3 k1_t75 k1_t76 k1_t82 => k1_hw3.2.2.2.2.2.2.2.2.1.2.2.2.2.2.2.2.2.2.2.2.2.2.2.2.2.2.2.1 k1_t75 k1_t76 k1_t82
theorem k1_off535_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t82 : Fin (k1_t82_loop v307 v309 k1_t75 k1_t76).trips), ∀ a, (k1_off535 v307 v309 k1_t75 k1_t76 k1_t82) a + S1x1x16.size a ≤ S4x8x128.size a := fun k1_t1 v307 v309 k1_hw3 k1_t75 k1_t76 k1_t82 => k1_hw3.2.2.2.2.2.2.2.2.1.2.2.2.2.2.2.2.2.2.2.2.2.2.2.2.2.2.2.2.1 k1_t75 k1_t76 k1_t82
theorem k1_off536_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t82 : Fin (k1_t82_loop v307 v309 k1_t75 k1_t76).trips), ∀ a, (k1_off536 v307 v309 k1_t75 k1_t76 k1_t82) a + S1x1x16.size a ≤ S4x8x128.size a := fun k1_t1 v307 v309 k1_hw3 k1_t75 k1_t76 k1_t82 => k1_hw3.2.2.2.2.2.2.2.2.1.2.2.2.2.2.2.2.2.2.2.2.2.2.2.2.2.2.2.2.2.1 k1_t75 k1_t76 k1_t82
theorem k1_off537_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t82 : Fin (k1_t82_loop v307 v309 k1_t75 k1_t76).trips), ∀ a, (k1_off537 v307 v309 k1_t75 k1_t76 k1_t82) a + S1x1x16.size a ≤ S4x8x128.size a := fun k1_t1 v307 v309 k1_hw3 k1_t75 k1_t76 k1_t82 => k1_hw3.2.2.2.2.2.2.2.2.1.2.2.2.2.2.2.2.2.2.2.2.2.2.2.2.2.2.2.2.2.2.1 k1_t75 k1_t76 k1_t82
theorem k1_off538_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t82 : Fin (k1_t82_loop v307 v309 k1_t75 k1_t76).trips), ∀ a, (k1_off538 v307 v309 k1_t75 k1_t76 k1_t82) a + S1x1x16.size a ≤ S4x8x128.size a := fun k1_t1 v307 v309 k1_hw3 k1_t75 k1_t76 k1_t82 => k1_hw3.2.2.2.2.2.2.2.2.1.2.2.2.2.2.2.2.2.2.2.2.2.2.2.2.2.2.2.2.2.2.2.1 k1_t75 k1_t76 k1_t82
theorem k1_off539_inb : ∀ (k1_t1 : Fin k1_t1_loop.trips) (v307 : BitVec 32) (v309 : BitVec 32) (k1_hw3 : k1_chk3 k1_t1 v307 v309) (k1_t75 : Fin (k1_t75_loop v307 v309).trips) (k1_t76 : Fin (k1_t76_loop v307 v309 k1_t75).trips) (k1_t82 : Fin (k1_t82_loop v307 v309 k1_t75 k1_t76).trips), ∀ a, (k1_off539 v307 v309 k1_t75 k1_t76 k1_t82) a + S1x1x16.size a ≤ S4x8x128.size a := fun k1_t1 v307 v309 k1_hw3 k1_t75 k1_t76 k1_t82 => k1_hw3.2.2.2.2.2.2.2.2.1.2.2.2.2.2.2.2.2.2.2.2.2.2.2.2.2.2.2.2.2.2.2.2.1 k1_t75 k1_t76 k1_t82
theorem k1_t83_ok : ∀ (k1_t1 : Fin k1_t1_loop.trips) (v307 : BitVec 32) (v309 : BitVec 32) (k1_hw3 : k1_chk3 k1_t1 v307 v309) (k1_t75 : Fin (k1_t75_loop v307 v309).trips), (k1_t83_loop v307 v309 k1_t75).OK := fun k1_t1 v307 v309 k1_hw3 k1_t75 => k1_hw3.2.2.2.2.2.2.2.2.1.2.2.2.2.2.2.2.2.2.2.2.2.2.2.2.2.2.2.2.2.2.2.2.2.1 k1_t75
theorem k1_t84_ok : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips), (k1_t84_loop v307 v309 k1_t75 k1_t83).OK := fun k1_t1 v307 v309 k1_hw3 k1_t75 k1_t83 => k1_hw3.2.2.2.2.2.2.2.2.1.2.2.2.2.2.2.2.2.2.2.2.2.2.2.2.2.2.2.2.2.2.2.2.2.2.1 k1_t75 k1_t83
theorem k1_off540_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t84 : Fin (k1_t84_loop v307 v309 k1_t75 k1_t83).trips), ∀ a, (k1_off540 v307 v309 k1_t75 k1_t83 k1_t84) a + S1x1x16.size a ≤ S4x8x128.size a := fun k1_t1 v307 v309 k1_hw3 k1_t75 k1_t83 k1_t84 => k1_hw3.2.2.2.2.2.2.2.2.1.2.2.2.2.2.2.2.2.2.2.2.2.2.2.2.2.2.2.2.2.2.2.2.2.2.2.1 k1_t75 k1_t83 k1_t84
theorem k1_off541_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t84 : Fin (k1_t84_loop v307 v309 k1_t75 k1_t83).trips), ∀ a, (k1_off541 v307 v309 k1_t75 k1_t83 k1_t84) a + S1x1x16.size a ≤ S4x8x128.size a := fun k1_t1 v307 v309 k1_hw3 k1_t75 k1_t83 k1_t84 => k1_hw3.2.2.2.2.2.2.2.2.1.2.2.2.2.2.2.2.2.2.2.2.2.2.2.2.2.2.2.2.2.2.2.2.2.2.2.2.1 k1_t75 k1_t83 k1_t84
theorem k1_off542_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t84 : Fin (k1_t84_loop v307 v309 k1_t75 k1_t83).trips), ∀ a, (k1_off542 v307 v309 k1_t75 k1_t83 k1_t84) a + S1x1x16.size a ≤ S4x8x128.size a := fun k1_t1 v307 v309 k1_hw3 k1_t75 k1_t83 k1_t84 => k1_hw3.2.2.2.2.2.2.2.2.1.2.2.2.2.2.2.2.2.2.2.2.2.2.2.2.2.2.2.2.2.2.2.2.2.2.2.2.2.1 k1_t75 k1_t83 k1_t84
theorem k1_off543_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t84 : Fin (k1_t84_loop v307 v309 k1_t75 k1_t83).trips), ∀ a, (k1_off543 v307 v309 k1_t75 k1_t83 k1_t84) a + S1x1x16.size a ≤ S4x8x128.size a := fun k1_t1 v307 v309 k1_hw3 k1_t75 k1_t83 k1_t84 => k1_hw3.2.2.2.2.2.2.2.2.1.2.2.2.2.2.2.2.2.2.2.2.2.2.2.2.2.2.2.2.2.2.2.2.2.2.2.2.2.2.1 k1_t75 k1_t83 k1_t84
theorem k1_off544_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t84 : Fin (k1_t84_loop v307 v309 k1_t75 k1_t83).trips), ∀ a, (k1_off544 v307 v309 k1_t75 k1_t83 k1_t84) a + S1x1x16.size a ≤ S4x8x128.size a := fun k1_t1 v307 v309 k1_hw3 k1_t75 k1_t83 k1_t84 => k1_hw3.2.2.2.2.2.2.2.2.1.2.2.2.2.2.2.2.2.2.2.2.2.2.2.2.2.2.2.2.2.2.2.2.2.2.2.2.2.2.2.1 k1_t75 k1_t83 k1_t84
theorem k1_off545_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t84 : Fin (k1_t84_loop v307 v309 k1_t75 k1_t83).trips), ∀ a, (k1_off545 v307 v309 k1_t75 k1_t83 k1_t84) a + S1x1x16.size a ≤ S4x8x128.size a := fun k1_t1 v307 v309 k1_hw3 k1_t75 k1_t83 k1_t84 => k1_hw3.2.2.2.2.2.2.2.2.1.2.2.2.2.2.2.2.2.2.2.2.2.2.2.2.2.2.2.2.2.2.2.2.2.2.2.2.2.2.2.2 k1_t75 k1_t83 k1_t84
theorem k1_off546_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t84 : Fin (k1_t84_loop v307 v309 k1_t75 k1_t83).trips), ∀ a, (k1_off546 v307 v309 k1_t75 k1_t83 k1_t84) a + S1x1x16.size a ≤ S4x8x128.size a := fun k1_t1 v307 v309 k1_hw3 k1_t75 k1_t83 k1_t84 => k1_hw3.2.2.2.2.2.2.2.2.2.1.1 k1_t75 k1_t83 k1_t84
theorem k1_off547_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t84 : Fin (k1_t84_loop v307 v309 k1_t75 k1_t83).trips), ∀ a, (k1_off547 v307 v309 k1_t75 k1_t83 k1_t84) a + S1x1x16.size a ≤ S4x8x128.size a := fun k1_t1 v307 v309 k1_hw3 k1_t75 k1_t83 k1_t84 => k1_hw3.2.2.2.2.2.2.2.2.2.1.2.1 k1_t75 k1_t83 k1_t84
theorem k1_t85_ok : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips), (k1_t85_loop v307 v309 k1_t75 k1_t83).OK := fun k1_t1 v307 v309 k1_hw3 k1_t75 k1_t83 => k1_hw3.2.2.2.2.2.2.2.2.2.1.2.2.1 k1_t75 k1_t83
theorem k1_off548_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t85 : Fin (k1_t85_loop v307 v309 k1_t75 k1_t83).trips), ∀ a, (k1_off548 v307 v309 k1_t75 k1_t83 k1_t85) a + S1x1x16.size a ≤ S4x8x128.size a := fun k1_t1 v307 v309 k1_hw3 k1_t75 k1_t83 k1_t85 => k1_hw3.2.2.2.2.2.2.2.2.2.1.2.2.2.1 k1_t75 k1_t83 k1_t85
theorem k1_off549_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t85 : Fin (k1_t85_loop v307 v309 k1_t75 k1_t83).trips), ∀ a, (k1_off549 v307 v309 k1_t75 k1_t83 k1_t85) a + S1x1x16.size a ≤ S4x8x128.size a := fun k1_t1 v307 v309 k1_hw3 k1_t75 k1_t83 k1_t85 => k1_hw3.2.2.2.2.2.2.2.2.2.1.2.2.2.2.1 k1_t75 k1_t83 k1_t85
theorem k1_off550_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t85 : Fin (k1_t85_loop v307 v309 k1_t75 k1_t83).trips), ∀ a, (k1_off550 v307 v309 k1_t75 k1_t83 k1_t85) a + S1x1x16.size a ≤ S4x8x128.size a := fun k1_t1 v307 v309 k1_hw3 k1_t75 k1_t83 k1_t85 => k1_hw3.2.2.2.2.2.2.2.2.2.1.2.2.2.2.2.1 k1_t75 k1_t83 k1_t85
theorem k1_off551_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t85 : Fin (k1_t85_loop v307 v309 k1_t75 k1_t83).trips), ∀ a, (k1_off551 v307 v309 k1_t75 k1_t83 k1_t85) a + S1x1x16.size a ≤ S4x8x128.size a := fun k1_t1 v307 v309 k1_hw3 k1_t75 k1_t83 k1_t85 => k1_hw3.2.2.2.2.2.2.2.2.2.1.2.2.2.2.2.2.1 k1_t75 k1_t83 k1_t85
theorem k1_off552_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t85 : Fin (k1_t85_loop v307 v309 k1_t75 k1_t83).trips), ∀ a, (k1_off552 v307 v309 k1_t75 k1_t83 k1_t85) a + S1x1x16.size a ≤ S4x8x128.size a := fun k1_t1 v307 v309 k1_hw3 k1_t75 k1_t83 k1_t85 => k1_hw3.2.2.2.2.2.2.2.2.2.1.2.2.2.2.2.2.2.1 k1_t75 k1_t83 k1_t85
theorem k1_off553_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t85 : Fin (k1_t85_loop v307 v309 k1_t75 k1_t83).trips), ∀ a, (k1_off553 v307 v309 k1_t75 k1_t83 k1_t85) a + S1x1x16.size a ≤ S4x8x128.size a := fun k1_t1 v307 v309 k1_hw3 k1_t75 k1_t83 k1_t85 => k1_hw3.2.2.2.2.2.2.2.2.2.1.2.2.2.2.2.2.2.2.1 k1_t75 k1_t83 k1_t85
theorem k1_off554_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t85 : Fin (k1_t85_loop v307 v309 k1_t75 k1_t83).trips), ∀ a, (k1_off554 v307 v309 k1_t75 k1_t83 k1_t85) a + S1x1x16.size a ≤ S4x8x128.size a := fun k1_t1 v307 v309 k1_hw3 k1_t75 k1_t83 k1_t85 => k1_hw3.2.2.2.2.2.2.2.2.2.1.2.2.2.2.2.2.2.2.2.1 k1_t75 k1_t83 k1_t85
theorem k1_off555_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t85 : Fin (k1_t85_loop v307 v309 k1_t75 k1_t83).trips), ∀ a, (k1_off555 v307 v309 k1_t75 k1_t83 k1_t85) a + S1x1x16.size a ≤ S4x8x128.size a := fun k1_t1 v307 v309 k1_hw3 k1_t75 k1_t83 k1_t85 => k1_hw3.2.2.2.2.2.2.2.2.2.1.2.2.2.2.2.2.2.2.2.2.1 k1_t75 k1_t83 k1_t85
theorem k1_t86_ok : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips), (k1_t86_loop v307 v309 k1_t75 k1_t83).OK := fun k1_t1 v307 v309 k1_hw3 k1_t75 k1_t83 => k1_hw3.2.2.2.2.2.2.2.2.2.1.2.2.2.2.2.2.2.2.2.2.2.1 k1_t75 k1_t83
theorem k1_off556_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t86 : Fin (k1_t86_loop v307 v309 k1_t75 k1_t83).trips), ∀ a, (k1_off556 v307 v309 k1_t75 k1_t83 k1_t86) a + S1x1x16.size a ≤ S4x8x128.size a := fun k1_t1 v307 v309 k1_hw3 k1_t75 k1_t83 k1_t86 => k1_hw3.2.2.2.2.2.2.2.2.2.1.2.2.2.2.2.2.2.2.2.2.2.2.1 k1_t75 k1_t83 k1_t86
theorem k1_off557_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t86 : Fin (k1_t86_loop v307 v309 k1_t75 k1_t83).trips), ∀ a, (k1_off557 v307 v309 k1_t75 k1_t83 k1_t86) a + S1x1x16.size a ≤ S4x8x128.size a := fun k1_t1 v307 v309 k1_hw3 k1_t75 k1_t83 k1_t86 => k1_hw3.2.2.2.2.2.2.2.2.2.1.2.2.2.2.2.2.2.2.2.2.2.2.2.1 k1_t75 k1_t83 k1_t86
theorem k1_off558_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t86 : Fin (k1_t86_loop v307 v309 k1_t75 k1_t83).trips), ∀ a, (k1_off558 v307 v309 k1_t75 k1_t83 k1_t86) a + S1x1x16.size a ≤ S4x8x128.size a := fun k1_t1 v307 v309 k1_hw3 k1_t75 k1_t83 k1_t86 => k1_hw3.2.2.2.2.2.2.2.2.2.1.2.2.2.2.2.2.2.2.2.2.2.2.2.2.1 k1_t75 k1_t83 k1_t86
theorem k1_off559_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t86 : Fin (k1_t86_loop v307 v309 k1_t75 k1_t83).trips), ∀ a, (k1_off559 v307 v309 k1_t75 k1_t83 k1_t86) a + S1x1x16.size a ≤ S4x8x128.size a := fun k1_t1 v307 v309 k1_hw3 k1_t75 k1_t83 k1_t86 => k1_hw3.2.2.2.2.2.2.2.2.2.1.2.2.2.2.2.2.2.2.2.2.2.2.2.2.2.1 k1_t75 k1_t83 k1_t86
theorem k1_off560_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t86 : Fin (k1_t86_loop v307 v309 k1_t75 k1_t83).trips), ∀ a, (k1_off560 v307 v309 k1_t75 k1_t83 k1_t86) a + S1x1x16.size a ≤ S4x8x128.size a := fun k1_t1 v307 v309 k1_hw3 k1_t75 k1_t83 k1_t86 => k1_hw3.2.2.2.2.2.2.2.2.2.1.2.2.2.2.2.2.2.2.2.2.2.2.2.2.2.2.1 k1_t75 k1_t83 k1_t86
theorem k1_off561_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t86 : Fin (k1_t86_loop v307 v309 k1_t75 k1_t83).trips), ∀ a, (k1_off561 v307 v309 k1_t75 k1_t83 k1_t86) a + S1x1x16.size a ≤ S4x8x128.size a := fun k1_t1 v307 v309 k1_hw3 k1_t75 k1_t83 k1_t86 => k1_hw3.2.2.2.2.2.2.2.2.2.1.2.2.2.2.2.2.2.2.2.2.2.2.2.2.2.2.2.1 k1_t75 k1_t83 k1_t86
theorem k1_off562_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t86 : Fin (k1_t86_loop v307 v309 k1_t75 k1_t83).trips), ∀ a, (k1_off562 v307 v309 k1_t75 k1_t83 k1_t86) a + S1x1x16.size a ≤ S4x8x128.size a := fun k1_t1 v307 v309 k1_hw3 k1_t75 k1_t83 k1_t86 => k1_hw3.2.2.2.2.2.2.2.2.2.1.2.2.2.2.2.2.2.2.2.2.2.2.2.2.2.2.2.2.1 k1_t75 k1_t83 k1_t86
theorem k1_off563_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t86 : Fin (k1_t86_loop v307 v309 k1_t75 k1_t83).trips), ∀ a, (k1_off563 v307 v309 k1_t75 k1_t83 k1_t86) a + S1x1x16.size a ≤ S4x8x128.size a := fun k1_t1 v307 v309 k1_hw3 k1_t75 k1_t83 k1_t86 => k1_hw3.2.2.2.2.2.2.2.2.2.1.2.2.2.2.2.2.2.2.2.2.2.2.2.2.2.2.2.2.2.1 k1_t75 k1_t83 k1_t86
theorem k1_t87_ok : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips), (k1_t87_loop v307 v309 k1_t75 k1_t83).OK := fun k1_t1 v307 v309 k1_hw3 k1_t75 k1_t83 => k1_hw3.2.2.2.2.2.2.2.2.2.1.2.2.2.2.2.2.2.2.2.2.2.2.2.2.2.2.2.2.2.2.1 k1_t75 k1_t83
theorem k1_off564_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t87 : Fin (k1_t87_loop v307 v309 k1_t75 k1_t83).trips), ∀ a, (k1_off564 v307 v309 k1_t75 k1_t83 k1_t87) a + S1x1x16.size a ≤ S4x8x128.size a := fun k1_t1 v307 v309 k1_hw3 k1_t75 k1_t83 k1_t87 => k1_hw3.2.2.2.2.2.2.2.2.2.1.2.2.2.2.2.2.2.2.2.2.2.2.2.2.2.2.2.2.2.2.2.1 k1_t75 k1_t83 k1_t87
theorem k1_off565_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t87 : Fin (k1_t87_loop v307 v309 k1_t75 k1_t83).trips), ∀ a, (k1_off565 v307 v309 k1_t75 k1_t83 k1_t87) a + S1x1x16.size a ≤ S4x8x128.size a := fun k1_t1 v307 v309 k1_hw3 k1_t75 k1_t83 k1_t87 => k1_hw3.2.2.2.2.2.2.2.2.2.1.2.2.2.2.2.2.2.2.2.2.2.2.2.2.2.2.2.2.2.2.2.2.1 k1_t75 k1_t83 k1_t87
theorem k1_off566_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t87 : Fin (k1_t87_loop v307 v309 k1_t75 k1_t83).trips), ∀ a, (k1_off566 v307 v309 k1_t75 k1_t83 k1_t87) a + S1x1x16.size a ≤ S4x8x128.size a := fun k1_t1 v307 v309 k1_hw3 k1_t75 k1_t83 k1_t87 => k1_hw3.2.2.2.2.2.2.2.2.2.1.2.2.2.2.2.2.2.2.2.2.2.2.2.2.2.2.2.2.2.2.2.2.2.1 k1_t75 k1_t83 k1_t87
theorem k1_off567_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t87 : Fin (k1_t87_loop v307 v309 k1_t75 k1_t83).trips), ∀ a, (k1_off567 v307 v309 k1_t75 k1_t83 k1_t87) a + S1x1x16.size a ≤ S4x8x128.size a := fun k1_t1 v307 v309 k1_hw3 k1_t75 k1_t83 k1_t87 => k1_hw3.2.2.2.2.2.2.2.2.2.1.2.2.2.2.2.2.2.2.2.2.2.2.2.2.2.2.2.2.2.2.2.2.2.2.1 k1_t75 k1_t83 k1_t87
theorem k1_off568_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t87 : Fin (k1_t87_loop v307 v309 k1_t75 k1_t83).trips), ∀ a, (k1_off568 v307 v309 k1_t75 k1_t83 k1_t87) a + S1x1x16.size a ≤ S4x8x128.size a := fun k1_t1 v307 v309 k1_hw3 k1_t75 k1_t83 k1_t87 => k1_hw3.2.2.2.2.2.2.2.2.2.1.2.2.2.2.2.2.2.2.2.2.2.2.2.2.2.2.2.2.2.2.2.2.2.2.2.1 k1_t75 k1_t83 k1_t87
theorem k1_off569_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t87 : Fin (k1_t87_loop v307 v309 k1_t75 k1_t83).trips), ∀ a, (k1_off569 v307 v309 k1_t75 k1_t83 k1_t87) a + S1x1x16.size a ≤ S4x8x128.size a := fun k1_t1 v307 v309 k1_hw3 k1_t75 k1_t83 k1_t87 => k1_hw3.2.2.2.2.2.2.2.2.2.1.2.2.2.2.2.2.2.2.2.2.2.2.2.2.2.2.2.2.2.2.2.2.2.2.2.2.1 k1_t75 k1_t83 k1_t87
theorem k1_off570_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t87 : Fin (k1_t87_loop v307 v309 k1_t75 k1_t83).trips), ∀ a, (k1_off570 v307 v309 k1_t75 k1_t83 k1_t87) a + S1x1x16.size a ≤ S4x8x128.size a := fun k1_t1 v307 v309 k1_hw3 k1_t75 k1_t83 k1_t87 => k1_hw3.2.2.2.2.2.2.2.2.2.1.2.2.2.2.2.2.2.2.2.2.2.2.2.2.2.2.2.2.2.2.2.2.2.2.2.2.2.1 k1_t75 k1_t83 k1_t87
theorem k1_off571_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t87 : Fin (k1_t87_loop v307 v309 k1_t75 k1_t83).trips), ∀ a, (k1_off571 v307 v309 k1_t75 k1_t83 k1_t87) a + S1x1x16.size a ≤ S4x8x128.size a := fun k1_t1 v307 v309 k1_hw3 k1_t75 k1_t83 k1_t87 => k1_hw3.2.2.2.2.2.2.2.2.2.1.2.2.2.2.2.2.2.2.2.2.2.2.2.2.2.2.2.2.2.2.2.2.2.2.2.2.2.2.1 k1_t75 k1_t83 k1_t87
theorem k1_t88_ok : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips), (k1_t88_loop v307 v309 k1_t75 k1_t83).OK := fun k1_t1 v307 v309 k1_hw3 k1_t75 k1_t83 => k1_hw3.2.2.2.2.2.2.2.2.2.1.2.2.2.2.2.2.2.2.2.2.2.2.2.2.2.2.2.2.2.2.2.2.2.2.2.2.2.2.2.1 k1_t75 k1_t83
theorem k1_off572_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t88 : Fin (k1_t88_loop v307 v309 k1_t75 k1_t83).trips), ∀ a, (k1_off572 v307 v309 k1_t75 k1_t83 k1_t88) a + S1x1x16.size a ≤ S4x8x128.size a := fun k1_t1 v307 v309 k1_hw3 k1_t75 k1_t83 k1_t88 => k1_hw3.2.2.2.2.2.2.2.2.2.1.2.2.2.2.2.2.2.2.2.2.2.2.2.2.2.2.2.2.2.2.2.2.2.2.2.2.2.2.2.2.1 k1_t75 k1_t83 k1_t88
theorem k1_off573_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t88 : Fin (k1_t88_loop v307 v309 k1_t75 k1_t83).trips), ∀ a, (k1_off573 v307 v309 k1_t75 k1_t83 k1_t88) a + S1x1x16.size a ≤ S4x8x128.size a := fun k1_t1 v307 v309 k1_hw3 k1_t75 k1_t83 k1_t88 => k1_hw3.2.2.2.2.2.2.2.2.2.1.2.2.2.2.2.2.2.2.2.2.2.2.2.2.2.2.2.2.2.2.2.2.2.2.2.2.2.2.2.2.2 k1_t75 k1_t83 k1_t88
theorem k1_off574_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t88 : Fin (k1_t88_loop v307 v309 k1_t75 k1_t83).trips), ∀ a, (k1_off574 v307 v309 k1_t75 k1_t83 k1_t88) a + S1x1x16.size a ≤ S4x8x128.size a := fun k1_t1 v307 v309 k1_hw3 k1_t75 k1_t83 k1_t88 => k1_hw3.2.2.2.2.2.2.2.2.2.2.1 k1_t75 k1_t83 k1_t88
theorem k1_off575_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t88 : Fin (k1_t88_loop v307 v309 k1_t75 k1_t83).trips), ∀ a, (k1_off575 v307 v309 k1_t75 k1_t83 k1_t88) a + S1x1x16.size a ≤ S4x8x128.size a := fun k1_t1 v307 v309 k1_hw3 k1_t75 k1_t83 k1_t88 => k1_hw3.2.2.2.2.2.2.2.2.2.2.2.1 k1_t75 k1_t83 k1_t88
theorem k1_off576_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t88 : Fin (k1_t88_loop v307 v309 k1_t75 k1_t83).trips), ∀ a, (k1_off576 v307 v309 k1_t75 k1_t83 k1_t88) a + S1x1x16.size a ≤ S4x8x128.size a := fun k1_t1 v307 v309 k1_hw3 k1_t75 k1_t83 k1_t88 => k1_hw3.2.2.2.2.2.2.2.2.2.2.2.2.1 k1_t75 k1_t83 k1_t88
theorem k1_off577_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t88 : Fin (k1_t88_loop v307 v309 k1_t75 k1_t83).trips), ∀ a, (k1_off577 v307 v309 k1_t75 k1_t83 k1_t88) a + S1x1x16.size a ≤ S4x8x128.size a := fun k1_t1 v307 v309 k1_hw3 k1_t75 k1_t83 k1_t88 => k1_hw3.2.2.2.2.2.2.2.2.2.2.2.2.2.1 k1_t75 k1_t83 k1_t88
theorem k1_off578_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t88 : Fin (k1_t88_loop v307 v309 k1_t75 k1_t83).trips), ∀ a, (k1_off578 v307 v309 k1_t75 k1_t83 k1_t88) a + S1x1x16.size a ≤ S4x8x128.size a := fun k1_t1 v307 v309 k1_hw3 k1_t75 k1_t83 k1_t88 => k1_hw3.2.2.2.2.2.2.2.2.2.2.2.2.2.2.1 k1_t75 k1_t83 k1_t88
theorem k1_off579_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t88 : Fin (k1_t88_loop v307 v309 k1_t75 k1_t83).trips), ∀ a, (k1_off579 v307 v309 k1_t75 k1_t83 k1_t88) a + S1x1x16.size a ≤ S4x8x128.size a := fun k1_t1 v307 v309 k1_hw3 k1_t75 k1_t83 k1_t88 => k1_hw3.2.2.2.2.2.2.2.2.2.2.2.2.2.2.2.1 k1_t75 k1_t83 k1_t88
theorem k1_t89_ok : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips), (k1_t89_loop v307 v309 k1_t75 k1_t83).OK := fun k1_t1 v307 v309 k1_hw3 k1_t75 k1_t83 => k1_hw3.2.2.2.2.2.2.2.2.2.2.2.2.2.2.2.2.1 k1_t75 k1_t83
theorem k1_off580_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t89 : Fin (k1_t89_loop v307 v309 k1_t75 k1_t83).trips), ∀ a, (k1_off580 v307 v309 k1_t75 k1_t83 k1_t89) a + S1x1x16.size a ≤ S4x8x128.size a := fun k1_t1 v307 v309 k1_hw3 k1_t75 k1_t83 k1_t89 => k1_hw3.2.2.2.2.2.2.2.2.2.2.2.2.2.2.2.2.2.1 k1_t75 k1_t83 k1_t89
theorem k1_off581_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t89 : Fin (k1_t89_loop v307 v309 k1_t75 k1_t83).trips), ∀ a, (k1_off581 v307 v309 k1_t75 k1_t83 k1_t89) a + S1x1x16.size a ≤ S4x8x128.size a := fun k1_t1 v307 v309 k1_hw3 k1_t75 k1_t83 k1_t89 => k1_hw3.2.2.2.2.2.2.2.2.2.2.2.2.2.2.2.2.2.2.1 k1_t75 k1_t83 k1_t89
theorem k1_off582_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t89 : Fin (k1_t89_loop v307 v309 k1_t75 k1_t83).trips), ∀ a, (k1_off582 v307 v309 k1_t75 k1_t83 k1_t89) a + S1x1x16.size a ≤ S4x8x128.size a := fun k1_t1 v307 v309 k1_hw3 k1_t75 k1_t83 k1_t89 => k1_hw3.2.2.2.2.2.2.2.2.2.2.2.2.2.2.2.2.2.2.2.1 k1_t75 k1_t83 k1_t89
theorem k1_off583_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t89 : Fin (k1_t89_loop v307 v309 k1_t75 k1_t83).trips), ∀ a, (k1_off583 v307 v309 k1_t75 k1_t83 k1_t89) a + S1x1x16.size a ≤ S4x8x128.size a := fun k1_t1 v307 v309 k1_hw3 k1_t75 k1_t83 k1_t89 => k1_hw3.2.2.2.2.2.2.2.2.2.2.2.2.2.2.2.2.2.2.2.2.1 k1_t75 k1_t83 k1_t89
theorem k1_off584_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t89 : Fin (k1_t89_loop v307 v309 k1_t75 k1_t83).trips), ∀ a, (k1_off584 v307 v309 k1_t75 k1_t83 k1_t89) a + S1x1x16.size a ≤ S4x8x128.size a := fun k1_t1 v307 v309 k1_hw3 k1_t75 k1_t83 k1_t89 => k1_hw3.2.2.2.2.2.2.2.2.2.2.2.2.2.2.2.2.2.2.2.2.2.1 k1_t75 k1_t83 k1_t89
theorem k1_off585_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t89 : Fin (k1_t89_loop v307 v309 k1_t75 k1_t83).trips), ∀ a, (k1_off585 v307 v309 k1_t75 k1_t83 k1_t89) a + S1x1x16.size a ≤ S4x8x128.size a := fun k1_t1 v307 v309 k1_hw3 k1_t75 k1_t83 k1_t89 => k1_hw3.2.2.2.2.2.2.2.2.2.2.2.2.2.2.2.2.2.2.2.2.2.2.1 k1_t75 k1_t83 k1_t89
theorem k1_off586_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t89 : Fin (k1_t89_loop v307 v309 k1_t75 k1_t83).trips), ∀ a, (k1_off586 v307 v309 k1_t75 k1_t83 k1_t89) a + S1x1x16.size a ≤ S4x8x128.size a := fun k1_t1 v307 v309 k1_hw3 k1_t75 k1_t83 k1_t89 => k1_hw3.2.2.2.2.2.2.2.2.2.2.2.2.2.2.2.2.2.2.2.2.2.2.2.1 k1_t75 k1_t83 k1_t89
theorem k1_off587_inb : ∀ (k1_t1 : Fin k1_t1_loop.trips) (v307 : BitVec 32) (v309 : BitVec 32) (k1_hw3 : k1_chk3 k1_t1 v307 v309) (k1_t75 : Fin (k1_t75_loop v307 v309).trips) (k1_t83 : Fin (k1_t83_loop v307 v309 k1_t75).trips) (k1_t89 : Fin (k1_t89_loop v307 v309 k1_t75 k1_t83).trips), ∀ a, (k1_off587 v307 v309 k1_t75 k1_t83 k1_t89) a + S1x1x16.size a ≤ S4x8x128.size a := fun k1_t1 v307 v309 k1_hw3 k1_t75 k1_t83 k1_t89 => k1_hw3.2.2.2.2.2.2.2.2.2.2.2.2.2.2.2.2.2.2.2.2.2.2.2.2 k1_t75 k1_t83 k1_t89

def k1_off588 (k1_t1 : Fin k1_t1_loop.trips) : Fin 1 → Nat :=
  let c2_i32_8 : BitVec 32 := 2#32
  let c0_i32_4 : BitVec 32 := 0#32
  let c1_i32 : BitVec 32 := 1#32
  let arg13 : BitVec 32 := Scf.iv c0_i32_4 c1_i32 k1_t1
  let v15 : BitVec 32 := Scalar.muli c2_i32_8 arg13
  let c1_i32_95 : BitVec 32 := 1#32
  let v300 : BitVec 32 := Scalar.addi v15 c1_i32_95
  let c16_i32_192 : BitVec 32 := 16#32
  let v581 : BitVec 32 := Scalar.muli v300 c16_i32_192
  let v582 : Index := Scalar.indexCast v581
  ![v582.toNat]
def k1_off589 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_6 : BitVec 32 := 32#32
  let v13 : BitVec 32 := Scalar.muli v1 c32_i32_6
  let c16_i32_7 : BitVec 32 := 16#32
  let v14 : BitVec 32 := Scalar.muli v13 c16_i32_7
  ![v14.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S1025 : Shape := ⟨1, ![1025]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x8 : Shape := ⟨2, ![128, 8]⟩
abbrev S8 : Shape := ⟨1, ![8]⟩
abbrev S320000x1 : Shape := ⟨2, ![320000, 1]⟩
abbrev S1x1 : Shape := ⟨2, ![1, 1]⟩
abbrev S_ : Shape := ⟨0, ![]⟩
abbrev S1x128 : Shape := ⟨2, ![1, 128]⟩
abbrev S320000x8 : Shape := ⟨2, ![320000, 8]⟩
abbrev S1x8 : Shape := ⟨2, ![1, 8]⟩
abbrev S320000 : Shape := ⟨1, ![320000]⟩
abbrev S1x1025 : Shape := ⟨2, ![1, 1025]⟩
abbrev S320000x1025 : Shape := ⟨2, ![320000, 1025]⟩
abbrev S1024x8 : Shape := ⟨2, ![1024, 8]⟩
abbrev S1024 : Shape := ⟨1, ![1024]⟩
abbrev S1024x1 : Shape := ⟨2, ![1024, 1]⟩

abbrev nBuf : Space → Nat
  | .hbm => 58
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S1025, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128x8, .f32⟩
  | .hbm, ⟨7, _⟩ => ⟨S8, .f32⟩
  | .hbm, ⟨8, _⟩ => ⟨S320000x1, .f32⟩
  | .hbm, ⟨9, _⟩ => ⟨S1x1, .f32⟩
  | .hbm, ⟨10, _⟩ => ⟨S320000x1, .f32⟩
  | .hbm, ⟨11, _⟩ => ⟨S320000x1, .f32⟩
  | .hbm, ⟨12, _⟩ => ⟨S320000x1, .f32⟩
  | .hbm, ⟨13, _⟩ => ⟨S320000x1, .f32⟩
  | .hbm, ⟨14, _⟩ => ⟨S_, .f32⟩
  | .hbm, ⟨15, _⟩ => ⟨S320000x1, .f32⟩
  | .hbm, ⟨16, _⟩ => ⟨S320000x1, .f32⟩
  | .hbm, ⟨17, _⟩ => ⟨S_, .f32⟩
  | .hbm, ⟨18, _⟩ => ⟨S320000x1, .f32⟩
  | .hbm, ⟨19, _⟩ => ⟨S320000x1, .f32⟩
  | .hbm, ⟨20, _⟩ => ⟨S320000x128, .f32⟩
  | .hbm, ⟨21, _⟩ => ⟨S1x128, .f32⟩
  | .hbm, ⟨22, _⟩ => ⟨S320000x128, .f32⟩
  | .hbm, ⟨23, _⟩ => ⟨S320000x128, .f32⟩
  | .hbm, ⟨24, _⟩ => ⟨S320000x8, .f32⟩
  | .hbm, ⟨25, _⟩ => ⟨S1x8, .f32⟩
  | .hbm, ⟨26, _⟩ => ⟨S320000x8, .f32⟩
  | .hbm, ⟨27, _⟩ => ⟨S320000x8, .f32⟩
  | .hbm, ⟨28, _⟩ => ⟨S320000x8, .f32⟩
  | .hbm, ⟨29, _⟩ => ⟨S320000x8, .f32⟩
  | .hbm, ⟨30, _⟩ => ⟨S320000, .i32⟩
  | .hbm, ⟨31, _⟩ => ⟨S1x1025, .i32⟩
  | .hbm, ⟨32, _⟩ => ⟨S320000x1, .i32⟩
  | .hbm, ⟨33, _⟩ => ⟨S320000x1025, .i32⟩
  | .hbm, ⟨34, _⟩ => ⟨S320000x1025, .i32⟩
  | .hbm, ⟨35, _⟩ => ⟨S320000x1025, .i1⟩
  | .hbm, ⟨36, _⟩ => ⟨S320000x1025, .i32⟩
  | .hbm, ⟨37, _⟩ => ⟨S_, .i32⟩
  | .hbm, ⟨38, _⟩ => ⟨S320000, .i32⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S_, .f32⟩
  | .hbm, ⟨43, _⟩ => ⟨S1024x8, .f32⟩
  | .hbm, ⟨44, _⟩ => ⟨S320000x1, .i32⟩
  | .hbm, ⟨45, _⟩ => ⟨S1024x8, .f32⟩
  | .hbm, ⟨46, _⟩ => ⟨S_, .f32⟩
  | .hbm, ⟨47, _⟩ => ⟨S320000, .f32⟩
  | .hbm, ⟨48, _⟩ => ⟨S_, .f32⟩
  | .hbm, ⟨49, _⟩ => ⟨S1024, .f32⟩
  | .hbm, ⟨50, _⟩ => ⟨S320000x1, .i32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024x1, .f32⟩
  | .hbm, ⟨56, _⟩ => ⟨S1024x8, .f32⟩
  | .hbm, ⟨57, _⟩ => ⟨S1024x8, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_c_1 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proof.Words.lean ====
module

public import Idealize.ShloMosaic.Lib.Tactic
public import Idealize.ShloMosaic.Lib.LoopRemainder

/-!
  The machine words of the segment kernel: the clamped column bounds of one tile, the counted loops by steps of
  one, and the values of their induction variables, read as numbers.
-/

@[expose] public section

namespace Seg

open Idealize.ShloMosaic

/-- A word clamped into `0 … 128`, as the kernel clamps a column bound. -/
@[reducible] def clampW (x : BitVec 32) : BitVec 32 := Scalar.minsi 128#32 (Scalar.maxsi 0#32 x)

/-- `(hi - lo) /s 1 * 1` added to `lo` is `hi`. -/
theorem upper_eq (lo hi : BitVec 32) :
    Scalar.addi lo (Scalar.muli (Scalar.divsi (Scalar.subi hi lo) 1#32) 1#32) = hi := by
  rw [Scalar.muli_divsi_one]; simp only [Scalar.addi, Scalar.subi, IntOp.addi, IntOp.subi]; bv_omega

/-- The trips of a loop by steps of one from `lo` to `hi`. -/
theorem trips_one (lo hi : BitVec 32) : Scf.trips lo hi 1#32 = (hi.toInt - lo.toInt).toNat := by
  have h1 : (1#32 : BitVec 32).toInt = 1 := by decide
  unfold Scf.trips; rw [h1]; simp

/-- A loop by steps of one always has a meaning. -/
theorem ok_one (lo hi : BitVec 32) : Scf.OK lo hi 1#32 := by
  have h1 : (1#32 : BitVec 32).toInt = 1 := by decide
  refine ⟨by rw [h1]; decide, ?_⟩
  rw [trips_one, h1]
  have h2 := @BitVec.toInt_lt 32 hi
  have h3 := @BitVec.toInt_lt 32 lo
  simp only [Nat.add_one_sub_one, show (2 : Int) ^ (32 - 1) = 2147483648 from rfl] at h2 h3 ⊢
  omega

/-- The induction variable of a loop by steps of one, as a number. -/
theorem iv_one (lo : BitVec 32) (k : Nat) (h : lo.toNat + k < 2 ^ 32) : (Scf.iv lo 1#32 k).toNat = lo.toNat + k := by
  unfold Scf.iv
  simp only [BitVec.mul_one, BitVec.toNat_add, BitVec.toNat_ofNat]
  omega

/-- A word below half the range is its own signed value. -/
theorem toInt_small (x : BitVec 32) (h : x.toNat < 2 ^ 31) : x.toInt = x.toNat := by
  rw [BitVec.toInt_eq_toNat_cond]; split <;> omega

/-- The trips of a loop by steps of one between two small bounds. -/
theorem trips_small (lo hi : BitVec 32) (hl : lo.toNat < 2 ^ 31) (hh : hi.toNat < 2 ^ 31) :
    Scf.trips lo hi 1#32 = hi.toNat - lo.toNat := by
  rw [trips_one, toInt_small _ hl, toInt_small _ hh]; omega

/-- The clamped word as a number. -/
theorem clamp_toNat (x : BitVec 32) : (clampW x).toNat = min 128 x.toInt.toNat := by
  simp only [clampW, Scalar.minsi, Scalar.maxsi, IntOp.minsi, IntOp.maxsi, BitVec.slt_eq_decide, decide_eq_true_eq]
  have h0 : (0#32 : BitVec 32).toInt = 0 := by decide
  have h8 : (128#32 : BitVec 32).toInt = 128 := by decide
  by_cases hx : x.toInt < 0
  · rw [if_pos (show x.toInt < (0#32 : BitVec 32).toInt by rw [h0]; exact hx), h0, h8, if_neg (by decide)]
    simp; omega
  · rw [if_neg (show ¬ x.toInt < (0#32 : BitVec 32).toInt by rw [h0]; exact hx), h8]
    have hm : x.toInt = x.toNat := by
      rw [BitVec.toInt_eq_toNat_cond] at hx ⊢; split at hx <;> simp_all <;> omega
    split
    · simp; omega
    · omega

/-- The clamped word is at most 128. -/
theorem clamp_le (x : BitVec 32) : (clampW x).toNat ≤ 128 := by rw [clamp_toNat]; omega

/-- Sixteenths rounded up, as a number. -/
theorem up_toNat (x : BitVec 32) (h : x.toNat ≤ 128) :
    (Scalar.shrui (Scalar.addi x 15#32) 4#32).toNat = (x.toNat + 15) / 16 := by
  simp only [Scalar.shrui, Scalar.addi, IntOp.shrui, IntOp.addi]
  simp [Nat.shiftRight_eq_div_pow]
  omega

/-- Sixteenths rounded down, as a number. -/
theorem dn_toNat (x : BitVec 32) : (Scalar.shrui x 4#32).toNat = x.toNat / 16 := by
  simp only [Scalar.shrui, IntOp.shrui]
  simp [Nat.shiftRight_eq_div_pow]

/-- A shift by seven is a division by 128. -/
theorem sh7_toNat (x : BitVec 32) : (Scalar.shrui x 7#32).toNat = x.toNat / 128 := by
  simp only [Scalar.shrui, IntOp.shrui]
  simp [Nat.shiftRight_eq_div_pow]

/-- Sixteenths of a clamped word, rounded up, are at most 8. -/
theorem up_le (x : BitVec 32) : (Scalar.shrui (Scalar.addi (clampW x) 15#32) 4#32).toNat ≤ 8 := by
  rw [up_toNat _ (clamp_le x)]; have := clamp_le x; omega

/-- Sixteenths of a clamped word, rounded down, are at most 8. -/
theorem dn_le (x : BitVec 32) : (Scalar.shrui (clampW x) 4#32).toNat ≤ 8 := by
  rw [dn_toNat]; have := clamp_le x; omega

/-- The larger of two small words, as a number. -/
theorem maxsi_toNat (x y : BitVec 32) (hx : x.toNat < 2 ^ 31) (hy : y.toNat < 2 ^ 31) :
    (Scalar.maxsi x y).toNat = max x.toNat y.toNat := by
  simp only [Scalar.maxsi, IntOp.maxsi, BitVec.slt_eq_decide, decide_eq_true_eq, toInt_small _ hx, toInt_small _ hy]
  split <;> omega

/-- The smaller of two small words, as a number. -/
theorem minsi_toNat (x y : BitVec 32) (hx : x.toNat < 2 ^ 31) (hy : y.toNat < 2 ^ 31) :
    (Scalar.minsi x y).toNat = min x.toNat y.toNat := by
  simp only [Scalar.minsi, IntOp.minsi, BitVec.slt_eq_decide, decide_eq_true_eq, toInt_small _ hx, toInt_small _ hy]
  split <;> omega

/-- The larger of two words at most 8 is at most 8. -/
theorem max_le (x y : BitVec 32) (hx : x.toNat ≤ 8) (hy : y.toNat ≤ 8) : (Scalar.maxsi x y).toNat ≤ 8 := by
  rw [maxsi_toNat _ _ (by omega) (by omega)]; omega

/-- The clamped distance from the tile's first column. -/
theorem clamp_sub (s B : BitVec 32) (hs : s.toNat < 2 ^ 30) (hB : B.toNat < 2 ^ 30) :
    (clampW (Scalar.subi s B)).toNat = min 128 (s.toNat - B.toNat) := by
  rw [clamp_toNat]
  have h : (Scalar.subi s B).toInt = s.toNat - B.toNat := by
    simp only [Scalar.subi, IntOp.subi]
    rw [BitVec.toInt_sub, toInt_small _ (by omega), toInt_small _ (by omega)]
    simp only [Int.bmod_def]; omega
  rw [h]; omega

/-- A tile loop runs over the tiles `0 … 3` of a buffer at most. -/
theorem tile_lt (y : BitVec 32)
    (k : Fin (Scf.trips 0#32 (Scalar.addi 0#32 (Scalar.muli (Scalar.divsi (Scalar.subi (Scalar.minsi y 4#32) 0#32) 1#32) 1#32)) 1#32)) :
    k.val < 4 := by
  have hk := k.isLt
  have e := upper_eq 0#32 (Scalar.minsi y 4#32)
  replace hk := lt_of_lt_of_eq hk (congrArg (fun z => Scf.trips 0#32 z 1#32) e)
  simp only [trips_one] at hk
  have h4 : (4#32 : BitVec 32).toInt = 4 := by decide
  have h0 : (0#32 : BitVec 32).toInt = 0 := by decide
  simp only [Scalar.minsi, IntOp.minsi, BitVec.slt_eq_decide, decide_eq_true_eq, h0, h4] at hk
  split at hk <;> omega

/-- One loaded vector of a tile: tile `t < 4` of the buffer, row `r < 8`, and sixteen columns from `16 (lo + k)`, are
    inside the buffer whenever the vector index runs below a bound of at most eight. -/
theorem vec_inb (t lo hi : BitVec 32) (r : Nat) (ht : t.toNat < 4) (hr : r < 8) (hl : lo.toNat ≤ 8) (hh : hi.toNat ≤ 8)
    (k : Fin (Scf.trips lo (Scalar.addi lo (Scalar.muli (Scalar.divsi (Scalar.subi hi lo) 1#32) 1#32)) 1#32)) :
    ∀ a : Fin 3, (![t.toNat, r, (Scalar.muli 16#32 (Scf.iv lo 1#32 k.val)).toNat] : Fin 3 → Nat) a
      + (![1, 1, 16] : Fin 3 → Nat) a ≤ (![4, 8, 128] : Fin 3 → Nat) a := by
  have hk := k.isLt
  replace hk := lt_of_lt_of_eq hk (congrArg (fun z => Scf.trips lo z 1#32) (upper_eq lo hi))
  simp only [trips_small lo hi (by omega) (by omega)] at hk
  have hv := iv_one lo k.val (by omega)
  have hm : (Scalar.muli 16#32 (Scf.iv lo 1#32 k.val)).toNat = 16 * (lo.toNat + k.val) := by
    simp only [Scalar.muli, IntOp.muli, BitVec.toNat_mul, hv]
    simp
    omega
  intro a
  fin_cases a
  · simp; omega
  · simp; omega
  · simp [hm]; omega

/-- The first column of vector `lo + k`, as a number, and that its sixteen columns are columns of a tile. -/
theorem col_toNat (lo hi : BitVec 32) (hl : lo.toNat ≤ 8) (hh : hi.toNat ≤ 8)
    (k : Fin (Scf.trips lo (Scalar.addi lo (Scalar.muli (Scalar.divsi (Scalar.subi hi lo) 1#32) 1#32)) 1#32)) :
    (Scalar.muli 16#32 (Scf.iv lo 1#32 k.val)).toNat = 16 * (lo.toNat + k.val) ∧ lo.toNat + k.val < hi.toNat := by
  have hk := k.isLt
  replace hk := lt_of_lt_of_eq hk (congrArg (fun z => Scf.trips lo z 1#32) (upper_eq lo hi))
  simp only [trips_small lo hi (by omega) (by omega)] at hk
  have hv := iv_one lo k.val (by omega)
  refine ⟨?_, by omega⟩
  simp only [Scalar.muli, IntOp.muli, BitVec.toNat_mul, hv]
  simp
  omega

/-- The number of tiles a segment of the rows `s … e` meets, as the kernel computes it. -/
theorem ntiles_toNat (s e : BitVec 32) (hs : s.toNat ≤ e.toNat) (he : e.toNat ≤ 320000) :
    (Scalar.subi (Scalar.shrui (Scalar.addi e 127#32) 7#32) (Scalar.shrui s 7#32)).toNat
      = (e.toNat + 127) / 128 - s.toNat / 128 := by
  have h1 : (Scalar.addi e 127#32).toNat = e.toNat + 127 := by
    simp only [Scalar.addi, IntOp.addi, BitVec.toNat_add, BitVec.toNat_ofNat]; omega
  have h2 := sh7_toNat (Scalar.addi e 127#32)
  have h3 := sh7_toNat s
  rw [h1] at h2
  have h4 : (Scalar.shrui s 7#32).toNat ≤ (Scalar.shrui (Scalar.addi e 127#32) 7#32).toNat := by rw [h2, h3]; omega
  show (Scalar.shrui (Scalar.addi e 127#32) 7#32 - Scalar.shrui s 7#32).toNat = _
  rw [BitVec.toNat_sub_of_le (by exact h4), h2, h3]

/-- The number of chunks of four tiles. -/
theorem nchunks_toNat (x : BitVec 32) (h : x.toNat ≤ 2500) :
    (Scalar.shrui (Scalar.addi x 3#32) 2#32).toNat = (x.toNat + 3) / 4 := by
  simp only [Scalar.shrui, Scalar.addi, IntOp.shrui, IntOp.addi]
  simp [Nat.shiftRight_eq_div_pow]
  omega

/-- The first tile of a later chunk, and that it is one of the segment's tiles. -/
theorem chunk_toNat (s e : BitVec 32) (hs : s.toNat ≤ e.toNat) (he : e.toNat ≤ 320000)
    (c : Fin (Scf.trips 1#32 (Scalar.addi 1#32 (Scalar.muli (Scalar.divsi (Scalar.subi (Scalar.shrui (Scalar.addi
      (Scalar.subi (Scalar.shrui (Scalar.addi e 127#32) 7#32) (Scalar.shrui s 7#32)) 3#32) 2#32) 1#32) 1#32) 1#32)) 1#32)) :
    (Scalar.addi (Scalar.shrui s 7#32) (Scalar.muli (Scf.iv 1#32 1#32 c.val) 4#32)).toNat = s.toNat / 128 + 4 * (c.val + 1)
      ∧ s.toNat / 128 + 4 * (c.val + 1) < (e.toNat + 127) / 128 := by
  have hn := ntiles_toNat s e hs he
  have hm := nchunks_toNat _ (by rw [hn]; omega)
  rw [hn] at hm
  have hc := c.isLt
  replace hc := lt_of_lt_of_eq hc (congrArg (fun z => Scf.trips 1#32 z 1#32) (upper_eq _ _))
  simp only [trips_small 1#32 _ (by decide) (show (Scalar.shrui (Scalar.addi
      (Scalar.subi (Scalar.shrui (Scalar.addi e 127#32) 7#32) (Scalar.shrui s 7#32)) 3#32) 2#32).toNat < 2 ^ 31 by rw [hm]; omega), hm,
    show (1#32 : BitVec 32).toNat = 1 from rfl] at hc
  have hv := iv_one 1#32 c.val (by simp; omega)
  have h3 := sh7_toNat s
  constructor
  · simp only [Scalar.addi, IntOp.addi, Scalar.muli, IntOp.muli, BitVec.toNat_add, BitVec.toNat_mul, hv, h3, show (1#32 : BitVec 32).toNat = 1 from rfl, BitVec.toNat_ofNat]
    omega
  · omega

end Seg
-- ==== Proof.Pre.lean ====
module

public import proofs.«01_k».proof.Proof.Gen.Pre_inputs
public import proofs.«01_k».proof.Proof.Gen.Pre_splits
public import Idealize.ShloMosaic.Lib.ReduceAll
public import Idealize.ShloMosaic.Lib.Affine
public import Idealize.ShloMosaic.Lib.WordArith
public import Idealize.ShloMosaic.Lib.ValueIdxCore
public import Idealize.ShloMosaic.Lib.Pipeline.Value

/-!
  What the preconditions say: the splits are sorted and within the rows, and, for the value, that the features and the weights are finite.
-/

@[expose] public section

noncomputable section

namespace Cert.Pre_inputs

open Idealize.ShloMosaic Idealize.ShloMosaic.ValueIdx Cert.Pre_inputs.Facts

variable {F : FTy → Type} [FloatOps F]

/-- Splits within the rows, each at least the one before. -/
def Splits (a : IVec S1025 32) : Prop :=
  (∀ j : Fin 1025, (a (ix1 j)).toNat ≤ 320000) ∧ ∀ j (h : j < 1024), (a (ix1 ⟨j, by omega⟩)).toNat ≤ (a (ix1 ⟨j + 1, by omega⟩)).toNat

/-- Every element is below plus infinity in magnitude. -/
def Below {s : Shape} (x : FVec F s .f32) : Prop :=
  ∀ i, FloatOps.cmpf .olt (Host.absf x i) (FloatOps.ofBits .f32 0x7F800000#32 : F .f32) = 1#1

/-- The conjuncts of the precondition. -/
theorem fn_conj (a0 : FVec F S320000x128 .f32) (a1 : IVec S1025 32) (a2 : FVec F S128x128 .f32) (a3 : FVec F S128 .f32) (a4 : FVec F S128x1 .f32) (a5 : FVec F S1 .f32)
    (a6 : FVec F S128x8 .f32) (a7 : FVec F S8 .f32) (h : fn a0 a1 a2 a3 a4 a5 a6 a7 = fun _ => 1#1) :
    ((∀ i, IntOp.cmpi .sge (a1 i) 0#32 = 1#1) ∧ (∀ i, IntOp.cmpi .sle (a1 i) 320000#32 = 1#1)
      ∧ (∀ i, IntOp.cmpi .sle (extractStridedSlice S1024 ![0] a1 slices_S1025_S1024_0 i) (extractStridedSlice S1024 ![1] a1 slices_S1025_S1024_1 i) = 1#1))
      ∧ Below a0 ∧ Below a2 ∧ Below a3 ∧ Below a6 := by
  have h0 := congrFun h (Shape.Idx.first h_S_)
  unfold fn fn_part1 at h0
  simp only [andi, IntOp.andi_eq_one] at h0
  haveI : Subsingleton S_.Idx := ⟨fun p q => funext fun a => a.elim0⟩
  obtain ⟨⟨⟨⟨⟨⟨h1, h2⟩, h3⟩, h4⟩, h5⟩, h6⟩, h7⟩ := h0
  exact ⟨⟨Host.reduce_andi_all _ _ _ _ _ h1, Host.reduce_andi_all _ _ _ _ _ h2, Host.reduce_andi_all _ _ _ _ _ h3⟩,
    Host.reduce_andi_all _ _ _ _ _ h4, Host.reduce_andi_all _ _ _ _ _ h5, Host.reduce_andi_all _ _ _ _ _ h6, Host.reduce_andi_all _ _ _ _ _ h7⟩

/-- The three tests on the splits say that they are sorted and within the rows. -/
theorem splits_of (a1 : IVec S1025 32) (h1 : ∀ i, IntOp.cmpi .sge (a1 i) 0#32 = 1#1) (h2 : ∀ i, IntOp.cmpi .sle (a1 i) 320000#32 = 1#1)
    (h3 : ∀ i, IntOp.cmpi .sle (extractStridedSlice S1024 ![0] a1 slices_S1025_S1024_0 i) (extractStridedSlice S1024 ![1] a1 slices_S1025_S1024_1 i) = 1#1) :
    Splits a1 := by
  have hw (i : S1025.Idx) : (a1 i).toInt = (a1 i).toNat ∧ (a1 i).toNat ≤ 320000 := by
    have e1 := IntOp.cmpi_sge.mp (h1 i)
    have e2 := IntOp.cmpi_sle.mp (h2 i)
    rw [show (0#32 : BitVec 32).toInt = 0 by decide] at e1
    rw [show (320000#32 : BitVec 32).toInt = 320000 by decide] at e2
    have hb := (a1 i).isLt
    rw [BitVec.toInt_eq_toNat_cond] at e1 e2 ⊢
    split at e1 <;> rename_i hc
    · rw [if_pos hc] at e2 ⊢
      omega
    · omega
  refine ⟨fun j => (hw _).2, fun j hj => ?_⟩
  have e := IntOp.cmpi_sle.mp (h3 (ix1 ⟨j, hj⟩))
  rw [extractStridedSlice_apply ![0] a1 slices_S1025_S1024_0 (ix1 ⟨j, hj⟩) (ix1 ⟨j, by omega⟩) (fun a => by fin_cases a; show j = 0 + j; omega),
    extractStridedSlice_apply ![1] a1 slices_S1025_S1024_1 (ix1 ⟨j, hj⟩) (ix1 ⟨j + 1, by omega⟩) (fun a => by fin_cases a; show j + 1 = 1 + j; omega),
    (hw _).1, (hw _).1] at e
  omega

/-- The splits of the value claim's precondition are sorted and within the rows. -/
theorem fn_splits (a0 : FVec F S320000x128 .f32) (a1 : IVec S1025 32) (a2 : FVec F S128x128 .f32) (a3 : FVec F S128 .f32) (a4 : FVec F S128x1 .f32) (a5 : FVec F S1 .f32)
    (a6 : FVec F S128x8 .f32) (a7 : FVec F S8 .f32) (h : fn a0 a1 a2 a3 a4 a5 a6 a7 = fun _ => 1#1) : Splits a1 := by
  obtain ⟨⟨h1, h2, h3⟩, -⟩ := fn_conj a0 a1 a2 a3 a4 a5 a6 a7 h
  exact splits_of a1 h1 h2 h3

end Cert.Pre_inputs

namespace Cert.Pre_splits

open Idealize.ShloMosaic

variable {F : FTy → Type} [FloatOps F]

/-- The splits of the frames' precondition are sorted and within the rows. -/
theorem fn_splits (a0 : FVec F S320000x128 .f32) (a1 : IVec S1025 32) (a2 : FVec F S128x128 .f32) (a3 : FVec F S128 .f32) (a4 : FVec F S128x1 .f32) (a5 : FVec F S1 .f32)
    (a6 : FVec F S128x8 .f32) (a7 : FVec F S8 .f32) (h : fn a0 a1 a2 a3 a4 a5 a6 a7 = fun _ => 1#1) : Cert.Pre_inputs.Splits a1 := by
  have h0 := congrFun h (Shape.Idx.first Facts.h_S_)
  unfold fn at h0
  simp only [andi, IntOp.andi_eq_one] at h0
  haveI : Subsingleton S_.Idx := ⟨fun p q => funext fun a => a.elim0⟩
  obtain ⟨⟨h1, h2⟩, h3⟩ := h0
  exact Cert.Pre_inputs.splits_of a1 (Host.reduce_andi_all _ _ _ _ _ h1) (Host.reduce_andi_all _ _ _ _ _ h2) (Host.reduce_andi_all _ _ _ _ _ h3)

end Cert.Pre_splits

end
-- ==== Proof.Ideal.Checks.lean ====
module

public import proofs.«01_k».proof.Proof.Words
public import proofs.«01_k».proof.Proof.Gen.KernelIdeal
public import proofs.«01_k».proof.Proof.Gen.KernelIdeal.Skeleton

/-!
  The side conditions the kernel's body assumes of the segment bounds it has read: they hold whenever both bounds
  are row numbers of the array (`s ≤ e ≤ 320000`).
-/

@[expose] public section

set_option maxRecDepth 16384

namespace Cert.KernelIdeal

open Idealize.ShloMosaic Idealize.SL.Sem

/-- The first chunk of a segment, of any row number, is inside the array. -/
theorem first_inb (x : BitVec 32) (h : x.toNat ≤ 320000) :
    ∀ a, (![(Scalar.shrui x 7#32).toNat, 0, 0] : Fin 3 → Nat) a + S4x8x128.size a ≤ S2550x8x128.size a := by
  intro a
  have h7 := Seg.sh7_toNat x
  fin_cases a
  · simp [h7]; omega
  · simp
  · simp

/-- The side condition of the first segment bound read. -/
theorem chk1_of (x : BitVec 32) (h : x.toNat ≤ 320000) : k1_chk1 x := first_inb x h

/-- A vector of a tile of a buffer is inside the buffer: the tile index is the tile loop's, the bounds of the vector
    loop are at most eight. -/
theorem vec_in (y lo hi : BitVec 32) (r : Nat) (hr : r < 8) (hl : lo.toNat ≤ 8) (hh : hi.toNat ≤ 8)
    (t : Fin (Scf.trips 0#32 (Scalar.addi 0#32 (Scalar.muli (Scalar.divsi (Scalar.subi (Scalar.minsi y 4#32) 0#32) 1#32) 1#32)) 1#32))
    (k : Fin (Scf.trips lo (Scalar.addi lo (Scalar.muli (Scalar.divsi (Scalar.subi hi lo) 1#32) 1#32)) 1#32)) :
    ∀ a, (![(Scalar.indexCast (Scf.iv 0#32 1#32 t.val)).toNat, r,
        (Scalar.indexCast (Scalar.muli 16#32 (Scf.iv lo 1#32 k.val))).toNat] : Fin 3 → Nat) a + S1x1x16.size a ≤ S4x8x128.size a := by
  have ht := Seg.tile_lt y t
  have hi0 := Seg.iv_one 0#32 t.val (by simp; omega)
  exact Seg.vec_inb (Scf.iv 0#32 1#32 t.val) lo hi r (by rw [hi0]; simpa using ht) hr hl hh k

/-- A counted loop by steps of one has a meaning. -/
theorem okF (l : Scf.Loop 32) (h : l.st = 1#32) : l.OK := by
  show Scf.OK l.lb l.ub l.st
  rw [h]; exact Seg.ok_one _ _

/-- A chunk of four tiles that the chunk loop reads after the first is inside the array. -/
theorem chunk_inb (s e : BitVec 32) (hs : s.toNat ≤ e.toNat) (he : e.toNat ≤ 320000)
    (c : Fin (Scf.trips 1#32 (Scalar.addi 1#32 (Scalar.muli (Scalar.divsi (Scalar.subi (Scalar.shrui (Scalar.addi
      (Scalar.subi (Scalar.shrui (Scalar.addi e 127#32) 7#32) (Scalar.shrui s 7#32)) 3#32) 2#32) 1#32) 1#32) 1#32)) 1#32)) :
    ∀ a, (![(Scalar.addi (Scalar.shrui s 7#32) (Scalar.muli (Scf.iv 1#32 1#32 c.val) 4#32)).toNat, 0, 0] : Fin 3 → Nat) a
      + S4x8x128.size a ≤ S2550x8x128.size a := by
  have h := Seg.chunk_toNat s e hs he c
  intro a
  fin_cases a
  · simp [h.1]; omega
  · simp
  · simp

attribute [local irreducible] Scalar.addi Scalar.subi Scalar.muli Scalar.divsi Scalar.shrui Scalar.minsi Scalar.maxsi Scf.iv Scf.trips

set_option maxHeartbeats 0 in
/-- The side conditions of a segment of the first kind, whose bounds are row numbers in order. -/
theorem chk2_of (k1_t1 : Fin k1_t1_loop.trips) (s e : BitVec 32) (hs : s.toNat ≤ e.toNat) (he : e.toNat ≤ 320000) :
    k1_chk2 k1_t1 s e := by
  unfold k1_chk2 k1_chk2_0 k1_chk2_1 k1_chk2_2 k1_chk2_3 k1_chk2_4 k1_chk2_5 k1_chk2_6 k1_chk2_7 k1_chk2_8 k1_chk2_9 k1_chk2_10
  repeat' first
    | with_reducible refine And.intro ?_ ?_
    | exact fun _ => first_inb e he
    | exact okF _ rfl
    | exact fun _ => okF _ rfl
    | exact fun t => (Scf.rem_no_trip _ _ t).elim
    | exact fun _ k => (Scf.rem_no_trip _ _ k).elim
    | (intro t k; refine vec_in _ _ _ _ ?_ ?_ ?_ t k; exacts [by decide, Seg.up_le _, Seg.dn_le _])
    | (intro t k; refine vec_in _ _ _ _ ?_ ?_ ?_ t k; exacts [by decide, Seg.dn_le _, Seg.up_le _])
    | (intro t k; refine vec_in _ _ _ _ ?_ ?_ ?_ t k; exacts [by decide, Seg.max_le _ _ (Seg.dn_le _) (Seg.up_le _), Seg.up_le _])
    | exact fun _ _ => okF _ rfl
    | exact fun c => chunk_inb s e hs he c
    | exact fun _ _ k => (Scf.rem_no_trip _ _ k).elim
    | (intro c t k; refine vec_in _ _ _ _ ?_ ?_ ?_ t k; exacts [by decide, Seg.up_le _, Seg.dn_le _])
    | (intro c t k; refine vec_in _ _ _ _ ?_ ?_ ?_ t k; exacts [by decide, Seg.dn_le _, Seg.up_le _])
    | (intro c t k; refine vec_in _ _ _ _ ?_ ?_ ?_ t k; exacts [by decide, Seg.max_le _ _ (Seg.dn_le _) (Seg.up_le _), Seg.up_le _])

set_option maxHeartbeats 0 in
/-- The side conditions of a segment of the second kind, whose bounds are row numbers in order. -/
theorem chk3_of (k1_t1 : Fin k1_t1_loop.trips) (s e : BitVec 32) (hs : s.toNat ≤ e.toNat) (he : e.toNat ≤ 320000) :
    k1_chk3 k1_t1 s e := by
  unfold k1_chk3 k1_chk3_0 k1_chk3_1 k1_chk3_2 k1_chk3_3 k1_chk3_4 k1_chk3_5 k1_chk3_6 k1_chk3_7 k1_chk3_8 k1_chk3_9 k1_chk3_10
  repeat' first
    | with_reducible refine And.intro ?_ ?_
    | exact fun _ => first_inb e he
    | exact okF _ rfl
    | exact fun _ => okF _ rfl
    | exact fun t => (Scf.rem_no_trip _ _ t).elim
    | exact fun _ k => (Scf.rem_no_trip _ _ k).elim
    | (intro t k; refine vec_in _ _ _ _ ?_ ?_ ?_ t k; exacts [by decide, Seg.up_le _, Seg.dn_le _])
    | (intro t k; refine vec_in _ _ _ _ ?_ ?_ ?_ t k; exacts [by decide, Seg.dn_le _, Seg.up_le _])
    | (intro t k; refine vec_in _ _ _ _ ?_ ?_ ?_ t k; exacts [by decide, Seg.max_le _ _ (Seg.dn_le _) (Seg.up_le _), Seg.up_le _])
    | exact fun _ _ => okF _ rfl
    | exact fun c => chunk_inb s e hs he c
    | exact fun _ _ k => (Scf.rem_no_trip _ _ k).elim
    | (intro c t k; refine vec_in _ _ _ _ ?_ ?_ ?_ t k; exacts [by decide, Seg.up_le _, Seg.dn_le _])
    | (intro c t k; refine vec_in _ _ _ _ ?_ ?_ ?_ t k; exacts [by decide, Seg.dn_le _, Seg.up_le _])
    | (intro c t k; refine vec_in _ _ _ _ ?_ ?_ ?_ t k; exacts [by decide, Seg.max_le _ _ (Seg.dn_le _) (Seg.up_le _), Seg.up_le _])

end Cert.KernelIdeal
-- ==== Proof.Ideal.Steps.lean ====
module

public import proofs.«01_k».proof.Proof.Ideal.Checks
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Pointwise.Index

/-!
  The arithmetic of one 128-column tile in the segment kernel: the eight running vectors, the steps that add sixteen
  columns of a buffer to them (all lanes, or the lanes inside the segment), the three loops of one tile, and what each
  of these programs returns.
-/

@[expose] public section

set_option maxRecDepth 16384

noncomputable section

namespace Cert.KernelIdeal.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## Values -/

/-- `f` applied `n` times, told which time it is. -/
def iterN {σ : Type} (n : Nat) (f : Nat → σ → σ) (a : σ) : σ := Nat.rec a (fun k x => f k x) n

/-- No rounds change nothing. -/
theorem iterN_zero {σ : Type} (f : Nat → σ → σ) (a : σ) : iterN 0 f a = a := rfl
/-- One round more is that round after the others. -/
theorem iterN_succ {σ : Type} (n : Nat) (f : Nat → σ → σ) (a : σ) : iterN (n + 1) f a = f n (iterN n f a) := rfl

/-- Rounds split into the first ones and the rest. -/
theorem iterN_add {σ : Type} (n m : Nat) (f : Nat → σ → σ) (a : σ) :
    iterN (n + m) f a = iterN m (fun k => f (n + k)) (iterN n f a) := by
  induction m with
  | zero => rfl
  | succ m ih => rw [← Nat.add_assoc, iterN_succ, iterN_succ, ih]

/-- Rounds of the same steps end the same. -/
theorem iterN_congr {σ : Type} (n : Nat) (f g : Nat → σ → σ) (a : σ) (h : ∀ k, k < n → f k = g k) : iterN n f a = iterN n g a := by
  induction n with
  | zero => rfl
  | succ n ih => rw [iterN_succ, iterN_succ, ih (fun k hk => h k (by omega)), h n (by omega)]

/-- The eight running vectors, one for each row of the output. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-- Sixteen columns, from `16 j`, of a row given by its columns. -/
def vec (col : Nat → F .f32) (j : Nat) : FVec F S16 .f32 := fun l => col (16 * j + (l 0).val)

/-- The vector of zeros. -/
abbrev zeroV : FVec F S16 .f32 := k1_pay809

/-- Vector `j` of a tile, added to the eight running vectors. -/
def fullVal (t : Nat → Nat → F .f32) (j : Nat) (a : Acc F) : Acc F :=
  (addf a.1 (vec (t 0) j), addf a.2.1 (vec (t 1) j), addf a.2.2.1 (vec (t 2) j), addf a.2.2.2.1 (vec (t 3) j),
    addf a.2.2.2.2.1 (vec (t 4) j), addf a.2.2.2.2.2.1 (vec (t 5) j), addf a.2.2.2.2.2.2.1 (vec (t 6) j), addf a.2.2.2.2.2.2.2 (vec (t 7) j))

/-- The lanes of vector `j` of the tile that begins at column `B` that are columns of the segment `s … e`. -/
def maskN (s e B j : Nat) : IVec S16 1 := fun l =>
  BitVec.ofBool (decide (s ≤ B + 16 * j + (l 0).val) && decide (B + 16 * j + (l 0).val < e))

/-- Vector `j` of a tile, its lanes outside `mask` zeroed, added to the eight running vectors. -/
def maskVal (t : Nat → Nat → F .f32) (mask : Nat → IVec S16 1) (j : Nat) (a : Acc F) : Acc F :=
  (addf a.1 (select (mask j) (vec (t 0) j) zeroV), addf a.2.1 (select (mask j) (vec (t 1) j) zeroV),
    addf a.2.2.1 (select (mask j) (vec (t 2) j) zeroV), addf a.2.2.2.1 (select (mask j) (vec (t 3) j) zeroV),
    addf a.2.2.2.2.1 (select (mask j) (vec (t 4) j) zeroV), addf a.2.2.2.2.2.1 (select (mask j) (vec (t 5) j) zeroV),
    addf a.2.2.2.2.2.2.1 (select (mask j) (vec (t 6) j) zeroV), addf a.2.2.2.2.2.2.2 (select (mask j) (vec (t 7) j) zeroV))

/-- The tile that begins at column `B`, added to the running vectors: its whole vectors first, then the vectors cut by the
    segment's first column, then those cut by its last. -/
def tileVal (t : Nat → Nat → F .f32) (s e B : Nat) (a : Acc F) : Acc F :=
  let p := min 128 (s - B)
  let q := min 128 (e - B)
  iterN ((q + 15) / 16 - max (q / 16) ((p + 15) / 16)) (fun k => maskVal t (maskN s e B) (max (q / 16) ((p + 15) / 16) + k))
    (iterN ((p + 15) / 16 - p / 16) (fun k => maskVal t (maskN s e B) (p / 16 + k))
      (iterN (q / 16 - (p + 15) / 16) (fun k => fullVal t ((p + 15) / 16 + k)) a))

/-- The tiles `t0 … t0 + n` added to the running vectors. -/
def segVal (g : Nat → Nat → Nat → F .f32) (s e t0 n : Nat) (a : Acc F) : Acc F :=
  iterN n (fun k => tileVal (g (t0 + k)) s e (128 * (t0 + k))) a

/-! ## The programs of a tile -/

variable (i : grid1.Coords)

/-- The programs of the tile of the grid point `i`. -/
abbrev TProg (F : FTy → Type) (i : grid1.Coords) :=
  Prog (TpuEff nD τ sig (Elt F) Λ₀ (.scVector ((i 0).castLE hcore1) ((i 1).castLE hsub1)))

/-- Sixteen columns from `c` of row `r` of tile `ar` of a buffer of four tiles. -/
abbrev rowRect (ar r c : Nat) (h : ar < 4 ∧ c + 16 ≤ 128) (hr : r < 8) : Rect S4x8x128 :=
  Rect.unit (s := S4x8x128) ![ar, r, c] S1x1x16.size (by
    have h1 := h.1; have h2 := h.2
    intro a; fin_cases a
    · show ar + 1 ≤ 4; omega
    · show r + 1 ≤ 8; omega
    · show c + 16 ≤ 128; omega)

/-- The program that reads those columns. -/
abbrev readRow (m : Memref sig .scVector .vmem S4x8x128 .f32) (ar r c : Nat) (h : ar < 4 ∧ c + 16 ≤ 128) (hr : r < 8) :
    TProg F i (Vec F S1x1x16 .f32) :=
  Prog.lift (.load m (rowRect ar r c h hr).toLoadRect (View.loadsAt_vmem h_S1x1x16))

/-- The step that adds sixteen columns. -/
def fullStep (m : Memref sig .scVector .vmem S4x8x128 .f32) (ar c : Nat) (h : ar < 4 ∧ c + 16 ≤ 128) (a : Acc F) : TProg F i (Acc F) := do
  let v0 ← readRow i m ar 0 c h (by decide)
  let v1 ← readRow i m ar 1 c h (by decide)
  let v2 ← readRow i m ar 2 c h (by decide)
  let v3 ← readRow i m ar 3 c h (by decide)
  let v4 ← readRow i m ar 4 c h (by decide)
  let v5 ← readRow i m ar 5 c h (by decide)
  let v6 ← readRow i m ar 6 c h (by decide)
  let v7 ← readRow i m ar 7 c h (by decide)
  Pure.pure (addf a.1 (shapeCast S16 v0 shapeCasts_S1x1x16_S16), addf a.2.1 (shapeCast S16 v1 shapeCasts_S1x1x16_S16),
    addf a.2.2.1 (shapeCast S16 v2 shapeCasts_S1x1x16_S16), addf a.2.2.2.1 (shapeCast S16 v3 shapeCasts_S1x1x16_S16),
    addf a.2.2.2.2.1 (shapeCast S16 v4 shapeCasts_S1x1x16_S16), addf a.2.2.2.2.2.1 (shapeCast S16 v5 shapeCasts_S1x1x16_S16),
    addf a.2.2.2.2.2.2.1 (shapeCast S16 v6 shapeCasts_S1x1x16_S16), addf a.2.2.2.2.2.2.2 (shapeCast S16 v7 shapeCasts_S1x1x16_S16))

/-- The step that adds the masked lanes of sixteen columns. -/
def maskStep (m : Memref sig .scVector .vmem S4x8x128 .f32) (mk : IVec S16 1) (z : FVec F S16 .f32) (ar c : Nat) (h : ar < 4 ∧ c + 16 ≤ 128)
    (a : Acc F) : TProg F i (Acc F) := do
  let v0 ← readRow i m ar 0 c h (by decide)
  let v1 ← readRow i m ar 1 c h (by decide)
  let v2 ← readRow i m ar 2 c h (by decide)
  let v3 ← readRow i m ar 3 c h (by decide)
  let v4 ← readRow i m ar 4 c h (by decide)
  let v5 ← readRow i m ar 5 c h (by decide)
  let v6 ← readRow i m ar 6 c h (by decide)
  let v7 ← readRow i m ar 7 c h (by decide)
  Pure.pure (addf a.1 (select mk (shapeCast S16 v0 shapeCasts_S1x1x16_S16) z), addf a.2.1 (select mk (shapeCast S16 v1 shapeCasts_S1x1x16_S16) z),
    addf a.2.2.1 (select mk (shapeCast S16 v2 shapeCasts_S1x1x16_S16) z), addf a.2.2.2.1 (select mk (shapeCast S16 v3 shapeCasts_S1x1x16_S16) z),
    addf a.2.2.2.2.1 (select mk (shapeCast S16 v4 shapeCasts_S1x1x16_S16) z), addf a.2.2.2.2.2.1 (select mk (shapeCast S16 v5 shapeCasts_S1x1x16_S16) z),
    addf a.2.2.2.2.2.2.1 (select mk (shapeCast S16 v6 shapeCasts_S1x1x16_S16) z), addf a.2.2.2.2.2.2.2 (select mk (shapeCast S16 v7 shapeCasts_S1x1x16_S16) z))

/-- The counted loop by steps of one from `lo` to `hi`. -/
@[reducible] def upL (lo hi : BitVec 32) : Scf.Loop 32 :=
  ⟨lo, Scalar.addi lo (Scalar.muli (Scalar.divsi (Scalar.subi hi lo) 1#32) 1#32), 1#32⟩

/-- The loop that would make the remaining trips after it; it makes none. -/
@[reducible] def remL (lo hi : BitVec 32) : Scf.Loop 32 :=
  ⟨Scalar.addi lo (Scalar.muli (Scalar.divsi (Scalar.subi hi lo) 1#32) 1#32), Scalar.addi lo (Scalar.subi hi lo), 1#32⟩

/-- A step of a loop over a chunk's columns stays in the chunk. -/
theorem step_in (art lo hi : BitVec 32) (ht : art.toNat < 4) (hl : lo.toNat ≤ 8) (hh : hi.toNat ≤ 8) (k : Fin (upL lo hi).trips) :
    (Scalar.indexCast art).toNat < 4 ∧ (Scalar.indexCast (Scalar.muli 16#32 (Scf.iv lo 1#32 k.val))).toNat + 16 ≤ 128 := by
  have h := Seg.col_toNat lo hi hl hh k
  refine ⟨ht, ?_⟩
  show (Scalar.muli 16#32 (Scf.iv lo 1#32 k.val)).toNat + 16 ≤ 128
  omega

/-- The lanes of a vector that are columns of the segment, as the kernel computes them. -/
def maskW (v2 : IVec S16 32) (s e B jw : BitVec 32) : IVec S16 1 :=
  andi (cmpi .sge (addi (broadcast S16 (Scalar.addi B (Scalar.muli 16#32 jw))) v2) (broadcast S16 s))
    (cmpi .slt (addi (broadcast S16 (Scalar.addi B (Scalar.muli 16#32 jw))) v2) (broadcast S16 e))

/-- The three loops of one tile, with their empty remainders. -/
def tileProg (m : Memref sig .scVector .vmem S4x8x128 .f32) (v2 : IVec S16 32) (z : FVec F S16 .f32) (s e B art : BitVec 32) (ht : art.toNat < 4)
    (b4 : Fin (remL (Scalar.shrui (Scalar.addi (Seg.clampW (Scalar.subi s B)) 15#32) 4#32) (Scalar.shrui (Seg.clampW (Scalar.subi e B)) 4#32)).trips → Acc F → TProg F i (Acc F))
    (b6 : Fin (remL (Scalar.shrui (Seg.clampW (Scalar.subi s B)) 4#32) (Scalar.shrui (Scalar.addi (Seg.clampW (Scalar.subi s B)) 15#32) 4#32)).trips → Acc F → TProg F i (Acc F))
    (b8 : Fin (remL (Scalar.maxsi (Scalar.shrui (Seg.clampW (Scalar.subi e B)) 4#32) (Scalar.shrui (Scalar.addi (Seg.clampW (Scalar.subi s B)) 15#32) 4#32)) (Scalar.shrui (Scalar.addi (Seg.clampW (Scalar.subi e B)) 15#32) 4#32)).trips → Acc F → TProg F i (Acc F))
    (a : Acc F) : TProg F i (Acc F) := do
  let lo := Scalar.shrui (Scalar.addi (Seg.clampW (Scalar.subi s B)) 15#32) 4#32
  let hi := Scalar.shrui (Seg.clampW (Scalar.subi e B)) 4#32
  let js := Scalar.shrui (Seg.clampW (Scalar.subi s B)) 4#32
  let je := Scalar.shrui (Scalar.addi (Seg.clampW (Scalar.subi e B)) 15#32) 4#32
  let mx := Scalar.maxsi hi lo
  let a1 ← Scf.Loop.for (upL lo hi) (okF _ rfl) a fun k x =>
    fullStep i m (Scalar.indexCast art).toNat (Scalar.indexCast (Scalar.muli 16#32 (Scf.iv lo 1#32 k.val))).toNat (step_in art lo hi ht (Seg.up_le _) (Seg.dn_le _) k) x
  let a2 ← Scf.Loop.for (remL lo hi) (okF _ rfl) a1 b4
  let a3 ← Scf.Loop.for (upL js lo) (okF _ rfl) a2 fun k x =>
    maskStep i m (maskW v2 s e B (Scf.iv js 1#32 k.val)) z (Scalar.indexCast art).toNat (Scalar.indexCast (Scalar.muli 16#32 (Scf.iv js 1#32 k.val))).toNat
      (step_in art js lo ht (Seg.dn_le _) (Seg.up_le _) k) x
  let a4 ← Scf.Loop.for (remL js lo) (okF _ rfl) a3 b6
  let a5 ← Scf.Loop.for (upL mx je) (okF _ rfl) a4 fun k x =>
    maskStep i m (maskW v2 s e B (Scf.iv mx 1#32 k.val)) z (Scalar.indexCast art).toNat (Scalar.indexCast (Scalar.muli 16#32 (Scf.iv mx 1#32 k.val))).toNat
      (step_in art mx je ht (Seg.max_le _ _ (Seg.dn_le _) (Seg.up_le _)) (Seg.up_le _) k) x
  Scf.Loop.for (remL mx je) (okF _ rfl) a5 b8 >>= fun x => Prog.ret x

/-! ## What the steps return -/

section Wp

variable {U : Type} [URA U] (d : Dev nD)

local notation "𝕄" => MT nD τ sig (HIx 1) (Elt F) ℕ U ℕ

/-- The thread of the tile. -/
abbrev thr : Thread nD τ := V d ((i 0).castLE hcore1) ((i 1).castLE hsub1)

/-- The program logic of the tile's thread. -/
abbrev tw {α : Type} (p : TProg F i α) (Q : α → sProp 𝕄) : sProp 𝕄 :=
  wp frame (wpE (defs₀ (F := F)) Variants.none (thr i d) none) Set.univ p Q

/-- The columns of row `r` of tile `ar` of a buffer's contents. -/
def bufTile (X : S4x8x128.Idx → F .f32) (ar r c : Nat) : F .f32 :=
  X (ix3 ⟨ar % 4, Nat.mod_lt _ (by decide)⟩ ⟨r % 8, Nat.mod_lt _ (by decide)⟩ ⟨c % 128, Nat.mod_lt _ (by decide)⟩)

/-- What a load of sixteen columns reads, laid out as a vector. -/
theorem read_vec (m : Memref sig .scVector .vmem S4x8x128 .f32) (f : m.view.ty.Contents (Elt F)) (ar r j : Nat)
    (h : ar < 4 ∧ 16 * j + 16 ≤ 128) (hr : r < 8) :
    shapeCast S16 (m.view.readAt (Elt F) (rowRect ar r (16 * j) h hr).toLoadRect f : Vec F S1x1x16 .f32) shapeCasts_S1x1x16_S16
      = vec (bufTile (m.view.read (Elt F) f) ar r) j := by
  funext l
  have hl : (l 0).val < 16 := (l 0).isLt
  rw [shapeCast_apply _ _ l (ix3 (⟨0, by decide⟩ : Fin 1) (⟨0, by decide⟩ : Fin 1) (⟨(l 0).val, hl⟩ : Fin 16))]
  · rw [View.readAt_apply]
    show m.view.read (Elt F) f _ = m.view.read (Elt F) f _
    congr 1
    funext a
    apply Fin.ext
    have h1 := h.1; have h2 := h.2
    fin_cases a
    · show ar + 1 * 0 = ar % 4; omega
    · show r + 1 * 0 = r % 8; omega
    · show 16 * j + 1 * (l 0).val = (16 * j + (l 0).val) % 128; omega
  · rw [Shape.rowMajor_val_three, Shape.rowMajor_val_one]
    simp [S16, S1x1x16]

/-- One step of the unmasked loop adds sixteen columns of each row. -/
theorem wp_fullStep (m : Memref sig .scVector .vmem S4x8x128 .f32) (q : PosShare TreeShare) (f : Buf (Elt F) (m.view.loc (thr i d))) (ar j c : Nat)
    (hc : c = 16 * j) (h : ar < 4 ∧ c + 16 ≤ 128) (a : Acc F) :
    (m.view.loc (thr i d) ↦{q} f : sProp 𝕄) ⊢ tw (F := F) i d (fullStep i m ar c h a)
      fun a' => iprop(⌜a' = fullVal (bufTile (m.view.read (Elt F) f) ar) j a⌝ ∗ m.view.loc (thr i d) ↦{q} f) := by
  subst hc
  unfold fullStep
  simp only [readRow, Prog.lift, Prog.bind_op, Prog.bind_ret, Prog.pure_eq_ret]
  iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  rw [wp_ret]
  imodintro
  isplitr
  · ipureintro
    rw [read_vec, read_vec, read_vec, read_vec, read_vec, read_vec, read_vec, read_vec]; rfl
  · iexact H

/-- One step of the masked loop adds the columns that lie in the segment. -/
theorem wp_maskStep (m : Memref sig .scVector .vmem S4x8x128 .f32) (q : PosShare TreeShare) (f : Buf (Elt F) (m.view.loc (thr i d))) (ar j c : Nat)
    (mk : IVec S16 1) (hc : c = 16 * j) (h : ar < 4 ∧ c + 16 ≤ 128) (a : Acc F) :
    (m.view.loc (thr i d) ↦{q} f : sProp 𝕄) ⊢ tw (F := F) i d (maskStep i m mk zeroV ar c h a)
      fun a' => iprop(⌜a' = maskVal (bufTile (m.view.read (Elt F) f) ar) (fun _ => mk) j a⌝ ∗ m.view.loc (thr i d) ↦{q} f) := by
  subst hc
  unfold maskStep
  simp only [readRow, Prog.lift, Prog.bind_op, Prog.bind_ret, Prog.pure_eq_ret]
  iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  iapply (wp_load Variants.none (thr i d) none Set.univ (m := m) (S := Finset.univ) (Finset.subset_univ _)) $$ H; iintro H
  rw [wp_ret]
  imodintro
  isplitr
  · ipureintro
    rw [read_vec, read_vec, read_vec, read_vec, read_vec, read_vec, read_vec, read_vec]; rfl
  · iexact H

/-- A loop by steps of one from `lo` to `hi` whose every trip `k` turns the carried values by `f k`, keeping `R`. -/
theorem wp_upL {σ : Type} (R : sProp 𝕄) (lo hi : BitVec 32) (hl : lo.toNat < 2 ^ 31) (hh : hi.toNat < 2 ^ 31) (ok : (upL lo hi).OK) (a : σ)
    (body : Fin (upL lo hi).trips → σ → TProg F i σ) (f : Nat → σ → σ)
    (hb : ∀ (k : Fin (upL lo hi).trips) (x : σ), R ⊢ tw (F := F) i d (body k x) fun x' => iprop(⌜x' = f k.val x⌝ ∗ R)) :
    R ⊢ tw (F := F) i d (Scf.Loop.for (upL lo hi) ok a body) fun x' => iprop(⌜x' = iterN (hi.toNat - lo.toNat) f a⌝ ∗ R) := by
  have ht : (upL lo hi).trips = hi.toNat - lo.toNat := by
    show Scf.trips lo (Scalar.addi lo _) 1#32 = _
    rw [Seg.upper_eq, Seg.trips_small _ _ hl hh]
  have hb' : ∀ (k : Fin (upL lo hi).trips) (x : σ), (iprop(⌜x = iterN k.val f a⌝ ∗ R) : sProp 𝕄) ⊢ tw (F := F) i d (body k x) fun x' => iprop(⌜x' = iterN (k.val + 1) f a⌝ ∗ R) := by
    intro k x
    iintro ⟨%hx, H⟩
    subst hx
    iapply ((hb k _).trans (wp_mono frame (wpE (defs₀ (F := F)) Variants.none (thr i d) none) Set.univ fun x' => show _ ⊢ (iprop(⌜x' = iterN (k.val + 1) f a⌝ ∗ R) : sProp 𝕄) from by
      iintro ⟨%hx', H⟩
      isplitr
      · ipureintro; rw [hx', iterN_succ]
      · iexact H)) $$ H
  iintro H
  iapply (Scf.wp_for frame (wpE (defs₀ (F := F)) Variants.none (thr i d) none) Set.univ (upL lo hi).lb (upL lo hi).ub (upL lo hi).st ok a body
    (fun k x => iprop(⌜x = iterN k f a⌝ ∗ R)) hb')
  isplitl [H]
  · isplitr
    · ipureintro; rfl
    · iexact H
  · iintro %x' ⟨%hx, H⟩
    isplitr
    · ipureintro; rw [hx]; exact congrArg (fun n => iterN n f a) ht
    · iexact H

/-- A loop of the remainder's form returns its initial values. -/
theorem wp_remL {σ : Type} (R : sProp 𝕄) (lo hi : BitVec 32) (ok : (remL lo hi).OK) (a : σ) (body : Fin (remL lo hi).trips → σ → TProg F i σ) :
    R ⊢ tw (F := F) i d (Scf.Loop.for (remL lo hi) ok a body) fun x' => iprop(⌜x' = a⌝ ∗ R) := by
  rw [show Scf.Loop.for (remL lo hi) ok a body = .ret a from Scf.for_rem_eq _ _ ok a body, tw, wp_ret]
  iintro H
  imodintro
  isplitr
  · ipureintro; rfl
  · iexact H

end Wp

end Cert.KernelIdeal.Seg
-- ==== Proof.Ideal.Tile.lean ====
module

public import proofs.«01_k».proof.Proof.Ideal.Steps

/-!
  One tile of one segment: the three loops of `tileProg` return `tileVal`, and each of the four printed loop bodies that
  walk a buffer's tiles is that program.
-/

@[expose] public section

set_option maxRecDepth 16384

noncomputable section

namespace Cert.KernelIdeal.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The kernel's lane mask is the mask of the columns `s … e`. -/
theorem maskW_eq (v2 : IVec S16 32) (hv2 : ∀ l, v2 l = BitVec.ofNat 32 (l 0).val) (s e B jw : BitVec 32) (j : Nat) (hj : jw.toNat = j) (hj8 : j < 8)
    (hs : s.toNat < 2 ^ 30) (he : e.toNat < 2 ^ 30) (hB : B.toNat < 2 ^ 30) : maskW v2 s e B jw = maskN s.toNat e.toNat B.toNat j := by
  funext l
  have hl : (l 0).val < 16 := (l 0).isLt
  have hx : (Scalar.addi (Scalar.addi B (Scalar.muli 16#32 jw)) (v2 l)).toNat = B.toNat + 16 * j + (l 0).val := by
    rw [hv2]
    simp only [Scalar.addi, Scalar.muli, IntOp.addi, IntOp.muli, BitVec.toNat_add, BitVec.toNat_mul, BitVec.toNat_ofNat, hj]
    omega
  show IntOp.andi (IntOp.cmpi .sge (Scalar.addi (Scalar.addi B (Scalar.muli 16#32 jw)) (v2 l)) s) (IntOp.cmpi .slt (Scalar.addi (Scalar.addi B (Scalar.muli 16#32 jw)) (v2 l)) e) = _
  generalize Scalar.addi (Scalar.addi B (Scalar.muli 16#32 jw)) (v2 l) = x at hx
  have hxi := Seg.toInt_small x (by omega)
  have hsi := Seg.toInt_small s (by omega)
  have hei := Seg.toInt_small e (by omega)
  unfold maskN
  rw [← hx]
  have h1 : IntOp.cmpi .sge x s = BitVec.ofBool (decide (s.toNat ≤ x.toNat)) := by
    simp only [IntOp.cmpi, BitVec.sle, hxi, hsi]
    congr 1
    simp
  have h2 : IntOp.cmpi .slt x e = BitVec.ofBool (decide (x.toNat < e.toNat)) := by
    simp only [IntOp.cmpi, BitVec.slt, hxi, hei]
    congr 1
    simp
  rw [h1, h2]
  rcases decide (s.toNat ≤ x.toNat) <;> rcases decide (x.toNat < e.toNat) <;> rfl

section Wp

variable {U : Type} [URA U] (i : grid1.Coords) (d : Dev nD)

local notation "𝕄" => MT nD τ sig (HIx 1) (Elt F) ℕ U ℕ

/-- A program's first part, then the rest. -/
theorem tw_bind {α β : Type} {P R : sProp 𝕄} {p : TProg F i α} {k : α → TProg F i β} {v : α} {Q : β → sProp 𝕄}
    (hp : P ⊢ tw (F := F) i d p fun a => iprop(⌜a = v⌝ ∗ R)) (hk : R ⊢ tw (F := F) i d (k v) Q) : P ⊢ tw (F := F) i d (p >>= k) Q := by
  rw [show tw (F := F) i d (p >>= k) Q = tw (F := F) i d p fun a => tw (F := F) i d (k a) Q from wp_bind _ _ _ _ _ _]
  exact hp.trans (wp_mono _ _ _ fun a => show _ ⊢ tw (F := F) i d (k a) Q from by
    iintro ⟨%h, H⟩
    subst h
    iapply hk $$ H)

/-- The unmasked loop, whole. -/
theorem wp_fullLoop (m : Memref sig .scVector .vmem S4x8x128 .f32) (q : PosShare TreeShare) (f : Buf (Elt F) (m.view.loc (thr i d)))
    (art lo hi : BitVec 32) (ht : art.toNat < 4) (hl : lo.toNat ≤ 8) (hh : hi.toNat ≤ 8) (ok : (upL lo hi).OK) (a : Acc F) :
    (m.view.loc (thr i d) ↦{q} f : sProp 𝕄) ⊢ tw (F := F) i d (Scf.Loop.for (upL lo hi) ok a fun k x =>
        fullStep i m (Scalar.indexCast art).toNat (Scalar.indexCast (Scalar.muli 16#32 (Scf.iv lo 1#32 k.val))).toNat (step_in art lo hi ht hl hh k) x)
      fun a' => iprop(⌜a' = iterN (hi.toNat - lo.toNat) (fun k => fullVal (bufTile (m.view.read (Elt F) f) art.toNat) (lo.toNat + k)) a⌝ ∗ m.view.loc (thr i d) ↦{q} f) :=
  wp_upL i d _ lo hi (by omega) (by omega) ok a _ (fun k => fullVal (bufTile (m.view.read (Elt F) f) art.toNat) (lo.toNat + k)) fun k x =>
    wp_fullStep i d m q f _ (lo.toNat + k.val) _ (Seg.col_toNat lo hi hl hh k).1 (step_in art lo hi ht hl hh k) x

/-- A masked loop, whole. -/
theorem wp_maskLoop (m : Memref sig .scVector .vmem S4x8x128 .f32) (q : PosShare TreeShare) (f : Buf (Elt F) (m.view.loc (thr i d)))
    (v2 : IVec S16 32) (hv2 : ∀ l, v2 l = BitVec.ofNat 32 (l 0).val) (s e B : BitVec 32)
    (hs : s.toNat < 2 ^ 30) (he : e.toNat < 2 ^ 30) (hB : B.toNat < 2 ^ 30)
    (art lo hi : BitVec 32) (ht : art.toNat < 4) (hl : lo.toNat ≤ 8) (hh : hi.toNat ≤ 8) (ok : (upL lo hi).OK) (a : Acc F) :
    (m.view.loc (thr i d) ↦{q} f : sProp 𝕄) ⊢ tw (F := F) i d (Scf.Loop.for (upL lo hi) ok a fun k x =>
        maskStep i m (maskW v2 s e B (Scf.iv lo 1#32 k.val)) zeroV (Scalar.indexCast art).toNat (Scalar.indexCast (Scalar.muli 16#32 (Scf.iv lo 1#32 k.val))).toNat
          (step_in art lo hi ht hl hh k) x)
      fun a' => iprop(⌜a' = iterN (hi.toNat - lo.toNat) (fun k => maskVal (bufTile (m.view.read (Elt F) f) art.toNat) (maskN s.toNat e.toNat B.toNat) (lo.toNat + k)) a⌝
        ∗ m.view.loc (thr i d) ↦{q} f) :=
  wp_upL i d _ lo hi (by omega) (by omega) ok a _ (fun k => maskVal (bufTile (m.view.read (Elt F) f) art.toNat) (maskN s.toNat e.toNat B.toNat) (lo.toNat + k)) fun k x => by
    have hc := Seg.col_toNat lo hi hl hh k
    rw [maskW_eq v2 hv2 s e B _ (lo.toNat + k.val) (Seg.iv_one lo k.val (by omega)) (by omega) hs he hB]
    exact wp_maskStep i d m q f _ (lo.toNat + k.val) _ (maskN s.toNat e.toNat B.toNat (lo.toNat + k.val)) hc.1 (step_in art lo hi ht hl hh k) x

/-- What the program of one tile returns. -/
theorem wp_tileProg (m : Memref sig .scVector .vmem S4x8x128 .f32) (q : PosShare TreeShare) (f : Buf (Elt F) (m.view.loc (thr i d)))
    (v2 : IVec S16 32) (hv2 : ∀ l, v2 l = BitVec.ofNat 32 (l 0).val) (s e B art : BitVec 32) (ht : art.toNat < 4)
    (hs : s.toNat < 2 ^ 30) (he : e.toNat < 2 ^ 30) (hB : B.toNat < 2 ^ 30) (b4 b6 b8) (a : Acc F) :
    (m.view.loc (thr i d) ↦{q} f : sProp 𝕄) ⊢ tw (F := F) i d (tileProg i m v2 zeroV s e B art ht b4 b6 b8 a)
      fun a' => iprop(⌜a' = tileVal (bufTile (m.view.read (Elt F) f) art.toNat) s.toNat e.toNat B.toNat a⌝ ∗ m.view.loc (thr i d) ↦{q} f) := by
  have hp : (Seg.clampW (Scalar.subi s B)).toNat = min 128 (s.toNat - B.toNat) := Seg.clamp_sub s B hs hB
  have hq : (Seg.clampW (Scalar.subi e B)).toNat = min 128 (e.toNat - B.toNat) := Seg.clamp_sub e B he hB
  have hlo : (Scalar.shrui (Scalar.addi (Seg.clampW (Scalar.subi s B)) 15#32) 4#32).toNat = (min 128 (s.toNat - B.toNat) + 15) / 16 := by
    rw [Seg.up_toNat _ (Seg.clamp_le _), hp]
  have hje : (Scalar.shrui (Scalar.addi (Seg.clampW (Scalar.subi e B)) 15#32) 4#32).toNat = (min 128 (e.toNat - B.toNat) + 15) / 16 := by
    rw [Seg.up_toNat _ (Seg.clamp_le _), hq]
  have hjs : (Scalar.shrui (Seg.clampW (Scalar.subi s B)) 4#32).toNat = min 128 (s.toNat - B.toNat) / 16 := by rw [Seg.dn_toNat, hp]
  have hhi : (Scalar.shrui (Seg.clampW (Scalar.subi e B)) 4#32).toNat = min 128 (e.toNat - B.toNat) / 16 := by rw [Seg.dn_toNat, hq]
  have hmx : (Scalar.maxsi (Scalar.shrui (Seg.clampW (Scalar.subi e B)) 4#32) (Scalar.shrui (Scalar.addi (Seg.clampW (Scalar.subi s B)) 15#32) 4#32)).toNat
      = max (min 128 (e.toNat - B.toNat) / 16) ((min 128 (s.toNat - B.toNat) + 15) / 16) := by
    rw [Seg.maxsi_toNat _ _ (by rw [hhi]; omega) (by rw [hlo]; omega), hlo, hhi]
  unfold tileProg
  refine tw_bind i d (wp_fullLoop i d m q f art _ _ ht (Seg.up_le _) (Seg.dn_le _) _ a) ?_
  refine tw_bind (U := U) i d (wp_remL (U := U) i d _ _ _ _ _ _) ?_
  refine tw_bind i d (wp_maskLoop i d m q f v2 hv2 s e B hs he hB art _ _ ht (Seg.dn_le _) (Seg.up_le _) _ _) ?_
  refine tw_bind (U := U) i d (wp_remL (U := U) i d _ _ _ _ _ _) ?_
  refine tw_bind i d (wp_maskLoop i d m q f v2 hv2 s e B hs he hB art _ _ ht (Seg.max_le _ _ (Seg.dn_le _) (Seg.up_le _)) (Seg.up_le _) _ _) ?_
  rw [hlo, hje, hjs, hhi, hmx]
  refine tw_bind (U := U) i d (wp_remL (U := U) i d _ _ _ _ _ _) ?_
  show _ ⊢ wp _ _ _ (Prog.ret _) _
  rw [wp_ret]
  iintro H
  imodintro
  isplitr
  · ipureintro; rfl
  · iexact H

end Wp

end Cert.KernelIdeal.Seg
-- ==== Proof.Ideal.Walk.lean ====
module

public import proofs.«01_k».proof.Proof.Ideal.Tile

/-!
  Each of the four printed loop bodies that walk a buffer's tiles is the program of one tile, so that the walk adds the
  buffer's tiles to the running vectors.
-/

@[expose] public section

set_option maxRecDepth 16384

noncomputable section

namespace Cert.KernelIdeal.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Wp

variable {U : Type} [URA U] (i : grid1.Coords) (d : Dev nD)

local notation "𝕄" => MT nD τ sig (HIx 1) (Elt F) ℕ U ℕ

/-- The first tiles of a buffer, added to the running vectors: the buffer's tile `k` is tile `t0 + k` of the whole. -/
def walkVal (X : S4x8x128.Idx → F .f32) (s e t0 n : Nat) (a : Acc F) : Acc F :=
  iterN n (fun k => tileVal (bufTile X k) s e (128 * (t0 + k))) a

/-- The upper bound of a loop over a buffer's tiles, the first of which is tile `T`. -/
abbrev walkHi (e T : BitVec 32) : BitVec 32 := Scalar.minsi (Scalar.subi (Scalar.shrui (Scalar.addi e 127#32) 7#32) T) 4#32

/-- The last chunk's bound as a number. -/
theorem walkHi_toNat (e T : BitVec 32) (he : e.toNat ≤ 320000) (hT : T.toNat ≤ (e.toNat + 127) / 128) :
    (walkHi e T).toNat = min ((e.toNat + 127) / 128 - T.toNat) 4 := by
  have h1 : (Scalar.shrui (Scalar.addi e 127#32) 7#32).toNat = (e.toNat + 127) / 128 := by
    rw [Seg.sh7_toNat]
    simp only [Scalar.addi, IntOp.addi, BitVec.toNat_add, BitVec.toNat_ofNat]
    omega
  have h2 : (Scalar.subi (Scalar.shrui (Scalar.addi e 127#32) 7#32) T).toNat = (e.toNat + 127) / 128 - T.toNat := by
    generalize Scalar.shrui (Scalar.addi e 127#32) 7#32 = y at h1
    simp only [Scalar.subi, IntOp.subi, BitVec.toNat_sub]
    omega
  rw [walkHi, Seg.minsi_toNat _ _ (by rw [h2]; omega) (by decide), h2]
  rfl

/-- A loop over a buffer's tiles whose trips each add their tile adds them all. -/
theorem wp_walk (m : Memref sig .scVector .vmem S4x8x128 .f32) (q : PosShare TreeShare) (f : Buf (Elt F) (m.view.loc (thr i d)))
    (s e T : BitVec 32) (he : e.toNat ≤ 320000) (hT : T.toNat ≤ (e.toNat + 127) / 128) (ok : (upL 0#32 (walkHi e T)).OK) (a : Acc F)
    (body : Fin (upL 0#32 (walkHi e T)).trips → Acc F → TProg F i (Acc F))
    (hb : ∀ (k : Fin (upL 0#32 (walkHi e T)).trips) (x : Acc F), (Scf.iv 0#32 1#32 k.val).toNat < 4 →
      (Scalar.muli (Scalar.addi T (Scf.iv 0#32 1#32 k.val)) 128#32).toNat < 2 ^ 30 →
      (m.view.loc (thr i d) ↦{q} f : sProp 𝕄) ⊢ tw (F := F) i d (body k x) fun x' =>
        iprop(⌜x' = tileVal (bufTile (m.view.read (Elt F) f) (Scf.iv 0#32 1#32 k.val).toNat) s.toNat e.toNat
          (Scalar.muli (Scalar.addi T (Scf.iv 0#32 1#32 k.val)) 128#32).toNat x⌝ ∗ m.view.loc (thr i d) ↦{q} f)) :
    (m.view.loc (thr i d) ↦{q} f : sProp 𝕄) ⊢ tw (F := F) i d (Scf.Loop.for (upL 0#32 (walkHi e T)) ok a body)
      fun x' => iprop(⌜x' = walkVal (m.view.read (Elt F) f) s.toNat e.toNat T.toNat (min ((e.toNat + 127) / 128 - T.toNat) 4) a⌝ ∗ m.view.loc (thr i d) ↦{q} f) := by
  have hh := walkHi_toNat e T he hT
  have h := wp_upL (U := U) (F := F) i d (m.view.loc (thr i d) ↦{q} f : sProp 𝕄) 0#32 (walkHi e T) (by decide) (by omega) ok a body
    (fun k => tileVal (bufTile (m.view.read (Elt F) f) k) s.toNat e.toNat (128 * (T.toNat + k))) (fun k x => by
      have hk : k.val < 4 := Seg.tile_lt _ k
      have hv : (Scf.iv 0#32 1#32 k.val).toNat = k.val := by rw [Seg.iv_one _ _ (by simp; omega)]; simp
      have hB : (Scalar.muli (Scalar.addi T (Scf.iv 0#32 1#32 k.val)) 128#32).toNat = 128 * (T.toNat + k.val) := by
        simp only [Scalar.muli, Scalar.addi, IntOp.muli, IntOp.addi, BitVec.toNat_mul, BitVec.toNat_add, BitVec.toNat_ofNat, hv]
        omega
      have h := hb k x (by omega) (by omega)
      rw [hB, hv] at h
      exact h)
  rw [hh, show (0#32 : BitVec 32).toNat = 0 from rfl, Nat.sub_zero] at h
  exact h

set_option maxHeartbeats 4000000 in
/-- The tiles of the first segment's first chunk. -/
theorem wp_walk2 (q : PosShare TreeShare) (f : Buf (Elt F) (((Memref.whole cc1_scratch1 : Memref sig .scVector .vmem S4x8x128 .f32)).view.loc (thr i d)))
    (v2 : IVec S16 32) (hv2 : ∀ l, v2 l = BitVec.ofNat 32 (l 0).val) (s e : BitVec 32) (k1_t1 : Fin k1_t1_loop.trips) (hw : k1_chk2 k1_t1 s e)
    (hs : s.toNat ≤ e.toNat) (he : e.toNat ≤ 320000) (a : Acc F) :
    (((Memref.whole cc1_scratch1 : Memref sig .scVector .vmem S4x8x128 .f32)).view.loc (thr i d) ↦{q} f : sProp 𝕄) ⊢ tw (F := F) i d (Scf.Loop.for (k1_t2_loop s e) (k1_t2_ok k1_t1 s e hw) a
        (k1_t2_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 zeroV 0#32 1#32 k1_t1 s e hw (Scalar.shrui s 7#32)))
      fun x' => iprop(⌜x' = walkVal (((Memref.whole cc1_scratch1 : Memref sig .scVector .vmem S4x8x128 .f32)).view.read (Elt F) f) s.toNat e.toNat (Scalar.shrui s 7#32).toNat (min ((e.toNat + 127) / 128 - (Scalar.shrui s 7#32).toNat) 4) a⌝ ∗ ((Memref.whole cc1_scratch1 : Memref sig .scVector .vmem S4x8x128 .f32)).view.loc (thr i d) ↦{q} f) :=
  wp_walk i d (Memref.whole cc1_scratch1 : Memref sig .scVector .vmem S4x8x128 .f32) q f s e (Scalar.shrui s 7#32) he (by rw [Seg.sh7_toNat]; omega) (okF _ rfl) a _ fun k x ht hB => by
    obtain ⟨a0, a1, a2, a3, a4, a5, a6, a7⟩ := x
    exact wp_tileProg (U := U) i d (Memref.whole cc1_scratch1 : Memref sig .scVector .vmem S4x8x128 .f32) q f v2 hv2 s e (Scalar.muli (Scalar.addi (Scalar.shrui s 7#32) (Scf.iv 0#32 1#32 k.val)) 128#32) (Scf.iv 0#32 1#32 k.val) ht (by omega) (by omega) hB
      _ _ _ (a0, a1, a2, a3, a4, a5, a6, a7)

set_option maxHeartbeats 4000000 in
/-- The tiles of the second segment's first chunk. -/
theorem wp_walk46 (q : PosShare TreeShare) (f : Buf (Elt F) (((Memref.whole cc1_scratch2 : Memref sig .scVector .vmem S4x8x128 .f32)).view.loc (thr i d)))
    (v2 : IVec S16 32) (hv2 : ∀ l, v2 l = BitVec.ofNat 32 (l 0).val) (s e : BitVec 32) (k1_t1 : Fin k1_t1_loop.trips) (hw : k1_chk3 k1_t1 s e)
    (hs : s.toNat ≤ e.toNat) (he : e.toNat ≤ 320000)  (w15 w95 : BitVec 32) (a : Acc F) :
    (((Memref.whole cc1_scratch2 : Memref sig .scVector .vmem S4x8x128 .f32)).view.loc (thr i d) ↦{q} f : sProp 𝕄) ⊢ tw (F := F) i d (Scf.Loop.for (k1_t46_loop s e) (k1_t46_ok k1_t1 s e hw) a
        (k1_t46_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 zeroV k1_t1 w15 w95 s e hw (Scalar.shrui s 7#32)))
      fun x' => iprop(⌜x' = walkVal (((Memref.whole cc1_scratch2 : Memref sig .scVector .vmem S4x8x128 .f32)).view.read (Elt F) f) s.toNat e.toNat (Scalar.shrui s 7#32).toNat (min ((e.toNat + 127) / 128 - (Scalar.shrui s 7#32).toNat) 4) a⌝ ∗ ((Memref.whole cc1_scratch2 : Memref sig .scVector .vmem S4x8x128 .f32)).view.loc (thr i d) ↦{q} f) :=
  wp_walk i d (Memref.whole cc1_scratch2 : Memref sig .scVector .vmem S4x8x128 .f32) q f s e (Scalar.shrui s 7#32) he (by rw [Seg.sh7_toNat]; omega) (okF _ rfl) a _ fun k x ht hB => by
    obtain ⟨a0, a1, a2, a3, a4, a5, a6, a7⟩ := x
    exact wp_tileProg (U := U) i d (Memref.whole cc1_scratch2 : Memref sig .scVector .vmem S4x8x128 .f32) q f v2 hv2 s e (Scalar.muli (Scalar.addi (Scalar.shrui s 7#32) (Scf.iv 0#32 1#32 k.val)) 128#32) (Scf.iv 0#32 1#32 k.val) ht (by omega) (by omega) hB
      _ _ _ (a0, a1, a2, a3, a4, a5, a6, a7)

set_option maxHeartbeats 4000000 in
/-- The tiles of a later chunk of the first segment. -/
theorem wp_walk17 (q : PosShare TreeShare) (f : Buf (Elt F) (((Memref.whole cc1_scratch3 : Memref sig .scVector .vmem S4x8x128 .f32)).view.loc (thr i d)))
    (v2 : IVec S16 32) (hv2 : ∀ l, v2 l = BitVec.ofNat 32 (l 0).val) (s e : BitVec 32) (k1_t1 : Fin k1_t1_loop.trips) (hw : k1_chk2 k1_t1 s e)
    (hs : s.toNat ≤ e.toNat) (he : e.toNat ≤ 320000) (w24 w25 w27 w1 w2 w3 : BitVec 32) (b0 b1 b2 b3 b4 b5 b6 b7 : FVec F S16 .f32) (c : Fin (k1_t16_loop s e).trips) (a : Acc F) :
    (((Memref.whole cc1_scratch3 : Memref sig .scVector .vmem S4x8x128 .f32)).view.loc (thr i d) ↦{q} f : sProp 𝕄) ⊢ tw (F := F) i d (Scf.Loop.for (k1_t17_loop s e c) (k1_t17_ok k1_t1 s e hw c) a
        (k1_t17_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 zeroV k1_t1 s e hw w24 w25 w27 b0 b1 b2 b3 b4 b5 b6 b7 w1 w2 w3 c (Scalar.addi (Scalar.shrui s 7#32) (Scalar.muli (Scf.iv 1#32 1#32 c.val) 4#32))))
      fun x' => iprop(⌜x' = walkVal (((Memref.whole cc1_scratch3 : Memref sig .scVector .vmem S4x8x128 .f32)).view.read (Elt F) f) s.toNat e.toNat (Scalar.addi (Scalar.shrui s 7#32) (Scalar.muli (Scf.iv 1#32 1#32 c.val) 4#32)).toNat (min ((e.toNat + 127) / 128 - (Scalar.addi (Scalar.shrui s 7#32) (Scalar.muli (Scf.iv 1#32 1#32 c.val) 4#32)).toNat) 4) a⌝ ∗ ((Memref.whole cc1_scratch3 : Memref sig .scVector .vmem S4x8x128 .f32)).view.loc (thr i d) ↦{q} f) :=
  wp_walk i d (Memref.whole cc1_scratch3 : Memref sig .scVector .vmem S4x8x128 .f32) q f s e (Scalar.addi (Scalar.shrui s 7#32) (Scalar.muli (Scf.iv 1#32 1#32 c.val) 4#32)) he (by have := Seg.chunk_toNat s e hs he c; omega) (okF _ rfl) a _ fun k x ht hB => by
    obtain ⟨a0, a1, a2, a3, a4, a5, a6, a7⟩ := x
    exact wp_tileProg (U := U) i d (Memref.whole cc1_scratch3 : Memref sig .scVector .vmem S4x8x128 .f32) q f v2 hv2 s e (Scalar.muli (Scalar.addi (Scalar.addi (Scalar.shrui s 7#32) (Scalar.muli (Scf.iv 1#32 1#32 c.val) 4#32)) (Scf.iv 0#32 1#32 k.val)) 128#32) (Scf.iv 0#32 1#32 k.val) ht (by omega) (by omega) hB
      _ _ _ (a0, a1, a2, a3, a4, a5, a6, a7)

set_option maxHeartbeats 4000000 in
/-- The tiles of a later chunk of the second segment. -/
theorem wp_walk61 (q : PosShare TreeShare) (f : Buf (Elt F) (((Memref.whole cc1_scratch3 : Memref sig .scVector .vmem S4x8x128 .f32)).view.loc (thr i d)))
    (v2 : IVec S16 32) (hv2 : ∀ l, v2 l = BitVec.ofNat 32 (l 0).val) (s e : BitVec 32) (k1_t1 : Fin k1_t1_loop.trips) (hw : k1_chk3 k1_t1 s e)
    (hs : s.toNat ≤ e.toNat) (he : e.toNat ≤ 320000) (w24 w25 w27 w1 w2 w3 : BitVec 32) (b0 b1 b2 b3 b4 b5 b6 b7 : FVec F S16 .f32) (c : Fin (k1_t60_loop s e).trips) (a : Acc F) :
    (((Memref.whole cc1_scratch3 : Memref sig .scVector .vmem S4x8x128 .f32)).view.loc (thr i d) ↦{q} f : sProp 𝕄) ⊢ tw (F := F) i d (Scf.Loop.for (k1_t61_loop s e c) (k1_t61_ok k1_t1 s e hw c) a
        (k1_t61_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 zeroV k1_t1 s e hw w24 w25 w27 b0 b1 b2 b3 b4 b5 b6 b7 w1 w2 w3 c (Scalar.addi (Scalar.shrui s 7#32) (Scalar.muli (Scf.iv 1#32 1#32 c.val) 4#32))))
      fun x' => iprop(⌜x' = walkVal (((Memref.whole cc1_scratch3 : Memref sig .scVector .vmem S4x8x128 .f32)).view.read (Elt F) f) s.toNat e.toNat (Scalar.addi (Scalar.shrui s 7#32) (Scalar.muli (Scf.iv 1#32 1#32 c.val) 4#32)).toNat (min ((e.toNat + 127) / 128 - (Scalar.addi (Scalar.shrui s 7#32) (Scalar.muli (Scf.iv 1#32 1#32 c.val) 4#32)).toNat) 4) a⌝ ∗ ((Memref.whole cc1_scratch3 : Memref sig .scVector .vmem S4x8x128 .f32)).view.loc (thr i d) ↦{q} f) :=
  wp_walk i d (Memref.whole cc1_scratch3 : Memref sig .scVector .vmem S4x8x128 .f32) q f s e (Scalar.addi (Scalar.shrui s 7#32) (Scalar.muli (Scf.iv 1#32 1#32 c.val) 4#32)) he (by have := Seg.chunk_toNat s e hs he c; omega) (okF _ rfl) a _ fun k x ht hB => by
    obtain ⟨a0, a1, a2, a3, a4, a5, a6, a7⟩ := x
    exact wp_tileProg (U := U) i d (Memref.whole cc1_scratch3 : Memref sig .scVector .vmem S4x8x128 .f32) q f v2 hv2 s e (Scalar.muli (Scalar.addi (Scalar.addi (Scalar.shrui s 7#32) (Scalar.muli (Scf.iv 1#32 1#32 c.val) 4#32)) (Scf.iv 0#32 1#32 k.val)) 128#32) (Scf.iv 0#32 1#32 k.val) ht (by omega) (by omega) hB
      _ _ _ (a0, a1, a2, a3, a4, a5, a6, a7)

end Wp

end Cert.KernelIdeal.Seg
-- ==== Proof.Ideal.Copy.lean ====
module

public import proofs.«01_k».proof.Proof.Ideal.Walk

/-!
  A copy of four tiles into a buffer: started on one of the tile's semaphores, and collected later, the buffer then holding
  the four tiles of the large array that the copy read.
-/

@[expose] public section

set_option maxRecDepth 16384

noncomputable section

namespace Cert.KernelIdeal.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The large array, by tile, row and column. -/
def gT (g : S2550x8x128.Idx → F .f32) (t r c : Nat) : F .f32 :=
  g (ix3 ⟨t % 2550, Nat.mod_lt _ (by decide)⟩ ⟨r % 8, Nat.mod_lt _ (by decide)⟩ ⟨c % 128, Nat.mod_lt _ (by decide)⟩)

/-- The buffer's contents `X` are the four tiles of `g` from `t0`. -/
def ChunkOf (X : S4x8x128.Idx → F .f32) (g : S2550x8x128.Idx → F .f32) (t0 : Nat) : Prop :=
  ∀ a, a < 4 → bufTile X a = gT g (t0 + a)

/-- A chunk copied whole from four tiles of the gated rows reads as those tiles. -/
theorem chunkOf_read {rd : Rect S2550x8x128} (X : S4x8x128.Idx → F .f32) (g : S2550x8x128.Idx → F .f32) (t0 : Nat) (off : Fin 3 → Nat) (inb)
    (hoff : off = ![t0, 0, 0]) (h : X = fun x => g ((Rect.unit (s := S2550x8x128) off S4x8x128.size inb).emb x)) : ChunkOf X g t0 := by
  subst hoff
  intro a ha
  have h0 : t0 + 4 ≤ 2550 := inb 0
  funext r c
  unfold bufTile gT
  rw [h]
  refine congrArg g (funext fun y => Fin.ext ?_)
  match y with
  | 0 => show t0 + 1 * (a % 4) = (t0 + a) % 2550; rw [Nat.mod_eq_of_lt ha, Nat.mod_eq_of_lt (by omega)]; omega
  | 1 => show 0 + 1 * (r % 8) = r % 8; omega
  | 2 => show 0 + 1 * (c % 128) = c % 128; omega

/-- The walk over a buffer's first tiles adds the tiles of the large array that it holds. -/
theorem walkVal_chunk (X : S4x8x128.Idx → F .f32) (g : S2550x8x128.Idx → F .f32) (s e t0 n : Nat) (hn : n ≤ 4) (h : ChunkOf X g t0) (a : Acc F) :
    walkVal X s e t0 n a = segVal (gT g) s e t0 n a :=
  iterN_congr n _ _ a fun k hk => by rw [h k (by omega)]

section Wp

variable {U : Type} [URA U] [CountersIn U] (i : grid1.Coords) (d : Dev nD)

local notation "𝕄" => MT nD τ sig (HIx 1) (Elt F) ℕ U ℕ

/-- A copy of the four tiles from `t0` into `dst` is under way on the semaphore `sm`. -/
def Pend (sm : DmaSem sig) (dst : Memref sig .scVector .vmem S4x8x128 .f32) (q : PosShare TreeShare) (g : Buf (Elt F) (((Memref.whole main_v17_scv : Memref sig .scVector .hbm S2550x8x128 .f32)).view.loc (thr i d))) (t0 : Nat) : sProp 𝕄 :=
  iprop(∃ (S : Finset (Idx (((Memref.whole main_v17_scv : Memref sig .scVector .hbm S2550x8x128 .f32)).view.loc (thr i d)))) (fd : Buf (Elt F) (dst.view.loc (thr i d))), ⌜ChunkOf (dst.view.read (Elt F) fd) (((Memref.whole main_v17_scv : Memref sig .scVector .hbm S2550x8x128 .f32)).view.read (Elt F) g) t0⌝
    ∗ Transfers.Flight (countersEmb (nD := nD) (τ := τ) (sig := sig) (Ix := HIx 1) (Val := Elt F) (Name := ℕ) (U := U) (Lvl := ℕ)) (thr i d) (.dma sm) (default : HIx 1) dst.view.dmaCredit
        iprop((dst.view.loc (thr i d) ↦{fullShare} fd) ∗ (((Memref.whole main_v17_scv : Memref sig .scVector .hbm S2550x8x128 .f32)).view.loc (thr i d) ↦[S]{q} g))
    ∗ (((Memref.whole main_v17_scv : Memref sig .scVector .hbm S2550x8x128 .f32)).view.loc (thr i d) ↦[Finset.univ \ S]{q} g))

/-- Starting a copy of four tiles into a buffer. -/
theorem wp_issue {α : Type} {Q : α → sProp 𝕄} (sm : DmaSem sig) (dst : Memref sig .scVector .vmem S4x8x128 .f32) (q : PosShare TreeShare)
    (g : Buf (Elt F) (((Memref.whole main_v17_scv : Memref sig .scVector .hbm S2550x8x128 .f32)).view.loc (thr i d))) (fd : Buf (Elt F) (dst.view.loc (thr i d))) (off : Fin 3 → Nat) (inb) (hs) (t0 : Nat) (hoff : off = ![t0, 0, 0])
    {hsrc} {hdst} {hsem} (k : PUnit → TProg F i α) :
    iprop((((Memref.whole main_v17_scv : Memref sig .scVector .hbm S2550x8x128 .f32)).view.loc (thr i d) ↦{q} g) ∗ (dst.view.loc (thr i d) ↦{fullShare} fd) ∗ semVal (thr i d, SemLoc.dma sm) 0)
      ⊢ iprop((Pend (F := F) (U := U) i d sm dst q g t0 -∗ tw (F := F) i d (k ⟨⟩) Q)
        -∗ tw (F := F) i d (.op (.enqueueDma (((Memref.whole main_v17_scv : Memref sig .scVector .hbm S2550x8x128 .f32)).slice (Rect.unit (s := S2550x8x128) off S4x8x128.size inb) hs) (.here dst) (.dma sm) hsrc hdst hsem) k) Q) := by
  iintro ⟨HG, HD, Hv⟩ Hk
  ihave HG' := (pointsTo_split_subset (Finset.subset_univ (((Memref.whole main_v17_scv : Memref sig .scVector .hbm S2550x8x128 .f32)).slice (Rect.unit (s := S2550x8x128) off S4x8x128.size inb) hs).view.set)).1 $$ HG
  icases HG' with ⟨HG, Hrest⟩
  iapply (Transfers.wp_dmaLocal (countersEmb (nD := nD) (τ := τ) (sig := sig) (Ix := HIx 1) (Val := Elt F) (Name := ℕ) (U := U) (Lvl := ℕ)) Variants.none (thr i d) none (default : HIx 1) dst.view.dmaCredit rfl
    (View.amount_pos _ (.dma sm) (show 0 < S4x8x128.numel by decide)) (Finset.subset_univ _)) $$ [HG HD Hv]
  · isplitl [HG]; · iexact HG
    isplitl [HD] <;> iassumption
  iintro Hf
  iapply Hk
  unfold Pend
  iexists _, _
  isplitr
  swap
  · isplitl [Hf]; · iexact Hf
    iexact Hrest
  · ipureintro
    refine chunkOf_read (rd := Rect.unit (s := S2550x8x128) off S4x8x128.size inb) _ _ t0 off inb hoff ?_
    rw [View.read_write_univ]
    rfl

/-- Waiting for a copy of four tiles, the buffer then holding them. -/
theorem wp_collect {α : Type} {Q : α → sProp 𝕄} (sm : DmaSem sig) (dst : Memref sig .scVector .vmem S4x8x128 .f32) (q : PosShare TreeShare)
    (g : Buf (Elt F) (((Memref.whole main_v17_scv : Memref sig .scVector .hbm S2550x8x128 .f32)).view.loc (thr i d))) (t0 : Nat) (O : CellTallies nD τ sig (HIx 1))
    {srcw : Memref sig .scVector .hbm S4x8x128 .f32} {hsrc} {hdst} (k : PUnit → TProg F i α) :
    iprop(Pend (F := F) (U := U) i d sm dst q g t0 ∗ (∃ W, owes (thr i d) O W) ∗ Transfers.MayWaits (thr i d) (default : HIx 1) O)
      ⊢ iprop(((∃ fd : Buf (Elt F) (dst.view.loc (thr i d)), ⌜ChunkOf (dst.view.read (Elt F) fd) (((Memref.whole main_v17_scv : Memref sig .scVector .hbm S2550x8x128 .f32)).view.read (Elt F) g) t0⌝
            ∗ (dst.view.loc (thr i d) ↦{fullShare} fd) ∗ (((Memref.whole main_v17_scv : Memref sig .scVector .hbm S2550x8x128 .f32)).view.loc (thr i d) ↦{q} g) ∗ semVal (thr i d, SemLoc.dma sm) 0 ∗ (∃ W, owes (thr i d) O W))
          -∗ tw (F := F) i d (k ⟨⟩) Q)
        -∗ tw (F := F) i d (.op (.waitDma2 sm srcw dst hsrc hdst) k) Q) := by
  iintro ⟨HP, ⟨%W, HO⟩, Hmw⟩ Hk
  unfold Pend
  icases HP with ⟨%S, %fd, %hc, Hf, Hrest⟩
  ihave Hm := (Transfers.MayWaits.elim (SemLoc.dma sm)) $$ Hmw
  iapply (Transfers.wp_waitLocalO (countersEmb (nD := nD) (τ := τ) (sig := sig) (Ix := HIx 1) (Val := Elt F) (Name := ℕ) (U := U) (Lvl := ℕ)) Variants.none (thr i d) none (default : HIx 1) rfl) $$ [Hf HO Hm]
  · isplitl [Hf]; · iexact Hf
    isplitl [HO] <;> iassumption
  iintro ⟨⟨HD, HG⟩, Hv, HO⟩
  iapply Hk
  iexists fd
  isplitr; · ipureintro; exact hc
  isplitl [HD]; · iexact HD
  isplitl [HG Hrest]
  · iapply (pointsTo_split_subset (Finset.subset_univ S)).2
    isplitl [HG] <;> iassumption
  isplitl [Hv]; · iexact Hv
  iexists _; iexact HO

end Wp

end Cert.KernelIdeal.Seg
-- ==== Proof.Ideal.Chunk.lean ====
module

public import proofs.«01_k».proof.Proof.Ideal.Copy

/-!
  The later chunks of a segment: each trip of the chunk loop copies four tiles in and adds them to the running vectors, so
  that the loop adds the rest of the segment.
-/

@[expose] public section

set_option maxRecDepth 16384

noncomputable section

namespace Cert.KernelIdeal.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Wp

variable {U : Type} [URA U] [CountersIn U] (i : grid1.Coords) (d : Dev nD)

local notation "𝕄" => MT nD τ sig (HIx 1) (Elt F) ℕ U ℕ

/-- The chunks of four tiles, one after the other, add the tiles of the segment. -/
theorem segVal_chunks (g : Nat → Nat → Nat → F .f32) (s e t0 T : Nat) (a : Acc F) (m : Nat) (hm : T - t0 ≤ 4 * (m + 1)) :
    iterN m (fun c => segVal g s e (t0 + 4 * (c + 1)) (min (T - (t0 + 4 * (c + 1))) 4)) (segVal g s e t0 (min (T - t0) 4) a)
      = segVal g s e t0 (T - t0) a := by
  have h : ∀ m, iterN m (fun c => segVal g s e (t0 + 4 * (c + 1)) (min (T - (t0 + 4 * (c + 1))) 4)) (segVal g s e t0 (min (T - t0) 4) a)
      = segVal g s e t0 (min (T - t0) (4 * (m + 1))) a := by
    intro m
    induction m with
    | zero => rfl
    | succ m ih =>
      rw [iterN_succ, ih]
      by_cases hlt : T - t0 ≤ 4 * (m + 1)
      · rw [show min (T - (t0 + 4 * (m + 1))) 4 = 0 by omega, show min (T - t0) (4 * (m + 1 + 1)) = min (T - t0) (4 * (m + 1)) by omega]
        rfl
      · rw [show min (T - t0) (4 * (m + 1)) = 4 * (m + 1) by omega,
          show min (T - t0) (4 * (m + 1 + 1)) = 4 * (m + 1) + min (T - (t0 + 4 * (m + 1))) 4 by omega]
        unfold segVal
        rw [iterN_add]
        simp only [Nat.add_assoc]
  rw [h m, show min (T - t0) (4 * (m + 1)) = T - t0 by omega]

/-- A program's run may be used for a weaker end. -/
theorem tw_use {α : Type} {p : TProg F i α} {A : sProp 𝕄} {Q Q' : α → sProp 𝕄} (h : A ⊢ tw (F := F) i d p Q) :
    A ⊢ (∀ a, Q a -∗ Q' a) -∗ tw (F := F) i d p Q' := by
  iintro HA Hk
  iapply (wp_wand_r frame (wpE (defs₀ (F := F)) Variants.none (thr i d) none) Set.univ (Q := Q))
  isplitl [HA]
  · iapply h $$ HA
  · iexact Hk

/-- The end of a program that returns `v`. -/
theorem tw_ret {α : Type} (v : α) (R : sProp 𝕄) : R ⊢ tw (F := F) i d (Prog.ret v) fun a => iprop(⌜a = v⌝ ∗ R) := by
  show _ ⊢ wp _ _ _ (Prog.ret v) _
  rw [wp_ret]
  iintro H
  imodintro
  isplitr
  · ipureintro; rfl
  · iexact H

/-- No copy is under way on the semaphore `sm`; the buffer `dst` holds anything. -/
def Idle (sm : DmaSem sig) (dst : Memref sig .scVector .vmem S4x8x128 .f32) (q : PosShare TreeShare) (g : Buf (Elt F) (((Memref.whole main_v17_scv : Memref sig .scVector .hbm S2550x8x128 .f32)).view.loc (thr i d)))
    (O : CellTallies nD τ sig (HIx 1)) : sProp 𝕄 :=
  iprop((((Memref.whole main_v17_scv : Memref sig .scVector .hbm S2550x8x128 .f32)).view.loc (thr i d) ↦{q} g) ∗ (∃ f, dst.view.loc (thr i d) ↦{fullShare} f) ∗ semVal (thr i d, SemLoc.dma sm) 0 ∗ (∃ W, owes (thr i d) O W)
    ∗ Transfers.MayWaits (thr i d) (default : HIx 1) O)

set_option maxHeartbeats 4000000 in
/-- One later chunk of a segment: four tiles are copied in and those of the segment are added. -/
theorem wp_chunk16 (q : PosShare TreeShare) (g : Buf (Elt F) (((Memref.whole main_v17_scv : Memref sig .scVector .hbm S2550x8x128 .f32)).view.loc (thr i d))) (O : CellTallies nD τ sig (HIx 1))
    (v2 : IVec S16 32) (hv2 : ∀ l, v2 l = BitVec.ofNat 32 (l 0).val) (s e : BitVec 32) (k1_t1 : Fin k1_t1_loop.trips) (hw : k1_chk2 k1_t1 s e)
    (hs : s.toNat ≤ e.toNat) (he : e.toNat ≤ 320000) (w24 : BitVec 32) (b0 b1 b2 b3 b4 b5 b6 b7 : FVec F S16 .f32) (w2 : BitVec 32)
    (c : Fin (k1_t16_loop s e).trips) (a : Acc F) :
    Idle (F := F) (U := U) i d cc1_scoped1.sem (Memref.whole cc1_scratch3 : Memref sig .scVector .vmem S4x8x128 .f32) q g O ⊢ tw (F := F) i d
        (k1_t16_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 zeroV k1_t1 s e hw w24 (Scalar.shrui s 7#32) (Scalar.shrui (Scalar.addi e 127#32) 7#32) b0 b1 b2 b3 b4 b5 b6 b7 1#32 w2 1#32 c a)
      fun a' => iprop(⌜a' = segVal (gT (((Memref.whole main_v17_scv : Memref sig .scVector .hbm S2550x8x128 .f32)).view.read (Elt F) g)) s.toNat e.toNat (s.toNat / 128 + 4 * (c.val + 1))
          (min ((e.toNat + 127) / 128 - (s.toNat / 128 + 4 * (c.val + 1))) 4) a⌝ ∗ Idle (F := F) (U := U) i d cc1_scoped1.sem (Memref.whole cc1_scratch3 : Memref sig .scVector .vmem S4x8x128 .f32) q g O) := by
  have hT := Seg.chunk_toNat s e hs he c
  obtain ⟨a0, a1, a2, a3, a4, a5, a6, a7⟩ := a
  unfold k1_t16_body
  simp only [Prog.lift, Prog.bind_op, Prog.bind_ret, Prog.pure_eq_ret]
  unfold Idle
  iintro ⟨HG, ⟨%f, HB⟩, Hv, HO, #Hmw⟩
  iapply (wp_issue (U := U) i d _ (Memref.whole cc1_scratch3 : Memref sig .scVector .vmem S4x8x128 .f32) q g f _ _ _ (s.toNat / 128 + 4 * (c.val + 1)) (by rw [← hT.1]; rfl)) $$ [HG HB Hv]
  · isplitl [HG]; · iexact HG
    isplitl [HB] <;> iassumption
  iintro HP
  iapply (wp_collect (U := U) i d _ (Memref.whole cc1_scratch3 : Memref sig .scVector .vmem S4x8x128 .f32) q g (s.toNat / 128 + 4 * (c.val + 1)) O) $$ [HP HO]
  · isplitl [HP]; · iexact HP
    isplitl [HO]; · iexact HO
    iexact Hmw
  iintro ⟨%fd, %hc, HB, HG, Hv, HO⟩
  have hw17 := wp_walk17 (U := U) i d fullShare fd v2 hv2 s e k1_t1 hw hs he w24 (Scalar.shrui s 7#32) (Scalar.shrui (Scalar.addi e 127#32) 7#32) 1#32 w2 1#32 b0 b1 b2 b3 b4 b5 b6 b7 c (a0, a1, a2, a3, a4, a5, a6, a7)
  rw [hT.1, walkVal_chunk _ _ _ _ _ _ (by omega) hc] at hw17
  iapply (tw_use (U := U) (F := F) i d (A := iprop(((Memref.whole cc1_scratch3 : Memref sig .scVector .vmem S4x8x128 .f32)).view.loc (thr i d) ↦{fullShare} fd))
    (Q := fun a' => iprop(⌜a' = segVal (gT (((Memref.whole main_v17_scv : Memref sig .scVector .hbm S2550x8x128 .f32)).view.read (Elt F) g)) s.toNat e.toNat (s.toNat / 128 + 4 * (c.val + 1))
          (min ((e.toNat + 127) / 128 - (s.toNat / 128 + 4 * (c.val + 1))) 4) (a0, a1, a2, a3, a4, a5, a6, a7)⌝ ∗ ((Memref.whole cc1_scratch3 : Memref sig .scVector .vmem S4x8x128 .f32)).view.loc (thr i d) ↦{fullShare} fd))
    (tw_bind (U := U) (F := F) i d hw17 (tw_bind (U := U) (F := F) i d (wp_remL (U := U) (F := F) i d iprop(((Memref.whole cc1_scratch3 : Memref sig .scVector .vmem S4x8x128 .f32)).view.loc (thr i d) ↦{fullShare} fd) _ _ (k1_t24_ok k1_t1 s e hw c) _ _)
      (tw_ret (U := U) (F := F) i d _ _)))) $$ [HB]
  · iexact HB
  iintro %a' ⟨%hx, HB⟩
  isplitr; · ipureintro; exact hx
  isplitl [HG]; · iexact HG
  isplitl [HB]; · iexists _; iexact HB
  isplitl [Hv]; · iexact Hv
  isplitl [HO]; · iexact HO
  iexact Hmw

set_option maxHeartbeats 4000000 in
/-- One later chunk of the second segment: four tiles are copied in and those of the segment are added. -/
theorem wp_chunk60 (q : PosShare TreeShare) (g : Buf (Elt F) (((Memref.whole main_v17_scv : Memref sig .scVector .hbm S2550x8x128 .f32)).view.loc (thr i d))) (O : CellTallies nD τ sig (HIx 1))
    (v2 : IVec S16 32) (hv2 : ∀ l, v2 l = BitVec.ofNat 32 (l 0).val) (s e : BitVec 32) (k1_t1 : Fin k1_t1_loop.trips) (hw : k1_chk3 k1_t1 s e)
    (hs : s.toNat ≤ e.toNat) (he : e.toNat ≤ 320000) (w24 : BitVec 32) (b0 b1 b2 b3 b4 b5 b6 b7 : FVec F S16 .f32) (w2 : BitVec 32)
    (c : Fin (k1_t60_loop s e).trips) (a : Acc F) :
    Idle (F := F) (U := U) i d cc1_scoped3.sem (Memref.whole cc1_scratch3 : Memref sig .scVector .vmem S4x8x128 .f32) q g O ⊢ tw (F := F) i d
        (k1_t60_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 zeroV k1_t1 s e hw w24 (Scalar.shrui s 7#32) (Scalar.shrui (Scalar.addi e 127#32) 7#32) b0 b1 b2 b3 b4 b5 b6 b7 1#32 w2 1#32 c a)
      fun a' => iprop(⌜a' = segVal (gT (((Memref.whole main_v17_scv : Memref sig .scVector .hbm S2550x8x128 .f32)).view.read (Elt F) g)) s.toNat e.toNat (s.toNat / 128 + 4 * (c.val + 1))
          (min ((e.toNat + 127) / 128 - (s.toNat / 128 + 4 * (c.val + 1))) 4) a⌝ ∗ Idle (F := F) (U := U) i d cc1_scoped3.sem (Memref.whole cc1_scratch3 : Memref sig .scVector .vmem S4x8x128 .f32) q g O) := by
  have hT := Seg.chunk_toNat s e hs he c
  obtain ⟨a0, a1, a2, a3, a4, a5, a6, a7⟩ := a
  unfold k1_t60_body
  simp only [Prog.lift, Prog.bind_op, Prog.bind_ret, Prog.pure_eq_ret]
  unfold Idle
  iintro ⟨HG, ⟨%f, HB⟩, Hv, HO, #Hmw⟩
  iapply (wp_issue (U := U) i d _ (Memref.whole cc1_scratch3 : Memref sig .scVector .vmem S4x8x128 .f32) q g f _ _ _ (s.toNat / 128 + 4 * (c.val + 1)) (by rw [← hT.1]; rfl)) $$ [HG HB Hv]
  · isplitl [HG]; · iexact HG
    isplitl [HB] <;> iassumption
  iintro HP
  iapply (wp_collect (U := U) i d _ (Memref.whole cc1_scratch3 : Memref sig .scVector .vmem S4x8x128 .f32) q g (s.toNat / 128 + 4 * (c.val + 1)) O) $$ [HP HO]
  · isplitl [HP]; · iexact HP
    isplitl [HO]; · iexact HO
    iexact Hmw
  iintro ⟨%fd, %hc, HB, HG, Hv, HO⟩
  have hw61 := wp_walk61 (U := U) i d fullShare fd v2 hv2 s e k1_t1 hw hs he w24 (Scalar.shrui s 7#32) (Scalar.shrui (Scalar.addi e 127#32) 7#32) 1#32 w2 1#32 b0 b1 b2 b3 b4 b5 b6 b7 c (a0, a1, a2, a3, a4, a5, a6, a7)
  rw [hT.1, walkVal_chunk _ _ _ _ _ _ (by omega) hc] at hw61
  iapply (tw_use (U := U) (F := F) i d (A := iprop(((Memref.whole cc1_scratch3 : Memref sig .scVector .vmem S4x8x128 .f32)).view.loc (thr i d) ↦{fullShare} fd))
    (Q := fun a' => iprop(⌜a' = segVal (gT (((Memref.whole main_v17_scv : Memref sig .scVector .hbm S2550x8x128 .f32)).view.read (Elt F) g)) s.toNat e.toNat (s.toNat / 128 + 4 * (c.val + 1))
          (min ((e.toNat + 127) / 128 - (s.toNat / 128 + 4 * (c.val + 1))) 4) (a0, a1, a2, a3, a4, a5, a6, a7)⌝ ∗ ((Memref.whole cc1_scratch3 : Memref sig .scVector .vmem S4x8x128 .f32)).view.loc (thr i d) ↦{fullShare} fd))
    (tw_bind (U := U) (F := F) i d hw61 (tw_bind (U := U) (F := F) i d (wp_remL (U := U) (F := F) i d iprop(((Memref.whole cc1_scratch3 : Memref sig .scVector .vmem S4x8x128 .f32)).view.loc (thr i d) ↦{fullShare} fd) _ _ (k1_t68_ok k1_t1 s e hw c) _ _)
      (tw_ret (U := U) (F := F) i d _ _)))) $$ [HB]
  · iexact HB
  iintro %a' ⟨%hx, HB⟩
  isplitr; · ipureintro; exact hx
  isplitl [HG]; · iexact HG
  isplitl [HB]; · iexists _; iexact HB
  isplitl [Hv]; · iexact Hv
  isplitl [HO]; · iexact HO
  iexact Hmw

set_option maxHeartbeats 4000000 in
/-- The loop over the later chunks of the first segment of a trip: from the first chunk's sums to the whole segment's. -/
theorem wp_chunks16 (q : PosShare TreeShare) (g : Buf (Elt F) (((Memref.whole main_v17_scv : Memref sig .scVector .hbm S2550x8x128 .f32)).view.loc (thr i d))) (O : CellTallies nD τ sig (HIx 1))
    (v2 : IVec S16 32) (hv2 : ∀ l, v2 l = BitVec.ofNat 32 (l 0).val) (s e : BitVec 32) (k1_t1 : Fin k1_t1_loop.trips) (hw : k1_chk2 k1_t1 s e)
    (hs : s.toNat ≤ e.toNat) (he : e.toNat ≤ 320000) (w24 : BitVec 32) (b0 b1 b2 b3 b4 b5 b6 b7 : FVec F S16 .f32) (w2 : BitVec 32) (z a : Acc F)
    (ha : a = segVal (gT (((Memref.whole main_v17_scv : Memref sig .scVector .hbm S2550x8x128 .f32)).view.read (Elt F) g)) s.toNat e.toNat (s.toNat / 128) (min ((e.toNat + 127) / 128 - s.toNat / 128) 4) z) :
    Idle (F := F) (U := U) i d cc1_scoped1.sem (Memref.whole cc1_scratch3 : Memref sig .scVector .vmem S4x8x128 .f32) q g O ⊢ tw (F := F) i d (Scf.Loop.for (k1_t16_loop s e) (k1_t16_ok k1_t1 s e hw) a
        (k1_t16_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 zeroV k1_t1 s e hw w24 (Scalar.shrui s 7#32) (Scalar.shrui (Scalar.addi e 127#32) 7#32) b0 b1 b2 b3 b4 b5 b6 b7 1#32 w2 1#32))
      fun a' => iprop(⌜a' = segVal (gT (((Memref.whole main_v17_scv : Memref sig .scVector .hbm S2550x8x128 .f32)).view.read (Elt F) g)) s.toNat e.toNat (s.toNat / 128) ((e.toNat + 127) / 128 - s.toNat / 128) z⌝ ∗ Idle (F := F) (U := U) i d cc1_scoped1.sem (Memref.whole cc1_scratch3 : Memref sig .scVector .vmem S4x8x128 .f32) q g O) := by
  have hn := Seg.ntiles_toNat s e hs he
  have hc := Seg.nchunks_toNat _ (by rw [hn]; omega)
  rw [hn] at hc
  have h := wp_upL (U := U) (F := F) i d (Idle (F := F) (U := U) i d cc1_scoped1.sem (Memref.whole cc1_scratch3 : Memref sig .scVector .vmem S4x8x128 .f32) q g O) 1#32 (Scalar.shrui (Scalar.addi (Scalar.subi (Scalar.shrui (Scalar.addi e 127#32) 7#32) (Scalar.shrui s 7#32)) 3#32) 2#32)
    (by decide) (by rw [hc]; omega) (k1_t16_ok k1_t1 s e hw) a
    (k1_t16_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 zeroV k1_t1 s e hw w24 (Scalar.shrui s 7#32) (Scalar.shrui (Scalar.addi e 127#32) 7#32) b0 b1 b2 b3 b4 b5 b6 b7 1#32 w2 1#32)
    (fun c => segVal (gT (((Memref.whole main_v17_scv : Memref sig .scVector .hbm S2550x8x128 .f32)).view.read (Elt F) g)) s.toNat e.toNat (s.toNat / 128 + 4 * (c + 1)) (min ((e.toNat + 127) / 128 - (s.toNat / 128 + 4 * (c + 1))) 4))
    (fun c x => wp_chunk16 i d q g O v2 hv2 s e k1_t1 hw hs he w24 b0 b1 b2 b3 b4 b5 b6 b7 w2 c x)
  rw [hc, ha, segVal_chunks _ _ _ _ _ _ _ (by show _ ≤ 4 * ((_ + 3) / 4 - 1 + 1); omega)] at h
  rw [ha]
  exact h

set_option maxHeartbeats 4000000 in
/-- The loop over the later chunks of the second segment of a trip: from the first chunk's sums to the whole segment's. -/
theorem wp_chunks60 (q : PosShare TreeShare) (g : Buf (Elt F) (((Memref.whole main_v17_scv : Memref sig .scVector .hbm S2550x8x128 .f32)).view.loc (thr i d))) (O : CellTallies nD τ sig (HIx 1))
    (v2 : IVec S16 32) (hv2 : ∀ l, v2 l = BitVec.ofNat 32 (l 0).val) (s e : BitVec 32) (k1_t1 : Fin k1_t1_loop.trips) (hw : k1_chk3 k1_t1 s e)
    (hs : s.toNat ≤ e.toNat) (he : e.toNat ≤ 320000) (w24 : BitVec 32) (b0 b1 b2 b3 b4 b5 b6 b7 : FVec F S16 .f32) (w2 : BitVec 32) (z a : Acc F)
    (ha : a = segVal (gT (((Memref.whole main_v17_scv : Memref sig .scVector .hbm S2550x8x128 .f32)).view.read (Elt F) g)) s.toNat e.toNat (s.toNat / 128) (min ((e.toNat + 127) / 128 - s.toNat / 128) 4) z) :
    Idle (F := F) (U := U) i d cc1_scoped3.sem (Memref.whole cc1_scratch3 : Memref sig .scVector .vmem S4x8x128 .f32) q g O ⊢ tw (F := F) i d (Scf.Loop.for (k1_t60_loop s e) (k1_t60_ok k1_t1 s e hw) a
        (k1_t60_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 zeroV k1_t1 s e hw w24 (Scalar.shrui s 7#32) (Scalar.shrui (Scalar.addi e 127#32) 7#32) b0 b1 b2 b3 b4 b5 b6 b7 1#32 w2 1#32))
      fun a' => iprop(⌜a' = segVal (gT (((Memref.whole main_v17_scv : Memref sig .scVector .hbm S2550x8x128 .f32)).view.read (Elt F) g)) s.toNat e.toNat (s.toNat / 128) ((e.toNat + 127) / 128 - s.toNat / 128) z⌝ ∗ Idle (F := F) (U := U) i d cc1_scoped3.sem (Memref.whole cc1_scratch3 : Memref sig .scVector .vmem S4x8x128 .f32) q g O) := by
  have hn := Seg.ntiles_toNat s e hs he
  have hc := Seg.nchunks_toNat _ (by rw [hn]; omega)
  rw [hn] at hc
  have h := wp_upL (U := U) (F := F) i d (Idle (F := F) (U := U) i d cc1_scoped3.sem (Memref.whole cc1_scratch3 : Memref sig .scVector .vmem S4x8x128 .f32) q g O) 1#32 (Scalar.shrui (Scalar.addi (Scalar.subi (Scalar.shrui (Scalar.addi e 127#32) 7#32) (Scalar.shrui s 7#32)) 3#32) 2#32)
    (by decide) (by rw [hc]; omega) (k1_t60_ok k1_t1 s e hw) a
    (k1_t60_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 zeroV k1_t1 s e hw w24 (Scalar.shrui s 7#32) (Scalar.shrui (Scalar.addi e 127#32) 7#32) b0 b1 b2 b3 b4 b5 b6 b7 1#32 w2 1#32)
    (fun c => segVal (gT (((Memref.whole main_v17_scv : Memref sig .scVector .hbm S2550x8x128 .f32)).view.read (Elt F) g)) s.toNat e.toNat (s.toNat / 128 + 4 * (c + 1)) (min ((e.toNat + 127) / 128 - (s.toNat / 128 + 4 * (c + 1))) 4))
    (fun c x => wp_chunk60 i d q g O v2 hv2 s e k1_t1 hw hs he w24 b0 b1 b2 b3 b4 b5 b6 b7 w2 c x)
  rw [hc, ha, segVal_chunks _ _ _ _ _ _ _ (by show _ ≤ 4 * ((_ + 3) / 4 - 1 + 1); omega)] at h
  rw [ha]
  exact h

end Wp

end Cert.KernelIdeal.Seg
-- ==== Proof.Ideal.Reduce.lean ====
module

public import proofs.«01_k».proof.Proof.Ideal.Chunk

/-!
  The sum of the sixteen lanes of a running vector: the body stores the vector, loads it shifted by eight, four, two and
  one lanes and adds each, so that lane zero holds the sum of all lanes.
-/

@[expose] public section

set_option maxRecDepth 16384

noncomputable section

namespace Cert.KernelIdeal.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- A vector of sixteen lanes under its own shape. -/
abbrev sc (v : FVec F S16 .f32) : FVec F S16 .f32 := shapeCast S16 v shapeCasts_S16_S16

/-- The lane `l` of a vector of sixteen. -/
def lane (a : FVec F S16 .f32) (l : Nat) : F .f32 := a (ix1 (⟨l % 16, Nat.mod_lt _ (by decide)⟩ : Fin 16))

/-- One halving: every lane gains the lane `k` further on. -/
def fold (k : Nat) (b : Nat → F .f32) (l : Nat) : F .f32 := FloatOps.addf (b l) (b (l + k))

/-- The sum of sixteen lanes, by halves. -/
def laneSum (a : FVec F S16 .f32) : F .f32 := fold 1 (fold 2 (fold 4 (fold 8 (lane a)))) 0

section Wp

variable {U : Type} [URA U] [CountersIn U] (i : grid1.Coords) (d : Dev nD)

local notation "𝕄" => MT nD τ sig (HIx 1) (Elt F) ℕ U ℕ

/-- The small buffer begins with the vector `w`. -/
def Tmp (w : FVec F S16 .f32) : sProp 𝕄 :=
  iprop(∃ f : Buf (Elt F) (((Memref.whole cc1_scratch6 : Memref sig .scVector .vmem S32 .f32)).view.loc (thr i d)), ⌜(((Memref.whole cc1_scratch6 : Memref sig .scVector .vmem S32 .f32)).access (Rect.unit (s := S32) ![0] S16.size inb_S32_S16_0)).read (Elt F) f = w⌝
    ∗ ((Memref.whole cc1_scratch6 : Memref sig .scVector .vmem S32 .f32)).view.loc (thr i d) ↦{fullShare} f)

/-- A load of the small buffer `k` lanes on: the lanes below `16 - k` are the ones shifted by `k`. -/
theorem wp_ld {α : Type} {Q : α → sProp 𝕄} (w : FVec F S16 .f32) (k : Nat) (inb : ∀ a, (![k] : Fin S32.rank → Nat) a + S16.size a ≤ S32.size a) (hm)
    (cont : Vec F S16 .f32 → TProg F i α) :
    Tmp (F := F) (U := U) i d w ⊢ (∀ v : FVec F S16 .f32, ⌜∀ l, l + k < 16 → lane v l = lane w (l + k)⌝ -∗ Tmp (F := F) (U := U) i d w -∗ tw (F := F) i d (cont v) Q)
      -∗ tw (F := F) i d (Prog.op (.load (Memref.whole cc1_scratch6 : Memref sig .scVector .vmem S32 .f32) (Rect.unit (s := S32) ![k] S16.size inb).toLoadRect hm) cont) Q := by
  unfold Tmp
  iintro ⟨%f, %hf, H⟩ Hk
  iapply (wp_load Variants.none (thr i d) none Set.univ (m := (Memref.whole cc1_scratch6 : Memref sig .scVector .vmem S32 .f32)) (S := Finset.univ) (Finset.subset_univ _)) $$ H; iintro H
  iapply Hk $$ [] [H]
  · ipureintro
    intro l hl
    rw [← hf]
    show ((Memref.whole cc1_scratch6 : Memref sig .scVector .vmem S32 .f32)).view.read (Elt F) f _ = ((Memref.whole cc1_scratch6 : Memref sig .scVector .vmem S32 .f32)).view.read (Elt F) f _
    congr 1
    funext a
    apply Fin.ext
    fin_cases a
    show k + 1 * (l % 16) = 0 + 1 * ((l + k) % 16)
    omega
  · iexists f
    isplitr; · ipureintro; exact hf
    iexact H

/-- A store at the small buffer's beginning. -/
theorem wp_st {α : Type} {Q : α → sProp 𝕄} (w0 w : FVec F S16 .f32) (hx) (hm) (cont : PUnit → TProg F i α) :
    Tmp (F := F) (U := U) i d w0 ⊢ (Tmp (F := F) (U := U) i d w -∗ tw (F := F) i d (cont ⟨⟩) Q)
      -∗ tw (F := F) i d (Prog.op (.store (Memref.whole cc1_scratch6 : Memref sig .scVector .vmem S32 .f32) (Rect.unit (s := S32) ![0] S16.size inb_S32_S16_0) w Finset.univ hx hm) cont) Q := by
  unfold Tmp
  iintro ⟨%f, %hf, H⟩ Hk
  iapply (wp_store Variants.none (thr i d) none Set.univ (m := (Memref.whole cc1_scratch6 : Memref sig .scVector .vmem S32 .f32)) (r := Rect.unit (s := S32) ![0] S16.size inb_S32_S16_0) (w := w) (Mk := Finset.univ) (S := Finset.univ) (Finset.subset_univ _)) $$ H; iintro H
  iapply Hk
  iexists (((Memref.whole cc1_scratch6 : Memref sig .scVector .vmem S32 .f32).access (Rect.unit (s := S32) ![0] S16.size inb_S32_S16_0)).write (Elt F) f w Finset.univ)
  isplitr
  · ipureintro; exact View.read_write_univ _ _
  · iexact H

/-- Lanes of a sum. -/
theorem lane_addf (a b : FVec F S16 .f32) (l : Nat) : lane (addf a b) l = FloatOps.addf (lane a l) (lane b l) := rfl

set_option maxHeartbeats 4000000 in
/-- One row's sum: whatever the small buffer began with, the five vectors loaded make lane zero the sum of the lanes of `a`. -/
theorem wp_row {α : Type} {Q : α → sProp 𝕄} (a : FVec F S16 .f32) (k : Vec F S16 .f32 → Vec F S16 .f32 → Vec F S16 .f32 → Vec F S16 .f32 → TProg F i α) :
    (∃ w, Tmp (F := F) (U := U) i d w) ⊢ iprop(∀ (v1 v2 v3 v4 : FVec F S16 .f32), ⌜lane (addf (addf (addf (addf a (sc v1)) (sc v2)) (sc v3)) (sc v4)) 0 = laneSum a⌝
        -∗ (∃ w, Tmp (F := F) (U := U) i d w) -∗ tw (F := F) i d (k v1 v2 v3 v4) Q)
      -∗ tw (F := F) i d (Prog.op (.load (Memref.whole cc1_scratch6 : Memref sig .scVector .vmem S32 .f32) (Rect.unit (s := S32) ![0] S16.size inb_S32_S16_0).toLoadRect (View.loadsAt_vmem h_S16)) fun _ => Prog.op (.store (Memref.whole cc1_scratch6 : Memref sig .scVector .vmem S32 .f32) (Rect.unit (s := S32) ![0] S16.size inb_S32_S16_0) (sc a) Finset.univ (View.stores_vmem_bits_univ h_S16 rfl) (.inl rfl)) fun _ => Prog.op (.load (Memref.whole cc1_scratch6 : Memref sig .scVector .vmem S32 .f32) (Rect.unit (s := S32) ![8] S16.size inb_S32_S16_8).toLoadRect (View.loadsAt_vmem h_S16)) fun (v1 : Vec F S16 .f32) =>
          Prog.op (.load (Memref.whole cc1_scratch6 : Memref sig .scVector .vmem S32 .f32) (Rect.unit (s := S32) ![0] S16.size inb_S32_S16_0).toLoadRect (View.loadsAt_vmem h_S16)) fun _ => Prog.op (.store (Memref.whole cc1_scratch6 : Memref sig .scVector .vmem S32 .f32) (Rect.unit (s := S32) ![0] S16.size inb_S32_S16_0) (sc (addf a (sc v1))) Finset.univ (View.stores_vmem_bits_univ h_S16 rfl) (.inl rfl)) fun _ => Prog.op (.load (Memref.whole cc1_scratch6 : Memref sig .scVector .vmem S32 .f32) (Rect.unit (s := S32) ![4] S16.size inb_S32_S16_4).toLoadRect (View.loadsAt_vmem h_S16)) fun (v2 : Vec F S16 .f32) =>
          Prog.op (.load (Memref.whole cc1_scratch6 : Memref sig .scVector .vmem S32 .f32) (Rect.unit (s := S32) ![0] S16.size inb_S32_S16_0).toLoadRect (View.loadsAt_vmem h_S16)) fun _ => Prog.op (.store (Memref.whole cc1_scratch6 : Memref sig .scVector .vmem S32 .f32) (Rect.unit (s := S32) ![0] S16.size inb_S32_S16_0) (sc (addf (addf a (sc v1)) (sc v2))) Finset.univ (View.stores_vmem_bits_univ h_S16 rfl) (.inl rfl)) fun _ => Prog.op (.load (Memref.whole cc1_scratch6 : Memref sig .scVector .vmem S32 .f32) (Rect.unit (s := S32) ![2] S16.size inb_S32_S16_2).toLoadRect (View.loadsAt_vmem h_S16)) fun (v3 : Vec F S16 .f32) =>
          Prog.op (.load (Memref.whole cc1_scratch6 : Memref sig .scVector .vmem S32 .f32) (Rect.unit (s := S32) ![0] S16.size inb_S32_S16_0).toLoadRect (View.loadsAt_vmem h_S16)) fun _ => Prog.op (.store (Memref.whole cc1_scratch6 : Memref sig .scVector .vmem S32 .f32) (Rect.unit (s := S32) ![0] S16.size inb_S32_S16_0) (sc (addf (addf (addf a (sc v1)) (sc v2)) (sc v3))) Finset.univ (View.stores_vmem_bits_univ h_S16 rfl) (.inl rfl)) fun _ => Prog.op (.load (Memref.whole cc1_scratch6 : Memref sig .scVector .vmem S32 .f32) (Rect.unit (s := S32) ![1] S16.size inb_S32_S16_1).toLoadRect (View.loadsAt_vmem h_S16)) fun (v4 : Vec F S16 .f32) =>
          k v1 v2 v3 v4) Q := by
  iintro ⟨%w, H⟩ Hk
  iapply (wp_ld (U := U) i d) $$ H; iintro %_ %_ H
  iapply (wp_st (U := U) i d) $$ H; iintro H
  iapply (wp_ld (U := U) i d) $$ H; iintro %v1 %h1 H
  iapply (wp_ld (U := U) i d) $$ H; iintro %_ %_ H
  iapply (wp_st (U := U) i d) $$ H; iintro H
  iapply (wp_ld (U := U) i d) $$ H; iintro %v2 %h2 H
  iapply (wp_ld (U := U) i d) $$ H; iintro %_ %_ H
  iapply (wp_st (U := U) i d) $$ H; iintro H
  iapply (wp_ld (U := U) i d) $$ H; iintro %v3 %h3 H
  iapply (wp_ld (U := U) i d) $$ H; iintro %_ %_ H
  iapply (wp_st (U := U) i d) $$ H; iintro H
  iapply (wp_ld (U := U) i d) $$ H; iintro %v4 %h4 H
  iapply Hk $$ [] [H]
  · ipureintro
    simp only [sc, shapeCast_self, lane_addf] at h1 h2 h3 h4 ⊢
    have e1 : ∀ l, l < 8 → FloatOps.addf (lane a l) (lane v1 l) = fold 8 (lane a) l := fun l hl => by rw [h1 l (by omega)]; rfl
    have e2 : ∀ l, l < 4 → FloatOps.addf (FloatOps.addf (lane a l) (lane v1 l)) (lane v2 l) = fold 4 (fold 8 (lane a)) l := fun l hl => by
      rw [h2 l (by omega), e1 l (by omega), e1 (l + 4) (by omega)]; rfl
    have e3 : ∀ l, l < 2 → FloatOps.addf (FloatOps.addf (FloatOps.addf (lane a l) (lane v1 l)) (lane v2 l)) (lane v3 l) = fold 2 (fold 4 (fold 8 (lane a))) l := fun l hl => by
      rw [h3 l (by omega), e2 l (by omega), e2 (l + 2) (by omega)]; rfl
    rw [h4 0 (by omega), e3 0 (by omega), e3 (0 + 1) (by omega)]; rfl
  · iexists _; iexact H

end Wp

end Cert.KernelIdeal.Seg
-- ==== Proof.Ideal.Trip.lean ====
module

public import proofs.«01_k».proof.Proof.Ideal.Reduce

/-!
  The first half and the second half of one trip of the outer loop: read the segment's bounds, start the copy of the next
  segment's first tiles, wait for this segment's first tiles and add them.
-/

@[expose] public section

set_option maxRecDepth 16384

noncomputable section

namespace Cert.KernelIdeal.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Eight zero vectors. -/
abbrev zeroAcc : Acc F := (zeroV, zeroV, zeroV, zeroV, zeroV, zeroV, zeroV, zeroV)

section Wp

variable {U : Type} [URA U] [CountersIn U] (i : grid1.Coords) (d : Dev nD)

local notation "𝕄" => MT nD τ sig (HIx 1) (Elt F) ℕ U ℕ

/-- The word `j` of the tile's row splits. -/
def spl (f5 : Buf (Elt F) (((Memref.whole cc1_scratch0 : Memref sig .scVector .vmem S48 .i32)).view.loc (thr i d))) (j : Nat) : BitVec 32 :=
  ((Memref.whole cc1_scratch0 : Memref sig .scVector .vmem S48 .i32)).view.read (Elt F) f5 (ix1 (⟨j % 48, Nat.mod_lt _ (by decide)⟩ : Fin 48))

/-- A side condition that holds is passed. -/
theorem tw_assume {α : Type} {Q : α → sProp 𝕄} {P : Prop} {dc : Decidable P} (h : P) {k : PLift P → TProg F i α} :
    tw (F := F) i d (k ⟨h⟩) Q ⊢ tw (F := F) i d (.op (.assume P dc) k) Q := by
  show wp _ _ _ _ _ ⊢ wp _ _ _ _ _
  rw [wp_assume_of _ _ _ _ h]

/-- A program followed by another: the first's value is known. -/
theorem tw_bindk {α β : Type} {P R : sProp 𝕄} {p : TProg F i α} {k : α → TProg F i β} {v : α} {Q : β → sProp 𝕄}
    (hp : P ⊢ tw (F := F) i d p fun a => iprop(⌜a = v⌝ ∗ R)) : P ⊢ iprop((R -∗ tw (F := F) i d (k v) Q) -∗ tw (F := F) i d (p >>= k) Q) := by
  rw [show tw (F := F) i d (p >>= k) Q = tw (F := F) i d p fun a => tw (F := F) i d (k a) Q from wp_bind _ _ _ _ _ _]
  iintro HP Hk
  iapply (tw_use (U := U) (F := F) i d hp) $$ HP
  iintro %a ⟨%h, HR⟩
  subst h
  iapply Hk $$ HR

/-- No copy is under way on the semaphore `sm`, and the buffer `dst` holds anything. -/
def Quiet (sm : DmaSem sig) (dst : Memref sig .scVector .vmem S4x8x128 .f32) (q : PosShare TreeShare) (g : Buf (Elt F) (((Memref.whole main_v17_scv : Memref sig .scVector .hbm S2550x8x128 .f32)).view.loc (thr i d))) : sProp 𝕄 :=
  iprop((((Memref.whole main_v17_scv : Memref sig .scVector .hbm S2550x8x128 .f32)).view.loc (thr i d) ↦{q} g) ∗ (∃ f, dst.view.loc (thr i d) ↦{fullShare} f) ∗ semVal (thr i d, SemLoc.dma sm) 0)

/-- The copy the next trip waits for: under way before the first sixteen trips, none after them. -/
def Next (sm : DmaSem sig) (dst : Memref sig .scVector .vmem S4x8x128 .f32) (q : PosShare TreeShare) (g : Buf (Elt F) (((Memref.whole main_v17_scv : Memref sig .scVector .hbm S2550x8x128 .f32)).view.loc (thr i d))) (k t0 : Nat) : sProp 𝕄 :=
  if k < 16 then Pend (F := F) (U := U) i d sm dst q g t0 else Quiet (F := F) (U := U) i d sm dst q g

/-- The first half of a trip always asks for the next segment. -/
theorem cond1_true : ∀ k, k1_cond1 k = 1#1 := by decide +kernel

/-- The chunk asked for begins with the tile of the segment's first column. -/
theorem off4_eq (e : BitVec 32) : k1_off4 e = ![e.toNat / 128, 0, 0] := by rw [← Seg.sh7_toNat]; rfl

/-- The load of the bounds of the first segment of a trip. -/
theorem wp_spl73 {α : Type} {Q : α → sProp 𝕄} (qs : PosShare TreeShare) (f5 : Buf (Elt F) (((Memref.whole cc1_scratch0 : Memref sig .scVector .vmem S48 .i32)).view.loc (thr i d))) (k : Fin k1_t1_loop.trips) (cont : Vec F S16 .i32 → TProg F i α) :
    (((Memref.whole cc1_scratch0 : Memref sig .scVector .vmem S48 .i32)).view.loc (thr i d) ↦{qs} f5 : sProp 𝕄) ⊢ iprop((∀ v : Vec F S16 .i32, ⌜extractAt ![0] (k1_pay434 (F := F) v) inpos_S1_p0 = spl i d f5 (2 * k.val) ∧ extractAt ![0] (k1_pay435 (F := F) v) inpos_S1_p0 = spl i d f5 (2 * k.val + 1)⌝
        -∗ (((Memref.whole cc1_scratch0 : Memref sig .scVector .vmem S48 .i32)).view.loc (thr i d) ↦{qs} f5) -∗ tw (F := F) i d (cont v) Q)
      -∗ tw (F := F) i d (.op (.load (Memref.whole cc1_scratch0 : Memref sig .scVector .vmem S48 .i32) (Rect.unit (s := S48) (k1_off3 k) S16.size (k1_off3_inb k)).toLoadRect (View.loadsAt_vmem h_S16)) cont) Q) := by
  have hk : k.val < 16 := k.isLt
  have ho : k1_off3 k 0 = 2 * k.val := by revert k; decide +kernel
  iintro H Hk
  iapply (wp_load Variants.none (thr i d) none Set.univ (m := (Memref.whole cc1_scratch0 : Memref sig .scVector .vmem S48 .i32)) (S := Finset.univ) (Finset.subset_univ _)) $$ H; iintro H
  iapply Hk $$ [] [H]
  · ipureintro
    constructor
    · show ((Memref.whole cc1_scratch0 : Memref sig .scVector .vmem S48 .i32)).view.read (Elt F) f5 _ = ((Memref.whole cc1_scratch0 : Memref sig .scVector .vmem S48 .i32)).view.read (Elt F) f5 _
      congr 1
      funext a
      apply Fin.ext
      fin_cases a
      show k1_off3 k 0 + 1 * 0 = (2 * k.val) % 48
      omega
    · show ((Memref.whole cc1_scratch0 : Memref sig .scVector .vmem S48 .i32)).view.read (Elt F) f5 _ = ((Memref.whole cc1_scratch0 : Memref sig .scVector .vmem S48 .i32)).view.read (Elt F) f5 _
      congr 1
      funext a
      apply Fin.ext
      fin_cases a
      show k1_off3 k 0 + 1 * 1 = (2 * k.val + 1) % 48
      omega
  · iexact H
set_option maxHeartbeats 8000000 in
/-- The beginning of the first half of a trip: the next segment's first tiles are asked for, this segment's first tiles are added. -/
theorem wp_head73 {α : Type} {Q : α → sProp 𝕄} (q1 q2 qs : PosShare TreeShare) (g : Buf (Elt F) (((Memref.whole main_v17_scv : Memref sig .scVector .hbm S2550x8x128 .f32)).view.loc (thr i d))) (f5 : Buf (Elt F) (((Memref.whole cc1_scratch0 : Memref sig .scVector .vmem S48 .i32)).view.loc (thr i d))) (O : CellTallies nD τ sig (HIx 1))
    (v2 : IVec S16 32) (hv2 : ∀ l, v2 l = BitVec.ofNat 32 (l 0).val) (k : Fin k1_t1_loop.trips)
    (s e : BitVec 32) (h1 : spl i d f5 (2 * k.val) = s) (h2 : spl i d f5 (2 * k.val + 1) = e) (A : Acc F) (hA : A = segVal (gT (((Memref.whole main_v17_scv : Memref sig .scVector .hbm S2550x8x128 .f32)).view.read (Elt F) g)) s.toNat e.toNat (s.toNat / 128) (min ((e.toNat + 127) / 128 - s.toNat / 128) 4) zeroAcc)
    (hs : s.toNat ≤ e.toNat) (he : e.toNat ≤ 320000) (K : _ → TProg F i α) :
    iprop((((Memref.whole cc1_scratch0 : Memref sig .scVector .vmem S48 .i32)).view.loc (thr i d) ↦{qs} f5) ∗ Pend (F := F) (U := U) i d cc1_scratch4.sem (Memref.whole cc1_scratch1 : Memref sig .scVector .vmem S4x8x128 .f32) q1 g (s.toNat / 128) ∗ Quiet (F := F) (U := U) i d cc1_scratch5.sem (Memref.whole cc1_scratch2 : Memref sig .scVector .vmem S4x8x128 .f32) q2 g
        ∗ (∃ W, owes (thr i d) O W) ∗ Transfers.MayWaits (thr i d) (default : HIx 1) O)
      ⊢ iprop((((((Memref.whole cc1_scratch0 : Memref sig .scVector .vmem S48 .i32)).view.loc (thr i d) ↦{qs} f5) ∗ Quiet (F := F) (U := U) i d cc1_scratch4.sem (Memref.whole cc1_scratch1 : Memref sig .scVector .vmem S4x8x128 .f32) q1 g ∗ Pend (F := F) (U := U) i d cc1_scratch5.sem (Memref.whole cc1_scratch2 : Memref sig .scVector .vmem S4x8x128 .f32) q2 g (e.toNat / 128)
          ∗ (∃ W, owes (thr i d) O W))
        -∗ tw (F := F) i d (K ⟨(Scalar.muli 2#32 (Scf.iv 0#32 1#32 k.val)), s, e, chk2_of k _ _ hs he, Scalar.subi e s, Scalar.shrui s 7#32, Scalar.shrui (Scalar.addi e 127#32) 7#32, A.1, A.2.1, A.2.2.1, A.2.2.2.1, A.2.2.2.2.1, A.2.2.2.2.2.1, A.2.2.2.2.2.2.1, A.2.2.2.2.2.2.2, 1#32, (Scalar.addi 1#32 (Scalar.muli (Scalar.divsi (Scalar.subi (Scalar.shrui (Scalar.addi (Scalar.subi (Scalar.shrui (Scalar.addi e 127#32) 7#32) (Scalar.shrui s 7#32)) 3#32) 2#32) 1#32) 1#32) 1#32)), 1#32⟩) Q)
        -∗ tw (F := F) i d (k1_part73 i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 zeroV 0#32 1#32 k >>= K) Q) := by
  have hk : k.val < 16 := k.isLt
  rw [k1_part73_eq_skeleton]
  unfold k1_part73_skel
  simp only [Prog.lift, Prog.bind_op, Prog.bind_ret, Prog.pure_eq_ret, Prog.bind_assoc]
  unfold Quiet
  iintro ⟨HS, HP, ⟨HG2, ⟨%f2, HB2⟩, Hv2⟩, HO, #Hmw⟩ Hk
  iapply (wp_spl73 (U := U) i d qs f5 k) $$ HS
  iintro %v ⟨%e1, %e2⟩ HS
  rw [h1] at e1
  rw [h2] at e2
  subst e1
  subst e2
  iapply (tw_assume (U := U) i d (chk2_of k _ _ hs he))
  beta_reduce
  rw [dif_pos (cond1_true k)]
  simp only [Prog.lift, Prog.bind_op, Prog.bind_ret, Prog.pure_eq_ret, Prog.bind_assoc]
  iapply (wp_issue (U := U) i d _ (Memref.whole cc1_scratch2 : Memref sig .scVector .vmem S4x8x128 .f32) q2 g f2 _ _ _ _ (off4_eq _)) $$ [HG2 HB2 Hv2]
  · isplitl [HG2]; · iexact HG2
    isplitl [HB2] <;> iassumption
  iintro HN
  iapply (wp_collect (U := U) i d _ (Memref.whole cc1_scratch1 : Memref sig .scVector .vmem S4x8x128 .f32) q1 g _ O) $$ [HP HO]
  · isplitl [HP]; · iexact HP
    isplitl [HO]; · iexact HO
    iexact Hmw
  iintro ⟨%fd, %hc, HB, HG, Hv, HO⟩
  have hw2 := wp_walk2 (U := U) i d fullShare fd v2 hv2 _ _ k (chk2_of k _ _ hs he) hs he  zeroAcc
  rw [Seg.sh7_toNat, walkVal_chunk _ _ _ _ _ _ (by omega) hc, ← hA] at hw2
  iapply (tw_bindk (U := U) (F := F) i d hw2) $$ [HB]
  · iexact HB
  iintro HB
  obtain ⟨A0, A1, A2, A3, A4, A5, A6, A7⟩ := A
  dsimp only
  iapply (tw_bindk (U := U) (F := F) i d (wp_remL (U := U) (F := F) i d iprop(((Memref.whole cc1_scratch1 : Memref sig .scVector .vmem S4x8x128 .f32)).view.loc (thr i d) ↦{fullShare} fd) _ _ (k1_t9_ok k _ _ (chk2_of k _ _ hs he)) (A0, A1, A2, A3, A4, A5, A6, A7) _)) $$ [HB]
  · iexact HB
  iintro HB
  dsimp only
  iapply Hk
  isplitl [HS]; · iexact HS
  isplitl [HG HB Hv]
  · isplitl [HG]; · iexact HG
    isplitl [HB]; · iexists _; iexact HB
    iexact Hv
  isplitl [HN]; · iexact HN
  iexact HO

/-- The second half of a trip asks for the next trip's first segment, but for the last trip. -/
theorem cond2_pos : ∀ k : Fin k1_t1_loop.trips, k.val + 1 < 16 → k1_cond2 k = 1#1 := by decide +kernel
/-- The last trip asks for nothing. -/
theorem cond2_neg : ∀ k : Fin k1_t1_loop.trips, ¬ k.val + 1 < 16 → ¬ k1_cond2 k = 1#1 := by decide +kernel

/-- The chunk asked for begins with the tile of the segment's first column. -/
theorem off297_eq (e : BitVec 32) : k1_off297 e = ![e.toNat / 128, 0, 0] := by rw [← Seg.sh7_toNat]; rfl

/-- The load of the bounds of the second segment of a trip. -/
theorem wp_spl80 {α : Type} {Q : α → sProp 𝕄} (qs : PosShare TreeShare) (f5 : Buf (Elt F) (((Memref.whole cc1_scratch0 : Memref sig .scVector .vmem S48 .i32)).view.loc (thr i d))) (k : Fin k1_t1_loop.trips) (cont : Vec F S16 .i32 → TProg F i α) :
    (((Memref.whole cc1_scratch0 : Memref sig .scVector .vmem S48 .i32)).view.loc (thr i d) ↦{qs} f5 : sProp 𝕄) ⊢ iprop((∀ v : Vec F S16 .i32, ⌜extractAt ![0] (k1_pay621 (F := F) v) inpos_S1_p0 = spl i d f5 (2 * k.val + 1) ∧ extractAt ![0] (k1_pay622 (F := F) v) inpos_S1_p0 = spl i d f5 (2 * k.val + 2)⌝
        -∗ (((Memref.whole cc1_scratch0 : Memref sig .scVector .vmem S48 .i32)).view.loc (thr i d) ↦{qs} f5) -∗ tw (F := F) i d (cont v) Q)
      -∗ tw (F := F) i d (.op (.load (Memref.whole cc1_scratch0 : Memref sig .scVector .vmem S48 .i32) (Rect.unit (s := S48) (k1_off296 k) S16.size (k1_off296_inb k)).toLoadRect (View.loadsAt_vmem h_S16)) cont) Q) := by
  have hk : k.val < 16 := k.isLt
  have ho : k1_off296 k 0 = 2 * k.val + 1 := by revert k; decide +kernel
  iintro H Hk
  iapply (wp_load Variants.none (thr i d) none Set.univ (m := (Memref.whole cc1_scratch0 : Memref sig .scVector .vmem S48 .i32)) (S := Finset.univ) (Finset.subset_univ _)) $$ H; iintro H
  iapply Hk $$ [] [H]
  · ipureintro
    constructor
    · show ((Memref.whole cc1_scratch0 : Memref sig .scVector .vmem S48 .i32)).view.read (Elt F) f5 _ = ((Memref.whole cc1_scratch0 : Memref sig .scVector .vmem S48 .i32)).view.read (Elt F) f5 _
      congr 1
      funext a
      apply Fin.ext
      fin_cases a
      show k1_off296 k 0 + 1 * 0 = (2 * k.val + 1) % 48
      omega
    · show ((Memref.whole cc1_scratch0 : Memref sig .scVector .vmem S48 .i32)).view.read (Elt F) f5 _ = ((Memref.whole cc1_scratch0 : Memref sig .scVector .vmem S48 .i32)).view.read (Elt F) f5 _
      congr 1
      funext a
      apply Fin.ext
      fin_cases a
      show k1_off296 k 0 + 1 * 1 = (2 * k.val + 2) % 48
      omega
  · iexact H
set_option maxHeartbeats 8000000 in
/-- The beginning of the second half of a trip: the next segment's first tiles are asked for, this segment's first tiles are added. -/
theorem wp_head80 {α : Type} {Q : α → sProp 𝕄} (q1 q2 qs : PosShare TreeShare) (g : Buf (Elt F) (((Memref.whole main_v17_scv : Memref sig .scVector .hbm S2550x8x128 .f32)).view.loc (thr i d))) (f5 : Buf (Elt F) (((Memref.whole cc1_scratch0 : Memref sig .scVector .vmem S48 .i32)).view.loc (thr i d))) (O : CellTallies nD τ sig (HIx 1))
    (v2 : IVec S16 32) (hv2 : ∀ l, v2 l = BitVec.ofNat 32 (l 0).val) (k : Fin k1_t1_loop.trips)
    (s e : BitVec 32) (h1 : spl i d f5 (2 * k.val + 1) = s) (h2 : spl i d f5 (2 * k.val + 2) = e) (A : Acc F) (hA : A = segVal (gT (((Memref.whole main_v17_scv : Memref sig .scVector .hbm S2550x8x128 .f32)).view.read (Elt F) g)) s.toNat e.toNat (s.toNat / 128) (min ((e.toNat + 127) / 128 - s.toNat / 128) 4) zeroAcc)
    (hs : s.toNat ≤ e.toNat) (he : e.toNat ≤ 320000) (K : _ → TProg F i α) :
    iprop((((Memref.whole cc1_scratch0 : Memref sig .scVector .vmem S48 .i32)).view.loc (thr i d) ↦{qs} f5) ∗ Pend (F := F) (U := U) i d cc1_scratch5.sem (Memref.whole cc1_scratch2 : Memref sig .scVector .vmem S4x8x128 .f32) q1 g (s.toNat / 128) ∗ Quiet (F := F) (U := U) i d cc1_scratch4.sem (Memref.whole cc1_scratch1 : Memref sig .scVector .vmem S4x8x128 .f32) q2 g
        ∗ (∃ W, owes (thr i d) O W) ∗ Transfers.MayWaits (thr i d) (default : HIx 1) O)
      ⊢ iprop((((((Memref.whole cc1_scratch0 : Memref sig .scVector .vmem S48 .i32)).view.loc (thr i d) ↦{qs} f5) ∗ Quiet (F := F) (U := U) i d cc1_scratch5.sem (Memref.whole cc1_scratch2 : Memref sig .scVector .vmem S4x8x128 .f32) q1 g ∗ Next (F := F) (U := U) i d cc1_scratch4.sem (Memref.whole cc1_scratch1 : Memref sig .scVector .vmem S4x8x128 .f32) q2 g (k.val + 1) (e.toNat / 128)
          ∗ (∃ W, owes (thr i d) O W))
        -∗ tw (F := F) i d (K ⟨(Scalar.addi (Scalar.muli 2#32 (Scf.iv 0#32 1#32 k.val)) 1#32), s, e, chk3_of k _ _ hs he, Scalar.subi e s, Scalar.shrui s 7#32, Scalar.shrui (Scalar.addi e 127#32) 7#32, A.1, A.2.1, A.2.2.1, A.2.2.2.1, A.2.2.2.2.1, A.2.2.2.2.2.1, A.2.2.2.2.2.2.1, A.2.2.2.2.2.2.2, 1#32, (Scalar.addi 1#32 (Scalar.muli (Scalar.divsi (Scalar.subi (Scalar.shrui (Scalar.addi (Scalar.subi (Scalar.shrui (Scalar.addi e 127#32) 7#32) (Scalar.shrui s 7#32)) 3#32) 2#32) 1#32) 1#32) 1#32)), 1#32⟩) Q)
        -∗ tw (F := F) i d (k1_part80 i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 zeroV k (Scalar.muli 2#32 (Scf.iv 0#32 1#32 k.val)) 1#32 >>= K) Q) := by
  have hk : k.val < 16 := k.isLt
  rw [k1_part80_eq_skeleton]
  unfold k1_part80_skel
  simp only [Prog.lift, Prog.bind_op, Prog.bind_ret, Prog.pure_eq_ret, Prog.bind_assoc]
  unfold Quiet
  iintro ⟨HS, HP, ⟨HG2, ⟨%f2, HB2⟩, Hv2⟩, HO, #Hmw⟩ Hk
  iapply (wp_spl80 (U := U) i d qs f5 k) $$ HS
  iintro %v ⟨%e1, %e2⟩ HS
  rw [h1] at e1
  rw [h2] at e2
  subst e1
  subst e2
  iapply (tw_assume (U := U) i d (chk3_of k _ _ hs he))
  beta_reduce
  by_cases hlt : k.val + 1 < 16
  case' pos =>
    rw [dif_pos (cond2_pos k hlt)]
    simp only [Prog.lift, Prog.bind_op, Prog.bind_ret, Prog.pure_eq_ret, Prog.bind_assoc]
    iapply (wp_issue (U := U) i d _ (Memref.whole cc1_scratch1 : Memref sig .scVector .vmem S4x8x128 .f32) q2 g f2 _ _ _ _ (off297_eq _)) $$ [HG2 HB2 Hv2]
    · isplitl [HG2]; · iexact HG2
      isplitl [HB2] <;> iassumption
    iintro HN
    ihave HN := (show _ ⊢ Next (F := F) (U := U) i d cc1_scratch4.sem (Memref.whole cc1_scratch1 : Memref sig .scVector .vmem S4x8x128 .f32) q2 g (k.val + 1) _ by rw [Next, if_pos hlt]) $$ HN
  case' neg =>
    rw [dif_neg (cond2_neg k hlt)]
    simp only [Prog.lift, Prog.bind_op, Prog.bind_ret, Prog.pure_eq_ret, Prog.bind_assoc]
    ihave HN := (show Quiet (F := F) (U := U) i d cc1_scratch4.sem (Memref.whole cc1_scratch1 : Memref sig .scVector .vmem S4x8x128 .f32) q2 g ⊢ Next (F := F) (U := U) i d cc1_scratch4.sem (Memref.whole cc1_scratch1 : Memref sig .scVector .vmem S4x8x128 .f32) q2 g (k.val + 1) ((extractAt ![0] (k1_pay622 (F := F) v) inpos_S1_p0).toNat / 128) by rw [Next, if_neg hlt]) $$ [HG2 HB2 Hv2]
    · unfold Quiet
      isplitl [HG2]; · iexact HG2
      isplitl [HB2]; · iexists f2; iexact HB2
      iexact Hv2
  all_goals
    iapply (wp_collect (U := U) i d _ (Memref.whole cc1_scratch2 : Memref sig .scVector .vmem S4x8x128 .f32) q1 g _ O) $$ [HP HO]
    · isplitl [HP]; · iexact HP
      isplitl [HO]; · iexact HO
      iexact Hmw
    iintro ⟨%fd, %hc, HB, HG, Hv, HO⟩
    have hw2 := wp_walk46 (U := U) i d fullShare fd v2 hv2 _ _ k (chk3_of k _ _ hs he) hs he (Scalar.muli 2#32 (Scf.iv 0#32 1#32 k.val)) 1#32 zeroAcc
    rw [Seg.sh7_toNat, walkVal_chunk _ _ _ _ _ _ (by omega) hc, ← hA] at hw2
    iapply (tw_bindk (U := U) (F := F) i d hw2) $$ [HB]
    · iexact HB
    iintro HB
    obtain ⟨A0, A1, A2, A3, A4, A5, A6, A7⟩ := A
    dsimp only
    iapply (tw_bindk (U := U) (F := F) i d (wp_remL (U := U) (F := F) i d iprop(((Memref.whole cc1_scratch2 : Memref sig .scVector .vmem S4x8x128 .f32)).view.loc (thr i d) ↦{fullShare} fd) _ _ (k1_t53_ok k _ _ (chk3_of k _ _ hs he)) (A0, A1, A2, A3, A4, A5, A6, A7) _)) $$ [HB]
    · iexact HB
    iintro HB
    dsimp only
    iapply Hk
    isplitl [HS]; · iexact HS
    isplitl [HG HB Hv]
    · isplitl [HG]; · iexact HG
      isplitl [HB]; · iexists _; iexact HB
      iexact Hv
    isplitl [HN]; · iexact HN
    iexact HO

end Wp

end Cert.KernelIdeal.Seg
-- ==== Proof.Ideal.Rows.lean ====
module

public import proofs.«01_k».proof.Proof.Ideal.Trip

/-!
  The vector a segment leaves: the eight sums in the first eight lanes, zero in the others, divided by the segment's
  length; and the buffer of the rows written so far.
-/

@[expose] public section

set_option maxRecDepth 16384

noncomputable section

namespace Cert.KernelIdeal.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Eight sums, then zeros. -/
def sums (a : Acc F) (l : Nat) : F .f32 :=
  if l = 7 then laneSum a.2.2.2.2.2.2.2 else if l = 6 then laneSum a.2.2.2.2.2.2.1 else if l = 5 then laneSum a.2.2.2.2.2.1
  else if l = 4 then laneSum a.2.2.2.2.1 else if l = 3 then laneSum a.2.2.2.1 else if l = 2 then laneSum a.2.2.1
  else if l = 1 then laneSum a.2.1 else if l = 0 then laneSum a.1 else Scalar.ofBits .f32 0x00000000#32

/-- What a segment of `n` columns with the running vectors `a` leaves. -/
def outVec (a : Acc F) (n : BitVec 32) : FVec F S16 .f32 := fun l => FloatOps.divf (sums a (l 0).val) (k1_pay556 n)

/-- A lane picked by its number. -/
theorem select_lane (v2 : IVec S16 32) (hv2 : ∀ l, v2 l = BitVec.ofNat 32 (l 0).val) (r : Nat) (hr : r < 16) (x p : FVec F S16 .f32) (l : S16.Idx) :
    select (cmpi .eq v2 (broadcast S16 (BitVec.ofNat 32 r))) x p l = if (l 0).val = r then x l else p l := by
  have hl : (l 0).val < 16 := (l 0).isLt
  show (if (IntOp.cmpi .eq (v2 l) (BitVec.ofNat 32 r)) = 1#1 then x l else p l) = _
  rw [hv2]
  by_cases h : (l 0).val = r
  · rw [if_pos h, h]
    rw [if_pos]
    simp [IntOp.cmpi]
  · rw [if_neg h, if_neg]
    have hne : BitVec.ofNat 32 (l 0).val ≠ BitVec.ofNat 32 r := fun hh => h (by
      have := congrArg BitVec.toNat hh
      simp only [BitVec.toNat_ofNat] at this
      omega)
    show ¬ BitVec.ofBool (BitVec.ofNat 32 (l 0).val == BitVec.ofNat 32 r) = 1#1
    rw [beq_eq_false_iff_ne.2 hne]
    decide

/-- The first lane of a vector, as the body takes it. -/
theorem first_lane (x : FVec F S16 .f32) : extractAt ![0] (extractStridedSlice S1 ![0] x slices_S16_o0_S1) inpos_S1_p0 = lane x 0 := by
  show x _ = x _
  congr 1
  funext a
  apply Fin.ext
  fin_cases a
  rfl

/-- The vector the body builds by picking lanes is the one above. -/
theorem outVec_eq (v2 : IVec S16 32) (hv2 : ∀ l, v2 l = BitVec.ofNat 32 (l 0).val) (a : Acc F) (n : BitVec 32) (x0 x1 x2 x3 x4 x5 x6 x7 : FVec F S16 .f32)
    (h0 : lane x0 0 = laneSum a.1) (h1 : lane x1 0 = laneSum a.2.1) (h2 : lane x2 0 = laneSum a.2.2.1) (h3 : lane x3 0 = laneSum a.2.2.2.1) (h4 : lane x4 0 = laneSum a.2.2.2.2.1)
    (h5 : lane x5 0 = laneSum a.2.2.2.2.2.1) (h6 : lane x6 0 = laneSum a.2.2.2.2.2.2.1) (h7 : lane x7 0 = laneSum a.2.2.2.2.2.2.2) :
    sc (divf (select (cmpi .eq v2 (broadcast S16 7#32)) (broadcast S16 (extractAt ![0] (extractStridedSlice S1 ![0] x7 slices_S16_o0_S1) inpos_S1_p0)) (select (cmpi .eq v2 (broadcast S16 6#32)) (broadcast S16 (extractAt ![0] (extractStridedSlice S1 ![0] x6 slices_S16_o0_S1) inpos_S1_p0))
      (select (cmpi .eq v2 (broadcast S16 5#32)) (broadcast S16 (extractAt ![0] (extractStridedSlice S1 ![0] x5 slices_S16_o0_S1) inpos_S1_p0)) (select (cmpi .eq v2 (broadcast S16 4#32)) (broadcast S16 (extractAt ![0] (extractStridedSlice S1 ![0] x4 slices_S16_o0_S1) inpos_S1_p0))
      (select (cmpi .eq v2 (broadcast S16 3#32)) (broadcast S16 (extractAt ![0] (extractStridedSlice S1 ![0] x3 slices_S16_o0_S1) inpos_S1_p0)) (select (cmpi .eq v2 (broadcast S16 2#32)) (broadcast S16 (extractAt ![0] (extractStridedSlice S1 ![0] x2 slices_S16_o0_S1) inpos_S1_p0))
      (select (cmpi .eq v2 (broadcast S16 1#32)) (broadcast S16 (extractAt ![0] (extractStridedSlice S1 ![0] x1 slices_S16_o0_S1) inpos_S1_p0)) (select (cmpi .eq v2 (broadcast S16 0#32)) (broadcast S16 (extractAt ![0] (extractStridedSlice S1 ![0] x0 slices_S16_o0_S1) inpos_S1_p0)) zeroV))))))))
      (broadcast S16 (k1_pay556 n))) = outVec a n := by
  rw [sc, shapeCast_self]
  simp only [first_lane, h0, h1, h2, h3, h4, h5, h6, h7]
  funext l
  show FloatOps.divf (select _ _ _ l) _ = FloatOps.divf _ _
  congr 1
  rw [select_lane v2 hv2 7 (by decide), select_lane v2 hv2 6 (by decide), select_lane v2 hv2 5 (by decide), select_lane v2 hv2 4 (by decide),
    select_lane v2 hv2 3 (by decide), select_lane v2 hv2 2 (by decide), select_lane v2 hv2 1 (by decide), select_lane v2 hv2 0 (by decide)]
  rfl

/-- What the segment between the words `s` and `e` leaves, of the array `g`. -/
def outVal (g : S2550x8x128.Idx → F .f32) (s e : BitVec 32) : FVec F S16 .f32 :=
  outVec (segVal (gT g) s.toNat e.toNat (s.toNat / 128) ((e.toNat + 127) / 128 - s.toNat / 128) zeroAcc) (Scalar.subi e s)

/-- The first `n` rows of a tile's results are the segments'. -/
def RowsDone (g : S2550x8x128.Idx → F .f32) (sp : Nat → BitVec 32) (n : Nat) (r : S512.Idx → F .f32) : Prop :=
  ∀ j, j < n → ∀ l, l < 16 → r (ix1 (⟨(16 * j + l) % 512, Nat.mod_lt _ (by decide)⟩ : Fin 512)) = outVal g (sp j) (sp (j + 1)) (ix1 (⟨l % 16, Nat.mod_lt _ (by decide)⟩ : Fin 16))

section Wp

variable {U : Type} [URA U] [CountersIn U] (i : grid1.Coords) (d : Dev nD)

local notation "𝕄" => MT nD τ sig (HIx 1) (Elt F) ℕ U ℕ

/-- The results' buffer after `n` rows. -/
def Res (g : S2550x8x128.Idx → F .f32) (sp : Nat → BitVec 32) (n : Nat) : sProp 𝕄 :=
  iprop(∃ f : Buf (Elt F) (((Memref.whole cc1_scratch7 : Memref sig .scVector .vmem S512 .f32)).view.loc (thr i d)), ⌜RowsDone g sp n (((Memref.whole cc1_scratch7 : Memref sig .scVector .vmem S512 .f32)).view.read (Elt F) f)⌝ ∗ ((Memref.whole cc1_scratch7 : Memref sig .scVector .vmem S512 .f32)).view.loc (thr i d) ↦{fullShare} f)

/-- A load from the results' buffer, not used. -/
theorem wp_resLoad {α : Type} {Q : α → sProp 𝕄} (g : S2550x8x128.Idx → F .f32) (sp : Nat → BitVec 32) (n : Nat) (r : LoadRect S512) (hm) (cont : _ → TProg F i α) :
    Res (F := F) (U := U) i d g sp n ⊢ iprop((∀ v, Res (F := F) (U := U) i d g sp n -∗ tw (F := F) i d (cont v) Q)
      -∗ tw (F := F) i d (.op (.load (Memref.whole cc1_scratch7 : Memref sig .scVector .vmem S512 .f32) r hm) cont) Q) := by
  unfold Res
  iintro ⟨%f, %hf, H⟩ Hk
  iapply (wp_load Variants.none (thr i d) none Set.univ (m := (Memref.whole cc1_scratch7 : Memref sig .scVector .vmem S512 .f32)) (S := Finset.univ) (Finset.subset_univ _)) $$ H; iintro H
  iapply Hk
  iexists f
  isplitr; · ipureintro; exact hf
  iexact H

/-- The store of row `n` of the results. -/
theorem wp_resStore {α : Type} {Q : α → sProp 𝕄} (g : S2550x8x128.Idx → F .f32) (sp : Nat → BitVec 32) (n : Nat) (hn : n < 32) (off : Fin 1 → Nat) (hoff : off = ![16 * n]) (inb) (w : FVec F S16 .f32)
    (hx) (hm) (cont : PUnit → TProg F i α) :
    Res (F := F) (U := U) i d g sp n ⊢ iprop(⌜w = outVal g (sp n) (sp (n + 1))⌝ -∗ (Res (F := F) (U := U) i d g sp (n + 1) -∗ tw (F := F) i d (cont ⟨⟩) Q)
      -∗ tw (F := F) i d (.op (.store (Memref.whole cc1_scratch7 : Memref sig .scVector .vmem S512 .f32) (Rect.unit (s := S512) off S16.size inb) w Finset.univ hx hm) cont) Q) := by
  subst hoff
  unfold Res
  iintro ⟨%f, %hf, H⟩ %hw Hk
  iapply (wp_store Variants.none (thr i d) none Set.univ (m := (Memref.whole cc1_scratch7 : Memref sig .scVector .vmem S512 .f32)) (r := Rect.unit (s := S512) ![16 * n] S16.size inb) (w := w) (Mk := Finset.univ) (S := Finset.univ) (Finset.subset_univ _)) $$ H; iintro H
  iapply Hk
  iexists ((((Memref.whole cc1_scratch7 : Memref sig .scVector .vmem S512 .f32)).access (Rect.unit (s := S512) ![16 * n] S16.size inb)).write (Elt F) f w Finset.univ)
  isplitr
  · ipureintro
    intro j hj l hl
    by_cases hjn : j < n
    · rw [← hf j hjn l hl]
      have hs : (ix1 (⟨(16 * j + l) % 512, Nat.mod_lt _ (by decide)⟩ : Fin 512) : S512.Idx) ∉ Finset.map (Rect.unit (s := S512) ![16 * n] S16.size inb).emb Finset.univ := fun h => by
        obtain ⟨x, _, hx⟩ := Finset.mem_map.1 h
        have h0 := congrArg (fun y : S512.Idx => (y 0).val) hx
        change 16 * n + 1 * (x 0).val = (16 * j + l) % 512 at h0
        omega
      exact View.read_slice_write_of_not_mem (v := ((Memref.whole cc1_scratch7 : Memref sig .scVector .vmem S512 .f32)).view) (Rect.unit (s := S512) ![16 * n] S16.size inb) f w Finset.univ hs
    · have : j = n := by omega
      subst this
      rw [← hw, show (ix1 (⟨(16 * j + l) % 512, Nat.mod_lt _ (by decide)⟩ : Fin 512) : S512.Idx) = (Rect.unit (s := S512) ![16 * j] S16.size inb).emb (ix1 (⟨l % 16, Nat.mod_lt _ (by decide)⟩ : Fin 16)) from
        (Rect.emb_eq_of_coords _ _ _ fun a => by fin_cases a; show (16 * j + l) % 512 = 16 * j + 1 * (l % 16); omega).symm]
      exact View.read_slice_write_emb (v := ((Memref.whole cc1_scratch7 : Memref sig .scVector .vmem S512 .f32)).view) (Rect.unit (s := S512) ![16 * j] S16.size inb) f w (Finset.mem_univ _)
  · iexact H

end Wp

end Cert.KernelIdeal.Seg
-- ==== Proof.Ideal.Body.lean ====
module

public import proofs.«01_k».proof.Proof.Ideal.Rows

/-!
  One trip of the outer loop: two segments, one after the other.
-/

@[expose] public section

set_option maxRecDepth 16384

noncomputable section

namespace Cert.KernelIdeal.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The row of the results of the first segment of trip `k`. -/
theorem off295_eq : ∀ k : Fin k1_t1_loop.trips, k1_off295 k = ![16 * (2 * k.val)] := by decide +kernel
/-- The row of the results of the second segment of trip `k`. -/
theorem off588_eq : ∀ k : Fin k1_t1_loop.trips, k1_off588 k = ![16 * (2 * k.val + 1)] := by decide +kernel

section Wp

variable {U : Type} [URA U] [CountersIn U] (i : grid1.Coords) (d : Dev nD)

local notation "𝕄" => MT nD τ sig (HIx 1) (Elt F) ℕ U ℕ

/-- The end of a program whose value the rest does not name. -/
theorem tw_done {α : Type} (v : α) (Q : α → sProp 𝕄) : Q v ⊢ tw (F := F) i d (Prog.ret v) Q := by
  show _ ⊢ wp _ _ _ (Prog.ret v) _
  rw [wp_ret]
  iintro H
  imodintro
  iexact H

/-- What a tile holds before trip `k`. -/
def TripInv (q1 q2 q3 qs : PosShare TreeShare) (g : Buf (Elt F) (((Memref.whole main_v17_scv : Memref sig .scVector .hbm S2550x8x128 .f32)).view.loc (thr i d))) (f5 : Buf (Elt F) (((Memref.whole cc1_scratch0 : Memref sig .scVector .vmem S48 .i32)).view.loc (thr i d))) (O : CellTallies nD τ sig (HIx 1)) (k : Nat) : sProp 𝕄 :=
  iprop((((Memref.whole cc1_scratch0 : Memref sig .scVector .vmem S48 .i32)).view.loc (thr i d) ↦{qs} f5) ∗ Next (F := F) (U := U) i d cc1_scratch4.sem (Memref.whole cc1_scratch1 : Memref sig .scVector .vmem S4x8x128 .f32) q1 g k ((spl i d f5 (2 * k)).toNat / 128) ∗ Quiet (F := F) (U := U) i d cc1_scratch5.sem (Memref.whole cc1_scratch2 : Memref sig .scVector .vmem S4x8x128 .f32) q2 g
    ∗ (((Memref.whole main_v17_scv : Memref sig .scVector .hbm S2550x8x128 .f32)).view.loc (thr i d) ↦{q3} g) ∗ (∃ f, ((Memref.whole cc1_scratch3 : Memref sig .scVector .vmem S4x8x128 .f32)).view.loc (thr i d) ↦{fullShare} f) ∗ semVal (thr i d, SemLoc.dma cc1_scoped1.sem) 0 ∗ semVal (thr i d, SemLoc.dma cc1_scoped3.sem) 0
    ∗ (∃ w, Tmp (F := F) (U := U) i d w) ∗ Res (F := F) (U := U) i d (((Memref.whole main_v17_scv : Memref sig .scVector .hbm S2550x8x128 .f32)).view.read (Elt F) g) (spl i d f5) (2 * k) ∗ (∃ W, owes (thr i d) O W))

set_option maxHeartbeats 16000000 in
/-- One trip of the outer loop. -/
theorem wp_trip (q1 q2 q3 qs : PosShare TreeShare) (g : Buf (Elt F) (((Memref.whole main_v17_scv : Memref sig .scVector .hbm S2550x8x128 .f32)).view.loc (thr i d))) (f5 : Buf (Elt F) (((Memref.whole cc1_scratch0 : Memref sig .scVector .vmem S48 .i32)).view.loc (thr i d))) (O : CellTallies nD τ sig (HIx 1))
    (v2 : IVec S16 32) (hv2 : ∀ l, v2 l = BitVec.ofNat 32 (l 0).val) (k : Fin k1_t1_loop.trips)
    (hsp : ∀ j, j < 32 → (spl i d f5 j).toNat ≤ (spl i d f5 (j + 1)).toNat ∧ (spl i d f5 (j + 1)).toNat ≤ 320000) :
    iprop(Transfers.MayWaits (thr i d) (default : HIx 1) O ∗ TripInv (F := F) (U := U) i d q1 q2 q3 qs g f5 O k.val)
      ⊢ tw (F := F) i d (k1_t1_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2 k ⟨⟩) fun _ => TripInv (F := F) (U := U) i d q1 q2 q3 qs g f5 O (k.val + 1) := by
  have hk : k.val < 16 := k.isLt
  obtain ⟨hs0, he0⟩ := hsp (2 * k.val) (by omega)
  obtain ⟨hs1, he1⟩ := hsp (2 * k.val + 1) (by omega)
  unfold k1_t1_body
  rw [k1_part86_eq_skeleton]
  unfold k1_part86_skel
  rw [k1_part74_eq_skeleton, k1_part75_eq_skeleton, k1_part76_eq_skeleton, k1_part77_eq_skeleton, k1_part78_eq_skeleton, k1_part79_eq_skeleton,
    k1_part81_eq_skeleton, k1_part82_eq_skeleton, k1_part83_eq_skeleton, k1_part84_eq_skeleton, k1_part85_eq_skeleton]
  unfold k1_part74_skel k1_part75_skel k1_part76_skel k1_part77_skel k1_part78_skel k1_part79_skel k1_part81_skel k1_part82_skel k1_part83_skel k1_part84_skel k1_part85_skel
  simp only [Prog.lift, Prog.bind_op, Prog.bind_ret, Prog.pure_eq_ret, Prog.bind_assoc]
  unfold TripInv
  rw [Next, if_pos hk]
  iintro ⟨#Hmw, HS, HP, HQ, HG3, HBC, Hs1, Hs3, HT, HR, HO⟩
  iapply (wp_head73 (U := U) i d q1 q2 qs g f5 O v2 hv2 k _ _ rfl rfl _ rfl hs0 he0) $$ [HS HP HQ HO]
  · isplitl [HS]; · iexact HS
    isplitl [HP]; · iexact HP
    isplitl [HQ]; · iexact HQ
    isplitl [HO]; · iexact HO
    iexact Hmw
  iintro ⟨HS, HQ, HP, HO⟩
  dsimp only
  ihave HI := (show _ ⊢ (Idle (F := F) (U := U) i d cc1_scoped1.sem (Memref.whole cc1_scratch3 : Memref sig .scVector .vmem S4x8x128 .f32) q3 g O) from .rfl) $$ [HG3 HBC Hs1 HO]
  · unfold Idle
    isplitl [HG3]; · iexact HG3
    isplitl [HBC]; · iexact HBC
    isplitl [Hs1]; · iexact Hs1
    isplitl [HO]; · iexact HO
    iexact Hmw
  iapply (tw_bindk (U := U) (F := F) i d (wp_chunks16 (U := U) i d q3 g O v2 hv2 _ _ k (chk2_of k _ _ hs0 he0) hs0 he0 _ _ _ _ _ _ _ _ _ _ zeroAcc _ rfl)) $$ HI
  iintro HI
  dsimp only
  iapply (tw_bindk (U := U) (F := F) i d (wp_remL (U := U) (F := F) i d (Idle (F := F) (U := U) i d cc1_scoped1.sem (Memref.whole cc1_scratch3 : Memref sig .scVector .vmem S4x8x128 .f32) q3 g O) _ _ (k1_t31_ok k _ _ (chk2_of k _ _ hs0 he0)) (segVal (gT (((Memref.whole main_v17_scv : Memref sig .scVector .hbm S2550x8x128 .f32)).view.read (Elt F) g)) (spl i d f5 (2 * k.val)).toNat (spl i d f5 (2 * k.val + 1)).toNat ((spl i d f5 (2 * k.val)).toNat / 128) (((spl i d f5 (2 * k.val + 1)).toNat + 127) / 128 - (spl i d f5 (2 * k.val)).toNat / 128) zeroAcc) _)) $$ HI
  iintro HI
  dsimp only
  iapply (wp_row (U := U) i d _ _) $$ HT; iintro %_ %_ %_ %_ %h0 HT
  iapply (wp_row (U := U) i d _ _) $$ HT; iintro %_ %_ %_ %_ %h1 HT
  iapply (wp_row (U := U) i d _ _) $$ HT; iintro %_ %_ %_ %_ %h2 HT
  iapply (wp_row (U := U) i d _ _) $$ HT; iintro %_ %_ %_ %_ %h3 HT
  iapply (wp_row (U := U) i d _ _) $$ HT; iintro %_ %_ %_ %_ %h4 HT
  iapply (wp_row (U := U) i d _ _) $$ HT; iintro %_ %_ %_ %_ %h5 HT
  iapply (wp_row (U := U) i d _ _) $$ HT; iintro %_ %_ %_ %_ %h6 HT
  iapply (wp_row (U := U) i d _ _) $$ HT; iintro %_ %_ %_ %_ %h7 HT
  iapply (wp_resLoad (U := U) i d) $$ HR; iintro %_ HR
  iapply (wp_resStore (U := U) i d _ _ (2 * k.val) (by omega) _ (off295_eq k)) $$ HR []
  · ipureintro
    exact outVec_eq v2 hv2 (segVal (gT (((Memref.whole main_v17_scv : Memref sig .scVector .hbm S2550x8x128 .f32)).view.read (Elt F) g)) (spl i d f5 (2 * k.val)).toNat (spl i d f5 (2 * k.val + 1)).toNat ((spl i d f5 (2 * k.val)).toNat / 128) (((spl i d f5 (2 * k.val + 1)).toNat + 127) / 128 - (spl i d f5 (2 * k.val)).toNat / 128) zeroAcc) (Scalar.subi (spl i d f5 (2 * k.val + 1)) (spl i d f5 (2 * k.val))) _ _ _ _ _ _ _ _ h0 h1 h2 h3 h4 h5 h6 h7
  iintro HR
  unfold Idle
  icases HI with ⟨HG3, HBC, Hs1, HO, -⟩
  iapply (wp_head80 (U := U) i d q2 q1 qs g f5 O v2 hv2 k _ _ rfl rfl _ rfl hs1 he1) $$ [HS HP HQ HO]
  · isplitl [HS]; · iexact HS
    isplitl [HP]; · iexact HP
    isplitl [HQ]; · iexact HQ
    isplitl [HO]; · iexact HO
    iexact Hmw
  iintro ⟨HS, HQ, HP, HO⟩
  dsimp only
  ihave HI := (show _ ⊢ (Idle (F := F) (U := U) i d cc1_scoped3.sem (Memref.whole cc1_scratch3 : Memref sig .scVector .vmem S4x8x128 .f32) q3 g O) from .rfl) $$ [HG3 HBC Hs3 HO]
  · unfold Idle
    isplitl [HG3]; · iexact HG3
    isplitl [HBC]; · iexact HBC
    isplitl [Hs3]; · iexact Hs3
    isplitl [HO]; · iexact HO
    iexact Hmw
  iapply (tw_bindk (U := U) (F := F) i d (wp_chunks60 (U := U) i d q3 g O v2 hv2 _ _ k (chk3_of k _ _ hs1 he1) hs1 he1 _ _ _ _ _ _ _ _ _ _ zeroAcc _ rfl)) $$ HI
  iintro HI
  dsimp only
  iapply (tw_bindk (U := U) (F := F) i d (wp_remL (U := U) (F := F) i d (Idle (F := F) (U := U) i d cc1_scoped3.sem (Memref.whole cc1_scratch3 : Memref sig .scVector .vmem S4x8x128 .f32) q3 g O) _ _ (k1_t75_ok k _ _ (chk3_of k _ _ hs1 he1)) (segVal (gT (((Memref.whole main_v17_scv : Memref sig .scVector .hbm S2550x8x128 .f32)).view.read (Elt F) g)) (spl i d f5 (2 * k.val + 1)).toNat (spl i d f5 (2 * k.val + 2)).toNat ((spl i d f5 (2 * k.val + 1)).toNat / 128) (((spl i d f5 (2 * k.val + 2)).toNat + 127) / 128 - (spl i d f5 (2 * k.val + 1)).toNat / 128) zeroAcc) _)) $$ HI
  iintro HI
  dsimp only
  iapply (wp_row (U := U) i d _ _) $$ HT; iintro %_ %_ %_ %_ %h0 HT
  iapply (wp_row (U := U) i d _ _) $$ HT; iintro %_ %_ %_ %_ %h1 HT
  iapply (wp_row (U := U) i d _ _) $$ HT; iintro %_ %_ %_ %_ %h2 HT
  iapply (wp_row (U := U) i d _ _) $$ HT; iintro %_ %_ %_ %_ %h3 HT
  iapply (wp_row (U := U) i d _ _) $$ HT; iintro %_ %_ %_ %_ %h4 HT
  iapply (wp_row (U := U) i d _ _) $$ HT; iintro %_ %_ %_ %_ %h5 HT
  iapply (wp_row (U := U) i d _ _) $$ HT; iintro %_ %_ %_ %_ %h6 HT
  iapply (wp_row (U := U) i d _ _) $$ HT; iintro %_ %_ %_ %_ %h7 HT
  iapply (wp_resLoad (U := U) i d) $$ HR; iintro %_ HR
  iapply (wp_resStore (U := U) i d _ _ (2 * k.val + 1) (by omega) _ (off588_eq k)) $$ HR []
  · ipureintro
    exact outVec_eq v2 hv2 (segVal (gT (((Memref.whole main_v17_scv : Memref sig .scVector .hbm S2550x8x128 .f32)).view.read (Elt F) g)) (spl i d f5 (2 * k.val + 1)).toNat (spl i d f5 (2 * k.val + 2)).toNat ((spl i d f5 (2 * k.val + 1)).toNat / 128) (((spl i d f5 (2 * k.val + 2)).toNat + 127) / 128 - (spl i d f5 (2 * k.val + 1)).toNat / 128) zeroAcc) (Scalar.subi (spl i d f5 (2 * k.val + 2)) (spl i d f5 (2 * k.val + 1))) _ _ _ _ _ _ _ _ h0 h1 h2 h3 h4 h5 h6 h7
  iintro HR
  unfold Idle
  icases HI with ⟨HG3, HBC, Hs3, HO, -⟩
  iapply (tw_done (U := U) i d _ _)
  beta_reduce
  isplitl [HS]; · iexact HS
  isplitl [HP]; · iexact HP
  isplitl [HQ]; · iexact HQ
  isplitl [HG3]; · iexact HG3
  isplitl [HBC]; · iexact HBC
  isplitl [Hs1]; · iexact Hs1
  isplitl [Hs3]; · iexact Hs3
  isplitl [HT]; · iexact HT
  isplitl [HR]; · iexact HR
  iexact HO

end Wp

end Cert.KernelIdeal.Seg
-- ==== Proof.Ideal.Whole.lean ====
module

public import proofs.«01_k».proof.Proof.Ideal.Body

/-!
  The whole task of one vector subcore: it fetches its words of the splits, runs its sixteen trips of two segments, and
  writes its rows of the results out.
-/

@[expose] public section

set_option maxRecDepth 16384

noncomputable section

namespace Cert.KernelIdeal.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The word `j` of the splits' array. -/
def word (h : S1032.Idx → BitVec 32) (j : Nat) : BitVec 32 := h (ix1 (⟨j % 1032, Nat.mod_lt _ (by decide)⟩ : Fin 1032))

/-- The results: row `j`, sixteen lanes wide, is segment `j`'s. -/
def outBuf (g : S2550x8x128.Idx → F .f32) (h : S1032.Idx → BitVec 32) : S16384.Idx → F .f32 := fun y =>
  outVal g (word h ((y 0).val / 16)) (word h ((y 0).val / 16 + 1)) (ix1 (⟨(y 0).val % 16, Nat.mod_lt _ (by decide)⟩ : Fin 16))

/-- A task's number. -/
def task (i : grid1.Coords) : Nat := 2 * (i 1).val + (i 0).val

/-- The elements of the results that a task writes. -/
def taskSet (t : Nat) : Finset S16384.Idx := Finset.univ.filter fun y => (y 0).val / 512 = t

/-- A task's number is below thirty-two. -/
theorem task_lt (i : grid1.Coords) : task i < 32 := by
  have h0 : (i 0).val < 2 := (i 0).isLt
  have h1 : (i 1).val < 16 := (i 1).isLt
  unfold task; omega

/-- Where a task's splits begin. -/
theorem off1_eq (i : grid1.Coords) : k1_off1 i = ![32 * task i] := by
  have h0 : (i 0).val < 2 := (i 0).isLt
  have h1 : (i 1).val < 16 := (i 1).isLt
  unfold k1_off1 task
  simp only [Scalar.addi, Scalar.muli, IntOp.addi, IntOp.muli]
  congr 1
  simp only [BitVec.toNat_add, BitVec.toNat_mul, BitVec.toNat_ofNat]
  omega

/-- Where a task's results begin. -/
theorem off589_eq (i : grid1.Coords) : k1_off589 i = ![512 * task i] := by
  have h0 : (i 0).val < 2 := (i 0).isLt
  have h1 : (i 1).val < 16 := (i 1).isLt
  unfold k1_off589 task
  simp only [Scalar.addi, Scalar.muli, IntOp.addi, IntOp.muli]
  congr 1
  simp only [BitVec.toNat_add, BitVec.toNat_mul, BitVec.toNat_ofNat]
  omega

/-- The first chunk begins with the tile of the first segment's first column. -/
theorem off2_eq (s : BitVec 32) : k1_off2 s = ![s.toNat / 128, 0, 0] := by rw [← Seg.sh7_toNat]; rfl

/-- The elements of the results that a task's last copy writes are its own. -/
theorem out_set (i : grid1.Coords) (hs) : (((Memref.whole main_v20_scv : Memref sig .scVector .hbm S16384 .f32)).slice (Rect.unit (s := S16384) (k1_off589 i) S512.size (k1_off589_inb i)) hs).view.set = taskSet (task i) := by
  show ((View.whole (main_v20_scv : Ref sig .scVector)).slice (Rect.unit (s := S16384) (k1_off589 i) S512.size (k1_off589_inb i))).set = _
  rw [View.set_slice]
  refine Finset.map_refl.trans ?_
  have ho : k1_off589 i 0 = 512 * task i := by rw [off589_eq]; rfl
  ext y
  have hb : (y 0).val < 16384 := (y 0).isLt
  unfold taskSet
  rw [Rect.mem_set_unit]
  simp only [Finset.mem_filter, Finset.mem_univ, true_and]
  constructor
  · intro hy
    have h0 : k1_off589 i 0 ≤ (y 0).val ∧ (y 0).val < k1_off589 i 0 + 512 := hy 0
    omega
  · intro hy a
    fin_cases a
    show k1_off589 i 0 ≤ (y 0).val ∧ (y 0).val < k1_off589 i 0 + 512
    omega

section Wp

variable {U : Type} [URA U] [CountersIn U] (i : grid1.Coords) (d : Dev nD)

local notation "𝕄" => MT nD τ sig (HIx 1) (Elt F) ℕ U ℕ

/-- A copy that is waited for at once: the destination holds what was written, the rest is as it was. -/
theorem wp_sync {α : Type} {Q : α → sProp 𝕄} {sp sp' : Space} {s : Shape} {e : EltTy} (sm : DmaSem sig) (src : Memref sig .scVector sp s e) (dst : Memref sig .scVector sp' s e)
    (q : PosShare TreeShare) (Ss : Finset (Idx (src.view.loc (thr i d)))) (hSs : src.view.set ⊆ Ss) (Sd : Finset (Idx (dst.view.loc (thr i d)))) (hSd : dst.view.set ⊆ Sd)
    (fs : Buf (Elt F) (src.view.loc (thr i d))) (fd : Buf (Elt F) (dst.view.loc (thr i d))) (O : CellTallies nD τ sig (HIx 1)) (h0 : 0 < dst.view.amount (.dma sm))
    {sp2 : Space} {s2 : Shape} {e2 : EltTy} {srcw : Memref sig .scVector sp2 s2 e2} {hsrc} {hdst} {hsem} {hsrc'} {hdst'} (k : PUnit → TProg F i α) :
    iprop((src.view.loc (thr i d) ↦[Ss]{q} fs) ∗ (dst.view.loc (thr i d) ↦[Sd]{fullShare} fd) ∗ semVal (thr i d, SemLoc.dma sm) 0 ∗ (∃ W, owes (thr i d) O W) ∗ Transfers.MayWaits (thr i d) (default : HIx 1) O)
      ⊢ iprop((((src.view.loc (thr i d) ↦[Ss]{q} fs) ∗ (dst.view.loc (thr i d) ↦[Sd]{fullShare} dst.view.write (Elt F) fd (src.view.read (Elt F) fs) Finset.univ) ∗ semVal (thr i d, SemLoc.dma sm) 0 ∗ (∃ W, owes (thr i d) O W))
          -∗ tw (F := F) i d (k ⟨⟩) Q)
        -∗ tw (F := F) i d (.op (.enqueueDma src (.here dst) (.dma sm) hsrc hdst hsem) fun _ => .op (.waitDma2 sm srcw dst hsrc' hdst') k) Q) := by
  iintro ⟨HG, HD, Hv, ⟨%W, HO⟩, Hmw⟩ Hk
  ihave HG' := (pointsTo_split_subset hSs).1 $$ HG
  icases HG' with ⟨HG, Hrest⟩
  iapply (Transfers.wp_dmaLocal (countersEmb (nD := nD) (τ := τ) (sig := sig) (Ix := HIx 1) (Val := Elt F) (Name := ℕ) (U := U) (Lvl := ℕ)) Variants.none (thr i d) none (default : HIx 1) dst.view.dmaCredit rfl
    h0 hSd) $$ [HG HD Hv]
  · isplitl [HG]; · iexact HG
    isplitl [HD] <;> iassumption
  iintro Hf
  ihave Hm := (Transfers.MayWaits.elim (SemLoc.dma sm)) $$ Hmw
  iapply (Transfers.wp_waitLocalO (countersEmb (nD := nD) (τ := τ) (sig := sig) (Ix := HIx 1) (Val := Elt F) (Name := ℕ) (U := U) (Lvl := ℕ)) Variants.none (thr i d) none (default : HIx 1) rfl) $$ [Hf HO Hm]
  · isplitl [Hf]; · iexact Hf
    isplitl [HO] <;> iassumption
  iintro ⟨⟨HD, HG⟩, Hv, HO⟩
  iapply Hk
  isplitl [HG Hrest]
  · iapply (pointsTo_split_subset hSs).2
    isplitl [HG] <;> iassumption
  isplitl [HD]; · iexact HD
  isplitl [Hv]; · iexact Hv
  iexists _; iexact HO

/-- The load of the first word of a task's splits. -/
theorem wp_spl0 {α : Type} {Q : α → sProp 𝕄} (qs : PosShare TreeShare) (f5 : Buf (Elt F) (((Memref.whole cc1_scratch0 : Memref sig .scVector .vmem S48 .i32)).view.loc (thr i d))) (cont : Vec F S16 .i32 → TProg F i α) :
    (((Memref.whole cc1_scratch0 : Memref sig .scVector .vmem S48 .i32)).view.loc (thr i d) ↦{qs} f5 : sProp 𝕄) ⊢ iprop((∀ v : Vec F S16 .i32, ⌜extractAt ![0] (k1_pay810 (F := F) v) inpos_S1_p0 = spl i d f5 0⌝
        -∗ (((Memref.whole cc1_scratch0 : Memref sig .scVector .vmem S48 .i32)).view.loc (thr i d) ↦{qs} f5) -∗ tw (F := F) i d (cont v) Q)
      -∗ tw (F := F) i d (.op (.load (Memref.whole cc1_scratch0 : Memref sig .scVector .vmem S48 .i32) (Rect.unit (s := S48) ![0] S16.size inb_S48_S16_0).toLoadRect (View.loadsAt_vmem h_S16)) cont) Q) := by
  iintro H Hk
  iapply (wp_load Variants.none (thr i d) none Set.univ (m := (Memref.whole cc1_scratch0 : Memref sig .scVector .vmem S48 .i32)) (S := Finset.univ) (Finset.subset_univ _)) $$ H; iintro H
  iapply Hk $$ [] [H]
  · ipureintro
    show ((Memref.whole cc1_scratch0 : Memref sig .scVector .vmem S48 .i32)).view.read (Elt F) f5 _ = ((Memref.whole cc1_scratch0 : Memref sig .scVector .vmem S48 .i32)).view.read (Elt F) f5 _
    congr 1
    funext a
    apply Fin.ext
    fin_cases a
    rfl
  · iexact H

/-- The sixteen trips. -/
theorem wp_trips (q1 q2 q3 qs : PosShare TreeShare) (g : Buf (Elt F) (((Memref.whole main_v17_scv : Memref sig .scVector .hbm S2550x8x128 .f32)).view.loc (thr i d))) (f5 : Buf (Elt F) (((Memref.whole cc1_scratch0 : Memref sig .scVector .vmem S48 .i32)).view.loc (thr i d))) (O : CellTallies nD τ sig (HIx 1))
    (v2 : IVec S16 32) (hv2 : ∀ l, v2 l = BitVec.ofNat 32 (l 0).val)
    (hsp : ∀ j, j < 32 → (spl i d f5 j).toNat ≤ (spl i d f5 (j + 1)).toNat ∧ (spl i d f5 (j + 1)).toNat ≤ 320000) :
    iprop(Transfers.MayWaits (thr i d) (default : HIx 1) O ∗ TripInv (F := F) (U := U) i d q1 q2 q3 qs g f5 O 0)
      ⊢ tw (F := F) i d (Scf.Loop.for k1_t1_loop k1_t1_ok ⟨⟩ (k1_t1_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2)) fun a => iprop(⌜a = ⟨⟩⌝ ∗ TripInv (F := F) (U := U) i d q1 q2 q3 qs g f5 O 16) := by
  iintro ⟨#Hmw, H⟩
  iapply (Scf.wp_for frame (wpE (defs₀ (F := F)) Variants.none (thr i d) none) Set.univ k1_t1_loop.lb k1_t1_loop.ub k1_t1_loop.st k1_t1_ok ⟨⟩ (k1_t1_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5 v2)
    (fun k _ => iprop(Transfers.MayWaits (thr i d) (default : HIx 1) O ∗ TripInv (F := F) (U := U) i d q1 q2 q3 qs g f5 O k)) (fun k x => by
      iintro ⟨#Hmw, H⟩
      iapply (tw_use (U := U) i d (wp_trip (U := U) i d q1 q2 q3 qs g f5 O v2 hv2 k hsp)) $$ [H]
      · isplitr; · iexact Hmw
        iexact H
      iintro %_ H
      isplitr; · iexact Hmw
      iexact H))
  isplitl [H]
  · isplitr; · iexact Hmw
    iexact H
  · iintro %x ⟨-, H⟩
    isplitr; · ipureintro; rfl
    iexact H

/-- What a task holds of its own between its tasks. -/
def Own (q1 q2 q3 : PosShare TreeShare) (g : Buf (Elt F) (((Memref.whole main_v17_scv : Memref sig .scVector .hbm S2550x8x128 .f32)).view.loc (thr i d))) (O : CellTallies nD τ sig (HIx 1)) : sProp 𝕄 :=
  iprop(Quiet (F := F) (U := U) i d cc1_scratch4.sem (Memref.whole cc1_scratch1 : Memref sig .scVector .vmem S4x8x128 .f32) q1 g ∗ Quiet (F := F) (U := U) i d cc1_scratch5.sem (Memref.whole cc1_scratch2 : Memref sig .scVector .vmem S4x8x128 .f32) q2 g
    ∗ (((Memref.whole main_v17_scv : Memref sig .scVector .hbm S2550x8x128 .f32)).view.loc (thr i d) ↦{q3} g) ∗ (∃ f, ((Memref.whole cc1_scratch3 : Memref sig .scVector .vmem S4x8x128 .f32)).view.loc (thr i d) ↦{fullShare} f) ∗ semVal (thr i d, SemLoc.dma cc1_scoped0.sem) 0 ∗ semVal (thr i d, SemLoc.dma cc1_scoped1.sem) 0 ∗ semVal (thr i d, SemLoc.dma cc1_scoped3.sem) 0
    ∗ semVal (thr i d, SemLoc.dma cc1_scoped5.sem) 0 ∗ (∃ w, ((Memref.whole cc1_scratch6 : Memref sig .scVector .vmem S32 .f32)).view.loc (thr i d) ↦{fullShare} w) ∗ (∃ f, ((Memref.whole cc1_scratch7 : Memref sig .scVector .vmem S512 .f32)).view.loc (thr i d) ↦{fullShare} f) ∗ (∃ f, ((Memref.whole cc1_scratch0 : Memref sig .scVector .vmem S48 .i32)).view.loc (thr i d) ↦{fullShare} f) ∗ (∃ W, owes (thr i d) O W))

set_option maxHeartbeats 16000000 in
/-- The task of one vector subcore leaves its segments' rows in its part of the results. -/
theorem wp_segmean (q1 q2 q3 qi : PosShare TreeShare) (g : Buf (Elt F) (((Memref.whole main_v17_scv : Memref sig .scVector .hbm S2550x8x128 .f32)).view.loc (thr i d))) (h : Buf (Elt F) (((Memref.whole main_v19_scv : Memref sig .scVector .hbm S1032 .i32)).view.loc (thr i d))) (fo : Buf (Elt F) (((Memref.whole main_v20_scv : Memref sig .scVector .hbm S16384 .f32)).view.loc (thr i d))) (O : CellTallies nD τ sig (HIx 1))
    (hsp : ∀ j, j < 1024 → (word (((Memref.whole main_v19_scv : Memref sig .scVector .hbm S1032 .i32)).view.read (Elt F) h) j).toNat ≤ (word (((Memref.whole main_v19_scv : Memref sig .scVector .hbm S1032 .i32)).view.read (Elt F) h) (j + 1)).toNat ∧ (word (((Memref.whole main_v19_scv : Memref sig .scVector .hbm S1032 .i32)).view.read (Elt F) h) (j + 1)).toNat ≤ 320000) :
    iprop(Transfers.MayWaits (thr i d) (default : HIx 1) O ∗ Own (F := F) (U := U) i d q1 q2 q3 g O ∗ (((Memref.whole main_v19_scv : Memref sig .scVector .hbm S1032 .i32)).view.loc (thr i d) ↦{qi} h) ∗ (((Memref.whole main_v20_scv : Memref sig .scVector .hbm S16384 .f32)).view.loc (thr i d) ↦[taskSet (task i)]{fullShare} fo))
      ⊢ tw (F := F) i d (cc1__segmean_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5) fun _ => iprop(Own (F := F) (U := U) i d q1 q2 q3 g O ∗ (((Memref.whole main_v19_scv : Memref sig .scVector .hbm S1032 .i32)).view.loc (thr i d) ↦{qi} h)
          ∗ (((Memref.whole main_v20_scv : Memref sig .scVector .hbm S16384 .f32)).view.loc (thr i d) ↦[taskSet (task i)]{fullShare} outBuf (((Memref.whole main_v17_scv : Memref sig .scVector .hbm S2550x8x128 .f32)).view.read (Elt F) g) (((Memref.whole main_v19_scv : Memref sig .scVector .hbm S1032 .i32)).view.read (Elt F) h))) := by
  have ht := task_lt i
  rw [cc1__segmean_body_eq_skeleton]
  unfold cc1__segmean_body_skel
  rw [k1_part87_eq_skeleton]
  unfold k1_part87_skel
  simp only [Prog.lift, Prog.bind_op, Prog.bind_ret, Prog.pure_eq_ret, Prog.bind_assoc]
  unfold Own
  iintro ⟨#Hmw, ⟨HB0, HB1, HG3, HBC, Hs0, Hs1, Hs3, Hs5, ⟨%w0, HT⟩, ⟨%fr, HR⟩, ⟨%f5, HS⟩, HO⟩, HI, HOv⟩
  iapply (wp_sync (U := U) i d cc1_scoped0.sem (((Memref.whole main_v19_scv : Memref sig .scVector .hbm S1032 .i32)).slice (Rect.unit (s := S1032) (k1_off1 i) S40.size (k1_off1_inb i)) (fun _ => rfl)) (((Memref.whole cc1_scratch0 : Memref sig .scVector .vmem S48 .i32)).slice (Rect.unit (s := S48) ![0] S40.size inb_S48_S40_0) (fun _ => rfl)) qi Finset.univ (Finset.subset_univ _) Finset.univ (Finset.subset_univ _) h f5 O
    (View.amount_pos _ (.dma cc1_scoped0.sem) (show 0 < S40.numel by decide))) $$ [HI HS Hs0 HO]
  · isplitl [HI]; · iexact HI
    isplitl [HS]; · iexact HS
    isplitl [Hs0]; · iexact Hs0
    isplitl [HO]; · iexact HO
    iexact Hmw
  iintro ⟨HI, HS, Hs0, HO⟩
  have hspl : ∀ j, j < 40 → spl i d ((((Memref.whole cc1_scratch0 : Memref sig .scVector .vmem S48 .i32)).slice (Rect.unit (s := S48) ![0] S40.size inb_S48_S40_0) (fun _ => rfl)).view.write (Elt F) f5 ((((Memref.whole main_v19_scv : Memref sig .scVector .hbm S1032 .i32)).slice (Rect.unit (s := S1032) (k1_off1 i) S40.size (k1_off1_inb i)) (fun _ => rfl)).view.read (Elt F) h) Finset.univ) j
      = word (((Memref.whole main_v19_scv : Memref sig .scVector .hbm S1032 .i32)).view.read (Elt F) h) (32 * task i + j) := by
    intro j hj
    have ho : k1_off1 i 0 = 32 * task i := by rw [off1_eq]; rfl
    unfold spl
    rw [show (ix1 (⟨j % 48, Nat.mod_lt _ (by decide)⟩ : Fin 48) : S48.Idx) = (Rect.unit (s := S48) ![0] S40.size inb_S48_S40_0).emb (ix1 (⟨j % 40, Nat.mod_lt _ (by decide)⟩ : Fin 40)) from
        (Rect.emb_eq_of_coords _ _ _ fun a => by fin_cases a; show j % 48 = 0 + 1 * (j % 40); omega).symm]
    refine (View.read_slice_write_emb (v := ((Memref.whole cc1_scratch0 : Memref sig .scVector .vmem S48 .i32)).view) (Rect.unit (s := S48) ![0] S40.size inb_S48_S40_0) f5 _ (Finset.mem_univ _)).trans ?_
    show ((Memref.whole main_v19_scv : Memref sig .scVector .hbm S1032 .i32)).view.read (Elt F) h _ = ((Memref.whole main_v19_scv : Memref sig .scVector .hbm S1032 .i32)).view.read (Elt F) h _
    congr 1
    funext a
    apply Fin.ext
    fin_cases a
    show k1_off1 i 0 + 1 * (j % 40) = (32 * task i + j) % 1032
    omega
  have hsp' : ∀ j, j < 32 → (spl i d _ j).toNat ≤ (spl i d _ (j + 1)).toNat ∧ (spl i d _ (j + 1)).toNat ≤ 320000 := fun j hj => by
    have := hsp (32 * task i + j) (by omega)
    rw [Nat.add_assoc, ← hspl j (by omega), ← hspl (j + 1) (by omega)] at this
    exact this
  iapply (wp_spl0 (U := U) i d fullShare _ _) $$ HS
  iintro %v %hv HS
  iapply (tw_assume (U := U) i d (chk1_of _ (show (extractAt ![0] (k1_pay810 (F := F) v) inpos_S1_p0).toNat ≤ 320000 by
    rw [hv]; exact (hsp' 0 (by decide)).1.trans (hsp' 0 (by decide)).2)))
  beta_reduce
  unfold Quiet
  icases HB0 with ⟨HG1, ⟨%fb, HB⟩, Hv⟩
  iapply (wp_issue (U := U) i d cc1_scratch4.sem (Memref.whole cc1_scratch1 : Memref sig .scVector .vmem S4x8x128 .f32) q1 g fb _ _ _ _ (off2_eq _)) $$ [HG1 HB Hv]
  · isplitl [HG1]; · iexact HG1
    isplitl [HB] <;> iassumption
  iintro HP
  iapply (tw_bindk (U := U) i d (wp_trips (U := U) i d q1 q2 q3 fullShare g _ O _ (fun l => iota_single_apply _ _ _ _ _ l) hsp')) $$ [HP HB1 HG3 HBC Hs1 Hs3 HT HR HS HO]
  · isplitr; · iexact Hmw
    unfold TripInv
    rw [Next, if_pos (by decide)]
    unfold Quiet
    isplitl [HS]; · iexact HS
    isplitl [HP]
    · rw [hv]; iexact HP
    isplitl [HB1]; · iexact HB1
    isplitl [HG3]; · iexact HG3
    isplitl [HBC]; · iexact HBC
    isplitl [Hs1]; · iexact Hs1
    isplitl [Hs3]; · iexact Hs3
    isplitl [HT]
    · unfold Tmp
      iexists _, w0
      isplitr
      · ipureintro; rfl
      · iexact HT
    isplitl [HR]
    · unfold Res
      iexists fr
      isplitr
      · ipureintro; intro j hj; exact absurd hj (Nat.not_lt_zero _)
      · iexact HR
    iexact HO
  iintro H
  unfold TripInv
  rw [Next, if_neg (by decide)]
  unfold Quiet
  unfold Res
  icases H with ⟨HS, HB0, HB1, HG3, HBC, Hs1, Hs3, HT, ⟨%r, %hr, HR⟩, HO⟩
  iapply (wp_sync (U := U) i d cc1_scoped5.sem (((Memref.whole cc1_scratch7 : Memref sig .scVector .vmem S512 .f32)).slice (Rect.unit (s := S512) ![0] S512.size inb_S512_S512_0) (fun _ => rfl)) (((Memref.whole main_v20_scv : Memref sig .scVector .hbm S16384 .f32)).slice (Rect.unit (s := S16384) (k1_off589 i) S512.size (k1_off589_inb i)) (fun _ => rfl)) fullShare Finset.univ (Finset.subset_univ _) (taskSet (task i)) (by rw [out_set]) r fo O
    (View.amount_pos _ (.dma cc1_scoped5.sem) (show 0 < S512.numel by decide))) $$ [HR HOv Hs5 HO]
  · isplitl [HR]; · iexact HR
    isplitl [HOv]; · iexact HOv
    isplitl [Hs5]; · iexact Hs5
    isplitl [HO]; · iexact HO
    iexact Hmw
  iintro ⟨HR, HOv, Hs5, HO⟩
  have hout : ∀ y ∈ taskSet (task i), ((((Memref.whole main_v20_scv : Memref sig .scVector .hbm S16384 .f32)).slice (Rect.unit (s := S16384) (k1_off589 i) S512.size (k1_off589_inb i)) (fun _ => rfl)).view.write (Elt F) fo ((((Memref.whole cc1_scratch7 : Memref sig .scVector .vmem S512 .f32)).slice (Rect.unit (s := S512) ![0] S512.size inb_S512_S512_0) (fun _ => rfl)).view.read (Elt F) r) Finset.univ) y
      = outBuf (((Memref.whole main_v17_scv : Memref sig .scVector .hbm S2550x8x128 .f32)).view.read (Elt F) g) (((Memref.whole main_v19_scv : Memref sig .scVector .hbm S1032 .i32)).view.read (Elt F) h) y := by
    intro y hy
    have hy' : (y 0).val / 512 = task i := (Finset.mem_filter.1 hy).2
    have ho : k1_off589 i 0 = 512 * task i := by rw [off589_eq]; rfl
    have hye : y = (Rect.unit (s := S16384) (k1_off589 i) S512.size (k1_off589_inb i)).emb (ix1 (⟨(y 0).val % 512, Nat.mod_lt _ (by decide)⟩ : Fin 512)) :=
      (Rect.emb_eq_of_coords _ _ _ fun a => by fin_cases a; show (y 0).val = k1_off589 i 0 + 1 * ((y 0).val % 512); omega).symm
    have h1 := View.read_slice_write_emb (v := ((Memref.whole main_v20_scv : Memref sig .scVector .hbm S16384 .f32)).view) (Rect.unit (s := S16384) (k1_off589 i) S512.size (k1_off589_inb i)) fo ((((Memref.whole cc1_scratch7 : Memref sig .scVector .vmem S512 .f32)).slice (Rect.unit (s := S512) ![0] S512.size inb_S512_S512_0) (fun _ => rfl)).view.read (Elt F) r) (Finset.mem_univ (ix1 (⟨(y 0).val % 512, Nat.mod_lt _ (by decide)⟩ : Fin 512)))
    rw [← hye] at h1
    refine Eq.trans h1 ?_
    have h2 := hr ((y 0).val % 512 / 16) (by omega) ((y 0).val % 16) (by omega)
    rw [hspl _ (by omega), hspl _ (by omega)] at h2
    unfold outBuf
    rw [show (y 0).val / 16 = 32 * task i + (y 0).val % 512 / 16 by omega, Nat.add_assoc]
    refine Eq.trans ?_ (h2.trans ?_)
    · show ((Memref.whole cc1_scratch7 : Memref sig .scVector .vmem S512 .f32)).view.read (Elt F) r _ = ((Memref.whole cc1_scratch7 : Memref sig .scVector .vmem S512 .f32)).view.read (Elt F) r _
      congr 1
      funext a
      apply Fin.ext
      fin_cases a
      show 0 + 1 * ((y 0).val % 512) = (16 * ((y 0).val % 512 / 16) + (y 0).val % 16) % 512
      omega
    · congr 2
      apply Fin.ext
      show (y 0).val % 16 % 16 = (y 0).val % 16
      omega
  iapply (tw_done (U := U) i d _ _)
  beta_reduce
  isplitl [HB0 HB1 HG3 HBC Hs0 Hs1 Hs3 Hs5 HT HR HS HO]
  · isplitl [HB0]; · iexact HB0
    isplitl [HB1]; · iexact HB1
    isplitl [HG3]; · iexact HG3
    isplitl [HBC]; · iexact HBC
    isplitl [Hs0]; · iexact Hs0
    isplitl [Hs1]; · iexact Hs1
    isplitl [Hs3]; · iexact Hs3
    isplitl [Hs5]; · iexact Hs5
    isplitl [HT]
    · unfold Tmp
      icases HT with ⟨%_, %w1, -, HT⟩
      iexists w1
      iexact HT
    isplitl [HR]; · iexists _; iexact HR
    isplitl [HS]; · iexists _; iexact HS
    iexact HO
  isplitl [HI]; · iexact HI
  iapply (Entails.of_eq (pointsTo_congr hout)) $$ HOv

end Wp

end Cert.KernelIdeal.Seg
-- ==== Proof.Ideal.Launch.lean ====
module

public import proofs.«01_k».proof.Proof.Ideal.Whole
public import Idealize.ShloMosaic.Lib.SparseCore.Quiescent
public import Idealize.ShloMosaic.Lib.StableHlo.Run
public import Idealize.ShloMosaic.Lib.Pipeline.Kit
public import proofs.«01_k».proof.Proof.Gen.KernelIdeal.Launch

/-!
  The segment call as the launch sees it: what its handshakes carry, its tasks' obligation, and how a SparseCore's
  share is dealt to its sixteen tasks.
-/

@[expose] public section

set_option maxRecDepth 16384

noncomputable section

namespace Cert.KernelIdeal.Seg

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program below the segment call. -/
abbrev ΛP : Labels := Pipeline.Sig Λ₀ (Fin 1) fun p => (pcfgs (F := F) p).Adm
/-- The segment call's configuration. -/
abbrev K : SparseCore.Cfg τ sig (ΛP (F := F)) 1 := Cert.KernelIdeal.sc (F := F)
/-- The call runs on two SparseCores. -/
theorem nCore_zero : (K (F := F)).nCore 0 = 2 := rfl
/-- Each SparseCore runs sixteen tasks. -/
theorem nSub_zero : (K (F := F)).nSub 0 = 16 := rfl
/-- The definitions below the segment call. -/
abbrev D [FloatOps F] : Defs nD τ sig (Elt F) (ΛP (F := F)) := Pipeline.defs pcfgs defs₀
/-- No variant is used. -/
abbrev 𝒱₀ : Variants := Variants.none
/-- No variant is used, lifted. -/
abbrev 𝒱 : Variants := 𝒱₀.lift
/-- The tasks' bound. -/
abbrev v₀ : 𝒱.V := Sum.inl none

/-- The semaphores of the handshakes are apart, and none is a scoped one. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipeline's rounds. -/
abbrev UQ : Type := URounds (GSem nD τ sig) Unit
/-- The launch's algebra: the handshakes' rounds, the pipeline's, the transfers' counters. -/
abbrev UU : Type := UH × (UQ × Counters)

local notation "𝕄" => MT nD τ sig (HIx 1) (Elt F) ℕ UU ℕ

/-- The handshakes' rounds within the whole algebra. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipeline's rounds within the whole algebra. -/
def EQ : Emb UQ (MT nD τ sig (HIx 1) (Elt F) ℕ UU ℕ) :=
  ((Emb.inl : Emb UQ (UQ × Counters)).trans (Emb.inr : Emb (UQ × Counters) UU)).trans
    (uEmb (nD := nD) (sig := sig) (Ix := HIx 1) (Val := Elt F) (Name := ℕ) (U := UU) (Lvl := ℕ)).toEmb

/-- The handshake's state is part of the ghost state. -/
instance EH_landsIn : (EH : Emb UH 𝕄).LandsIn (upEmb : UEmb _ 𝕄) := by unfold EH; infer_instance
/-- The calls' state is part of the ghost state. -/
instance EQ_landsIn : (EQ : Emb UQ 𝕄).LandsIn (upEmb : UEmb _ 𝕄) := by unfold EQ; infer_instance

/-- The launch element splits into the handshakes' part and the pipeline's. -/
theorem ownU_parts (a : UH) (b : UQ) : (ownU ((a, (b, 1)) : UU) : sProp 𝕄) ⊢ iprop(BI.own (EH a) ∗ BI.own (EQ b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The gated rows' array, the splits' and the results', as locations of device `d`. -/
abbrev gLoc (d : Dev nD) : Loc nD τ sig := (SparseCore.T d).loc main_v17
/-- Where the splits lie. -/
abbrev hLoc (d : Dev nD) : Loc nD τ sig := (SparseCore.T d).loc main_v19
/-- Where the result lies. -/
abbrev oLoc (d : Dev nD) : Loc nD τ sig := (SparseCore.T d).loc main_v20

variable [FloatOps F]

variable (gB : (d : Dev nD) → Buf (Elt F) (gLoc d)) (hB : (d : Dev nD) → Buf (Elt F) (hLoc d)) (oB : (d : Dev nD) → Buf (Elt F) (oLoc d))

/-- The results after the call. -/
abbrev rB (d : Dev nD) : Buf (Elt F) (oLoc d) := outBuf (F := F) (gB d) (hB d)

/-- A SparseCore's read share of an array. -/
abbrev coreShare (c : Fin 2) : PosShare TreeShare := Transfers.shareTok fullShare 2 c
/-- A task's read share of an array. -/
abbrev taskShare (c : Fin 2) (i : Fin 16) : PosShare TreeShare := Transfers.shareTok (coreShare c) 16 i
/-- The number of task `i` of SparseCore `c`. -/
abbrev taskNo (c : Fin 2) (i : Fin 16) : Nat := 2 * i.val + c.val
/-- The elements of the results that a SparseCore's tasks write. -/
def coreSet (c : Fin 2) : Finset S16384.Idx := Finset.univ.biUnion fun i : Fin 16 => taskSet (taskNo c i)

/-- A SparseCore's part of the call, with the results at `o`. -/
def corePart (o : (d : Dev nD) → Buf (Elt F) (oLoc d)) (d : Dev nD) (c : Fin 2) : sProp 𝕄 :=
  iprop((gLoc d ↦{coreShare c} gB d) ∗ (hLoc d ↦{coreShare c} hB d) ∗ (oLoc d ↦[coreSet c]{fullShare} o d))
/-- A task's part of the call, with the results at `o`. -/
def taskPart (o : (d : Dev nD) → Buf (Elt F) (oLoc d)) (d : Dev nD) (c : Fin 2) (i : Fin 16) : sProp 𝕄 :=
  iprop((gLoc d ↦{taskShare c i} gB d) ∗ (hLoc d ↦{taskShare c i} hB d) ∗ (oLoc d ↦[taskSet (taskNo c i)]{fullShare} o d))

/-- A core's part can be stored. -/
instance corePart_storable (o : (d : Dev nD) → Buf (Elt F) (oLoc d)) (d : Dev nD) (c : Fin 2) : BI.Storable (upEmb : UEmb _ 𝕄) (corePart gB hB o d c) := by
  unfold corePart; infer_instance
/-- A tile's part can be stored. -/
instance taskPart_storable (o : (d : Dev nD) → Buf (Elt F) (oLoc d)) (d : Dev nD) (c : Fin 2) (i : Fin 16) : BI.Storable (upEmb : UEmb _ 𝕄) (taskPart gB hB o d c i) := by
  unfold taskPart; infer_instance

/-- What the handshakes carry: each SparseCore its read shares and its part of the results, each task likewise. -/
def P : (K (F := F)).Pay (nD := nD) (Val := Elt F) (Name := ℕ) (U := UU) where
  st := fun q d c => match q with | 0 => corePart gB hB oB d (Fin.cast nCore_zero c)
  dn := fun q d c => match q with | 0 => corePart gB hB (rB gB hB) d (Fin.cast nCore_zero c)
  go := fun q d c i => match q with | 0 => taskPart gB hB oB d (Fin.cast nCore_zero c) (Fin.cast nSub_zero i)
  td := fun q d c i => match q with | 0 => taskPart gB hB (rB gB hB) d (Fin.cast nCore_zero c) (Fin.cast nSub_zero i)
  x := fun _ _ => iprop(emp)

/-- What the call passes can be stored. -/
instance P_storable : (P gB hB oB).IsStorable where
  st q d c := match q with | 0 => (inferInstance : BI.Storable (upEmb : UEmb _ 𝕄) (corePart gB hB oB d (Fin.cast nCore_zero c)))
  dn q d c := match q with | 0 => (inferInstance : BI.Storable (upEmb : UEmb _ 𝕄) (corePart gB hB (rB gB hB) d (Fin.cast nCore_zero c)))
  go q d c i := match q with | 0 => (inferInstance : BI.Storable (upEmb : UEmb _ 𝕄) (taskPart gB hB oB d (Fin.cast nCore_zero c) (Fin.cast nSub_zero i)))
  td q d c i := match q with | 0 => (inferInstance : BI.Storable (upEmb : UEmb _ 𝕄) (taskPart gB hB (rB gB hB) d (Fin.cast nCore_zero c) (Fin.cast nSub_zero i)))

/-! ## A task's own semaphores and buffers -/

section Own

variable (d : Dev nD) (c : Fin τ.nSC) (i : Fin τ.nSub)

/-- The task's own semaphores the body uses, and the rest of them. -/
theorem ownSems0_V : (ownSems0 (V d c i) : sProp 𝕄)
    = iprop(semVal (V d c i, .dma cc1_scratch4.sem) 0 ∗ semVal (V d c i, .dma cc1_scratch5.sem) 0 ∗ semVal (V d c i, .dma cc1_scoped0.sem) 0
        ∗ semVal (V d c i, .dma cc1_scoped1.sem) 0 ∗ semVal (V d c i, .dma cc1_scoped3.sem) 0 ∗ semVal (V d c i, .dma cc1_scoped5.sem) 0
        ∗ bigSep (((((((ownCells (V d c i)).erase (V d c i, .dma cc1_scratch4.sem)).erase (V d c i, .dma cc1_scratch5.sem)).erase (V d c i, .dma cc1_scoped0.sem)).erase
            (V d c i, .dma cc1_scoped1.sem)).erase (V d c i, .dma cc1_scoped3.sem)).erase (V d c i, .dma cc1_scoped5.sem)) fun g => semVal g 0) := by
  have hm : ∀ s : DmaSem sig, (SemLoc.dma s : SemLoc sig).isScoped .scVector = true → ((V d c i, SemLoc.dma s) : GSem nD τ sig) ∈ ownCells (V d c i) :=
    fun s h => (mem_ownCells (g := (V d c i, SemLoc.dma s))).mpr ⟨rfl, h⟩
  have hn : ∀ s t : DmaSem sig, s ≠ t → ((V d c i, SemLoc.dma s) : GSem nD τ sig) ≠ (V d c i, SemLoc.dma t) :=
    fun s t h e => h (SemLoc.dma.inj (Prod.mk.inj e).2)
  have h4 := hm cc1_scratch4.sem (by decide)
  have h5 := Finset.mem_erase.mpr ⟨hn cc1_scratch5.sem cc1_scratch4.sem (by decide), hm cc1_scratch5.sem (by decide)⟩
  have h0 := Finset.mem_erase.mpr ⟨hn cc1_scoped0.sem cc1_scratch5.sem (by decide), Finset.mem_erase.mpr ⟨hn cc1_scoped0.sem cc1_scratch4.sem (by decide), hm cc1_scoped0.sem (by decide)⟩⟩
  have h1 := Finset.mem_erase.mpr ⟨hn cc1_scoped1.sem cc1_scoped0.sem (by decide), Finset.mem_erase.mpr ⟨hn cc1_scoped1.sem cc1_scratch5.sem (by decide), Finset.mem_erase.mpr ⟨hn cc1_scoped1.sem cc1_scratch4.sem (by decide), hm cc1_scoped1.sem (by decide)⟩⟩⟩
  have h3 := Finset.mem_erase.mpr ⟨hn cc1_scoped3.sem cc1_scoped1.sem (by decide), Finset.mem_erase.mpr ⟨hn cc1_scoped3.sem cc1_scoped0.sem (by decide), Finset.mem_erase.mpr ⟨hn cc1_scoped3.sem cc1_scratch5.sem (by decide), Finset.mem_erase.mpr ⟨hn cc1_scoped3.sem cc1_scratch4.sem (by decide), hm cc1_scoped3.sem (by decide)⟩⟩⟩⟩
  have h6 := Finset.mem_erase.mpr ⟨hn cc1_scoped5.sem cc1_scoped3.sem (by decide), Finset.mem_erase.mpr ⟨hn cc1_scoped5.sem cc1_scoped1.sem (by decide), Finset.mem_erase.mpr ⟨hn cc1_scoped5.sem cc1_scoped0.sem (by decide), Finset.mem_erase.mpr ⟨hn cc1_scoped5.sem cc1_scratch5.sem (by decide), Finset.mem_erase.mpr ⟨hn cc1_scoped5.sem cc1_scratch4.sem (by decide), hm cc1_scoped5.sem (by decide)⟩⟩⟩⟩⟩
  unfold SparseCore.Cfg.ownSems0
  rw [SparseCore.bigSep_erase' h4, SparseCore.bigSep_erase' h5, SparseCore.bigSep_erase' h0, SparseCore.bigSep_erase' h1, SparseCore.bigSep_erase' h3,
    SparseCore.bigSep_erase' h6]

/-- A buffer of the task's own, held at something. -/
abbrev someBuf (r : Ref sig .scVector) : sProp 𝕄 := iprop(∃ f, ((d, (Proc.scVector c i).devRef r) : Loc nD τ sig) ↦{fullShare} f)

/-- The task's own buffers the body uses, and the rest of them. -/
theorem ownBufs_V : (ownBufs (V d c i) : sProp 𝕄)
    = iprop(someBuf (F := F) d c i cc1_scratch0 ∗ someBuf (F := F) d c i cc1_scratch1 ∗ someBuf (F := F) d c i cc1_scratch2 ∗ someBuf (F := F) d c i cc1_scratch3
        ∗ someBuf (F := F) d c i cc1_scratch6 ∗ someBuf (F := F) d c i cc1_scratch7
        ∗ bigSep (((((((ownRefs (Proc.scVector c i)).erase ((Proc.scVector c i).devRef cc1_scratch0)).erase ((Proc.scVector c i).devRef cc1_scratch1)).erase
            ((Proc.scVector c i).devRef cc1_scratch2)).erase ((Proc.scVector c i).devRef cc1_scratch3)).erase ((Proc.scVector c i).devRef cc1_scratch6)).erase
            ((Proc.scVector c i).devRef cc1_scratch7)) fun b => iprop(∃ f, ((d, b) : Loc nD τ sig) ↦{fullShare} f)) := by
  have hn : ∀ r s : Ref sig .scVector, r ≠ s → (Proc.scVector c i).devRef r ≠ (Proc.scVector c i).devRef s := fun r s h e => h (Proc.devRef_injective _ e)
  have hm : ∀ r : Ref sig .scVector, ((Proc.scVector c i).devRef r).owner = .proc (Proc.scVector c i) → (Proc.scVector c i).devRef r ∈ ownRefs (Proc.scVector c i) :=
    fun r h => SparseCore.Cfg.mem_ownRefs_of_owner (p := Proc.scVector c i) (b := (Proc.scVector c i).devRef r) h
  have h0 := hm cc1_scratch0 rfl
  have h1 := Finset.mem_erase.mpr ⟨hn cc1_scratch1 cc1_scratch0 (by decide), hm cc1_scratch1 rfl⟩
  have h2 := Finset.mem_erase.mpr ⟨hn cc1_scratch2 cc1_scratch1 (by decide), Finset.mem_erase.mpr ⟨hn cc1_scratch2 cc1_scratch0 (by decide), hm cc1_scratch2 rfl⟩⟩
  have h3 := Finset.mem_erase.mpr ⟨hn cc1_scratch3 cc1_scratch2 (by decide), Finset.mem_erase.mpr ⟨hn cc1_scratch3 cc1_scratch1 (by decide), Finset.mem_erase.mpr ⟨hn cc1_scratch3 cc1_scratch0 (by decide), hm cc1_scratch3 rfl⟩⟩⟩
  have h6 := Finset.mem_erase.mpr ⟨hn cc1_scratch6 cc1_scratch3 (by decide), Finset.mem_erase.mpr ⟨hn cc1_scratch6 cc1_scratch2 (by decide), Finset.mem_erase.mpr ⟨hn cc1_scratch6 cc1_scratch1 (by decide), Finset.mem_erase.mpr ⟨hn cc1_scratch6 cc1_scratch0 (by decide), hm cc1_scratch6 rfl⟩⟩⟩⟩
  have h7 := Finset.mem_erase.mpr ⟨hn cc1_scratch7 cc1_scratch6 (by decide), Finset.mem_erase.mpr ⟨hn cc1_scratch7 cc1_scratch3 (by decide), Finset.mem_erase.mpr ⟨hn cc1_scratch7 cc1_scratch2 (by decide), Finset.mem_erase.mpr ⟨hn cc1_scratch7 cc1_scratch1 (by decide), Finset.mem_erase.mpr ⟨hn cc1_scratch7 cc1_scratch0 (by decide), hm cc1_scratch7 rfl⟩⟩⟩⟩⟩
  unfold SparseCore.Cfg.ownBufs
  refine (SparseCore.bigSep_erase' h0).trans ?_
  rw [SparseCore.bigSep_erase' h1, SparseCore.bigSep_erase' h2, SparseCore.bigSep_erase' h3, SparseCore.bigSep_erase' h6, SparseCore.bigSep_erase' h7]

end Own

/-! ## The task's obligation -/

/-- A task's read share is three: two for its batches, one for its pieces. -/
theorem share_three (q : PosShare TreeShare) {ℓ : Loc nD τ sig} (f : Buf (Elt F) ℓ) :
    (ℓ ↦{q} f : sProp 𝕄) ⊣⊢ iprop((ℓ ↦{Transfers.shareDrop q 2} f) ∗ (ℓ ↦{Transfers.shareTok q 2 0} f) ∗ (ℓ ↦{Transfers.shareTok q 2 1} f)) := by
  refine (Transfers.pointsTo_toks q 2 (f := f) (S := Finset.univ)).trans ?_
  rw [bigSep_univ_two]

/-- The hypothesis of the splits: in order, and none past the rows. -/
def Sorted (h : S1032.Idx → BitVec 32) : Prop :=
  ∀ j, j < 1024 → (word h j).toNat ≤ (word h (j + 1)).toNat ∧ (word h (j + 1)).toNat ≤ 320000

/-- A task of the segment call, from its part of the arrays and its own buffers and semaphores. -/
theorem tile_body (hs : ∀ d, Sorted (hB d)) (d : Dev nD) (i : grid1.Coords) (O : CellTallies nD τ sig (HIx 1)) (W : Waits sig (HIx 1)) (hO : ∀ g, O g none = 0)
    (c : Fin 2) (s : Fin 16) (hc : c.val = (i 0).val) (hi : s.val = (i 1).val) :
    iprop(levAts (K (F := F)).L (K (F := F)).lev ∗ emp ∗ taskPart gB hB oB d c s ∗ scopedBufs (thr i d) ∗ scopedSems0 (thr i d) ∗ owes (thr i d) O W)
      ⊢ tw (F := F) (U := UU) i d (cc1__segmean_body i (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5)
          fun _ => iprop(taskPart gB hB (rB gB hB) d c s ∗ scopedBufs (thr i d) ∗ scopedSems0 (thr i d)
            ∗ ∃ W', ⌜∀ p ∈ W', p ∈ W ∨ p.2 = none ∨ p.2 = some (0 : Fin 1)⌝ ∗ owes (thr i d) O W') := by
  have ht : taskNo c s = task i := by unfold task; rw [← hc, ← hi]
  rw [(K (F := F)).scopedBufs_V scFacts d ((i 0).castLE hcore1) ((i 1).castLE hsub1), SparseCore.Cfg.scopedSems0_V (Val := Elt F) d ((i 0).castLE hcore1) ((i 1).castLE hsub1), ownSems0_V, ownBufs_V]
  unfold taskPart someBuf
  rw [ht]
  iintro ⟨#Hlv, -, ⟨Hg, Hh, Ho⟩, ⟨H0, H1, H2, H3, H6, H7, Hbufs⟩, ⟨S4, S5, S0, S1, S3, S6, Hsems⟩, HO⟩
  ihave Hmw := (show levAts (K (F := F)).L (K (F := F)).lev ⊢ Transfers.MayWaits (thr i d) (default : HIx 1) O from
    (K (F := F)).mayWaits_none (thr := thr i d) hO) $$ Hlv
  ihave Hg := (share_three (taskShare c s) (gB d)).1 $$ Hg
  icases Hg with ⟨G3, G1, G2⟩
  iapply (wp_wand_r frame _ Set.univ)
  isplitl [Hmw G1 G2 G3 Hh Ho H0 H1 H2 H3 H6 H7 S4 S5 S0 S1 S3 S6 HO]
  · iapply (wp_segmean (U := UU) i d (Transfers.shareTok (taskShare c s) 2 0) (Transfers.shareTok (taskShare c s) 2 1) (Transfers.shareDrop (taskShare c s) 2) (taskShare c s)
      (gB d) (hB d) (oB d) O (hs d))
    unfold Own Quiet
    isplitl [Hmw]; · iexact Hmw
    isplitr [Hh Ho]
    · isplitl [G1 H1 S4]
      · isplitl [G1]; · iexact G1
        isplitl [H1]; · iexact H1
        iexact S4
      isplitl [G2 H2 S5]
      · isplitl [G2]; · iexact G2
        isplitl [H2]; · iexact H2
        iexact S5
      isplitl [G3]; · iexact G3
      isplitl [H3]; · iexact H3
      isplitl [S0]; · iexact S0
      isplitl [S1]; · iexact S1
      isplitl [S3]; · iexact S3
      isplitl [S6]; · iexact S6
      isplitl [H6]; · iexact H6
      isplitl [H7]; · iexact H7
      isplitl [H0]; · iexact H0
      iexists W; iexact HO
    isplitl [Hh]; · iexact Hh
    iexact Ho
  iintro %_ Hpost
  unfold Own Quiet
  icases Hpost with ⟨⟨⟨G1, H1, S4⟩, ⟨G2, H2, S5⟩, G3, H3, S0, S1, S3, S6, H6, H7, H0, ⟨%W', HO⟩⟩, Hh, Ho⟩
  isplitl [G1 G2 G3 Hh Ho]
  · isplitl [G1 G2 G3]
    · iapply (share_three (taskShare c s) (gB d)).2
      isplitl [G3]; · iexact G3
      isplitl [G1]; · iexact G1
      iexact G2
    isplitl [Hh]; · iexact Hh
    iexact Ho
  isplitl [H0 H1 H2 H3 H6 H7 Hbufs]
  · isplitl [H0]; · iexact H0
    isplitl [H1]; · iexact H1
    isplitl [H2]; · iexact H2
    isplitl [H3]; · iexact H3
    isplitl [H6]; · iexact H6
    isplitl [H7]; · iexact H7
    iexact Hbufs
  isplitl [S0 S1 S3 S4 S5 S6 Hsems]
  · isplitl [S4]; · iexact S4
    isplitl [S5]; · iexact S5
    isplitl [S0]; · iexact S0
    isplitl [S1]; · iexact S1
    isplitl [S3]; · iexact S3
    isplitl [S6]; · iexact S6
    iexact Hsems
  iexists W'; isplitr
  swap; · iexact HO
  ipureintro; intro p _
  rcases p.2 with _ | q
  · exact .inr (.inl rfl)
  · exact .inr (.inr (congrArg some (Subsingleton.elim q 0)))

/-- A task's coordinates. -/
def coordsV (c : Fin (grid1.bound 0)) (s : Fin (grid1.bound 1)) : grid1.Coords :=
  fun | 0 => c | 1 => s | ⟨_ + 2, h⟩ => absurd h (Nat.not_lt.2 (Nat.le_add_left _ _))

/-- What a vector subcore runs at the call. -/
theorem defs₀_vector (c : Fin τ.nSC) (s : Fin τ.nSub) :
    defs₀ (F := F) (.scVector c s) 1 ()
      = SparseCore.onTile hcore1 hsub1 (fun c s => cc1__segmean_body (coordsV c s) (Memref.whole main_v17_scv) (Memref.isWhole_whole _) (Memref.whole main_v19_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 (Memref.whole cc1_scratch6) (Memref.isWhole_whole _) (Memref.whole cc1_scratch7) (Memref.isWhole_whole _) cc1_scoped0 cc1_scoped1 cc1_scoped2 cc1_scoped3 cc1_scoped4 cc1_scoped5) ⟨⟩ c s := rfl

/-- Every task of the segment call meets its obligation. -/
theorem tileObl (hs : ∀ d, Sorted (hB d)) : (K (F := F)).TileObl (D (F := F)) 𝒱 (P gB hB oB) v₀ 0 := by
  intro d c i O W hO _ _
  simp only [show (P gB hB oB).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body gB hB oB hs d (coordsV ⟨_, hci.1⟩ ⟨_, hci.2⟩) O W hO _ _ rfl rfl

/-! ## The parts split and join -/

/-- Different tasks write different elements. -/
theorem taskSet_disjoint {s t : Nat} (h : s ≠ t) : Disjoint (taskSet s) (taskSet t) := by
  rw [Finset.disjoint_left]
  intro y hy hy'
  exact h ((Finset.mem_filter.mp hy).2.symm.trans (Finset.mem_filter.mp hy').2)

/-- The tasks of a SparseCore write different elements. -/
theorem tasks_disjoint (c : Fin 2) : ∀ i ∈ (Finset.univ : Finset (Fin 16)), ∀ j ∈ (Finset.univ : Finset (Fin 16)), i ≠ j →
    Disjoint (taskSet (taskNo c i)) (taskSet (taskNo c j)) :=
  fun i _ j _ h => taskSet_disjoint fun e => h (Fin.ext (by unfold taskNo at e; omega))

/-- The SparseCores write different elements. -/
theorem cores_disjoint : ∀ i ∈ (Finset.univ : Finset (Fin 2)), ∀ j ∈ (Finset.univ : Finset (Fin 2)), i ≠ j → Disjoint (coreSet i) (coreSet j) := by
  intro c _ c' _ h
  unfold coreSet
  rw [Finset.disjoint_biUnion_left]; intro i _
  rw [Finset.disjoint_biUnion_right]; intro j _
  exact taskSet_disjoint fun e => h (Fin.ext (by have := c.isLt; have := c'.isLt; unfold taskNo at e; omega))

/-- The SparseCores together write every element. -/
theorem cores_cover : (Finset.univ : Finset (Fin 2)).biUnion coreSet = Finset.univ := by
  ext y
  have hy : (y 0).val < 16384 := (y 0).isLt
  simp only [coreSet, Finset.mem_biUnion, Finset.mem_univ, true_and, iff_true, taskSet, Finset.mem_filter]
  exact ⟨⟨(y 0).val / 512 % 2, by omega⟩, ⟨(y 0).val / 512 / 2, by omega⟩, by unfold taskNo; dsimp only; omega⟩

/-- A conjunction over the tasks, over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- A conjunction over the SparseCores, over two. -/
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- The tasks' parts of the results are the SparseCore's. -/
theorem out_tasks (d : Dev nD) (c : Fin 2) (f : Buf (Elt F) (oLoc d)) :
    (oLoc d ↦[coreSet c]{fullShare} f : sProp 𝕄) = bigSep Finset.univ fun i : Fin 16 => oLoc d ↦[taskSet (taskNo c i)]{fullShare} f := by
  rw [← pointsTo_biUnion Finset.univ (ℓ := oLoc d) (fun i : Fin 16 => taskSet (taskNo c i)) (tasks_disjoint c)]; rfl
/-- The SparseCores' parts of the results are the whole. -/
theorem out_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet cores_disjoint, cores_cover]

/-- A SparseCore's part is dealt to its tasks and gathered from them again. -/
theorem vecSplit : (K (F := F)).VecSplit' (P gB hB oB) 0 := by
  intro d c
  show corePart gB hB oB d (Fin.cast nCore_zero c) ⊢ |={Set.univ}=> iprop(
      (bigSep Finset.univ fun i : Fin ((K (F := F)).nSub 0) => taskPart gB hB oB d (Fin.cast nCore_zero c) (Fin.cast nSub_zero i))
      ∗ ((bigSep Finset.univ fun i : Fin ((K (F := F)).nSub 0) => taskPart gB hB (rB gB hB) d (Fin.cast nCore_zero c) (Fin.cast nSub_zero i))
          -∗ corePart gB hB (rB gB hB) d (Fin.cast nCore_zero c)))
  rw [bigSep_tasks (F := F) (fun i => taskPart gB hB oB d (Fin.cast nCore_zero c) i),
    bigSep_tasks (F := F) (fun i => taskPart gB hB (rB gB hB) d (Fin.cast nCore_zero c) i)]
  generalize Fin.cast nCore_zero c = c
  unfold taskPart corePart
  rw [bigSep_sep', bigSep_sep', bigSep_sep', bigSep_sep', out_tasks, out_tasks]
  iintro ⟨Hg, Hh, Ho⟩
  ihave Hg := (Transfers.pointsTo_toks (coreShare c) 16 (f := gB d) (S := Finset.univ)).1 $$ Hg
  ihave Hh := (Transfers.pointsTo_toks (coreShare c) 16 (f := hB d) (S := Finset.univ)).1 $$ Hh
  icases Hg with ⟨Hg0, Hg⟩
  icases Hh with ⟨Hh0, Hh⟩
  imodintro
  isplitl [Hg Hh Ho]
  · isplitl [Hg]; · iexact Hg
    isplitl [Hh]; · iexact Hh
    iexact Ho
  iintro ⟨Hg, Hh, Ho⟩
  isplitl [Hg0 Hg]
  · iapply (Transfers.pointsTo_toks (coreShare c) 16 (f := gB d) (S := Finset.univ)).2
    isplitl [Hg0]; · iexact Hg0
    iexact Hg
  isplitl [Hh0 Hh]
  · iapply (Transfers.pointsTo_toks (coreShare c) 16 (f := hB d) (S := Finset.univ)).2
    isplitl [Hh0]; · iexact Hh0
    iexact Hh
  iexact Ho

/-- What the call takes from the program, out of the three arrays whole, and what it gives back into them. -/
theorem call_parts (d : Dev nD) :
    iprop((gLoc d ↦{fullShare} gB d) ∗ (hLoc d ↦{fullShare} hB d) ∗ (oLoc d ↦{fullShare} oB d))
      ⊢ (iprop((bigSep Finset.univ fun c : Fin ((K (F := F)).nCore 0) => (P gB hB oB).st 0 d c)
          ∗ ((bigSep Finset.univ fun c : Fin ((K (F := F)).nCore 0) => (P gB hB oB).dn 0 d c)
              -∗ iprop((gLoc d ↦{fullShare} gB d) ∗ (hLoc d ↦{fullShare} hB d) ∗ (oLoc d ↦{fullShare} rB gB hB d)))) : sProp 𝕄) := by
  rw [show (bigSep Finset.univ fun c : Fin ((K (F := F)).nCore 0) => (P gB hB oB).st 0 d c) = bigSep Finset.univ fun c : Fin 2 => corePart gB hB oB d c from
      bigSep_cores (F := F) (fun c => corePart gB hB oB d c),
    show (bigSep Finset.univ fun c : Fin ((K (F := F)).nCore 0) => (P gB hB oB).dn 0 d c) = bigSep Finset.univ fun c : Fin 2 => corePart gB hB (rB gB hB) d c from
      bigSep_cores (F := F) (fun c => corePart gB hB (rB gB hB) d c)]
  unfold corePart
  rw [bigSep_sep', bigSep_sep', bigSep_sep', bigSep_sep', out_cores, out_cores]
  iintro ⟨Hg, Hh, Ho⟩
  ihave Hg := (Transfers.pointsTo_toks fullShare 2 (f := gB d) (S := Finset.univ)).1 $$ Hg
  ihave Hh := (Transfers.pointsTo_toks fullShare 2 (f := hB d) (S := Finset.univ)).1 $$ Hh
  icases Hg with ⟨Hg0, Hg⟩
  icases Hh with ⟨Hh0, Hh⟩
  isplitl [Hg Hh Ho]
  · isplitl [Hg]; · iexact Hg
    isplitl [Hh]; · iexact Hh
    iexact Ho
  iintro ⟨Hg, Hh, Ho⟩
  isplitl [Hg0 Hg]
  · iapply (Transfers.pointsTo_toks fullShare 2 (f := gB d) (S := Finset.univ)).2
    isplitl [Hg0]; · iexact Hg0
    iexact Hg
  isplitl [Hh0 Hh]
  · iapply (Transfers.pointsTo_toks fullShare 2 (f := hB d) (S := Finset.univ)).2
    isplitl [Hh0]; · iexact Hh0
    iexact Hh
  iexact Ho

end Cert.KernelIdeal.Seg

end
-- ==== Proof.Ideal.Mlp.lean ====
module

public import proofs.«01_k».proof.Proof.Ideal.Launch
public import proofs.«01_k».proof.Proof.Gen.KernelIdeal.Points
public import Idealize.ShloMosaic.Lib.Pipeline.FrameBody
public import Idealize.ShloMosaic.Lib.Pipeline.Regions
public import Idealize.ShloMosaic.Lib.Pipeline.Value
public import Idealize.ShloMosaic.Lib.VecWindow

/-!
  The gated rows' kernel: what its body leaves in the block of fifty tiles it writes.
-/

@[expose] public section

set_option maxRecDepth 16384

noncomputable section

namespace Cert.KernelIdeal.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A block of rows' gated values, tile by tile: tile `t` holds columns `128 t` to `128 t + 127`. -/
def tiles (v : FVec F S8x6400 .f32) : S50x8x128.Idx → F .f32 := fun y =>
  v (ix2 (⟨(y 1).val, (y 1).isLt⟩ : Fin 8) (⟨128 * (y 0).val + (y 2).val, by
    have h0 : (y 0).val < 50 := (y 0).isLt
    have h2 : (y 2).val < 128 := (y 2).isLt
    show _ < 6400; omega⟩ : Fin 6400))

/-- A tile's payload: the slice of eight rows and 128 columns that begins at column `128 t`. -/
theorem tile_pay (v : FVec F S8x6400 .f32) (o t : Nat) (ho : o = 128 * t) (ht : t < 50) (hs : S8x6400.Slices ![0, o] S8x128) (hc : S8x128.ShapeCasts S1x8x128)
    (x : S1x8x128.Idx) : shapeCast S1x8x128 (extractStridedSlice S8x128 ![0, o] v hs) hc x = tiles v (ix3 (⟨t, ht⟩ : Fin 50) (⟨(x 1).val, (x 1).isLt⟩ : Fin 8) (⟨(x 2).val, (x 2).isLt⟩ : Fin 128)) := by
  have h0 : (x 0).val < 1 := (x 0).isLt
  have h1 : (x 1).val < 8 := (x 1).isLt
  have h2 : (x 2).val < 128 := (x 2).isLt
  rw [shapeCast_apply _ _ x (ix2 (⟨(x 1).val, h1⟩ : Fin 8) (⟨(x 2).val, h2⟩ : Fin 128))]
  · exact extractStridedSlice_apply _ v hs _ (ix2 (⟨(x 1).val, h1⟩ : Fin 8) (⟨128 * t + (x 2).val, by omega⟩ : Fin 6400))
      (fun a => by fin_cases a <;> [(show (x 1).val = 0 + (x 1).val; omega); (show 128 * t + (x 2).val = o + (x 2).val; omega)])
  · rw [Shape.rowMajor_val_two, Shape.rowMajor_val_three]
    show (x 1).val * 128 + (x 2).val = ((x 0).val * 8 + (x 1).val) * 128 + (x 2).val
    omega

/-- The block holds the first `n` tiles of `v`. -/
def Filled (M : Memref sig .tc .vmem S50x8x128 .f32) (v : FVec F S8x6400 .f32) (n : Nat) (f : M.view.ty.Contents (Elt F)) : Prop :=
  ∀ y : S50x8x128.Idx, (y 0).val < n → M.view.read (Elt F) f y = tiles v y

/-- The block holds nothing in particular at first. -/
theorem filled_zero (M : Memref sig .tc .vmem S50x8x128 .f32) (v : FVec F S8x6400 .f32) (f : M.view.ty.Contents (Elt F)) : Filled M v 0 f :=
  fun _ h => absurd h (Nat.not_lt_zero _)

/-- Filled with fifty tiles, the block is the tiles. -/
theorem filled_all (M : Memref sig .tc .vmem S50x8x128 .f32) (v : FVec F S8x6400 .f32) (f : M.view.ty.Contents (Elt F)) (h : Filled M v 50 f) :
    M.view.read (Elt F) f = tiles v := funext fun y => h y (y 0).isLt

/-- Writing tile `n` fills one tile more. -/
theorem filled_step (M : Memref sig .tc .vmem S50x8x128 .f32) (v : FVec F S8x6400 .f32) (n : Nat) (hn : n < 50) (f : M.view.ty.Contents (Elt F)) (h : Filled M v n f)
    (inb : ∀ a, (![n, 0, 0] : Fin S50x8x128.rank → Nat) a + S1x8x128.size a ≤ S50x8x128.size a) (p : S1x8x128.Idx → F .f32)
    (hp : ∀ x, p x = tiles v (ix3 (⟨n, hn⟩ : Fin 50) (⟨(x 1).val, (x 1).isLt⟩ : Fin 8) (⟨(x 2).val, (x 2).isLt⟩ : Fin 128))) :
    Filled M v (n + 1) ((M.access (Rect.unit (s := S50x8x128) ![n, 0, 0] S1x8x128.size inb)).write (Elt F) f p Finset.univ) := by
  intro y hy
  have h1 : (y 1).val < 8 := (y 1).isLt
  have h2 : (y 2).val < 128 := (y 2).isLt
  by_cases hlt : (y 0).val < n
  · refine (View.read_slice_write_of_not_mem (v := M.view) (Rect.unit (s := S50x8x128) ![n, 0, 0] S1x8x128.size inb) f p Finset.univ ?_).trans (h y hlt)
    intro hm
    obtain ⟨x, -, rfl⟩ := Finset.mem_map.mp hm
    exact absurd hlt (by show ¬ n + 1 * (x 0).val < n; omega)
  · have he : (Rect.unit (s := S50x8x128) ![n, 0, 0] S1x8x128.size inb).emb (ix3 (⟨0, by decide⟩ : Fin 1) (⟨(y 1).val, h1⟩ : Fin 8) (⟨(y 2).val, h2⟩ : Fin 128)) = y := by
      funext a
      apply Fin.ext
      fin_cases a
      · show n + 1 * 0 = (y 0).val; omega
      · show 0 + 1 * (y 1).val = (y 1).val; omega
      · show 0 + 1 * (y 2).val = (y 2).val; omega
    have h3 := View.read_slice_write_emb (v := M.view) (Rect.unit (s := S50x8x128) ![n, 0, 0] S1x8x128.size inb) f p
      (x := ix3 (⟨0, by decide⟩ : Fin 1) (⟨(y 1).val, h1⟩ : Fin 8) (⟨(y 2).val, h2⟩ : Fin 128)) (Finset.mem_univ _)
    rw [he] at h3
    refine h3.trans ((hp _).trans (congrArg (tiles v) ?_))
    funext a
    apply Fin.ext
    fin_cases a
    · show n = (y 0).val; omega
    · rfl
    · rfl

/-- The block's buffer, whole, with its first `n` tiles filled. -/
def Tiled (c : Dev nD) (M : Memref sig .tc .vmem S50x8x128 .f32) (v : FVec F S8x6400 .f32) (n : Nat) : sProp 𝕄 :=
  iprop(∃ f : Buf (Elt F) (M.view.loc (c.tc : Thread nD τ)), ⌜Filled M v n f⌝ ∗ (M.view.loc (c.tc : Thread nD τ) ↦{fullShare} f))

/-- Programs of the gated rows' kernel. -/
abbrev CProg (F : FTy → Type) [FloatOps F] (α : Type) := Prog (TpuEff nD τ sig (Elt F) Λ₀ .tc) α

/-- The program logic of a TensorCore's thread, below the calls. -/
abbrev cw (c : Dev nD) {α : Type} (p : CProg F α) (Q : α → sProp 𝕄) : sProp 𝕄 :=
  wp frame (wpE (defs₀ (F := F)) Variants.none (c.tc : Thread nD τ) none) Set.univ p Q

/-- A program that is done returns its value. -/
theorem tc_done (c : Dev nD) {α : Type} {Q : α → sProp 𝕄} (a : α) : Q a ⊢ cw (F := F) c (Prog.ret a) Q := by
  show Q a ⊢ wp frame _ Set.univ (Prog.ret a) Q
  rw [wp_ret]
  iintro H
  imodintro
  iexact H

/-- One tile is read and overwritten. -/
theorem wp_tile (c : Dev nD) (M : Memref sig .tc .vmem S50x8x128 .f32) (v : FVec F S8x6400 .f32) (n : Nat) (hn : n < 50) {α : Type} {Q : α → sProp 𝕄}
    (inb : ∀ a, (![n, 0, 0] : Fin S50x8x128.rank → Nat) a + S1x8x128.size a ≤ S50x8x128.size a) (p : S1x8x128.Idx → F .f32) (hl) (hx) (hm)
    (hp : ∀ x, p x = tiles v (ix3 (⟨n, hn⟩ : Fin 50) (⟨(x 1).val, (x 1).isLt⟩ : Fin 8) (⟨(x 2).val, (x 2).isLt⟩ : Fin 128)))
    (cont : PUnit → CProg F α) :
    Tiled c M v n ⊢ (Tiled c M v (n + 1) -∗ cw c (cont ⟨⟩) Q)
      -∗ cw c (Prog.op (.load M (Rect.unit (s := S50x8x128) ![n, 0, 0] S1x8x128.size inb).toLoadRect hl) fun _ =>
          Prog.op (.store M (Rect.unit (s := S50x8x128) ![n, 0, 0] S1x8x128.size inb) p Finset.univ hx hm) cont) Q := by
  unfold Tiled
  iintro ⟨%f, %hf, H⟩ Hk
  iapply (wp_load Variants.none (c.tc : Thread nD τ) none Set.univ (m := M) (S := Finset.univ) (Finset.subset_univ _)) $$ H; iintro H
  iapply (wp_store Variants.none (c.tc : Thread nD τ) none Set.univ (m := M) (r := Rect.unit (s := S50x8x128) ![n, 0, 0] S1x8x128.size inb) (w := p) (Mk := Finset.univ) (S := Finset.univ) (Finset.subset_univ _)) $$ H
  iintro H
  iapply Hk
  iexists _
  isplitr
  swap
  · iexact H
  · ipureintro
    exact filled_step M v n hn f hf inb p hp

/-- A buffer is loaded whole. -/
theorem wp_loadAll (c : Dev nD) {sh : Shape} {e : EltTy} (M : Memref sig .tc .vmem sh e) {α : Type} {Q : α → sProp 𝕄} {off : Fin sh.rank → Nat}
    (inb : ∀ a, off a + sh.size a ≤ sh.size a) (hl) (q : PosShare TreeShare) (f : Buf (Elt F) (M.view.loc (c.tc : Thread nD τ))) (cont : (sh.Idx → Elt F e) → CProg F α) :
    (M.view.loc (c.tc : Thread nD τ) ↦{q} f : sProp 𝕄) ⊢ ((M.view.loc (c.tc : Thread nD τ) ↦{q} f) -∗ cw c (cont (M.view.read (Elt F) f)) Q)
      -∗ cw c (Prog.op (.load M (Rect.unit off sh.size inb).toLoadRect hl) cont) Q := by
  iintro H Hk
  iapply (wp_load Variants.none (c.tc : Thread nD τ) none Set.univ (m := M) (S := Finset.univ) (Finset.subset_univ _)) $$ H; iintro H
  rw [View.readAt_full]
  iapply Hk
  iexact H

/-- The gated values of a block of rows. -/
abbrev mlp (x : FVec F S6400x128 .f32) (wt : FVec F S128x128 .f32) (wg : FVec F S16x128 .f32) (b0 : FVec F S128x1 .f32) (b : FVec F S8x128 .f32) : FVec F S8x6400 .f32 :=
  k0_pay4 x wg wt b b0

set_option maxHeartbeats 16000000 in
/-- The gated rows' kernel fills its block with the gated values of its rows. -/
theorem wp_mlp (c : Dev nD) (i : grid0.Coords) (a1 : Memref sig .tc .vmem S6400x128 .f32) (h1 : a1.IsWhole) (a2 : Memref sig .tc .vmem S128x128 .f32) (h2 : a2.IsWhole)
    (a3 : Memref sig .tc .vmem S16x128 .f32) (h3 : a3.IsWhole) (a4 : Memref sig .tc .vmem S128x1 .f32) (h4 : a4.IsWhole) (a5 : Memref sig .tc .vmem S8x128 .f32) (h5 : a5.IsWhole)
    (a6 : Memref sig .tc .vmem S50x8x128 .f32) (h6 : a6.IsWhole) (Q : PUnit → sProp 𝕄)
    (f1 : Buf (Elt F) (a1.view.loc (c.tc : Thread nD τ))) (f2 : Buf (Elt F) (a2.view.loc (c.tc : Thread nD τ))) (f3 : Buf (Elt F) (a3.view.loc (c.tc : Thread nD τ)))
    (f4 : Buf (Elt F) (a4.view.loc (c.tc : Thread nD τ))) (f5 : Buf (Elt F) (a5.view.loc (c.tc : Thread nD τ))) (f6 : Buf (Elt F) (a6.view.loc (c.tc : Thread nD τ))) :
    iprop((a1.view.loc (c.tc : Thread nD τ) ↦{fullShare} f1) ∗ (a2.view.loc (c.tc : Thread nD τ) ↦{fullShare} f2) ∗ (a3.view.loc (c.tc : Thread nD τ) ↦{fullShare} f3)
        ∗ (a4.view.loc (c.tc : Thread nD τ) ↦{fullShare} f4) ∗ (a5.view.loc (c.tc : Thread nD τ) ↦{fullShare} f5) ∗ (a6.view.loc (c.tc : Thread nD τ) ↦{fullShare} f6)
        ∗ (((a1.view.loc (c.tc : Thread nD τ) ↦{fullShare} f1) ∗ (a2.view.loc (c.tc : Thread nD τ) ↦{fullShare} f2) ∗ (a3.view.loc (c.tc : Thread nD τ) ↦{fullShare} f3)
          ∗ (a4.view.loc (c.tc : Thread nD τ) ↦{fullShare} f4) ∗ (a5.view.loc (c.tc : Thread nD τ) ↦{fullShare} f5)
          ∗ Tiled c a6 (mlp (a1.view.read (Elt F) f1) (a2.view.read (Elt F) f2) (a3.view.read (Elt F) f3) (a4.view.read (Elt F) f4) (a5.view.read (Elt F) f5)) 50) -∗ Q ⟨⟩))
      ⊢ cw c (cc0__mlp_body i a1 h1 a2 h2 a3 h3 a4 h4 a5 h5 a6 h6) Q := by
  rw [cc0__mlp_body_eq_skeleton]
  unfold cc0__mlp_body_skel
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, Prog.bind_assoc]
  iintro ⟨H1, H2, H3, H4, H5, H6, Hk⟩
  iapply (wp_loadAll c a1 inb_S6400x128_S6400x128_0_0 _ fullShare f1) $$ H1; iintro H1
  iapply (wp_loadAll c a3 inb_S16x128_S16x128_0_0 _ fullShare f3) $$ H3; iintro H3
  iapply (wp_loadAll c a2 inb_S128x128_S128x128_0_0 _ fullShare f2) $$ H2; iintro H2
  iapply (wp_loadAll c a5 inb_S8x128_S8x128_0_0 _ fullShare f5) $$ H5; iintro H5
  iapply (wp_loadAll c a4 inb_S128x1_S128x1_0_0 _ fullShare f4) $$ H4; iintro H4
  ihave H6 := (show (a6.view.loc (c.tc : Thread nD τ) ↦{fullShare} f6 : sProp 𝕄) ⊢
      Tiled c a6 (mlp (a1.view.read (Elt F) f1) (a2.view.read (Elt F) f2) (a3.view.read (Elt F) f3) (a4.view.read (Elt F) f4) (a5.view.read (Elt F) f5)) 0 from by
    unfold Tiled
    iintro H
    iexists f6
    isplitr
    swap
    · iexact H
    · ipureintro; exact filled_zero _ _ _) $$ H6
  iterate 50 (iapply (wp_tile c a6 _ _ (by decide) _ _ _ _ _ (by intro x; first | exact tile_pay _ _ _ (by decide) (by decide) _ _ x | (simp only [k0_pay7, k0_pay23, k0_pay39, k0_pay55]; exact tile_pay _ _ _ (by decide) (by decide) _ _ x))) $$ H6; iintro H6)
  iapply tc_done
  iapply Hk
  isplitl [H1]; · iexact H1
  isplitl [H2]; · iexact H2
  isplitl [H3]; · iexact H3
  isplitl [H4]; · iexact H4
  isplitl [H5]; · iexact H5
  iexact H6

end Cert.KernelIdeal.Seg

end
-- ==== Proof.Ideal.Region.lean ====
module

public import proofs.«01_k».proof.Proof.Ideal.Launch
public import proofs.«01_k».proof.Proof.Ideal.Mlp
public import proofs.«01_k».proof.Proof.Gen.KernelIdeal.Points
public import Idealize.ShloMosaic.Lib.Pipeline.RegionsLoop
public import Idealize.ShloMosaic.Lib.Tactic

/-!
  The gated rows' call: its windows' contents point by point, its body's obligation, and the call as a step of the
  program that owes the segment call's start.
-/

@[expose] public section

set_option maxRecDepth 16384

noncomputable section

namespace Cert.KernelIdeal.Seg

open Cert.KernelIdeal Cert.KernelIdeal.Gen

open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The contents of one device's buffers. -/
abbrev Vals (F : FTy → Type) : Type := Valuation τ sig (Elt F)

variable (W : Dev nD → Vals F)

/-- Window 0's block at a point, at the contents on entry. -/
def stg0 (c : Dev nD) (t : Fin cfg0.N) : (cfg0.win 0).block.Idx → Elt F (cfg0.win 0).elt :=
  ((cfg0.win 0).blk t).view.read (Elt F) (W c (Pipeline.arrRef spec0 0))

/-- Window 1's block at a point, at the contents on entry. -/
def stg1 (c : Dev nD) (t : Fin cfg0.N) : (cfg0.win 1).block.Idx → Elt F (cfg0.win 1).elt :=
  ((cfg0.win 1).blk t).view.read (Elt F) (W c (Pipeline.arrRef spec0 1))

/-- Window 2's block at a point, at the contents on entry. -/
def stg2 (c : Dev nD) (t : Fin cfg0.N) : (cfg0.win 2).block.Idx → Elt F (cfg0.win 2).elt :=
  ((cfg0.win 2).blk t).view.read (Elt F) (W c (Pipeline.arrRef spec0 2))

/-- Window 3's block at a point, at the contents on entry. -/
def stg3 (c : Dev nD) (t : Fin cfg0.N) : (cfg0.win 3).block.Idx → Elt F (cfg0.win 3).elt :=
  ((cfg0.win 3).blk t).view.read (Elt F) (W c (Pipeline.arrRef spec0 3))

/-- Window 4's block at a point, at the contents on entry. -/
def stg4 (c : Dev nD) (t : Fin cfg0.N) : (cfg0.win 4).block.Idx → Elt F (cfg0.win 4).elt :=
  ((cfg0.win 4).blk t).view.read (Elt F) (W c (Pipeline.arrRef spec0 4))

/-- The block of gated rows at a point. -/
def rowsAt (c : Dev nD) (t : Fin cfg0.N) : S50x8x128.Idx → F .f32 :=
  tiles (mlp (stg0 W c t) (stg1 W c t) (stg2 W c t) (stg3 W c t) (stg4 W c t))

/-- The pairs of the waits recorded before the segment call. -/
def low (c : Dev nD) : Set (SemLoc sig × HIx 1) := {p | (K (F := F)).lev (T c, p.1) p.2 ≤ 0}

/-- The scoped buffers no window stages. -/
abbrev Φc (c : Dev nD) : sProp 𝕄 := Pipeline.scopedRest (Ix := HIx 1) (Name := ℕ) (U := UU) (Lvl := ℕ) (Val := Elt F) spec0 c

/-- The call's proof data: each input window keeps its block, the result's window takes the block of gated rows. -/
def dat (c : Dev nD) : Dat τ (Elt F) (HIx 1) ℕ UU ℕ cfg0 c where
  A w := W c (Pipeline.arrRef spec0 w)
  after w t := match w with
    | ⟨0, _⟩ => stg0 W c t
    | ⟨1, _⟩ => stg1 W c t
    | ⟨2, _⟩ => stg2 W c t
    | ⟨3, _⟩ => stg3 W c t
    | ⟨4, _⟩ => stg4 W c t
    | ⟨5, _⟩ => rowsAt W c t
  Φ _ := Φc c
  q _ := fullShare
  owed _ := (K (F := F)).Otc c 0
  recorded _ := low (F := F) c

/-- The tables of the calls: none. -/
abbrev adm : (p : Fin 1) → (pcfgs (F := F) p).Adm := fun q => (cfgs q).toPCfg_adm

/-- The proof data of every call. -/
def pdats : (p : Fin 1) → (c : Dev nD) → Dat τ (Elt F) (HIx 1) ℕ UU ℕ (Pipeline.pin (pcfgs (F := F)) adm p) c :=
  fun _ => dat W

/-- Window 0 is staged with its own block at every point. -/
theorem before0 (c : Dev nD) (t : Fin cfg0.N) (d) : (dat W c).before 0 t d = stg0 W c t :=
  (dat W c).before_in_eq_fetched 0 rfl (fun _ => rfl) (fun _ _ _ => rfl) (fun _ => rfl) t d
/-- Window 1 is staged with its own block at every point. -/
theorem before1 (c : Dev nD) (t : Fin cfg0.N) (d) : (dat W c).before 1 t d = stg1 W c t :=
  (dat W c).before_in_eq_fetched 1 rfl (fun _ => rfl) (fun _ _ _ => rfl) (fun _ => rfl) t d
/-- Window 2 is staged with its own block at every point. -/
theorem before2 (c : Dev nD) (t : Fin cfg0.N) (d) : (dat W c).before 2 t d = stg2 W c t :=
  (dat W c).before_in_eq_fetched 2 rfl (fun _ => rfl) (fun _ _ _ => rfl) (fun _ => rfl) t d
/-- Window 3 is staged with its own block at every point. -/
theorem before3 (c : Dev nD) (t : Fin cfg0.N) (d) : (dat W c).before 3 t d = stg3 W c t :=
  (dat W c).before_in_eq_fetched 3 rfl (fun _ => rfl) (fun _ _ _ => rfl) (fun _ => rfl) t d
/-- Window 4 is staged with its own block at every point. -/
theorem before4 (c : Dev nD) (t : Fin cfg0.N) (d) : (dat W c).before 4 t d = stg4 W c t :=
  (dat W c).before_in_eq_fetched 4 rfl (fun _ => rfl) (fun _ _ _ => rfl) (fun _ => rfl) t d

/-- A whole memref held at contents, from its buffer. -/
theorem owns_intro (c : Dev nD) {sp : Space} {S : Shape} {e : EltTy} (M : Memref sig .tc sp S e) (h : M.IsWhole) (X : S.Idx → Elt F e)
    (f : Buf (Elt F) (M.view.loc (c.tc : Thread nD τ))) (hf : M.view.read (Elt F) f = X) :
    (M.view.loc (c.tc : Thread nD τ) ↦{fullShare} f : sProp 𝕄) ⊢ owns (c.tc : Thread nD τ) M fullShare X := by
  unfold owns
  iintro H
  iexists f
  isplitr
  · ipureintro; exact hf
  · rw [h.set_eq_univ]; iexact H

/-- A whole memref's buffer, from the memref held at contents. -/
theorem owns_elim (c : Dev nD) {sp : Space} {S : Shape} {e : EltTy} (M : Memref sig .tc sp S e) (h : M.IsWhole) (X : S.Idx → Elt F e) :
    (owns (c.tc : Thread nD τ) M fullShare X : sProp 𝕄)
      ⊢ iprop(∃ f : Buf (Elt F) (M.view.loc (c.tc : Thread nD τ)), ⌜M.view.read (Elt F) f = X⌝ ∗ (M.view.loc (c.tc : Thread nD τ) ↦{fullShare} f)) := by
  unfold owns
  rw [h.set_eq_univ]

/-- The body's obligation: at every point it fills the result's block with the gated values of the rows staged. -/
theorem body_obligation (c : Dev nD) : BodyObligation (dat W c) (defs₀ (F := F)) 𝒱₀ none Set.univ := fun t => by
  rw [bigSep_W0, bigSep_W0]
  rw [show (dat W c).Φ t.castSucc = Φc c from rfl, show (dat W c).Φ t.succ = Φc c from rfl,
    show (dat W c).owesAt none t.succ = (dat W c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [before0, before1, before2, before3, before4]
  ihave H0 := (owns_elim c _ (stage_whole0 0 _) _) $$ H0
  ihave H1 := (owns_elim c _ (stage_whole0 1 _) _) $$ H1
  ihave H2 := (owns_elim c _ (stage_whole0 2 _) _) $$ H2
  ihave H3 := (owns_elim c _ (stage_whole0 3 _) _) $$ H3
  ihave H4 := (owns_elim c _ (stage_whole0 4 _) _) $$ H4
  ihave H5 := (owns_elim c _ (stage_whole0 5 _) _) $$ H5
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  icases H5 with ⟨%f5, -, H5⟩
  iapply (wp_mlp c (grid0.coords t) _ (stage_whole0 0 _) _ (stage_whole0 1 _) _ (stage_whole0 2 _) _ (stage_whole0 3 _) _ (stage_whole0 4 _) _ (stage_whole0 5 _) _ f0 f1 f2 f3 f4 f5)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  unfold Tiled
  icases H5 with ⟨%g, %hg, H5⟩
  isplitl [HΦ]; · iexact HΦ
  isplitl [Howes]; · iexact Howes
  isplitl [H0]; · iapply (owns_intro c _ (stage_whole0 0 _) _ f0 h0); iexact H0
  isplitl [H1]; · iapply (owns_intro c _ (stage_whole0 1 _) _ f1 h1); iexact H1
  isplitl [H2]; · iapply (owns_intro c _ (stage_whole0 2 _) _ f2 h2); iexact H2
  isplitl [H3]; · iapply (owns_intro c _ (stage_whole0 3 _) _ f3 h3); iexact H3
  isplitl [H4]; · iapply (owns_intro c _ (stage_whole0 4 _) _ f4 h4); iexact H4
  iapply (owns_intro c _ (stage_whole0 5 _) _ g ((filled_all _ _ g hg).trans (by rw [h0, h1, h2, h3, h4]; rfl))); iexact H5

/-- The array the call leaves. -/
def gatedAt (c : Dev nD) : Buf (Elt F) ((c.tc : Thread nD τ).loc main_v17) := (dat W c).arrAt 5 cfg0.N

variable (W' : Dev nD → Vals F)

set_option backward.isDefEq.respectTransparency.types false in
/-- The call as a step: every unscoped buffer at `W`, what rides along, and what the core owes; left with the result's
    array at the gated rows. -/
def reg (R : Dev nD → sProp 𝕄) (hout : ∀ c, W' c main_v17 = gatedAt W c) (hne : ∀ c (b : Ref sig .tc), b ≠ main_v17 → W' c b = W c b) :
    Pipeline.RegionSeg (pcfgs (F := F)) adm (pdats W) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation W c).loose
  hwaits c := Pipeline.cellsWaits_of_cut _ _ _ 0 c 0 ((K (F := F)).Otc c 0) (fun _ => rfl) (fun _ _ => Finset.mem_univ _) (fun _ _ => Nat.le_refl _)
    (fun g i h => ⟨Finset.mem_univ _, Nat.lt_of_lt_of_le (Nat.succ_pos _) (SparseCore.Cfg.lev_of_Otc_pos h)⟩)
  pre c := iprop(unscopedBufs c (fun b => W c b) ∗ R c ∗ ∃ w, ⌜(K (F := F)).WBelow (T c) w 0⌝ ∗ owes (T c) ((K (F := F)).Otc c 0) w)
  post c := iprop(unscopedBufs c (fun b => W' c b) ∗ R c ∗ ∃ w, ⌜(K (F := F)).WBelow (T c) w 0⌝ ∗ owes (T c) ((K (F := F)).Otc c 0) w)
  X _ := BI.emp
  Y _ := BI.emp
  Z c := iprop(Pipeline.unscopedRest (Ix := HIx 1) (Name := ℕ) (U := UU) (Lvl := ℕ) spec0 c (fun b => W c b) ∗ R c)
  hentry c := by
    rw [Pipeline.ownSems0_none]
    have hsplit := Pipeline.arrays_of_unscopedBufs (p := 0) (pcfgs (F := F)) adm (pdats W) launch0.win launch0.arr_whole c
      ((pdats W 0 c).share_full fun _ => rfl) (fun b => W c b) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%w, %hw, HO⟩; iexists w; isplitr; · ipureintro; exact fun p hp => Or.inl (hw p hp)
      iexact HO
    isplitr; · iempintro
    isplitl [Hrest] <;> iassumption
  hin c := by
    rw [show (pdats W 0 c).Φ 0 = Φc c from rfl]
    iintro ⟨-, -, Hr⟩; iexact Hr
  hout c := by
    rw [Pipeline.ownSems0_none, show (pdats W 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats W) ((pdats W 0 c).share_full fun _ => rfl) (fun b => W c b) (fun b => W' c b) ((pdats W 0 c).arrAt · cfg0.N)
      (fun w => by
        fin_cases w
        · exact ((pdats W 0 c).arrAt_in 0 rfl _).trans (hne c main_arg0 (by decide)).symm
        · exact ((pdats W 0 c).arrAt_in 1 rfl _).trans (hne c main_v0 (by decide)).symm
        · exact ((pdats W 0 c).arrAt_in 2 rfl _).trans (hne c main_v7 (by decide)).symm
        · exact ((pdats W 0 c).arrAt_in 3 rfl _).trans (hne c main_v8 (by decide)).symm
        · exact ((pdats W 0 c).arrAt_in 4 rfl _).trans (hne c main_v16 (by decide)).symm
        · exact (hout c).symm)
      (fun b hb => hne c b fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%w, %hw, HO⟩; iexists w
    isplitr
    · ipureintro
      intro p hp
      rcases hw hp with h | ⟨v, s, rfl⟩
      · exact h
      · exact Nat.le_refl _
    iexact HO

end Cert.KernelIdeal.Seg

end
-- ==== Proof.Ideal.Run.lean ====
module

public import proofs.«01_k».proof.Proof.Ideal.Region

/-!
  The whole program: the host's operations, the gated rows' call, the segment call; what every run ends with.
-/

@[expose] public section

set_option maxRecDepth 16384

noncomputable section

namespace Cert.KernelIdeal.Seg

open Cert.KernelIdeal Cert.KernelIdeal.Gen

open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The host's operations before the gated rows' call. -/
def opsA : List (HloOp τ sig (Elt F)) := [
  (StableHlo.unary main_arg2 main_v0 ((transpose S128x128 [1, 0] · transposes_S128x128_S128x128_1_0) : (⟨S128x128, .f32⟩ : BufTy).Contents (Elt F) → (⟨S128x128, .f32⟩ : BufTy).Contents (Elt F))),
  (StableHlo.nullary main_cst (constant S_ .f32 0x00000000#32)),
  (StableHlo.unary main_cst main_v1 (broadcastInDim S16x128 ![] bcast_S_S16x128 : (⟨S_, .f32⟩ : BufTy).Contents (Elt F) → (⟨S16x128, .f32⟩ : BufTy).Contents (Elt F))),
  (StableHlo.unary main_arg6 main_v2 ((transpose S8x128 [1, 0] · transposes_S128x8_S8x128_1_0) : (⟨S128x8, .f32⟩ : BufTy).Contents (Elt F) → (⟨S8x128, .f32⟩ : BufTy).Contents (Elt F))),
  (StableHlo.nullary main_c (constantI S_ 32 0#32)),
  (StableHlo.unary main_c main_v3 (broadcastInDim S1 ![] bcast_S_S1 : (⟨S_, .i32⟩ : BufTy).Contents (Elt F) → (⟨S1, .i32⟩ : BufTy).Contents (Elt F))),
  (StableHlo.ternary main_v1 main_v3 main_v2 main_v4 ((fun x i u => Host.scatter scatter_S16x128_S1_S8x128_01_n_0_0 (fun _ b => b) x i u) : (⟨S16x128, .f32⟩ : BufTy).Contents (Elt F) → (⟨S1, .i32⟩ : BufTy).Contents (Elt F) → (⟨S8x128, .f32⟩ : BufTy).Contents (Elt F) → (⟨S16x128, .f32⟩ : BufTy).Contents (Elt F))),
  (StableHlo.reshape main_arg4 main_v5 (rfl : (.f32 : EltTy) = .f32) shapeCasts_S128x1_S128),
  (StableHlo.nullary main_c_0 (constantI S_ 32 8#32)),
  (StableHlo.unary main_c_0 main_v6 (broadcastInDim S1 ![] bcast_S_S1 : (⟨S_, .i32⟩ : BufTy).Contents (Elt F) → (⟨S1, .i32⟩ : BufTy).Contents (Elt F))),
  (StableHlo.ternary main_v4 main_v6 main_v5 main_v7 ((fun x i u => Host.scatter scatter_S16x128_S1_S128_0_0_0_0 (fun _ b => b) x i u) : (⟨S16x128, .f32⟩ : BufTy).Contents (Elt F) → (⟨S1, .i32⟩ : BufTy).Contents (Elt F) → (⟨S128, .f32⟩ : BufTy).Contents (Elt F) → (⟨S16x128, .f32⟩ : BufTy).Contents (Elt F))),
  (StableHlo.reshape main_arg3 main_v8 (rfl : (.f32 : EltTy) = .f32) shapeCasts_S128_S128x1),
  (StableHlo.nullary main_cst_1 (constant S_ .f32 0x00000000#32)),
  (StableHlo.unary main_cst_1 main_v9 (broadcastInDim S8x128 ![] bcast_S_S8x128 : (⟨S_, .f32⟩ : BufTy).Contents (Elt F) → (⟨S8x128, .f32⟩ : BufTy).Contents (Elt F))),
  (StableHlo.nullary main_c_2 (constantI S_ 32 0#32)),
  (StableHlo.unary main_c_2 main_v10 (broadcastInDim S1 ![] bcast_S_S1 : (⟨S_, .i32⟩ : BufTy).Contents (Elt F) → (⟨S1, .i32⟩ : BufTy).Contents (Elt F))),
  (StableHlo.ternary main_v9 main_v10 main_arg7 main_v11 ((fun x i u => Host.scatter scatter_S8x128_S1_S8_0_1_1_0 (fun _ b => b) x i u) : (⟨S8x128, .f32⟩ : BufTy).Contents (Elt F) → (⟨S1, .i32⟩ : BufTy).Contents (Elt F) → (⟨S8, .f32⟩ : BufTy).Contents (Elt F) → (⟨S8x128, .f32⟩ : BufTy).Contents (Elt F))),
  (StableHlo.reshape main_arg5 main_v12 (rfl : (.f32 : EltTy) = .f32) shapeCasts_S1_S_),
  (StableHlo.nullary main_c_3 (constantI S_ 32 0#32)),
  (StableHlo.unary main_c_3 main_v13 (broadcastInDim S1 ![] bcast_S_S1 : (⟨S_, .i32⟩ : BufTy).Contents (Elt F) → (⟨S1, .i32⟩ : BufTy).Contents (Elt F))),
  (StableHlo.nullary main_c_4 (constantI S_ 32 1#32)),
  (StableHlo.unary main_c_4 main_v14 (broadcastInDim S1 ![] bcast_S_S1 : (⟨S_, .i32⟩ : BufTy).Contents (Elt F) → (⟨S1, .i32⟩ : BufTy).Contents (Elt F))),
  (StableHlo.binary main_v13 main_v14 main_v15 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))),
  (StableHlo.ternary main_v11 main_v15 main_v12 main_v16 ((fun x i u => Host.scatter scatter_S8x128_S2_S__n_01_01_0 (fun _ b => b) x i u) : (⟨S8x128, .f32⟩ : BufTy).Contents (Elt F) → (⟨S2, .i32⟩ : BufTy).Contents (Elt F) → (⟨S_, .f32⟩ : BufTy).Contents (Elt F) → (⟨S8x128, .f32⟩ : BufTy).Contents (Elt F)))]

/-- The host's operations between the two calls. -/
def opsB : List (HloOp τ sig (Elt F)) := [
  (StableHlo.nullary main_c_5 (constantI S_ 32 320000#32)),
  (StableHlo.unary main_c_5 main_v18 (broadcastInDim S7 ![] bcast_S_S7 : (⟨S_, .i32⟩ : BufTy).Contents (Elt F) → (⟨S7, .i32⟩ : BufTy).Contents (Elt F))),
  (StableHlo.binary main_arg1 main_v18 main_v19 ((fun a b => concatenate S1032 0 [⟨S1025, a⟩, ⟨S7, b⟩] concatenates_S1025_S7_S1032_d0) : (⟨S1025, .i32⟩ : BufTy).Contents (Elt F) → (⟨S7, .i32⟩ : BufTy).Contents (Elt F) → (⟨S1032, .i32⟩ : BufTy).Contents (Elt F)))]

/-- The host's operations after the segment call. -/
def opsC : List (HloOp τ sig (Elt F)) := [
  (StableHlo.reshape main_v20 main_v21 (rfl : (.f32 : EltTy) = .f32) shapeCasts_S16384_S1024x16),
  (StableHlo.unary main_v21 main_v22 ((extractStridedSlice S1024x8 ![0, 0] · slices_S1024x16_S1024x8_0_0) : (⟨S1024x16, .f32⟩ : BufTy).Contents (Elt F) → (⟨S1024x8, .f32⟩ : BufTy).Contents (Elt F)))]

/-- The program as its three lines of operations around its two calls. -/
theorem main_lines (d : Dev nD) : (main d : Prog (TpuEff nD τ sig (Elt F) (SparseCore.Sig (ΛP (F := F)) 1) .tc) PUnit)
    = (StableHlo.seq opsA >>= fun _ => Prog.lift (.customCall (SparseCore.inner (Pipeline.entry 0)) ()) >>= fun _ =>
        StableHlo.seq opsB >>= fun _ => (K (F := F)).run d 0 >>= fun _ => StableHlo.seq opsC >>= fun _ => pure ⟨⟩) := by
  simp only [main, opsA, opsB, opsC, StableHlo.seq, bind_assoc, pure_bind]

variable (m : (ℓ : Loc nD τ sig) → Buf (Elt F) ℓ) (ρ : Dev nD → PrngReg)

/-- The contents at the gated rows' call. -/
def WA (d : Dev nD) : Vals F := StableHlo.after opsA fun b => m (d, b)
/-- The contents after it. -/
def WB (d : Dev nD) : Vals F := Function.update (WA m d) (Proc.devRef .tc main_v17) (gatedAt (WA m) d)
/-- The contents at the segment call. -/
def WC (d : Dev nD) : Vals F := StableHlo.after opsB (WB m d)
/-- The gated rows the segment call reads. -/
def gOf (d : Dev nD) : Buf (Elt F) (gLoc d) := WC m d (Proc.devRef .tc main_v17)
/-- The splits it reads. -/
def hOf (d : Dev nD) : Buf (Elt F) (hLoc d) := WC m d (Proc.devRef .tc main_v19)
/-- What its result's array held. -/
def oOf (d : Dev nD) : Buf (Elt F) (oLoc d) := WC m d (Proc.devRef .tc main_v20)
/-- The contents after the segment call. -/
def WD (d : Dev nD) : Vals F := Function.update (WC m d) (Proc.devRef .tc main_v20) (rB (gOf m) (hOf m) d)
/-- The contents at the end. -/
def WE (d : Dev nD) : Vals F := StableHlo.after opsC (WD m d)

/-- The TensorCore's unscoped buffers. -/
def ucRefs : Finset (DevRef τ sig) := (StableHlo.tcRefs τ sig).filter fun b => ¬ b.isScoped

/-- The unscoped buffers at a valuation are those buffers held at it. -/
theorem unscoped_held (c : Dev nD) (X : Vals F) :
    (unscopedBufs c (fun b => X b) : sProp 𝕄) = StableHlo.held (c.tc : Thread nD τ) ucRefs X := by
  unfold unscopedBufs StableHlo.held ucRefs StableHlo.tcRefs
  rw [Finset.filter_map, bigSep_map]
  rfl

/-- What a device ends with: every unscoped buffer at its last contents. -/
abbrev FIN (d : Dev nD) : sProp 𝕄 := StableHlo.held (d.tc : Thread nD τ) ucRefs (WE m d)

/-- The last contents in the state. -/
def fq (d : Dev nD) (s' : Phys nD τ sig (Elt F)) : Prop := ∀ b ∈ ucRefs, s'.mem.mem (d, b) = WE m d b

/-- Buffers held at contents are so in the state. -/
theorem held_agree (d : Dev nD) (X : Vals F) (s' : Phys nD τ sig (Elt F)) (S : Finset (DevRef τ sig)) :
    iprop(StableHlo.held (d.tc : Thread nD τ) S X ∗ SI s') ⊢ (⌜∀ b ∈ S, s'.mem.mem (d, b) = X b⌝ : sProp 𝕄) := by
  classical
  induction S using Finset.induction_on with
  | empty => iintro -; ipureintro; intro b hb; exact absurd hb (Finset.notMem_empty b)
  | insert b S hb ih =>
    unfold StableHlo.held at ih ⊢
    rw [SparseCore.bigSep_insert' hb]
    iintro ⟨⟨Hb, HS⟩, HSI⟩
    ihave H := (persistent_entails_right (SI_pointsTo_agree (st := s') (ℓ := (d, b)) (I := Finset.univ) (q := fullShare) (f := X b))) $$ [HSI Hb]
    · isplitl [HSI] <;> iassumption
    icases H with ⟨%h, HSI, -⟩
    ihave H := ih $$ [HS HSI]
    · isplitl [HS] <;> iassumption
    icases H with %h2
    ipureintro
    intro b' hb'
    rcases Finset.mem_insert.mp hb' with rfl | hb'
    · exact funext fun i => h i (Finset.mem_univ i)
    · exact h2 b' hb'

/-- What a device ends with is so in the state. -/
theorem hfin (d : Dev nD) (s' : Phys nD τ sig (Elt F)) : iprop(FIN m d ∗ SI s') ⊢ (⌜fq m d s'⌝ : sProp 𝕄) := held_agree d (WE m d) s' ucRefs

/-! ## The launch's ghost state -/

/-- Nothing, over a set, is nothing. -/
theorem bigSep_nothing {I : Type} (s : Finset I) : (bigSep s fun _ => iprop(emp)) = (iprop(emp) : sProp 𝕄) := bigSep_emp_const s

/-- The calls' schedules are on cells apart. -/
theorem pin_inj : Function.Injective (Pipeline.cellOf (nD := nD) (τ := τ) (Pipeline.pin (pcfgs (F := F)) adm)) := cellOf_inj

/-- What the launch allocates. -/
def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

/-- What the launch deals each device for the gated rows' call. -/
abbrev G (d : Dev nD) : sProp 𝕄 :=
  iprop(Pipeline.cellsGhost (Pipeline.pin (pcfgs (F := F)) adm) EQ 0 d ∗ Pipeline.toksInit (Pipeline.pin (pcfgs (F := F)) adm) EQ 0 d)

/-- The launch's ghost state, dealt. -/
theorem hu₀ (gB hB oB) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F) gB hB oB).x q thr) := by
  unfold u₀
  iintro Hu
  ihave H := (ownU_parts (initOf (K (F := F)).hsCells (K (F := F)).hsToks)
    (initOf (Pipeline.cells (Pipeline.pin (pcfgs (F := F)) adm) pin_inj) (Pipeline.launchToks (Pipeline.pin (pcfgs (F := F)) adm) pin_inj))) $$ Hu
  icases H with ⟨HH, HQ⟩
  imod (Pipeline.fund_ghost (Pipeline.pin (pcfgs (F := F)) adm) EQ pin_inj) $$ HQ with ⟨Hc, Ht⟩
  imodintro
  isplitl [HH]; · iexact HH
  isplitl [Hc Ht]
  · rw [bigSep_sep']
    isplitl [Hc]
    · iapply (Entails.of_eq (show (bigSep Finset.univ fun c : Dev nD => bigSep Finset.univ fun p => (Pipeline.cellsGhost (Pipeline.pin (pcfgs (F := F)) adm) EQ p c : sProp 𝕄))
        = bigSep Finset.univ fun c : Dev nD => Pipeline.cellsGhost (Pipeline.pin (pcfgs (F := F)) adm) EQ 0 c from
        bigSep_congr fun _ _ => bigSep_univ_of_subsingleton (0 : Fin 1)))
      iexact Hc
    · iapply (Entails.of_eq (show (bigSep Finset.univ fun c : Dev nD => bigSep Finset.univ fun p => (Pipeline.toksInit (Pipeline.pin (pcfgs (F := F)) adm) EQ p c : sProp 𝕄))
        = bigSep Finset.univ fun c : Dev nD => Pipeline.toksInit (Pipeline.pin (pcfgs (F := F)) adm) EQ 0 c from
        bigSep_congr fun _ _ => bigSep_univ_of_subsingleton (0 : Fin 1)))
      iexact Ht
  rw [show (bigSep Finset.univ fun thr : Thread nD τ => bigSep Finset.univ fun q : Fin 1 => (P (F := F) gB hB oB).x q thr) = bigSep Finset.univ fun _ => iprop(emp) from
    bigSep_congr fun _ _ => bigSep_univ_of_subsingleton (0 : Fin 1), bigSep_nothing]
  iempintro

/-! ## The program -/

/-- The three arrays of the segment call. -/
def callRefs : Finset (DevRef τ sig) := {Proc.devRef .tc main_v17, Proc.devRef .tc main_v19, Proc.devRef .tc main_v20}

/-- They are unscoped. -/
theorem callRefs_sub : callRefs ⊆ ucRefs := by
  intro b hb
  simp only [callRefs, Finset.mem_insert, Finset.mem_singleton] at hb
  rcases hb with rfl | rfl | rfl <;> exact Finset.mem_filter.mpr ⟨StableHlo.devRef_mem_tcRefs _, by decide⟩

/-- Held, they are the three arrays. -/
theorem callRefs_held (d : Dev nD) (X : Vals F) : (StableHlo.held (d.tc : Thread nD τ) callRefs X : sProp 𝕄)
    = iprop((gLoc d ↦{fullShare} X (Proc.devRef .tc main_v17)) ∗ (hLoc d ↦{fullShare} X (Proc.devRef .tc main_v19)) ∗ (oLoc d ↦{fullShare} X (Proc.devRef .tc main_v20))) := by
  unfold StableHlo.held callRefs
  rw [SparseCore.bigSep_insert' (by decide), SparseCore.bigSep_insert' (by decide), bigSep_singleton]

/-- An unscoped reference's buffer is among them. -/
theorem mem_ucRefs (r : Ref sig .tc) (h : r.isScoped = false) : Proc.devRef .tc r ∈ ucRefs :=
  Finset.mem_filter.mpr ⟨StableHlo.devRef_mem_tcRefs _, by rw [show (Proc.devRef (τ := τ) .tc r).isScoped = r.isScoped from rfl, h]; decide⟩

/-- The operations' buffers are unscoped, and none of them fresh. -/
theorem opsA_ok : ∀ op ∈ (opsA : List (HloOp τ sig (Elt F))), op.bufs ⊆ ucRefs ∧ op.fresh = ∅ := by
  intro op hop
  simp only [opsA, List.mem_cons, List.not_mem_nil, or_false] at hop
  rcases hop with rfl | rfl | rfl | rfl | rfl | rfl | rfl | rfl | rfl | rfl | rfl | rfl | rfl | rfl | rfl | rfl | rfl | rfl | rfl | rfl | rfl | rfl | rfl | rfl <;> refine ⟨?_, rfl⟩ <;>
    simp only [StableHlo.nullary_bufs, StableHlo.unary_bufs, StableHlo.binary_bufs, StableHlo.ternary_bufs, StableHlo.reshape_bufs, Finset.insert_subset_iff,
      Finset.singleton_subset_iff] <;> (repeat' constructor) <;> exact mem_ucRefs _ (by decide)

/-- The operations' buffers are unscoped, and none of them fresh. -/
theorem opsB_ok : ∀ op ∈ (opsB : List (HloOp τ sig (Elt F))), op.bufs ⊆ ucRefs ∧ op.fresh = ∅ := by
  intro op hop
  simp only [opsB, List.mem_cons, List.not_mem_nil, or_false] at hop
  rcases hop with rfl | rfl | rfl <;> refine ⟨?_, rfl⟩ <;>
    simp only [StableHlo.nullary_bufs, StableHlo.unary_bufs, StableHlo.binary_bufs, StableHlo.ternary_bufs, StableHlo.reshape_bufs, Finset.insert_subset_iff,
      Finset.singleton_subset_iff] <;> (repeat' constructor) <;> exact mem_ucRefs _ (by decide)

/-- The operations' buffers are unscoped, and none of them fresh. -/
theorem opsC_ok : ∀ op ∈ (opsC : List (HloOp τ sig (Elt F))), op.bufs ⊆ ucRefs ∧ op.fresh = ∅ := by
  intro op hop
  simp only [opsC, List.mem_cons, List.not_mem_nil, or_false] at hop
  rcases hop with rfl | rfl <;> refine ⟨?_, rfl⟩ <;>
    simp only [StableHlo.nullary_bufs, StableHlo.unary_bufs, StableHlo.binary_bufs, StableHlo.ternary_bufs, StableHlo.reshape_bufs, Finset.insert_subset_iff,
      Finset.singleton_subset_iff] <;> (repeat' constructor) <;> exact mem_ucRefs _ (by decide)

/-- The gated rows' call leaves only its result's array changed. -/
theorem WB_ne (c : Dev nD) (b : Ref sig .tc) (h : b ≠ main_v17) : WB m c b = WA m c b :=
  Function.update_of_ne (StableHlo.devRef_ne_of_ne h) _ _

/-- Before the segment call, its three arrays. -/
theorem WC_call (d : Dev nD) : (StableHlo.held (d.tc : Thread nD τ) callRefs (WC m d) : sProp 𝕄)
    = iprop((gLoc d ↦{fullShare} gOf m d) ∗ (hLoc d ↦{fullShare} hOf m d) ∗ (oLoc d ↦{fullShare} oOf m d)) := callRefs_held d (WC m d)

/-- After the segment call, its three arrays. -/
theorem WD_call (d : Dev nD) : (StableHlo.held (d.tc : Thread nD τ) callRefs (WD m d) : sProp 𝕄)
    = iprop((gLoc d ↦{fullShare} gOf m d) ∗ (hLoc d ↦{fullShare} hOf m d) ∗ (oLoc d ↦{fullShare} rB (gOf m) (hOf m) d)) := by
  rw [callRefs_held]
  unfold WD
  rw [Function.update_self, Function.update_of_ne (StableHlo.devRef_ne_of_ne (by decide)), Function.update_of_ne (StableHlo.devRef_ne_of_ne (by decide))]
  rfl

/-- After it, the rest as before. -/
theorem WD_rest (d : Dev nD) : (StableHlo.held (d.tc : Thread nD τ) (ucRefs \ callRefs) (WD m d) : sProp 𝕄)
    = StableHlo.held (d.tc : Thread nD τ) (ucRefs \ callRefs) (WC m d) :=
  StableHlo.held_congr _ fun b hb => Function.update_of_ne (fun h => (Finset.mem_sdiff.mp hb).2 (by rw [h]; simp [callRefs])) _ _

/-- The gated rows' call leaves its result's array at the gated rows. -/
theorem WB_out (c : Dev nD) : WB m c main_v17 = gatedAt (WA m) c := Function.update_self _ _ _

/-- The gated rows' call's step at the program's contents. -/
abbrev regAt (R : Dev nD → sProp 𝕄) := reg (WA m) (WB m) R (WB_out m) (WB_ne m)

set_option backward.isDefEq.respectTransparency.types false in
/-- The gated rows' call as a step of the whole program. -/
theorem wp_gated (d : Dev nD) (R : Dev nD → sProp 𝕄) (Q : PUnit → sProp 𝕄) :
    iprop(boundary (d.tc : Thread nD τ) ∗ (unscopedBufs d (fun b => WA m d b) ∗ R d ∗ ∃ w, ⌜(K (F := F)).WBelow (T d) w 0⌝ ∗ owes (T d) ((K (F := F)).Otc d 0) w)
        ∗ levAts (K (F := F)).L (K (F := F)).lev ∗ G (F := F) d
        ∗ ((boundary (d.tc : Thread nD τ) ∗ (unscopedBufs d (fun b => WB m d b) ∗ R d ∗ ∃ w, ⌜(K (F := F)).WBelow (T d) w 0⌝ ∗ owes (T d) ((K (F := F)).Otc d 0) w)) -∗ Q ⟨⟩))
      ⊢ wp frame (wpE ((K (F := F)).defs (D (F := F))) 𝒱 (SparseCore.T d) none) Set.univ (Prog.lift (.customCall (SparseCore.inner (Pipeline.entry 0)) ())) Q := by
  have h := Pipeline.RegionSeg.wp (pcfgs (F := F)) adm (pdats (WA m)) none pin_inj EQ defs₀ 𝒱₀ (K (F := F)).L (K (F := F)).lev
    (regAt m R) d none (fun u hu => nomatch hu) (fun _ => .ret ⟨⟩) Q
  iintro ⟨Hb, Hpre, Hl, ⟨Hc, Ht⟩, Hk⟩
  iapply ((K (F := F)).wp_liftProg (D (F := F)) 𝒱 (T d) Set.univ none (Prog.op (.customCall (Pipeline.entry 0) ()) fun _ => .ret ⟨⟩) Q)
  iapply h
  isplitl [Hk]
  · iintro H
    rw [wp_ret]
    imodintro
    iapply Hk
    iexact H
  isplitl [Hb]; · iexact Hb
  isplitl [Hpre]
  · iapply (Entails.of_eq (show (regAt m R).pre d = iprop(unscopedBufs d (fun b => WA m d b) ∗ R d ∗ ∃ w, ⌜(K (F := F)).WBelow (T d) w 0⌝ ∗ owes (T d) ((K (F := F)).Otc d 0) w) from rfl).symm)
    iexact Hpre
  isplitl [Hl]; · iexact Hl
  isplitl [Hc] <;> iassumption

/-- What the TensorCore owes before the segment call, taken out of its state there. -/
theorem tcSt_owes (d : Dev nD) : ((K (F := F)).tcSt EH d 0 : sProp 𝕄)
    ⊢ iprop((∃ w, ⌜(K (F := F)).WBelow (T d) w 0⌝ ∗ owes (T d) ((K (F := F)).Otc d 0) w)
        ∗ ((∃ w, ⌜(K (F := F)).WBelow (T d) w 0⌝ ∗ owes (T d) ((K (F := F)).Otc d 0) w) -∗ (K (F := F)).tcSt EH d 0)) := by
  unfold SparseCore.Cfg.tcSt
  iintro ⟨HO, Hst⟩
  isplitl [HO]
  · iexact HO
  iintro HO
  isplitl [HO]
  · iexact HO
  iexact Hst

/-- The program from its resources to its end. -/
theorem hmain (κ : GSem nD τ sig → ℕ) (d : Dev nD) :
    iprop((K (F := F)).ctx EH (P (gOf m) (hOf m) (oOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_lines, show (unscopedBufs d (fun b => m ((SparseCore.T d).loc b)) : sProp 𝕄) = StableHlo.held (d.tc : Thread nD τ) ucRefs (fun b => m (d, b)) from
    unscoped_held d fun b => m (d, b)]
  iintro ⟨#Hctx, Hst, ⟨Hb, Hbufs, Hts, -⟩, Hc, Ht⟩
  iapply (StableHlo.wp_seq 𝒱 none Set.univ d ucRefs _ opsA (fun op h => (opsA_ok op h).1) (fun op h => (opsA_ok op h).2) fun b => m (d, b)) $$ [Hb Hbufs]
  · isplitl [Hb] <;> iassumption
  iintro ⟨Hb, Hbufs⟩
  rw [wp_bind]
  ihave Hst := (tcSt_owes d) $$ Hst
  icases Hst with ⟨HO, Hst⟩
  ihave Hl := (SparseCore.Cfg.ctx_levAts κ) $$ Hctx
  iapply (wp_gated m d (fun _ => iprop(emp)) _)
  isplitl [Hb]; · iexact Hb
  isplitl [Hbufs HO]
  · isplitl [Hbufs]
    · iapply (Entails.of_eq (unscoped_held d (WA m d)).symm); iexact Hbufs
    isplitr; · iempintro
    iexact HO
  isplitl [Hl]; · iexact Hl
  isplitl [Hc Ht]; · isplitl [Hc] <;> iassumption
  iintro ⟨Hb, Hbufs, -, HO⟩
  ihave Hbufs := (Entails.of_eq (unscoped_held d (WB m d))) $$ Hbufs
  iapply (StableHlo.wp_seq 𝒱 none Set.univ d ucRefs _ opsB (fun op h => (opsB_ok op h).1) (fun op h => (opsB_ok op h).2) (WB m d)) $$ [Hb Hbufs]
  · isplitl [Hb] <;> iassumption
  iintro ⟨Hb, Hbufs⟩
  ihave Hbufs := (Entails.of_eq (show (StableHlo.held (d.tc : Thread nD τ) ucRefs (StableHlo.after opsB (WB m d)) : sProp 𝕄) = _ from StableHlo.held_sub_split (d.tc : Thread nD τ) callRefs_sub (WC m d))) $$ Hbufs
  icases Hbufs with ⟨Hthree, Hrest⟩
  ihave Hthree := (Entails.of_eq (WC_call m d)) $$ Hthree
  ihave Hparts := (call_parts (gOf m) (hOf m) (oOf m) d) $$ Hthree
  icases Hparts with ⟨Hst0, Hback⟩
  rw [wp_bind]
  iapply ((K (F := F)).wp_run (D (F := F)) 𝒱 (EH := EH) (P := P (gOf m) (hOf m) (oOf m)) κ d 0)
  isplitr; · iexact Hctx
  isplitl [HO Hst]
  · iapply Hst; iexact HO
  isplitl [Hst0]; · iexact Hst0
  iintro ⟨Hst, Hdn⟩
  ihave Hthree := Hback $$ Hdn
  iapply (StableHlo.wp_seq 𝒱 none Set.univ d ucRefs _ opsC (fun op h => (opsC_ok op h).1) (fun op h => (opsC_ok op h).2) (WD m d)) $$ [Hb Hthree Hrest]
  · isplitl [Hb]; · iexact Hb
    iapply (Entails.of_eq (StableHlo.held_sub_split (d.tc : Thread nD τ) callRefs_sub (WD m d)).symm)
    isplitl [Hthree]
    · iapply (Entails.of_eq (WD_call m d).symm); iexact Hthree
    · iapply (Entails.of_eq (WD_rest m d).symm); iexact Hrest
  iintro ⟨Hb, Hbufs⟩
  rw [wp_pure]
  imodintro
  isplitl [Hst]; · iexact Hst
  isplitl [Hbufs]; · iexact Hbufs
  isplitl [Hb] <;> iassumption

/-- Every run ends, quiescent, with every unscoped buffer at its last contents. -/
theorem run_main [∀ e, Nonempty (Elt F e)] (hs : ∀ d, Sorted (hOf m d)) :
    θ_run (Cert.KernelIdeal.defs (F := F)) (Cert.KernelIdeal.threads (F := F)) ⟨m, fun _ => 0, ρ⟩
      (fun r => (∀ d : Dev nD, ∀ b ∈ ucRefs, r.2.mem (d, b) = WE m d b) ∧ r.2.sem = fun _ => 0) :=
  SparseCore.Cfg.θ_run_sc_quiescent (K := K (F := F)) (D := D (F := F)) (𝒱 := 𝒱) (EH := EH) (P := P (gOf m) (hOf m) (oOf m)) (A := ∅) scFacts v₀
    (fun q hq => match q with | 0 => nomatch hq)
    (fun q _ => match q with | 0 => tileObl (gOf m) (hOf m) (oOf m) hs)
    (fun q _ => match q with | 0 => SparseCore.Cfg.VecSplit.of_plain (vecSplit (gOf m) (hOf m) (oOf m)))
    m ρ main (G (F := F)) (FIN m) (u₀ (F := F)) (sep_elim_left.trans (hu₀ (gOf m) (hOf m) (oOf m))) (hmain m ρ) (fq m) (hfin m) _ (fun _ h hz => ⟨h, hz⟩)

end Cert.KernelIdeal.Seg

end
-- ==== Proof.Ideal.Frame.lean ====
module

public import proofs.«01_k».proof.Proof.Ideal.Run
public import proofs.«01_k».proof.Proof.Pre

/-!
  The frame: under the precondition the program ends, its arguments as they were.
-/

@[expose] public section

set_option maxRecDepth 16384

noncomputable section

namespace Cert.KernelIdeal.Seg

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- What the host writes before the gated rows' call. -/
def wrA : List (Ref sig .tc) := [main_v0, main_cst, main_v1, main_v2, main_c, main_v3, main_v4, main_v5, main_c_0, main_v6, main_v7, main_v8, main_cst_1, main_v9,
  main_c_2, main_v10, main_v11, main_v12, main_c_3, main_v13, main_c_4, main_v14, main_v15, main_v16]
/-- What it writes between the calls. -/
def wrB : List (Ref sig .tc) := [main_c_5, main_v18, main_v19]
/-- What it writes after the segment call. -/
def wrC : List (Ref sig .tc) := [main_v21, main_v22]

/-- A buffer the first line does not write. -/
theorem afterA_ne (V : Vals F) (r : Ref sig .tc) (h : r ∉ wrA) : StableHlo.after opsA V (Proc.devRef .tc r) = V (Proc.devRef .tc r) :=
  StableHlo.after_of_writes_sub opsA V (StableHlo.forall_writes_sub_of_map (W := wrA) rfl) h
/-- A buffer the second line does not write. -/
theorem afterB_ne (V : Vals F) (r : Ref sig .tc) (h : r ∉ wrB) : StableHlo.after opsB V (Proc.devRef .tc r) = V (Proc.devRef .tc r) :=
  StableHlo.after_of_writes_sub opsB V (StableHlo.forall_writes_sub_of_map (W := wrB) rfl) h
/-- A buffer the third line does not write. -/
theorem afterC_ne (V : Vals F) (r : Ref sig .tc) (h : r ∉ wrC) : StableHlo.after opsC V (Proc.devRef .tc r) = V (Proc.devRef .tc r) :=
  StableHlo.after_of_writes_sub opsC V (StableHlo.forall_writes_sub_of_map (W := wrC) rfl) h

/-- A buffer nothing writes, at the segment call. -/
theorem WC_keep (d : Dev nD) (r : Ref sig .tc) (ha : r ∉ wrA) (hb : r ∉ wrB) (h17 : r ≠ main_v17) : WC m d (Proc.devRef .tc r) = m (d, Proc.devRef .tc r) := by
  unfold WC
  rw [afterB_ne _ r hb]
  unfold WB
  rw [Function.update_of_ne (fun e => h17 (Proc.devRef_injective .tc e))]
  unfold WA
  rw [afterA_ne _ r ha]

/-- A buffer nothing writes, at the end. -/
theorem WE_keep (d : Dev nD) (r : Ref sig .tc) (ha : r ∉ wrA) (hb : r ∉ wrB) (hc : r ∉ wrC) (h17 : r ≠ main_v17) (h20 : r ≠ main_v20) :
    WE m d (Proc.devRef .tc r) = m (d, Proc.devRef .tc r) := by
  unfold WE
  rw [afterC_ne _ r hc]
  unfold WD
  rw [Function.update_of_ne (fun e => h20 (Proc.devRef_injective .tc e)), WC_keep m d r ha hb h17]

/-- The splits the segment call reads: the argument's, then the number of rows. -/
theorem hOf_eq (d : Dev nD) : hOf m d = (concatenate S1032 0 [⟨S1025, (m (d, Proc.devRef .tc main_arg1) : IVec S1025 32)⟩,
    ⟨S7, (broadcastInDim S7 ![] bcast_S_S7 (constantI S_ 32 320000#32) : IVec S7 32)⟩] concatenates_S1025_S7_S1032_d0 : IVec S1032 32) := by
  have e : hOf m d = (concatenate S1032 0 [⟨S1025, (WB m d (Proc.devRef .tc main_arg1) : IVec S1025 32)⟩,
      ⟨S7, (broadcastInDim S7 ![] bcast_S_S7 (constantI S_ 32 320000#32) : IVec S7 32)⟩] concatenates_S1025_S7_S1032_d0 : IVec S1032 32) := by
    unfold hOf WC opsB
    after_results_simp <;> rfl
  rw [e]
  unfold WB
  rw [Function.update_of_ne (fun e => absurd (Proc.devRef_injective .tc e) (by decide : main_arg1 ≠ main_v17))]
  unfold WA
  rw [afterA_ne _ main_arg1 (by decide)]

/-- The splits at a place of the argument's. -/
theorem word_arg (d : Dev nD) (j : Nat) (h : j < 1025) : word (hOf m d) j = (m (d, Proc.devRef .tc main_arg1) : IVec S1025 32) (ix1 ⟨j, h⟩) := by
  unfold word
  rw [hOf_eq]
  exact concatenate_pair_apply_left 0 _ _ concatenates_S1025_S7_S1032_d0 _ rfl _ fun b => by
    fin_cases b
    exact (Nat.mod_eq_of_lt (show j < 1032 by omega)).symm

/-- Sorted splits within the rows, as the segment call takes them. -/
theorem sorted_hOf (d : Dev nD) (h : Cert.Pre_inputs.Splits (m (d, Proc.devRef .tc main_arg1) : IVec S1025 32)) : Sorted (hOf m d) := by
  intro j hj
  rw [word_arg m d j (by omega), word_arg m d (j + 1) (by omega)]
  exact ⟨h.2 j hj, h.1 _⟩

/-- The program's run under the precondition: its result's last contents, its arguments as they were. -/
theorem run_ends [∀ e, Nonempty (Elt F e)] (hs : ∀ d, Cert.Pre_inputs.Splits (m (d, Proc.devRef .tc main_arg1) : IVec S1025 32)) :
    θ_run (Cert.KernelIdeal.defs (F := F)) (Cert.KernelIdeal.threads (F := F)) ⟨m, fun _ => 0, ρ⟩ fun r =>
      (∀ c : Dev nD, r.2.mem ((c.tc : Thread nD τ).loc main_v22) = WE m c (Proc.devRef .tc main_v22)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) ∧ r.2.sem = fun _ => 0 := by
  refine (θ_run Cert.KernelIdeal.defs _ _).mono (fun r h => ⟨fun c => ?_, h.2⟩) (run_main m ρ fun d => sorted_hOf m d (hs d))
  have hk (r' : Ref sig .tc) (hu : r'.isScoped = false) (ha : r' ∉ wrA) (hb : r' ∉ wrB) (hc : r' ∉ wrC) (h17 : r' ≠ main_v17) (h20 : r' ≠ main_v20) :
      r.2.mem ((c.tc : Thread nD τ).loc r') = m ((c.tc : Thread nD τ).loc r') :=
    (h.1 c _ (mem_ucRefs r' hu)).trans (WE_keep m c r' ha hb hc h17 h20)
  exact ⟨h.1 c _ (mem_ucRefs main_v22 rfl),
    hk main_arg0 rfl (by decide) (by decide) (by decide) (by decide) (by decide), hk main_arg1 rfl (by decide) (by decide) (by decide) (by decide) (by decide),
    hk main_arg2 rfl (by decide) (by decide) (by decide) (by decide) (by decide), hk main_arg3 rfl (by decide) (by decide) (by decide) (by decide) (by decide),
    hk main_arg4 rfl (by decide) (by decide) (by decide) (by decide) (by decide), hk main_arg5 rfl (by decide) (by decide) (by decide) (by decide) (by decide),
    hk main_arg6 rfl (by decide) (by decide) (by decide) (by decide) (by decide), hk main_arg7 rfl (by decide) (by decide) (by decide) (by decide) (by decide)⟩

end Cert.KernelIdeal.Seg

end
-- ==== Proof.RowEq.lean ====
/-
  The mathematics of one row: the gated value as the reference writes it, the gated value as the kernel
  writes it, and their equality when the row and the matrices it meets are finite.
-/
module

public import Idealize.ShloMosaic.PureOps.Ideal
public import Idealize.ShloMosaic.PureOps.Ideal.Laws
public import Mathlib.Data.EReal.Operations

@[expose] public section

noncomputable section

namespace Seg

open Idealize.ShloMosaic

/-- The gate of a score: one over one plus the exponential of minus the score. -/
def gateOf (a : EReal) : EReal := Ideal.div 1 (1 + Ideal.exp (-a))

/-- One entry of the gated rows as the reference computes it: the two products one after the other. -/
def refRow (x : Fin 128 → EReal) (wo : Fin 128 → Fin 128 → EReal) (bo wt wg : Fin 128 → EReal) (bg bt : EReal) : EReal :=
  gateOf ((∑ k, x k * wg k) + bg) * ((∑ j, ((∑ k, x k * wo k j) + bo j) * wt j) + bt)

/-- The same entry as the kernel computes it: the two matrices multiplied first, then the row. -/
def kerRow (x : Fin 128 → EReal) (wo : Fin 128 → Fin 128 → EReal) (bo wt wg : Fin 128 → EReal) (bg bt : EReal) : EReal :=
  gateOf ((∑ k, wg k * x k) + bg) * ((∑ k, (∑ j, wt j * wo k j) * x k) + ((∑ j, wt j * bo j) + bt))

/-- A finite sum of real numbers, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The linear part of a row over the real numbers: multiplying the matrices first changes nothing. -/
theorem real_row (x : Fin 128 → ℝ) (wo : Fin 128 → Fin 128 → ℝ) (bo wt : Fin 128 → ℝ) :
    ∑ j, ((∑ k, x k * wo k j) + bo j) * wt j = (∑ k, (∑ j, wt j * wo k j) * x k) + ∑ j, wt j * bo j := by
  have h1 : ∀ j, ((∑ k, x k * wo k j) + bo j) * wt j = (∑ k, wt j * wo k j * x k) + wt j * bo j := by
    intro j
    rw [add_mul, Finset.sum_mul, mul_comm (bo j)]
    congr 1
    exact Finset.sum_congr rfl fun k _ => by ring
  rw [Finset.sum_congr rfl fun j _ => h1 j, Finset.sum_add_distrib, Finset.sum_comm]
  congr 1
  exact Finset.sum_congr rfl fun k _ => (Finset.sum_mul _ _ _).symm

/-- The two ways of computing a gated entry agree where the row, the first matrix, its bias and the second
    matrix hold finite numbers.  The gate's matrix and the other biases may hold anything. -/
theorem ker_eq_ref (x : Fin 128 → EReal) (wo : Fin 128 → Fin 128 → EReal) (bo wt wg : Fin 128 → EReal) (bg bt : EReal)
    (hx : ∀ k, ∃ r : ℝ, x k = r) (hwo : ∀ k j, ∃ r : ℝ, wo k j = r) (hbo : ∀ j, ∃ r : ℝ, bo j = r) (hwt : ∀ j, ∃ r : ℝ, wt j = r) :
    kerRow x wo bo wt wg bg bt = refRow x wo bo wt wg bg bt := by
  choose x' hx using hx
  choose wo' hwo using hwo
  choose bo' hbo using hbo
  choose wt' hwt using hwt
  obtain rfl : x = fun k => (x' k : EReal) := funext hx
  obtain rfl : wo = fun k j => (wo' k j : EReal) := funext fun k => funext (hwo k)
  obtain rfl : bo = fun j => (bo' j : EReal) := funext hbo
  obtain rfl : wt = fun j => (wt' j : EReal) := funext hwt
  have key : (∑ j, ((∑ k, (x' k : EReal) * (wo' k j : EReal)) + (bo' j : EReal)) * (wt' j : EReal))
      = (∑ k, (∑ j, (wt' j : EReal) * (wo' k j : EReal)) * (x' k : EReal)) + ∑ j, (wt' j : EReal) * (bo' j : EReal) := by
    have h := congrArg (fun r : ℝ => (r : EReal)) (real_row x' wo' bo' wt')
    simpa only [coe_sum, EReal.coe_add, EReal.coe_mul] using h
  unfold kerRow refRow
  rw [key, add_assoc]
  refine congrArg₂ (· * ·) (congrArg gateOf (congrArg (· + bg) ?_)) rfl
  exact Finset.sum_congr rfl fun k _ => mul_comm _ _

/-- An extended real whose larger of itself and its negative lies below infinity is a real number. -/
theorem real_of_abs_lt (x : EReal) (h : max x (-x) < ⊤) : ∃ r : ℝ, x = r := by
  induction x using EReal.rec with
  | bot => simp at h
  | top => simp at h
  | coe r => exact ⟨r, rfl⟩

end Seg
-- ==== Proof.MlpAt.lean ====
/-
  The TensorCore block read at an entry: the gate of the packed matrix's ninth row, times the product of the
  packed matrix's row with the two matrices.
-/
module

public import proofs.«01_k».proof.Proof.Ideal.Mlp
public import proofs.«01_k».proof.Proof.RowEq
public import Idealize.ShloMosaic.Lib.Pointwise
public import Idealize.ShloMosaic.Lib.IdealHost

@[expose] public section

set_option maxRecDepth 16384

noncomputable section

namespace Cert.KernelIdeal.Seg

open Idealize.ShloMosaic Cert.KernelIdeal Cert.KernelIdeal.Gen _root_.Seg

/-- The kernel's stacked matrix: the product of the packed matrix's first eight rows with the wide matrix, over the packed matrix's last eight rows. -/
def wcat (wg : FVec Ideal S16x128 .f32) (wt : FVec Ideal S128x128 .f32) : FVec Ideal S16x128 .f32 :=
  concatenate S16x128 0 [⟨S8x128, matmul (F := Ideal) dot_S8x128_S128x128_S8x128_1_0_0_1_n_n none
      (extractStridedSlice S8x128 ![0, 0] (shapeCast S16x128 wg shapeCasts_S16x128_S16x128) slices_S16x128_o0_0_S8x128)
      (shapeCast S128x128 wt shapeCasts_S128x128_S128x128) (constant S8x128 .f32 0x00000000#32)⟩,
    ⟨S8x128, extractStridedSlice S8x128 ![8, 0] (shapeCast S16x128 wg shapeCasts_S16x128_S16x128) slices_S16x128_o8_0_S8x128⟩] concatenates_S8x128_S8x128_S16x128_d0

/-- The first eight rows of the stacked matrix. -/
theorem wcat_top (wg : FVec Ideal S16x128 .f32) (wt : FVec Ideal S128x128 .f32) (c : Fin 8) (k : Fin 128) :
    wcat wg wt (ix2 ⟨c.val, by omega⟩ k) = ∑ j : Fin 128, wg (ix2 ⟨c.val, by omega⟩ j) * wt (ix2 j k) := by
  unfold wcat
  rw [concatenate_pair_apply_left (s₁ := S8x128) (s₂ := S8x128) (t := S16x128) 0 _ _ _ _ rfl (ix2 c k)
    (fun b => by match b with | ⟨0, _⟩ => rfl | ⟨1, _⟩ => rfl)]
  simp only [pointwise, Ideal.ofBits_zero_f32, zero_add]
  refine Finset.sum_congr rfl fun j _ => congrArg (· * wt (ix2 j k)) (congrArg wg ?_)
  funext b
  match b with
  | ⟨0, _⟩ => exact Fin.ext (Nat.zero_add _)
  | ⟨1, _⟩ => exact Fin.ext (Nat.zero_add _)

/-- The ninth row of the stacked matrix is the packed matrix's. -/
theorem wcat_gate (wg : FVec Ideal S16x128 .f32) (wt : FVec Ideal S128x128 .f32) (k : Fin 128) :
    wcat wg wt (ix2 8 k) = wg (ix2 8 k) := by
  unfold wcat
  rw [concatenate_pair_apply_right (s₁ := S8x128) (s₂ := S8x128) (t := S16x128) 0 _ _ _ _ rfl rfl (ix2 0 k)
    (fun b hb => by match b with | ⟨0, _⟩ => exact absurd rfl hb | ⟨1, _⟩ => rfl) rfl]
  simp only [pointwise]
  refine congrArg wg ?_
  funext b
  match b with
  | ⟨0, _⟩ => rfl
  | ⟨1, _⟩ => exact Fin.ext (Nat.zero_add _)

/-- The block from the stacked matrix on. -/
def mlpRest (v8 : FVec Ideal S16x128 .f32) (x : FVec Ideal S6400x128 .f32) (wg : FVec Ideal S16x128 .f32) (b0 : FVec Ideal S128x1 .f32)
    (b : FVec Ideal S8x128 .f32) : FVec Ideal S8x6400 .f32 :=
  mulf (F := Ideal) (broadcastTo S8x6400 (logistic (addf (extractStridedSlice S1x6400 ![8, 0]
        (matmul (F := Ideal) dot_S16x128_S6400x128_S16x6400_1_1_0_0_n_n none v8 x (constant S16x6400 .f32 0x00000000#32)) slices_S16x6400_o8_0_S1x6400)
      (broadcastTo S1x6400 (extractStridedSlice S1x1 ![0, 1] (shapeCast S8x128 b shapeCasts_S8x128_S8x128) slices_S8x128_o0_1_S1x1) broadcasts_S1x1_S1x6400))) broadcasts_S1x6400_S8x6400)
    (addf (extractStridedSlice S8x6400 ![0, 0]
        (matmul (F := Ideal) dot_S16x128_S6400x128_S16x6400_1_1_0_0_n_n none v8 x (constant S16x6400 .f32 0x00000000#32)) slices_S16x6400_o0_0_S8x6400)
      (broadcastTo S8x6400 (addf (matmul (F := Ideal) dot_S8x128_S128x1_S8x1_1_0_0_1_n_n none
          (extractStridedSlice S8x128 ![0, 0] (shapeCast S16x128 wg shapeCasts_S16x128_S16x128) slices_S16x128_o0_0_S8x128)
          (shapeCast S128x1 b0 shapeCasts_S128x1_S128x1) (constant S8x1 .f32 0x00000000#32))
        (extractStridedSlice S8x1 ![0, 0] (shapeCast S8x128 b shapeCasts_S8x128_S8x128) slices_S8x128_o0_0_S8x1)) broadcasts_S8x1_S8x6400))

/-- The block is computed through the stacked matrix. -/
theorem mlp_rest (x : FVec Ideal S6400x128 .f32) (wt : FVec Ideal S128x128 .f32) (wg : FVec Ideal S16x128 .f32) (b0 : FVec Ideal S128x1 .f32)
    (b : FVec Ideal S8x128 .f32) : mlp (F := Ideal) x wt wg b0 b = mlpRest (wcat wg wt) x wg b0 b := rfl

/-- An entry of the block, over any stacked matrix. -/
theorem mlpRest_at (v8 : FVec Ideal S16x128 .f32) (x : FVec Ideal S6400x128 .f32) (wg : FVec Ideal S16x128 .f32) (b0 : FVec Ideal S128x1 .f32)
    (b : FVec Ideal S8x128 .f32) (c : Fin 8) (n : Fin 6400) :
    mlpRest v8 x wg b0 b (ix2 c n)
      = gateOf ((∑ k : Fin 128, v8 (ix2 8 k) * x (ix2 n k)) + b (ix2 0 1))
        * ((∑ k : Fin 128, v8 (ix2 ⟨c.val, by omega⟩ k) * x (ix2 n k))
          + ((∑ j : Fin 128, wg (ix2 ⟨c.val, by omega⟩ j) * b0 (ix2 j 0)) + b (ix2 c 0))) := by
  unfold mlpRest
  simp only [pointwise, Ideal.ofBits_zero_f32, zero_add]
  refine congrArg₂ (· * ·) (congrArg gateOf (congrArg (· + b (ix2 0 1)) ?_)) (congrArg₂ (· + ·) ?_ (congrArg₂ (· + ·) ?_ ?_))
  · refine Finset.sum_congr rfl fun k _ => congrArg₂ (· * ·) (congrArg v8 ?_) (congrArg x ?_) <;> funext a <;> match a with | ⟨0, _⟩ => (first | rfl | exact Fin.ext (Nat.zero_add _)) | ⟨1, _⟩ => (first | rfl | exact Fin.ext (Nat.zero_add _))
  · refine Finset.sum_congr rfl fun k _ => congrArg₂ (· * ·) (congrArg v8 ?_) (congrArg x ?_) <;> funext a <;> match a with | ⟨0, _⟩ => (first | rfl | exact Fin.ext (Nat.zero_add _)) | ⟨1, _⟩ => (first | rfl | exact Fin.ext (Nat.zero_add _))
  · refine Finset.sum_congr rfl fun k _ => congrArg₂ (· * ·) (congrArg wg ?_) (congrArg b0 ?_) <;> funext a <;> match a with | ⟨0, _⟩ => (first | rfl | exact Fin.ext (Nat.zero_add _)) | ⟨1, _⟩ => (first | rfl | exact Fin.ext (Nat.zero_add _))
  · refine congrArg b ?_
    funext a
    match a with | ⟨0, _⟩ => (first | rfl | exact Fin.ext (Nat.zero_add _)) | ⟨1, _⟩ => (first | rfl | exact Fin.ext (Nat.zero_add _))

/-- One entry of the block that the TensorCore call computes, at row `n` of the block and output column `c`. -/
theorem mlp_at (x : FVec Ideal S6400x128 .f32) (wt : FVec Ideal S128x128 .f32) (wg : FVec Ideal S16x128 .f32) (b0 : FVec Ideal S128x1 .f32)
    (b : FVec Ideal S8x128 .f32) (c : Fin 8) (n : Fin 6400) :
    mlp (F := Ideal) x wt wg b0 b (ix2 c n)
      = gateOf ((∑ k : Fin 128, wg (ix2 8 k) * x (ix2 n k)) + b (ix2 0 1))
        * ((∑ k : Fin 128, (∑ j : Fin 128, wg (ix2 ⟨c.val, by omega⟩ j) * wt (ix2 j k)) * x (ix2 n k))
          + ((∑ j : Fin 128, wg (ix2 ⟨c.val, by omega⟩ j) * b0 (ix2 j 0)) + b (ix2 c 0))) := by
  rw [mlp_rest, mlpRest_at]
  simp only [wcat_gate, wcat_top]

end Cert.KernelIdeal.Seg
-- ==== Proof.Blocks.lean ====
/-
  The gated rows' array after the TensorCore call, read at an entry, and the call's blocks read at an entry.
-/
module

public import proofs.«01_k».proof.Proof.Ideal.Region
public import proofs.«01_k».proof.Proof.MlpAt
public import Idealize.ShloMosaic.Lib.Pipeline.Value
public import Idealize.ShloMosaic.Lib.Pipeline.ValueKit.Geometry

@[expose] public section

set_option maxRecDepth 16384

noncomputable section

namespace Cert.KernelIdeal.Seg

open Idealize.ShloMosaic Idealize.ShloMosaic.Pipeline Cert.KernelIdeal Cert.KernelIdeal.Gen _root_.Seg

variable (W : Dev nD → Vals Ideal)

/-- The output's block index at a point. -/
theorem index5 : ∀ t : Fin cfg0.N, (cfg0.win 5).index t 0 = t.val ∧ (cfg0.win 5).index t 1 = 0 ∧ (cfg0.win 5).index t 2 = 0 := by decide

/-- The rows' block index at a point. -/
theorem index0 : ∀ t : Fin cfg0.N, (cfg0.win 0).index t 0 = min t.val 49 ∧ (cfg0.win 0).index t 1 = 0 := by decide

/-- The transposed weights' block index at a point. -/
theorem index1 : ∀ t : Fin cfg0.N, (cfg0.win 1).index t 0 = 0 ∧ (cfg0.win 1).index t 1 = 0 := by decide
/-- The packed weights' block index at a point. -/
theorem index2 : ∀ t : Fin cfg0.N, (cfg0.win 2).index t 0 = 0 ∧ (cfg0.win 2).index t 1 = 0 := by decide
/-- The hidden biases' block index at a point. -/
theorem index3 : ∀ t : Fin cfg0.N, (cfg0.win 3).index t 0 = 0 ∧ (cfg0.win 3).index t 1 = 0 := by decide
/-- The packed biases' block index at a point. -/
theorem index4 : ∀ t : Fin cfg0.N, (cfg0.win 4).index t 0 = 0 ∧ (cfg0.win 4).index t 1 = 0 := by decide

/-- The rows' block at a point below fifty. -/
theorem stg0_at (c : Dev nD) (t : Fin cfg0.N) (ht : t.val < 50) (n : Fin 6400) (k : Fin 128) :
    (stg0 W c t : FVec Ideal S6400x128 .f32) (ix2 n k)
      = (W c (Proc.devRef .tc main_arg0) : FVec Ideal S320000x128 .f32) (ix2 ⟨6400 * t.val + n.val, by omega⟩ k) := by
  show (W c (Proc.devRef .tc main_arg0) : FVec Ideal S320000x128 .f32) (((cfg0.win 0).rect t).emb (ix2 n k)) = _
  refine congrArg (W c (Proc.devRef .tc main_arg0) : FVec Ideal S320000x128 .f32) ?_
  funext a
  have h := index0 t
  match a with
  | ⟨0, _⟩ =>
    refine Fin.ext ((Window.rect_emb_val (cfg0.win 0) t (ix2 n k) 0).trans ?_)
    rw [h.1]
    show min t.val 49 * 6400 + n.val = 6400 * t.val + n.val
    omega
  | ⟨1, _⟩ =>
    refine Fin.ext ((Window.rect_emb_val (cfg0.win 0) t (ix2 n k) 1).trans ?_)
    rw [h.2]
    show 0 * 128 + k.val = k.val
    omega

/-- The wide matrix's block is the whole matrix. -/
theorem stg1_eq (c : Dev nD) (t : Fin cfg0.N) : (stg1 W c t : FVec Ideal S128x128 .f32) = (W c (Proc.devRef .tc main_v0) : FVec Ideal S128x128 .f32) := by
  funext y
  show (W c (Proc.devRef .tc main_v0) : FVec Ideal S128x128 .f32) (((cfg0.win 1).rect t).emb y) = _
  refine congrArg (W c (Proc.devRef .tc main_v0) : FVec Ideal S128x128 .f32) ?_
  funext a
  match a with
  | ⟨0, _⟩ => exact Fin.ext (Window.rect_emb_val_of_index_zero (cfg0.win 1) t 0 (index1 t).1 y)
  | ⟨1, _⟩ => exact Fin.ext (Window.rect_emb_val_of_index_zero (cfg0.win 1) t 1 (index1 t).2 y)

/-- The packed matrix's block is the whole matrix. -/
theorem stg2_eq (c : Dev nD) (t : Fin cfg0.N) : (stg2 W c t : FVec Ideal S16x128 .f32) = (W c (Proc.devRef .tc main_v7) : FVec Ideal S16x128 .f32) := by
  funext y
  show (W c (Proc.devRef .tc main_v7) : FVec Ideal S16x128 .f32) (((cfg0.win 2).rect t).emb y) = _
  refine congrArg (W c (Proc.devRef .tc main_v7) : FVec Ideal S16x128 .f32) ?_
  funext a
  match a with
  | ⟨0, _⟩ => exact Fin.ext (Window.rect_emb_val_of_index_zero (cfg0.win 2) t 0 (index2 t).1 y)
  | ⟨1, _⟩ => exact Fin.ext (Window.rect_emb_val_of_index_zero (cfg0.win 2) t 1 (index2 t).2 y)

/-- The first bias's block is the whole column. -/
theorem stg3_eq (c : Dev nD) (t : Fin cfg0.N) : (stg3 W c t : FVec Ideal S128x1 .f32) = (W c (Proc.devRef .tc main_v8) : FVec Ideal S128x1 .f32) := by
  funext y
  show (W c (Proc.devRef .tc main_v8) : FVec Ideal S128x1 .f32) (((cfg0.win 3).rect t).emb y) = _
  refine congrArg (W c (Proc.devRef .tc main_v8) : FVec Ideal S128x1 .f32) ?_
  funext a
  match a with
  | ⟨0, _⟩ => exact Fin.ext (Window.rect_emb_val_of_index_zero (cfg0.win 3) t 0 (index3 t).1 y)
  | ⟨1, _⟩ => exact Fin.ext (Window.rect_emb_val_of_index_zero (cfg0.win 3) t 1 (index3 t).2 y)

/-- The packed biases' block is the whole array. -/
theorem stg4_eq (c : Dev nD) (t : Fin cfg0.N) : (stg4 W c t : FVec Ideal S8x128 .f32) = (W c (Proc.devRef .tc main_v16) : FVec Ideal S8x128 .f32) := by
  funext y
  show (W c (Proc.devRef .tc main_v16) : FVec Ideal S8x128 .f32) (((cfg0.win 4).rect t).emb y) = _
  refine congrArg (W c (Proc.devRef .tc main_v16) : FVec Ideal S8x128 .f32) ?_
  funext a
  match a with
  | ⟨0, _⟩ => exact Fin.ext (Window.rect_emb_val_of_index_zero (cfg0.win 4) t 0 (index4 t).1 y)
  | ⟨1, _⟩ => exact Fin.ext (Window.rect_emb_val_of_index_zero (cfg0.win 4) t 1 (index4 t).2 y)

/-- Tile `50 t + u` of the gated rows' array is tile `u` of the block that point `t` writes. -/
theorem gatedAt_at (c : Dev nD) (t : Fin cfg0.N) (u : Fin 50) (r : Fin 8) (l : Fin 128) (ht : 50 * t.val + u.val < 2550) :
    (gatedAt W c : FVec Ideal S2550x8x128 .f32) (ix3 ⟨50 * t.val + u.val, ht⟩ r l)
      = mlp (F := Ideal) (stg0 W c t) (stg1 W c t) (stg2 W c t) (stg3 W c t) (stg4 W c t) (ix2 r ⟨128 * u.val + l.val, by omega⟩) := by
  have hd := Window.hdisj_of_index_inj (cfg0.win 5) fun t t' _ _ e => by
    refine Fin.ext ?_
    rw [← (index5 t).1, ← (index5 t').1, e]
  have h := (dat W c).arrAt_emb_eq_flushed 5 hd t (flush0_5 t) (ix3 u r l)
  have e : (((cfg0.win 5).blk t).view.emb (ix3 u r l) : S2550x8x128.Idx) = ix3 ⟨50 * t.val + u.val, ht⟩ r l := by
    funext a
    match a with
    | ⟨0, _⟩ =>
      refine Fin.ext ((Window.rect_emb_val (cfg0.win 5) t (ix3 u r l) 0).trans ?_)
      rw [(index5 t).1]
      show t.val * 50 + u.val = 50 * t.val + u.val
      omega
    | ⟨1, _⟩ =>
      refine Fin.ext ((Window.rect_emb_val (cfg0.win 5) t (ix3 u r l) 1).trans ?_)
      rw [(index5 t).2.1]
      show 0 * 8 + r.val = r.val
      omega
    | ⟨2, _⟩ =>
      refine Fin.ext ((Window.rect_emb_val (cfg0.win 5) t (ix3 u r l) 2).trans ?_)
      rw [(index5 t).2.2]
      show 0 * 128 + l.val = l.val
      omega
  rw [← e]
  exact h

end Cert.KernelIdeal.Seg
-- ==== Proof.Packs.lean ====
/-
  The arrays that the host packs for the TensorCore call, read at the entries that the call uses.
-/
module

public import proofs.«01_k».proof.Proof.Ideal.Frame
public import proofs.«01_k».proof.Proof.Blocks
public import Idealize.ShloMosaic.Lib.Pointwise
public import Idealize.ShloMosaic.Lib.Routing.OpsSet
public import Idealize.ShloMosaic.Lib.Routing.OpsPair

@[expose] public section

set_option maxRecDepth 16384

noncomputable section

namespace Cert.KernelIdeal.Seg

open Idealize.ShloMosaic Idealize.ShloMosaic.TcCoe Cert.KernelIdeal Cert.KernelIdeal.Gen _root_.Seg

/-- The index word of a scatter at a literal row or column. -/
def word1 (k : BitVec 32) : IVec S1 32 := broadcastInDim S1 ![] bcast_S_S1 (constantI S_ 32 k)

/-- The packed matrix: the second matrix turned over in its first eight rows, the gate's column in its ninth. -/
def packW (a4 : FVec Ideal S128x1 .f32) (a6 : FVec Ideal S128x8 .f32) : FVec Ideal S16x128 .f32 :=
  Host.scatter scatter_S16x128_S1_S128_0_0_0_0 (fun _ b => b)
    (Host.scatter scatter_S16x128_S1_S8x128_01_n_0_0 (fun _ b => b) (broadcastInDim S16x128 ![] bcast_S_S16x128 (constant S_ .f32 0x00000000#32)) (word1 0#32)
      (transpose S8x128 [1, 0] a6 transposes_S128x8_S8x128_1_0))
    (word1 8#32) (shapeCast S128 a4 shapeCasts_S128x1_S128)

/-- The packed biases: the second bias in the first column, the gate's bias beside its first entry. -/
def packB (a5 : FVec Ideal S1 .f32) (a7 : FVec Ideal S8 .f32) : FVec Ideal S8x128 .f32 :=
  Host.scatter scatter_S8x128_S2_S__n_01_01_0 (fun _ b => b)
    (Host.scatter scatter_S8x128_S1_S8_0_1_1_0 (fun _ b => b) (broadcastInDim S8x128 ![] bcast_S_S8x128 (constant S_ .f32 0x00000000#32)) (word1 0#32) a7)
    (concatenate S2 0 [⟨S1, word1 0#32⟩, ⟨S1, word1 1#32⟩] concatenates_S1_S1_S2_d0) (shapeCast S_ a5 shapeCasts_S1_S_)

/-- The first scatter writes the first eight rows. -/
theorem lands_top (p : Fin 8) (q : Fin 128) (r : Fin 16) (c : Fin 128) :
    scatter_S16x128_S1_S8x128_01_n_0_0.resultIdx? (ix2 p q) (word1 0#32) = some (ix2 r c) ↔ p.val = r.val ∧ q.val = c.val := by
  have s0 : scatter_S16x128_S1_S8x128_01_n_0_0.start (ix2 p q) (word1 0#32) 0 = 0 := rfl
  have s1 : scatter_S16x128_S1_S8x128_01_n_0_0.start (ix2 p q) (word1 0#32) 1 = 0 := rfl
  have w0 : scatter_S16x128_S1_S8x128_01_n_0_0.window (ix2 p q) 0 = p.val := rfl
  have w1 : scatter_S16x128_S1_S8x128_01_n_0_0.window (ix2 p q) 1 = q.val := rfl
  have v0 : (((ix2 r c : (⟨2, ![16, 128]⟩ : Shape).Idx) 0).val : Int) = r.val := rfl
  have v1 : (((ix2 r c : (⟨2, ![16, 128]⟩ : Shape).Idx) 1).val : Int) = c.val := rfl
  refine (Routing.resultIdx?_eq_some scatter_S16x128_S1_S8x128_01_n_0_0 (ix2 p q) (word1 0#32) (ix2 r c)).trans ⟨fun h => ?_, fun h a => ?_⟩
  · have h0 := h 0
    have h1 := h 1
    rw [s0, w0] at h0
    rw [s1, w1] at h1
    omega
  · match a with
    | ⟨0, _⟩ =>
      show scatter_S16x128_S1_S8x128_01_n_0_0.start (ix2 p q) (word1 0#32) 0 + (scatter_S16x128_S1_S8x128_01_n_0_0.window (ix2 p q) 0 : Int) = (r.val : Int)
      rw [s0, w0]; omega
    | ⟨1, _⟩ =>
      show scatter_S16x128_S1_S8x128_01_n_0_0.start (ix2 p q) (word1 0#32) 1 + (scatter_S16x128_S1_S8x128_01_n_0_0.window (ix2 p q) 1 : Int) = (c.val : Int)
      rw [s1, w1]; omega

/-- The second scatter writes the ninth row. -/
theorem lands_row (q : Fin 128) (r : Fin 16) (c : Fin 128) :
    scatter_S16x128_S1_S128_0_0_0_0.resultIdx? (ix1 q) (word1 8#32) = some (ix2 r c) ↔ r.val = 8 ∧ q.val = c.val := by
  have s0 : scatter_S16x128_S1_S128_0_0_0_0.start (ix1 q) (word1 8#32) 0 = 8 := rfl
  have s1 : scatter_S16x128_S1_S128_0_0_0_0.start (ix1 q) (word1 8#32) 1 = 0 := rfl
  have w0 : scatter_S16x128_S1_S128_0_0_0_0.window (ix1 q) 0 = 0 := rfl
  have w1 : scatter_S16x128_S1_S128_0_0_0_0.window (ix1 q) 1 = q.val := rfl
  have v0 : (((ix2 r c : (⟨2, ![16, 128]⟩ : Shape).Idx) 0).val : Int) = r.val := rfl
  have v1 : (((ix2 r c : (⟨2, ![16, 128]⟩ : Shape).Idx) 1).val : Int) = c.val := rfl
  refine (Routing.resultIdx?_eq_some scatter_S16x128_S1_S128_0_0_0_0 (ix1 q) (word1 8#32) (ix2 r c)).trans ⟨fun h => ?_, fun h a => ?_⟩
  · have h0 := h 0
    have h1 := h 1
    rw [s0, w0] at h0
    rw [s1, w1] at h1
    omega
  · match a with
    | ⟨0, _⟩ =>
      show scatter_S16x128_S1_S128_0_0_0_0.start (ix1 q) (word1 8#32) 0 + (scatter_S16x128_S1_S128_0_0_0_0.window (ix1 q) 0 : Int) = (r.val : Int)
      rw [s0, w0]; omega
    | ⟨1, _⟩ =>
      show scatter_S16x128_S1_S128_0_0_0_0.start (ix1 q) (word1 8#32) 1 + (scatter_S16x128_S1_S128_0_0_0_0.window (ix1 q) 1 : Int) = (c.val : Int)
      rw [s1, w1]; omega

/-- The third scatter writes the first column. -/
theorem lands_bias (p : Fin 8) (r : Fin 8) (c : Fin 128) :
    scatter_S8x128_S1_S8_0_1_1_0.resultIdx? (ix1 p) (word1 0#32) = some (ix2 r c) ↔ p.val = r.val ∧ c.val = 0 := by
  have s0 : scatter_S8x128_S1_S8_0_1_1_0.start (ix1 p) (word1 0#32) 0 = 0 := rfl
  have s1 : scatter_S8x128_S1_S8_0_1_1_0.start (ix1 p) (word1 0#32) 1 = 0 := rfl
  have w0 : scatter_S8x128_S1_S8_0_1_1_0.window (ix1 p) 0 = p.val := rfl
  have w1 : scatter_S8x128_S1_S8_0_1_1_0.window (ix1 p) 1 = 0 := rfl
  have v0 : (((ix2 r c : (⟨2, ![8, 128]⟩ : Shape).Idx) 0).val : Int) = r.val := rfl
  have v1 : (((ix2 r c : (⟨2, ![8, 128]⟩ : Shape).Idx) 1).val : Int) = c.val := rfl
  refine (Routing.resultIdx?_eq_some scatter_S8x128_S1_S8_0_1_1_0 (ix1 p) (word1 0#32) (ix2 r c)).trans ⟨fun h => ?_, fun h a => ?_⟩
  · have h0 := h 0
    have h1 := h 1
    rw [s0, w0] at h0
    rw [s1, w1] at h1
    omega
  · match a with
    | ⟨0, _⟩ =>
      show scatter_S8x128_S1_S8_0_1_1_0.start (ix1 p) (word1 0#32) 0 + (scatter_S8x128_S1_S8_0_1_1_0.window (ix1 p) 0 : Int) = (r.val : Int)
      rw [s0, w0]; omega
    | ⟨1, _⟩ =>
      show scatter_S8x128_S1_S8_0_1_1_0.start (ix1 p) (word1 0#32) 1 + (scatter_S8x128_S1_S8_0_1_1_0.window (ix1 p) 1 : Int) = (c.val : Int)
      rw [s1, w1]; omega

/-- The last scatter writes one entry of the second column. -/
theorem lands_cell (k : S_.Idx) (r : Fin 8) (c : Fin 128) :
    scatter_S8x128_S2_S__n_01_01_0.resultIdx? k (concatenate S2 0 [⟨S1, word1 0#32⟩, ⟨S1, word1 1#32⟩] concatenates_S1_S1_S2_d0) = some (ix2 r c) ↔ r.val = 0 ∧ c.val = 1 := by
  have s0 : scatter_S8x128_S2_S__n_01_01_0.start k (concatenate S2 0 [⟨S1, word1 0#32⟩, ⟨S1, word1 1#32⟩] concatenates_S1_S1_S2_d0) 0 = 0 := rfl
  have s1 : scatter_S8x128_S2_S__n_01_01_0.start k (concatenate S2 0 [⟨S1, word1 0#32⟩, ⟨S1, word1 1#32⟩] concatenates_S1_S1_S2_d0) 1 = 1 := rfl
  have w0 : scatter_S8x128_S2_S__n_01_01_0.window k 0 = 0 := rfl
  have w1 : scatter_S8x128_S2_S__n_01_01_0.window k 1 = 0 := rfl
  have v0 : (((ix2 r c : (⟨2, ![8, 128]⟩ : Shape).Idx) 0).val : Int) = r.val := rfl
  have v1 : (((ix2 r c : (⟨2, ![8, 128]⟩ : Shape).Idx) 1).val : Int) = c.val := rfl
  refine (Routing.resultIdx?_eq_some scatter_S8x128_S2_S__n_01_01_0 k (concatenate S2 0 [⟨S1, word1 0#32⟩, ⟨S1, word1 1#32⟩] concatenates_S1_S1_S2_d0) (ix2 r c)).trans ⟨fun h => ?_, fun h a => ?_⟩
  · have h0 := h 0
    have h1 := h 1
    rw [s0, w0] at h0
    rw [s1, w1] at h1
    omega
  · match a with
    | ⟨0, _⟩ =>
      show scatter_S8x128_S2_S__n_01_01_0.start k (concatenate S2 0 [⟨S1, word1 0#32⟩, ⟨S1, word1 1#32⟩] concatenates_S1_S1_S2_d0) 0 + (scatter_S8x128_S2_S__n_01_01_0.window k 0 : Int) = (r.val : Int)
      rw [s0, w0]; omega
    | ⟨1, _⟩ =>
      show scatter_S8x128_S2_S__n_01_01_0.start k (concatenate S2 0 [⟨S1, word1 0#32⟩, ⟨S1, word1 1#32⟩] concatenates_S1_S1_S2_d0) 1 + (scatter_S8x128_S2_S__n_01_01_0.window k 1 : Int) = (c.val : Int)
      rw [s1, w1]; omega

/-- An index of two axes is its two coordinates. -/
theorem split2 {A B : Nat} (k : (⟨2, ![A, B]⟩ : Shape).Idx) : ∃ (p : Fin A) (q : Fin B), k = ix2 p q :=
  ⟨k 0, k 1, by funext a; match a with | ⟨0, _⟩ => rfl | ⟨1, _⟩ => rfl⟩

/-- An index of one axis is its coordinate. -/
theorem split1 {A : Nat} (k : (⟨1, ![A]⟩ : Shape).Idx) : ∃ p : Fin A, k = ix1 p :=
  ⟨k 0, by funext a; match a with | ⟨0, _⟩ => rfl⟩

/-- The packed matrix's first eight rows. -/
theorem packW_top (a4 : FVec Ideal S128x1 .f32) (a6 : FVec Ideal S128x8 .f32) (c : Fin 8) (j : Fin 128) :
    packW a4 a6 (ix2 ⟨c.val, by omega⟩ j) = a6 (ix2 j c) := by
  unfold packW
  refine (Routing.scatter_set_miss _ _ _ _ _ fun k h => ?_).trans ?_
  · obtain ⟨q, rfl⟩ := split1 k
    have := ((lands_row q _ _).mp h).1
    dsimp only at this
    omega
  · refine Routing.scatter_set_hit _ _ _ _ _ _ (fun k h => ?_) (ix2 c j) ((lands_top c j _ _).mpr ⟨rfl, rfl⟩)
    obtain ⟨p, q, rfl⟩ := split2 k
    obtain ⟨h1, h2⟩ := (lands_top p q _ _).mp h
    obtain rfl : p = c := Fin.ext h1
    obtain rfl : q = j := Fin.ext h2
    simp only [pointwise]

/-- The packed matrix's ninth row. -/
theorem packW_gate (a4 : FVec Ideal S128x1 .f32) (a6 : FVec Ideal S128x8 .f32) (j : Fin 128) :
    packW a4 a6 (ix2 8 j) = a4 (ix2 j 0) := by
  unfold packW
  refine Routing.scatter_set_hit _ _ _ _ _ _ (fun k h => ?_) (ix1 j) ((lands_row j _ _).mpr ⟨rfl, rfl⟩)
  obtain ⟨q, rfl⟩ := split1 k
  obtain rfl : q = j := Fin.ext ((lands_row q _ _).mp h).2
  simp only [pointwise]

/-- The packed biases' first column. -/
theorem packB_col (a5 : FVec Ideal S1 .f32) (a7 : FVec Ideal S8 .f32) (c : Fin 8) : packB a5 a7 (ix2 c 0) = a7 (ix1 c) := by
  unfold packB
  refine (Routing.scatter_set_miss _ _ _ _ _ fun k h => ?_).trans ?_
  · have := ((lands_cell k _ _).mp h).2
    exact absurd this (by decide)
  · refine Routing.scatter_set_hit _ _ _ _ _ _ (fun k h => ?_) (ix1 c) ((lands_bias c _ _).mpr ⟨rfl, rfl⟩)
    obtain ⟨p, rfl⟩ := split1 k
    obtain rfl : p = c := Fin.ext ((lands_bias p _ _).mp h).1
    rfl

/-- The packed biases' one entry of the second column. -/
theorem packB_gate (a5 : FVec Ideal S1 .f32) (a7 : FVec Ideal S8 .f32) : packB a5 a7 (ix2 0 1) = a5 (ix1 0) := by
  unfold packB
  refine Routing.scatter_set_hit _ _ _ _ _ _ (fun k h => ?_) (fun a => a.elim0) ((lands_cell _ _ _).mpr ⟨rfl, rfl⟩)
  refine congrArg a5 ?_
  funext a
  match a with
  | ⟨0, _⟩ => exact Subsingleton.elim (α := Fin 1) _ _

variable (m : (ℓ : Loc nD τ sig) → Buf (Elt Ideal) ℓ)

/-- The wide matrix's array at the call. -/
theorem WA_v0 (d : Dev nD) : (WA m d (Proc.devRef .tc main_v0) : FVec Ideal S128x128 .f32)
    = transpose S128x128 [1, 0] (m (d, Proc.devRef .tc main_arg2) : FVec Ideal S128x128 .f32) transposes_S128x128_S128x128_1_0 := by
  unfold WA opsA
  after_results_simp <;> rfl

/-- The packed matrix's array at the call. -/
theorem WA_v7 (d : Dev nD) : (WA m d (Proc.devRef .tc main_v7) : FVec Ideal S16x128 .f32)
    = packW (m (d, Proc.devRef .tc main_arg4)) (m (d, Proc.devRef .tc main_arg6)) := by
  unfold WA opsA
  after_results_simp <;> rfl

/-- The first bias's array at the call. -/
theorem WA_v8 (d : Dev nD) : (WA m d (Proc.devRef .tc main_v8) : FVec Ideal S128x1 .f32)
    = shapeCast S128x1 (m (d, Proc.devRef .tc main_arg3) : FVec Ideal S128 .f32) shapeCasts_S128_S128x1 := by
  unfold WA opsA
  after_results_simp <;> rfl

/-- The packed biases' array at the call. -/
theorem WA_v16 (d : Dev nD) : (WA m d (Proc.devRef .tc main_v16) : FVec Ideal S8x128 .f32)
    = packB (m (d, Proc.devRef .tc main_arg5)) (m (d, Proc.devRef .tc main_arg7)) := by
  unfold WA opsA
  after_results_simp <;> rfl

/-- The rows' array at the call. -/
theorem WA_arg0 (d : Dev nD) : WA m d (Proc.devRef .tc main_arg0) = m (d, Proc.devRef .tc main_arg0) := by
  unfold WA opsA
  after_results_simp <;> rfl

end Cert.KernelIdeal.Seg
-- ==== Proof.SegSum.lean ====
module

public import proofs.«01_k».proof.Proof.Ideal.Whole
public import Idealize.ShloMosaic.PureOps.Ideal
public import Idealize.ShloMosaic.PureOps.Ideal.Laws
public import Idealize.ShloMosaic.Lib.IdealHost
public import Mathlib.Data.EReal.Operations
public import Mathlib.Algebra.BigOperators.Intervals

/-!
  What a segment leaves at the ideal floats: the sum of its columns over their number.
-/

@[expose] public section

noncomputable section

namespace Cert.KernelIdeal.Seg

open Cert.KernelIdeal Cert.KernelIdeal.Gen
open Idealize.ShloMosaic

/-- The eight running vectors, by row. -/
def comp (a : Acc Ideal) (r : Nat) : FVec Ideal S16 .f32 :=
  if r = 7 then a.2.2.2.2.2.2.2 else if r = 6 then a.2.2.2.2.2.2.1 else if r = 5 then a.2.2.2.2.2.1 else if r = 4 then a.2.2.2.2.1
  else if r = 3 then a.2.2.2.1 else if r = 2 then a.2.2.1 else if r = 1 then a.2.1 else a.1

/-- The sum of a vector's lanes. -/
def tot (v : FVec Ideal S16 .f32) : EReal := ∑ l ∈ Finset.range 16, lane v l

/-- Summing by halves sums the lanes. -/
theorem laneSum_eq (v : FVec Ideal S16 .f32) : laneSum v = tot v := by
  unfold laneSum tot
  simp only [fold, Ideal.addf_def, Finset.sum_range_succ, Finset.sum_range_zero, zero_add, Nat.reduceAdd]
  ac_rfl

/-- The lanes of a sum add. -/
theorem tot_add (v w : FVec Ideal S16 .f32) : tot (addf v w) = tot v + tot w := by
  unfold tot
  rw [← Finset.sum_add_distrib]
  rfl

/-- The lanes of sixteen columns. -/
theorem tot_vec (col : Nat → EReal) (j : Nat) : tot (vec (F := Ideal) col j) = ∑ l ∈ Finset.range 16, col (16 * j + l) := by
  unfold tot
  refine Finset.sum_congr rfl fun l hl => ?_
  show col (16 * j + l % 16) = _
  rw [Nat.mod_eq_of_lt (Finset.mem_range.mp hl)]

/-- The lanes of sixteen masked columns. -/
theorem tot_mask (col : Nat → EReal) (s e B j : Nat) :
    tot (select (maskN s e B j) (vec (F := Ideal) col j) zeroV)
      = ∑ l ∈ Finset.range 16, if s ≤ B + (16 * j + l) ∧ B + (16 * j + l) < e then col (16 * j + l) else 0 := by
  unfold tot
  refine Finset.sum_congr rfl fun l hl => ?_
  show (if BitVec.ofBool (decide (s ≤ B + 16 * j + l % 16) && decide (B + 16 * j + l % 16 < e)) = 1#1 then col (16 * j + l % 16) else Ideal.ofBits .f32 0x00000000#32) = _
  rw [Nat.mod_eq_of_lt (Finset.mem_range.mp hl), Ideal.ofBits_zero_f32]
  refine if_congr ?_ rfl rfl
  rw [Nat.add_assoc]
  by_cases h1 : s ≤ B + (16 * j + l) <;> by_cases h2 : B + (16 * j + l) < e <;> simp [h1, h2]

/-- Rounds that each add to every row's sum add up. -/
theorem tot_iterN (n : Nat) (f : Nat → Acc Ideal → Acc Ideal) (r : Nat) (b : Nat → EReal) (h : ∀ k, k < n → ∀ a, tot (comp (f k a) r) = tot (comp a r) + b k) (a : Acc Ideal) :
    tot (comp (iterN n f a) r) = tot (comp a r) + ∑ k ∈ Finset.range n, b k := by
  induction n with
  | zero => simp [iterN_zero]
  | succ n ih => rw [iterN_succ, h n (by omega), ih (fun k hk => h k (by omega)), Finset.sum_range_succ, add_assoc]

/-- A whole vector's round. -/
theorem tot_full (t : Nat → Nat → EReal) (j : Nat) (r : Nat) (hr : r < 8) (a : Acc Ideal) :
    tot (comp (fullVal (F := Ideal) t j a) r) = tot (comp a r) + ∑ l ∈ Finset.range 16, t r (16 * j + l) := by
  rw [← tot_vec, ← tot_add]
  obtain rfl | rfl | rfl | rfl | rfl | rfl | rfl | rfl : r = 0 ∨ r = 1 ∨ r = 2 ∨ r = 3 ∨ r = 4 ∨ r = 5 ∨ r = 6 ∨ r = 7 := by omega
  all_goals rfl

/-- A column of the tile that begins at `B`, if it is the segment's. -/
def cut (col : Nat → EReal) (s e B c : Nat) : EReal := if s ≤ B + c ∧ B + c < e then col c else 0

/-- A masked vector's round. -/
theorem tot_masked (t : Nat → Nat → EReal) (s e B j : Nat) (r : Nat) (hr : r < 8) (a : Acc Ideal) :
    tot (comp (maskVal (F := Ideal) t (maskN s e B) j a) r) = tot (comp a r) + ∑ l ∈ Finset.range 16, cut (t r) s e B (16 * j + l) := by
  unfold cut
  rw [← tot_mask, ← tot_add]
  obtain rfl | rfl | rfl | rfl | rfl | rfl | rfl | rfl : r = 0 ∨ r = 1 ∨ r = 2 ∨ r = 3 ∨ r = 4 ∨ r = 5 ∨ r = 6 ∨ r = 7 := by omega
  all_goals rfl

/-- A sum by blocks is the sum. -/
theorem sum_blocks (n k : Nat) (f : Nat → EReal) : ∑ j ∈ Finset.range n, ∑ l ∈ Finset.range k, f (k * j + l) = ∑ c ∈ Finset.range (k * n), f c := by
  induction n with
  | zero => simp
  | succ n ih => rw [Finset.sum_range_succ, ih, Nat.mul_succ, Finset.sum_range_add]

/-- A sum of rounds counted from `p` to `q`. -/
theorem sum_from (p q : Nat) (b : Nat → EReal) : ∑ k ∈ Finset.range (q - p), b (p + k) = ∑ j ∈ Finset.Ico p q, b j :=
  (Finset.sum_Ico_eq_sum_range b p q).symm

/-- A tile's rounds add the segment's columns of it. -/
theorem tot_tile (t : Nat → Nat → EReal) (s e B : Nat) (hse : s ≤ e) (r : Nat) (hr : r < 8) (a : Acc Ideal) :
    tot (comp (tileVal (F := Ideal) t s e B a) r) = tot (comp a r) + ∑ c ∈ Finset.range 128, cut (t r) s e B c := by
  unfold tileVal
  dsimp only
  generalize hp : min 128 (s - B) = p
  generalize hq : min 128 (e - B) = q
  have hpq : p ≤ q := by omega
  have hq8 : q ≤ 128 := by omega
  rw [tot_iterN _ _ r (fun k => ∑ l ∈ Finset.range 16, cut (t r) s e B (16 * (max (q / 16) ((p + 15) / 16) + k) + l)) (fun k _ a => tot_masked t s e B _ r hr a),
    tot_iterN _ _ r (fun k => ∑ l ∈ Finset.range 16, cut (t r) s e B (16 * (p / 16 + k) + l)) (fun k _ a => tot_masked t s e B _ r hr a),
    tot_iterN _ _ r (fun k => ∑ l ∈ Finset.range 16, cut (t r) s e B (16 * ((p + 15) / 16 + k) + l)) (fun k hk a => by
      rw [tot_full _ _ _ hr]
      congr 1
      refine Finset.sum_congr rfl fun l hl => ?_
      have := Finset.mem_range.mp hl
      unfold cut
      rw [if_pos (by omega)])]
  rw [sum_from _ _ (fun j => ∑ l ∈ Finset.range 16, cut (t r) s e B (16 * j + l)), sum_from _ _ (fun j => ∑ l ∈ Finset.range 16, cut (t r) s e B (16 * j + l)),
    sum_from _ _ (fun j => ∑ l ∈ Finset.range 16, cut (t r) s e B (16 * j + l))]
  have hz (j : Nat) (h : j < p / 16 ∨ (q + 15) / 16 ≤ j) (h8 : j < 8) : ∑ l ∈ Finset.range 16, cut (t r) s e B (16 * j + l) = 0 := by
    refine Finset.sum_eq_zero fun l hl => ?_
    have := Finset.mem_range.mp hl
    unfold cut
    rw [if_neg (by omega)]
  have hall : ∑ c ∈ Finset.range 128, cut (t r) s e B c = ∑ j ∈ Finset.Ico (p / 16) ((q + 15) / 16), ∑ l ∈ Finset.range 16, cut (t r) s e B (16 * j + l) := by
    rw [show 128 = 16 * 8 from rfl, ← sum_blocks]
    symm
    refine Finset.sum_subset (fun j hj => ?_) fun j hj hn => ?_
    · rw [Finset.mem_Ico] at hj
      rw [Finset.mem_range]
      omega
    · rw [Finset.mem_range] at hj
      rw [Finset.mem_Ico] at hn
      exact hz j (by omega) hj
  rw [hall, add_assoc, add_assoc]
  congr 1
  by_cases h : (p + 15) / 16 ≤ q / 16
  · rw [max_eq_left h, ← Finset.sum_Ico_consecutive _ (show p / 16 ≤ (p + 15) / 16 by omega) (show (p + 15) / 16 ≤ (q + 15) / 16 by omega),
      ← Finset.sum_Ico_consecutive _ h (show q / 16 ≤ (q + 15) / 16 by omega)]
    ac_rfl
  · rw [max_eq_right (by omega), Finset.Ico_eq_empty (show ¬ (p + 15) / 16 < q / 16 by omega), Finset.sum_empty, zero_add,
      Finset.sum_Ico_consecutive _ (show p / 16 ≤ (p + 15) / 16 by omega) (show (p + 15) / 16 ≤ (q + 15) / 16 by omega)]

/-- A column of the array of gated rows. -/
def colOf (g : S2550x8x128.Idx → EReal) (r n : Nat) : EReal := gT (F := Ideal) g (n / 128) r (n % 128)

/-- A segment's running vectors add its columns. -/
theorem tot_seg (g : S2550x8x128.Idx → EReal) (s e : Nat) (hse : s ≤ e) (he : e ≤ 320000) (r : Nat) (hr : r < 8) :
    tot (comp (segVal (F := Ideal) (gT g) s e (s / 128) ((e + 127) / 128 - s / 128) zeroAcc) r) = ∑ n ∈ Finset.Ico s e, colOf g r n := by
  unfold segVal
  rw [tot_iterN _ _ r (fun k => ∑ c ∈ Finset.range 128, cut (gT (F := Ideal) g (s / 128 + k) r) s e (128 * (s / 128 + k)) c) (fun k _ a => tot_tile _ s e _ hse r hr a)]
  have h0 : tot (comp (zeroAcc (F := Ideal)) r) = 0 := by
    have : comp (zeroAcc (F := Ideal)) r = zeroV := by unfold comp; simp only [ite_self]
    rw [this]
    refine Finset.sum_eq_zero fun l _ => ?_
    exact Ideal.ofBits_zero_f32
  rw [h0, zero_add, sum_from _ _ (fun k => ∑ c ∈ Finset.range 128, cut (gT (F := Ideal) g k r) s e (128 * k) c)]
  have hb : ∀ k, ∑ c ∈ Finset.range 128, cut (gT (F := Ideal) g k r) s e (128 * k) c = ∑ c ∈ Finset.range 128, (fun n => if s ≤ n ∧ n < e then colOf g r n else 0) (128 * k + c) := by
    intro k
    refine Finset.sum_congr rfl fun c hc => ?_
    have := Finset.mem_range.mp hc
    unfold cut colOf
    dsimp only
    rw [show (128 * k + c) / 128 = k by omega, show (128 * k + c) % 128 = c by omega]
  rw [Finset.sum_congr rfl fun k _ => hb k]
  have h1 : ∑ k ∈ Finset.Ico (s / 128) ((e + 127) / 128), ∑ c ∈ Finset.range 128, (fun n => if s ≤ n ∧ n < e then colOf g r n else 0) (128 * k + c)
      = ∑ k ∈ Finset.range 2500, ∑ c ∈ Finset.range 128, (fun n => if s ≤ n ∧ n < e then colOf g r n else 0) (128 * k + c) := by
    refine Finset.sum_subset (fun j hj => ?_) fun j hj hn => ?_
    · rw [Finset.mem_Ico] at hj
      rw [Finset.mem_range]
      omega
    · rw [Finset.mem_range] at hj
      rw [Finset.mem_Ico] at hn
      refine Finset.sum_eq_zero fun c hc => ?_
      have := Finset.mem_range.mp hc
      dsimp only
      rw [if_neg (by omega)]
  rw [h1]
  refine (sum_blocks 2500 128 (fun n => if s ≤ n ∧ n < e then colOf g r n else 0)).trans ?_
  rw [← Finset.sum_filter]
  refine Finset.sum_congr ?_ fun _ _ => rfl
  ext n
  rw [Finset.mem_filter, Finset.mem_range, Finset.mem_Ico]
  omega

/-- What a segment leaves in lane `r`: the sum of its columns of row `r` over their number, at least one. -/
theorem outVal_eq (g : S2550x8x128.Idx → EReal) (s e : BitVec 32) (hse : s.toNat ≤ e.toNat) (he : e.toNat ≤ 320000) (r : Nat) (hr : r < 8) :
    outVal (F := Ideal) g s e (ix1 ⟨r, by omega⟩) = Ideal.div (∑ n ∈ Finset.Ico s.toNat e.toNat, colOf g r n) ((max (e.toNat - s.toNat) 1 : Nat) : EReal) := by
  unfold outVal outVec
  rw [← tot_seg g _ _ hse he r hr]
  have hs : sums (F := Ideal) (segVal (gT g) s.toNat e.toNat (s.toNat / 128) ((e.toNat + 127) / 128 - s.toNat / 128) zeroAcc) r
      = tot (comp (segVal (gT g) s.toNat e.toNat (s.toNat / 128) ((e.toNat + 127) / 128 - s.toNat / 128) zeroAcc) r) := by
    rw [← laneSum_eq]
    obtain rfl | rfl | rfl | rfl | rfl | rfl | rfl | rfl : r = 0 ∨ r = 1 ∨ r = 2 ∨ r = 3 ∨ r = 4 ∨ r = 5 ∨ r = 6 ∨ r = 7 := by omega
    all_goals rfl
  show Ideal.div (sums (F := Ideal) _ r) _ = _
  rw [hs]
  congr 1
  unfold k1_pay556
  have hd : (Scalar.subi e s).toNat = e.toNat - s.toNat := by
    simp only [Scalar.subi, IntOp.subi]
    bv_omega
  have hm : (Scalar.maxsi (Scalar.subi e s) 1#32).toNat = max (e.toNat - s.toNat) 1 := by
    rw [_root_.Seg.maxsi_toNat _ _ (by omega) (by decide), hd]
    rfl
  show (((Scalar.maxsi (Scalar.subi e s) 1#32).toInt : ℝ) : EReal) = _
  rw [_root_.Seg.toInt_small _ (by omega), hm]
  norm_cast

end Cert.KernelIdeal.Seg

end
-- ==== Proof.RefVal.lean ====
/-
  The reference's result read at an entry: a segment's gated rows summed, over their number.
-/
module

public import proofs.«01_k».proof.Proof.Gen.ReferenceIdeal.Run
public import proofs.«01_k».proof.Proof.RowEq
public import proofs.«01_k».proof.Proof.Pre
public import Idealize.ShloMosaic.Lib.Pointwise
public import Idealize.ShloMosaic.Lib.IdealHost
public import Idealize.ShloMosaic.Lib.Routing.Ops
public import Idealize.ShloMosaic.Lib.Routing.OpsPair
public import Mathlib.Algebra.BigOperators.Intervals

@[expose] public section

set_option maxRecDepth 16384

noncomputable section

namespace Cert.ReferenceIdeal.Seg

open Idealize.ShloMosaic Cert.ReferenceIdeal Cert.ReferenceIdeal.Gen _root_.Seg

/-- How many of the first `m` numbers have a property that, once it fails, goes on failing: more than `j` exactly when `j` has it. -/
theorem count_gt (Q : Nat → Prop) [DecidablePred Q] (m : Nat) (hQ : ∀ i, i + 1 < m → Q (i + 1) → Q i) (j : Nat) (hj : j < m) :
    j < Nat.count Q m ↔ Q j := by
  have down : ∀ d i, i + d < m → Q (i + d) → Q i := by
    intro d
    induction d with
    | zero => exact fun i _ h => h
    | succ d ih => exact fun i hi h => ih i (by omega) (hQ (i + d) (by omega) h)
  rw [Nat.count_eq_card_filter_range]
  generalize hS : Finset.filter (fun x => Q x) (Finset.range m) = S
  have hm : ∀ i, i ∈ S ↔ i < m ∧ Q i := fun i => by rw [← hS, Finset.mem_filter, Finset.mem_range]
  constructor
  · intro h
    by_contra hn
    have : S ⊆ Finset.range j := by
      intro i hi
      rw [hm] at hi
      rw [Finset.mem_range]
      by_contra hij
      exact hn (down (i - j) j (by omega) (by rw [Nat.add_sub_cancel' (by omega)]; exact hi.2))
    have := Finset.card_le_card this
    rw [Finset.card_range] at this
    omega
  · intro h
    have : Finset.range (j + 1) ⊆ S := by
      intro i hi
      rw [Finset.mem_range] at hi
      rw [hm]
      exact ⟨by omega, down (j - i) i (by omega) (by rw [Nat.add_sub_cancel' (by omega)]; exact h)⟩
    have := Finset.card_le_card this
    rw [Finset.card_range] at this
    omega

/-- A small count less one, read signed. -/
theorem toInt_pred (n : Nat) (h : n ≤ 1025) : (BitVec.ofNat 32 n - 1#32).toInt = (n : Int) - 1 := by
  rcases Nat.eq_zero_or_pos n with rfl | hp
  · decide
  · have e : BitVec.ofNat 32 n - 1#32 = BitVec.ofNat 32 (n - 1) := by
      apply BitVec.eq_of_toNat_eq
      simp only [BitVec.toNat_sub, BitVec.toNat_ofNat]
      omega
    rw [e, StableHlo.Predicate.toInt_ofNat_small _ (by omega)]
    omega

/-- The reference's segment number of every row: how many splits lie at or below the row, less one. -/
def ids (rs : IVec S1025 32) : IVec S320000 32 :=
  subi (Host.reduce IntOp.addi (extui 32 (cmpi .sle (broadcastInDim S320000x1025 ![0, 1] bcast_S1x1025_S320000x1025_0_1 (broadcastInDim S1x1025 ![1] bcast_S1025_S1x1025_1 rs)) (broadcastInDim S320000x1025 ![0, 1] bcast_S320000x1_S320000x1025_0_1 (broadcastInDim S320000x1 ![0] bcast_S320000_S320000x1_0 (iotaInDim S320000 32 0)))) natLt_1_32) (constantI S_ 32 0#32) reducesTo_S320000x1025_S320000_d1 h_S_) (broadcastInDim S320000 ![] bcast_S_S320000 (constantI S_ 32 1#32))

/-- Two spellings of an index of one axis. -/
theorem idx1 {N : Nat} (i : Fin N) : ValueIdx.ix1 i = ix1 i := by funext a; match a with | ⟨0, _⟩ => rfl

/-- A row belongs to segment `J` exactly when it lies between the segment's two splits. -/
theorem ids_at (rs : IVec S1025 32) (hs : Cert.Pre_inputs.Splits rs) (n : Fin 320000) (J : Fin 1024) :
    (ids rs (ix1 n)).toInt = (J.val : Int) ↔ (rs (ix1 ⟨J.val, by omega⟩)).toNat ≤ n.val ∧ n.val < (rs (ix1 ⟨J.val + 1, by omega⟩)).toNat := by
  have hs1 : ∀ j : Fin 1025, (rs (ix1 j)).toNat ≤ 320000 := fun j => by have := hs.1 j; simpa only [idx1] using this
  have hs2 : ∀ j (h : j < 1024), (rs (ix1 ⟨j, by omega⟩)).toNat ≤ (rs (ix1 ⟨j + 1, by omega⟩)).toNat := fun j h => by
    have := hs.2 j h; simpa only [idx1] using this
  let Q : Nat → Prop := fun j => (rs (ix1 ⟨j % 1025, Nat.mod_lt _ (by omega)⟩)).toNat ≤ n.val
  have hmod : ∀ (j : Nat) (h : j < 1025), (⟨j % 1025, Nat.mod_lt _ (by omega)⟩ : Fin 1025) = ⟨j, h⟩ := fun j h => Fin.ext (Nat.mod_eq_of_lt h)
  have hred : Host.reduce IntOp.addi (extui 32 (cmpi .sle (broadcastInDim S320000x1025 ![0, 1] bcast_S1x1025_S320000x1025_0_1 (broadcastInDim S1x1025 ![1] bcast_S1025_S1x1025_1 rs)) (broadcastInDim S320000x1025 ![0, 1] bcast_S320000x1_S320000x1025_0_1 (broadcastInDim S320000x1 ![0] bcast_S320000_S320000x1_0 (iotaInDim S320000 32 0)))) natLt_1_32) (constantI S_ 32 0#32) reducesTo_S320000x1025_S320000_d1 h_S_ (ValueIdx.ix1 n) = BitVec.ofNat 32 (Nat.count Q 1025) := by
    refine Routing.reduce_count (n := 320000) (m := 1025) (by omega) _ _ _ _ n Q fun q => ?_
    have e : ∀ i : Shape.Idx S320000x1025, i = ix2 n q → (cmpi .sle (broadcastInDim S320000x1025 ![0, 1] bcast_S1x1025_S320000x1025_0_1 (broadcastInDim S1x1025 ![1] bcast_S1025_S1x1025_1 rs)) (broadcastInDim S320000x1025 ![0, 1] bcast_S320000x1_S320000x1025_0_1 (broadcastInDim S320000x1 ![0] bcast_S320000_S320000x1_0 (iotaInDim S320000 32 0)))) i = IntOp.cmpi .sle (rs (ix1 q)) (BitVec.ofNat 32 n.val) := by
      rintro i rfl
      simp only [pointwise]
      rfl
    rw [e _ (by funext a; match a with | ⟨0, _⟩ => rfl | ⟨1, _⟩ => rfl), WordCmp.cmpi_sle_of_lt (by have := hs1 q; omega) (by have := n.isLt; simp only [BitVec.toNat_ofNat]; omega)]
    have hn : (BitVec.ofNat 32 n.val).toNat = n.val := by have := n.isLt; simp only [BitVec.toNat_ofNat]; omega
    show _ ↔ (rs (ix1 ⟨q.val % 1025, Nat.mod_lt _ (by omega)⟩)).toNat ≤ n.val
    rw [hmod q.val q.isLt, hn]
    by_cases h : (rs (ix1 q)).toNat ≤ n.val <;> simp [h]
  have he : ids rs (ix1 n) = BitVec.ofNat 32 (Nat.count Q 1025) - 1#32 := by
    rw [← hred]
    unfold ids
    show IntOp.subi _ _ = _
    refine congrArg₂ (· - ·) (congrArg _ ?_) ?_
    · funext a; match a with | ⟨0, _⟩ => rfl
    · rfl
  have hmono : ∀ i, i + 1 < 1025 → Q (i + 1) → Q i := by
    intro i hi
    show (rs (ix1 ⟨(i + 1) % 1025, _⟩)).toNat ≤ n.val → (rs (ix1 ⟨i % 1025, _⟩)).toNat ≤ n.val
    rw [hmod i (by omega), hmod (i + 1) hi]
    exact fun h => Nat.le_trans (hs2 i (by omega)) h
  have hle : Nat.count Q 1025 ≤ 1025 := Nat.count_le Q
  have c1 := count_gt Q 1025 hmono J.val (by omega)
  have c2 := count_gt Q 1025 hmono (J.val + 1) (by omega)
  have q1 : Q J.val ↔ (rs (ix1 ⟨J.val, by omega⟩)).toNat ≤ n.val := by
    show (rs (ix1 ⟨J.val % 1025, _⟩)).toNat ≤ n.val ↔ _
    rw [hmod J.val (by omega)]
  have q2 : Q (J.val + 1) ↔ (rs (ix1 ⟨J.val + 1, by omega⟩)).toNat ≤ n.val := by
    show (rs (ix1 ⟨(J.val + 1) % 1025, _⟩)).toNat ≤ n.val ↔ _
    rw [hmod (J.val + 1) (by omega)]
  rw [he, toInt_pred _ hle]
  rw [q1] at c1
  rw [q2] at c2
  omega

/-- An index of two axes is its two coordinates. -/
theorem eta2 (k : S320000x8.Idx) : ∃ (n : Fin 320000) (c : Fin 8), k = ix2 n c :=
  ⟨k 0, k 1, by funext a; match a with | ⟨0, _⟩ => rfl | ⟨1, _⟩ => rfl⟩

/-- An index of one axis is its coordinate. -/
theorem eta1 (k : S320000.Idx) : ∃ n : Fin 320000, k = ix1 n :=
  ⟨k 0, by funext a; match a with | ⟨0, _⟩ => rfl⟩

/-- Row `n`'s update of a matrix of sums lands at `(J, c)` exactly when the row's index word is `J` and its column `c`. -/
theorem lands2 (idx : IVec S320000x1 32) (n : Fin 320000) (c' : Fin 8) (J : Fin 1024) (c : Fin 8) :
    scatter_S1024x8_S320000x1_S320000x8_1_0_0_1.resultIdx? (ix2 n c') idx = some (ix2 J c) ↔ (idx (ix2 n 0)).toInt = (J.val : Int) ∧ c' = c := by
  have e := Routing.resultIdx?_eq_some scatter_S1024x8_S320000x1_S320000x8_1_0_0_1 (ix2 n c') idx (ix2 J c)
  have s0 : scatter_S1024x8_S320000x1_S320000x8_1_0_0_1.start (ix2 n c') idx 0 = (idx (ix2 n 0)).toInt := by
    have hi : scatter_S1024x8_S320000x1_S320000x8_1_0_0_1.siIdx (ix2 n c') ⟨0, by decide⟩ = ix2 n 0 := by
      funext b
      match b with
      | ⟨0, _⟩ => rfl
      | ⟨1, _⟩ => exact Subsingleton.elim (α := Fin 1) _ _
    exact congrArg (fun i => (idx i).toInt) hi
  have s1 : scatter_S1024x8_S320000x1_S320000x8_1_0_0_1.start (ix2 n c') idx 1 = 0 := rfl
  have w0 : scatter_S1024x8_S320000x1_S320000x8_1_0_0_1.window (ix2 n c') 0 = 0 := rfl
  have w1 : scatter_S1024x8_S320000x1_S320000x8_1_0_0_1.window (ix2 n c') 1 = c'.val := rfl
  rw [e]
  constructor
  · intro h
    have h0 := h 0
    have h1 := h 1
    rw [s0, w0] at h0
    rw [s1, w1] at h1
    refine ⟨?_, Fin.ext ?_⟩
    · have : (((ix2 J c : S1024x8.Idx) 0).val : Int) = J.val := rfl
      omega
    · have : (((ix2 J c : S1024x8.Idx) 1).val : Int) = c.val := rfl
      omega
  · rintro ⟨h0, h1⟩ a
    match a with
    | ⟨0, _⟩ =>
      show scatter_S1024x8_S320000x1_S320000x8_1_0_0_1.start (ix2 n c') idx 0 + (scatter_S1024x8_S320000x1_S320000x8_1_0_0_1.window (ix2 n c') 0 : Int) = (J.val : Int)
      rw [s0, w0, h0]; omega
    | ⟨1, _⟩ =>
      show scatter_S1024x8_S320000x1_S320000x8_1_0_0_1.start (ix2 n c') idx 1 + (scatter_S1024x8_S320000x1_S320000x8_1_0_0_1.window (ix2 n c') 1 : Int) = (c.val : Int)
      rw [s1, w1, h1]; omega

/-- The same of a vector of sums. -/
theorem lands1 (idx : IVec S320000x1 32) (n : Fin 320000) (J : Fin 1024) :
    scatter_S1024_S320000x1_S320000_n_0_0_1.resultIdx? (ix1 n) idx = some (ix1 J) ↔ (idx (ix2 n 0)).toInt = (J.val : Int) := by
  have e := Routing.resultIdx?_eq_some scatter_S1024_S320000x1_S320000_n_0_0_1 (ix1 n) idx (ix1 J)
  have s0 : scatter_S1024_S320000x1_S320000_n_0_0_1.start (ix1 n) idx 0 = (idx (ix2 n 0)).toInt := by
    have hi : scatter_S1024_S320000x1_S320000_n_0_0_1.siIdx (ix1 n) ⟨0, by decide⟩ = ix2 n 0 := by
      funext b
      match b with
      | ⟨0, _⟩ => rfl
      | ⟨1, _⟩ => exact Subsingleton.elim (α := Fin 1) _ _
    exact congrArg (fun i => (idx i).toInt) hi
  have w0 : scatter_S1024_S320000x1_S320000_n_0_0_1.window (ix1 n) 0 = 0 := rfl
  rw [e]
  constructor
  · intro h
    have h0 := h 0
    rw [s0, w0] at h0
    have : (((ix1 J : S1024.Idx) 0).val : Int) = J.val := rfl
    omega
  · rintro h0 a
    match a with
    | ⟨0, _⟩ =>
      show scatter_S1024_S320000x1_S320000_n_0_0_1.start (ix1 n) idx 0 + (scatter_S1024_S320000x1_S320000_n_0_0_1.window (ix1 n) 0 : Int) = (J.val : Int)
      rw [s0, w0, h0]; omega

/-- A sum by scatter at one place: the operand there, and the updates that land there, summed over the numbers they are counted by. -/
theorem scatter_sum {s si su : Shape} (d : ScatterDims s si su) (x : FVec Ideal s .f32) (idx : IVec si 32) (upd : FVec Ideal su .f32) (i : s.Idx)
    (S : Finset Nat) (f : Nat → EReal) (g : su.Idx → Nat) (hmem : ∀ k, d.resultIdx? k idx = some i → g k ∈ S)
    (hinj : ∀ k k', d.resultIdx? k idx = some i → d.resultIdx? k' idx = some i → g k = g k' → k = k')
    (hsurj : ∀ n, n ∈ S → ∃ k, d.resultIdx? k idx = some i ∧ g k = n) (hval : ∀ k, d.resultIdx? k idx = some i → upd k = f (g k)) :
    Host.scatterAdd (F := Ideal) d x idx upd i = x i + ∑ n ∈ S, f n := by
  refine congrArg (x i + ·) (Finset.sum_bij (fun k _ => g k) ?_ ?_ ?_ ?_)
  · exact fun k hk => hmem k (Finset.mem_filter.mp hk).2
  · exact fun k hk k' hk' e => hinj k k' (Finset.mem_filter.mp hk).2 (Finset.mem_filter.mp hk').2 e
  · intro n hn
    obtain ⟨k, hk, e⟩ := hsurj n hn
    exact ⟨k, Finset.mem_filter.mpr ⟨Finset.mem_univ _, hk⟩, e⟩
  · exact fun k hk => hval k (Finset.mem_filter.mp hk).2

/-- Summing the updates that land at `(J, c)` sums column `c` over the segment's rows. -/
theorem hits2 (rs : IVec S1025 32) (hs : Cert.Pre_inputs.Splits rs) (idx : IVec S320000x1 32) (hidx : ∀ n : Fin 320000, idx (ix2 n 0) = ids rs (ix1 n))
    (x : FVec Ideal S1024x8 .f32) (upd : FVec Ideal S320000x8 .f32) (f : Nat → EReal) (J : Fin 1024) (c : Fin 8) (hf : ∀ n : Fin 320000, upd (ix2 n c) = f n.val)
    (he : (rs (ix1 ⟨J.val + 1, by omega⟩)).toNat ≤ 320000) :
    Host.scatterAdd (F := Ideal) scatter_S1024x8_S320000x1_S320000x8_1_0_0_1 x idx upd (ix2 J c)
      = x (ix2 J c) + ∑ n ∈ Finset.Ico (rs (ix1 ⟨J.val, by omega⟩)).toNat (rs (ix1 ⟨J.val + 1, by omega⟩)).toNat, f n := by
  refine scatter_sum _ x idx upd _ _ f (fun k => ((k 0 : Fin 320000) : Nat)) ?_ ?_ ?_ ?_
  · intro k hk
    obtain ⟨n, c', rfl⟩ := eta2 k
    rw [lands2, hidx, ids_at rs hs] at hk
    rw [Finset.mem_Ico]
    exact hk.1
  · intro k k' hk hk' e
    obtain ⟨n, c', rfl⟩ := eta2 k
    obtain ⟨n', c'', rfl⟩ := eta2 k'
    rw [lands2] at hk hk'
    obtain rfl : n = n' := Fin.ext e
    rw [hk.2, hk'.2]
  · intro n hn
    rw [Finset.mem_Ico] at hn
    refine ⟨ix2 ⟨n, by omega⟩ c, ?_, rfl⟩
    rw [lands2, hidx, ids_at rs hs]
    exact ⟨hn, rfl⟩
  · intro k hk
    obtain ⟨n, c', rfl⟩ := eta2 k
    rw [lands2] at hk
    rw [hk.2]
    exact hf n

/-- Summing the updates that land at `J` sums them over the segment's rows. -/
theorem hits1 (rs : IVec S1025 32) (hs : Cert.Pre_inputs.Splits rs) (idx : IVec S320000x1 32) (hidx : ∀ n : Fin 320000, idx (ix2 n 0) = ids rs (ix1 n))
    (x : FVec Ideal S1024 .f32) (upd : FVec Ideal S320000 .f32) (f : Nat → EReal) (J : Fin 1024) (hf : ∀ n : Fin 320000, upd (ix1 n) = f n.val)
    (he : (rs (ix1 ⟨J.val + 1, by omega⟩)).toNat ≤ 320000) :
    Host.scatterAdd (F := Ideal) scatter_S1024_S320000x1_S320000_n_0_0_1 x idx upd (ix1 J)
      = x (ix1 J) + ∑ n ∈ Finset.Ico (rs (ix1 ⟨J.val, by omega⟩)).toNat (rs (ix1 ⟨J.val + 1, by omega⟩)).toNat, f n := by
  refine scatter_sum _ x idx upd _ _ f (fun k => ((k 0 : Fin 320000) : Nat)) ?_ ?_ ?_ ?_
  · intro k hk
    obtain ⟨n, rfl⟩ := eta1 k
    rw [lands1, hidx, ids_at rs hs] at hk
    rw [Finset.mem_Ico]
    exact hk
  · intro k k' hk hk' e
    obtain ⟨n, rfl⟩ := eta1 k
    obtain ⟨n', rfl⟩ := eta1 k'
    obtain rfl : n = n' := Fin.ext e
    rfl
  · intro n hn
    rw [Finset.mem_Ico] at hn
    refine ⟨ix1 ⟨n, by omega⟩, ?_, rfl⟩
    rw [lands1, hidx, ids_at rs hs]
    exact hn
  · intro k hk
    obtain ⟨n, rfl⟩ := eta1 k
    exact hf n

/-- The reference's gated rows. -/
def gated (x : FVec Ideal S320000x128 .f32) (wo : FVec Ideal S128x128 .f32) (bo : FVec Ideal S128 .f32) (wg : FVec Ideal S128x1 .f32) (bg : FVec Ideal S1 .f32)
    (wt : FVec Ideal S128x8 .f32) (bt : FVec Ideal S8 .f32) : FVec Ideal S320000x8 .f32 :=
  mulf (F := Ideal) (broadcastInDim S320000x8 ![0, 1] bcast_S320000x1_S320000x8_0_1 (Host.divf (broadcastInDim S320000x1 ![] bcast_S_S320000x1 (constant S_ .f32 0x3F800000#32)) (addf (broadcastInDim S320000x1 ![] bcast_S_S320000x1 (constant S_ .f32 0x3F800000#32)) (Host.exp (Host.negf (addf (Host.dotGeneral dot_S320000x128_S128x1_S320000x1_1_0_0_1_n_n none x wg) (broadcastInDim S320000x1 ![0, 1] bcast_S1x1_S320000x1_0_1 (broadcastInDim S1x1 ![1] bcast_S1_S1x1_1 bg)))))))) (addf (Host.dotGeneral dot_S320000x128_S128x8_S320000x8_1_0_0_1_n_n none (addf (Host.dotGeneral dot_S320000x128_S128x128_S320000x128_1_0_0_1_n_n none x wo) (broadcastInDim S320000x128 ![0, 1] bcast_S1x128_S320000x128_0_1 (broadcastInDim S1x128 ![1] bcast_S128_S1x128_1 bo))) wt) (broadcastInDim S320000x8 ![0, 1] bcast_S1x8_S320000x8_0_1 (broadcastInDim S1x8 ![1] bcast_S8_S1x8_1 bt)))

/-- The reference's gated rows read at an entry. -/
theorem gated_at (x : FVec Ideal S320000x128 .f32) (wo : FVec Ideal S128x128 .f32) (bo : FVec Ideal S128 .f32) (wg : FVec Ideal S128x1 .f32) (bg : FVec Ideal S1 .f32)
    (wt : FVec Ideal S128x8 .f32) (bt : FVec Ideal S8 .f32) (n : Fin 320000) (c : Fin 8) :
    gated x wo bo wg bg wt bt (ix2 n c)
      = refRow (fun k => x (ix2 n k)) (fun k j => wo (ix2 k j)) (fun j => bo (ix1 j)) (fun j => wt (ix2 j c)) (fun k => wg (ix2 k 0)) (bg (ix1 0)) (bt (ix1 c)) := by
  unfold gated refRow gateOf
  simp only [pointwise, Ideal.ofBits_zero_f32, Ideal.ofBits_one_f32, zero_add]
  rfl

/-- The reference's result over its arguments. -/
def result (x : FVec Ideal S320000x128 .f32) (rs : IVec S1025 32) (wo : FVec Ideal S128x128 .f32) (bo : FVec Ideal S128 .f32) (wg : FVec Ideal S128x1 .f32)
    (bg : FVec Ideal S1 .f32) (wt : FVec Ideal S128x8 .f32) (bt : FVec Ideal S8 .f32) : FVec Ideal S1024x8 .f32 :=
  Host.divf (Host.scatterAdd scatter_S1024x8_S320000x1_S320000x8_1_0_0_1 (broadcastInDim S1024x8 ![] bcast_S_S1024x8 (constant S_ .f32 0x00000000#32)) (broadcastInDim S320000x1 ![0] bcast_S320000_S320000x1_0 (ids rs)) (gated x wo bo wg bg wt bt)) (broadcastInDim S1024x8 ![0, 1] bcast_S1024x1_S1024x8_0_1 (broadcastInDim S1024x1 ![0] bcast_S1024_S1024x1_0 (maximumf (Host.scatterAdd scatter_S1024_S320000x1_S320000_n_0_0_1 (broadcastInDim S1024 ![] bcast_S_S1024 (constant S_ .f32 0x00000000#32)) (broadcastInDim S320000x1 ![0] bcast_S320000_S320000x1_0 (ids rs)) (broadcastInDim S320000 ![] bcast_S_S320000 (constant S_ .f32 0x3F800000#32))) (broadcastInDim S1024 ![] bcast_S_S1024 (constant S_ .f32 0x3F800000#32)))))

end Cert.ReferenceIdeal.Seg
-- ==== Proof.RefRes.lean ====
/-
  The reference's result read at an entry, assembled.
-/
module

public import proofs.«01_k».proof.Proof.RefVal
public import proofs.«01_k».proof.Proof.RowEq
public import proofs.«01_k».proof.Proof.Pre
public import Idealize.ShloMosaic.Lib.Pointwise
public import Idealize.ShloMosaic.Lib.IdealHost
public import Idealize.ShloMosaic.Lib.Routing.Ops
public import Idealize.ShloMosaic.Lib.Routing.OpsPair
public import Mathlib.Algebra.BigOperators.Intervals

@[expose] public section

set_option maxRecDepth 16384

noncomputable section

namespace Cert.ReferenceIdeal.Seg

open Idealize.ShloMosaic Cert.ReferenceIdeal Cert.ReferenceIdeal.Gen _root_.Seg

/-- A count, at least one, as an extended real. -/
theorem max_count (n : Nat) : max (n : EReal) 1 = ((max n 1 : Nat) : EReal) := by
  rcases Nat.eq_zero_or_pos n with rfl | hp
  · simp
  · rw [Nat.max_eq_left hp, max_eq_left]
    exact_mod_cast hp

/-- The index words of the sums are the rows' segment numbers. -/
theorem bc_ids (v : IVec S320000 32) (n : Fin 320000) : broadcastInDim S320000x1 ![0] bcast_S320000_S320000x1_0 v (ix2 n 0) = v (ix1 n) := by
  simp only [pointwise]
  rfl

/-- The matrix of sums starts from zero. -/
theorem zero2 (J : Fin 1024) (c : Fin 8) : broadcastInDim S1024x8 ![] bcast_S_S1024x8 (constant (F := Ideal) S_ .f32 0x00000000#32) (ix2 J c) = (0 : EReal) := by
  simp only [pointwise, Ideal.ofBits_zero_f32]

/-- The vector of counts starts from zero. -/
theorem zero1 (J : Fin 1024) : broadcastInDim S1024 ![] bcast_S_S1024 (constant (F := Ideal) S_ .f32 0x00000000#32) (ix1 J) = (0 : EReal) := by
  simp only [pointwise, Ideal.ofBits_zero_f32]

/-- Every row counts once. -/
theorem one1 (n : Fin 320000) : broadcastInDim S320000 ![] bcast_S_S320000 (constant (F := Ideal) S_ .f32 0x3F800000#32) (ix1 n) = (1 : EReal) := by
  simp only [pointwise, Ideal.ofBits_one_f32]

/-- The quotient read at an entry. -/
theorem quot_at (A : FVec Ideal S1024x8 .f32) (B : FVec Ideal S1024 .f32) (J : Fin 1024) (c : Fin 8) :
    Host.divf A (broadcastInDim S1024x8 ![0, 1] bcast_S1024x1_S1024x8_0_1 (broadcastInDim S1024x1 ![0] bcast_S1024_S1024x1_0 (maximumf B (broadcastInDim S1024 ![] bcast_S_S1024 (constant S_ .f32 0x3F800000#32))))) (ix2 J c)
      = Ideal.div (A (ix2 J c)) (max (B (ix1 J)) 1) := by
  simp only [pointwise, Ideal.ofBits_one_f32]
  rfl

/-- The count of a segment's rows. -/
theorem count_at (rs : IVec S1025 32) (hs : Cert.Pre_inputs.Splits rs) (J : Fin 1024) (he : (rs (ix1 ⟨J.val + 1, by omega⟩)).toNat ≤ 320000) :
    Host.scatterAdd (F := Ideal) scatter_S1024_S320000x1_S320000_n_0_0_1 (broadcastInDim S1024 ![] bcast_S_S1024 (constant S_ .f32 0x00000000#32)) (broadcastInDim S320000x1 ![0] bcast_S320000_S320000x1_0 (ids rs)) (broadcastInDim S320000 ![] bcast_S_S320000 (constant S_ .f32 0x3F800000#32)) (ix1 J)
      = (((rs (ix1 ⟨J.val + 1, by omega⟩)).toNat - (rs (ix1 ⟨J.val, by omega⟩)).toNat : Nat) : EReal) := by
  refine (hits1 rs hs _ (bc_ids (ids rs)) _ _ (fun _ => 1) J one1 he).trans ?_
  rw [zero1, zero_add, Finset.sum_const, Nat.card_Ico, nsmul_one]

/-- The sum of a segment's rows. -/
theorem sum_at (rs : IVec S1025 32) (hs : Cert.Pre_inputs.Splits rs) (J : Fin 1024) (c : Fin 8) (he : (rs (ix1 ⟨J.val + 1, by omega⟩)).toNat ≤ 320000)
    (G : FVec Ideal S320000x8 .f32) (f : Nat → EReal) (hf : ∀ n : Fin 320000, G (ix2 n c) = f n.val) :
    Host.scatterAdd (F := Ideal) scatter_S1024x8_S320000x1_S320000x8_1_0_0_1 (broadcastInDim S1024x8 ![] bcast_S_S1024x8 (constant S_ .f32 0x00000000#32)) (broadcastInDim S320000x1 ![0] bcast_S320000_S320000x1_0 (ids rs)) G (ix2 J c)
      = ∑ n ∈ Finset.Ico (rs (ix1 ⟨J.val, by omega⟩)).toNat (rs (ix1 ⟨J.val + 1, by omega⟩)).toNat, f n := by
  refine (hits2 rs hs _ (bc_ids (ids rs)) _ _ f J c hf he).trans ?_
  rw [zero2, zero_add]

/-- The reference's result read at an entry: the segment's gated rows summed, over their number or one. -/
theorem result_at (x : FVec Ideal S320000x128 .f32) (rs : IVec S1025 32) (wo : FVec Ideal S128x128 .f32) (bo : FVec Ideal S128 .f32) (wg : FVec Ideal S128x1 .f32)
    (bg : FVec Ideal S1 .f32) (wt : FVec Ideal S128x8 .f32) (bt : FVec Ideal S8 .f32) (hs : Cert.Pre_inputs.Splits rs) (J : Fin 1024) (c : Fin 8)
    (f : Nat → EReal) (hf : ∀ n : Fin 320000, gated x wo bo wg bg wt bt (ix2 n c) = f n.val) :
    result x rs wo bo wg bg wt bt (ix2 J c)
      = Ideal.div (∑ n ∈ Finset.Ico (rs (ix1 ⟨J.val, by omega⟩)).toNat (rs (ix1 ⟨J.val + 1, by omega⟩)).toNat, f n)
          ((max ((rs (ix1 ⟨J.val + 1, by omega⟩)).toNat - (rs (ix1 ⟨J.val, by omega⟩)).toNat) 1 : Nat) : EReal) := by
  have he : (rs (ix1 ⟨J.val + 1, by omega⟩)).toNat ≤ 320000 := by have := hs.1 ⟨J.val + 1, by omega⟩; simpa only [idx1] using this
  unfold result
  rw [quot_at, sum_at rs hs J c he _ f hf, count_at rs hs J he, max_count]

end Cert.ReferenceIdeal.Seg
-- ==== Proof.KernelVal.lean ====
/-
  The kernel's result at the ideal floats, read at an entry: a segment's gated rows summed, over their number.
-/
module

public import proofs.«01_k».proof.Proof.Packs
public import proofs.«01_k».proof.Proof.SegSum
public import proofs.«01_k».proof.Proof.RefRes

@[expose] public section

set_option maxRecDepth 16384

noncomputable section

namespace Cert.KernelIdeal.Seg

open Idealize.ShloMosaic Idealize.ShloMosaic.TcCoe Cert.KernelIdeal Cert.KernelIdeal.Gen _root_.Seg

variable (m : (ℓ : Loc nD τ sig) → Buf (Elt Ideal) ℓ)

/-- The gated value of row `n` and column `c`, as the kernel computes it from the arguments. -/
def kerOf (d : Dev nD) (c : Fin 8) (n : Fin 320000) : EReal :=
  kerRow (fun k => (m (d, Proc.devRef .tc main_arg0) : FVec Ideal S320000x128 .f32) (ix2 n k))
    (fun k j => (m (d, Proc.devRef .tc main_arg2) : FVec Ideal S128x128 .f32) (ix2 k j))
    (fun j => (m (d, Proc.devRef .tc main_arg3) : FVec Ideal S128 .f32) (ix1 j))
    (fun j => (m (d, Proc.devRef .tc main_arg6) : FVec Ideal S128x8 .f32) (ix2 j c))
    (fun k => (m (d, Proc.devRef .tc main_arg4) : FVec Ideal S128x1 .f32) (ix2 k 0))
    ((m (d, Proc.devRef .tc main_arg5) : FVec Ideal S1 .f32) (ix1 0)) ((m (d, Proc.devRef .tc main_arg7) : FVec Ideal S8 .f32) (ix1 c))

/-- The gated rows' array at the segment call is what the TensorCore call left. -/
theorem gOf_eq (d : Dev nD) : gOf m d = gatedAt (WA m) d := by
  unfold gOf WC
  rw [afterB_ne _ main_v17 (by decide)]
  unfold WB
  exact Function.update_self _ _ _

/-- The gated rows' array holds the gated value of every row. -/
theorem colOf_at (d : Dev nD) (c : Fin 8) (n : Fin 320000) : colOf (gOf m d) c.val n.val = kerOf m d c n := by
  have hn := n.isLt
  have ht : n.val / 6400 < 51 := by omega
  have e : colOf (gOf m d) c.val n.val = (gatedAt (WA m) d : FVec Ideal S2550x8x128 .f32)
      (ix3 ⟨50 * (⟨n.val / 6400, ht⟩ : Fin cfg0.N).val + (⟨n.val / 128 % 50, Nat.mod_lt _ (by omega)⟩ : Fin 50).val, by dsimp only; omega⟩ c ⟨n.val % 128, Nat.mod_lt _ (by omega)⟩) := by
    rw [gOf_eq]
    unfold colOf gT
    refine congrArg (gatedAt (WA m) d : FVec Ideal S2550x8x128 .f32) ?_
    funext a
    match a with
    | ⟨0, _⟩ => exact Fin.ext (show n.val / 128 % 2550 = 50 * (n.val / 6400) + n.val / 128 % 50 by omega)
    | ⟨1, _⟩ => exact Fin.ext (show c.val % 8 = c.val by omega)
    | ⟨2, _⟩ => exact Fin.ext (show n.val % 128 % 128 = n.val % 128 by omega)
  rw [e, gatedAt_at, mlp_at]
  have hx : ∀ k : Fin 128, (stg0 (WA m) d ⟨n.val / 6400, ht⟩ : FVec Ideal S6400x128 .f32) (ix2 ⟨128 * (n.val / 128 % 50) + n.val % 128, by omega⟩ k)
      = (m (d, Proc.devRef .tc main_arg0) : FVec Ideal S320000x128 .f32) (ix2 n k) := by
    intro k
    rw [stg0_at _ _ _ (show n.val / 6400 < 50 by omega), WA_arg0]
    refine congrArg (fun i => (m (d, Proc.devRef .tc main_arg0) : FVec Ideal S320000x128 .f32) (ix2 i k)) (Fin.ext ?_)
    show 6400 * (n.val / 6400) + (128 * (n.val / 128 % 50) + n.val % 128) = n.val
    omega
  have hwt : ∀ j k : Fin 128, (stg1 (WA m) d ⟨n.val / 6400, ht⟩ : FVec Ideal S128x128 .f32) (ix2 j k)
      = (m (d, Proc.devRef .tc main_arg2) : FVec Ideal S128x128 .f32) (ix2 k j) := by
    intro j k
    rw [stg1_eq, WA_v0]
    simp only [pointwise]
  have hb0 : ∀ j : Fin 128, (stg3 (WA m) d ⟨n.val / 6400, ht⟩ : FVec Ideal S128x1 .f32) (ix2 j 0)
      = (m (d, Proc.devRef .tc main_arg3) : FVec Ideal S128 .f32) (ix1 j) := by
    intro j
    rw [stg3_eq, WA_v8]
    simp only [pointwise]
  rw [stg2_eq, stg4_eq, WA_v7, WA_v16]
  unfold kerOf kerRow
  simp only [packW_gate, packW_top, packB_col, packB_gate, hwt, hb0]
  simp only [hx]

/-- The program's result: the slice of the segment call's results. -/
theorem WE_v22 (d : Dev nD) : (WE m d (Proc.devRef .tc main_v22) : FVec Ideal S1024x8 .f32)
    = extractStridedSlice S1024x8 ![0, 0] (shapeCast S1024x16 (outBuf (F := Ideal) (gOf m d) (hOf m d)) shapeCasts_S16384_S1024x16) slices_S1024x16_S1024x8_0_0 := by
  have e : WD m d (Proc.devRef .tc main_v20) = outBuf (F := Ideal) (gOf m d) (hOf m d) := by
    unfold WD
    exact Function.update_self _ _ _
  rw [← e]
  unfold WE opsC
  after_results_simp <;> rfl

/-- The segment call's results read at segment `J` and lane `c`. -/
theorem outBuf_at (g : FVec Ideal S2550x8x128 .f32) (h : IVec S1032 32) (J : Nat) (c : Fin 8) (q : Fin 16384) (hq : q.val = 16 * J + c.val) :
    outBuf (F := Ideal) g h (ix1 q) = outVal (F := Ideal) g (word h J) (word h (J + 1)) (ix1 ⟨c.val, by omega⟩) := by
  show outVal (F := Ideal) g (word h (q.val / 16)) (word h (q.val / 16 + 1)) (ix1 ⟨q.val % 16, _⟩) = _
  have e1 : q.val / 16 = J := by omega
  have e2 : (⟨q.val % 16, Nat.mod_lt _ (by decide)⟩ : Fin 16) = ⟨c.val, by omega⟩ := Fin.ext (by show q.val % 16 = c.val; omega)
  rw [e1, e2]

/-- The program's result read at an entry is the segment's value in that lane. -/
theorem WE_at (d : Dev nD) (J : Fin 1024) (c : Fin 8) : (WE m d (Proc.devRef .tc main_v22) : FVec Ideal S1024x8 .f32) (ix2 J c)
    = outVal (F := Ideal) (gOf m d) (word (hOf m d) J.val) (word (hOf m d) (J.val + 1)) (ix1 ⟨c.val, by omega⟩) := by
  rw [WE_v22]
  simp only [pointwise]
  exact outBuf_at _ _ J.val c _ (by show (0 + J.val) * 16 + (0 + c.val) = 16 * J.val + c.val; omega)

/-- A float below plus infinity in magnitude is a real number at the ideal floats. -/
theorem real_of_below {s : Shape} (x : FVec Ideal s .f32) (h : Cert.Pre_inputs.Below x) (i : s.Idx) : ∃ r : ℝ, x i = (r : EReal) := by
  have htop : Ideal.ofBits .f32 0x7F800000#32 = ⊤ := by simp [Ideal.ofBits, Ideal.ieee]
  have h1 : Ideal.cmp .olt (max (x i) (-(x i))) (Ideal.ofBits .f32 0x7F800000#32) = 1#1 := h i
  rw [htop] at h1
  have h2 : BitVec.ofBool (decide (max (x i) (-(x i)) < ⊤)) = 1#1 := h1
  refine real_of_abs_lt _ ?_
  by_contra h3
  rw [decide_eq_false h3] at h2
  exact absurd h2 (by decide)

/-- The program's result is the reference's value of the same arguments. -/
theorem value_eq (d : Dev nD)
    (hs : Cert.Pre_inputs.Splits (m (d, Proc.devRef .tc main_arg1) : IVec S1025 32))
    (h0 : Cert.Pre_inputs.Below (F := Ideal) (s := S320000x128) (m (d, Proc.devRef .tc main_arg0)))
    (h2 : Cert.Pre_inputs.Below (F := Ideal) (s := S128x128) (m (d, Proc.devRef .tc main_arg2)))
    (h3 : Cert.Pre_inputs.Below (F := Ideal) (s := S128) (m (d, Proc.devRef .tc main_arg3)))
    (h6 : Cert.Pre_inputs.Below (F := Ideal) (s := S128x8) (m (d, Proc.devRef .tc main_arg6))) :
    (WE m d (Proc.devRef .tc main_v22) : FVec Ideal S1024x8 .f32)
      = Cert.ReferenceIdeal.Seg.result (m (d, Proc.devRef .tc main_arg0)) (m (d, Proc.devRef .tc main_arg1)) (m (d, Proc.devRef .tc main_arg2))
        (m (d, Proc.devRef .tc main_arg3)) (m (d, Proc.devRef .tc main_arg4)) (m (d, Proc.devRef .tc main_arg5)) (m (d, Proc.devRef .tc main_arg6))
        (m (d, Proc.devRef .tc main_arg7)) := by
  funext y
  obtain ⟨J, c, rfl⟩ : ∃ (J : Fin 1024) (c : Fin 8), y = ix2 J c := split2 y
  have hle : ((m (d, Proc.devRef .tc main_arg1) : IVec S1025 32) (ix1 ⟨J.val, by omega⟩)).toNat
      ≤ ((m (d, Proc.devRef .tc main_arg1) : IVec S1025 32) (ix1 ⟨J.val + 1, by omega⟩)).toNat := hs.2 J.val J.isLt
  have hub : ((m (d, Proc.devRef .tc main_arg1) : IVec S1025 32) (ix1 ⟨J.val + 1, by omega⟩)).toNat ≤ 320000 := hs.1 _
  rw [WE_at, word_arg m d J.val (by omega), word_arg m d (J.val + 1) (by omega), outVal_eq _ _ _ hle hub c.val c.isLt]
  refine (Cert.ReferenceIdeal.Seg.result_at _ _ _ _ _ _ _ _ hs J c (colOf (gOf m d) c.val) fun n => ?_).symm
  rw [Cert.ReferenceIdeal.Seg.gated_at, colOf_at]
  exact (ker_eq_ref _ _ _ _ _ _ _ (fun k => real_of_below _ h0 _) (fun k j => real_of_below _ h2 _) (fun j => real_of_below _ h3 _)
    (fun j => real_of_below _ h6 _)).symm

end Cert.KernelIdeal.Seg
-- ==== Proof.lean ====
/-
  The certificate's claim: the program, read at the machine's floats and at the ideal ones, and the reference each end, with
  their arguments as they were and every counter at zero; and at the ideal floats the two have equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.Pre_inputs
public import proofs.«01_k».proof.Proof.Gen.Pre_splits
public import proofs.«01_k».proof.Proof.Frame
public import proofs.«01_k».proof.Proof.Ideal.Frame
public import proofs.«01_k».proof.Proof.KernelVal
public import Idealize.ShloMosaic.Adequacy
public import Idealize.ShloMosaic.Init

@[expose] public section

noncomputable section

namespace Cert.Proof

open Idealize.ShloMosaic Idealize.SL.Sem

/-- The program at the machine's floats ends, its arguments as they were and its counters at zero. -/
theorem frame_p : Cert.quiescent_Kernel := fun m g hpre =>
  (θ_run Cert.Kernel.defs _ _).mono (fun _ h => ⟨fun c => (h.1 c).2, h.2⟩)
    (Cert.Kernel.Seg.run_ends (F := Bits) m g fun d => Cert.Pre_splits.fn_splits _ _ _ _ _ _ _ _ (hpre d))

/-- The program at the ideal floats ends, its arguments as they were and its counters at zero. -/
theorem frame_pi : Cert.quiescent_KernelIdeal := fun m g hpre =>
  (θ_run Cert.KernelIdeal.defs _ _).mono (fun _ h => ⟨fun c => (h.1 c).2, h.2⟩)
    (Cert.KernelIdeal.Seg.run_ends (F := Ideal) m g fun d => Cert.Pre_splits.fn_splits _ _ _ _ _ _ _ _ (hpre d))

/-- The program at the ideal floats ends from the memories of the value claim's precondition too. -/
theorem frame_pi_pre : Cert.quiescent_KernelIdeal_pre_inputs := fun m g hpre =>
  (θ_run Cert.KernelIdeal.defs _ _).mono (fun _ h => ⟨fun c => (h.1 c).2, h.2⟩)
    (Cert.KernelIdeal.Seg.run_ends (F := Ideal) m g fun d => Cert.Pre_inputs.fn_splits _ _ _ _ _ _ _ _ (hpre d))

/-- The reference ends, its arguments as they were; it has no counter. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference ends from the memories of the value claim's precondition too. -/
theorem frame_ri_pre : Cert.quiescent_ReferenceIdeal_pre_inputs := fun m g _ =>
  (θ_run Cert.ReferenceIdeal.defs _ _).mono (fun r h => ⟨fun c => (h c).2, sem_eq_zero_of_no_sems (by decide) r.2⟩)
    (Cert.ReferenceIdeal.Value.run (F := Ideal) m g)

/-- At the ideal floats the program and the reference, from memories with the same arguments, end with equal results. -/
theorem algebraic : Cert.algebraic_KernelIdeal_ReferenceIdeal_pre_inputs := fun m g m' g' hpre hag => by
  refine ⟨fun c => Cert.KernelIdeal.Seg.WE m c (Proc.devRef .tc Cert.KernelIdeal.main_v22), ?_, ?_⟩
  · exact (θ_run Cert.KernelIdeal.defs _ _).mono (fun _ h => h.1)
      (Cert.KernelIdeal.Seg.run_ends (F := Ideal) m g fun d => Cert.Pre_inputs.fn_splits _ _ _ _ _ _ _ _ (hpre d))
  · refine (θ_run Cert.ReferenceIdeal.defs _ _).mono (fun r h c => ⟨(h c).1.trans ?_, (h c).2⟩) (Cert.ReferenceIdeal.Value.run (F := Ideal) m' g')
    obtain ⟨e0, e1, e2, e3, e4, e5, e6, e7⟩ := hag c
    rw [e0, e1, e2, e3, e4, e5, e6, e7]
    obtain ⟨-, b0, b2, b3, b6⟩ := Cert.Pre_inputs.fn_conj _ _ _ _ _ _ _ _ (hpre c)
    exact (Cert.KernelIdeal.Seg.value_eq m c (Cert.Pre_inputs.fn_splits _ _ _ _ _ _ _ _ (hpre c)) b0 b2 b3 b6).symm

/-- The whole claim. -/
theorem claim : Cert.Claim := ⟨Cert.Kernel.Gen.facts, Cert.KernelIdeal.Gen.facts, Cert.ReferenceIdeal.Gen.facts, Cert.Pre_splits.Gen.facts, Cert.Pre_inputs.Gen.facts,
  frame_p, frame_pi, frame_pi_pre, frame_ri, frame_ri_pre, trivial, algebraic⟩

end Cert.Proof

end
